-- ==== Defs.lean ====
def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_ffn_in_finite [hPre_ffn_in_finite : Cert.Pre_ffn_in_finite.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5))) = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_ffn_in_finite [hPre_ffn_in_finite : Cert.Pre_ffn_in_finite.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7))) = (fun _ => 1#1)

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradIdeal_in_finite [hPre_in_finite : Cert.Pre_in_finite.Facts] (m : (ℓ : Loc Cert.InGradIdeal.nD Cert.InGradIdeal.τ Cert.InGradIdeal.sig) → Buf (Elt Ideal) ℓ) : Prop :=
  ∀ c : Dev Cert.InGradIdeal.nD,
    (Cert.Pre_in_finite.fn (F := Ideal) (m ((c.tc : Thread Cert.InGradIdeal.nD Cert.InGradIdeal.τ).loc Cert.InGradIdeal.main_arg0)) (m ((c.tc : Thread Cert.InGradIdeal.nD Cert.InGradIdeal.τ).loc Cert.InGradIdeal.main_arg1)) (m ((c.tc : Thread Cert.InGradIdeal.nD Cert.InGradIdeal.τ).loc Cert.InGradIdeal.main_arg2)) (m ((c.tc : Thread Cert.InGradIdeal.nD Cert.InGradIdeal.τ).loc Cert.InGradIdeal.main_arg3))) = (fun _ => 1#1)

def Pre_InGradRefIdeal (m : (ℓ : Loc Cert.InGradRefIdeal.nD Cert.InGradRefIdeal.τ Cert.InGradRefIdeal.sig) → Buf (Elt Ideal) ℓ) : Prop :=
  True

def Pre_InGradRefIdeal_in_finite [hPre_in_finite : Cert.Pre_in_finite.Facts] (m : (ℓ : Loc Cert.InGradRefIdeal.nD Cert.InGradRefIdeal.τ Cert.InGradRefIdeal.sig) → Buf (Elt Ideal) ℓ) : Prop :=
  ∀ c : Dev Cert.InGradRefIdeal.nD,
    (Cert.Pre_in_finite.fn (F := Ideal) (m ((c.tc : Thread Cert.InGradRefIdeal.nD Cert.InGradRefIdeal.τ).loc Cert.InGradRefIdeal.main_arg0)) (m ((c.tc : Thread Cert.InGradRefIdeal.nD Cert.InGradRefIdeal.τ).loc Cert.InGradRefIdeal.main_arg1)) (m ((c.tc : Thread Cert.InGradRefIdeal.nD Cert.InGradRefIdeal.τ).loc Cert.InGradRefIdeal.main_arg2)) (m ((c.tc : Thread Cert.InGradRefIdeal.nD Cert.InGradRefIdeal.τ).loc Cert.InGradRefIdeal.main_arg3))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))) = (fun _ => 1#1)

def Pre_FwdMix (m : (ℓ : Loc Cert.FwdMix.nD Cert.FwdMix.τ Cert.FwdMix.sig) → Buf (Elt Bits) ℓ) : Prop :=
  True

def Pre_FwdMixIdeal (m : (ℓ : Loc Cert.FwdMixIdeal.nD Cert.FwdMixIdeal.τ Cert.FwdMixIdeal.sig) → Buf (Elt Ideal) ℓ) : Prop :=
  True

def Pre_FwdMixIdeal_mix_forward_finite [hPre_mix_forward_finite : Cert.Pre_mix_forward_finite.Facts] (m : (ℓ : Loc Cert.FwdMixIdeal.nD Cert.FwdMixIdeal.τ Cert.FwdMixIdeal.sig) → Buf (Elt Ideal) ℓ) : Prop :=
  ∀ c : Dev Cert.FwdMixIdeal.nD,
    (Cert.Pre_mix_forward_finite.fn (F := Ideal) (m ((c.tc : Thread Cert.FwdMixIdeal.nD Cert.FwdMixIdeal.τ).loc Cert.FwdMixIdeal.main_arg0)) (m ((c.tc : Thread Cert.FwdMixIdeal.nD Cert.FwdMixIdeal.τ).loc Cert.FwdMixIdeal.main_arg1)) (m ((c.tc : Thread Cert.FwdMixIdeal.nD Cert.FwdMixIdeal.τ).loc Cert.FwdMixIdeal.main_arg2)) (m ((c.tc : Thread Cert.FwdMixIdeal.nD Cert.FwdMixIdeal.τ).loc Cert.FwdMixIdeal.main_arg3)) (m ((c.tc : Thread Cert.FwdMixIdeal.nD Cert.FwdMixIdeal.τ).loc Cert.FwdMixIdeal.main_arg4)) (m ((c.tc : Thread Cert.FwdMixIdeal.nD Cert.FwdMixIdeal.τ).loc Cert.FwdMixIdeal.main_arg5)) (m ((c.tc : Thread Cert.FwdMixIdeal.nD Cert.FwdMixIdeal.τ).loc Cert.FwdMixIdeal.main_arg6)) (m ((c.tc : Thread Cert.FwdMixIdeal.nD Cert.FwdMixIdeal.τ).loc Cert.FwdMixIdeal.main_arg7)) (m ((c.tc : Thread Cert.FwdMixIdeal.nD Cert.FwdMixIdeal.τ).loc Cert.FwdMixIdeal.main_arg8)) (m ((c.tc : Thread Cert.FwdMixIdeal.nD Cert.FwdMixIdeal.τ).loc Cert.FwdMixIdeal.main_arg9)) (m ((c.tc : Thread Cert.FwdMixIdeal.nD Cert.FwdMixIdeal.τ).loc Cert.FwdMixIdeal.main_arg10)) (m ((c.tc : Thread Cert.FwdMixIdeal.nD Cert.FwdMixIdeal.τ).loc Cert.FwdMixIdeal.main_arg11))) = (fun _ => 1#1)

def Pre_FwdMixRefIdeal (m : (ℓ : Loc Cert.FwdMixRefIdeal.nD Cert.FwdMixRefIdeal.τ Cert.FwdMixRefIdeal.sig) → Buf (Elt Ideal) ℓ) : Prop :=
  True

def Pre_FwdMixRefIdeal_mix_forward_finite [hPre_mix_forward_finite : Cert.Pre_mix_forward_finite.Facts] (m : (ℓ : Loc Cert.FwdMixRefIdeal.nD Cert.FwdMixRefIdeal.τ Cert.FwdMixRefIdeal.sig) → Buf (Elt Ideal) ℓ) : Prop :=
  ∀ c : Dev Cert.FwdMixRefIdeal.nD,
    (Cert.Pre_mix_forward_finite.fn (F := Ideal) (m ((c.tc : Thread Cert.FwdMixRefIdeal.nD Cert.FwdMixRefIdeal.τ).loc Cert.FwdMixRefIdeal.main_arg0)) (m ((c.tc : Thread Cert.FwdMixRefIdeal.nD Cert.FwdMixRefIdeal.τ).loc Cert.FwdMixRefIdeal.main_arg1)) (m ((c.tc : Thread Cert.FwdMixRefIdeal.nD Cert.FwdMixRefIdeal.τ).loc Cert.FwdMixRefIdeal.main_arg2)) (m ((c.tc : Thread Cert.FwdMixRefIdeal.nD Cert.FwdMixRefIdeal.τ).loc Cert.FwdMixRefIdeal.main_arg3)) (m ((c.tc : Thread Cert.FwdMixRefIdeal.nD Cert.FwdMixRefIdeal.τ).loc Cert.FwdMixRefIdeal.main_arg4)) (m ((c.tc : Thread Cert.FwdMixRefIdeal.nD Cert.FwdMixRefIdeal.τ).loc Cert.FwdMixRefIdeal.main_arg5)) (m ((c.tc : Thread Cert.FwdMixRefIdeal.nD Cert.FwdMixRefIdeal.τ).loc Cert.FwdMixRefIdeal.main_arg6)) (m ((c.tc : Thread Cert.FwdMixRefIdeal.nD Cert.FwdMixRefIdeal.τ).loc Cert.FwdMixRefIdeal.main_arg7)) (m ((c.tc : Thread Cert.FwdMixRefIdeal.nD Cert.FwdMixRefIdeal.τ).loc Cert.FwdMixRefIdeal.main_arg8)) (m ((c.tc : Thread Cert.FwdMixRefIdeal.nD Cert.FwdMixRefIdeal.τ).loc Cert.FwdMixRefIdeal.main_arg9)) (m ((c.tc : Thread Cert.FwdMixRefIdeal.nD Cert.FwdMixRefIdeal.τ).loc Cert.FwdMixRefIdeal.main_arg10)) (m ((c.tc : Thread Cert.FwdMixRefIdeal.nD Cert.FwdMixRefIdeal.τ).loc Cert.FwdMixRefIdeal.main_arg11))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ r.2.sem = fun _ => 0)

def quiescent_FfnInIdeal_pre_ffn_in_finite [hFfnInIdeal : Cert.FfnInIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_ffn_in_finite m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5))
      ∧ r.2.sem = fun _ => 0)

def quiescent_FfnInRefIdeal_pre_ffn_in_finite [hFfnInRefIdeal : Cert.FfnInRefIdeal.Facts] [hPre_ffn_in_finite : Cert.Pre_ffn_in_finite.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_ffn_in_finite m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2)
      ∧ r.2.mem ((c.tc : Thread Cert.InGrad.nD Cert.InGrad.τ).loc Cert.InGrad.main_arg3) = m ((c.tc : Thread Cert.InGrad.nD Cert.InGrad.τ).loc Cert.InGrad.main_arg3))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3))
      ∧ r.2.sem = fun _ => 0)

def quiescent_InGradIdeal_pre_in_finite [hInGradIdeal : Cert.InGradIdeal.Facts] [hPre_in_finite : Cert.Pre_in_finite.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal_in_finite m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1)
      ∧ r.2.mem ((c.tc : Thread Cert.InGradRefIdeal.nD Cert.InGradRefIdeal.τ).loc Cert.InGradRefIdeal.main_arg2) = m ((c.tc : Thread Cert.InGradRefIdeal.nD Cert.InGradRefIdeal.τ).loc Cert.InGradRefIdeal.main_arg2)
      ∧ r.2.mem ((c.tc : Thread Cert.InGradRefIdeal.nD Cert.InGradRefIdeal.τ).loc Cert.InGradRefIdeal.main_arg3) = m ((c.tc : Thread Cert.InGradRefIdeal.nD Cert.InGradRefIdeal.τ).loc Cert.InGradRefIdeal.main_arg3))
      ∧ r.2.sem = fun _ => 0)

def quiescent_InGradRefIdeal_pre_in_finite [hInGradRefIdeal : Cert.InGradRefIdeal.Facts] [hPre_in_finite : Cert.Pre_in_finite.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal_in_finite m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1)
      ∧ r.2.mem ((c.tc : Thread Cert.InGradRefIdeal.nD Cert.InGradRefIdeal.τ).loc Cert.InGradRefIdeal.main_arg2) = m ((c.tc : Thread Cert.InGradRefIdeal.nD Cert.InGradRefIdeal.τ).loc Cert.InGradRefIdeal.main_arg2)
      ∧ r.2.mem ((c.tc : Thread Cert.InGradRefIdeal.nD Cert.InGradRefIdeal.τ).loc Cert.InGradRefIdeal.main_arg3) = m ((c.tc : Thread Cert.InGradRefIdeal.nD Cert.InGradRefIdeal.τ).loc Cert.InGradRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_FwdMix [hFwdMix : Cert.FwdMix.Facts] : Prop :=
  ∀ (m : (ℓ : Loc Cert.FwdMix.nD Cert.FwdMix.τ Cert.FwdMix.sig) → Buf (Elt Bits) ℓ) (g : Dev Cert.FwdMix.nD → PrngReg), Pre_FwdMix m →
    θ_run (Cert.FwdMix.defs (F := Bits)) (onTc (τ := Cert.FwdMix.τ) (Cert.FwdMix.main (F := Bits))) ⟨m, fun _ => 0, g⟩ (fun r => (∀ c : Dev Cert.FwdMix.nD,
      r.2.mem ((c.tc : Thread Cert.FwdMix.nD Cert.FwdMix.τ).loc Cert.FwdMix.main_arg0) = m ((c.tc : Thread Cert.FwdMix.nD Cert.FwdMix.τ).loc Cert.FwdMix.main_arg0)
      ∧ r.2.mem ((c.tc : Thread Cert.FwdMix.nD Cert.FwdMix.τ).loc Cert.FwdMix.main_arg1) = m ((c.tc : Thread Cert.FwdMix.nD Cert.FwdMix.τ).loc Cert.FwdMix.main_arg1)
      ∧ r.2.mem ((c.tc : Thread Cert.FwdMix.nD Cert.FwdMix.τ).loc Cert.FwdMix.main_arg2) = m ((c.tc : Thread Cert.FwdMix.nD Cert.FwdMix.τ).loc Cert.FwdMix.main_arg2)
      ∧ r.2.mem ((c.tc : Thread Cert.FwdMix.nD Cert.FwdMix.τ).loc Cert.FwdMix.main_arg3) = m ((c.tc : Thread Cert.FwdMix.nD Cert.FwdMix.τ).loc Cert.FwdMix.main_arg3)
      ∧ r.2.mem ((c.tc : Thread Cert.FwdMix.nD Cert.FwdMix.τ).loc Cert.FwdMix.main_arg4) = m ((c.tc : Thread Cert.FwdMix.nD Cert.FwdMix.τ).loc Cert.FwdMix.main_arg4)
      ∧ r.2.mem ((c.tc : Thread Cert.FwdMix.nD Cert.FwdMix.τ).loc Cert.FwdMix.main_arg5) = m ((c.tc : Thread Cert.FwdMix.nD Cert.FwdMix.τ).loc Cert.FwdMix.main_arg5)
      ∧ r.2.mem ((c.tc : Thread Cert.FwdMix.nD Cert.FwdMix.τ).loc Cert.FwdMix.main_arg6) = m ((c.tc : Thread Cert.FwdMix.nD Cert.FwdMix.τ).loc Cert.FwdMix.main_arg6)
      ∧ r.2.mem ((c.tc : Thread Cert.FwdMix.nD Cert.FwdMix.τ).loc Cert.FwdMix.main_arg7) = m ((c.tc : Thread Cert.FwdMix.nD Cert.FwdMix.τ).loc Cert.FwdMix.main_arg7)
      ∧ r.2.mem ((c.tc : Thread Cert.FwdMix.nD Cert.FwdMix.τ).loc Cert.FwdMix.main_arg8) = m ((c.tc : Thread Cert.FwdMix.nD Cert.FwdMix.τ).loc Cert.FwdMix.main_arg8)
      ∧ r.2.mem ((c.tc : Thread Cert.FwdMix.nD Cert.FwdMix.τ).loc Cert.FwdMix.main_arg9) = m ((c.tc : Thread Cert.FwdMix.nD Cert.FwdMix.τ).loc Cert.FwdMix.main_arg9)
      ∧ r.2.mem ((c.tc : Thread Cert.FwdMix.nD Cert.FwdMix.τ).loc Cert.FwdMix.main_arg10) = m ((c.tc : Thread Cert.FwdMix.nD Cert.FwdMix.τ).loc Cert.FwdMix.main_arg10)
      ∧ r.2.mem ((c.tc : Thread Cert.FwdMix.nD Cert.FwdMix.τ).loc Cert.FwdMix.main_arg11) = m ((c.tc : Thread Cert.FwdMix.nD Cert.FwdMix.τ).loc Cert.FwdMix.main_arg11))
      ∧ r.2.sem = fun _ => 0)

def quiescent_FwdMixIdeal [hFwdMixIdeal : Cert.FwdMixIdeal.Facts] : Prop :=
  ∀ (m : (ℓ : Loc Cert.FwdMixIdeal.nD Cert.FwdMixIdeal.τ Cert.FwdMixIdeal.sig) → Buf (Elt Ideal) ℓ) (g : Dev Cert.FwdMixIdeal.nD → PrngReg), Pre_FwdMixIdeal m →
    θ_run (Cert.FwdMixIdeal.defs (F := Ideal)) (onTc (τ := Cert.FwdMixIdeal.τ) (Cert.FwdMixIdeal.main (F := Ideal))) ⟨m, fun _ => 0, g⟩ (fun r => (∀ c : Dev Cert.FwdMixIdeal.nD,
      r.2.mem ((c.tc : Thread Cert.FwdMixIdeal.nD Cert.FwdMixIdeal.τ).loc Cert.FwdMixIdeal.main_arg0) = m ((c.tc : Thread Cert.FwdMixIdeal.nD Cert.FwdMixIdeal.τ).loc Cert.FwdMixIdeal.main_arg0)
      ∧ r.2.mem ((c.tc : Thread Cert.FwdMixIdeal.nD Cert.FwdMixIdeal.τ).loc Cert.FwdMixIdeal.main_arg1) = m ((c.tc : Thread Cert.FwdMixIdeal.nD Cert.FwdMixIdeal.τ).loc Cert.FwdMixIdeal.main_arg1)
      ∧ r.2.mem ((c.tc : Thread Cert.FwdMixIdeal.nD Cert.FwdMixIdeal.τ).loc Cert.FwdMixIdeal.main_arg2) = m ((c.tc : Thread Cert.FwdMixIdeal.nD Cert.FwdMixIdeal.τ).loc Cert.FwdMixIdeal.main_arg2)
      ∧ r.2.mem ((c.tc : Thread Cert.FwdMixIdeal.nD Cert.FwdMixIdeal.τ).loc Cert.FwdMixIdeal.main_arg3) = m ((c.tc : Thread Cert.FwdMixIdeal.nD Cert.FwdMixIdeal.τ).loc Cert.FwdMixIdeal.main_arg3)
      ∧ r.2.mem ((c.tc : Thread Cert.FwdMixIdeal.nD Cert.FwdMixIdeal.τ).loc Cert.FwdMixIdeal.main_arg4) = m ((c.tc : Thread Cert.FwdMixIdeal.nD Cert.FwdMixIdeal.τ).loc Cert.FwdMixIdeal.main_arg4)
      ∧ r.2.mem ((c.tc : Thread Cert.FwdMixIdeal.nD Cert.FwdMixIdeal.τ).loc Cert.FwdMixIdeal.main_arg5) = m ((c.tc : Thread Cert.FwdMixIdeal.nD Cert.FwdMixIdeal.τ).loc Cert.FwdMixIdeal.main_arg5)
      ∧ r.2.mem ((c.tc : Thread Cert.FwdMixIdeal.nD Cert.FwdMixIdeal.τ).loc Cert.FwdMixIdeal.main_arg6) = m ((c.tc : Thread Cert.FwdMixIdeal.nD Cert.FwdMixIdeal.τ).loc Cert.FwdMixIdeal.main_arg6)
      ∧ r.2.mem ((c.tc : Thread Cert.FwdMixIdeal.nD Cert.FwdMixIdeal.τ).loc Cert.FwdMixIdeal.main_arg7) = m ((c.tc : Thread Cert.FwdMixIdeal.nD Cert.FwdMixIdeal.τ).loc Cert.FwdMixIdeal.main_arg7)
      ∧ r.2.mem ((c.tc : Thread Cert.FwdMixIdeal.nD Cert.FwdMixIdeal.τ).loc Cert.FwdMixIdeal.main_arg8) = m ((c.tc : Thread Cert.FwdMixIdeal.nD Cert.FwdMixIdeal.τ).loc Cert.FwdMixIdeal.main_arg8)
      ∧ r.2.mem ((c.tc : Thread Cert.FwdMixIdeal.nD Cert.FwdMixIdeal.τ).loc Cert.FwdMixIdeal.main_arg9) = m ((c.tc : Thread Cert.FwdMixIdeal.nD Cert.FwdMixIdeal.τ).loc Cert.FwdMixIdeal.main_arg9)
      ∧ r.2.mem ((c.tc : Thread Cert.FwdMixIdeal.nD Cert.FwdMixIdeal.τ).loc Cert.FwdMixIdeal.main_arg10) = m ((c.tc : Thread Cert.FwdMixIdeal.nD Cert.FwdMixIdeal.τ).loc Cert.FwdMixIdeal.main_arg10)
      ∧ r.2.mem ((c.tc : Thread Cert.FwdMixIdeal.nD Cert.FwdMixIdeal.τ).loc Cert.FwdMixIdeal.main_arg11) = m ((c.tc : Thread Cert.FwdMixIdeal.nD Cert.FwdMixIdeal.τ).loc Cert.FwdMixIdeal.main_arg11))
      ∧ r.2.sem = fun _ => 0)

def quiescent_FwdMixIdeal_pre_mix_forward_finite [hFwdMixIdeal : Cert.FwdMixIdeal.Facts] [hPre_mix_forward_finite : Cert.Pre_mix_forward_finite.Facts] : Prop :=
  ∀ (m : (ℓ : Loc Cert.FwdMixIdeal.nD Cert.FwdMixIdeal.τ Cert.FwdMixIdeal.sig) → Buf (Elt Ideal) ℓ) (g : Dev Cert.FwdMixIdeal.nD → PrngReg), Pre_FwdMixIdeal_mix_forward_finite m →
    θ_run (Cert.FwdMixIdeal.defs (F := Ideal)) (onTc (τ := Cert.FwdMixIdeal.τ) (Cert.FwdMixIdeal.main (F := Ideal))) ⟨m, fun _ => 0, g⟩ (fun r => (∀ c : Dev Cert.FwdMixIdeal.nD,
      r.2.mem ((c.tc : Thread Cert.FwdMixIdeal.nD Cert.FwdMixIdeal.τ).loc Cert.FwdMixIdeal.main_arg0) = m ((c.tc : Thread Cert.FwdMixIdeal.nD Cert.FwdMixIdeal.τ).loc Cert.FwdMixIdeal.main_arg0)
      ∧ r.2.mem ((c.tc : Thread Cert.FwdMixIdeal.nD Cert.FwdMixIdeal.τ).loc Cert.FwdMixIdeal.main_arg1) = m ((c.tc : Thread Cert.FwdMixIdeal.nD Cert.FwdMixIdeal.τ).loc Cert.FwdMixIdeal.main_arg1)
      ∧ r.2.mem ((c.tc : Thread Cert.FwdMixIdeal.nD Cert.FwdMixIdeal.τ).loc Cert.FwdMixIdeal.main_arg2) = m ((c.tc : Thread Cert.FwdMixIdeal.nD Cert.FwdMixIdeal.τ).loc Cert.FwdMixIdeal.main_arg2)
      ∧ r.2.mem ((c.tc : Thread Cert.FwdMixIdeal.nD Cert.FwdMixIdeal.τ).loc Cert.FwdMixIdeal.main_arg3) = m ((c.tc : Thread Cert.FwdMixIdeal.nD Cert.FwdMixIdeal.τ).loc Cert.FwdMixIdeal.main_arg3)
      ∧ r.2.mem ((c.tc : Thread Cert.FwdMixIdeal.nD Cert.FwdMixIdeal.τ).loc Cert.FwdMixIdeal.main_arg4) = m ((c.tc : Thread Cert.FwdMixIdeal.nD Cert.FwdMixIdeal.τ).loc Cert.FwdMixIdeal.main_arg4)
      ∧ r.2.mem ((c.tc : Thread Cert.FwdMixIdeal.nD Cert.FwdMixIdeal.τ).loc Cert.FwdMixIdeal.main_arg5) = m ((c.tc : Thread Cert.FwdMixIdeal.nD Cert.FwdMixIdeal.τ).loc Cert.FwdMixIdeal.main_arg5)
      ∧ r.2.mem ((c.tc : Thread Cert.FwdMixIdeal.nD Cert.FwdMixIdeal.τ).loc Cert.FwdMixIdeal.main_arg6) = m ((c.tc : Thread Cert.FwdMixIdeal.nD Cert.FwdMixIdeal.τ).loc Cert.FwdMixIdeal.main_arg6)
      ∧ r.2.mem ((c.tc : Thread Cert.FwdMixIdeal.nD Cert.FwdMixIdeal.τ).loc Cert.FwdMixIdeal.main_arg7) = m ((c.tc : Thread Cert.FwdMixIdeal.nD Cert.FwdMixIdeal.τ).loc Cert.FwdMixIdeal.main_arg7)
      ∧ r.2.mem ((c.tc : Thread Cert.FwdMixIdeal.nD Cert.FwdMixIdeal.τ).loc Cert.FwdMixIdeal.main_arg8) = m ((c.tc : Thread Cert.FwdMixIdeal.nD Cert.FwdMixIdeal.τ).loc Cert.FwdMixIdeal.main_arg8)
      ∧ r.2.mem ((c.tc : Thread Cert.FwdMixIdeal.nD Cert.FwdMixIdeal.τ).loc Cert.FwdMixIdeal.main_arg9) = m ((c.tc : Thread Cert.FwdMixIdeal.nD Cert.FwdMixIdeal.τ).loc Cert.FwdMixIdeal.main_arg9)
      ∧ r.2.mem ((c.tc : Thread Cert.FwdMixIdeal.nD Cert.FwdMixIdeal.τ).loc Cert.FwdMixIdeal.main_arg10) = m ((c.tc : Thread Cert.FwdMixIdeal.nD Cert.FwdMixIdeal.τ).loc Cert.FwdMixIdeal.main_arg10)
      ∧ r.2.mem ((c.tc : Thread Cert.FwdMixIdeal.nD Cert.FwdMixIdeal.τ).loc Cert.FwdMixIdeal.main_arg11) = m ((c.tc : Thread Cert.FwdMixIdeal.nD Cert.FwdMixIdeal.τ).loc Cert.FwdMixIdeal.main_arg11))
      ∧ r.2.sem = fun _ => 0)

def quiescent_FwdMixRefIdeal [hFwdMixRefIdeal : Cert.FwdMixRefIdeal.Facts] : Prop :=
  ∀ (m : (ℓ : Loc Cert.FwdMixRefIdeal.nD Cert.FwdMixRefIdeal.τ Cert.FwdMixRefIdeal.sig) → Buf (Elt Ideal) ℓ) (g : Dev Cert.FwdMixRefIdeal.nD → PrngReg), Pre_FwdMixRefIdeal m →
    θ_run (Cert.FwdMixRefIdeal.defs (F := Ideal)) (onTc (τ := Cert.FwdMixRefIdeal.τ) (Cert.FwdMixRefIdeal.main (F := Ideal))) ⟨m, fun _ => 0, g⟩ (fun r => (∀ c : Dev Cert.FwdMixRefIdeal.nD,
      r.2.mem ((c.tc : Thread Cert.FwdMixRefIdeal.nD Cert.FwdMixRefIdeal.τ).loc Cert.FwdMixRefIdeal.main_arg0) = m ((c.tc : Thread Cert.FwdMixRefIdeal.nD Cert.FwdMixRefIdeal.τ).loc Cert.FwdMixRefIdeal.main_arg0)
      ∧ r.2.mem ((c.tc : Thread Cert.FwdMixRefIdeal.nD Cert.FwdMixRefIdeal.τ).loc Cert.FwdMixRefIdeal.main_arg1) = m ((c.tc : Thread Cert.FwdMixRefIdeal.nD Cert.FwdMixRefIdeal.τ).loc Cert.FwdMixRefIdeal.main_arg1)
      ∧ r.2.mem ((c.tc : Thread Cert.FwdMixRefIdeal.nD Cert.FwdMixRefIdeal.τ).loc Cert.FwdMixRefIdeal.main_arg2) = m ((c.tc : Thread Cert.FwdMixRefIdeal.nD Cert.FwdMixRefIdeal.τ).loc Cert.FwdMixRefIdeal.main_arg2)
      ∧ r.2.mem ((c.tc : Thread Cert.FwdMixRefIdeal.nD Cert.FwdMixRefIdeal.τ).loc Cert.FwdMixRefIdeal.main_arg3) = m ((c.tc : Thread Cert.FwdMixRefIdeal.nD Cert.FwdMixRefIdeal.τ).loc Cert.FwdMixRefIdeal.main_arg3)
      ∧ r.2.mem ((c.tc : Thread Cert.FwdMixRefIdeal.nD Cert.FwdMixRefIdeal.τ).loc Cert.FwdMixRefIdeal.main_arg4) = m ((c.tc : Thread Cert.FwdMixRefIdeal.nD Cert.FwdMixRefIdeal.τ).loc Cert.FwdMixRefIdeal.main_arg4)
      ∧ r.2.mem ((c.tc : Thread Cert.FwdMixRefIdeal.nD Cert.FwdMixRefIdeal.τ).loc Cert.FwdMixRefIdeal.main_arg5) = m ((c.tc : Thread Cert.FwdMixRefIdeal.nD Cert.FwdMixRefIdeal.τ).loc Cert.FwdMixRefIdeal.main_arg5)
      ∧ r.2.mem ((c.tc : Thread Cert.FwdMixRefIdeal.nD Cert.FwdMixRefIdeal.τ).loc Cert.FwdMixRefIdeal.main_arg6) = m ((c.tc : Thread Cert.FwdMixRefIdeal.nD Cert.FwdMixRefIdeal.τ).loc Cert.FwdMixRefIdeal.main_arg6)
      ∧ r.2.mem ((c.tc : Thread Cert.FwdMixRefIdeal.nD Cert.FwdMixRefIdeal.τ).loc Cert.FwdMixRefIdeal.main_arg7) = m ((c.tc : Thread Cert.FwdMixRefIdeal.nD Cert.FwdMixRefIdeal.τ).loc Cert.FwdMixRefIdeal.main_arg7)
      ∧ r.2.mem ((c.tc : Thread Cert.FwdMixRefIdeal.nD Cert.FwdMixRefIdeal.τ).loc Cert.FwdMixRefIdeal.main_arg8) = m ((c.tc : Thread Cert.FwdMixRefIdeal.nD Cert.FwdMixRefIdeal.τ).loc Cert.FwdMixRefIdeal.main_arg8)
      ∧ r.2.mem ((c.tc : Thread Cert.FwdMixRefIdeal.nD Cert.FwdMixRefIdeal.τ).loc Cert.FwdMixRefIdeal.main_arg9) = m ((c.tc : Thread Cert.FwdMixRefIdeal.nD Cert.FwdMixRefIdeal.τ).loc Cert.FwdMixRefIdeal.main_arg9)
      ∧ r.2.mem ((c.tc : Thread Cert.FwdMixRefIdeal.nD Cert.FwdMixRefIdeal.τ).loc Cert.FwdMixRefIdeal.main_arg10) = m ((c.tc : Thread Cert.FwdMixRefIdeal.nD Cert.FwdMixRefIdeal.τ).loc Cert.FwdMixRefIdeal.main_arg10)
      ∧ r.2.mem ((c.tc : Thread Cert.FwdMixRefIdeal.nD Cert.FwdMixRefIdeal.τ).loc Cert.FwdMixRefIdeal.main_arg11) = m ((c.tc : Thread Cert.FwdMixRefIdeal.nD Cert.FwdMixRefIdeal.τ).loc Cert.FwdMixRefIdeal.main_arg11))
      ∧ r.2.sem = fun _ => 0)

def quiescent_FwdMixRefIdeal_pre_mix_forward_finite [hFwdMixRefIdeal : Cert.FwdMixRefIdeal.Facts] [hPre_mix_forward_finite : Cert.Pre_mix_forward_finite.Facts] : Prop :=
  ∀ (m : (ℓ : Loc Cert.FwdMixRefIdeal.nD Cert.FwdMixRefIdeal.τ Cert.FwdMixRefIdeal.sig) → Buf (Elt Ideal) ℓ) (g : Dev Cert.FwdMixRefIdeal.nD → PrngReg), Pre_FwdMixRefIdeal_mix_forward_finite m →
    θ_run (Cert.FwdMixRefIdeal.defs (F := Ideal)) (onTc (τ := Cert.FwdMixRefIdeal.τ) (Cert.FwdMixRefIdeal.main (F := Ideal))) ⟨m, fun _ => 0, g⟩ (fun r => (∀ c : Dev Cert.FwdMixRefIdeal.nD,
      r.2.mem ((c.tc : Thread Cert.FwdMixRefIdeal.nD Cert.FwdMixRefIdeal.τ).loc Cert.FwdMixRefIdeal.main_arg0) = m ((c.tc : Thread Cert.FwdMixRefIdeal.nD Cert.FwdMixRefIdeal.τ).loc Cert.FwdMixRefIdeal.main_arg0)
      ∧ r.2.mem ((c.tc : Thread Cert.FwdMixRefIdeal.nD Cert.FwdMixRefIdeal.τ).loc Cert.FwdMixRefIdeal.main_arg1) = m ((c.tc : Thread Cert.FwdMixRefIdeal.nD Cert.FwdMixRefIdeal.τ).loc Cert.FwdMixRefIdeal.main_arg1)
      ∧ r.2.mem ((c.tc : Thread Cert.FwdMixRefIdeal.nD Cert.FwdMixRefIdeal.τ).loc Cert.FwdMixRefIdeal.main_arg2) = m ((c.tc : Thread Cert.FwdMixRefIdeal.nD Cert.FwdMixRefIdeal.τ).loc Cert.FwdMixRefIdeal.main_arg2)
      ∧ r.2.mem ((c.tc : Thread Cert.FwdMixRefIdeal.nD Cert.FwdMixRefIdeal.τ).loc Cert.FwdMixRefIdeal.main_arg3) = m ((c.tc : Thread Cert.FwdMixRefIdeal.nD Cert.FwdMixRefIdeal.τ).loc Cert.FwdMixRefIdeal.main_arg3)
      ∧ r.2.mem ((c.tc : Thread Cert.FwdMixRefIdeal.nD Cert.FwdMixRefIdeal.τ).loc Cert.FwdMixRefIdeal.main_arg4) = m ((c.tc : Thread Cert.FwdMixRefIdeal.nD Cert.FwdMixRefIdeal.τ).loc Cert.FwdMixRefIdeal.main_arg4)
      ∧ r.2.mem ((c.tc : Thread Cert.FwdMixRefIdeal.nD Cert.FwdMixRefIdeal.τ).loc Cert.FwdMixRefIdeal.main_arg5) = m ((c.tc : Thread Cert.FwdMixRefIdeal.nD Cert.FwdMixRefIdeal.τ).loc Cert.FwdMixRefIdeal.main_arg5)
      ∧ r.2.mem ((c.tc : Thread Cert.FwdMixRefIdeal.nD Cert.FwdMixRefIdeal.τ).loc Cert.FwdMixRefIdeal.main_arg6) = m ((c.tc : Thread Cert.FwdMixRefIdeal.nD Cert.FwdMixRefIdeal.τ).loc Cert.FwdMixRefIdeal.main_arg6)
      ∧ r.2.mem ((c.tc : Thread Cert.FwdMixRefIdeal.nD Cert.FwdMixRefIdeal.τ).loc Cert.FwdMixRefIdeal.main_arg7) = m ((c.tc : Thread Cert.FwdMixRefIdeal.nD Cert.FwdMixRefIdeal.τ).loc Cert.FwdMixRefIdeal.main_arg7)
      ∧ r.2.mem ((c.tc : Thread Cert.FwdMixRefIdeal.nD Cert.FwdMixRefIdeal.τ).loc Cert.FwdMixRefIdeal.main_arg8) = m ((c.tc : Thread Cert.FwdMixRefIdeal.nD Cert.FwdMixRefIdeal.τ).loc Cert.FwdMixRefIdeal.main_arg8)
      ∧ r.2.mem ((c.tc : Thread Cert.FwdMixRefIdeal.nD Cert.FwdMixRefIdeal.τ).loc Cert.FwdMixRefIdeal.main_arg9) = m ((c.tc : Thread Cert.FwdMixRefIdeal.nD Cert.FwdMixRefIdeal.τ).loc Cert.FwdMixRefIdeal.main_arg9)
      ∧ r.2.mem ((c.tc : Thread Cert.FwdMixRefIdeal.nD Cert.FwdMixRefIdeal.τ).loc Cert.FwdMixRefIdeal.main_arg10) = m ((c.tc : Thread Cert.FwdMixRefIdeal.nD Cert.FwdMixRefIdeal.τ).loc Cert.FwdMixRefIdeal.main_arg10)
      ∧ r.2.mem ((c.tc : Thread Cert.FwdMixRefIdeal.nD Cert.FwdMixRefIdeal.τ).loc Cert.FwdMixRefIdeal.main_arg11) = m ((c.tc : Thread Cert.FwdMixRefIdeal.nD Cert.FwdMixRefIdeal.τ).loc Cert.FwdMixRefIdeal.main_arg11))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def preserves_FfnIn_FfnInIdeal : Prop :=
  True

def algebraic_FfnInIdeal_FfnInRefIdeal_pre_ffn_in_finite [hFfnInIdeal : Cert.FfnInIdeal.Facts] [hFfnInRefIdeal : Cert.FfnInRefIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_ffn_in_finite m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)) →
    ∃ (v0 : (c : Dev Cert.FfnInIdeal.nD) → Buf (Elt Ideal) ((c.tc : Thread Cert.FfnInIdeal.nD Cert.FfnInIdeal.τ).loc Cert.FfnInIdeal.main_v8_0)) (v1 : (c : Dev Cert.FfnInIdeal.nD) → Buf (Elt Ideal) ((c.tc : Thread Cert.FfnInIdeal.nD Cert.FfnInIdeal.τ).loc Cert.FfnInIdeal.main_v8_1)) (v2 : (c : Dev Cert.FfnInIdeal.nD) → Buf (Elt Ideal) ((c.tc : Thread Cert.FfnInIdeal.nD Cert.FfnInIdeal.τ).loc Cert.FfnInIdeal.main_v8_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v8_0) = v0 c
          ∧ r.2.mem ((c.tc : Thread Cert.FfnInIdeal.nD Cert.FfnInIdeal.τ).loc Cert.FfnInIdeal.main_v8_1) = v1 c
          ∧ r.2.mem ((c.tc : Thread Cert.FfnInIdeal.nD Cert.FfnInIdeal.τ).loc Cert.FfnInIdeal.main_v8_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v72) = v0 c
          ∧ r.2.mem ((c.tc : Thread Cert.FfnInRefIdeal.nD Cert.FfnInRefIdeal.τ).loc Cert.FfnInRefIdeal.main_v77) = v1 c
          ∧ r.2.mem ((c.tc : Thread Cert.FfnInRefIdeal.nD Cert.FfnInRefIdeal.τ).loc Cert.FfnInRefIdeal.main_v76) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)
      ∧ m' ((c.tc : Thread Cert.LossRefIdeal.nD Cert.LossRefIdeal.τ).loc Cert.LossRefIdeal.main_arg7) = m ((c.tc : Thread Cert.LossIdeal.nD Cert.LossIdeal.τ).loc Cert.LossIdeal.main_arg7)) →
    ∃ (v0 : (c : Dev Cert.LossIdeal.nD) → Buf (Elt Ideal) ((c.tc : Thread Cert.LossIdeal.nD Cert.LossIdeal.τ).loc Cert.LossIdeal.main_v10_0)) (v1 : (c : Dev Cert.LossIdeal.nD) → Buf (Elt Ideal) ((c.tc : Thread Cert.LossIdeal.nD Cert.LossIdeal.τ).loc Cert.LossIdeal.main_v10_1)) (v2 : (c : Dev Cert.LossIdeal.nD) → Buf (Elt Ideal) ((c.tc : Thread Cert.LossIdeal.nD Cert.LossIdeal.τ).loc Cert.LossIdeal.main_v10_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v10_0) = v0 c
          ∧ r.2.mem ((c.tc : Thread Cert.LossIdeal.nD Cert.LossIdeal.τ).loc Cert.LossIdeal.main_v10_1) = v1 c
          ∧ r.2.mem ((c.tc : Thread Cert.LossIdeal.nD Cert.LossIdeal.τ).loc Cert.LossIdeal.main_v10_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v110) = v0 c
          ∧ r.2.mem ((c.tc : Thread Cert.LossRefIdeal.nD Cert.LossRefIdeal.τ).loc Cert.LossRefIdeal.main_v145) = v1 c
          ∧ r.2.mem ((c.tc : Thread Cert.LossRefIdeal.nD Cert.LossRefIdeal.τ).loc Cert.LossRefIdeal.main_v144) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7))

def preserves_InGrad_InGradIdeal : Prop :=
  True

def algebraic_InGradIdeal_InGradRefIdeal_pre_in_finite [hInGradIdeal : Cert.InGradIdeal.Facts] [hInGradRefIdeal : Cert.InGradRefIdeal.Facts] [hPre_in_finite : Cert.Pre_in_finite.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal_in_finite m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)
      ∧ m' ((c.tc : Thread Cert.InGradRefIdeal.nD Cert.InGradRefIdeal.τ).loc Cert.InGradRefIdeal.main_arg2) = m ((c.tc : Thread Cert.InGradIdeal.nD Cert.InGradIdeal.τ).loc Cert.InGradIdeal.main_arg2)
      ∧ m' ((c.tc : Thread Cert.InGradRefIdeal.nD Cert.InGradRefIdeal.τ).loc Cert.InGradRefIdeal.main_arg3) = m ((c.tc : Thread Cert.InGradIdeal.nD Cert.InGradIdeal.τ).loc Cert.InGradIdeal.main_arg3)) →
    ∃ (v0 : (c : Dev Cert.InGradIdeal.nD) → Buf (Elt Ideal) ((c.tc : Thread Cert.InGradIdeal.nD Cert.InGradIdeal.τ).loc Cert.InGradIdeal.main_v2_0)) (v1 : (c : Dev Cert.InGradIdeal.nD) → Buf (Elt Ideal) ((c.tc : Thread Cert.InGradIdeal.nD Cert.InGradIdeal.τ).loc Cert.InGradIdeal.main_v2_1)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v2_0) = v0 c
          ∧ r.2.mem ((c.tc : Thread Cert.InGradIdeal.nD Cert.InGradIdeal.τ).loc Cert.InGradIdeal.main_v2_1) = v1 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v287) = v0 c
          ∧ r.2.mem ((c.tc : Thread Cert.InGradRefIdeal.nD Cert.InGradRefIdeal.τ).loc Cert.InGradRefIdeal.main_v289) = v1 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1)
          ∧ r.2.mem ((c.tc : Thread Cert.InGradRefIdeal.nD Cert.InGradRefIdeal.τ).loc Cert.InGradRefIdeal.main_arg2) = m' ((c.tc : Thread Cert.InGradRefIdeal.nD Cert.InGradRefIdeal.τ).loc Cert.InGradRefIdeal.main_arg2)
          ∧ r.2.mem ((c.tc : Thread Cert.InGradRefIdeal.nD Cert.InGradRefIdeal.τ).loc Cert.InGradRefIdeal.main_arg3) = m' ((c.tc : Thread Cert.InGradRefIdeal.nD Cert.InGradRefIdeal.τ).loc Cert.InGradRefIdeal.main_arg3))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v4_1)) (v1 : (c : Dev Cert.GateIdeal.nD) → Buf (Elt Ideal) ((c.tc : Thread Cert.GateIdeal.nD Cert.GateIdeal.τ).loc Cert.GateIdeal.main_v7)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v4_1) = v0 c
          ∧ r.2.mem ((c.tc : Thread Cert.GateIdeal.nD Cert.GateIdeal.τ).loc Cert.GateIdeal.main_v7) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v21) = v0 c
          ∧ r.2.mem ((c.tc : Thread Cert.GateRefIdeal.nD Cert.GateRefIdeal.τ).loc Cert.GateRefIdeal.main_v22) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Mix_MixIdeal : Prop :=
  IdealRules.named_const.Statement Cert.MixIdeal.κ "inv_sqrt_two" .f32 0x3F3504F3#32 (((Real.sqrt 2)⁻¹ : ℝ) : EReal)
  ∧ IdealRules.named_const.Statement Cert.MixIdeal.κ "density" .f32 0x3ECC422A#32 (((9465531 / 8388608) * (2 * (Real.sqrt 2))⁻¹ : ℝ) : EReal)

def algebraic_MixIdeal_MixRefIdeal_pre_mix_finite [hMixIdeal : Cert.MixIdeal.Facts] [hMixRefIdeal : Cert.MixRefIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v13_0)) (v1 : (c : Dev Cert.MixIdeal.nD) → Buf (Elt Ideal) ((c.tc : Thread Cert.MixIdeal.nD Cert.MixIdeal.τ).loc Cert.MixIdeal.main_v13_1)) (v2 : (c : Dev Cert.MixIdeal.nD) → Buf (Elt Ideal) ((c.tc : Thread Cert.MixIdeal.nD Cert.MixIdeal.τ).loc Cert.MixIdeal.main_v13_2)) (v3 : (c : Dev Cert.MixIdeal.nD) → Buf (Elt Ideal) ((c.tc : Thread Cert.MixIdeal.nD Cert.MixIdeal.τ).loc Cert.MixIdeal.main_v13_3)) (v4 : (c : Dev Cert.MixIdeal.nD) → Buf (Elt Ideal) ((c.tc : Thread Cert.MixIdeal.nD Cert.MixIdeal.τ).loc Cert.MixIdeal.main_v13_4)) (v5 : (c : Dev Cert.MixIdeal.nD) → Buf (Elt Ideal) ((c.tc : Thread Cert.MixIdeal.nD Cert.MixIdeal.τ).loc Cert.MixIdeal.main_v13_5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v13_0) = v0 c
          ∧ r.2.mem ((c.tc : Thread Cert.MixIdeal.nD Cert.MixIdeal.τ).loc Cert.MixIdeal.main_v13_1) = v1 c
          ∧ r.2.mem ((c.tc : Thread Cert.MixIdeal.nD Cert.MixIdeal.τ).loc Cert.MixIdeal.main_v13_2) = v2 c
          ∧ r.2.mem ((c.tc : Thread Cert.MixIdeal.nD Cert.MixIdeal.τ).loc Cert.MixIdeal.main_v13_3) = v3 c
          ∧ r.2.mem ((c.tc : Thread Cert.MixIdeal.nD Cert.MixIdeal.τ).loc Cert.MixIdeal.main_v13_4) = v4 c
          ∧ r.2.mem ((c.tc : Thread Cert.MixIdeal.nD Cert.MixIdeal.τ).loc Cert.MixIdeal.main_v13_5) = v5 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v228) = v0 c
          ∧ r.2.mem ((c.tc : Thread Cert.MixRefIdeal.nD Cert.MixRefIdeal.τ).loc Cert.MixRefIdeal.main_v229) = v1 c
          ∧ r.2.mem ((c.tc : Thread Cert.MixRefIdeal.nD Cert.MixRefIdeal.τ).loc Cert.MixRefIdeal.main_v230) = v2 c
          ∧ r.2.mem ((c.tc : Thread Cert.MixRefIdeal.nD Cert.MixRefIdeal.τ).loc Cert.MixRefIdeal.main_v231) = v3 c
          ∧ r.2.mem ((c.tc : Thread Cert.MixRefIdeal.nD Cert.MixRefIdeal.τ).loc Cert.MixRefIdeal.main_v234) = v4 c
          ∧ r.2.mem ((c.tc : Thread Cert.MixRefIdeal.nD Cert.MixRefIdeal.τ).loc Cert.MixRefIdeal.main_v227) = v5 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_FwdMix_FwdMixIdeal : Prop :=
  IdealRules.named_const.Statement Cert.FwdMixIdeal.κ "inv_sqrt_two" .f32 0x3F3504F3#32 (((Real.sqrt 2)⁻¹ : ℝ) : EReal)

def algebraic_FwdMixIdeal_FwdMixRefIdeal_pre_mix_forward_finite [hFwdMixIdeal : Cert.FwdMixIdeal.Facts] [hFwdMixRefIdeal : Cert.FwdMixRefIdeal.Facts] [hPre_mix_forward_finite : Cert.Pre_mix_forward_finite.Facts] : Prop :=
  ∀ (m : (ℓ : Loc Cert.FwdMixIdeal.nD Cert.FwdMixIdeal.τ Cert.FwdMixIdeal.sig) → Buf (Elt Ideal) ℓ) (g : Dev Cert.FwdMixIdeal.nD → PrngReg)
    (m' : (ℓ : Loc Cert.FwdMixRefIdeal.nD Cert.FwdMixRefIdeal.τ Cert.FwdMixRefIdeal.sig) → Buf (Elt Ideal) ℓ) (g' : Dev Cert.FwdMixRefIdeal.nD → PrngReg), Pre_FwdMixIdeal_mix_forward_finite m →
    (∀ c : Dev Cert.FwdMixIdeal.nD,
      m' ((c.tc : Thread Cert.FwdMixRefIdeal.nD Cert.FwdMixRefIdeal.τ).loc Cert.FwdMixRefIdeal.main_arg0) = m ((c.tc : Thread Cert.FwdMixIdeal.nD Cert.FwdMixIdeal.τ).loc Cert.FwdMixIdeal.main_arg0)
      ∧ m' ((c.tc : Thread Cert.FwdMixRefIdeal.nD Cert.FwdMixRefIdeal.τ).loc Cert.FwdMixRefIdeal.main_arg1) = m ((c.tc : Thread Cert.FwdMixIdeal.nD Cert.FwdMixIdeal.τ).loc Cert.FwdMixIdeal.main_arg1)
      ∧ m' ((c.tc : Thread Cert.FwdMixRefIdeal.nD Cert.FwdMixRefIdeal.τ).loc Cert.FwdMixRefIdeal.main_arg2) = m ((c.tc : Thread Cert.FwdMixIdeal.nD Cert.FwdMixIdeal.τ).loc Cert.FwdMixIdeal.main_arg2)
      ∧ m' ((c.tc : Thread Cert.FwdMixRefIdeal.nD Cert.FwdMixRefIdeal.τ).loc Cert.FwdMixRefIdeal.main_arg3) = m ((c.tc : Thread Cert.FwdMixIdeal.nD Cert.FwdMixIdeal.τ).loc Cert.FwdMixIdeal.main_arg3)
      ∧ m' ((c.tc : Thread Cert.FwdMixRefIdeal.nD Cert.FwdMixRefIdeal.τ).loc Cert.FwdMixRefIdeal.main_arg4) = m ((c.tc : Thread Cert.FwdMixIdeal.nD Cert.FwdMixIdeal.τ).loc Cert.FwdMixIdeal.main_arg4)
      ∧ m' ((c.tc : Thread Cert.FwdMixRefIdeal.nD Cert.FwdMixRefIdeal.τ).loc Cert.FwdMixRefIdeal.main_arg5) = m ((c.tc : Thread Cert.FwdMixIdeal.nD Cert.FwdMixIdeal.τ).loc Cert.FwdMixIdeal.main_arg5)
      ∧ m' ((c.tc : Thread Cert.FwdMixRefIdeal.nD Cert.FwdMixRefIdeal.τ).loc Cert.FwdMixRefIdeal.main_arg6) = m ((c.tc : Thread Cert.FwdMixIdeal.nD Cert.FwdMixIdeal.τ).loc Cert.FwdMixIdeal.main_arg6)
      ∧ m' ((c.tc : Thread Cert.FwdMixRefIdeal.nD Cert.FwdMixRefIdeal.τ).loc Cert.FwdMixRefIdeal.main_arg7) = m ((c.tc : Thread Cert.FwdMixIdeal.nD Cert.FwdMixIdeal.τ).loc Cert.FwdMixIdeal.main_arg7)
      ∧ m' ((c.tc : Thread Cert.FwdMixRefIdeal.nD Cert.FwdMixRefIdeal.τ).loc Cert.FwdMixRefIdeal.main_arg8) = m ((c.tc : Thread Cert.FwdMixIdeal.nD Cert.FwdMixIdeal.τ).loc Cert.FwdMixIdeal.main_arg8)
      ∧ m' ((c.tc : Thread Cert.FwdMixRefIdeal.nD Cert.FwdMixRefIdeal.τ).loc Cert.FwdMixRefIdeal.main_arg9) = m ((c.tc : Thread Cert.FwdMixIdeal.nD Cert.FwdMixIdeal.τ).loc Cert.FwdMixIdeal.main_arg9)
      ∧ m' ((c.tc : Thread Cert.FwdMixRefIdeal.nD Cert.FwdMixRefIdeal.τ).loc Cert.FwdMixRefIdeal.main_arg10) = m ((c.tc : Thread Cert.FwdMixIdeal.nD Cert.FwdMixIdeal.τ).loc Cert.FwdMixIdeal.main_arg10)
      ∧ m' ((c.tc : Thread Cert.FwdMixRefIdeal.nD Cert.FwdMixRefIdeal.τ).loc Cert.FwdMixRefIdeal.main_arg11) = m ((c.tc : Thread Cert.FwdMixIdeal.nD Cert.FwdMixIdeal.τ).loc Cert.FwdMixIdeal.main_arg11)) →
    ∃ (v0 : (c : Dev Cert.FwdMixIdeal.nD) → Buf (Elt Ideal) ((c.tc : Thread Cert.FwdMixIdeal.nD Cert.FwdMixIdeal.τ).loc Cert.FwdMixIdeal.main_v17_0)) (v1 : (c : Dev Cert.FwdMixIdeal.nD) → Buf (Elt Ideal) ((c.tc : Thread Cert.FwdMixIdeal.nD Cert.FwdMixIdeal.τ).loc Cert.FwdMixIdeal.main_v17_1)) (v2 : (c : Dev Cert.FwdMixIdeal.nD) → Buf (Elt Ideal) ((c.tc : Thread Cert.FwdMixIdeal.nD Cert.FwdMixIdeal.τ).loc Cert.FwdMixIdeal.main_v17_2)),
      θ_run (Cert.FwdMixIdeal.defs (F := Ideal)) (onTc (τ := Cert.FwdMixIdeal.τ) (Cert.FwdMixIdeal.main (F := Ideal))) ⟨m, fun _ => 0, g⟩ (fun r => ∀ c : Dev Cert.FwdMixIdeal.nD,
          r.2.mem ((c.tc : Thread Cert.FwdMixIdeal.nD Cert.FwdMixIdeal.τ).loc Cert.FwdMixIdeal.main_v17_0) = v0 c
          ∧ r.2.mem ((c.tc : Thread Cert.FwdMixIdeal.nD Cert.FwdMixIdeal.τ).loc Cert.FwdMixIdeal.main_v17_1) = v1 c
          ∧ r.2.mem ((c.tc : Thread Cert.FwdMixIdeal.nD Cert.FwdMixIdeal.τ).loc Cert.FwdMixIdeal.main_v17_2) = v2 c
          ∧ r.2.mem ((c.tc : Thread Cert.FwdMixIdeal.nD Cert.FwdMixIdeal.τ).loc Cert.FwdMixIdeal.main_arg0) = m ((c.tc : Thread Cert.FwdMixIdeal.nD Cert.FwdMixIdeal.τ).loc Cert.FwdMixIdeal.main_arg0)
          ∧ r.2.mem ((c.tc : Thread Cert.FwdMixIdeal.nD Cert.FwdMixIdeal.τ).loc Cert.FwdMixIdeal.main_arg1) = m ((c.tc : Thread Cert.FwdMixIdeal.nD Cert.FwdMixIdeal.τ).loc Cert.FwdMixIdeal.main_arg1)
          ∧ r.2.mem ((c.tc : Thread Cert.FwdMixIdeal.nD Cert.FwdMixIdeal.τ).loc Cert.FwdMixIdeal.main_arg2) = m ((c.tc : Thread Cert.FwdMixIdeal.nD Cert.FwdMixIdeal.τ).loc Cert.FwdMixIdeal.main_arg2)
          ∧ r.2.mem ((c.tc : Thread Cert.FwdMixIdeal.nD Cert.FwdMixIdeal.τ).loc Cert.FwdMixIdeal.main_arg3) = m ((c.tc : Thread Cert.FwdMixIdeal.nD Cert.FwdMixIdeal.τ).loc Cert.FwdMixIdeal.main_arg3)
          ∧ r.2.mem ((c.tc : Thread Cert.FwdMixIdeal.nD Cert.FwdMixIdeal.τ).loc Cert.FwdMixIdeal.main_arg4) = m ((c.tc : Thread Cert.FwdMixIdeal.nD Cert.FwdMixIdeal.τ).loc Cert.FwdMixIdeal.main_arg4)
          ∧ r.2.mem ((c.tc : Thread Cert.FwdMixIdeal.nD Cert.FwdMixIdeal.τ).loc Cert.FwdMixIdeal.main_arg5) = m ((c.tc : Thread Cert.FwdMixIdeal.nD Cert.FwdMixIdeal.τ).loc Cert.FwdMixIdeal.main_arg5)
          ∧ r.2.mem ((c.tc : Thread Cert.FwdMixIdeal.nD Cert.FwdMixIdeal.τ).loc Cert.FwdMixIdeal.main_arg6) = m ((c.tc : Thread Cert.FwdMixIdeal.nD Cert.FwdMixIdeal.τ).loc Cert.FwdMixIdeal.main_arg6)
          ∧ r.2.mem ((c.tc : Thread Cert.FwdMixIdeal.nD Cert.FwdMixIdeal.τ).loc Cert.FwdMixIdeal.main_arg7) = m ((c.tc : Thread Cert.FwdMixIdeal.nD Cert.FwdMixIdeal.τ).loc Cert.FwdMixIdeal.main_arg7)
          ∧ r.2.mem ((c.tc : Thread Cert.FwdMixIdeal.nD Cert.FwdMixIdeal.τ).loc Cert.FwdMixIdeal.main_arg8) = m ((c.tc : Thread Cert.FwdMixIdeal.nD Cert.FwdMixIdeal.τ).loc Cert.FwdMixIdeal.main_arg8)
          ∧ r.2.mem ((c.tc : Thread Cert.FwdMixIdeal.nD Cert.FwdMixIdeal.τ).loc Cert.FwdMixIdeal.main_arg9) = m ((c.tc : Thread Cert.FwdMixIdeal.nD Cert.FwdMixIdeal.τ).loc Cert.FwdMixIdeal.main_arg9)
          ∧ r.2.mem ((c.tc : Thread Cert.FwdMixIdeal.nD Cert.FwdMixIdeal.τ).loc Cert.FwdMixIdeal.main_arg10) = m ((c.tc : Thread Cert.FwdMixIdeal.nD Cert.FwdMixIdeal.τ).loc Cert.FwdMixIdeal.main_arg10)
          ∧ r.2.mem ((c.tc : Thread Cert.FwdMixIdeal.nD Cert.FwdMixIdeal.τ).loc Cert.FwdMixIdeal.main_arg11) = m ((c.tc : Thread Cert.FwdMixIdeal.nD Cert.FwdMixIdeal.τ).loc Cert.FwdMixIdeal.main_arg11))
      ∧ θ_run (Cert.FwdMixRefIdeal.defs (F := Ideal)) (onTc (τ := Cert.FwdMixRefIdeal.τ) (Cert.FwdMixRefIdeal.main (F := Ideal))) ⟨m', fun _ => 0, g'⟩ (fun r => ∀ c : Dev Cert.FwdMixRefIdeal.nD,
          r.2.mem ((c.tc : Thread Cert.FwdMixRefIdeal.nD Cert.FwdMixRefIdeal.τ).loc Cert.FwdMixRefIdeal.main_v164) = v0 c
          ∧ r.2.mem ((c.tc : Thread Cert.FwdMixRefIdeal.nD Cert.FwdMixRefIdeal.τ).loc Cert.FwdMixRefIdeal.main_v165) = v1 c
          ∧ r.2.mem ((c.tc : Thread Cert.FwdMixRefIdeal.nD Cert.FwdMixRefIdeal.τ).loc Cert.FwdMixRefIdeal.main_v167) = v2 c
          ∧ r.2.mem ((c.tc : Thread Cert.FwdMixRefIdeal.nD Cert.FwdMixRefIdeal.τ).loc Cert.FwdMixRefIdeal.main_arg0) = m' ((c.tc : Thread Cert.FwdMixRefIdeal.nD Cert.FwdMixRefIdeal.τ).loc Cert.FwdMixRefIdeal.main_arg0)
          ∧ r.2.mem ((c.tc : Thread Cert.FwdMixRefIdeal.nD Cert.FwdMixRefIdeal.τ).loc Cert.FwdMixRefIdeal.main_arg1) = m' ((c.tc : Thread Cert.FwdMixRefIdeal.nD Cert.FwdMixRefIdeal.τ).loc Cert.FwdMixRefIdeal.main_arg1)
          ∧ r.2.mem ((c.tc : Thread Cert.FwdMixRefIdeal.nD Cert.FwdMixRefIdeal.τ).loc Cert.FwdMixRefIdeal.main_arg2) = m' ((c.tc : Thread Cert.FwdMixRefIdeal.nD Cert.FwdMixRefIdeal.τ).loc Cert.FwdMixRefIdeal.main_arg2)
          ∧ r.2.mem ((c.tc : Thread Cert.FwdMixRefIdeal.nD Cert.FwdMixRefIdeal.τ).loc Cert.FwdMixRefIdeal.main_arg3) = m' ((c.tc : Thread Cert.FwdMixRefIdeal.nD Cert.FwdMixRefIdeal.τ).loc Cert.FwdMixRefIdeal.main_arg3)
          ∧ r.2.mem ((c.tc : Thread Cert.FwdMixRefIdeal.nD Cert.FwdMixRefIdeal.τ).loc Cert.FwdMixRefIdeal.main_arg4) = m' ((c.tc : Thread Cert.FwdMixRefIdeal.nD Cert.FwdMixRefIdeal.τ).loc Cert.FwdMixRefIdeal.main_arg4)
          ∧ r.2.mem ((c.tc : Thread Cert.FwdMixRefIdeal.nD Cert.FwdMixRefIdeal.τ).loc Cert.FwdMixRefIdeal.main_arg5) = m' ((c.tc : Thread Cert.FwdMixRefIdeal.nD Cert.FwdMixRefIdeal.τ).loc Cert.FwdMixRefIdeal.main_arg5)
          ∧ r.2.mem ((c.tc : Thread Cert.FwdMixRefIdeal.nD Cert.FwdMixRefIdeal.τ).loc Cert.FwdMixRefIdeal.main_arg6) = m' ((c.tc : Thread Cert.FwdMixRefIdeal.nD Cert.FwdMixRefIdeal.τ).loc Cert.FwdMixRefIdeal.main_arg6)
          ∧ r.2.mem ((c.tc : Thread Cert.FwdMixRefIdeal.nD Cert.FwdMixRefIdeal.τ).loc Cert.FwdMixRefIdeal.main_arg7) = m' ((c.tc : Thread Cert.FwdMixRefIdeal.nD Cert.FwdMixRefIdeal.τ).loc Cert.FwdMixRefIdeal.main_arg7)
          ∧ r.2.mem ((c.tc : Thread Cert.FwdMixRefIdeal.nD Cert.FwdMixRefIdeal.τ).loc Cert.FwdMixRefIdeal.main_arg8) = m' ((c.tc : Thread Cert.FwdMixRefIdeal.nD Cert.FwdMixRefIdeal.τ).loc Cert.FwdMixRefIdeal.main_arg8)
          ∧ r.2.mem ((c.tc : Thread Cert.FwdMixRefIdeal.nD Cert.FwdMixRefIdeal.τ).loc Cert.FwdMixRefIdeal.main_arg9) = m' ((c.tc : Thread Cert.FwdMixRefIdeal.nD Cert.FwdMixRefIdeal.τ).loc Cert.FwdMixRefIdeal.main_arg9)
          ∧ r.2.mem ((c.tc : Thread Cert.FwdMixRefIdeal.nD Cert.FwdMixRefIdeal.τ).loc Cert.FwdMixRefIdeal.main_arg10) = m' ((c.tc : Thread Cert.FwdMixRefIdeal.nD Cert.FwdMixRefIdeal.τ).loc Cert.FwdMixRefIdeal.main_arg10)
          ∧ r.2.mem ((c.tc : Thread Cert.FwdMixRefIdeal.nD Cert.FwdMixRefIdeal.τ).loc Cert.FwdMixRefIdeal.main_arg11) = m' ((c.tc : Thread Cert.FwdMixRefIdeal.nD Cert.FwdMixRefIdeal.τ).loc Cert.FwdMixRefIdeal.main_arg11))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2_0)) (v1 : (c : Dev Cert.ProjIdeal.nD) → Buf (Elt Ideal) ((c.tc : Thread Cert.ProjIdeal.nD Cert.ProjIdeal.τ).loc Cert.ProjIdeal.main_v2_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2_0) = v0 c
          ∧ r.2.mem ((c.tc : Thread Cert.ProjIdeal.nD Cert.ProjIdeal.τ).loc Cert.ProjIdeal.main_v2_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v6) = v0 c
          ∧ r.2.mem ((c.tc : Thread Cert.ProjRefIdeal.nD Cert.ProjRefIdeal.τ).loc Cert.ProjRefIdeal.main_v8) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def Claim : Prop :=
  ∃ (hFfnIn : Cert.FfnIn.Facts) (hFfnInIdeal : Cert.FfnInIdeal.Facts) (hFfnInRefIdeal : Cert.FfnInRefIdeal.Facts) (hLoss : Cert.Loss.Facts) (hLossIdeal : Cert.LossIdeal.Facts) (hLossRefIdeal : Cert.LossRefIdeal.Facts) (hInGrad : Cert.InGrad.Facts) (hInGradIdeal : Cert.InGradIdeal.Facts) (hInGradRefIdeal : Cert.InGradRefIdeal.Facts) (hGate : Cert.Gate.Facts) (hGateIdeal : Cert.GateIdeal.Facts) (hGateRefIdeal : Cert.GateRefIdeal.Facts) (hMix : Cert.Mix.Facts) (hMixIdeal : Cert.MixIdeal.Facts) (hMixRefIdeal : Cert.MixRefIdeal.Facts) (hFwdMix : Cert.FwdMix.Facts) (hFwdMixIdeal : Cert.FwdMixIdeal.Facts) (hFwdMixRefIdeal : Cert.FwdMixRefIdeal.Facts) (hProj : Cert.Proj.Facts) (hProjIdeal : Cert.ProjIdeal.Facts) (hProjRefIdeal : Cert.ProjRefIdeal.Facts) (hPre_ffn_in_finite : Cert.Pre_ffn_in_finite.Facts) (hPre_loss_finite : Cert.Pre_loss_finite.Facts) (hPre_in_finite : Cert.Pre_in_finite.Facts) (hPre_gate_finite : Cert.Pre_gate_finite.Facts) (hPre_mix_finite : Cert.Pre_mix_finite.Facts) (hPre_mix_forward_finite : Cert.Pre_mix_forward_finite.Facts),
    quiescent_FfnIn (hFfnIn := hFfnIn)
    ∧ quiescent_FfnInIdeal (hFfnInIdeal := hFfnInIdeal)
    ∧ quiescent_FfnInIdeal_pre_ffn_in_finite (hFfnInIdeal := hFfnInIdeal) (hPre_ffn_in_finite := hPre_ffn_in_finite)
    ∧ quiescent_FfnInRefIdeal (hFfnInRefIdeal := hFfnInRefIdeal)
    ∧ quiescent_FfnInRefIdeal_pre_ffn_in_finite (hFfnInRefIdeal := hFfnInRefIdeal) (hPre_ffn_in_finite := hPre_ffn_in_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_InGrad (hInGrad := hInGrad)
    ∧ quiescent_InGradIdeal (hInGradIdeal := hInGradIdeal)
    ∧ quiescent_InGradIdeal_pre_in_finite (hInGradIdeal := hInGradIdeal) (hPre_in_finite := hPre_in_finite)
    ∧ quiescent_InGradRefIdeal (hInGradRefIdeal := hInGradRefIdeal)
    ∧ quiescent_InGradRefIdeal_pre_in_finite (hInGradRefIdeal := hInGradRefIdeal) (hPre_in_finite := hPre_in_finite)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_FwdMix (hFwdMix := hFwdMix)
    ∧ quiescent_FwdMixIdeal (hFwdMixIdeal := hFwdMixIdeal)
    ∧ quiescent_FwdMixIdeal_pre_mix_forward_finite (hFwdMixIdeal := hFwdMixIdeal) (hPre_mix_forward_finite := hPre_mix_forward_finite)
    ∧ quiescent_FwdMixRefIdeal (hFwdMixRefIdeal := hFwdMixRefIdeal)
    ∧ quiescent_FwdMixRefIdeal_pre_mix_forward_finite (hFwdMixRefIdeal := hFwdMixRefIdeal) (hPre_mix_forward_finite := hPre_mix_forward_finite)
    ∧ quiescent_Proj (hProj := hProj)
    ∧ quiescent_ProjIdeal (hProjIdeal := hProjIdeal)
    ∧ quiescent_ProjRefIdeal (hProjRefIdeal := hProjRefIdeal)
    ∧ preserves_FfnIn_FfnInIdeal
    ∧ algebraic_FfnInIdeal_FfnInRefIdeal_pre_ffn_in_finite (hFfnInIdeal := hFfnInIdeal) (hFfnInRefIdeal := hFfnInRefIdeal) (hPre_ffn_in_finite := hPre_ffn_in_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_InGrad_InGradIdeal
    ∧ algebraic_InGradIdeal_InGradRefIdeal_pre_in_finite (hInGradIdeal := hInGradIdeal) (hInGradRefIdeal := hInGradRefIdeal) (hPre_in_finite := hPre_in_finite)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Mix_MixIdeal
    ∧ algebraic_MixIdeal_MixRefIdeal_pre_mix_finite (hMixIdeal := hMixIdeal) (hMixRefIdeal := hMixRefIdeal) (hPre_mix_finite := hPre_mix_finite)
    ∧ preserves_FwdMix_FwdMixIdeal
    ∧ algebraic_FwdMixIdeal_FwdMixRefIdeal_pre_mix_forward_finite (hFwdMixIdeal := hFwdMixIdeal) (hFwdMixRefIdeal := hFwdMixRefIdeal) (hPre_mix_forward_finite := hPre_mix_forward_finite)
    ∧ preserves_Proj_ProjIdeal
    ∧ algebraic_ProjIdeal_ProjRefIdeal (hProjIdeal := hProjIdeal) (hProjRefIdeal := hProjRefIdeal)
-- ==== Pre_ffn_in_finite.lean ====
abbrev S8192x5632 : Shape := ⟨2, ![8192, 5632]⟩
abbrev S1x1024x5632 : Shape := ⟨3, ![1, 1024, 5632]⟩
abbrev S8192x1024 : Shape := ⟨2, ![8192, 1024]⟩
abbrev S1x1024 : Shape := ⟨2, ![1, 1024]⟩
abbrev S_ : Shape := ⟨0, ![]⟩

class Facts : Prop where
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v14 : IVec S_ 1) (main_v15 : FVec F S8192x1024 .f32) (main_cst_5 : FVec F S_ .f32) : IVec S_ 1 :=
  let main_v16 : FVec F S8192x1024 .f32 := broadcastInDim S8192x1024 ![] bcast_S_S8192x1024 main_cst_5
  let main_v17 : IVec S8192x1024 1 := cmpf .olt main_v15 main_v16
  let main_c_6 : IVec S_ 1 := constantI S_ 1 1#1
  let main_v18 : IVec S_ 1 := (fun x v => Host.reduce IntOp.andi x v reducesTo_S8192x1024_S_d0_1 h_S_) main_v17 main_c_6
  let main_v19 : IVec S_ 1 := andi main_v14 main_v18
  let main_v20 : FVec F S1x1024 .f32 := Host.absf main_arg4
  let main_cst_7 : FVec F S_ .f32 := constant S_ .f32 0x7F800000#32
  let main_v21 : FVec F S1x1024 .f32 := broadcastInDim S1x1024 ![] bcast_S_S1x1024 main_cst_7
  let main_v22 : IVec S1x1024 1 := cmpf .olt main_v20 main_v21
  let main_c_8 : IVec S_ 1 := constantI S_ 1 1#1
  let main_v23 : IVec S_ 1 := (fun x v => Host.reduce IntOp.andi x v reducesTo_S1x1024_S_d0_1 h_S_) main_v22 main_c_8
  let main_v24 : IVec S_ 1 := andi main_v19 main_v23
  main_v24

def fn {F : FTy → Type} [FloatOps F] (main_arg0 : FVec F S8192x5632 .bf16) (main_arg1 : FVec F S1x1024x5632 .f32) (main_arg2 : FVec F S8192x1024 .f32) (main_arg3 : FVec F S8192x1024 .f32) (main_arg4 : FVec F S1x1024 .f32) (main_arg5 : FVec F S1x1024 .f32) : IVec S_ 1 :=
  let main_v0 : FVec F S8192x5632 .bf16 := Host.absf main_arg0
  let main_cst : FVec F S_ .bf16 := constant S_ .bf16 0x7F80#16
  let main_v1 : FVec F S8192x5632 .bf16 := broadcastInDim S8192x5632 ![] bcast_S_S8192x5632 main_cst
  let main_v2 : IVec S8192x5632 1 := cmpf .olt main_v0 main_v1
  let main_c : IVec S_ 1 := constantI S_ 1 1#1
  let main_v3 : IVec S_ 1 := (fun x v => Host.reduce IntOp.andi x v reducesTo_S8192x5632_S_d0_1 h_S_) main_v2 main_c
  let main_c_0 : IVec S_ 1 := constantI S_ 1 1#1
  let main_v4 : IVec S_ 1 := andi main_c_0 main_v3
  let main_v5 : FVec F S1x1024x5632 .f32 := Host.absf main_arg1
  let main_cst_1 : FVec F S_ .f32 := constant S_ .f32 0x7F800000#32
  let main_v6 : FVec F S1x1024x5632 .f32 := broadcastInDim S1x1024x5632 ![] bcast_S_S1x1024x5632 main_cst_1
  let main_v7 : IVec S1x1024x5632 1 := cmpf .olt main_v5 main_v6
  let main_c_2 : IVec S_ 1 := constantI S_ 1 1#1
  let main_v8 : IVec S_ 1 := (fun x v => Host.reduce IntOp.andi x v reducesTo_S1x1024x5632_S_d0_1_2 h_S_) main_v7 main_c_2
  let main_v9 : IVec S_ 1 := andi main_v4 main_v8
  let main_v10 : FVec F S8192x1024 .f32 := Host.absf main_arg2
  let main_cst_3 : FVec F S_ .f32 := constant S_ .f32 0x7F800000#32
  let main_v11 : FVec F S8192x1024 .f32 := broadcastInDim S8192x1024 ![] bcast_S_S8192x1024 main_cst_3
  let main_v12 : IVec S8192x1024 1 := cmpf .olt main_v10 main_v11
  let main_c_4 : IVec S_ 1 := constantI S_ 1 1#1
  let main_v13 : IVec S_ 1 := (fun x v => Host.reduce IntOp.andi x v reducesTo_S8192x1024_S_d0_1 h_S_) main_v12 main_c_4
  let main_v14 : IVec S_ 1 := andi main_v9 main_v13
  let main_v15 : FVec F S8192x1024 .f32 := Host.absf main_arg3
  let main_cst_5 : FVec F S_ .f32 := constant S_ .f32 0x7F800000#32
  fn_part1 (F := F) main_arg4 main_v14 main_v15 main_cst_5
-- ==== Pre_gate_finite.lean ====
abbrev S8192x1024 : Shape := ⟨2, ![8192, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_v14 : IVec S_ 1) (main_v15 : FVec F S8192x1024 .bf16) (main_cst_5 : FVec F S_ .bf16) : IVec S_ 1 :=
  let main_v16 : FVec F S8192x1024 .bf16 := broadcastInDim S8192x1024 ![] bcast_S_S8192x1024 main_cst_5
  let main_v17 : IVec S8192x1024 1 := cmpf .olt main_v15 main_v16
  let main_c_6 : IVec S_ 1 := constantI S_ 1 1#1
  let main_v18 : IVec S_ 1 := (fun x v => Host.reduce IntOp.andi x v reducesTo_S8192x1024_S_d0_1 h_S_) main_v17 main_c_6
  let main_v19 : IVec S_ 1 := andi main_v14 main_v18
  main_v19

def fn {F : FTy → Type} [FloatOps F] (main_arg0 : FVec F S8192x1024 .bf16) (main_arg1 : FVec F S1x1024x5632 .f32) (main_arg2 : FVec F S1x2816x1024 .f32) (main_arg3 : FVec F S8192x1024 .bf16) : IVec S_ 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1x1024x5632 .f32 := Host.absf main_arg1
  let main_cst_1 : FVec F S_ .f32 := constant S_ .f32 0x7F800000#32
  let main_v6 : FVec F S1x1024x5632 .f32 := broadcastInDim S1x1024x5632 ![] bcast_S_S1x1024x5632 main_cst_1
  let main_v7 : IVec S1x1024x5632 1 := cmpf .olt main_v5 main_v6
  let main_c_2 : IVec S_ 1 := constantI S_ 1 1#1
  let main_v8 : IVec S_ 1 := (fun x v => Host.reduce IntOp.andi x v reducesTo_S1x1024x5632_S_d0_1_2 h_S_) main_v7 main_c_2
  let main_v9 : IVec S_ 1 := andi main_v4 main_v8
  let main_v10 : FVec F S1x2816x1024 .f32 := Host.absf main_arg2
  let main_cst_3 : FVec F S_ .f32 := constant S_ .f32 0x7F800000#32
  let main_v11 : FVec F S1x2816x1024 .f32 := broadcastInDim S1x2816x1024 ![] bcast_S_S1x2816x1024 main_cst_3
  let main_v12 : IVec S1x2816x1024 1 := cmpf .olt main_v10 main_v11
  let main_c_4 : IVec S_ 1 := constantI S_ 1 1#1
  let main_v13 : IVec S_ 1 := (fun x v => Host.reduce IntOp.andi x v reducesTo_S1x2816x1024_S_d0_1_2 h_S_) main_v12 main_c_4
  let main_v14 : IVec S_ 1 := andi main_v9 main_v13
  let main_v15 : FVec F S8192x1024 .bf16 := Host.absf main_arg3
  let main_cst_5 : FVec F S_ .bf16 := constant S_ .bf16 0x7F80#16
  fn_part1 (F := F) main_v14 main_v15 main_cst_5
-- ==== Pre_in_finite.lean ====
abbrev S8192x512 : Shape := ⟨2, ![8192, 512]⟩
abbrev S8192x1024 : Shape := ⟨2, ![8192, 1024]⟩
abbrev S1x1024x1536 : Shape := ⟨3, ![1, 1024, 1536]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x1024 .bf16) (main_arg2 : FVec F S8192x1024 .f32) (main_arg3 : FVec F S1x1024x1536 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_c_0 : IVec S_ 1 := constantI S_ 1 1#1
  let main_v4 : IVec S_ 1 := andi main_c_0 main_v3
  main_v4
-- ==== Pre_loss_finite.lean ====
abbrev S8192x2816 : Shape := ⟨2, ![8192, 2816]⟩
abbrev S1x2816x1024 : Shape := ⟨3, ![1, 2816, 1024]⟩
abbrev S8192x1024 : Shape := ⟨2, ![8192, 1024]⟩
abbrev S1x1024 : Shape := ⟨2, ![1, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024 .f32) (main_v29 : IVec S_ 1) (main_v32 : IVec S1x1024 1) (main_c_12 : IVec S_ 1) : IVec S_ 1 :=
  let main_v33 : IVec S_ 1 := (fun x v => Host.reduce IntOp.andi x v reducesTo_S1x1024_S_d0_1 h_S_) main_v32 main_c_12
  let main_v34 : IVec S_ 1 := andi main_v29 main_v33
  let main_v35 : FVec F S1x1024 .f32 := Host.absf main_arg7
  let main_cst_13 : FVec F S_ .f32 := constant S_ .f32 0x7F800000#32
  let main_v36 : FVec F S1x1024 .f32 := broadcastInDim S1x1024 ![] bcast_S_S1x1024 main_cst_13
  let main_v37 : IVec S1x1024 1 := cmpf .olt main_v35 main_v36
  let main_c_14 : IVec S_ 1 := constantI S_ 1 1#1
  let main_v38 : IVec S_ 1 := (fun x v => Host.reduce IntOp.andi x v reducesTo_S1x1024_S_d0_1 h_S_) main_v37 main_c_14
  let main_v39 : IVec S_ 1 := andi main_v34 main_v38
  main_v39

def fn_part1 {F : FTy → Type} [FloatOps F] (main_arg4 : FVec F S1x1024 .f32) (main_arg5 : FVec F S1x1024 .f32) (main_arg6 : FVec F S1x1024 .f32) (main_arg7 : FVec F S1x1024 .f32) (main_v14 : IVec S_ 1) (main_v15 : FVec F S8192x1024 .f32) (main_cst_5 : FVec F S_ .f32) : IVec S_ 1 :=
  let main_v16 : FVec F S8192x1024 .f32 := broadcastInDim S8192x1024 ![] bcast_S_S8192x1024 main_cst_5
  let main_v17 : IVec S8192x1024 1 := cmpf .olt main_v15 main_v16
  let main_c_6 : IVec S_ 1 := constantI S_ 1 1#1
  let main_v18 : IVec S_ 1 := (fun x v => Host.reduce IntOp.andi x v reducesTo_S8192x1024_S_d0_1 h_S_) main_v17 main_c_6
  let main_v19 : IVec S_ 1 := andi main_v14 main_v18
  let main_v20 : FVec F S1x1024 .f32 := Host.absf main_arg4
  let main_cst_7 : FVec F S_ .f32 := constant S_ .f32 0x7F800000#32
  let main_v21 : FVec F S1x1024 .f32 := broadcastInDim S1x1024 ![] bcast_S_S1x1024 main_cst_7
  let main_v22 : IVec S1x1024 1 := cmpf .olt main_v20 main_v21
  let main_c_8 : IVec S_ 1 := constantI S_ 1 1#1
  let main_v23 : IVec S_ 1 := (fun x v => Host.reduce IntOp.andi x v reducesTo_S1x1024_S_d0_1 h_S_) main_v22 main_c_8
  let main_v24 : IVec S_ 1 := andi main_v19 main_v23
  let main_v25 : FVec F S1x1024 .f32 := Host.absf main_arg5
  let main_cst_9 : FVec F S_ .f32 := constant S_ .f32 0x7F800000#32
  let main_v26 : FVec F S1x1024 .f32 := broadcastInDim S1x1024 ![] bcast_S_S1x1024 main_cst_9
  let main_v27 : IVec S1x1024 1 := cmpf .olt main_v25 main_v26
  let main_c_10 : IVec S_ 1 := constantI S_ 1 1#1
  let main_v28 : IVec S_ 1 := (fun x v => Host.reduce IntOp.andi x v reducesTo_S1x1024_S_d0_1 h_S_) main_v27 main_c_10
  let main_v29 : IVec S_ 1 := andi main_v24 main_v28
  let main_v30 : FVec F S1x1024 .f32 := Host.absf main_arg6
  let main_cst_11 : FVec F S_ .f32 := constant S_ .f32 0x7F800000#32
  let main_v31 : FVec F S1x1024 .f32 := broadcastInDim S1x1024 ![] bcast_S_S1x1024 main_cst_11
  let main_v32 : IVec S1x1024 1 := cmpf .olt main_v30 main_v31
  let main_c_12 : IVec S_ 1 := constantI S_ 1 1#1
  fn_part2 (F := F) main_arg7 main_v29 main_v32 main_c_12

def fn {F : FTy → Type} [FloatOps F] (main_arg0 : FVec F S8192x2816 .bf16) (main_arg1 : FVec F S1x2816x1024 .f32) (main_arg2 : FVec F S8192x1024 .f32) (main_arg3 : FVec F S8192x1024 .f32) (main_arg4 : FVec F S1x1024 .f32) (main_arg5 : FVec F S1x1024 .f32) (main_arg6 : FVec F S1x1024 .f32) (main_arg7 : FVec F S1x1024 .f32) : IVec S_ 1 :=
  let main_v0 : FVec F S8192x2816 .bf16 := Host.absf main_arg0
  let main_cst : FVec F S_ .bf16 := constant S_ .bf16 0x7F80#16
  let main_v1 : FVec F S8192x2816 .bf16 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_c_0 : IVec S_ 1 := constantI S_ 1 1#1
  let main_v4 : IVec S_ 1 := andi main_c_0 main_v3
  let main_v5 : FVec F S1x2816x1024 .f32 := Host.absf main_arg1
  let main_cst_1 : FVec F S_ .f32 := constant S_ .f32 0x7F800000#32
  let main_v6 : FVec F S1x2816x1024 .f32 := broadcastInDim S1x2816x1024 ![] bcast_S_S1x2816x1024 main_cst_1
  let main_v7 : IVec S1x2816x1024 1 := cmpf .olt main_v5 main_v6
  let main_c_2 : IVec S_ 1 := constantI S_ 1 1#1
  let main_v8 : IVec S_ 1 := (fun x v => Host.reduce IntOp.andi x v reducesTo_S1x2816x1024_S_d0_1_2 h_S_) main_v7 main_c_2
  let main_v9 : IVec S_ 1 := andi main_v4 main_v8
  let main_v10 : FVec F S8192x1024 .f32 := Host.absf main_arg2
  let main_cst_3 : FVec F S_ .f32 := constant S_ .f32 0x7F800000#32
  let main_v11 : FVec F S8192x1024 .f32 := broadcastInDim S8192x1024 ![] bcast_S_S8192x1024 main_cst_3
  let main_v12 : IVec S8192x1024 1 := cmpf .olt main_v10 main_v11
  let main_c_4 : IVec S_ 1 := constantI S_ 1 1#1
  let main_v13 : IVec S_ 1 := (fun x v => Host.reduce IntOp.andi x v reducesTo_S8192x1024_S_d0_1 h_S_) main_v12 main_c_4
  let main_v14 : IVec S_ 1 := andi main_v9 main_v13
  let main_v15 : FVec F S8192x1024 .f32 := Host.absf main_arg3
  let main_cst_5 : FVec F S_ .f32 := constant S_ .f32 0x7F800000#32
  fn_part1 (F := F) main_arg4 main_arg5 main_arg6 main_arg7 main_v14 main_v15 main_cst_5
-- ==== Pre_mix_finite.lean ====
abbrev S8192x1024 : Shape := ⟨2, ![8192, 1024]⟩
abbrev S8192x512 : Shape := ⟨2, ![8192, 512]⟩
abbrev S1x1024x1024 : Shape := ⟨3, ![1, 1024, 1024]⟩
abbrev S1x4x128x128 : Shape := ⟨4, ![1, 4, 128, 128]⟩
abbrev S1x512 : Shape := ⟨2, ![1, 512]⟩
abbrev S1x4x128 : Shape := ⟨3, ![1, 4, 128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x512 : S_.BroadcastsInDim S1x512 (![] : Fin 0 → Fin S1x512.rank)
  reducesTo_S1x512_S_d0_1 : S1x512.ReducesTo [0, 1] S_
  bcast_S_S1x4x128 : S_.BroadcastsInDim S1x4x128 (![] : Fin 0 → Fin S1x4x128.rank)
  reducesTo_S1x4x128_S_d0_1_2 : S1x4x128.ReducesTo [0, 1, 2] S_

variable [Facts]

def fn_part2 {F : FTy → Type} [FloatOps F] (main_arg7 : FVec F S1x512 .f32) (main_arg8 : FVec F S1x4x128x128 .f32) (main_arg9 : FVec F S1x4x128 .f32) (main_v29 : IVec S_ 1) (main_v32 : IVec S1x512 1) (main_c_12 : IVec S_ 1) : IVec S_ 1 :=
  let main_v33 : IVec S_ 1 := (fun x v => Host.reduce IntOp.andi x v reducesTo_S1x512_S_d0_1 h_S_) main_v32 main_c_12
  let main_v34 : IVec S_ 1 := andi main_v29 main_v33
  let main_v35 : FVec F S1x512 .f32 := Host.absf main_arg7
  let main_cst_13 : FVec F S_ .f32 := constant S_ .f32 0x7F800000#32
  let main_v36 : FVec F S1x512 .f32 := broadcastInDim S1x512 ![] bcast_S_S1x512 main_cst_13
  let main_v37 : IVec S1x512 1 := cmpf .olt main_v35 main_v36
  let main_c_14 : IVec S_ 1 := constantI S_ 1 1#1
  let main_v38 : IVec S_ 1 := (fun x v => Host.reduce IntOp.andi x v reducesTo_S1x512_S_d0_1 h_S_) main_v37 main_c_14
  let main_v39 : IVec S_ 1 := andi main_v34 main_v38
  let main_v40 : FVec F S1x4x128x128 .f32 := Host.absf main_arg8
  let main_cst_15 : FVec F S_ .f32 := constant S_ .f32 0x7F800000#32
  let main_v41 : FVec F S1x4x128x128 .f32 := broadcastInDim S1x4x128x128 ![] bcast_S_S1x4x128x128 main_cst_15
  let main_v42 : IVec S1x4x128x128 1 := cmpf .olt main_v40 main_v41
  let main_c_16 : IVec S_ 1 := constantI S_ 1 1#1
  let main_v43 : IVec S_ 1 := (fun x v => Host.reduce IntOp.andi x v reducesTo_S1x4x128x128_S_d0_1_2_3 h_S_) main_v42 main_c_16
  let main_v44 : IVec S_ 1 := andi main_v39 main_v43
  let main_v45 : FVec F S1x4x128 .f32 := Host.absf main_arg9
  let main_cst_17 : FVec F S_ .f32 := constant S_ .f32 0x7F800000#32
  let main_v46 : FVec F S1x4x128 .f32 := broadcastInDim S1x4x128 ![] bcast_S_S1x4x128 main_cst_17
  let main_v47 : IVec S1x4x128 1 := cmpf .olt main_v45 main_v46
  let main_c_18 : IVec S_ 1 := constantI S_ 1 1#1
  let main_v48 : IVec S_ 1 := (fun x v => Host.reduce IntOp.andi x v reducesTo_S1x4x128_S_d0_1_2 h_S_) main_v47 main_c_18
  let main_v49 : IVec S_ 1 := andi main_v44 main_v48
  main_v49

def fn_part1 {F : FTy → Type} [FloatOps F] (main_arg4 : FVec F S1x4x128x128 .f32) (main_arg5 : FVec F S1x512 .f32) (main_arg6 : FVec F S1x512 .f32) (main_arg7 : FVec F S1x512 .f32) (main_arg8 : FVec F S1x4x128x128 .f32) (main_arg9 : FVec F S1x4x128 .f32) (main_v14 : IVec S_ 1) (main_v15 : FVec F S1x1024x1024 .f32) (main_cst_5 : FVec F S_ .f32) : IVec S_ 1 :=
  let main_v16 : FVec F S1x1024x1024 .f32 := broadcastInDim S1x1024x1024 ![] bcast_S_S1x1024x1024 main_cst_5
  let main_v17 : IVec S1x1024x1024 1 := cmpf .olt main_v15 main_v16
  let main_c_6 : IVec S_ 1 := constantI S_ 1 1#1
  let main_v18 : IVec S_ 1 := (fun x v => Host.reduce IntOp.andi x v reducesTo_S1x1024x1024_S_d0_1_2 h_S_) main_v17 main_c_6
  let main_v19 : IVec S_ 1 := andi main_v14 main_v18
  let main_v20 : FVec F S1x4x128x128 .f32 := Host.absf main_arg4
  let main_cst_7 : FVec F S_ .f32 := constant S_ .f32 0x7F800000#32
  let main_v21 : FVec F S1x4x128x128 .f32 := broadcastInDim S1x4x128x128 ![] bcast_S_S1x4x128x128 main_cst_7
  let main_v22 : IVec S1x4x128x128 1 := cmpf .olt main_v20 main_v21
  let main_c_8 : IVec S_ 1 := constantI S_ 1 1#1
  let main_v23 : IVec S_ 1 := (fun x v => Host.reduce IntOp.andi x v reducesTo_S1x4x128x128_S_d0_1_2_3 h_S_) main_v22 main_c_8
  let main_v24 : IVec S_ 1 := andi main_v19 main_v23
  let main_v25 : FVec F S1x512 .f32 := Host.absf main_arg5
  let main_cst_9 : FVec F S_ .f32 := constant S_ .f32 0x7F800000#32
  let main_v26 : FVec F S1x512 .f32 := broadcastInDim S1x512 ![] bcast_S_S1x512 main_cst_9
  let main_v27 : IVec S1x512 1 := cmpf .olt main_v25 main_v26
  let main_c_10 : IVec S_ 1 := constantI S_ 1 1#1
  let main_v28 : IVec S_ 1 := (fun x v => Host.reduce IntOp.andi x v reducesTo_S1x512_S_d0_1 h_S_) main_v27 main_c_10
  let main_v29 : IVec S_ 1 := andi main_v24 main_v28
  let main_v30 : FVec F S1x512 .f32 := Host.absf main_arg6
  let main_cst_11 : FVec F S_ .f32 := constant S_ .f32 0x7F800000#32
  let main_v31 : FVec F S1x512 .f32 := broadcastInDim S1x512 ![] bcast_S_S1x512 main_cst_11
  let main_v32 : IVec S1x512 1 := cmpf .olt main_v30 main_v31
  let main_c_12 : IVec S_ 1 := constantI S_ 1 1#1
  fn_part2 (F := F) main_arg7 main_arg8 main_arg9 main_v29 main_v32 main_c_12

def fn {F : FTy → Type} [FloatOps F] (main_arg0 : FVec F S8192x1024 .bf16) (main_arg1 : FVec F S8192x512 .f32) (main_arg2 : FVec F S8192x1024 .bf16) (main_arg3 : FVec F S1x1024x1024 .f32) (main_arg4 : FVec F S1x4x128x128 .f32) (main_arg5 : FVec F S1x512 .f32) (main_arg6 : FVec F S1x512 .f32) (main_arg7 : FVec F S1x512 .f32) (main_arg8 : FVec F S1x4x128x128 .f32) (main_arg9 : FVec F S1x4x128 .f32) : IVec S_ 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S8192x512 .f32 := Host.absf main_arg1
  let main_cst_1 : FVec F S_ .f32 := constant S_ .f32 0x7F800000#32
  let main_v6 : FVec F S8192x512 .f32 := broadcastInDim S8192x512 ![] bcast_S_S8192x512 main_cst_1
  let main_v7 : IVec S8192x512 1 := cmpf .olt main_v5 main_v6
  let main_c_2 : IVec S_ 1 := constantI S_ 1 1#1
  let main_v8 : IVec S_ 1 := (fun x v => Host.reduce IntOp.andi x v reducesTo_S8192x512_S_d0_1 h_S_) main_v7 main_c_2
  let main_v9 : IVec S_ 1 := andi main_v4 main_v8
  let main_v10 : FVec F S8192x1024 .bf16 := Host.absf main_arg2
  let main_cst_3 : FVec F S_ .bf16 := constant S_ .bf16 0x7F80#16
  let main_v11 : FVec F S8192x1024 .bf16 := broadcastInDim S8192x1024 ![] bcast_S_S8192x1024 main_cst_3
  let main_v12 : IVec S8192x1024 1 := cmpf .olt main_v10 main_v11
  let main_c_4 : IVec S_ 1 := constantI S_ 1 1#1
  let main_v13 : IVec S_ 1 := (fun x v => Host.reduce IntOp.andi x v reducesTo_S8192x1024_S_d0_1 h_S_) main_v12 main_c_4
  let main_v14 : IVec S_ 1 := andi main_v9 main_v13
  let main_v15 : FVec F S1x1024x1024 .f32 := Host.absf main_arg3
  let main_cst_5 : FVec F S_ .f32 := constant S_ .f32 0x7F800000#32
  fn_part1 (F := F) main_arg4 main_arg5 main_arg6 main_arg7 main_arg8 main_arg9 main_v14 main_v15 main_cst_5
-- ==== Pre_mix_forward_finite.lean ====
abbrev S8192x512 : Shape := ⟨2, ![8192, 512]⟩
abbrev S8192x1024 : Shape := ⟨2, ![8192, 1024]⟩
abbrev S1x1024x1024 : Shape := ⟨3, ![1, 1024, 1024]⟩
abbrev S1x4x128x128 : Shape := ⟨4, ![1, 4, 128, 128]⟩
abbrev S1x512 : Shape := ⟨2, ![1, 512]⟩
abbrev S1x4x128 : Shape := ⟨3, ![1, 4, 128]⟩
abbrev S1x1024 : Shape := ⟨2, ![1, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x512 : S_.BroadcastsInDim S1x512 (![] : Fin 0 → Fin S1x512.rank)
  reducesTo_S1x512_S_d0_1 : S1x512.ReducesTo [0, 1] S_
  bcast_S_S1x4x128 : S_.BroadcastsInDim S1x4x128 (![] : Fin 0 → Fin S1x4x128.rank)
  reducesTo_S1x4x128_S_d0_1_2 : S1x4x128.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part3 {F : FTy → Type} [FloatOps F] (main_arg11 : FVec F S1x1024 .f32) (main_v49 : IVec S_ 1) (main_v50 : FVec F S1x1024 .f32) : IVec S_ 1 :=
  let main_cst_19 : FVec F S_ .f32 := constant S_ .f32 0x7F800000#32
  let main_v51 : FVec F S1x1024 .f32 := broadcastInDim S1x1024 ![] bcast_S_S1x1024 main_cst_19
  let main_v52 : IVec S1x1024 1 := cmpf .olt main_v50 main_v51
  let main_c_20 : IVec S_ 1 := constantI S_ 1 1#1
  let main_v53 : IVec S_ 1 := (fun x v => Host.reduce IntOp.andi x v reducesTo_S1x1024_S_d0_1 h_S_) main_v52 main_c_20
  let main_v54 : IVec S_ 1 := andi main_v49 main_v53
  let main_v55 : FVec F S1x1024 .f32 := Host.absf main_arg11
  let main_cst_21 : FVec F S_ .f32 := constant S_ .f32 0x7F800000#32
  let main_v56 : FVec F S1x1024 .f32 := broadcastInDim S1x1024 ![] bcast_S_S1x1024 main_cst_21
  let main_v57 : IVec S1x1024 1 := cmpf .olt main_v55 main_v56
  let main_c_22 : IVec S_ 1 := constantI S_ 1 1#1
  let main_v58 : IVec S_ 1 := (fun x v => Host.reduce IntOp.andi x v reducesTo_S1x1024_S_d0_1 h_S_) main_v57 main_c_22
  let main_v59 : IVec S_ 1 := andi main_v54 main_v58
  main_v59

def fn_part2 {F : FTy → Type} [FloatOps F] (main_arg7 : FVec F S1x512 .f32) (main_arg8 : FVec F S1x4x128x128 .f32) (main_arg9 : FVec F S1x4x128 .f32) (main_arg10 : FVec F S1x1024 .f32) (main_arg11 : FVec F S1x1024 .f32) (main_v29 : IVec S_ 1) (main_v32 : IVec S1x512 1) (main_c_12 : IVec S_ 1) : IVec S_ 1 :=
  let main_v33 : IVec S_ 1 := (fun x v => Host.reduce IntOp.andi x v reducesTo_S1x512_S_d0_1 h_S_) main_v32 main_c_12
  let main_v34 : IVec S_ 1 := andi main_v29 main_v33
  let main_v35 : FVec F S1x512 .f32 := Host.absf main_arg7
  let main_cst_13 : FVec F S_ .f32 := constant S_ .f32 0x7F800000#32
  let main_v36 : FVec F S1x512 .f32 := broadcastInDim S1x512 ![] bcast_S_S1x512 main_cst_13
  let main_v37 : IVec S1x512 1 := cmpf .olt main_v35 main_v36
  let main_c_14 : IVec S_ 1 := constantI S_ 1 1#1
  let main_v38 : IVec S_ 1 := (fun x v => Host.reduce IntOp.andi x v reducesTo_S1x512_S_d0_1 h_S_) main_v37 main_c_14
  let main_v39 : IVec S_ 1 := andi main_v34 main_v38
  let main_v40 : FVec F S1x4x128x128 .f32 := Host.absf main_arg8
  let main_cst_15 : FVec F S_ .f32 := constant S_ .f32 0x7F800000#32
  let main_v41 : FVec F S1x4x128x128 .f32 := broadcastInDim S1x4x128x128 ![] bcast_S_S1x4x128x128 main_cst_15
  let main_v42 : IVec S1x4x128x128 1 := cmpf .olt main_v40 main_v41
  let main_c_16 : IVec S_ 1 := constantI S_ 1 1#1
  let main_v43 : IVec S_ 1 := (fun x v => Host.reduce IntOp.andi x v reducesTo_S1x4x128x128_S_d0_1_2_3 h_S_) main_v42 main_c_16
  let main_v44 : IVec S_ 1 := andi main_v39 main_v43
  let main_v45 : FVec F S1x4x128 .f32 := Host.absf main_arg9
  let main_cst_17 : FVec F S_ .f32 := constant S_ .f32 0x7F800000#32
  let main_v46 : FVec F S1x4x128 .f32 := broadcastInDim S1x4x128 ![] bcast_S_S1x4x128 main_cst_17
  let main_v47 : IVec S1x4x128 1 := cmpf .olt main_v45 main_v46
  let main_c_18 : IVec S_ 1 := constantI S_ 1 1#1
  let main_v48 : IVec S_ 1 := (fun x v => Host.reduce IntOp.andi x v reducesTo_S1x4x128_S_d0_1_2 h_S_) main_v47 main_c_18
  let main_v49 : IVec S_ 1 := andi main_v44 main_v48
  let main_v50 : FVec F S1x1024 .f32 := Host.absf main_arg10
  fn_part3 (F := F) main_arg11 main_v49 main_v50

def fn_part1 {F : FTy → Type} [FloatOps F] (main_arg4 : FVec F S1x4x128x128 .f32) (main_arg5 : FVec F S1x512 .f32) (main_arg6 : FVec F S1x512 .f32) (main_arg7 : FVec F S1x512 .f32) (main_arg8 : FVec F S1x4x128x128 .f32) (main_arg9 : FVec F S1x4x128 .f32) (main_arg10 : FVec F S1x1024 .f32) (main_arg11 : FVec F S1x1024 .f32) (main_v14 : IVec S_ 1) (main_v15 : FVec F S1x1024x1024 .f32) (main_cst_5 : FVec F S_ .f32) : IVec S_ 1 :=
  let main_v16 : FVec F S1x1024x1024 .f32 := broadcastInDim S1x1024x1024 ![] bcast_S_S1x1024x1024 main_cst_5
  let main_v17 : IVec S1x1024x1024 1 := cmpf .olt main_v15 main_v16
  let main_c_6 : IVec S_ 1 := constantI S_ 1 1#1
  let main_v18 : IVec S_ 1 := (fun x v => Host.reduce IntOp.andi x v reducesTo_S1x1024x1024_S_d0_1_2 h_S_) main_v17 main_c_6
  let main_v19 : IVec S_ 1 := andi main_v14 main_v18
  let main_v20 : FVec F S1x4x128x128 .f32 := Host.absf main_arg4
  let main_cst_7 : FVec F S_ .f32 := constant S_ .f32 0x7F800000#32
  let main_v21 : FVec F S1x4x128x128 .f32 := broadcastInDim S1x4x128x128 ![] bcast_S_S1x4x128x128 main_cst_7
  let main_v22 : IVec S1x4x128x128 1 := cmpf .olt main_v20 main_v21
  let main_c_8 : IVec S_ 1 := constantI S_ 1 1#1
  let main_v23 : IVec S_ 1 := (fun x v => Host.reduce IntOp.andi x v reducesTo_S1x4x128x128_S_d0_1_2_3 h_S_) main_v22 main_c_8
  let main_v24 : IVec S_ 1 := andi main_v19 main_v23
  let main_v25 : FVec F S1x512 .f32 := Host.absf main_arg5
  let main_cst_9 : FVec F S_ .f32 := constant S_ .f32 0x7F800000#32
  let main_v26 : FVec F S1x512 .f32 := broadcastInDim S1x512 ![] bcast_S_S1x512 main_cst_9
  let main_v27 : IVec S1x512 1 := cmpf .olt main_v25 main_v26
  let main_c_10 : IVec S_ 1 := constantI S_ 1 1#1
  let main_v28 : IVec S_ 1 := (fun x v => Host.reduce IntOp.andi x v reducesTo_S1x512_S_d0_1 h_S_) main_v27 main_c_10
  let main_v29 : IVec S_ 1 := andi main_v24 main_v28
  let main_v30 : FVec F S1x512 .f32 := Host.absf main_arg6
  let main_cst_11 : FVec F S_ .f32 := constant S_ .f32 0x7F800000#32
  let main_v31 : FVec F S1x512 .f32 := broadcastInDim S1x512 ![] bcast_S_S1x512 main_cst_11
  let main_v32 : IVec S1x512 1 := cmpf .olt main_v30 main_v31
  let main_c_12 : IVec S_ 1 := constantI S_ 1 1#1
  fn_part2 (F := F) main_arg7 main_arg8 main_arg9 main_arg10 main_arg11 main_v29 main_v32 main_c_12

def fn {F : FTy → Type} [FloatOps F] (main_arg0 : FVec F S8192x512 .f32) (main_arg1 : FVec F S8192x1024 .bf16) (main_arg2 : FVec F S8192x1024 .f32) (main_arg3 : FVec F S1x1024x1024 .f32) (main_arg4 : FVec F S1x4x128x128 .f32) (main_arg5 : FVec F S1x512 .f32) (main_arg6 : FVec F S1x512 .f32) (main_arg7 : FVec F S1x512 .f32) (main_arg8 : FVec F S1x4x128x128 .f32) (main_arg9 : FVec F S1x4x128 .f32) (main_arg10 : FVec F S1x1024 .f32) (main_arg11 : FVec F S1x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_c_0 : IVec S_ 1 := constantI S_ 1 1#1
  let main_v4 : IVec S_ 1 := andi main_c_0 main_v3
  let main_v5 : FVec F S8192x1024 .bf16 := Host.absf main_arg1
  let main_cst_1 : FVec F S_ .bf16 := constant S_ .bf16 0x7F80#16
  let main_v6 : FVec F S8192x1024 .bf16 := broadcastInDim S8192x1024 ![] bcast_S_S8192x1024 main_cst_1
  let main_v7 : IVec S8192x1024 1 := cmpf .olt main_v5 main_v6
  let main_c_2 : IVec S_ 1 := constantI S_ 1 1#1
  let main_v8 : IVec S_ 1 := (fun x v => Host.reduce IntOp.andi x v reducesTo_S8192x1024_S_d0_1 h_S_) main_v7 main_c_2
  let main_v9 : IVec S_ 1 := andi main_v4 main_v8
  let main_v10 : FVec F S8192x1024 .f32 := Host.absf main_arg2
  let main_cst_3 : FVec F S_ .f32 := constant S_ .f32 0x7F800000#32
  let main_v11 : FVec F S8192x1024 .f32 := broadcastInDim S8192x1024 ![] bcast_S_S8192x1024 main_cst_3
  let main_v12 : IVec S8192x1024 1 := cmpf .olt main_v10 main_v11
  let main_c_4 : IVec S_ 1 := constantI S_ 1 1#1
  let main_v13 : IVec S_ 1 := (fun x v => Host.reduce IntOp.andi x v reducesTo_S8192x1024_S_d0_1 h_S_) main_v12 main_c_4
  let main_v14 : IVec S_ 1 := andi main_v9 main_v13
  let main_v15 : FVec F S1x1024x1024 .f32 := Host.absf main_arg3
  let main_cst_5 : FVec F S_ .f32 := constant S_ .f32 0x7F800000#32
  fn_part1 (F := F) main_arg4 main_arg5 main_arg6 main_arg7 main_arg8 main_arg9 main_arg10 main_arg11 main_v14 main_v15 main_cst_5
-- ==== FfnIn.lean ====
abbrev S8192x5632 : Shape := ⟨2, ![8192, 5632]⟩
abbrev S1x1024x5632 : Shape := ⟨3, ![1, 1024, 5632]⟩
abbrev S8192x1024 : Shape := ⟨2, ![8192, 1024]⟩
abbrev S1x1024 : Shape := ⟨2, ![1, 1024]⟩
abbrev S1024x5632 : Shape := ⟨2, ![1024, 5632]⟩
abbrev S256x5632 : Shape := ⟨2, ![256, 5632]⟩
abbrev S768x5632 : Shape := ⟨2, ![768, 5632]⟩
abbrev S1024 : Shape := ⟨1, ![1024]⟩
abbrev S8x1024 : Shape := ⟨2, ![8, 1024]⟩
abbrev S512x5632 : Shape := ⟨2, ![512, 5632]⟩
abbrev S512x1024 : Shape := ⟨2, ![512, 1024]⟩
abbrev S512x256 : Shape := ⟨2, ![512, 256]⟩
abbrev S512x768 : Shape := ⟨2, ![512, 768]⟩
abbrev S512 : Shape := ⟨1, ![512]⟩
abbrev S512x1 : Shape := ⟨2, ![512, 1]⟩

abbrev nBuf : Space → Nat
  | .hbm => 17
  | .vmem => 15
  | .smem => 0
  | _ => 0

abbrev bufTy : (tb : Table) → Fin (tcTables nBuf tb) → BufTy
  | .hbm, ⟨0, _⟩ => ⟨S8192x5632, .bf16⟩
  | .hbm, ⟨1, _⟩ => ⟨S1x1024x5632, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S1024x5632, .bf16⟩
  | .hbm, ⟨8, _⟩ => ⟨S256x5632, .bf16⟩
  | .hbm, ⟨9, _⟩ => ⟨S768x5632, .bf16⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S8192x1024, .f32⟩
  | .hbm, ⟨15, _⟩ => ⟨S8192x1024, .bf16⟩
  | .hbm, ⟨16, _⟩ => ⟨S8x1024, .f32⟩
  | .local _ .vmem, ⟨0, _⟩ => ⟨S512x5632, .bf16⟩
  | .local _ .vmem, ⟨1, _⟩ => ⟨S512x5632, .bf16⟩
  | .local _ .vmem, ⟨2, _⟩ => ⟨S256x5632, .bf16⟩
  | .local _ .vmem, ⟨3, _⟩ => ⟨S768x5632, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnInRefIdeal.lean ====
abbrev S8192x5632 : Shape := ⟨2, ![8192, 5632]⟩
abbrev S1x1024x5632 : Shape := ⟨3, ![1, 1024, 5632]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S6x1024 : Shape := ⟨2, ![6, 1024]⟩
abbrev S8x1024 : Shape := ⟨2, ![8, 1024]⟩

abbrev nBuf : Space → Nat
  | .hbm => 105
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1x1024x5632, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S1024x5632, .f32⟩
  | .hbm, ⟨48, _⟩ => ⟨S8192x5632, .f32⟩
  | .hbm, ⟨49, _⟩ => ⟨S8192x5632, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x1024, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S1x1024, .f32⟩
  | .hbm, ⟨100, _⟩ => ⟨S1x1024, .f32⟩
  | .hbm, ⟨101, _⟩ => ⟨S_, .f32⟩
  | .hbm, ⟨102, _⟩ => ⟨S6x1024, .f32⟩
  | .hbm, ⟨103, _⟩ => ⟨S8x1024, .f32⟩
  | .hbm, ⟨104, _⟩ => ⟨S8192x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_cst_15 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_16 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_17 : Ref sig .tc := ⟨.hbm, 92, rfl⟩
abbrev main_v68 : Ref sig .tc := ⟨.hbm, 93, rfl⟩
abbrev main_v69 : Ref sig .tc := ⟨.hbm, 94, rfl⟩
abbrev main_cst_18 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_19 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]
-- ==== Loss.lean ====
abbrev S8192x2816 : Shape := ⟨2, ![8192, 2816]⟩
abbrev S1x2816x1024 : Shape := ⟨3, ![1, 2816, 1024]⟩
abbrev S8192x1024 : Shape := ⟨2, ![8192, 1024]⟩
abbrev S1x1024 : Shape := ⟨2, ![1, 1024]⟩
abbrev S2816x1024 : Shape := ⟨2, ![2816, 1024]⟩
abbrev S1024 : Shape := ⟨1, ![1024]⟩
abbrev S8x1024 : Shape := ⟨2, ![8, 1024]⟩
abbrev S512x2816 : Shape := ⟨2, ![512, 2816]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 21
  | .vmem => 16
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S2816x1024, .f32⟩
  | .hbm, ⟨9, _⟩ => ⟨S2816x1024, .bf16⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S8192x1024, .f32⟩
  | .hbm, ⟨19, _⟩ => ⟨S8192x1024, .bf16⟩
  | .hbm, ⟨20, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LossRefIdeal.lean ====
abbrev S8192x2816 : Shape := ⟨2, ![8192, 2816]⟩
abbrev S1x2816x1024 : Shape := ⟨3, ![1, 2816, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S2816x1024 : Shape := ⟨2, ![2816, 1024]⟩
abbrev S5x1024 : Shape := ⟨2, ![5, 1024]⟩
abbrev S8x1024 : Shape := ⟨2, ![8, 1024]⟩

abbrev nBuf : Space → Nat
  | .hbm => 193
  | .vmem => 0
  | .smem => 0
  | _ => 0

abbrev hbmTy0_0 (i : Nat) : BufTy := match i % 128 with
  | 0 => ⟨S8192x2816, .bf16⟩
  | 1 => ⟨S1x2816x1024, .f32⟩
  | 2 => ⟨S8192x1024, .f32⟩
  | 3 => ⟨S8192x1024, .f32⟩
  | 4 => ⟨S1x1024, .f32⟩
  | 5 => ⟨S1x1024, .f32⟩
  | 6 => ⟨S1x1024, .f32⟩
  | 7 => ⟨S1x1024, .f32⟩
  | 8 => ⟨S1024, .f32⟩
  | 9 => ⟨S1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S8192x1024, .f32⟩
  | 17 => ⟨S8192x1024, .f32⟩
  | 18 => ⟨S8192x1024, .f32⟩
  | 19 => ⟨S_, .f32⟩
  | 20 => ⟨S8192, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S_, .f32⟩
  | 28 => ⟨S8192x1, .f32⟩
  | 29 => ⟨S8192x1, .f32⟩
  | 30 => ⟨S8192x1, .f32⟩
  | 31 => ⟨S8192x1024, .f32⟩
  | 32 => ⟨S8192x1024, .f32⟩
  | 33 => ⟨S1x1024, .f32⟩
  | 34 => ⟨S8192x1024, .f32⟩
  | 35 => ⟨S8192x1024, .f32⟩
  | 36 => ⟨S1x1024, .f32⟩
  | 37 => ⟨S8192x1024, .f32⟩
  | 38 => ⟨S8192x1024, .f32⟩
  | 39 => ⟨S_, .f32⟩
  | 40 => ⟨S8192x1024, .f32⟩
  | 41 => ⟨S8192x1024, .f32⟩
  | 42 => ⟨S8192x2816, .f32⟩
  | 43 => ⟨S2816x1024, .f32⟩
  | 44 => ⟨S8192x1024, .f32⟩
  | 45 => ⟨S8192x1024, .f32⟩
  | 46 => ⟨S1024, .f32⟩
  | 47 => ⟨S1024, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S8192x1024, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S8192x1024, .f32⟩
  | 67 => ⟨S8192x1024, .f32⟩
  | 68 => ⟨S_, .f32⟩
  | 69 => ⟨S8192x1, .f32⟩
  | 70 => ⟨S8192x1, .f32⟩
  | 71 => ⟨S8192x1, .f32⟩
  | 72 => ⟨S8192x1, .f32⟩
  | 73 => ⟨S_, .f32⟩
  | 74 => ⟨S8192x1, .f32⟩
  | 75 => ⟨S8192x1, .f32⟩
  | 76 => ⟨S8192x1024, .f32⟩
  | 77 => ⟨S8192x1024, .f32⟩
  | 78 => ⟨S1x1024, .f32⟩
  | 79 => ⟨S8192x1024, .f32⟩
  | 80 => ⟨S8192x1024, .f32⟩
  | 81 => ⟨S1x1024, .f32⟩
  | 82 => ⟨S8192x1024, .f32⟩
  | 83 => ⟨S8192x1024, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S_, .f32⟩
  | 90 => ⟨S8192, .f32⟩
  | 91 => ⟨S_, .f32⟩
  | 92 => ⟨S8192, .f32⟩
  | 93 => ⟨S8192, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S8192, .f32⟩
  | 102 => ⟨S_, .f32⟩
  | 103 => ⟨S8192, .f32⟩
  | 104 => ⟨S8192, .f32⟩
  | 105 => ⟨S8192x1024, .f32⟩
  | 106 => ⟨S8192x1024, .f32⟩
  | 107 => ⟨S_, .f32⟩
  | 108 => ⟨S1024, .f32⟩
  | 109 => ⟨S1x1024, .f32⟩
  | 110 => ⟨S_, .f32⟩
  | 111 => ⟨S1024, .f32⟩
  | 112 => ⟨S8192x1024, .f32⟩
  | 113 => ⟨S_, .f32⟩
  | 114 => ⟨S1024, .f32⟩
  | 115 => ⟨S1x1024, .f32⟩
  | 116 => ⟨S8192x1024, .f32⟩
  | 117 => ⟨S8192x1024, .f32⟩
  | 118 => ⟨S_, .f32⟩
  | 119 => ⟨S1024, .f32⟩
  | 120 => ⟨S8192x1024, .f32⟩
  | 121 => ⟨S_, .f32⟩
  | 122 => ⟨S8192, .f32⟩
  | 123 => ⟨S8192x1, .f32⟩
  | 124 => ⟨S8192x1024, .f32⟩
  | 125 => ⟨S8192x1024, .f32⟩
  | 126 => ⟨S8192x1, .f32⟩
  | 127 => ⟨S8192x1024, .f32⟩
  | _ => ⟨S8192x2816, .bf16⟩

abbrev hbmTy0_1 (i : Nat) : BufTy := match i % 128 with
  | 0 => ⟨S_, .f32⟩
  | 1 => ⟨S8192, .f32⟩
  | 2 => ⟨S8192x1, .f32⟩
  | 3 => ⟨S_, .f32⟩
  | 4 => ⟨S8192x1, .f32⟩
  | 5 => ⟨S8192x1, .f32⟩
  | 6 => ⟨S_, .f32⟩
  | 7 => ⟨S8192, .f32⟩
  | 8 => ⟨S8192x1024, .f32⟩
  | 9 => ⟨S8192x1024, .f32⟩
  | 10 => ⟨S8192x1024, .f32⟩
  | 11 => ⟨S_, .f32⟩
  | 12 => ⟨S8192, .f32⟩
  | 13 => ⟨S8192x1, .f32⟩
  | 14 => ⟨S8192x1024, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192, .f32⟩
  | 21 => ⟨S8192x1024, .f32⟩
  | 22 => ⟨S8192x1024, .f32⟩
  | 23 => ⟨S1024, .f32⟩
  | 24 => ⟨S1024, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S8192x1024, .f32⟩
  | 32 => ⟨S8192x1024, .f32⟩
  | 33 => ⟨S8192x1024, .f32⟩
  | 34 => ⟨S_, .f32⟩
  | 35 => ⟨S8192, .f32⟩
  | 36 => ⟨S8192x1, .f32⟩
  | 37 => ⟨S_, .f32⟩
  | 38 => ⟨S8192x1, .f32⟩
  | 39 => ⟨S8192x1, .f32⟩
  | 40 => ⟨S8192x1024, .f32⟩
  | 41 => ⟨S8192x1024, .f32⟩
  | 42 => ⟨S_, .f32⟩
  | 43 => ⟨S8192x1, .f32⟩
  | 44 => ⟨S8192x1, .f32⟩
  | 45 => ⟨S8192x1, .f32⟩
  | 46 => ⟨S8192x1024, .f32⟩
  | 47 => ⟨S8192x1024, .f32⟩
  | 48 => ⟨S1x1024, .f32⟩
  | 49 => ⟨S8192x1024, .f32⟩
  | 50 => ⟨S8192x1024, .f32⟩
  | 51 => ⟨S1x1024, .f32⟩
  | 52 => ⟨S8192x1024, .f32⟩
  | 53 => ⟨S8192x1024, .f32⟩
  | 54 => ⟨S8192x1024, .f32⟩
  | 55 => ⟨S8192x1024, .f32⟩
  | 56 => ⟨S_, .f32⟩
  | 57 => ⟨S1024, .f32⟩
  | 58 => ⟨S1x1024, .f32⟩
  | 59 => ⟨S1x1024, .f32⟩
  | 60 => ⟨S1x1024, .f32⟩
  | 61 => ⟨S_, .f32⟩
  | 62 => ⟨S5x1024, .f32⟩
  | 63 => ⟨S8x1024, .f32⟩
  | 64 => ⟨S8192x1024, .bf16⟩
  | _ => ⟨S8192x2816, .bf16⟩

abbrev hbmTy (i : Nat) : BufTy := match i / 128 with
  | 0 => hbmTy0_0 i
  | 1 => hbmTy0_1 i
  | _ => ⟨S8192x2816, .bf16⟩

abbrev bufTy : (tb : Table) → Fin (tcTables nBuf tb) → BufTy
  | .hbm, ⟨i, _⟩ => hbmTy i
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_cst_13 : Ref sig .tc := ⟨.hbm, 89, rfl⟩
abbrev main_v67 : Ref sig .tc := ⟨.hbm, 90, rfl⟩
abbrev main_cst_14 : Ref sig .tc := ⟨.hbm, 91, rfl⟩
abbrev main_v68 : Ref sig .tc := ⟨.hbm, 92, rfl⟩
abbrev main_v69 : Ref sig .tc := ⟨.hbm, 93, rfl⟩
abbrev main_cst_15 : Ref sig .tc := ⟨.hbm, 94, rfl⟩
abbrev main_v70 : Ref sig .tc := ⟨.hbm, 95, rfl⟩
abbrev main_cst_16 : Ref sig .tc := ⟨.hbm, 96, rfl⟩
abbrev main_v71 : Ref sig .tc := ⟨.hbm, 97, rfl⟩
abbrev main_cst_17 : Ref sig .tc := ⟨.hbm, 98, rfl⟩
abbrev main_cst_18 : Ref sig .tc := ⟨.hbm, 99, rfl⟩
abbrev main_v72 : Ref sig .tc := ⟨.hbm, 100, rfl⟩
abbrev main_v73 : Ref sig .tc := ⟨.hbm, 101, rfl⟩
abbrev main_cst_19 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_20 : Ref sig .tc := ⟨.hbm, 107, rfl⟩
abbrev main_v78 : Ref sig .tc := ⟨.hbm, 108, rfl⟩
abbrev main_v79 : Ref sig .tc := ⟨.hbm, 109, rfl⟩
abbrev main_cst_21 : Ref sig .tc := ⟨.hbm, 110, rfl⟩
abbrev main_v80 : Ref sig .tc := ⟨.hbm, 111, rfl⟩
abbrev main_v81 : Ref sig .tc := ⟨.hbm, 112, rfl⟩
abbrev main_cst_22 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_23 : Ref sig .tc := ⟨.hbm, 118, rfl⟩
abbrev main_v86 : Ref sig .tc := ⟨.hbm, 119, rfl⟩
abbrev main_v87 : Ref sig .tc := ⟨.hbm, 120, rfl⟩
abbrev main_cst_24 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_25 : Ref sig .tc := ⟨.hbm, 128, rfl⟩
abbrev main_v94 : Ref sig .tc := ⟨.hbm, 129, rfl⟩
abbrev main_v95 : Ref sig .tc := ⟨.hbm, 130, rfl⟩
abbrev main_cst_26 : Ref sig .tc := ⟨.hbm, 131, rfl⟩
abbrev main_v96 : Ref sig .tc := ⟨.hbm, 132, rfl⟩
abbrev main_v97 : Ref sig .tc := ⟨.hbm, 133, rfl⟩
abbrev main_cst_27 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_28 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_29 : Ref sig .tc := ⟨.hbm, 144, rfl⟩
abbrev main_v106 : Ref sig .tc := ⟨.hbm, 145, rfl⟩
abbrev main_v107 : Ref sig .tc := ⟨.hbm, 146, rfl⟩
abbrev main_cst_30 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_31 : Ref sig .tc := ⟨.hbm, 153, rfl⟩
abbrev main_v113 : Ref sig .tc := ⟨.hbm, 154, rfl⟩
abbrev main_v114 : Ref sig .tc := ⟨.hbm, 155, rfl⟩
abbrev main_cst_32 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_cst_33 : Ref sig .tc := ⟨.hbm, 162, rfl⟩
abbrev main_v120 : Ref sig .tc := ⟨.hbm, 163, rfl⟩
abbrev main_v121 : Ref sig .tc := ⟨.hbm, 164, rfl⟩
abbrev main_cst_34 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_35 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_cst_36 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_cst_37 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩

abbrev nD : Nat := 1
abbrev τ : Topo := Topo.v7x

variable {F : FTy → Type} [FloatOps F]
-- ==== InGrad.lean ====
abbrev S8192x512 : Shape := ⟨2, ![8192, 512]⟩
abbrev S8192x1024 : Shape := ⟨2, ![8192, 1024]⟩
abbrev S1x1024x1536 : Shape := ⟨3, ![1, 1024, 1536]⟩
abbrev S1024x1536 : Shape := ⟨2, ![1024, 1536]⟩
abbrev S512x512 : Shape := ⟨2, ![512, 512]⟩
abbrev S16x512 : Shape := ⟨2, ![16, 512]⟩
abbrev S512x1024 : Shape := ⟨2, ![512, 1024]⟩
abbrev S512x1536 : Shape := ⟨2, ![512, 1536]⟩
abbrev S512x128 : Shape := ⟨2, ![512, 128]⟩
abbrev S16x128 : Shape := ⟨2, ![16, 128]⟩
abbrev S528x512 : Shape := ⟨2, ![528, 512]⟩
abbrev S528x384 : Shape := ⟨2, ![528, 384]⟩
abbrev S528x256 : Shape := ⟨2, ![528, 256]⟩
abbrev S528x128 : Shape := ⟨2, ![528, 128]⟩

abbrev nBuf : Space → Nat
  | .hbm => 8
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S8192x1024, .f32⟩
  | .hbm, ⟨3, _⟩ => ⟨S1x1024x1536, .f32⟩
  | .hbm, ⟨4, _⟩ => ⟨S1024x1536, .f32⟩
  | .hbm, ⟨5, _⟩ => ⟨S1024x1536, .bf16⟩
  | .hbm, ⟨6, _⟩ => ⟨S8192x1024, .f32⟩
  | .hbm, ⟨7, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1536, .bf16⟩
  | .local _ .vmem, ⟨9, _⟩ => ⟨S512x1024, .f32⟩
  | .local _ .vmem, ⟨10, _⟩ => ⟨S512x1024, .f32⟩
  | .local _ .vmem, ⟨11, _⟩ => ⟨S512x512, .bf16⟩
  | .local _ .vmem, ⟨12, _⟩ => ⟨S512x512, .bf16⟩
  | .local _ .vmem, ⟨13, _⟩ => ⟨S512x1536, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InGradRefIdeal.lean ====
abbrev S8192x512 : Shape := ⟨2, ![8192, 512]⟩
abbrev S8192x1024 : Shape := ⟨2, ![8192, 1024]⟩
abbrev S1x1024x1536 : Shape := ⟨3, ![1, 1024, 1536]⟩
abbrev S_ : Shape := ⟨0, ![]⟩
abbrev S4x2048x1024 : Shape := ⟨3, ![4, 2048, 1024]⟩
abbrev S4x2048x4x128 : Shape := ⟨4, ![4, 2048, 4, 128]⟩
abbrev S1024x1536 : Shape := ⟨2, ![1024, 1536]⟩
abbrev S4x2048x1536 : Shape := ⟨3, ![4, 2048, 1536]⟩
abbrev S4x2048x512 : Shape := ⟨3, ![4, 2048, 512]⟩
abbrev S4x1x512 : Shape := ⟨3, ![4, 1, 512]⟩
abbrev S4x2049x512 : Shape := ⟨3, ![4, 2049, 512]⟩
abbrev S2048 : Shape := ⟨1, ![2048]⟩
abbrev S4x2049x128 : Shape := ⟨3, ![4, 2049, 128]⟩
abbrev S4x1x128 : Shape := ⟨3, ![4, 1, 128]⟩
abbrev S4x2050x128 : Shape := ⟨3, ![4, 2050, 128]⟩
abbrev S4x2048x128 : Shape := ⟨3, ![4, 2048, 128]⟩
abbrev S1x2048x1 : Shape := ⟨3, ![1, 2048, 1]⟩
abbrev S4x3x128 : Shape := ⟨3, ![4, 3, 128]⟩
abbrev S4x2052x128 : Shape := ⟨3, ![4, 2052, 128]⟩
abbrev S4x7x128 : Shape := ⟨3, ![4, 7, 128]⟩
abbrev S4x2056x128 : Shape := ⟨3, ![4, 2056, 128]⟩
abbrev S4x15x128 : Shape := ⟨3, ![4, 15, 128]⟩
abbrev S4x2064x128 : Shape := ⟨3, ![4, 2064, 128]⟩
abbrev S4x2048x1x128 : Shape := ⟨4, ![4, 2048, 1, 128]⟩

abbrev nBuf : Space → Nat
  | .hbm => 370
  | .vmem => 0
  | .smem => 0
  | _ => 0

abbrev hbmTy0_0 (i : Nat) : BufTy := match i % 128 with
  | 0 => ⟨S8192x512, .f32⟩
  | 1 => ⟨S8192x1024, .bf16⟩
  | 2 => ⟨S8192x1024, .f32⟩
  | 3 => ⟨S1x1024x1536, .f32⟩
  | 4 => ⟨S_, .f32⟩
  | 5 => ⟨S4x2048x1024, .f32⟩
  | 6 => ⟨S4x2048x1024, .f32⟩
  | 7 => ⟨S4x2048x4x128, .f32⟩
  | 8 => ⟨S8192x1024, .f32⟩
  | 9 => ⟨S4x2048x1024, .f32⟩
  | 10 => ⟨S1024x1536, .f32⟩
  | 11 => ⟨S4x2048x1536, .f32⟩
  | 12 => ⟨S4x2048x512, .f32⟩
  | 13 => ⟨S4x2048x1024, .f32⟩
  | 14 => ⟨S_, .f32⟩
  | 15 => ⟨S4x2048x1024, .f32⟩
  | 16 => ⟨S4x2048x1024, .f32⟩
  | 17 => ⟨S_, .f32⟩
  | 18 => ⟨S4x1x512, .f32⟩
  | 19 => ⟨S_, .f32⟩
  | 20 => ⟨S_, .f32⟩
  | 21 => ⟨S4x2048x512, .f32⟩
  | 22 => ⟨S4x2049x512, .f32⟩
  | 23 => ⟨S_, .f32⟩
  | 24 => ⟨S4x1x512, .f32⟩
  | 25 => ⟨S2048, .i32⟩
  | 26 => ⟨S_, .i32⟩
  | 27 => ⟨S2048, .i32⟩
  | 28 => ⟨S2048, .i32⟩
  | 29 => ⟨S4x2049x128, .f32⟩
  | 30 => ⟨S_, .f32⟩
  | 31 => ⟨S4x1x128, .f32⟩
  | 32 => ⟨S4x2050x128, .f32⟩
  | 33 => ⟨S_, .f32⟩
  | 34 => ⟨S4x1x128, .f32⟩
  | 35 => ⟨S4x2048x128, .f32⟩
  | 36 => ⟨S_, .i32⟩
  | 37 => ⟨S2048, .i32⟩
  | 38 => ⟨S2048, .i32⟩
  | 39 => ⟨S2048, .f32⟩
  | 40 => ⟨S1x2048x1, .f32⟩
  | 41 => ⟨S4x2048x128, .f32⟩
  | 42 => ⟨S4x2048x128, .f32⟩
  | 43 => ⟨S4x2048x128, .f32⟩
  | 44 => ⟨S4x2048x128, .f32⟩
  | 45 => ⟨S4x2048x128, .f32⟩
  | 46 => ⟨S4x2048x128, .f32⟩
  | 47 => ⟨S4x2049x128, .f32⟩
  | 48 => ⟨S_, .f32⟩
  | 49 => ⟨S4x3x128, .f32⟩
  | 50 => ⟨S4x2052x128, .f32⟩
  | 51 => ⟨S_, .f32⟩
  | 52 => ⟨S4x3x128, .f32⟩
  | 53 => ⟨S4x2048x128, .f32⟩
  | 54 => ⟨S_, .i32⟩
  | 55 => ⟨S2048, .i32⟩
  | 56 => ⟨S2048, .i32⟩
  | 57 => ⟨S2048, .f32⟩
  | 58 => ⟨S1x2048x1, .f32⟩
  | 59 => ⟨S4x2048x128, .f32⟩
  | 60 => ⟨S4x2048x128, .f32⟩
  | 61 => ⟨S4x2048x128, .f32⟩
  | 62 => ⟨S4x2048x128, .f32⟩
  | 63 => ⟨S4x2048x128, .f32⟩
  | 64 => ⟨S4x2048x128, .f32⟩
  | 65 => ⟨S4x2049x128, .f32⟩
  | 66 => ⟨S_, .f32⟩
  | 67 => ⟨S4x7x128, .f32⟩
  | 68 => ⟨S4x2056x128, .f32⟩
  | 69 => ⟨S_, .f32⟩
  | 70 => ⟨S4x7x128, .f32⟩
  | 71 => ⟨S4x2048x128, .f32⟩
  | 72 => ⟨S_, .i32⟩
  | 73 => ⟨S2048, .i32⟩
  | 74 => ⟨S2048, .i32⟩
  | 75 => ⟨S2048, .f32⟩
  | 76 => ⟨S1x2048x1, .f32⟩
  | 77 => ⟨S4x2048x128, .f32⟩
  | 78 => ⟨S4x2048x128, .f32⟩
  | 79 => ⟨S4x2048x128, .f32⟩
  | 80 => ⟨S4x2048x128, .f32⟩
  | 81 => ⟨S4x2048x128, .f32⟩
  | 82 => ⟨S4x2048x128, .f32⟩
  | 83 => ⟨S4x2049x128, .f32⟩
  | 84 => ⟨S_, .f32⟩
  | 85 => ⟨S4x15x128, .f32⟩
  | 86 => ⟨S4x2064x128, .f32⟩
  | 87 => ⟨S_, .f32⟩
  | 88 => ⟨S4x15x128, .f32⟩
  | 89 => ⟨S4x2048x128, .f32⟩
  | 90 => ⟨S_, .i32⟩
  | 91 => ⟨S2048, .i32⟩
  | 92 => ⟨S2048, .i32⟩
  | 93 => ⟨S2048, .f32⟩
  | 94 => ⟨S1x2048x1, .f32⟩
  | 95 => ⟨S4x2048x128, .f32⟩
  | 96 => ⟨S4x2048x128, .f32⟩
  | 97 => ⟨S4x2048x128, .f32⟩
  | 98 => ⟨S4x2048x128, .f32⟩
  | 99 => ⟨S4x2048x128, .f32⟩
  | 100 => ⟨S4x2048x128, .f32⟩
  | 101 => ⟨S4x2048x1x128, .f32⟩
  | 102 => ⟨S4x2048x1x128, .f32⟩
  | 103 => ⟨S4x2048x1x128, .f32⟩
  | 104 => ⟨S4x2048x1x128, .f32⟩
  | 105 => ⟨S4x2048x4x128, .f32⟩
  | 106 => ⟨S4x2048x1x128, .f32⟩
  | 107 => ⟨S4x2048x128, .f32⟩
  | 108 => ⟨S4x2048x1x128, .f32⟩
  | 109 => ⟨S4x2048x128, .f32⟩
  | 110 => ⟨S4x2048x1x128, .f32⟩
  | 111 => ⟨S4x2048x128, .f32⟩
  | 112 => ⟨S4x2048x1x128, .f32⟩
  | 113 => ⟨S4x2048x128, .f32⟩
  | 114 => ⟨S4x2048x128, .f32⟩
  | 115 => ⟨S_, .f32⟩
  | 116 => ⟨S4x2048x512, .f32⟩
  | 117 => ⟨S4x2048x128, .f32⟩
  | 118 => ⟨S4x2048x128, .f32⟩
  | 119 => ⟨S4x2048x128, .f32⟩
  | 120 => ⟨S_, .f32⟩
  | 121 => ⟨S4x2049x128, .f32⟩
  | 122 => ⟨S_, .f32⟩
  | 123 => ⟨S4x2064x128, .f32⟩
  | 124 => ⟨S4x15x128, .f32⟩
  | 125 => ⟨S4x2049x128, .f32⟩
  | 126 => ⟨S4x2049x128, .f32⟩
  | 127 => ⟨S_, .f32⟩
  | _ => ⟨S8192x512, .f32⟩

abbrev hbmTy0_1 (i : Nat) : BufTy := match i % 128 with
  | 0 => ⟨S4x2049x512, .f32⟩
  | 1 => ⟨S4x2048x128, .f32⟩
  | 2 => ⟨S_, .f32⟩
  | 3 => ⟨S4x2048x512, .f32⟩
  | 4 => ⟨S4x2048x512, .f32⟩
  | 5 => ⟨S4x2048x128, .f32⟩
  | 6 => ⟨S4x2048x128, .f32⟩
  | 7 => ⟨S4x2048x128, .f32⟩
  | 8 => ⟨S_, .f32⟩
  | 9 => ⟨S4x2049x128, .f32⟩
  | 10 => ⟨S_, .f32⟩
  | 11 => ⟨S4x2056x128, .f32⟩
  | 12 => ⟨S4x7x128, .f32⟩
  | 13 => ⟨S4x2049x128, .f32⟩
  | 14 => ⟨S4x2049x128, .f32⟩
  | 15 => ⟨S_, .f32⟩
  | 16 => ⟨S4x2049x512, .f32⟩
  | 17 => ⟨S4x2049x512, .f32⟩
  | 18 => ⟨S4x2048x128, .f32⟩
  | 19 => ⟨S_, .f32⟩
  | 20 => ⟨S4x2048x512, .f32⟩
  | 21 => ⟨S4x2048x512, .f32⟩
  | 22 => ⟨S4x2048x128, .f32⟩
  | 23 => ⟨S4x2048x128, .f32⟩
  | 24 => ⟨S4x2048x128, .f32⟩
  | 25 => ⟨S_, .f32⟩
  | 26 => ⟨S4x2049x128, .f32⟩
  | 27 => ⟨S_, .f32⟩
  | 28 => ⟨S4x2052x128, .f32⟩
  | 29 => ⟨S4x3x128, .f32⟩
  | 30 => ⟨S4x2049x128, .f32⟩
  | 31 => ⟨S4x2049x128, .f32⟩
  | 32 => ⟨S_, .f32⟩
  | 33 => ⟨S4x2049x512, .f32⟩
  | 34 => ⟨S4x2049x512, .f32⟩
  | 35 => ⟨S4x2048x128, .f32⟩
  | 36 => ⟨S_, .f32⟩
  | 37 => ⟨S4x2048x512, .f32⟩
  | 38 => ⟨S4x2048x512, .f32⟩
  | 39 => ⟨S4x2048x128, .f32⟩
  | 40 => ⟨S4x2048x128, .f32⟩
  | 41 => ⟨S4x2048x128, .f32⟩
  | 42 => ⟨S_, .f32⟩
  | 43 => ⟨S4x2049x128, .f32⟩
  | 44 => ⟨S_, .f32⟩
  | 45 => ⟨S4x2050x128, .f32⟩
  | 46 => ⟨S4x1x128, .f32⟩
  | 47 => ⟨S4x2049x128, .f32⟩
  | 48 => ⟨S4x2049x128, .f32⟩
  | 49 => ⟨S_, .f32⟩
  | 50 => ⟨S4x2049x512, .f32⟩
  | 51 => ⟨S4x2049x512, .f32⟩
  | 52 => ⟨S4x1x512, .f32⟩
  | 53 => ⟨S4x2048x512, .f32⟩
  | 54 => ⟨S_, .f32⟩
  | 55 => ⟨S_, .f32⟩
  | 56 => ⟨S4x2048x512, .f32⟩
  | 57 => ⟨S4x2048x512, .f32⟩
  | 58 => ⟨S_, .f32⟩
  | 59 => ⟨S4x2048x1024, .f32⟩
  | 60 => ⟨S4x2048x1024, .f32⟩
  | 61 => ⟨S_, .f32⟩
  | 62 => ⟨S4x2048x1536, .f32⟩
  | 63 => ⟨S_, .f32⟩
  | 64 => ⟨S4x2048x1536, .f32⟩
  | 65 => ⟨S4x2048x1536, .f32⟩
  | 66 => ⟨S4x2048x1024, .f32⟩
  | 67 => ⟨S4x2048x1024, .f32⟩
  | 68 => ⟨S_, .f32⟩
  | 69 => ⟨S4x2048x512, .f32⟩
  | 70 => ⟨S_, .f32⟩
  | 71 => ⟨S4x1x512, .f32⟩
  | 72 => ⟨S_, .f32⟩
  | 73 => ⟨S_, .f32⟩
  | 74 => ⟨S4x2048x512, .f32⟩
  | 75 => ⟨S4x2049x512, .f32⟩
  | 76 => ⟨S_, .f32⟩
  | 77 => ⟨S4x1x512, .f32⟩
  | 78 => ⟨S2048, .i32⟩
  | 79 => ⟨S_, .i32⟩
  | 80 => ⟨S2048, .i32⟩
  | 81 => ⟨S2048, .i32⟩
  | 82 => ⟨S4x2049x128, .f32⟩
  | 83 => ⟨S_, .f32⟩
  | 84 => ⟨S4x1x128, .f32⟩
  | 85 => ⟨S4x2050x128, .f32⟩
  | 86 => ⟨S_, .f32⟩
  | 87 => ⟨S4x1x128, .f32⟩
  | 88 => ⟨S4x2048x128, .f32⟩
  | 89 => ⟨S_, .i32⟩
  | 90 => ⟨S2048, .i32⟩
  | 91 => ⟨S2048, .i32⟩
  | 92 => ⟨S2048, .f32⟩
  | 93 => ⟨S1x2048x1, .f32⟩
  | 94 => ⟨S4x2048x128, .f32⟩
  | 95 => ⟨S4x2048x128, .f32⟩
  | 96 => ⟨S4x2048x128, .f32⟩
  | 97 => ⟨S4x2048x128, .f32⟩
  | 98 => ⟨S4x2048x128, .f32⟩
  | 99 => ⟨S4x2048x128, .f32⟩
  | 100 => ⟨S4x2049x128, .f32⟩
  | 101 => ⟨S_, .f32⟩
  | 102 => ⟨S4x3x128, .f32⟩
  | 103 => ⟨S4x2052x128, .f32⟩
  | 104 => ⟨S_, .f32⟩
  | 105 => ⟨S4x3x128, .f32⟩
  | 106 => ⟨S4x2048x128, .f32⟩
  | 107 => ⟨S_, .i32⟩
  | 108 => ⟨S2048, .i32⟩
  | 109 => ⟨S2048, .i32⟩
  | 110 => ⟨S2048, .f32⟩
  | 111 => ⟨S1x2048x1, .f32⟩
  | 112 => ⟨S4x2048x128, .f32⟩
  | 113 => ⟨S4x2048x128, .f32⟩
  | 114 => ⟨S4x2048x128, .f32⟩
  | 115 => ⟨S4x2048x128, .f32⟩
  | 116 => ⟨S4x2048x128, .f32⟩
  | 117 => ⟨S4x2048x128, .f32⟩
  | 118 => ⟨S4x2049x128, .f32⟩
  | 119 => ⟨S_, .f32⟩
  | 120 => ⟨S4x7x128, .f32⟩
  | 121 => ⟨S4x2056x128, .f32⟩
  | 122 => ⟨S_, .f32⟩
  | 123 => ⟨S4x7x128, .f32⟩
  | 124 => ⟨S4x2048x128, .f32⟩
  | 125 => ⟨S_, .i32⟩
  | 126 => ⟨S2048, .i32⟩
  | 127 => ⟨S2048, .i32⟩
  | _ => ⟨S8192x512, .f32⟩

abbrev hbmTy0_2 (i : Nat) : BufTy := match i % 128 with
  | 0 => ⟨S2048, .f32⟩
  | 1 => ⟨S1x2048x1, .f32⟩
  | 2 => ⟨S4x2048x128, .f32⟩
  | 3 => ⟨S4x2048x128, .f32⟩
  | 4 => ⟨S4x2048x128, .f32⟩
  | 5 => ⟨S4x2048x128, .f32⟩
  | 6 => ⟨S4x2048x128, .f32⟩
  | 7 => ⟨S4x2048x128, .f32⟩
  | 8 => ⟨S4x2049x128, .f32⟩
  | 9 => ⟨S_, .f32⟩
  | 10 => ⟨S4x15x128, .f32⟩
  | 11 => ⟨S4x2064x128, .f32⟩
  | 12 => ⟨S_, .f32⟩
  | 13 => ⟨S4x15x128, .f32⟩
  | 14 => ⟨S4x2048x128, .f32⟩
  | 15 => ⟨S_, .i32⟩
  | 16 => ⟨S2048, .i32⟩
  | 17 => ⟨S2048, .i32⟩
  | 18 => ⟨S2048, .f32⟩
  | 19 => ⟨S1x2048x1, .f32⟩
  | 20 => ⟨S4x2048x128, .f32⟩
  | 21 => ⟨S4x2048x128, .f32⟩
  | 22 => ⟨S4x2048x128, .f32⟩
  | 23 => ⟨S4x2048x128, .f32⟩
  | 24 => ⟨S4x2048x128, .f32⟩
  | 25 => ⟨S4x2048x128, .f32⟩
  | 26 => ⟨S4x2048x1x128, .f32⟩
  | 27 => ⟨S4x2048x1x128, .f32⟩
  | 28 => ⟨S4x2048x1x128, .f32⟩
  | 29 => ⟨S4x2048x1x128, .f32⟩
  | 30 => ⟨S4x2048x4x128, .f32⟩
  | 31 => ⟨S4x2048x1x128, .f32⟩
  | 32 => ⟨S4x2048x128, .f32⟩
  | 33 => ⟨S4x2048x1x128, .f32⟩
  | 34 => ⟨S4x2048x128, .f32⟩
  | 35 => ⟨S4x2048x1x128, .f32⟩
  | 36 => ⟨S4x2048x128, .f32⟩
  | 37 => ⟨S4x2048x1x128, .f32⟩
  | 38 => ⟨S4x2048x128, .f32⟩
  | 39 => ⟨S4x2048x128, .f32⟩
  | 40 => ⟨S_, .f32⟩
  | 41 => ⟨S4x2048x512, .f32⟩
  | 42 => ⟨S4x2048x128, .f32⟩
  | 43 => ⟨S4x2048x128, .f32⟩
  | 44 => ⟨S4x2048x128, .f32⟩
  | 45 => ⟨S_, .f32⟩
  | 46 => ⟨S4x2049x128, .f32⟩
  | 47 => ⟨S_, .f32⟩
  | 48 => ⟨S4x2064x128, .f32⟩
  | 49 => ⟨S4x15x128, .f32⟩
  | 50 => ⟨S4x2049x128, .f32⟩
  | 51 => ⟨S4x2049x128, .f32⟩
  | 52 => ⟨S_, .f32⟩
  | 53 => ⟨S4x2049x512, .f32⟩
  | 54 => ⟨S4x2048x128, .f32⟩
  | 55 => ⟨S_, .f32⟩
  | 56 => ⟨S4x2048x512, .f32⟩
  | 57 => ⟨S4x2048x512, .f32⟩
  | 58 => ⟨S4x2048x128, .f32⟩
  | 59 => ⟨S4x2048x128, .f32⟩
  | 60 => ⟨S4x2048x128, .f32⟩
  | 61 => ⟨S_, .f32⟩
  | 62 => ⟨S4x2049x128, .f32⟩
  | 63 => ⟨S_, .f32⟩
  | 64 => ⟨S4x2056x128, .f32⟩
  | 65 => ⟨S4x7x128, .f32⟩
  | 66 => ⟨S4x2049x128, .f32⟩
  | 67 => ⟨S4x2049x128, .f32⟩
  | 68 => ⟨S_, .f32⟩
  | 69 => ⟨S4x2049x512, .f32⟩
  | 70 => ⟨S4x2049x512, .f32⟩
  | 71 => ⟨S4x2048x128, .f32⟩
  | 72 => ⟨S_, .f32⟩
  | 73 => ⟨S4x2048x512, .f32⟩
  | 74 => ⟨S4x2048x512, .f32⟩
  | 75 => ⟨S4x2048x128, .f32⟩
  | 76 => ⟨S4x2048x128, .f32⟩
  | 77 => ⟨S4x2048x128, .f32⟩
  | 78 => ⟨S_, .f32⟩
  | 79 => ⟨S4x2049x128, .f32⟩
  | 80 => ⟨S_, .f32⟩
  | 81 => ⟨S4x2052x128, .f32⟩
  | 82 => ⟨S4x3x128, .f32⟩
  | 83 => ⟨S4x2049x128, .f32⟩
  | 84 => ⟨S4x2049x128, .f32⟩
  | 85 => ⟨S_, .f32⟩
  | 86 => ⟨S4x2049x512, .f32⟩
  | 87 => ⟨S4x2049x512, .f32⟩
  | 88 => ⟨S4x2048x128, .f32⟩
  | 89 => ⟨S_, .f32⟩
  | 90 => ⟨S4x2048x512, .f32⟩
  | 91 => ⟨S4x2048x512, .f32⟩
  | 92 => ⟨S4x2048x128, .f32⟩
  | 93 => ⟨S4x2048x128, .f32⟩
  | 94 => ⟨S4x2048x128, .f32⟩
  | 95 => ⟨S_, .f32⟩
  | 96 => ⟨S4x2049x128, .f32⟩
  | 97 => ⟨S_, .f32⟩
  | 98 => ⟨S4x2050x128, .f32⟩
  | 99 => ⟨S4x1x128, .f32⟩
  | 100 => ⟨S4x2049x128, .f32⟩
  | 101 => ⟨S4x2049x128, .f32⟩
  | 102 => ⟨S_, .f32⟩
  | 103 => ⟨S4x2049x512, .f32⟩
  | 104 => ⟨S4x2049x512, .f32⟩
  | 105 => ⟨S4x1x512, .f32⟩
  | 106 => ⟨S4x2048x512, .f32⟩
  | 107 => ⟨S_, .f32⟩
  | 108 => ⟨S_, .f32⟩
  | 109 => ⟨S4x2048x512, .f32⟩
  | 110 => ⟨S4x2048x512, .f32⟩
  | 111 => ⟨S8192x1024, .f32⟩
  | 112 => ⟨S8192x512, .f32⟩
  | 113 => ⟨S8192x512, .bf16⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_call0_call0_cst : Ref sig .tc := ⟨.hbm, 19, rfl⟩
abbrev main_call0_call0_v0 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_c_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩
abbrev main_cst_13 : Ref sig .tc := ⟨.hbm, 87, rfl⟩
abbrev main_v66 : Ref sig .tc := ⟨.hbm, 88, rfl⟩
abbrev main_v67 : Ref sig .tc := ⟨.hbm, 89, rfl⟩
abbrev main_c_14 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_15 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_16 : Ref sig .tc := ⟨.hbm, 120, rfl⟩
abbrev main_v96 : Ref sig .tc := ⟨.hbm, 121, rfl⟩
abbrev main_cst_17 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_18 : Ref sig .tc := ⟨.hbm, 127, rfl⟩
abbrev main_v101 : Ref sig .tc := ⟨.hbm, 128, rfl⟩
abbrev main_v102 : Ref sig .tc := ⟨.hbm, 129, rfl⟩
abbrev main_cst_19 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_20 : Ref sig .tc := ⟨.hbm, 136, rfl⟩
abbrev main_v108 : Ref sig .tc := ⟨.hbm, 137, rfl⟩
abbrev main_cst_21 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_22 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_23 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_24 : Ref sig .tc := ⟨.hbm, 153, rfl⟩
abbrev main_v121 : Ref sig .tc := ⟨.hbm, 154, rfl⟩
abbrev main_cst_25 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_cst_26 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_27 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_cst_28 : Ref sig .tc := ⟨.hbm, 170, rfl⟩
abbrev main_v134 : Ref sig .tc := ⟨.hbm, 171, rfl⟩
abbrev main_cst_29 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_cst_30 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_call1_call0_cst : Ref sig .tc := ⟨.hbm, 182, rfl⟩
abbrev main_call1_call0_v0 : Ref sig .tc := ⟨.hbm, 183, rfl⟩
abbrev main_v143 : Ref sig .tc := ⟨.hbm, 184, rfl⟩
abbrev main_v144 : Ref sig .tc := ⟨.hbm, 185, rfl⟩
abbrev main_cst_31 : Ref sig .tc := ⟨.hbm, 186, rfl⟩
abbrev main_v145 : Ref sig .tc := ⟨.hbm, 187, rfl⟩
abbrev main_v146 : Ref sig .tc := ⟨.hbm, 188, rfl⟩
abbrev main_cst_32 : Ref sig .tc := ⟨.hbm, 189, rfl⟩
abbrev main_v147 : Ref sig .tc := ⟨.hbm, 190, rfl⟩
abbrev main_cst_33 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_cst_34 : Ref sig .tc := ⟨.hbm, 196, rfl⟩
abbrev main_v152 : Ref sig .tc := ⟨.hbm, 197, rfl⟩
abbrev main_cst_35 : Ref sig .tc := ⟨.hbm, 198, rfl⟩
abbrev main_v153 : Ref sig .tc := ⟨.hbm, 199, rfl⟩
abbrev main_call2_call0_cst : Ref sig .tc := ⟨.hbm, 200, rfl⟩
abbrev main_call2_call0_v0 : Ref sig .tc := ⟨.hbm, 201, rfl⟩
abbrev main_v154 : Ref sig .tc := ⟨.hbm, 202, rfl⟩
abbrev main_v155 : Ref sig .tc := ⟨.hbm, 203, rfl⟩
abbrev main_cst_36 : Ref sig .tc := ⟨.hbm, 204, rfl⟩
abbrev main_v156 : Ref sig .tc := ⟨.hbm, 205, rfl⟩
abbrev main_v157 : Ref sig .tc := ⟨.hbm, 206, rfl⟩
abbrev main_c_37 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_cst_38 : Ref sig .tc := ⟨.hbm, 211, rfl⟩
abbrev main_v161 : Ref sig .tc := ⟨.hbm, 212, rfl⟩
abbrev main_v162 : Ref sig .tc := ⟨.hbm, 213, rfl⟩
abbrev main_cst_39 : Ref sig .tc := ⟨.hbm, 214, rfl⟩
abbrev main_v163 : Ref sig .tc := ⟨.hbm, 215, rfl⟩
abbrev main_v164 : Ref sig .tc := ⟨.hbm, 216, rfl⟩
abbrev main_c_40 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_cst_41 : Ref sig .tc := ⟨.hbm, 229, rfl⟩
abbrev main_v176 : Ref sig .tc := ⟨.hbm, 230, rfl⟩
abbrev main_v177 : Ref sig .tc := ⟨.hbm, 231, rfl⟩
abbrev main_cst_42 : Ref sig .tc := ⟨.hbm, 232, rfl⟩
abbrev main_v178 : Ref sig .tc := ⟨.hbm, 233, rfl⟩
abbrev main_v179 : Ref sig .tc := ⟨.hbm, 234, rfl⟩
abbrev main_c_43 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_cst_44 : Ref sig .tc := ⟨.hbm, 247, rfl⟩
abbrev main_v191 : Ref sig .tc := ⟨.hbm, 248, rfl⟩
abbrev main_v192 : Ref sig .tc := ⟨.hbm, 249, rfl⟩
abbrev main_cst_45 : Ref sig .tc := ⟨.hbm, 250, rfl⟩
abbrev main_v193 : Ref sig .tc := ⟨.hbm, 251, rfl⟩
abbrev main_v194 : Ref sig .tc := ⟨.hbm, 252, rfl⟩
abbrev main_c_46 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_cst_47 : Ref sig .tc := ⟨.hbm, 265, rfl⟩
abbrev main_v206 : Ref sig .tc := ⟨.hbm, 266, rfl⟩
abbrev main_v207 : Ref sig .tc := ⟨.hbm, 267, rfl⟩
abbrev main_cst_48 : Ref sig .tc := ⟨.hbm, 268, rfl⟩
abbrev main_v208 : Ref sig .tc := ⟨.hbm, 269, rfl⟩
abbrev main_v209 : Ref sig .tc := ⟨.hbm, 270, rfl⟩
abbrev main_c_49 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_cst_50 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_cst_51 : Ref sig .tc := ⟨.hbm, 301, rfl⟩
abbrev main_v238 : Ref sig .tc := ⟨.hbm, 302, rfl⟩
abbrev main_cst_52 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_cst_53 : Ref sig .tc := ⟨.hbm, 308, rfl⟩
abbrev main_v243 : Ref sig .tc := ⟨.hbm, 309, rfl⟩
abbrev main_v244 : Ref sig .tc := ⟨.hbm, 310, rfl⟩
abbrev main_cst_54 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_cst_55 : Ref sig .tc := ⟨.hbm, 317, rfl⟩
abbrev main_v250 : Ref sig .tc := ⟨.hbm, 318, rfl⟩
abbrev main_cst_56 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_cst_57 : Ref sig .tc := ⟨.hbm, 324, rfl⟩
abbrev main_v255 : Ref sig .tc := ⟨.hbm, 325, rfl⟩
abbrev main_v256 : Ref sig .tc := ⟨.hbm, 326, rfl⟩
abbrev main_v257 : Ref sig .tc := ⟨.hbm, 327, rfl⟩
abbrev main_cst_58 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_v262 : Ref sig .tc := ⟨.hbm, 333, rfl⟩
abbrev main_cst_59 : Ref sig .tc := ⟨.hbm, 334, rfl⟩
abbrev main_v263 : Ref sig .tc := ⟨.hbm, 335, rfl⟩
abbrev main_cst_60 : Ref sig .tc := ⟨.hbm, 336, rfl⟩
abbrev main_v264 : Ref sig .tc := ⟨.hbm, 337, rfl⟩
abbrev main_v265 : Ref sig .tc := ⟨.hbm, 338, rfl⟩
abbrev main_v266 : Ref sig .tc := ⟨.hbm, 339, rfl⟩
abbrev main_v267 : Ref sig .tc := ⟨.hbm, 340, rfl⟩
abbrev main_cst_61 : Ref sig .tc := ⟨.hbm, 341, rfl⟩
abbrev main_v268 : Ref sig .tc := ⟨.hbm, 342, rfl⟩
abbrev main_v269 : Ref sig .tc := ⟨.hbm, 343, rfl⟩
abbrev main_v270 : Ref sig .tc := ⟨.hbm, 344, rfl⟩
abbrev main_cst_62 : Ref sig .tc := ⟨.hbm, 345, rfl⟩
abbrev main_v271 : Ref sig .tc := ⟨.hbm, 346, rfl⟩
abbrev main_v272 : Ref sig .tc := ⟨.hbm, 347, rfl⟩
abbrev main_v273 : Ref sig .tc := ⟨.hbm, 348, rfl⟩
abbrev main_v274 : Ref sig .tc := ⟨.hbm, 349, rfl⟩
abbrev main_v275 : Ref sig .tc := ⟨.hbm, 350, rfl⟩
abbrev main_cst_63 : Ref sig .tc := ⟨.hbm, 351, rfl⟩
abbrev main_v276 : Ref sig .tc := ⟨.hbm, 352, rfl⟩
abbrev main_cst_64 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_v280 : Ref sig .tc := ⟨.hbm, 357, rfl⟩
abbrev main_cst_65 : Ref sig .tc := ⟨.hbm, 358, rfl⟩
abbrev main_v281 : Ref sig .tc := ⟨.hbm, 359, rfl⟩
abbrev main_v282 : Ref sig .tc := ⟨.hbm, 360, rfl⟩
abbrev main_v283 : Ref sig .tc := ⟨.hbm, 361, rfl⟩
abbrev main_v284 : Ref sig .tc := ⟨.hbm, 362, rfl⟩
abbrev main_call3_call0_cst : Ref sig .tc := ⟨.hbm, 363, rfl⟩
abbrev main_call3_call0_v0 : Ref sig .tc := ⟨.hbm, 364, rfl⟩
abbrev main_v285 : Ref sig .tc := ⟨.hbm, 365, rfl⟩
abbrev main_v286 : Ref sig .tc := ⟨.hbm, 366, rfl⟩
abbrev main_v287 : Ref sig .tc := ⟨.hbm, 367, rfl⟩
abbrev main_v288 : Ref sig .tc := ⟨.hbm, 368, rfl⟩
abbrev main_v289 : Ref sig .tc := ⟨.hbm, 369, rfl⟩

abbrev nD : Nat := 1
abbrev τ : Topo := Topo.v7x

variable {F : FTy → Type} [FloatOps F]
-- ==== Gate.lean ====
abbrev S8192x1024 : Shape := ⟨2, ![8192, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S256x5632 : Shape := ⟨2, ![256, 5632]⟩
abbrev S768x5632 : Shape := ⟨2, ![768, 5632]⟩
abbrev S8192x5632 : Shape := ⟨2, ![8192, 5632]⟩
abbrev S8192x2816 : Shape := ⟨2, ![8192, 2816]⟩
abbrev S512x1024 : Shape := ⟨2, ![512, 1024]⟩
abbrev S512x5632 : Shape := ⟨2, ![512, 5632]⟩
abbrev S512x2816 : Shape := ⟨2, ![512, 2816]⟩
abbrev S512x256 : Shape := ⟨2, ![512, 256]⟩
abbrev S512x768 : Shape := ⟨2, ![512, 768]⟩
abbrev S256x256 : Shape := ⟨2, ![256, 256]⟩
abbrev S768x256 : Shape := ⟨2, ![768, 256]⟩
abbrev S2816x1024 : Shape := ⟨2, ![2816, 1024]⟩
abbrev S256x1024 : Shape := ⟨2, ![256, 1024]⟩

abbrev nBuf : Space → Nat
  | .hbm => 13
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S1x1024x5632, .f32⟩
  | .hbm, ⟨2, _⟩ => ⟨S1x2816x1024, .f32⟩
  | .hbm, ⟨3, _⟩ => ⟨S8192x1024, .bf16⟩
  | .hbm, ⟨4, _⟩ => ⟨S1024x5632, .f32⟩
  | .hbm, ⟨5, _⟩ => ⟨S1024x5632, .bf16⟩
  | .hbm, ⟨6, _⟩ => ⟨S256x5632, .bf16⟩
  | .hbm, ⟨7, _⟩ => ⟨S768x5632, .bf16⟩
  | .hbm, ⟨8, _⟩ => ⟨S8192x5632, .bf16⟩
  | .hbm, ⟨9, _⟩ => ⟨S8192x2816, .bf16⟩
  | .hbm, ⟨10, _⟩ => ⟨S2816x1024, .f32⟩
  | .hbm, ⟨11, _⟩ => ⟨S2816x1024, .bf16⟩
  | .hbm, ⟨12, _⟩ => ⟨S8192x5632, .bf16⟩
  | .local _ .vmem, ⟨0, _⟩ => ⟨S512x1024, .bf16⟩
  | .local _ .vmem, ⟨1, _⟩ => ⟨S512x1024, .bf16⟩
  | .local _ .vmem, ⟨2, _⟩ => ⟨S256x5632, .bf16⟩
  | .local _ .vmem, ⟨3, _⟩ => ⟨S768x5632, .bf16⟩
  | .local _ .vmem, ⟨4, _⟩ => ⟨S512x5632, .bf16⟩
  | .local _ .vmem, ⟨5, _⟩ => ⟨S512x5632, .bf16⟩
  | .local _ .vmem, ⟨6, _⟩ => ⟨S512x2816, .bf16⟩
  | .local _ .vmem, ⟨7, _⟩ => ⟨S512x2816, .bf16⟩
  | .local _ .vmem, ⟨8, _⟩ => ⟨S512x1024, .bf16⟩
  | .local _ .vmem, ⟨9, _⟩ => ⟨S512x1024, .bf16⟩
  | .local _ .vmem, ⟨10, _⟩ => ⟨S512x5632, .bf16⟩
  | .local _ .vmem, ⟨11, _⟩ => ⟨S512x5632, .bf16⟩
  | .local _ .vmem, ⟨12, _⟩ => ⟨S2816x1024, .bf16⟩
  | .local _ .vmem, ⟨13, _⟩ => ⟨S512x5632, .bf16⟩
  | .local _ .vmem, ⟨14, _⟩ => ⟨S512x5632, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x5632 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2816x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x5632 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== GateRefIdeal.lean ====
abbrev S8192x1024 : Shape := ⟨2, ![8192, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩
abbrev S2816x1024 : Shape := ⟨2, ![2816, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x5632, .f32⟩
  | .hbm, ⟨2, _⟩ => ⟨S1x2816x1024, .f32⟩
  | .hbm, ⟨3, _⟩ => ⟨S8192x1024, .bf16⟩
  | .hbm, ⟨4, _⟩ => ⟨S8192x1024, .f32⟩
  | .hbm, ⟨5, _⟩ => ⟨S1024x5632, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S2816x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x5632, .f32⟩
  | .hbm, ⟨35, _⟩ => ⟨S_, .f32⟩
  | .hbm, ⟨36, _⟩ => ⟨S8192x5632, .f32⟩
  | .hbm, ⟨37, _⟩ => ⟨S8192x5632, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .bf16⟩
  | .hbm, ⟨51, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call2_v0 : Ref sig .tc := ⟨.hbm, 40, rfl⟩
abbrev main_call2_v1 : Ref sig .tc := ⟨.hbm, 41, rfl⟩
abbrev main_call2_cst : Ref sig .tc := ⟨.hbm, 42, rfl⟩
abbrev main_call2_v2 : Ref sig .tc := ⟨.hbm, 43, rfl⟩
abbrev main_call2_v3 : Ref sig .tc := ⟨.hbm, 44, rfl⟩
abbrev main_call2_cst_0 : Ref sig .tc := ⟨.hbm, 45, rfl⟩
abbrev main_call2_v4 : Ref sig .tc := ⟨.hbm, 46, rfl⟩
abbrev main_call2_v5 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩

abbrev nD : Nat := 1
abbrev τ : Topo := Topo.v7x

variable {F : FTy → Type} [FloatOps F]
-- ==== Mix.lean ====
abbrev S8192x1024 : Shape := ⟨2, ![8192, 1024]⟩
abbrev S8192x512 : Shape := ⟨2, ![8192, 512]⟩
abbrev S1x1024x1024 : Shape := ⟨3, ![1, 1024, 1024]⟩
abbrev S1x4x128x128 : Shape := ⟨4, ![1, 4, 128, 128]⟩
abbrev S1x512 : Shape := ⟨2, ![1, 512]⟩
abbrev S1x4x128 : Shape := ⟨3, ![1, 4, 128]⟩
abbrev S4x128x128 : Shape := ⟨3, ![4, 128, 128]⟩
abbrev S512 : Shape := ⟨1, ![512]⟩
abbrev S4x128 : Shape := ⟨2, ![4, 128]⟩
abbrev S4x128x1 : Shape := ⟨3, ![4, 128, 1]⟩
abbrev S1024x1024 : Shape := ⟨2, ![1024, 1024]⟩
abbrev S8x512 : Shape := ⟨2, ![8, 512]⟩
abbrev S512x1024 : Shape := ⟨2, ![512, 1024]⟩
abbrev S512x512 : Shape := ⟨2, ![512, 512]⟩
abbrev S16x512 : Shape := ⟨2, ![16, 512]⟩
abbrev S512x128 : Shape := ⟨2, ![512, 128]⟩
abbrev S528x512 : Shape := ⟨2, ![528, 512]⟩
abbrev S528x384 : Shape := ⟨2, ![528, 384]⟩
abbrev S528x256 : Shape := ⟨2, ![528, 256]⟩
abbrev S528x128 : Shape := ⟨2, ![528, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S512x1 : Shape := ⟨2, ![512, 1]⟩
abbrev S128x1 : Shape := ⟨2, ![128, 1]⟩

abbrev nBuf : Space → Nat
  | .hbm => 29
  | .vmem => 25
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S8192x1024, .bf16⟩
  | .hbm, ⟨3, _⟩ => ⟨S1x1024x1024, .f32⟩
  | .hbm, ⟨4, _⟩ => ⟨S1x4x128x128, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x4x128x128, .f32⟩
  | .hbm, ⟨9, _⟩ => ⟨S1x4x128, .f32⟩
  | .hbm, ⟨10, _⟩ => ⟨S4x128x128, .f32⟩
  | .hbm, ⟨11, _⟩ => ⟨S512, .f32⟩
  | .hbm, ⟨12, _⟩ => ⟨S1x512, .f32⟩
  | .hbm, ⟨13, _⟩ => ⟨S512, .f32⟩
  | .hbm, ⟨14, _⟩ => ⟨S1x512, .f32⟩
  | .hbm, ⟨15, _⟩ => ⟨S512, .f32⟩
  | .hbm, ⟨16, _⟩ => ⟨S1x512, .f32⟩
  | .hbm, ⟨17, _⟩ => ⟨S4x128x128, .f32⟩
  | .hbm, ⟨18, _⟩ => ⟨S4x128, .f32⟩
  | .hbm, ⟨19, _⟩ => ⟨S4x128x1, .f32⟩
  | .hbm, ⟨20, _⟩ => ⟨S4x128x128, .f32⟩
  | .hbm, ⟨21, _⟩ => ⟨S1024x1024, .f32⟩
  | .hbm, ⟨22, _⟩ => ⟨S1024x1024, .bf16⟩
  | .hbm, ⟨23, _⟩ => ⟨S8192x512, .f32⟩
  | .hbm, ⟨24, _⟩ => ⟨S8192x1024, .bf16⟩
  | .hbm, ⟨25, _⟩ => ⟨S4x128x128, .f32⟩
  | .hbm, ⟨26, _⟩ => ⟨S4x128x128, .f32⟩
  | .hbm, ⟨27, _⟩ => ⟨S4x128x128, .f32⟩
  | .hbm, ⟨28, _⟩ => ⟨S8x512, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S16x512, .f32⟩
  | .local _ .vmem, ⟨5, _⟩ => ⟨S16x512, .f32⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S4x128x128, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S4x128x128, .f32⟩
  | .local _ .vmem, ⟨14, _⟩ => ⟨S4x128x128, .f32⟩
  | .local _ .vmem, ⟨15, _⟩ => ⟨S512x512, .f32⟩
  | .local _ .vmem, ⟨16, _⟩ => ⟨S512x512, .f32⟩
  | .local _ .vmem, ⟨17, _⟩ => ⟨S512x1024, .bf16⟩
  | .local _ .vmem, ⟨18, _⟩ => ⟨S512x1024, .bf16⟩
  | .local _ .vmem, ⟨19, _⟩ => ⟨S4x128x128, .f32⟩
  | .local _ .vmem, ⟨20, _⟩ => ⟨S4x128x128, .f32⟩
  | .local _ .vmem, ⟨21, _⟩ => ⟨S4x128x128, .f32⟩
  | .local _ .vmem, ⟨22, _⟩ => ⟨S8x512, .f32⟩
  | .local _ .vmem, ⟨23, _⟩ => ⟨S512x512, .f32⟩
  | .local _ .vmem, ⟨24, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev main_v13_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem16_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MixIdeal.lean ====
variable {F : FTy → Type} [FloatOps F] [Named F]
def κ : String → Option EReal := fun
  | "density" => some (((9465531 / 8388608) * (2 * (Real.sqrt 2))⁻¹ : ℝ) : EReal)
  | "inv_sqrt_two" => some (((Real.sqrt 2)⁻¹ : ℝ) : EReal)
  | _ => none
-- ==== MixRefIdeal.lean ====
abbrev S8192x1024 : Shape := ⟨2, ![8192, 1024]⟩
abbrev S8192x512 : Shape := ⟨2, ![8192, 512]⟩
abbrev S1x1024x1024 : Shape := ⟨3, ![1, 1024, 1024]⟩
abbrev S1x4x128x128 : Shape := ⟨4, ![1, 4, 128, 128]⟩
abbrev S1x512 : Shape := ⟨2, ![1, 512]⟩
abbrev S1x4x128 : Shape := ⟨3, ![1, 4, 128]⟩
abbrev S4x2048x512 : Shape := ⟨3, ![4, 2048, 512]⟩
abbrev S_ : Shape := ⟨0, ![]⟩
abbrev S4x1x512 : Shape := ⟨3, ![4, 1, 512]⟩
abbrev S4x2049x512 : Shape := ⟨3, ![4, 2049, 512]⟩
abbrev S2048 : Shape := ⟨1, ![2048]⟩
abbrev S4x2049x128 : Shape := ⟨3, ![4, 2049, 128]⟩
abbrev S4x1x128 : Shape := ⟨3, ![4, 1, 128]⟩
abbrev S4x2050x128 : Shape := ⟨3, ![4, 2050, 128]⟩
abbrev S4x2048x128 : Shape := ⟨3, ![4, 2048, 128]⟩
abbrev S1x2048x1 : Shape := ⟨3, ![1, 2048, 1]⟩
abbrev S4x3x128 : Shape := ⟨3, ![4, 3, 128]⟩
abbrev S4x2052x128 : Shape := ⟨3, ![4, 2052, 128]⟩
abbrev S4x7x128 : Shape := ⟨3, ![4, 7, 128]⟩
abbrev S4x2056x128 : Shape := ⟨3, ![4, 2056, 128]⟩
abbrev S4x15x128 : Shape := ⟨3, ![4, 15, 128]⟩
abbrev S4x2064x128 : Shape := ⟨3, ![4, 2064, 128]⟩
abbrev S4x2048x1x128 : Shape := ⟨4, ![4, 2048, 1, 128]⟩
abbrev S4x2048x4x128 : Shape := ⟨4, ![4, 2048, 4, 128]⟩
abbrev S4x2048x1024 : Shape := ⟨3, ![4, 2048, 1024]⟩
abbrev S4x128x128 : Shape := ⟨3, ![4, 128, 128]⟩
abbrev S4x128x4x2048 : Shape := ⟨4, ![4, 128, 4, 2048]⟩
abbrev S512 : Shape := ⟨1, ![512]⟩
abbrev S1x1x512 : Shape := ⟨3, ![1, 1, 512]⟩
abbrev S4x128 : Shape := ⟨2, ![4, 128]⟩
abbrev S4x2048 : Shape := ⟨2, ![4, 2048]⟩
abbrev S4x2048x1 : Shape := ⟨3, ![4, 2048, 1]⟩
abbrev S4x16x128x4x128 : Shape := ⟨5, ![4, 16, 128, 4, 128]⟩
abbrev S128x128 : Shape := ⟨2, ![128, 128]⟩
abbrev S1x128x128 : Shape := ⟨3, ![1, 128, 128]⟩
abbrev S4x4x16x128x128 : Shape := ⟨5, ![4, 4, 16, 128, 128]⟩
abbrev S128x4 : Shape := ⟨2, ![128, 4]⟩
abbrev S1x1x128x4x1 : Shape := ⟨5, ![1, 1, 128, 4, 1]⟩
abbrev S1024x1024 : Shape := ⟨2, ![1024, 1024]⟩
abbrev S4x4x2048x128 : Shape := ⟨4, ![4, 4, 2048, 128]⟩
abbrev S5x512 : Shape := ⟨2, ![5, 512]⟩
abbrev S8x512 : Shape := ⟨2, ![8, 512]⟩
abbrev S4x128x1 : Shape := ⟨3, ![4, 128, 1]⟩

abbrev nBuf : Space → Nat
  | .hbm => 295
  | .vmem => 0
  | .smem => 0
  | _ => 0

abbrev hbmTy0_0 (i : Nat) : BufTy := match i % 128 with
  | 0 => ⟨S8192x1024, .bf16⟩
  | 1 => ⟨S8192x512, .f32⟩
  | 2 => ⟨S8192x1024, .bf16⟩
  | 3 => ⟨S1x1024x1024, .f32⟩
  | 4 => ⟨S1x4x128x128, .f32⟩
  | 5 => ⟨S1x512, .f32⟩
  | 6 => ⟨S1x512, .f32⟩
  | 7 => ⟨S1x512, .f32⟩
  | 8 => ⟨S1x4x128x128, .f32⟩
  | 9 => ⟨S1x4x128, .f32⟩
  | 10 => ⟨S4x2048x512, .f32⟩
  | 11 => ⟨S_, .f32⟩
  | 12 => ⟨S4x1x512, .f32⟩
  | 13 => ⟨S_, .f32⟩
  | 14 => ⟨S_, .f32⟩
  | 15 => ⟨S4x2048x512, .f32⟩
  | 16 => ⟨S4x2049x512, .f32⟩
  | 17 => ⟨S2048, .i32⟩
  | 18 => ⟨S_, .i32⟩
  | 19 => ⟨S2048, .i32⟩
  | 20 => ⟨S2048, .i32⟩
  | 21 => ⟨S4x2049x128, .f32⟩
  | 22 => ⟨S_, .f32⟩
  | 23 => ⟨S4x1x128, .f32⟩
  | 24 => ⟨S4x2050x128, .f32⟩
  | 25 => ⟨S4x2048x128, .f32⟩
  | 26 => ⟨S_, .i32⟩
  | 27 => ⟨S2048, .i32⟩
  | 28 => ⟨S2048, .i32⟩
  | 29 => ⟨S2048, .f32⟩
  | 30 => ⟨S1x2048x1, .f32⟩
  | 31 => ⟨S4x2048x128, .f32⟩
  | 32 => ⟨S4x2048x128, .f32⟩
  | 33 => ⟨S4x2048x128, .f32⟩
  | 34 => ⟨S4x2048x128, .f32⟩
  | 35 => ⟨S4x2048x128, .f32⟩
  | 36 => ⟨S4x2048x128, .f32⟩
  | 37 => ⟨S4x2049x128, .f32⟩
  | 38 => ⟨S_, .f32⟩
  | 39 => ⟨S4x3x128, .f32⟩
  | 40 => ⟨S4x2052x128, .f32⟩
  | 41 => ⟨S4x2048x128, .f32⟩
  | 42 => ⟨S_, .i32⟩
  | 43 => ⟨S2048, .i32⟩
  | 44 => ⟨S2048, .i32⟩
  | 45 => ⟨S2048, .f32⟩
  | 46 => ⟨S1x2048x1, .f32⟩
  | 47 => ⟨S4x2048x128, .f32⟩
  | 48 => ⟨S4x2048x128, .f32⟩
  | 49 => ⟨S4x2048x128, .f32⟩
  | 50 => ⟨S4x2048x128, .f32⟩
  | 51 => ⟨S4x2048x128, .f32⟩
  | 52 => ⟨S4x2048x128, .f32⟩
  | 53 => ⟨S4x2049x128, .f32⟩
  | 54 => ⟨S_, .f32⟩
  | 55 => ⟨S4x7x128, .f32⟩
  | 56 => ⟨S4x2056x128, .f32⟩
  | 57 => ⟨S4x2048x128, .f32⟩
  | 58 => ⟨S_, .i32⟩
  | 59 => ⟨S2048, .i32⟩
  | 60 => ⟨S2048, .i32⟩
  | 61 => ⟨S2048, .f32⟩
  | 62 => ⟨S1x2048x1, .f32⟩
  | 63 => ⟨S4x2048x128, .f32⟩
  | 64 => ⟨S4x2048x128, .f32⟩
  | 65 => ⟨S4x2048x128, .f32⟩
  | 66 => ⟨S4x2048x128, .f32⟩
  | 67 => ⟨S4x2048x128, .f32⟩
  | 68 => ⟨S4x2048x128, .f32⟩
  | 69 => ⟨S4x2049x128, .f32⟩
  | 70 => ⟨S_, .f32⟩
  | 71 => ⟨S4x15x128, .f32⟩
  | 72 => ⟨S4x2064x128, .f32⟩
  | 73 => ⟨S4x2048x128, .f32⟩
  | 74 => ⟨S_, .i32⟩
  | 75 => ⟨S2048, .i32⟩
  | 76 => ⟨S2048, .i32⟩
  | 77 => ⟨S2048, .f32⟩
  | 78 => ⟨S1x2048x1, .f32⟩
  | 79 => ⟨S4x2048x128, .f32⟩
  | 80 => ⟨S4x2048x128, .f32⟩
  | 81 => ⟨S4x2048x128, .f32⟩
  | 82 => ⟨S4x2048x128, .f32⟩
  | 83 => ⟨S4x2048x128, .f32⟩
  | 84 => ⟨S4x2048x128, .f32⟩
  | 85 => ⟨S4x2048x1x128, .f32⟩
  | 86 => ⟨S4x2048x1x128, .f32⟩
  | 87 => ⟨S4x2048x1x128, .f32⟩
  | 88 => ⟨S4x2048x1x128, .f32⟩
  | 89 => ⟨S4x2048x4x128, .f32⟩
  | 90 => ⟨S8192x1024, .f32⟩
  | 91 => ⟨S4x2048x1024, .f32⟩
  | 92 => ⟨S_, .f32⟩
  | 93 => ⟨S4x2048x1024, .f32⟩
  | 94 => ⟨S4x2048x1024, .f32⟩
  | 95 => ⟨S4x2048x1024, .f32⟩
  | 96 => ⟨S_, .f32⟩
  | 97 => ⟨S_, .f32⟩
  | 98 => ⟨S4x2048x1024, .f32⟩
  | 99 => ⟨S4x2048x1024, .f32⟩
  | 100 => ⟨S4x2048x1024, .f32⟩
  | 101 => ⟨S4x2048x1024, .f32⟩
  | 102 => ⟨S4x2048x1024, .f32⟩
  | 103 => ⟨S4x2048x1024, .f32⟩
  | 104 => ⟨S4x2048x1024, .f32⟩
  | 105 => ⟨S4x128x128, .f32⟩
  | 106 => ⟨S4x128x4x2048, .f32⟩
  | 107 => ⟨S4x2048x4x128, .f32⟩
  | 108 => ⟨S4x2048x512, .f32⟩
  | 109 => ⟨S512, .f32⟩
  | 110 => ⟨S1x1x512, .f32⟩
  | 111 => ⟨S4x2048x512, .f32⟩
  | 112 => ⟨S4x2048x512, .f32⟩
  | 113 => ⟨S512, .f32⟩
  | 114 => ⟨S512, .f32⟩
  | 115 => ⟨S4x128x128, .f32⟩
  | 116 => ⟨S4x128, .f32⟩
  | 117 => ⟨S4x2048x512, .f32⟩
  | 118 => ⟨S4x2048x512, .f32⟩
  | 119 => ⟨S_, .f32⟩
  | 120 => ⟨S4x2048, .f32⟩
  | 121 => ⟨S4x2048x1, .f32⟩
  | 122 => ⟨S_, .f32⟩
  | 123 => ⟨S4x2048x1, .f32⟩
  | 124 => ⟨S4x2048x1, .f32⟩
  | 125 => ⟨S4x2048x512, .f32⟩
  | 126 => ⟨S4x2048x512, .f32⟩
  | 127 => ⟨S4x2048x512, .f32⟩
  | _ => ⟨S8192x1024, .bf16⟩

abbrev hbmTy0_1 (i : Nat) : BufTy := match i % 128 with
  | 0 => ⟨S_, .f32⟩
  | 1 => ⟨S4x2048x512, .f32⟩
  | 2 => ⟨S4x2048x512, .f32⟩
  | 3 => ⟨S_, .f32⟩
  | 4 => ⟨S4x2048, .f32⟩
  | 5 => ⟨S4x2048x1, .f32⟩
  | 6 => ⟨S_, .f32⟩
  | 7 => ⟨S4x2048x1, .f32⟩
  | 8 => ⟨S4x2048x1, .f32⟩
  | 9 => ⟨S4x2048x512, .f32⟩
  | 10 => ⟨S4x2048x512, .f32⟩
  | 11 => ⟨S_, .f32⟩
  | 12 => ⟨S4x2048x1, .f32⟩
  | 13 => ⟨S4x2048x1, .f32⟩
  | 14 => ⟨S4x2048x1, .f32⟩
  | 15 => ⟨S4x2048x1, .f32⟩
  | 16 => ⟨S_, .f32⟩
  | 17 => ⟨S4x2048x1, .f32⟩
  | 18 => ⟨S4x2048x1, .f32⟩
  | 19 => ⟨S4x2048x512, .f32⟩
  | 20 => ⟨S4x2048x512, .f32⟩
  | 21 => ⟨S1x1x512, .f32⟩
  | 22 => ⟨S4x2048x512, .f32⟩
  | 23 => ⟨S4x2048x512, .f32⟩
  | 24 => ⟨S1x1x512, .f32⟩
  | 25 => ⟨S4x2048x512, .f32⟩
  | 26 => ⟨S4x2048x512, .f32⟩
  | 27 => ⟨S4x16x128x4x128, .f32⟩
  | 28 => ⟨S_, .f32⟩
  | 29 => ⟨S128x128, .f32⟩
  | 30 => ⟨S128x128, .i32⟩
  | 31 => ⟨S_, .i32⟩
  | 32 => ⟨S128x128, .i32⟩
  | 33 => ⟨S128x128, .i32⟩
  | 34 => ⟨S128x128, .i32⟩
  | 35 => ⟨S128x128, .i1⟩
  | 36 => ⟨S_, .f32⟩
  | 37 => ⟨S128x128, .f32⟩
  | 38 => ⟨S128x128, .f32⟩
  | 39 => ⟨S1x128x128, .f32⟩
  | 40 => ⟨S4x128x128, .f32⟩
  | 41 => ⟨S4x128x128, .f32⟩
  | 42 => ⟨S4x4x16x128x128, .f32⟩
  | 43 => ⟨S4x16x128x4x128, .f32⟩
  | 44 => ⟨S128x4, .f32⟩
  | 45 => ⟨S1x1x128x4x1, .f32⟩
  | 46 => ⟨S4x16x128x4x128, .f32⟩
  | 47 => ⟨S4x16x128x4x128, .f32⟩
  | 48 => ⟨S4x2048x512, .f32⟩
  | 49 => ⟨S4x2048x512, .f32⟩
  | 50 => ⟨S4x2048x1024, .f32⟩
  | 51 => ⟨S1024x1024, .f32⟩
  | 52 => ⟨S4x2048x1024, .f32⟩
  | 53 => ⟨S8192x1024, .f32⟩
  | 54 => ⟨S4x2048x1024, .f32⟩
  | 55 => ⟨S4x2048x1024, .f32⟩
  | 56 => ⟨S4x2048x512, .f32⟩
  | 57 => ⟨S4x2048x512, .f32⟩
  | 58 => ⟨S4x2048x512, .f32⟩
  | 59 => ⟨S4x2048x512, .f32⟩
  | 60 => ⟨S4x16x128x4x128, .f32⟩
  | 61 => ⟨S_, .f32⟩
  | 62 => ⟨S128x4, .f32⟩
  | 63 => ⟨S1x1x128x4x1, .f32⟩
  | 64 => ⟨S_, .f32⟩
  | 65 => ⟨S128x4, .f32⟩
  | 66 => ⟨S4x128, .f32⟩
  | 67 => ⟨S4x4x16x128x128, .f32⟩
  | 68 => ⟨S4x128x128, .f32⟩
  | 69 => ⟨S4x4x16x128x128, .f32⟩
  | 70 => ⟨S4x16x128x4x128, .f32⟩
  | 71 => ⟨S4x128x128, .f32⟩
  | 72 => ⟨S4x128x128, .f32⟩
  | 73 => ⟨S4x2048x512, .f32⟩
  | 74 => ⟨S_, .f32⟩
  | 75 => ⟨S512, .f32⟩
  | 76 => ⟨S1x1x512, .f32⟩
  | 77 => ⟨S_, .f32⟩
  | 78 => ⟨S512, .f32⟩
  | 79 => ⟨S4x2048x512, .f32⟩
  | 80 => ⟨S_, .f32⟩
  | 81 => ⟨S512, .f32⟩
  | 82 => ⟨S1x1x512, .f32⟩
  | 83 => ⟨S4x2048x512, .f32⟩
  | 84 => ⟨S4x2048x512, .f32⟩
  | 85 => ⟨S_, .f32⟩
  | 86 => ⟨S512, .f32⟩
  | 87 => ⟨S4x2048x512, .f32⟩
  | 88 => ⟨S_, .f32⟩
  | 89 => ⟨S4x2048, .f32⟩
  | 90 => ⟨S4x2048x1, .f32⟩
  | 91 => ⟨S4x2048x512, .f32⟩
  | 92 => ⟨S4x2048x512, .f32⟩
  | 93 => ⟨S4x2048x1, .f32⟩
  | 94 => ⟨S4x2048x512, .f32⟩
  | 95 => ⟨S_, .f32⟩
  | 96 => ⟨S4x2048, .f32⟩
  | 97 => ⟨S4x2048x1, .f32⟩
  | 98 => ⟨S_, .f32⟩
  | 99 => ⟨S4x2048x1, .f32⟩
  | 100 => ⟨S4x2048x1, .f32⟩
  | 101 => ⟨S_, .f32⟩
  | 102 => ⟨S4x2048, .f32⟩
  | 103 => ⟨S4x2048x512, .f32⟩
  | 104 => ⟨S4x2048x512, .f32⟩
  | 105 => ⟨S4x2048x512, .f32⟩
  | 106 => ⟨S_, .f32⟩
  | 107 => ⟨S4x2048, .f32⟩
  | 108 => ⟨S4x2048x1, .f32⟩
  | 109 => ⟨S4x2048x512, .f32⟩
  | 110 => ⟨S4x2048x1, .f32⟩
  | 111 => ⟨S_, .f32⟩
  | 112 => ⟨S4x2048x1, .f32⟩
  | 113 => ⟨S4x2048x1, .f32⟩
  | 114 => ⟨S_, .f32⟩
  | 115 => ⟨S4x2048, .f32⟩
  | 116 => ⟨S4x2048x512, .f32⟩
  | 117 => ⟨S4x2048x512, .f32⟩
  | 118 => ⟨S_, .f32⟩
  | 119 => ⟨S4x2048x1024, .f32⟩
  | 120 => ⟨S_, .f32⟩
  | 121 => ⟨S4x2048x1024, .f32⟩
  | 122 => ⟨S4x2048x1024, .f32⟩
  | 123 => ⟨S1x4x128, .f32⟩
  | 124 => ⟨S1x4x128x128, .f32⟩
  | 125 => ⟨S1x512, .f32⟩
  | 126 => ⟨S1x512, .f32⟩
  | 127 => ⟨S4x2048x512, .f32⟩
  | _ => ⟨S8192x1024, .bf16⟩

abbrev hbmTy0_2 (i : Nat) : BufTy := match i % 128 with
  | 0 => ⟨S_, .f32⟩
  | 1 => ⟨S512, .f32⟩
  | 2 => ⟨S1x1x512, .f32⟩
  | 3 => ⟨S4x2048x512, .f32⟩
  | 4 => ⟨S4x2048x512, .f32⟩
  | 5 => ⟨S_, .f32⟩
  | 6 => ⟨S512, .f32⟩
  | 7 => ⟨S1x512, .f32⟩
  | 8 => ⟨S4x2048x4x128, .f32⟩
  | 9 => ⟨S4x128x4x2048, .f32⟩
  | 10 => ⟨S4x4x2048x128, .f32⟩
  | 11 => ⟨S4x2048x4x128, .f32⟩
  | 12 => ⟨S4x128x128, .f32⟩
  | 13 => ⟨S4x128x128, .f32⟩
  | 14 => ⟨S1x4x128x128, .f32⟩
  | 15 => ⟨S4x2048x1024, .f32⟩
  | 16 => ⟨S4x2048x1024, .f32⟩
  | 17 => ⟨S_, .f32⟩
  | 18 => ⟨S4x2048x1024, .f32⟩
  | 19 => ⟨S4x2048x1024, .f32⟩
  | 20 => ⟨S4x2048x1024, .f32⟩
  | 21 => ⟨S4x2048x1024, .f32⟩
  | 22 => ⟨S4x2048x1024, .f32⟩
  | 23 => ⟨S4x2048x1024, .f32⟩
  | 24 => ⟨S_, .f32⟩
  | 25 => ⟨S4x2048x1024, .f32⟩
  | 26 => ⟨S4x2048x1024, .f32⟩
  | 27 => ⟨S4x2048x1024, .f32⟩
  | 28 => ⟨S8192x1024, .f32⟩
  | 29 => ⟨S_, .f32⟩
  | 30 => ⟨S5x512, .f32⟩
  | 31 => ⟨S8x512, .f32⟩
  | 32 => ⟨S8192x512, .f32⟩
  | 33 => ⟨S8192x1024, .bf16⟩
  | 34 => ⟨S4x128x128, .f32⟩
  | 35 => ⟨S4x128x128, .f32⟩
  | 36 => ⟨S4x128, .f32⟩
  | 37 => ⟨S4x128x1, .f32⟩
  | 38 => ⟨S4x128x128, .f32⟩
  | _ => ⟨S8192x1024, .bf16⟩

abbrev hbmTy (i : Nat) : BufTy := match i / 128 with
  | 0 => hbmTy0_0 i
  | 1 => hbmTy0_1 i
  | 2 => hbmTy0_2 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_call0_call0_cst : Ref sig .tc := ⟨.hbm, 13, rfl⟩
abbrev main_call0_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_7 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_8 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_9 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_10 : Ref sig .tc := ⟨.hbm, 119, rfl⟩
abbrev main_v95 : Ref sig .tc := ⟨.hbm, 120, rfl⟩
abbrev main_v96 : Ref sig .tc := ⟨.hbm, 121, rfl⟩
abbrev main_cst_11 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_12 : Ref sig .tc := ⟨.hbm, 128, rfl⟩
abbrev main_v102 : Ref sig .tc := ⟨.hbm, 129, rfl⟩
abbrev main_v103 : Ref sig .tc := ⟨.hbm, 130, rfl⟩
abbrev main_cst_13 : Ref sig .tc := ⟨.hbm, 131, rfl⟩
abbrev main_v104 : Ref sig .tc := ⟨.hbm, 132, rfl⟩
abbrev main_v105 : Ref sig .tc := ⟨.hbm, 133, rfl⟩
abbrev main_cst_14 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_15 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_16 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_17 : Ref sig .tc := ⟨.hbm, 156, rfl⟩
abbrev main_v125 : Ref sig .tc := ⟨.hbm, 157, rfl⟩
abbrev main_call1_v0 : Ref sig .tc := ⟨.hbm, 158, rfl⟩
abbrev main_call1_c : Ref sig .tc := ⟨.hbm, 159, rfl⟩
abbrev main_call1_v1 : Ref sig .tc := ⟨.hbm, 160, rfl⟩
abbrev main_call1_v2 : Ref sig .tc := ⟨.hbm, 161, rfl⟩
abbrev main_call1_v3 : Ref sig .tc := ⟨.hbm, 162, rfl⟩
abbrev main_call1_v4 : Ref sig .tc := ⟨.hbm, 163, rfl⟩
abbrev main_call1_cst : Ref sig .tc := ⟨.hbm, 164, rfl⟩
abbrev main_call1_v5 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_cst_18 : Ref sig .tc := ⟨.hbm, 189, rfl⟩
abbrev main_v149 : Ref sig .tc := ⟨.hbm, 190, rfl⟩
abbrev main_v150 : Ref sig .tc := ⟨.hbm, 191, rfl⟩
abbrev main_cst_19 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_cst_20 : Ref sig .tc := ⟨.hbm, 202, rfl⟩
abbrev main_v160 : Ref sig .tc := ⟨.hbm, 203, rfl⟩
abbrev main_v161 : Ref sig .tc := ⟨.hbm, 204, rfl⟩
abbrev main_cst_21 : Ref sig .tc := ⟨.hbm, 205, rfl⟩
abbrev main_v162 : Ref sig .tc := ⟨.hbm, 206, rfl⟩
abbrev main_v163 : Ref sig .tc := ⟨.hbm, 207, rfl⟩
abbrev main_cst_22 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_cst_23 : Ref sig .tc := ⟨.hbm, 213, rfl⟩
abbrev main_v168 : Ref sig .tc := ⟨.hbm, 214, rfl⟩
abbrev main_v169 : Ref sig .tc := ⟨.hbm, 215, rfl⟩
abbrev main_cst_24 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_cst_25 : Ref sig .tc := ⟨.hbm, 223, rfl⟩
abbrev main_v176 : Ref sig .tc := ⟨.hbm, 224, rfl⟩
abbrev main_v177 : Ref sig .tc := ⟨.hbm, 225, rfl⟩
abbrev main_cst_26 : Ref sig .tc := ⟨.hbm, 226, rfl⟩
abbrev main_v178 : Ref sig .tc := ⟨.hbm, 227, rfl⟩
abbrev main_v179 : Ref sig .tc := ⟨.hbm, 228, rfl⟩
abbrev main_cst_27 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_cst_28 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_cst_29 : Ref sig .tc := ⟨.hbm, 239, rfl⟩
abbrev main_v188 : Ref sig .tc := ⟨.hbm, 240, rfl⟩
abbrev main_v189 : Ref sig .tc := ⟨.hbm, 241, rfl⟩
abbrev main_cst_30 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_cst_31 : Ref sig .tc := ⟨.hbm, 246, rfl⟩
abbrev main_v193 : Ref sig .tc := ⟨.hbm, 247, rfl⟩
abbrev main_cst_32 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_cst_33 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_cst_34 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_cst_35 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_cst_36 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_cst_37 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩

abbrev nD : Nat := 1
abbrev τ : Topo := Topo.v7x

variable {F : FTy → Type} [FloatOps F]
-- ==== FwdMix.lean ====
abbrev S8192x512 : Shape := ⟨2, ![8192, 512]⟩
abbrev S8192x1024 : Shape := ⟨2, ![8192, 1024]⟩
abbrev S1x1024x1024 : Shape := ⟨3, ![1, 1024, 1024]⟩
abbrev S1x4x128x128 : Shape := ⟨4, ![1, 4, 128, 128]⟩
abbrev S1x512 : Shape := ⟨2, ![1, 512]⟩
abbrev S1x4x128 : Shape := ⟨3, ![1, 4, 128]⟩
abbrev S1x1024 : Shape := ⟨2, ![1, 1024]⟩
abbrev S4x128x128 : Shape := ⟨3, ![4, 128, 128]⟩
abbrev S512 : Shape := ⟨1, ![512]⟩
abbrev S4x128 : Shape := ⟨2, ![4, 128]⟩
abbrev S4x128x1 : Shape := ⟨3, ![4, 128, 1]⟩
abbrev S1024x1024 : Shape := ⟨2, ![1024, 1024]⟩
abbrev S1024 : Shape := ⟨1, ![1024]⟩
abbrev S512x512 : Shape := ⟨2, ![512, 512]⟩
abbrev S16x512 : Shape := ⟨2, ![16, 512]⟩
abbrev S512x1024 : Shape := ⟨2, ![512, 1024]⟩
abbrev S512x128 : Shape := ⟨2, ![512, 128]⟩
abbrev S528x512 : Shape := ⟨2, ![528, 512]⟩
abbrev S528x384 : Shape := ⟨2, ![528, 384]⟩
abbrev S528x256 : Shape := ⟨2, ![528, 256]⟩
abbrev S528x128 : Shape := ⟨2, ![528, 128]⟩
abbrev S1x128x128 : Shape := ⟨3, ![1, 128, 128]⟩
abbrev S128x128 : Shape := ⟨2, ![128, 128]⟩
abbrev S1x128 : Shape := ⟨2, ![1, 128]⟩
abbrev S512x1 : Shape := ⟨2, ![512, 1]⟩

abbrev nBuf : Space → Nat
  | .hbm => 32
  | .vmem => 23
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S8192x1024, .f32⟩
  | .hbm, ⟨3, _⟩ => ⟨S1x1024x1024, .f32⟩
  | .hbm, ⟨4, _⟩ => ⟨S1x4x128x128, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x4x128x128, .f32⟩
  | .hbm, ⟨9, _⟩ => ⟨S1x4x128, .f32⟩
  | .hbm, ⟨10, _⟩ => ⟨S1x1024, .f32⟩
  | .hbm, ⟨11, _⟩ => ⟨S1x1024, .f32⟩
  | .hbm, ⟨12, _⟩ => ⟨S4x128x128, .f32⟩
  | .hbm, ⟨13, _⟩ => ⟨S512, .f32⟩
  | .hbm, ⟨14, _⟩ => ⟨S1x512, .f32⟩
  | .hbm, ⟨15, _⟩ => ⟨S512, .f32⟩
  | .hbm, ⟨16, _⟩ => ⟨S1x512, .f32⟩
  | .hbm, ⟨17, _⟩ => ⟨S512, .f32⟩
  | .hbm, ⟨18, _⟩ => ⟨S1x512, .f32⟩
  | .hbm, ⟨19, _⟩ => ⟨S4x128x128, .f32⟩
  | .hbm, ⟨20, _⟩ => ⟨S4x128, .f32⟩
  | .hbm, ⟨21, _⟩ => ⟨S4x128x1, .f32⟩
  | .hbm, ⟨22, _⟩ => ⟨S4x128x128, .f32⟩
  | .hbm, ⟨23, _⟩ => ⟨S1024x1024, .f32⟩
  | .hbm, ⟨24, _⟩ => ⟨S1024x1024, .bf16⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S8192x1024, .bf16⟩
  | .hbm, ⟨30, _⟩ => ⟨S8192x1024, .f32⟩
  | .hbm, ⟨31, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S4x128x128, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S4x128x128, .f32⟩
  | .local _ .vmem, ⟨13, _⟩ => ⟨S4x128x128, .f32⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== FwdMixIdeal.lean ====
variable {F : FTy → Type} [FloatOps F] [Named F]
def κ : String → Option EReal := fun
  | "inv_sqrt_two" => some (((Real.sqrt 2)⁻¹ : ℝ) : EReal)
  | _ => none
-- ==== FwdMixRefIdeal.lean ====
abbrev S8192x512 : Shape := ⟨2, ![8192, 512]⟩
abbrev S8192x1024 : Shape := ⟨2, ![8192, 1024]⟩
abbrev S1x1024x1024 : Shape := ⟨3, ![1, 1024, 1024]⟩
abbrev S1x4x128x128 : Shape := ⟨4, ![1, 4, 128, 128]⟩
abbrev S1x512 : Shape := ⟨2, ![1, 512]⟩
abbrev S1x4x128 : Shape := ⟨3, ![1, 4, 128]⟩
abbrev S1x1024 : Shape := ⟨2, ![1, 1024]⟩
abbrev S4x2048x1024 : Shape := ⟨3, ![4, 2048, 1024]⟩
abbrev S_ : Shape := ⟨0, ![]⟩
abbrev S4x2048x512 : Shape := ⟨3, ![4, 2048, 512]⟩
abbrev S4x1x512 : Shape := ⟨3, ![4, 1, 512]⟩
abbrev S4x2049x512 : Shape := ⟨3, ![4, 2049, 512]⟩
abbrev S2048 : Shape := ⟨1, ![2048]⟩
abbrev S4x2049x128 : Shape := ⟨3, ![4, 2049, 128]⟩
abbrev S4x1x128 : Shape := ⟨3, ![4, 1, 128]⟩
abbrev S4x2050x128 : Shape := ⟨3, ![4, 2050, 128]⟩
abbrev S4x2048x128 : Shape := ⟨3, ![4, 2048, 128]⟩
abbrev S1x2048x1 : Shape := ⟨3, ![1, 2048, 1]⟩
abbrev S4x3x128 : Shape := ⟨3, ![4, 3, 128]⟩
abbrev S4x2052x128 : Shape := ⟨3, ![4, 2052, 128]⟩
abbrev S4x7x128 : Shape := ⟨3, ![4, 7, 128]⟩
abbrev S4x2056x128 : Shape := ⟨3, ![4, 2056, 128]⟩
abbrev S4x15x128 : Shape := ⟨3, ![4, 15, 128]⟩
abbrev S4x2064x128 : Shape := ⟨3, ![4, 2064, 128]⟩
abbrev S4x2048x1x128 : Shape := ⟨4, ![4, 2048, 1, 128]⟩
abbrev S4x2048x4x128 : Shape := ⟨4, ![4, 2048, 4, 128]⟩
abbrev S4x128x128 : Shape := ⟨3, ![4, 128, 128]⟩
abbrev S4x128x4x2048 : Shape := ⟨4, ![4, 128, 4, 2048]⟩
abbrev S512 : Shape := ⟨1, ![512]⟩
abbrev S1x1x512 : Shape := ⟨3, ![1, 1, 512]⟩
abbrev S4x128 : Shape := ⟨2, ![4, 128]⟩
abbrev S4x2048 : Shape := ⟨2, ![4, 2048]⟩
abbrev S4x2048x1 : Shape := ⟨3, ![4, 2048, 1]⟩
abbrev S4x16x128x4x128 : Shape := ⟨5, ![4, 16, 128, 4, 128]⟩
abbrev S128x128 : Shape := ⟨2, ![128, 128]⟩
abbrev S1x128x128 : Shape := ⟨3, ![1, 128, 128]⟩
abbrev S4x4x16x128x128 : Shape := ⟨5, ![4, 4, 16, 128, 128]⟩
abbrev S128x4 : Shape := ⟨2, ![128, 4]⟩
abbrev S1x1x128x4x1 : Shape := ⟨5, ![1, 1, 128, 4, 1]⟩
abbrev S1024x1024 : Shape := ⟨2, ![1024, 1024]⟩
abbrev S1024 : Shape := ⟨1, ![1024]⟩
abbrev S1x1x1024 : Shape := ⟨3, ![1, 1, 1024]⟩

abbrev nBuf : Space → Nat
  | .hbm => 214
  | .vmem => 0
  | .smem => 0
  | _ => 0

abbrev hbmTy0_0 (i : Nat) : BufTy := match i % 128 with
  | 0 => ⟨S8192x512, .f32⟩
  | 1 => ⟨S8192x1024, .bf16⟩
  | 2 => ⟨S8192x1024, .f32⟩
  | 3 => ⟨S1x1024x1024, .f32⟩
  | 4 => ⟨S1x4x128x128, .f32⟩
  | 5 => ⟨S1x512, .f32⟩
  | 6 => ⟨S1x512, .f32⟩
  | 7 => ⟨S1x512, .f32⟩
  | 8 => ⟨S1x4x128x128, .f32⟩
  | 9 => ⟨S1x4x128, .f32⟩
  | 10 => ⟨S1x1024, .f32⟩
  | 11 => ⟨S1x1024, .f32⟩
  | 12 => ⟨S8192x1024, .f32⟩
  | 13 => ⟨S4x2048x1024, .f32⟩
  | 14 => ⟨S_, .f32⟩
  | 15 => ⟨S4x2048x1024, .f32⟩
  | 16 => ⟨S4x2048x1024, .f32⟩
  | 17 => ⟨S4x2048x1024, .f32⟩
  | 18 => ⟨S_, .f32⟩
  | 19 => ⟨S_, .f32⟩
  | 20 => ⟨S4x2048x1024, .f32⟩
  | 21 => ⟨S4x2048x1024, .f32⟩
  | 22 => ⟨S4x2048x1024, .f32⟩
  | 23 => ⟨S4x2048x1024, .f32⟩
  | 24 => ⟨S4x2048x512, .f32⟩
  | 25 => ⟨S_, .f32⟩
  | 26 => ⟨S4x1x512, .f32⟩
  | 27 => ⟨S_, .f32⟩
  | 28 => ⟨S_, .f32⟩
  | 29 => ⟨S4x2048x512, .f32⟩
  | 30 => ⟨S4x2049x512, .f32⟩
  | 31 => ⟨S2048, .i32⟩
  | 32 => ⟨S_, .i32⟩
  | 33 => ⟨S2048, .i32⟩
  | 34 => ⟨S2048, .i32⟩
  | 35 => ⟨S4x2049x128, .f32⟩
  | 36 => ⟨S_, .f32⟩
  | 37 => ⟨S4x1x128, .f32⟩
  | 38 => ⟨S4x2050x128, .f32⟩
  | 39 => ⟨S4x2048x128, .f32⟩
  | 40 => ⟨S_, .i32⟩
  | 41 => ⟨S2048, .i32⟩
  | 42 => ⟨S2048, .i32⟩
  | 43 => ⟨S2048, .f32⟩
  | 44 => ⟨S1x2048x1, .f32⟩
  | 45 => ⟨S4x2048x128, .f32⟩
  | 46 => ⟨S4x2048x128, .f32⟩
  | 47 => ⟨S4x2048x128, .f32⟩
  | 48 => ⟨S4x2048x128, .f32⟩
  | 49 => ⟨S4x2048x128, .f32⟩
  | 50 => ⟨S4x2048x128, .f32⟩
  | 51 => ⟨S4x2049x128, .f32⟩
  | 52 => ⟨S_, .f32⟩
  | 53 => ⟨S4x3x128, .f32⟩
  | 54 => ⟨S4x2052x128, .f32⟩
  | 55 => ⟨S4x2048x128, .f32⟩
  | 56 => ⟨S_, .i32⟩
  | 57 => ⟨S2048, .i32⟩
  | 58 => ⟨S2048, .i32⟩
  | 59 => ⟨S2048, .f32⟩
  | 60 => ⟨S1x2048x1, .f32⟩
  | 61 => ⟨S4x2048x128, .f32⟩
  | 62 => ⟨S4x2048x128, .f32⟩
  | 63 => ⟨S4x2048x128, .f32⟩
  | 64 => ⟨S4x2048x128, .f32⟩
  | 65 => ⟨S4x2048x128, .f32⟩
  | 66 => ⟨S4x2048x128, .f32⟩
  | 67 => ⟨S4x2049x128, .f32⟩
  | 68 => ⟨S_, .f32⟩
  | 69 => ⟨S4x7x128, .f32⟩
  | 70 => ⟨S4x2056x128, .f32⟩
  | 71 => ⟨S4x2048x128, .f32⟩
  | 72 => ⟨S_, .i32⟩
  | 73 => ⟨S2048, .i32⟩
  | 74 => ⟨S2048, .i32⟩
  | 75 => ⟨S2048, .f32⟩
  | 76 => ⟨S1x2048x1, .f32⟩
  | 77 => ⟨S4x2048x128, .f32⟩
  | 78 => ⟨S4x2048x128, .f32⟩
  | 79 => ⟨S4x2048x128, .f32⟩
  | 80 => ⟨S4x2048x128, .f32⟩
  | 81 => ⟨S4x2048x128, .f32⟩
  | 82 => ⟨S4x2048x128, .f32⟩
  | 83 => ⟨S4x2049x128, .f32⟩
  | 84 => ⟨S_, .f32⟩
  | 85 => ⟨S4x15x128, .f32⟩
  | 86 => ⟨S4x2064x128, .f32⟩
  | 87 => ⟨S4x2048x128, .f32⟩
  | 88 => ⟨S_, .i32⟩
  | 89 => ⟨S2048, .i32⟩
  | 90 => ⟨S2048, .i32⟩
  | 91 => ⟨S2048, .f32⟩
  | 92 => ⟨S1x2048x1, .f32⟩
  | 93 => ⟨S4x2048x128, .f32⟩
  | 94 => ⟨S4x2048x128, .f32⟩
  | 95 => ⟨S4x2048x128, .f32⟩
  | 96 => ⟨S4x2048x128, .f32⟩
  | 97 => ⟨S4x2048x128, .f32⟩
  | 98 => ⟨S4x2048x128, .f32⟩
  | 99 => ⟨S4x2048x1x128, .f32⟩
  | 100 => ⟨S4x2048x1x128, .f32⟩
  | 101 => ⟨S4x2048x1x128, .f32⟩
  | 102 => ⟨S4x2048x1x128, .f32⟩
  | 103 => ⟨S4x2048x4x128, .f32⟩
  | 104 => ⟨S4x128x128, .f32⟩
  | 105 => ⟨S4x128x4x2048, .f32⟩
  | 106 => ⟨S4x2048x4x128, .f32⟩
  | 107 => ⟨S4x2048x512, .f32⟩
  | 108 => ⟨S512, .f32⟩
  | 109 => ⟨S1x1x512, .f32⟩
  | 110 => ⟨S4x2048x512, .f32⟩
  | 111 => ⟨S4x2048x512, .f32⟩
  | 112 => ⟨S512, .f32⟩
  | 113 => ⟨S512, .f32⟩
  | 114 => ⟨S4x128x128, .f32⟩
  | 115 => ⟨S4x128, .f32⟩
  | 116 => ⟨S4x2048x512, .f32⟩
  | 117 => ⟨S4x2048x512, .f32⟩
  | 118 => ⟨S_, .f32⟩
  | 119 => ⟨S4x2048, .f32⟩
  | 120 => ⟨S4x2048x1, .f32⟩
  | 121 => ⟨S_, .f32⟩
  | 122 => ⟨S4x2048x1, .f32⟩
  | 123 => ⟨S4x2048x1, .f32⟩
  | 124 => ⟨S4x2048x512, .f32⟩
  | 125 => ⟨S4x2048x512, .f32⟩
  | 126 => ⟨S4x2048x512, .f32⟩
  | 127 => ⟨S_, .f32⟩
  | _ => ⟨S8192x512, .f32⟩

abbrev hbmTy0_1 (i : Nat) : BufTy := match i % 128 with
  | 0 => ⟨S4x2048, .f32⟩
  | 1 => ⟨S4x2048x1, .f32⟩
  | 2 => ⟨S_, .f32⟩
  | 3 => ⟨S4x2048x1, .f32⟩
  | 4 => ⟨S4x2048x1, .f32⟩
  | 5 => ⟨S4x2048x512, .f32⟩
  | 6 => ⟨S4x2048x512, .f32⟩
  | 7 => ⟨S_, .f32⟩
  | 8 => ⟨S4x2048x1, .f32⟩
  | 9 => ⟨S4x2048x1, .f32⟩
  | 10 => ⟨S4x2048x1, .f32⟩
  | 11 => ⟨S4x2048x512, .f32⟩
  | 12 => ⟨S4x2048x512, .f32⟩
  | 13 => ⟨S1x1x512, .f32⟩
  | 14 => ⟨S4x2048x512, .f32⟩
  | 15 => ⟨S4x2048x512, .f32⟩
  | 16 => ⟨S1x1x512, .f32⟩
  | 17 => ⟨S4x2048x512, .f32⟩
  | 18 => ⟨S4x2048x512, .f32⟩
  | 19 => ⟨S4x16x128x4x128, .f32⟩
  | 20 => ⟨S_, .f32⟩
  | 21 => ⟨S128x128, .f32⟩
  | 22 => ⟨S128x128, .i32⟩
  | 23 => ⟨S_, .i32⟩
  | 24 => ⟨S128x128, .i32⟩
  | 25 => ⟨S128x128, .i32⟩
  | 26 => ⟨S128x128, .i32⟩
  | 27 => ⟨S128x128, .i1⟩
  | 28 => ⟨S_, .f32⟩
  | 29 => ⟨S128x128, .f32⟩
  | 30 => ⟨S128x128, .f32⟩
  | 31 => ⟨S1x128x128, .f32⟩
  | 32 => ⟨S4x128x128, .f32⟩
  | 33 => ⟨S4x128x128, .f32⟩
  | 34 => ⟨S4x4x16x128x128, .f32⟩
  | 35 => ⟨S4x16x128x4x128, .f32⟩
  | 36 => ⟨S128x4, .f32⟩
  | 37 => ⟨S1x1x128x4x1, .f32⟩
  | 38 => ⟨S4x16x128x4x128, .f32⟩
  | 39 => ⟨S4x16x128x4x128, .f32⟩
  | 40 => ⟨S4x2048x512, .f32⟩
  | 41 => ⟨S4x2048x512, .f32⟩
  | 42 => ⟨S4x2048x1024, .f32⟩
  | 43 => ⟨S4x2048x1024, .f32⟩
  | 44 => ⟨S_, .f32⟩
  | 45 => ⟨S4x2048x1024, .f32⟩
  | 46 => ⟨S4x2048x1024, .f32⟩
  | 47 => ⟨S1024x1024, .f32⟩
  | 48 => ⟨S4x2048x1024, .f32⟩
  | 49 => ⟨S4x2048x1024, .f32⟩
  | 50 => ⟨S1024, .f32⟩
  | 51 => ⟨S1024, .f32⟩
  | 52 => ⟨S_, .f32⟩
  | 53 => ⟨S4x2048, .f32⟩
  | 54 => ⟨S4x2048x1, .f32⟩
  | 55 => ⟨S_, .f32⟩
  | 56 => ⟨S4x2048x1, .f32⟩
  | 57 => ⟨S4x2048x1, .f32⟩
  | 58 => ⟨S4x2048x1024, .f32⟩
  | 59 => ⟨S4x2048x1024, .f32⟩
  | 60 => ⟨S4x2048x1024, .f32⟩
  | 61 => ⟨S_, .f32⟩
  | 62 => ⟨S4x2048, .f32⟩
  | 63 => ⟨S4x2048x1, .f32⟩
  | 64 => ⟨S_, .f32⟩
  | 65 => ⟨S4x2048x1, .f32⟩
  | 66 => ⟨S4x2048x1, .f32⟩
  | 67 => ⟨S4x2048x1024, .f32⟩
  | 68 => ⟨S4x2048x1024, .f32⟩
  | 69 => ⟨S_, .f32⟩
  | 70 => ⟨S4x2048x1, .f32⟩
  | 71 => ⟨S4x2048x1, .f32⟩
  | 72 => ⟨S4x2048x1, .f32⟩
  | 73 => ⟨S4x2048x1024, .f32⟩
  | 74 => ⟨S4x2048x1024, .f32⟩
  | 75 => ⟨S1x1x1024, .f32⟩
  | 76 => ⟨S4x2048x1024, .f32⟩
  | 77 => ⟨S4x2048x1024, .f32⟩
  | 78 => ⟨S1x1x1024, .f32⟩
  | 79 => ⟨S4x2048x1024, .f32⟩
  | 80 => ⟨S4x2048x1024, .f32⟩
  | 81 => ⟨S8192x1024, .f32⟩
  | 82 => ⟨S8192x1024, .bf16⟩
  | 83 => ⟨S8192x1024, .f32⟩
  | 84 => ⟨S8192x1024, .f32⟩
  | 85 => ⟨S8192x1024, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_call0_call0_cst : Ref sig .tc := ⟨.hbm, 27, rfl⟩
abbrev main_call0_call0_v0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_7 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_8 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_9 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_10 : Ref sig .tc := ⟨.hbm, 118, rfl⟩
abbrev main_v92 : Ref sig .tc := ⟨.hbm, 119, rfl⟩
abbrev main_v93 : Ref sig .tc := ⟨.hbm, 120, rfl⟩
abbrev main_cst_11 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_12 : Ref sig .tc := ⟨.hbm, 127, rfl⟩
abbrev main_v99 : Ref sig .tc := ⟨.hbm, 128, rfl⟩
abbrev main_v100 : Ref sig .tc := ⟨.hbm, 129, rfl⟩
abbrev main_cst_13 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_14 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_15 : Ref sig .tc := ⟨.hbm, 148, rfl⟩
abbrev main_v117 : Ref sig .tc := ⟨.hbm, 149, rfl⟩
abbrev main_call1_v0 : Ref sig .tc := ⟨.hbm, 150, rfl⟩
abbrev main_call1_c : Ref sig .tc := ⟨.hbm, 151, rfl⟩
abbrev main_call1_v1 : Ref sig .tc := ⟨.hbm, 152, rfl⟩
abbrev main_call1_v2 : Ref sig .tc := ⟨.hbm, 153, rfl⟩
abbrev main_call1_v3 : Ref sig .tc := ⟨.hbm, 154, rfl⟩
abbrev main_call1_v4 : Ref sig .tc := ⟨.hbm, 155, rfl⟩
abbrev main_call1_cst : Ref sig .tc := ⟨.hbm, 156, rfl⟩
abbrev main_call1_v5 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_cst_16 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_cst_17 : Ref sig .tc := ⟨.hbm, 180, rfl⟩
abbrev main_v139 : Ref sig .tc := ⟨.hbm, 181, rfl⟩
abbrev main_v140 : Ref sig .tc := ⟨.hbm, 182, rfl⟩
abbrev main_cst_18 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_cst_19 : Ref sig .tc := ⟨.hbm, 189, rfl⟩
abbrev main_v146 : Ref sig .tc := ⟨.hbm, 190, rfl⟩
abbrev main_v147 : Ref sig .tc := ⟨.hbm, 191, rfl⟩
abbrev main_cst_20 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_cst_21 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩

abbrev nD : Nat := 1
abbrev τ : Topo := Topo.v7x

variable {F : FTy → Type} [FloatOps F]
-- ==== Proj.lean ====
abbrev S8192x1024 : Shape := ⟨2, ![8192, 1024]⟩
abbrev S1x1024x1536 : Shape := ⟨3, ![1, 1024, 1536]⟩
abbrev S1024x1536 : Shape := ⟨2, ![1024, 1536]⟩
abbrev S8192x512 : Shape := ⟨2, ![8192, 512]⟩
abbrev S512x1024 : Shape := ⟨2, ![512, 1024]⟩
abbrev S512x512 : Shape := ⟨2, ![512, 512]⟩
abbrev S512x1536 : Shape := ⟨2, ![512, 1536]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1x1024x1536, .f32⟩
  | .hbm, ⟨2, _⟩ => ⟨S1024x1536, .f32⟩
  | .hbm, ⟨3, _⟩ => ⟨S1024x1536, .bf16⟩
  | .hbm, ⟨4, _⟩ => ⟨S8192x512, .f32⟩
  | .hbm, ⟨5, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S512x512, .f32⟩
  | .local _ .vmem, ⟨4, _⟩ => ⟨S512x512, .f32⟩
  | .local _ .vmem, ⟨5, _⟩ => ⟨S512x1024, .bf16⟩
  | .local _ .vmem, ⟨6, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjRefIdeal.lean ====
abbrev S8192x1024 : Shape := ⟨2, ![8192, 1024]⟩
abbrev S1x1024x1536 : Shape := ⟨3, ![1, 1024, 1536]⟩
abbrev S4x2048x1024 : Shape := ⟨3, ![4, 2048, 1024]⟩
abbrev S1024x1536 : Shape := ⟨2, ![1024, 1536]⟩
abbrev S4x2048x1536 : Shape := ⟨3, ![4, 2048, 1536]⟩
abbrev S4x2048x512 : Shape := ⟨3, ![4, 2048, 512]⟩
abbrev S8192x512 : Shape := ⟨2, ![8192, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1536, .f32⟩
  | .hbm, ⟨2, _⟩ => ⟨S8192x1024, .f32⟩
  | .hbm, ⟨3, _⟩ => ⟨S4x2048x1024, .f32⟩
  | .hbm, ⟨4, _⟩ => ⟨S1024x1536, .f32⟩
  | .hbm, ⟨5, _⟩ => ⟨S4x2048x1536, .f32⟩
  | .hbm, ⟨6, _⟩ => ⟨S4x2048x512, .f32⟩
  | .hbm, ⟨7, _⟩ => ⟨S4x2048x1024, .f32⟩
  | .hbm, ⟨8, _⟩ => ⟨S8192x512, .f32⟩
  | .hbm, ⟨9, _⟩ => ⟨S8192x1024, .f32⟩
  | .hbm, ⟨10, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Proof.Real.lean ====
/-
  Finite values: the arrays a claim's precondition speaks of hold real numbers, so sums, products and quotients of them
  are those of the reals. The layer norm of one row of 1024 reals and its backward, in the form a hand-written gradient
  takes and in the form differentiation of the forward lines takes, and the equality of the two.
-/
module

public import Idealize.ShloMosaic.Lib.Pointwise
public import Idealize.ShloMosaic.Lib.ValueIdx
public import Idealize.ShloMosaic.PureOps.Ideal.Laws
public import Idealize.ShloMosaic.Lib.Pipeline.Value
public import Idealize.ShloMosaic.Lib.ReduceAll
public import Idealize.ShloMosaic.Lib.Affine

@[expose] public section

noncomputable section

namespace Cert.Fin

open Idealize.ShloMosaic

/-! ### Reals among the extended reals -/

/-- A finite sum of reals is a real. -/
theorem sum_coe {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- An extended real whose absolute value lies below infinity is a real. -/
theorem real_of_abs_lt {x : EReal} (h : max x (-x) < ⊤) : ∃ r : ℝ, x = r := by
  induction x using EReal.rec with
  | bot => simp at h
  | coe r => exact ⟨r, rfl⟩
  | top => simp at h

/-- Quotient of reals, the divisor not zero. -/
theorem div_real (x : ℝ) {y : ℝ} (h : y ≠ 0) : Ideal.div (x : EReal) (y : EReal) = ((x / y : ℝ) : EReal) := by
  rw [Ideal.div_coe h, ← EReal.coe_mul, mul_one_div]

/-- Reciprocal square root of a positive real. -/
theorem rsqrt_real {x : ℝ} (h : 0 < x) : Ideal.rsqrt (x : EReal) = ((Real.sqrt x)⁻¹ : ℝ) := by
  rw [Ideal.rsqrt_coe, if_neg (not_lt.mpr h.le), if_neg h.ne']

/-- The variance's small constant, as the program writes it. -/
def eps : ℝ := 2748779 / 274877906944
/-- The residual scale, as the program writes it. -/
def alpha : ℝ := 4987896 / 4194304

theorem eps_pos : 0 < eps := by unfold eps; norm_num

theorem lit_1024 : Ideal.ofBits .f32 0x44800000#32 = ((1024 : ℝ) : EReal) := by
  simp [Ideal.ofBits, Ideal.ieee, -EReal.coe_mul]; norm_num
theorem lit_eps : Ideal.ofBits .f32 0x3727C5AC#32 = ((eps : ℝ) : EReal) := by
  unfold eps; simp [Ideal.ofBits, Ideal.ieee, -EReal.coe_mul]; norm_num
theorem lit_alpha : Ideal.ofBits .f32 0x3F9837F0#32 = ((alpha : ℝ) : EReal) := by
  unfold alpha; simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_zero : Ideal.ofBits .f32 0x00000000#32 = ((0 : ℝ) : EReal) := by
  simp [Ideal.ofBits, Ideal.ieee]
theorem lit_one : Ideal.ofBits .f32 0x3F800000#32 = ((1 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_quarter : Ideal.ofBits .f32 0x3E800000#32 = ((1 / 4 : ℝ) : EReal) := by
  simp [Ideal.ofBits, Ideal.ieee, -EReal.coe_mul]; norm_num
theorem lit_eighth : Ideal.ofBits .f32 0x3E000000#32 = ((1 / 8 : ℝ) : EReal) := by
  simp [Ideal.ofBits, Ideal.ieee, -EReal.coe_mul]; norm_num
theorem lit_sixteenth : Ideal.ofBits .f32 0x3D800000#32 = ((1 / 16 : ℝ) : EReal) := by
  simp [Ideal.ofBits, Ideal.ieee, -EReal.coe_mul]; norm_num
theorem lit_inv1024 : Ideal.ofBits .f32 0x3A800000#32 = ((1 / 1024 : ℝ) : EReal) := by
  simp [Ideal.ofBits, Ideal.ieee, -EReal.coe_mul]; norm_num
theorem lit_inf : Ideal.ofBits .f32 0x7F800000#32 = ⊤ := by
  simp [Ideal.ofBits, Ideal.ieee]

/-! ### The layer norm of a row -/

/-- The mean of a row. -/
def mean (x : Fin 1024 → ℝ) : ℝ := (∑ k, x k) / 1024
/-- The variance of a row. -/
def var (x : Fin 1024 → ℝ) : ℝ := (∑ k, (x k - mean x) * (x k - mean x)) / 1024
/-- The reciprocal standard deviation of a row. -/
def rstd (x : Fin 1024 → ℝ) : ℝ := (Real.sqrt (var x + eps))⁻¹
/-- The normalised row. -/
def xhat (x : Fin 1024 → ℝ) (k : Fin 1024) : ℝ := (x k - mean x) * rstd x
/-- The gradient of the normalised row, in closed form: `d` is the gradient that reaches the normalised row. -/
def lnBwd (x d : Fin 1024 → ℝ) (k : Fin 1024) : ℝ :=
  rstd x * (d k - mean d - xhat x k * mean fun k => d k * xhat x k)

theorem var_nonneg (x : Fin 1024 → ℝ) : 0 ≤ var x :=
  div_nonneg (Finset.sum_nonneg fun k _ => mul_self_nonneg _) (by norm_num)

theorem var_eps_pos (x : Fin 1024 → ℝ) : 0 < var x + eps := add_pos_of_nonneg_of_pos (var_nonneg x) eps_pos

theorem rstd_real (x : Fin 1024 → ℝ) : Ideal.rsqrt ((var x + eps : ℝ) : EReal) = (rstd x : ℝ) := rsqrt_real (var_eps_pos x)

theorem rstd_sq (x : Fin 1024 → ℝ) : rstd x * rstd x = (var x + eps)⁻¹ := by
  unfold rstd; rw [← mul_inv, Real.mul_self_sqrt (var_eps_pos x).le]

/-- The deviations from the mean sum to zero. -/
theorem sum_dev (x : Fin 1024 → ℝ) : ∑ k, (x k - mean x) = 0 := by
  rw [Finset.sum_sub_distrib]; simp [mean]; ring

/-- What differentiation gives (the path through the normalised row, the path through the variance, the path through
    the mean), equal to the closed form. -/
theorem lnBwd_eq (x d : Fin 1024 → ℝ) (k : Fin 1024) :
    d k * rstd x + (∑ k, (x k - mean x) * d k) * (-(1 / 2) * (rstd x / (var x + eps))) / 1024 * (2 * (x k - mean x))
      + ((∑ k, -(d k * rstd x))
          + ∑ l, -((∑ k, (x k - mean x) * d k) * (-(1 / 2) * (rstd x / (var x + eps))) / 1024 * (2 * (x l - mean x)))) / 1024
      = lnBwd x d k := by
  have h0 : ∑ l, -((∑ k, (x k - mean x) * d k) * (-(1 / 2) * (rstd x / (var x + eps))) / 1024 * (2 * (x l - mean x))) = 0 := by
    have : ∀ l, -((∑ k, (x k - mean x) * d k) * (-(1 / 2) * (rstd x / (var x + eps))) / 1024 * (2 * (x l - mean x)))
        = (-((∑ k, (x k - mean x) * d k) * (-(1 / 2) * (rstd x / (var x + eps))) / 1024 * 2)) * (x l - mean x) := fun l => by ring
    simp only [this, ← Finset.mul_sum, sum_dev, mul_zero]
  have h1 : ∑ k, -(d k * rstd x) = -((∑ k, d k) * rstd x) := by rw [Finset.sum_neg_distrib, Finset.sum_mul]
  have h2 : mean (fun k => d k * xhat x k) = (∑ k, (x k - mean x) * d k) * rstd x / 1024 := by
    unfold mean xhat; rw [Finset.sum_mul]; congr 1; exact Finset.sum_congr rfl fun k _ => by unfold mean; ring
  rw [h0, h1, div_eq_mul_inv (rstd x) (var x + eps), ← rstd_sq]
  unfold lnBwd; rw [h2]; unfold xhat
  generalize ∑ k, (x k - mean x) * d k = s
  simp only [mean]; ring

end Cert.Fin

end
-- ==== Proof.Rows.lean ====
/-
  A buffer of rows whose single rows are loaded and stored: the block in which a kernel gathers column sums.
-/
module

public import Idealize.ShloMosaic.Lib.Pointwise
public import Idealize.ShloMosaic.Lib.ValueIdx
public import Idealize.ShloMosaic.Lib.WritesUnit
public import Idealize.ShloMosaic.Lib.Pipeline.ValueKit.Tiles

@[expose] public section

noncomputable section

namespace Cert.Rows

open Idealize.ShloMosaic Idealize.SL.Sem

variable {sig : RefSig} {κ : Kind} {sp : Space} {e : EltTy} {Val : EltTy → Type} {d n : Nat}

theorem off_zero : (![0, 0] : Fin 2 → Nat) = fun _ => 0 := funext fun a => by fin_cases a <;> rfl

/-- After a store of row `o`, that row reads the payload and every other row what the earlier stores left. -/
theorem read_row (v : View sig κ sp (⟨2, ![d, n]⟩ : Shape) e) (f : v.ty.Contents Val) (o : Nat)
    (inb : ∀ a : Fin 2, (![o, 0] : Fin 2 → Nat) a + (![1, n] : Fin 2 → Nat) a ≤ (![d, n] : Fin 2 → Nat) a)
    (w : (Rect.unit (s := ⟨2, ![d, n]⟩) ![o, 0] ![1, n] inb).shape.Idx → Val e) (L : List (View.Piece Val (⟨2, ![d, n]⟩ : Shape) e))
    (s : Fin d) (k : Fin n) :
    v.read Val (v.writes Val f ((⟨Rect.unit (s := ⟨2, ![d, n]⟩) ![o, 0] ![1, n] inb, w⟩ : View.Piece Val (⟨2, ![d, n]⟩ : Shape) e) :: L)) (ix2 s k)
      = if s.val = o then w (ix2 (0 : Fin 1) k) else v.read Val (v.writes Val f L) (ix2 s k) := by
  split_ifs with h
  · exact View.read_writes_cons_rows_of_mem v f inb w L (ix2 s k) (ix2 (0 : Fin 1) k) rfl (by simpa [ix2] using h) rfl
  · exact View.read_writes_cons_rows_of_not_mem (W := 1) v f inb w L (ix2 s k) rfl rfl (by
      show s.val < o ∨ o + 1 ≤ s.val
      omega)

/-- After a store of `w` rows from row `o` on, one of those rows reads the payload's. -/
theorem read_rows_of {w : Nat} (v : View sig κ sp (⟨2, ![d, n]⟩ : Shape) e) (f : v.ty.Contents Val) (o : Nat)
    (inb : ∀ a : Fin 2, (![o, 0] : Fin 2 → Nat) a + (![w, n] : Fin 2 → Nat) a ≤ (![d, n] : Fin 2 → Nat) a)
    (p : (Rect.unit (s := ⟨2, ![d, n]⟩) ![o, 0] ![w, n] inb).shape.Idx → Val e) (L : List (View.Piece Val (⟨2, ![d, n]⟩ : Shape) e))
    (s : Fin d) (r : Fin w) (k : Fin n) (h : s.val = o + r.val) :
    v.read Val (v.writes Val f ((⟨Rect.unit (s := ⟨2, ![d, n]⟩) ![o, 0] ![w, n] inb, p⟩ : View.Piece Val (⟨2, ![d, n]⟩ : Shape) e) :: L)) (ix2 s k)
      = p (ix2 r k) :=
  View.read_writes_cons_rows_of_mem v f inb p L (ix2 s k) (ix2 r k) rfl h rfl

/-- After a store of `w` rows from row `o` on, a row below or above them reads what the earlier stores left. -/
theorem read_rows_ne {w : Nat} (v : View sig κ sp (⟨2, ![d, n]⟩ : Shape) e) (f : v.ty.Contents Val) (o : Nat)
    (inb : ∀ a : Fin 2, (![o, 0] : Fin 2 → Nat) a + (![w, n] : Fin 2 → Nat) a ≤ (![d, n] : Fin 2 → Nat) a)
    (p : (Rect.unit (s := ⟨2, ![d, n]⟩) ![o, 0] ![w, n] inb).shape.Idx → Val e) (L : List (View.Piece Val (⟨2, ![d, n]⟩ : Shape) e))
    (s : Fin d) (k : Fin n) (h : s.val < o ∨ o + w ≤ s.val) :
    v.read Val (v.writes Val f ((⟨Rect.unit (s := ⟨2, ![d, n]⟩) ![o, 0] ![w, n] inb, p⟩ : View.Piece Val (⟨2, ![d, n]⟩ : Shape) e) :: L)) (ix2 s k)
      = v.read Val (v.writes Val f L) (ix2 s k) :=
  View.read_writes_cons_rows_of_not_mem (W := w) v f inb p L (ix2 s k) rfl rfl h

/-- After a store of `w` columns from column `o` on, one of those columns reads the payload's. -/
theorem read_cols_of {w : Nat} (v : View sig κ sp (⟨2, ![d, n]⟩ : Shape) e) (f : v.ty.Contents Val) (o : Nat)
    (inb : ∀ a : Fin 2, (![0, o] : Fin 2 → Nat) a + (![d, w] : Fin 2 → Nat) a ≤ (![d, n] : Fin 2 → Nat) a)
    (p : (Rect.unit (s := ⟨2, ![d, n]⟩) ![0, o] ![d, w] inb).shape.Idx → Val e) (L : List (View.Piece Val (⟨2, ![d, n]⟩ : Shape) e))
    (s : Fin d) (k : Fin n) (j : Fin w) (h : k.val = o + j.val) :
    v.read Val (v.writes Val f ((⟨Rect.unit (s := ⟨2, ![d, n]⟩) ![0, o] ![d, w] inb, p⟩ : View.Piece Val (⟨2, ![d, n]⟩ : Shape) e) :: L)) (ix2 s k)
      = p (ix2 s j) :=
  View.read_writes_cons_unit_of_mem v f inb p L (ix2 s k) (ix2 s j) rfl fun a => by
    fin_cases a
    · exact (Nat.zero_add _).symm
    · exact h

/-- After a store of `w` columns from column `o` on, a column left or right of them reads what the earlier stores left. -/
theorem read_cols_ne {w : Nat} (v : View sig κ sp (⟨2, ![d, n]⟩ : Shape) e) (f : v.ty.Contents Val) (o : Nat)
    (inb : ∀ a : Fin 2, (![0, o] : Fin 2 → Nat) a + (![d, w] : Fin 2 → Nat) a ≤ (![d, n] : Fin 2 → Nat) a)
    (p : (Rect.unit (s := ⟨2, ![d, n]⟩) ![0, o] ![d, w] inb).shape.Idx → Val e) (L : List (View.Piece Val (⟨2, ![d, n]⟩ : Shape) e))
    (s : Fin d) (k : Fin n) (h : k.val < o ∨ o + w ≤ k.val) :
    v.read Val (v.writes Val f ((⟨Rect.unit (s := ⟨2, ![d, n]⟩) ![0, o] ![d, w] inb, p⟩ : View.Piece Val (⟨2, ![d, n]⟩ : Shape) e) :: L)) (ix2 s k)
      = v.read Val (v.writes Val f L) (ix2 s k) :=
  View.read_writes_cons_unit_of_not_mem v f inb p L (ix2 s k) rfl (1 : Fin 2) h

/-- A load of `w` columns from column `o` on reads those columns. -/
theorem ld_cols {w : Nat} (X : (⟨2, ![d, n]⟩ : Shape).Idx → Val e) (o : Nat)
    (inb : ∀ a : Fin 2, (![0, o] : Fin 2 → Nat) a + (![d, w] : Fin 2 → Nat) a ≤ (![d, n] : Fin 2 → Nat) a)
    (s : Fin d) (k : Fin n) (j : Fin w) (h : k.val = o + j.val) :
    View.ld X (Rect.unit (s := ⟨2, ![d, n]⟩) ![0, o] ![d, w] inb) (ix2 s j) = X (ix2 s k) :=
  View.ld_unit_apply_of X _ _ inb _ (ix2 s k) fun a => by
    fin_cases a
    · exact (Nat.zero_add _).symm
    · exact h

/-- A load of `w` rows from row `o` on reads those rows. -/
theorem ld_rows {w : Nat} (X : (⟨2, ![d, n]⟩ : Shape).Idx → Val e) (o : Nat)
    (inb : ∀ a : Fin 2, (![o, 0] : Fin 2 → Nat) a + (![w, n] : Fin 2 → Nat) a ≤ (![d, n] : Fin 2 → Nat) a)
    (s : Fin d) (r : Fin w) (k : Fin n) (h : s.val = o + r.val) :
    View.ld X (Rect.unit (s := ⟨2, ![d, n]⟩) ![o, 0] ![w, n] inb) (ix2 r k) = X (ix2 s k) :=
  View.ld_unit_apply_of X _ _ inb _ (ix2 s k) fun a => by
    fin_cases a
    · exact h
    · exact (Nat.zero_add _).symm

/-- After a store of the whole buffer, every row reads the payload. -/
theorem read_full (v : View sig κ sp (⟨2, ![d, n]⟩ : Shape) e) (f : v.ty.Contents Val)
    (inb : ∀ a : Fin 2, (![0, 0] : Fin 2 → Nat) a + (![d, n] : Fin 2 → Nat) a ≤ (![d, n] : Fin 2 → Nat) a)
    (w : (Rect.unit (s := ⟨2, ![d, n]⟩) ![0, 0] ![d, n] inb).shape.Idx → Val e) (L : List (View.Piece Val (⟨2, ![d, n]⟩ : Shape) e))
    (s : Fin d) (k : Fin n) :
    v.read Val (v.writes Val f ((⟨Rect.unit (s := ⟨2, ![d, n]⟩) ![0, 0] ![d, n] inb, w⟩ : View.Piece Val (⟨2, ![d, n]⟩ : Shape) e) :: L)) (ix2 s k)
      = w (ix2 s k) :=
  View.read_writes_cons_rows_of_mem v f inb w L (ix2 s k) (ix2 s k) rfl (Nat.zero_add _).symm rfl

/-- A load of row `o` reads that row. -/
theorem ld_row (X : (⟨2, ![d, n]⟩ : Shape).Idx → Val e) (o : Fin d)
    (inb : ∀ a : Fin 2, (![o.val, 0] : Fin 2 → Nat) a + (![1, n] : Fin 2 → Nat) a ≤ (![d, n] : Fin 2 → Nat) a)
    (k : Fin n) : View.ld X (Rect.unit (s := ⟨2, ![d, n]⟩) ![o.val, 0] ![1, n] inb) (ix2 (0 : Fin 1) k) = X (ix2 o k) :=
  View.ld_unit_apply_of X _ _ inb _ (ix2 o k) fun a => by
    fin_cases a
    · exact (Nat.add_zero _).symm
    · exact (Nat.zero_add _).symm

end Cert.Rows
end
-- ==== Proof.FfnIn.lean ====
/-
  The feed-forward block's input gradient: what the kernel leaves in its three result arrays.
-/
module

public import proofs.«01_k».proof.Proof.Real
public import proofs.«01_k».proof.Proof.Rows
public import Idealize.ShloMosaic.Lib.VecWindow
public import Idealize.ShloMosaic.Lib.Pipeline.ValueKit.Point
public import proofs.«01_k».proof.Proof.Gen.FfnInIdeal.Value

@[expose] public section

set_option maxRecDepth 16384

noncomputable section

namespace Cert.FfnInIdeal.Point

open Cert.FfnInIdeal Cert.FfnInIdeal.Gen Cert.Fin Cert.Rows Idealize.ShloMosaic Idealize.ShloMosaic.TcCoe Idealize.SL.Sem

/-- The first 256 rows of the weight, which the kernel takes as one operand. -/
abbrev lo (k : Fin 256) : Fin 1024 := ⟨k.val, Nat.lt_trans k.isLt (by decide)⟩
/-- The other 768 rows, which it takes as another. -/
abbrev hi (k : Fin 768) : Fin 1024 := ⟨k.val + 256, Nat.add_lt_add_right k.isLt 256⟩

/-! ### The payloads on a tile of real numbers -/

section Pay

variable {u : Vec Ideal S512x5632 .bf16} {a : Vec Ideal S256x5632 .bf16} {b : Vec Ideal S768x5632 .bf16}
  {d x : Vec Ideal S512x1024 .f32} {g : Vec Ideal S1x1024 .f32}
  {U : Fin 512 → Fin 5632 → ℝ} {W : Fin 1024 → Fin 5632 → ℝ} {D X : Fin 512 → Fin 1024 → ℝ} {G : Fin 1024 → ℝ}

/-- The gradient that reaches the layer norm on a tile. -/
def dh (U : Fin 512 → Fin 5632 → ℝ) (W : Fin 1024 → Fin 5632 → ℝ) (D : Fin 512 → Fin 1024 → ℝ) (r : Fin 512) (k : Fin 1024) : ℝ :=
  alpha * D r k + ∑ n, U r n * W k n

section
variable (hx : ∀ r k, x (ix2 r k) = (X r k : EReal))
include hx

theorem pay7 (r : Fin 512) (k : Fin 1024) : k0_pay7 x (ix2 r k) = (X r k - mean (X r) : ℝ) := by
  pointwise [k0_pay7, hx, lit_1024, sum_coe]
  rw [div_real _ (by norm_num), ← EReal.coe_sub]; rfl

theorem pay8 (r : Fin 512) : k0_pay8 x (ix2 r 0) = (rstd (X r) : ℝ) := by
  pointwise [k0_pay8, pay7 hx, lit_1024, lit_eps, ← EReal.coe_mul, sum_coe]
  rw [div_real _ (by norm_num), ← EReal.coe_add]; exact rstd_real _

theorem pay9 (r : Fin 512) (k : Fin 1024) : k0_pay9 x (ix2 r k) = (xhat (X r) k : ℝ) := by
  pointwise [k0_pay9, pay7 hx, pay8 hx, ← EReal.coe_mul]; rfl

end

section
variable (hu : ∀ r n, u (ix2 r n) = (U r n : EReal)) (ha : ∀ (k : Fin 256) n, a (ix2 k n) = (W (lo k) n : EReal))
  (hb : ∀ (k : Fin 768) n, b (ix2 k n) = (W (hi k) n : EReal)) (hd : ∀ r k, d (ix2 r k) = (D r k : EReal))
include hu ha hb hd

theorem pay6 (r : Fin 512) (k : Fin 1024) : k0_pay6 u d a b (ix2 r k) = (dh U W D r k : ℝ) := by
  pointwise [k0_pay6, dot_S512x5632_S256x5632_S512x256_1_1_0_0_n_n, dot_S512x5632_S768x5632_S512x768_1_1_0_0_n_n, hu, ha, hb, hd, lit_alpha, ← EReal.coe_mul, sum_coe]
  rw [Cert.FfnInIdeal.Point.dh, EReal.coe_add]
  split_ifs with h h'
  · rfl
  · have e (j : Fin 768) (hj : j.val = k.val - 256) : hi j = k := Fin.ext (by simp only [hi]; omega)
    rw [e _ rfl]
  · exact absurd rfl h'

variable (hx : ∀ r k, x (ix2 r k) = (X r k : EReal))
include hx

theorem pay11 (r : Fin 512) (k : Fin 1024) : k0_pay11 u d a b x (ix2 r k) = (dh U W D r k * xhat (X r) k : ℝ) := by
  pointwise [k0_pay11, pay6 hu ha hb hd, pay9 hx, ← EReal.coe_mul]

variable (hg : ∀ k, g (ix2 0 k) = (G k : EReal))
include hg

theorem pay3 (r : Fin 512) (k : Fin 1024) :
    k0_pay3 (k0_pay6 u d a b) (k0_pay8 x) (k0_pay9 x) g (ix2 r k) = (lnBwd (X r) (fun k => dh U W D r k * G k) k : ℝ) := by
  pointwise [k0_pay3, pay6 hu ha hb hd, pay8 hx, pay9 hx, hg, lit_1024, ← EReal.coe_mul, sum_coe]
  rw [div_real _ (by norm_num), div_real _ (by norm_num)]
  simp only [← EReal.coe_mul, ← EReal.coe_sub]; rfl

end
end Pay

/-! ### What each grid point leaves -/

variable (m : (ℓ : Loc nD τ sig) → Buf (Elt Ideal) ℓ) (c : Dev nD) (t : Fin cfg0.N)

/-- The gradient that reaches the layer norm, on one tile. -/
abbrev tdh : FVec Ideal S512x1024 .f32 := k0_pay6 (iblk m c 0 t) (iblk m c 3 t) (iblk m c 1 t) (iblk m c 2 t)

/-- What a grid point leaves in the first result's block. -/
theorem out7 : (outsAt0 m c t.val t.isLt).1
    = k0_pay3 (tdh m c t) (k0_pay8 (iblk m c 4 t)) (k0_pay9 (iblk m c 4 t)) (iblk m c 5 t) := by
  by_cases h0 : t.val % 16 = 0
  · rw [outsAt0_A m c t h0]; dsimp only
    unfold out0_A_7; rw [View.read_writes_junk_eq_canon]
    unfold kernelRun0_A; dsimp only; sl_unfold_words; rw [View.canon_unit_zero off_zero]
    simp only [View.readAt_eq_ld, (hs0_0 t).read_unread, (hs0_1 t).read_unread, (hs0_2 t).read_unread, (hs0_3 t).read_unread, (hs0_4 t).read_unread, (hs0_5 t).read_unread, View.ld_unit_zero (S := S512x5632) off_zero, View.ld_unit_zero (S := S256x5632) off_zero, View.ld_unit_zero (S := S768x5632) off_zero, View.ld_unit_zero (S := S512x1024) off_zero,View.ld_unit_zero (S := S1x1024) off_zero, shapeCast_self]
  · rw [outsAt0_B m c t h0]; dsimp only
    unfold out0_B_7; rw [View.read_writes_junk_eq_canon]
    unfold kernelRun0_B; dsimp only; sl_unfold_words; rw [View.canon_unit_zero off_zero]
    simp only [View.readAt_eq_ld, (hs0_0 t).read_unread, (hs0_1 t).read_unread, (hs0_2 t).read_unread, (hs0_3 t).read_unread, (hs0_4 t).read_unread, (hs0_5 t).read_unread, View.ld_unit_zero (S := S512x5632) off_zero, View.ld_unit_zero (S := S256x5632) off_zero, View.ld_unit_zero (S := S768x5632) off_zero, View.ld_unit_zero (S := S512x1024) off_zero,View.ld_unit_zero (S := S1x1024) off_zero, shapeCast_self]

/-- What a grid point leaves in the second result's block: the first's, in the other format. -/
theorem out8 : (outsAt0 m c t.val t.isLt).2.1
    = k0_pay4 (tdh m c t) (k0_pay8 (iblk m c 4 t)) (k0_pay9 (iblk m c 4 t)) (iblk m c 5 t) := by
  by_cases h0 : t.val % 16 = 0
  · rw [outsAt0_A m c t h0]; dsimp only
    unfold out0_A_8; rw [View.read_writes_junk_eq_canon]
    unfold kernelRun0_A; dsimp only; sl_unfold_words; rw [View.canon_unit_zero off_zero]
    simp only [View.readAt_eq_ld, (hs0_0 t).read_unread, (hs0_1 t).read_unread, (hs0_2 t).read_unread, (hs0_3 t).read_unread, (hs0_4 t).read_unread, (hs0_5 t).read_unread, View.ld_unit_zero (S := S512x5632) off_zero, View.ld_unit_zero (S := S256x5632) off_zero, View.ld_unit_zero (S := S768x5632) off_zero, View.ld_unit_zero (S := S512x1024) off_zero,View.ld_unit_zero (S := S1x1024) off_zero, shapeCast_self]
  · rw [outsAt0_B m c t h0]; dsimp only
    unfold out0_B_8; rw [View.read_writes_junk_eq_canon]
    unfold kernelRun0_B; dsimp only; sl_unfold_words; rw [View.canon_unit_zero off_zero]
    simp only [View.readAt_eq_ld, (hs0_0 t).read_unread, (hs0_1 t).read_unread, (hs0_2 t).read_unread, (hs0_3 t).read_unread, (hs0_4 t).read_unread, (hs0_5 t).read_unread, View.ld_unit_zero (S := S512x5632) off_zero, View.ld_unit_zero (S := S256x5632) off_zero, View.ld_unit_zero (S := S768x5632) off_zero, View.ld_unit_zero (S := S512x1024) off_zero,View.ld_unit_zero (S := S1x1024) off_zero, shapeCast_self]

/-- The column sums a tile adds: the gain's in row 0, the shift's in row 1, nothing elsewhere. -/
abbrev tsum (s : Fin 8) (k : Fin 1024) : EReal :=
  if s.val = 0 then ∑ r : Fin 512, k0_pay11 (iblk m c 0 t) (iblk m c 3 t) (iblk m c 1 t) (iblk m c 2 t) (iblk m c 4 t) (ix2 r k)
  else if s.val = 1 then ∑ r : Fin 512, tdh m c t (ix2 r k) else 0

theorem out9_A (h0 : t.val % 16 = 0) (s : Fin 8) (k : Fin 1024) : (outsAt0 m c t.val t.isLt).2.2 (ix2 s k) = tsum m c t s k := by
    rw [outsAt0_A m c t h0]; dsimp only
    unfold out0_A_9
    unfold kernelRun0_A; dsimp only; sl_unfold_words
    simp only [View.readCov, View.readAt_eq_ld, (hs0_0 t).read_unread, (hs0_1 t).read_unread, (hs0_2 t).read_unread, (hs0_3 t).read_unread, (hs0_4 t).read_unread, (hs0_5 t).read_unread, View.ld_unit_zero (S := S512x5632) off_zero, View.ld_unit_zero (S := S256x5632) off_zero, View.ld_unit_zero (S := S768x5632) off_zero, View.ld_unit_zero (S := S512x1024) off_zero,View.ld_unit_zero (S := S1x1024) off_zero, shapeCast_self]
    rw [read_row, read_row, read_full]
    pointwise [k0_pay1, k0_pay2, k0_pay10, read_row, read_full, k0_pay5]
    unfold tsum
    split_ifs with h1 h2 h2
    · omega
    · simp
    · simp
    · simp [lit_zero]

theorem out9_B (h0 : ¬ t.val % 16 = 0) (s : Fin 8) (k : Fin 1024) : (outsAt0 m c t.val t.isLt).2.2 (ix2 s k)
    = (outsAt0 m c (t.val - 1) (Nat.lt_of_le_of_lt (Nat.sub_le _ _) t.isLt)).2.2 (ix2 s k) + tsum m c t s k := by
    rw [outsAt0_B m c t h0]; dsimp only
    unfold out0_B_9
    unfold kernelRun0_B; dsimp only; sl_unfold_words
    simp only [View.readAt_eq_ld, (hs0_0 t).read_unread, (hs0_1 t).read_unread, (hs0_2 t).read_unread, (hs0_3 t).read_unread, (hs0_4 t).read_unread, (hs0_5 t).read_unread, (hs0_9 t).read_unread, View.ld_unit_zero (S := S512x5632) off_zero, View.ld_unit_zero (S := S256x5632) off_zero, View.ld_unit_zero (S := S768x5632) off_zero, View.ld_unit_zero (S := S512x1024) off_zero,View.ld_unit_zero (S := S1x1024) off_zero, shapeCast_self]
    rw [read_row, read_row, View.writes_nil, (hs0_9 t).read_unread]
    pointwise [k0_pay1, k0_pay2, k0_pay10]
    unfold tsum
    split_ifs with h1 h2 h2
    · omega
    · rw [show s = 1 from Fin.ext h1]
    · rw [show s = 0 from Fin.ext h2]
    · rw [add_zero]

end Cert.FfnInIdeal.Point
end
-- ==== Proof.FfnInRef.lean ====
/-
  The reference of the feed-forward block's input gradient, read at an index: each operation it writes, on arrays that
  hold real numbers, down to its three results.
-/
module

public import proofs.«01_k».proof.Proof.Real
public import proofs.«01_k».proof.Proof.Gen.FfnInRefIdeal.Read

@[expose] public section

set_option maxRecDepth 16384

noncomputable section

namespace Cert.FfnInRefIdeal.Read

open Cert.FfnInRefIdeal Cert.FfnInRefIdeal.Gen Cert.Fin Idealize.ShloMosaic Idealize.ShloMosaic.TcCoe Idealize.SL.Sem

variable {x0 : (⟨S8192x5632, .bf16⟩ : BufTy).Contents (Elt Ideal)} {x1 : (⟨S1x1024x5632, .f32⟩ : BufTy).Contents (Elt Ideal)}
  {x2 x3 : (⟨S8192x1024, .f32⟩ : BufTy).Contents (Elt Ideal)} {x4 x5 : (⟨S1x1024, .f32⟩ : BufTy).Contents (Elt Ideal)}
  {U : Fin 8192 → Fin 5632 → ℝ} {W : Fin 1024 → Fin 5632 → ℝ} {D X : Fin 8192 → Fin 1024 → ℝ} {G : Fin 1024 → ℝ}

section Norm
variable (h3 : ∀ r k, x3 (ix2 r k) = (X r k : EReal))
include h3

/-- The row means. -/
theorem v5_real (r : Fin 8192) : val_main_v5 (F := Ideal) x3 (ix2 r 0) = (mean (X r) : ℝ) := by
  pointwise [val_main_v5, val_main_v3, val_main_v2, val_main_v4, val_main_cst, val_main_cst_0, h3, lit_1024, sum_coe]
  rw [div_real _ (by norm_num)]; rfl

/-- The deviations from the row means. -/
theorem v7_real (r : Fin 8192) (k : Fin 1024) : val_main_v7 (F := Ideal) x3 (ix2 r k) = (X r k - mean (X r) : ℝ) := by
  pointwise [val_main_v7, val_main_v6, v5_real h3, h3, ← EReal.coe_sub]

/-- The same deviations, as the reference computes them a second time. -/
theorem v16_real (r : Fin 8192) (k : Fin 1024) : val_main_v16 (F := Ideal) x3 (ix2 r k) = (X r k - mean (X r) : ℝ) := by
  pointwise [val_main_v16, val_main_v15, v5_real h3, h3, ← EReal.coe_sub]

/-- The row variances, with the small constant added. -/
theorem v18_real (r : Fin 8192) : val_main_v18 (F := Ideal) x3 (ix2 r 0) = (var (X r) + eps : ℝ) := by
  pointwise [val_main_v18, val_main_v14, val_main_v12, val_main_v11, val_main_v8, val_main_v13, val_main_v17, val_main_cst_2,
    val_main_cst_3, val_main_cst_4, v7_real h3, lit_1024, lit_eps, ← EReal.coe_mul, sum_coe]
  rw [div_real _ (by norm_num), ← EReal.coe_add]; rfl

/-- The reciprocal standard deviations. -/
theorem v19_real (r : Fin 8192) : val_main_v19 (F := Ideal) x3 (ix2 r 0) = (rstd (X r) : ℝ) := by
  pointwise [val_main_v19, v18_real h3, rstd_real]

/-- The normalised rows. -/
theorem v24_real (r : Fin 8192) (k : Fin 1024) : val_main_v24 (F := Ideal) x3 (ix2 r k) = (xhat (X r) k : ℝ) := by
  pointwise [val_main_v24, val_main_v23, v16_real h3, v19_real h3, ← EReal.coe_mul]; rfl

/-- Minus half the reciprocal standard deviation over the variance: the derivative of the reciprocal square root. -/
theorem v22_real (r : Fin 8192) :
    val_main_v22 (F := Ideal) x3 (ix2 r 0) = (-(1 / 2) * (rstd (X r) / (var (X r) + eps)) : ℝ) := by
  pointwise [val_main_v22, val_main_v20, val_main_v21, val_main_cst_5, v18_real h3, v19_real h3, lit_neg_half]
  rw [div_real _ (var_eps_pos _).ne', ← EReal.coe_mul]

/-- Twice the deviations. -/
theorem v10_real (r : Fin 8192) (k : Fin 1024) : val_main_v10 (F := Ideal) x3 (ix2 r k) = (2 * (X r k - mean (X r)) : ℝ) := by
  pointwise [val_main_v10, val_main_v9, val_main_cst_1, v7_real h3, lit_two, ← EReal.coe_mul]

end Norm

/-- The gradient that reaches the block's output of the layer norm: the product with the weight and the residual path. -/
def dh (U : Fin 8192 → Fin 5632 → ℝ) (W : Fin 1024 → Fin 5632 → ℝ) (D : Fin 8192 → Fin 1024 → ℝ) (r : Fin 8192) (k : Fin 1024) : ℝ :=
  alpha * D r k + ∑ n, U r n * W k n

section Grad
variable (h0 : ∀ r n, x0 (ix2 r n) = (U r n : EReal)) (h1 : ∀ k n, x1 (ix3 0 k n) = (W k n : EReal))
  (h2 : ∀ r k, x2 (ix2 r k) = (D r k : EReal))
include h0 h1 h2

/-- The gradient that reaches the layer norm's output. -/
theorem v39_real (r : Fin 8192) (k : Fin 1024) : val_main_v39 (F := Ideal) x0 x1 x2 (ix2 r k) = (dh U W D r k : ℝ) := by
  have hl : ∀ n, lidx_main_v36 (ix2 r k) n = ix2 r n := fun n => funext fun a => by fin_cases a <;> rfl
  have hr : ∀ n, ridx_main_v36 (ix2 r k) n = ix2 k n := fun n => funext fun a => by fin_cases a <;> rfl
  rw [val_main_v39_apply, val_main_v36_apply]
  simp only [hl, hr]
  pointwise [val_main_v35, val_main_v33, val_main_v37, val_main_v38, val_main_cst_7, h0, h1, h2, lit_alpha, ← EReal.coe_mul, sum_coe, ← EReal.coe_add]
  rw [add_comm]; rfl

/-- The gradient of the layer norm's shift: the sum over the tokens. -/
theorem v42_real (k : Fin 1024) : val_main_v42 (F := Ideal) x0 x1 x2 (ix1 k) = (∑ r, dh U W D r k : ℝ) := by
  pointwise [val_main_v42, val_main_v41, val_main_v40, val_main_cst_8, val_main_cst_9, v39_real h0 h1 h2, sum_coe,
    Fin.sum_univ_one]

variable (h3 : ∀ r k, x3 (ix2 r k) = (X r k : EReal))
include h3

/-- The gradient of the layer norm's gain: the sum over the tokens. -/
theorem v48_real (k : Fin 1024) :
    val_main_v48 (F := Ideal) x0 x1 x2 x3 (ix1 k) = (∑ r, xhat (X r) k * dh U W D r k : ℝ) := by
  pointwise [val_main_v48, val_main_v45, val_main_v44, val_main_v43, val_main_cst_10, val_main_cst_11, v39_real h0 h1 h2,
    v24_real h3, ← EReal.coe_mul, sum_coe, Fin.sum_univ_one]

variable (h4 : ∀ k, x4 (ix2 0 k) = (G k : EReal))
include h4

/-- The gradient that reaches the normalised rows. -/
theorem v47_real (r : Fin 8192) (k : Fin 1024) :
    val_main_v47 (F := Ideal) x0 x1 x2 x4 (ix2 r k) = (dh U W D r k * G k : ℝ) := by
  pointwise [val_main_v47, val_main_v46, val_main_v25, val_main_v0, v39_real h0 h1 h2, h4, ← EReal.coe_mul]

/-- The gradient's path through the normalised rows, the deviations taken as they are. -/
theorem v53_real (r : Fin 8192) (k : Fin 1024) :
    val_main_v53 (F := Ideal) x0 x1 x2 x3 x4 (ix2 r k) = (dh U W D r k * G k * rstd (X r) : ℝ) := by
  pointwise [val_main_v53, val_main_v52, v47_real h0 h1 h2 h3 h4, v19_real h3, ← EReal.coe_mul]

/-- The gradient's path through the variance. -/
theorem v62_real (r : Fin 8192) (k : Fin 1024) :
    val_main_v62 (F := Ideal) x0 x1 x2 x3 x4 (ix2 r k)
      = ((∑ k, (X r k - mean (X r)) * (dh U W D r k * G k)) * (-(1 / 2) * (rstd (X r) / (var (X r) + eps))) / 1024
          * (2 * (X r k - mean (X r))) : ℝ) := by
  pointwise [val_main_v62, val_main_v61, val_main_v60, val_main_v59, val_main_v58, val_main_v54, val_main_v51, val_main_v50,
    val_main_v49, val_main_cst_12, val_main_cst_14, val_main_cst_15, v16_real h3, v47_real h0 h1 h2 h3 h4, v22_real h3,
    v10_real h3, lit_1024, ← EReal.coe_mul, sum_coe]
  rw [Fin.sum_univ_one, v22_real h3, ← EReal.coe_mul, div_real _ (by norm_num), ← EReal.coe_mul]

/-- The first result: the gradient of the block's input. -/
theorem v72_real (r : Fin 8192) (k : Fin 1024) :
    val_main_v72 (F := Ideal) x0 x1 x2 x3 x4 (ix2 r k) = (lnBwd (X r) (fun k => dh U W D r k * G k) k : ℝ) := by
  pointwise [val_main_v72, val_main_v71, val_main_v70, val_main_v69, val_main_v68, val_main_v67, val_main_v66, val_main_v65,
    val_main_v64, val_main_v63, val_main_v57, val_main_v56, val_main_v55, val_main_cst_13, val_main_cst_16, val_main_cst_17,
    val_main_cst_18, v53_real h0 h1 h2 h3 h4, v62_real h0 h1 h2 h3 h4, lit_1024, ← EReal.coe_neg, sum_coe, ← EReal.coe_add]
  rw [Fin.sum_univ_one, div_real _ (by norm_num), ← EReal.coe_add, ← lnBwd_eq]

/-- The third result: gain, shift and six rows of zeros. -/
theorem v76_real (s : Fin 8) (k : Fin 1024) :
    val_main_v76 (F := Ideal) x0 x1 x2 x3 (ix2 s k)
      = ((if s.val = 0 then ∑ r, xhat (X r) k * dh U W D r k else if s.val = 1 then ∑ r, dh U W D r k else 0 : ℝ) : EReal) := by
  pointwise [val_main_v76, val_main_v73, val_main_v74, val_main_v75, val_main_cst_19, v48_real h0 h1 h2 h3, v42_real h0 h1 h2]
  split_ifs <;> first | rfl | omega

end Grad
end Cert.FfnInRefIdeal.Read
end
-- ==== Proof.FfnInValue.lean ====
/-
  The feed-forward block's input gradient: the kernel's result arrays are the reference's.
-/
module

public import proofs.«01_k».proof.Proof.FfnIn
public import proofs.«01_k».proof.Proof.FfnInRef
public import Idealize.ShloMosaic.Lib.Pipeline.ValueKit.Point

@[expose] public section

set_option maxRecDepth 16384

noncomputable section

namespace Cert.FfnInIdeal.Point

open Cert.FfnInIdeal Cert.FfnInIdeal.Gen Cert.Fin Cert.Rows Idealize.ShloMosaic Idealize.ShloMosaic.TcCoe Idealize.SL.Sem

variable (m : (ℓ : Loc nD τ sig) → Buf (Elt Ideal) ℓ) (c : Dev nD) (t : Fin cfg0.N)

/-! ### The blocks as parts of the argument arrays -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![0, 0] := (by decide +kernel : ∀ t : Fin grid0.N, _)

/-- Row `r` of tile `t` among the 8192 rows. -/
abbrev row (t : Fin cfg0.N) (r : Fin 512) : Fin 8192 := ⟨512 * t.val + r.val, by have : t.val < 16 := t.isLt; omega⟩

theorem blk0 (r : Fin 512) (n : Fin 5632) : iblk m c 0 t (ix2 r n) = m ((c : Thread nD τ).loc main_arg0) (ix2 (row t r) n) := by
  blk_ext! [iblk, V, idx0 t]

theorem blk3 (r : Fin 512) (n : Fin 1024) : iblk m c 3 t (ix2 r n) = m ((c : Thread nD τ).loc main_arg2) (ix2 (row t r) n) := by
  blk_ext! [iblk, V, idx3 t]

theorem blk4 (r : Fin 512) (n : Fin 1024) : iblk m c 4 t (ix2 r n) = m ((c : Thread nD τ).loc main_arg3) (ix2 (row t r) n) := by
  blk_ext! [iblk, V, idx4 t]

theorem blk5 (k : Fin 1024) : iblk m c 5 t (ix2 0 k) = m ((c : Thread nD τ).loc main_arg4) (ix2 0 k) := by
  blk_ext! [iblk, V, idx5 t]

theorem blk1 (k : Fin 256) (n : Fin 5632) : iblk m c 1 t (ix2 k n) = m ((c : Thread nD τ).loc main_arg1) (ix3 0 (lo k) n) := by
  blk_ext! [iblk, V, idx1 t]

theorem blk2 (k : Fin 768) (n : Fin 5632) : iblk m c 2 t (ix2 k n) = m ((c : Thread nD τ).loc main_arg1) (ix3 0 (hi k) n) := by
  blk_ext! [iblk, V, idx2 t]

/-! ### The result arrays -/

section Final

variable {U : Fin 8192 → Fin 5632 → ℝ} {W : Fin 1024 → Fin 5632 → ℝ} {D X : Fin 8192 → Fin 1024 → ℝ} {G : Fin 1024 → ℝ}
  (h0 : ∀ r n, m ((c : Thread nD τ).loc main_arg0) (ix2 r n) = (U r n : EReal))
  (h1 : ∀ k n, m ((c : Thread nD τ).loc main_arg1) (ix3 0 k n) = (W k n : EReal))
  (h2 : ∀ r k, m ((c : Thread nD τ).loc main_arg2) (ix2 r k) = (D r k : EReal))
  (h3 : ∀ r k, m ((c : Thread nD τ).loc main_arg3) (ix2 r k) = (X r k : EReal))
  (h4 : ∀ k, m ((c : Thread nD τ).loc main_arg4) (ix2 0 k) = (G k : EReal))

/-- The reference's first result on the kernel's arguments. -/
abbrev ref72 : FVec Ideal S8192x1024 .f32 :=
  Cert.FfnInRefIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The reference's third result on the kernel's arguments. -/
abbrev ref76 : FVec Ideal S8x1024 .f32 :=
  Cert.FfnInRefIdeal.Read.val_main_v76 (F := Ideal) (m ((c : Thread nD τ).loc main_arg0)) (m ((c : Thread nD τ).loc main_arg1)) (m ((c : Thread nD τ).loc main_arg2)) (m ((c : Thread nD τ).loc main_arg3))

include h0 h1 h2 h3

theorem tdh_real (r : Fin 512) (k : Fin 1024) : tdh m c t (ix2 r k) = (Cert.FfnInRefIdeal.Read.dh U W D (row t r) k : EReal) :=
  pay6 (U := fun r => U (row t r)) (W := W) (D := fun r => D (row t r))
    (fun r n => (blk0 m c t r n).trans (h0 _ n)) (fun k n => (blk1 m c t k n).trans (h1 _ n)) (fun k n => (blk2 m c t k n).trans (h1 _ n))
    (fun r n => (blk3 m c t r n).trans (h2 _ n)) r k

theorem tsum_real (s : Fin 8) (k : Fin 1024) : tsum m c t s k
    = ((if s.val = 0 then ∑ r : Fin 512, xhat (X (row t r)) k * Cert.FfnInRefIdeal.Read.dh U W D (row t r) k
        else if s.val = 1 then ∑ r : Fin 512, Cert.FfnInRefIdeal.Read.dh U W D (row t r) k else 0 : ℝ) : EReal) := by
  have e : ∀ r k, k0_pay11 (iblk m c 0 t) (iblk m c 3 t) (iblk m c 1 t) (iblk m c 2 t) (iblk m c 4 t) (ix2 r k)
      = (Cert.FfnInRefIdeal.Read.dh U W D (row t r) k * xhat (X (row t r)) k : ℝ) :=
    pay11 (U := fun r => U (row t r)) (W := W) (D := fun r => D (row t r)) (X := fun r => X (row t r))
      (fun r n => (blk0 m c t r n).trans (h0 _ n)) (fun k n => (blk1 m c t k n).trans (h1 _ n)) (fun k n => (blk2 m c t k n).trans (h1 _ n))
      (fun r n => (blk3 m c t r n).trans (h2 _ n)) (fun r n => (blk4 m c t r n).trans (h3 _ n))
  unfold tsum
  simp only [e, tdh_real m c t h0 h1 h2 h3, sum_coe]
  split_ifs
  · exact congrArg _ (Finset.sum_congr rfl fun r _ => mul_comm _ _)
  · rfl
  · rfl

include h4

/-- At the last point the third result's block holds the sums over all points. -/
theorem acc9 (ht : t.val + 1 = cfg0.N) (s : Fin 8) (k : Fin 1024) : (outsAt0 m c t.val t.isLt).2.2 (ix2 s k) = ref76 m c (ix2 s k) := by
  have e := Pipeline.eq_sum_fin_of_reset_step_apply_last (N := cfg0.N) (fun n h (i : Fin 8 × Fin 1024) => (outsAt0 m c n h).2.2 (ix2 i.1 i.2))
    16 (fun _ => 0) (fun t i => tsum m c t i.1 i.2) (fun t h i => by rw [zero_add]; exact out9_A m c t h i.1 i.2) (fun t h i => out9_B m c t h i.1 i.2)
    (by decide) t ht (s, k)
  rw [ref76, Cert.FfnInRefIdeal.Read.v76_real h0 h1 h2 h3 h4]
  refine e.trans ?_
  simp only [tsum_real m c _ h0 h1 h2 h3, sum_coe, zero_add]
  congr 1
  have e16 (f : Fin 8192 → ℝ) : ∑ t : Fin cfg0.N, ∑ r : Fin 512, f (row t r) = ∑ r, f r :=
    Fin.sum_mul_add_congr (F := fun (t : Fin 16) (r : Fin 512) => f (row t r)) fun t r hl =>
      congrArg f (Fin.ext (congrArg (· + r.val) (Nat.mul_comm _ _)))
  split_ifs
  · exact e16 fun r => xhat (X r) k * Cert.FfnInRefIdeal.Read.dh U W D r k
  · exact e16 fun r => Cert.FfnInRefIdeal.Read.dh U W D r k
  · simp

/-- The third result: the reference's column sums. -/
theorem final9 : (dats m 0 c).arrAt 9 cfg0.N = ref76 m c := by
  refine (dats m 0 c).arrAt_eq_of_covers 9 _ (by decide +kernel) fun t hf y => ?_
  blk_simp
  rw [after0_9]
  obtain ⟨s, k, rfl⟩ : ∃ s k, y = ix2 s k := ⟨y 0, y 1, by funext a; fin_cases a <;> rfl⟩
  have e : (win0_9.blk t).view.emb (ix2 s k) = (ix2 s k : S8x1024.Idx) := by
    blk_ext [idx9 t]
  have ht : t.val + 1 = cfg0.N := by
    have := (flush0_9 t).mp hf
    have : t.val < 16 := t.isLt
    show t.val + 1 = 16
    omega
  rw [e]
  exact acc9 m c t h0 h1 h2 h3 h4 ht s k

/-- The first result: the reference's input gradient. -/
theorem final7 : (dats m 0 c).arrAt 7 cfg0.N = ref72 m c := by
  refine (dats m 0 c).arrAt_eq_of_covers 7 _ (by decide +kernel) fun t hf y => ?_
  blk_simp
  rw [after0_7, out7]
  obtain ⟨r, k, rfl⟩ : ∃ r k, y = ix2 r k := ⟨y 0, y 1, by funext a; fin_cases a <;> rfl⟩
  have e : (win0_7.blk t).view.emb (ix2 r k) = (ix2 (row t r) k : S8192x1024.Idx) := by
    blk_ext [idx7 t]
  rw [e, ref72, Cert.FfnInRefIdeal.Read.v72_real h0 h1 h2 h3 h4]
  exact pay3 (U := fun r => U (row t r)) (W := W) (D := fun r => D (row t r)) (X := fun r => X (row t r)) (G := G)
    (fun r n => (blk0 m c t r n).trans (h0 _ n)) (fun k n => (blk1 m c t k n).trans (h1 _ n)) (fun k n => (blk2 m c t k n).trans (h1 _ n))
    (fun r n => (blk3 m c t r n).trans (h2 _ n)) (fun r n => (blk4 m c t r n).trans (h3 _ n)) (fun k => (blk5 m c t k).trans (h4 k)) r k

/-- The second result: the same in the other format. -/
theorem final8 : (dats m 0 c).arrAt 8 cfg0.N = Cert.FfnInRefIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8, out8]
  obtain ⟨r, k, rfl⟩ : ∃ r k, y = ix2 r k := ⟨y 0, y 1, by funext a; fin_cases a <;> rfl⟩
  have e : (win0_8.blk t).view.emb (ix2 r k) = (ix2 (row t r) k : S8192x1024.Idx) := by
    blk_ext [idx8 t]
  rw [e]
  refine Eq.trans ?_ (Cert.FfnInRefIdeal.Read.v72_real h0 h1 h2 h3 h4 (row t r) k).symm
  exact pay3 (U := fun r => U (row t r)) (W := W) (D := fun r => D (row t r)) (X := fun r => X (row t r)) (G := G)
    (fun r n => (blk0 m c t r n).trans (h0 _ n)) (fun k n => (blk1 m c t k n).trans (h1 _ n)) (fun k n => (blk2 m c t k n).trans (h1 _ n))
    (fun r n => (blk3 m c t r n).trans (h2 _ n)) (fun r n => (blk4 m c t r n).trans (h3 _ n)) (fun k => (blk5 m c t k).trans (h4 k)) r k

end Final

end Cert.FfnInIdeal.Point
end
-- ==== Proof.Finite.lean ====
/-
  What the preconditions say: a printed test "every absolute value is below infinity" names an array of real numbers.
-/
module

public import proofs.«01_k».proof.Proof.Real
public import Idealize.ShloMosaic.Lib.Pointwise
public import Idealize.ShloMosaic.Lib.ValueIdx
public import Idealize.ShloMosaic.Lib.ReduceAll
public import Idealize.ShloMosaic.Lib.StableHlo
public import Idealize.ShloMosaic.PureOps

@[expose] public section

noncomputable section

namespace Cert.Fin

open Idealize.ShloMosaic

/-- The shape of one number. -/
abbrev Unit0 : Shape := ⟨0, ![]⟩

instance : Subsingleton Unit0.Idx := ⟨fun a b => funext fun x => x.elim0⟩

theorem lit_inf16 : Ideal.ofBits .bf16 0x7F80#16 = ⊤ := by
  simp [Ideal.ofBits, Ideal.ieee]

/-- The array holds real numbers. -/
abbrev IsReal {s : Shape} {e : FTy} (x : FVec Ideal s e) : Prop := ∃ X : s.Idx → ℝ, ∀ i, x i = (X i : EReal)

/-- Where the printed test of an array is true, the array holds real numbers. -/
theorem real_of_test {s : Shape} {e : FTy} {axes : List (Fin s.rank)} {x : FVec Ideal s e} {top : FVec Ideal Unit0 e} {init : IVec Unit0 1}
    {hb : Unit0.BroadcastsInDim s (![] : Fin 0 → Fin s.rank)} {hr : s.ReducesTo axes Unit0} {hu : 0 < Unit0.numel} (j : Unit0.Idx)
    (h : Host.reduce IntOp.andi (cmpf .olt (Host.absf x) (broadcastInDim s ![] hb top)) init hr hu j = 1#1)
    (ht : ∀ i, top i = (⊤ : EReal) := by first | exact fun _ => lit_inf | exact fun _ => lit_inf16) :
    IsReal x := by
  have hall : ∀ i, ∃ r : ℝ, (x i : EReal) = r := fun i => by
    have h1 := Host.reduce_andi_all _ init hr hu j h i
    have h2 : Ideal.cmp .olt (max (x i) (-(x i))) (⊤ : EReal) = 1#1 := by
      have h3 : Ideal.cmp .olt (max (x i) (-(x i))) (broadcastInDim s ![] hb top i) = 1#1 := h1
      unfold broadcastInDim at h3
      rwa [ht] at h3
    refine real_of_abs_lt (Classical.not_not.1 fun hn => ?_)
    simp only [Ideal.cmp, hn, decide_false] at h2
    exact absurd h2 (by decide)
  exact ⟨fun i => (hall i).choose, fun i => (hall i).choose_spec⟩

end Cert.Fin
end
-- ==== Proof.FfnInClaim.lean ====
/-
  The claims about the feed-forward block's input gradient.
-/
module

public import proofs.«01_k».proof.Defs
public import proofs.«01_k».proof.Proof.FfnInValue
public import proofs.«01_k».proof.Proof.Finite
public import proofs.«01_k».proof.Proof.Gen.FfnIn.Frame
public import Idealize.ShloMosaic.Lib.Claim
public import Idealize.ShloMosaic.Adequacy
public import Idealize.ShloMosaic.Init

@[expose] public section

set_option maxRecDepth 16384

noncomputable section

namespace Cert.FfnInClaim

open Idealize.ShloMosaic Idealize.ShloMosaic.TcCoe Idealize.SL.Sem Cert.Fin

/-- The side conditions of the printed precondition. -/
theorem preFacts : Cert.Pre_ffn_in_finite.Facts := by
  constructor <;> decide

/-- The kernel at machine formats runs, leaves its arguments and returns its counters. -/
theorem frame_p : Cert.quiescent_FfnIn (hFfnIn := Cert.FfnIn.Gen.facts) := fun m ρ _ => Cert.FfnIn.Gen.frame m ρ

/-- So does the kernel over the extended reals. -/
theorem frame_i : Cert.quiescent_FfnInIdeal (hFfnInIdeal := Cert.FfnInIdeal.Gen.facts) := fun m ρ _ => Cert.FfnInIdeal.Gen.frame m ρ

/-- So does the reference. -/
theorem frame_r : Cert.quiescent_FfnInRefIdeal (hFfnInRefIdeal := Cert.FfnInRefIdeal.Gen.facts) := fun m ρ _ =>
  (θ_run Cert.FfnInRefIdeal.defs _ _).mono (fun r h => ⟨fun c => (h c).2.2.2, sem_eq_zero_of_no_sems (by decide) r.2⟩)
    (Cert.FfnInRefIdeal.Value.run m ρ)

/-- The precondition says that the arguments the gradient reads hold real numbers. -/
theorem pre_real [Cert.Pre_ffn_in_finite.Facts] {x0 : FVec Ideal Cert.Pre_ffn_in_finite.S8192x5632 .bf16} {x1 : FVec Ideal Cert.Pre_ffn_in_finite.S1x1024x5632 .f32}
    {x2 x3 : FVec Ideal Cert.Pre_ffn_in_finite.S8192x1024 .f32} {x4 x5 : FVec Ideal Cert.Pre_ffn_in_finite.S1x1024 .f32}
    (h : Cert.Pre_ffn_in_finite.fn (F := Ideal) x0 x1 x2 x3 x4 x5 = fun _ => 1#1) :
    IsReal x0 ∧ IsReal x1 ∧ IsReal x2 ∧ IsReal x3 ∧ IsReal x4 := by
  have e := congrFun h fun a => a.elim0
  simp only [Cert.Pre_ffn_in_finite.fn, Cert.Pre_ffn_in_finite.fn_part1, andi, IntOp.andi_eq_one] at e
  obtain ⟨⟨⟨⟨⟨_, e0⟩, e1⟩, e2⟩, e3⟩, e4⟩ := e
  exact ⟨real_of_test _ e0, real_of_test _ e1, real_of_test _ e2, real_of_test _ e3, real_of_test _ e4⟩

/-- The kernel computes the reference's three results. -/
theorem value : Cert.algebraic_FfnInIdeal_FfnInRefIdeal_pre_ffn_in_finite (hFfnInIdeal := Cert.FfnInIdeal.Gen.facts)
    (hFfnInRefIdeal := Cert.FfnInRefIdeal.Gen.facts) (hPre_ffn_in_finite := preFacts) := by
  intro m ρ m' ρ' hpre hag
  refine ⟨fun c => (Cert.FfnInIdeal.Gen.dats m 0 c).arrAt 7 Cert.FfnInIdeal.cfg0.N, fun c => (Cert.FfnInIdeal.Gen.dats m 0 c).arrAt 8 Cert.FfnInIdeal.cfg0.N,
    fun c => (Cert.FfnInIdeal.Gen.dats m 0 c).arrAt 9 Cert.FfnInIdeal.cfg0.N, Cert.FfnInIdeal.Value.run_blocks m ρ,
    (θ_run Cert.FfnInRefIdeal.defs _ _).mono (fun r h c => ?_) (Cert.FfnInRefIdeal.Value.run m' ρ')⟩
  haveI := preFacts
  obtain ⟨⟨U, hU⟩, ⟨W, hW⟩, ⟨D, hD⟩, ⟨X, hX⟩, ⟨G, hG⟩⟩ := pre_real (hpre c)
  obtain ⟨a0, a1, a2, a3, a4, a5⟩ := hag c
  obtain ⟨r0, r1, r2, rest⟩ := h c
  refine ⟨r0.trans ?_, r1.trans ?_, r2.trans ?_, rest⟩
  · rw [Cert.FfnInRefIdeal.Read.val_main_v72_eq, a0, a1, a2, a3, a4]
    exact (Cert.FfnInIdeal.Point.final7 m c (fun _ _ => hU _) (fun _ _ => hW _) (fun _ _ => hD _) (fun _ _ => hX _) (fun _ => hG _)).symm
  · rw [Cert.FfnInRefIdeal.Read.val_main_v77_eq, a0, a1, a2, a3, a4]
    exact (Cert.FfnInIdeal.Point.final8 m c (fun _ _ => hU _) (fun _ _ => hW _) (fun _ _ => hD _) (fun _ _ => hX _) (fun _ => hG _)).symm
  · rw [Cert.FfnInRefIdeal.Read.val_main_v76_eq, a0, a1, a2, a3]
    exact (Cert.FfnInIdeal.Point.final9 m c (fun _ _ => hU _) (fun _ _ => hW _) (fun _ _ => hD _) (fun _ _ => hX _) (fun _ => hG _)).symm

end Cert.FfnInClaim
end
-- ==== Proof.LossMath.lean ====
/-
  One row of the last layer: the feed-forward block's output and its distance from the target.
-/
module

public import proofs.«01_k».proof.Proof.Real

@[expose] public section

noncomputable section

namespace Cert.Fin

/-- The feed-forward block's output row: the scaled residual row and the product with the weight. -/
def ffn (u : Fin 2816 → ℝ) (W : Fin 2816 → Fin 1024 → ℝ) (x A B : Fin 1024 → ℝ) (k : Fin 1024) : ℝ :=
  alpha * (xhat x k * A k + B k) + ∑ n, u n * W n k

/-- The normed output row less the target row. -/
def diff (r t G H : Fin 1024 → ℝ) (k : Fin 1024) : ℝ := xhat r k * G k + H k - t k

end Cert.Fin
end
-- ==== Proof.Loss.lean ====
/-
  The last layer's loss and its gradient: what the kernel leaves in its three result blocks at each grid point.
-/
module

public import proofs.«01_k».proof.Proof.LossMath
public import proofs.«01_k».proof.Proof.Rows
public import Idealize.ShloMosaic.Lib.VecWindow
public import Idealize.ShloMosaic.Lib.Pipeline.ValueKit.Point
public import proofs.«01_k».proof.Proof.Gen.LossIdeal.Value

@[expose] public section

set_option maxRecDepth 16384

noncomputable section

namespace Cert.LossIdeal.Point

open Cert.LossIdeal Cert.LossIdeal.Gen Cert.Fin Cert.Rows Idealize.ShloMosaic Idealize.ShloMosaic.TcCoe Idealize.SL.Sem

/-! ### The payloads on 256 rows of real numbers -/

section Pay

variable {u : Vec Ideal S256x2816 .bf16} {w : Vec Ideal S2816x1024 .bf16} {x t : Vec Ideal S256x1024 .f32}
  {a b g h : Vec Ideal S1x1024 .f32} {y : FVec Ideal S256x1024 .f32}
  {U : Fin 256 → Fin 2816 → ℝ} {W : Fin 2816 → Fin 1024 → ℝ} {X T Y : Fin 256 → Fin 1024 → ℝ} {A B G H : Fin 1024 → ℝ}

theorem pay4 (hx : ∀ r k, x (ix2 r k) = (X r k : EReal)) (ha : ∀ k, a (ix2 0 k) = (A k : EReal)) (hb : ∀ k, b (ix2 0 k) = (B k : EReal))
    (hu : ∀ r n, u (ix2 r n) = (U r n : EReal)) (hw : ∀ n k, w (ix2 n k) = (W n k : EReal)) (r : Fin 256) (k : Fin 1024) :
    k0_pay4 x a b u w (ix2 r k) = (ffn (U r) W (X r) A B k : ℝ) := by
  pointwise [k0_pay4, dot_S256x2816_S2816x1024_S256x1024_1_0_0_1_n_n, hx, ha, hb, hu, hw, lit_1024, lit_eps, lit_alpha,
    ← EReal.coe_mul, sum_coe]
  rw [div_real _ (by norm_num)]
  simp only [← EReal.coe_sub, ← EReal.coe_mul, sum_coe]
  rw [div_real _ (by norm_num), ← EReal.coe_add]
  rw [show (∑ k, (X r k - (∑ k, X r k) / 1024) * (X r k - (∑ k, X r k) / 1024)) / 1024 + eps = var (X r) + eps from rfl, rstd_real]
  simp only [← EReal.coe_mul, ← EReal.coe_add]
  rfl

variable (hy : ∀ r k, y (ix2 r k) = (Y r k : EReal))
include hy

theorem pay6 (r : Fin 256) (k : Fin 1024) : k0_pay6 y (ix2 r k) = (Y r k - mean (Y r) : ℝ) := by
  pointwise [k0_pay6, hy, lit_1024, sum_coe]
  rw [div_real _ (by norm_num), ← EReal.coe_sub]; rfl

theorem pay7 (r : Fin 256) : k0_pay7 y (ix2 r 0) = (rstd (Y r) : ℝ) := by
  pointwise [k0_pay7, pay6 hy, lit_1024, lit_eps, ← EReal.coe_mul, sum_coe]
  rw [div_real _ (by norm_num), ← EReal.coe_add]; exact rstd_real _

theorem pay8 (r : Fin 256) (k : Fin 1024) : k0_pay8 y (ix2 r k) = (xhat (Y r) k : ℝ) := by
  pointwise [k0_pay8, pay6 hy, pay7 hy, ← EReal.coe_mul]; rfl

variable (hg : ∀ k, g (ix2 0 k) = (G k : EReal)) (hh : ∀ k, h (ix2 0 k) = (H k : EReal)) (ht : ∀ r k, t (ix2 r k) = (T r k : EReal))
include hg hh ht

theorem pay9 (r : Fin 256) (k : Fin 1024) : k0_pay9 y (k0_pay5 g) h t (ix2 r k) = (diff (Y r) (T r) G H k : ℝ) := by
  pointwise [k0_pay9, k0_pay5, pay8 hy, hg, hh, ht, ← EReal.coe_mul, ← EReal.coe_add, ← EReal.coe_sub]; rfl

theorem pay10 (r : Fin 256) (k : Fin 1024) : k0_pay10 y (k0_pay5 g) h t (ix2 r k) = (diff (Y r) (T r) G H k / 1024 : ℝ) := by
  pointwise [k0_pay10, pay9 hy hg hh ht, lit_inv1024, ← EReal.coe_mul]
  exact congrArg _ (by ring)

theorem pay14 (r : Fin 256) (k : Fin 1024) :
    k0_pay14 (k0_pay7 y) (k0_pay8 y) (k0_pay10 y (k0_pay5 g) h t) g (ix2 r k)
      = (lnBwd (Y r) (fun k => diff (Y r) (T r) G H k / 1024 * G k) k : ℝ) := by
  pointwise [k0_pay14, pay7 hy, pay8 hy, pay10 hy hg hh ht, hg, lit_1024, ← EReal.coe_mul, sum_coe]
  rw [div_real _ (by norm_num), div_real _ (by norm_num)]
  simp only [← EReal.coe_mul, ← EReal.coe_sub]; rfl

end Pay

/-! ### What each grid point leaves -/

/-- Row `r` of half `s` of a tile of 512 rows. -/
abbrev at2 (s : Fin 2) (r : Fin 256) : Fin 512 := ⟨256 * s.val + r.val, by omega⟩

/-- Half `s` of a tile's rows. -/
abbrev half {n : Nat} {e : EltTy} (x : (⟨2, ![512, n]⟩ : Shape).Idx → Elt Ideal e) (s : Fin 2) : (⟨2, ![256, n]⟩ : Shape).Idx → Elt Ideal e :=
  fun i => x (ix2 (at2 s (i 0)) (i 1))

theorem ld_half0 {n : Nat} {e : EltTy} (x : (⟨2, ![512, n]⟩ : Shape).Idx → Elt Ideal e)
    (inb : ∀ a : Fin 2, (![0, 0] : Fin 2 → Nat) a + (![256, n] : Fin 2 → Nat) a ≤ (![512, n] : Fin 2 → Nat) a) :
    View.ld x (Rect.unit (s := ⟨2, ![512, n]⟩) ![0, 0] ![256, n] inb) = half x 0 := funext fun i => by
  obtain ⟨r, k, rfl⟩ : ∃ r k, i = ix2 r k := ⟨i 0, i 1, by funext a; fin_cases a <;> rfl⟩
  exact ld_rows x 0 inb (at2 0 r) r k rfl

theorem ld_half1 {n : Nat} {e : EltTy} (x : (⟨2, ![512, n]⟩ : Shape).Idx → Elt Ideal e)
    (inb : ∀ a : Fin 2, (![256, 0] : Fin 2 → Nat) a + (![256, n] : Fin 2 → Nat) a ≤ (![512, n] : Fin 2 → Nat) a) :
    View.ld x (Rect.unit (s := ⟨2, ![512, n]⟩) ![256, 0] ![256, n] inb) = half x 1 := funext fun i => by
  obtain ⟨r, k, rfl⟩ : ∃ r k, i = ix2 r k := ⟨i 0, i 1, by funext a; fin_cases a <;> rfl⟩
  exact ld_rows x 256 inb (at2 1 r) r k rfl

variable (m : (ℓ : Loc nD τ sig) → Buf (Elt Ideal) ℓ) (c : Dev nD) (t : Fin cfg0.N)

/-- The feed-forward block's output on a half tile. -/
abbrev tr (s : Fin 2) : FVec Ideal S256x1024 .f32 :=
  k0_pay4 (half (iblk m c 2 t) s) (iblk m c 4 t) (iblk m c 5 t) (half (iblk m c 0 t) s) (iblk m c 1 t)

/-- The gradient at the normed output on a half tile. -/
abbrev tdy (s : Fin 2) : FVec Ideal S256x1024 .f32 :=
  k0_pay10 (tr m c t s) (k0_pay5 (iblk m c 6 t)) (iblk m c 7 t) (half (iblk m c 3 t) s)

/-- The difference from the target on a half tile. -/
abbrev tdf (s : Fin 2) : FVec Ideal S256x1024 .f32 :=
  k0_pay9 (tr m c t s) (k0_pay5 (iblk m c 6 t)) (iblk m c 7 t) (half (iblk m c 3 t) s)

/-- The first result's block on a half tile. -/
abbrev tdr (s : Fin 2) : FVec Ideal S256x1024 .f32 :=
  k0_pay14 (k0_pay7 (tr m c t s)) (k0_pay8 (tr m c t s)) (tdy m c t s) (iblk m c 6 t)

/-- What a grid point leaves in the first result's block. -/
theorem out8 (s : Fin 2) (r : Fin 256) (k : Fin 1024) :
    (outsAt0 m c t.val t.isLt).1 (ix2 (at2 s r) k) = tdr m c t s (ix2 r k) := by
  by_cases h0 : t.val % 16 = 0
  · rw [outsAt0_A m c t h0]; dsimp only; unfold out0_A_8 kernelRun0_A; dsimp only; sl_unfold_words
    simp only [View.readCov, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_10 t).read_unread, View.ld_unit_zero (S := S2816x1024) off_zero, View.ld_unit_zero (S := S1x1024) off_zero, ld_half0, ld_half1]
    fin_cases s
    · rw [read_rows_ne _ _ _ _ _ _ _ _ (Or.inl (by simp)), read_rows_of _ _ _ _ _ _ _ r _ rfl]; rfl
    · rw [read_rows_of _ _ _ _ _ _ _ r _ rfl]; rfl
  · rw [outsAt0_B m c t h0]; dsimp only; unfold out0_B_8 kernelRun0_B; dsimp only; sl_unfold_words
    simp only [View.readCov, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_10 t).read_unread, View.ld_unit_zero (S := S2816x1024) off_zero, View.ld_unit_zero (S := S1x1024) off_zero, ld_half0, ld_half1]
    fin_cases s
    · rw [read_rows_ne _ _ _ _ _ _ _ _ (Or.inl (by simp)), read_rows_of _ _ _ _ _ _ _ r _ rfl]; rfl
    · rw [read_rows_of _ _ _ _ _ _ _ r _ rfl]; rfl

/-- What a grid point leaves in the second result's block: the first's, in the other format. -/
theorem out9 (s : Fin 2) (r : Fin 256) (k : Fin 1024) :
    (outsAt0 m c t.val t.isLt).2.1 (ix2 (at2 s r) k) = truncf .bf16 (tdr m c t s) bitsLt_bf16_f32 (ix2 r k) := by
  by_cases h0 : t.val % 16 = 0
  · rw [outsAt0_A m c t h0]; dsimp only; unfold out0_A_9 kernelRun0_A; dsimp only; sl_unfold_words
    simp only [View.readCov, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_10 t).read_unread, View.ld_unit_zero (S := S2816x1024) off_zero, View.ld_unit_zero (S := S1x1024) off_zero, ld_half0, ld_half1]
    fin_cases s
    · rw [read_rows_ne _ _ _ _ _ _ _ _ (Or.inl (by simp)), read_rows_of _ _ _ _ _ _ _ r _ rfl]; rfl
    · rw [read_rows_of _ _ _ _ _ _ _ r _ rfl]; rfl
  · rw [outsAt0_B m c t h0]; dsimp only; unfold out0_B_9 kernelRun0_B; dsimp only; sl_unfold_words
    simp only [View.readCov, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_10 t).read_unread, View.ld_unit_zero (S := S2816x1024) off_zero, View.ld_unit_zero (S := S1x1024) off_zero, ld_half0, ld_half1]
    fin_cases s
    · rw [read_rows_ne _ _ _ _ _ _ _ _ (Or.inl (by simp)), read_rows_of _ _ _ _ _ _ _ r _ rfl]; rfl
    · rw [read_rows_of _ _ _ _ _ _ _ r _ rfl]; rfl

/-- The column sums a half tile adds: the gain's in row 0, the shift's in row 1, the squared error's in row 2. -/
abbrev hsum (s : Fin 2) (i : Fin 8) (k : Fin 1024) : EReal :=
  if i.val = 0 then ∑ r : Fin 256, tdy m c t s (ix2 r k) * k0_pay8 (tr m c t s) (ix2 r k)
  else if i.val = 1 then ∑ r : Fin 256, tdy m c t s (ix2 r k)
  else if i.val = 2 then ∑ r : Fin 256, tdf m c t s (ix2 r k) * tdf m c t s (ix2 r k) else 0

section
variable (x t : Vec Ideal S256x1024 .f32) (a b g h v : Vec Ideal S1x1024 .f32) (u : Vec Ideal S256x2816 .bf16) (w : Vec Ideal S2816x1024 .bf16)

/-- The second half's gain sums are the first half's payload. -/
theorem pay27_eq : k0_pay27 (k0_pay18 g) (k0_pay19 h) (k0_pay20 x (k0_pay16 a) (k0_pay17 b) u w) (k0_pay21 x (k0_pay16 a) (k0_pay17 b) u w) k0_pay22 t v
    = k0_pay11 (k0_pay4 x a b u w) (k0_pay5 g) h t v := rfl
/-- So are its shift sums. -/
theorem pay28_eq : k0_pay28 (k0_pay18 g) (k0_pay19 h) (k0_pay20 x (k0_pay16 a) (k0_pay17 b) u w) (k0_pay21 x (k0_pay16 a) (k0_pay17 b) u w) k0_pay22 t v
    = k0_pay12 (k0_pay4 x a b u w) (k0_pay5 g) h t v := rfl
/-- So are its squared errors. -/
theorem pay29_eq : k0_pay29 (k0_pay18 g) (k0_pay19 h) (k0_pay20 x (k0_pay16 a) (k0_pay17 b) u w) (k0_pay21 x (k0_pay16 a) (k0_pay17 b) u w) k0_pay22 t v
    = k0_pay13 (k0_pay9 (k0_pay4 x a b u w) (k0_pay5 g) h t) v := rfl
end

theorem out10_A (h0 : t.val % 16 = 0) (i : Fin 8) (k : Fin 1024) :
    (outsAt0 m c t.val t.isLt).2.2 (ix2 i k) = hsum m c t 0 i k + hsum m c t 1 i k := by
  rw [outsAt0_A m c t h0]; dsimp only; unfold out0_A_10 kernelRun0_A; dsimp only; sl_unfold_words
  simp only [View.readCov, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_10 t).read_unread, View.ld_unit_zero (S := S2816x1024) off_zero, View.ld_unit_zero (S := S1x1024) off_zero, ld_half0, ld_half1]
  rw [read_row, read_row, read_row, read_row, read_row, read_row, read_full, pay27_eq, pay28_eq, pay29_eq]
  pointwise [k0_pay11, k0_pay12, k0_pay13, k0_pay3, read_row, read_full]
  unfold hsum
  split_ifs <;> first | omega | simp [lit_zero]

theorem out10_B (h0 : ¬ t.val % 16 = 0) (i : Fin 8) (k : Fin 1024) : (outsAt0 m c t.val t.isLt).2.2 (ix2 i k)
    = (outsAt0 m c (t.val - 1) (Nat.lt_of_le_of_lt (Nat.sub_le _ _) t.isLt)).2.2 (ix2 i k) + (hsum m c t 0 i k + hsum m c t 1 i k) := by
  rw [outsAt0_B m c t h0]; dsimp only; unfold out0_B_10 kernelRun0_B; dsimp only; sl_unfold_words
  simp only [View.readCov, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_10 t).read_unread, View.ld_unit_zero (S := S2816x1024) off_zero, View.ld_unit_zero (S := S1x1024) off_zero, ld_half0, ld_half1]
  rw [read_row, read_row, read_row, read_row, read_row, read_row, View.writes_nil, (hs0_10 t).read_unread, pay27_eq, pay28_eq, pay29_eq]
  pointwise [k0_pay11, k0_pay12, k0_pay13, read_row]
  unfold hsum
  split_ifs <;> first
    | omega
    | (rw [show i = 2 from Fin.ext ‹i.val = 2›]; exact add_assoc _ _ _)
    | (rw [show i = 1 from Fin.ext ‹i.val = 1›]; exact add_assoc _ _ _)
    | (rw [show i = 0 from Fin.ext ‹i.val = 0›]; exact add_assoc _ _ _)
    | (rw [add_zero, add_zero])

end Cert.LossIdeal.Point
end
-- ==== Proof.LossRef.lean ====
/-
  The reference of the last layer's loss and its gradient, read at an index: each operation it writes, on arrays that
  hold real numbers, down to its three results.
-/
module

public import proofs.«01_k».proof.Proof.LossMath
public import proofs.«01_k».proof.Proof.Gen.LossRefIdeal.Read

@[expose] public section

set_option maxRecDepth 16384

noncomputable section

namespace Cert.LossRefIdeal.Read

open Cert.LossRefIdeal Cert.LossRefIdeal.Gen Cert.Fin Idealize.ShloMosaic Idealize.ShloMosaic.TcCoe Idealize.SL.Sem

variable {x0 : (⟨S8192x2816, .bf16⟩ : BufTy).Contents (Elt Ideal)} {x1 : (⟨S1x2816x1024, .f32⟩ : BufTy).Contents (Elt Ideal)}
  {x2 x3 : (⟨S8192x1024, .f32⟩ : BufTy).Contents (Elt Ideal)} {x4 x5 x6 x7 : (⟨S1x1024, .f32⟩ : BufTy).Contents (Elt Ideal)}
  {U : Fin 8192 → Fin 2816 → ℝ} {W : Fin 2816 → Fin 1024 → ℝ} {X T : Fin 8192 → Fin 1024 → ℝ} {A B G H : Fin 1024 → ℝ}

section First
variable (h2 : ∀ r k, x2 (ix2 r k) = (X r k : EReal))
include h2

/-- The row means of the block's input. -/
theorem v5_real (r : Fin 8192) : val_main_v5 (F := Ideal) x2 (ix2 r 0) = (mean (X r) : ℝ) := by
  pointwise [val_main_v5, val_main_v3, val_main_v2, val_main_v4, val_main_cst, val_main_cst_0, h2, lit_1024, sum_coe]
  rw [div_real _ (by norm_num)]; rfl

/-- The normalised rows of the block's input. -/
theorem v19_real (r : Fin 8192) (k : Fin 1024) : val_main_v19 (F := Ideal) x2 (ix2 r k) = (xhat (X r) k : ℝ) := by
  pointwise [val_main_v19, val_main_v18, val_main_v17, val_main_v16, val_main_v15, val_main_v14, val_main_v13, val_main_v12,
    val_main_v11, val_main_v10, val_main_v9, val_main_v8, val_main_v7, val_main_v6, val_main_cst_1, val_main_cst_2,
    val_main_cst_3, v5_real h2, h2, lit_1024, lit_eps, ← EReal.coe_sub, ← EReal.coe_mul, sum_coe]
  rw [div_real _ (by norm_num), ← EReal.coe_add]
  exact (congrArg _ (rstd_real _)).trans (EReal.coe_mul _ _).symm

variable (h0 : ∀ r n, x0 (ix2 r n) = (U r n : EReal)) (h1 : ∀ n k, x1 (ix3 0 n k) = (W n k : EReal))
  (h4 : ∀ k, x4 (ix2 0 k) = (A k : EReal)) (h5 : ∀ k, x5 (ix2 0 k) = (B k : EReal))
include h0 h1 h4 h5

/-- The feed-forward block's output. -/
theorem v31_real (r : Fin 8192) (k : Fin 1024) :
    val_main_v31 (F := Ideal) x0 x1 x2 x4 x5 (ix2 r k) = (ffn (U r) W (X r) A B k : ℝ) := by
  have hl : ∀ n, lidx_main_v30 (ix2 r k) n = ix2 r n := fun n => funext fun a => by fin_cases a <;> rfl
  have hr : ∀ n, ridx_main_v30 (ix2 r k) n = ix2 n k := fun n => funext fun a => by fin_cases a <;> rfl
  rw [val_main_v31_apply, val_main_v30_apply]
  simp only [hl, hr]
  pointwise [val_main_v29, val_main_v28, val_main_v27, val_main_v26, val_main_v25, val_main_v24, val_main_v23, val_main_v22,
    val_main_v21, val_main_v20, val_main_v1, val_main_v0, val_main_cst_4, h0, h1, h4, h5, v19_real h2, lit_alpha,
    ← EReal.coe_mul, sum_coe, ← EReal.coe_add]
  rfl

end First

/-! ### The second norm, on a row the first part leaves -/

section Second
variable {R : Fin 8192 → Fin 1024 → ℝ} (h : ∀ r k, val_main_v31 (F := Ideal) x0 x1 x2 x4 x5 (ix2 r k) = (R r k : ℝ))
include h

/-- The row means of the output. -/
theorem v37_real (r : Fin 8192) : val_main_v37 (F := Ideal) x0 x1 x2 x4 x5 (ix2 r 0) = (mean (R r) : ℝ) := by
  pointwise [val_main_v37, val_main_v36, val_main_v35, val_main_v34, val_main_cst_5, val_main_cst_6, h, lit_1024, sum_coe]
  rw [div_real _ (by norm_num)]; rfl

/-- The deviations from the row means. -/
theorem v39_real (r : Fin 8192) (k : Fin 1024) :
    val_main_v39 (F := Ideal) x0 x1 x2 x4 x5 (ix2 r k) = (R r k - mean (R r) : ℝ) := by
  pointwise [val_main_v39, val_main_v38, v37_real h, h, ← EReal.coe_sub]

/-- The same deviations, as the reference computes them a second time. -/
theorem v48_real (r : Fin 8192) (k : Fin 1024) :
    val_main_v48 (F := Ideal) x0 x1 x2 x4 x5 (ix2 r k) = (R r k - mean (R r) : ℝ) := by
  pointwise [val_main_v48, val_main_v47, v37_real h, h, ← EReal.coe_sub]

/-- Twice the deviations. -/
theorem v42_real (r : Fin 8192) (k : Fin 1024) :
    val_main_v42 (F := Ideal) x0 x1 x2 x4 x5 (ix2 r k) = (2 * (R r k - mean (R r)) : ℝ) := by
  pointwise [val_main_v42, val_main_v41, val_main_cst_7, v39_real h, lit_two, ← EReal.coe_mul]

/-- The row variances, with the small constant added. -/
theorem v50_real (r : Fin 8192) : val_main_v50 (F := Ideal) x0 x1 x2 x4 x5 (ix2 r 0) = (var (R r) + eps : ℝ) := by
  pointwise [val_main_v50, val_main_v49, val_main_v46, val_main_v45, val_main_v44, val_main_v43, val_main_v40, val_main_cst_8,
    val_main_cst_9, val_main_cst_10, v39_real h, lit_1024, lit_eps, ← EReal.coe_mul, sum_coe]
  rw [div_real _ (by norm_num), ← EReal.coe_add]; rfl

/-- The reciprocal standard deviations. -/
theorem v51_real (r : Fin 8192) : val_main_v51 (F := Ideal) x0 x1 x2 x4 x5 (ix2 r 0) = (rstd (R r) : ℝ) := by
  pointwise [val_main_v51, v50_real h, rstd_real]

/-- Minus half the reciprocal standard deviation over the variance. -/
theorem v54_real (r : Fin 8192) :
    val_main_v54 (F := Ideal) x0 x1 x2 x4 x5 (ix2 r 0) = (-(1 / 2) * (rstd (R r) / (var (R r) + eps)) : ℝ) := by
  pointwise [val_main_v54, val_main_v53, val_main_v52, val_main_cst_11, v50_real h, v51_real h, lit_neg_half]
  rw [div_real _ (var_eps_pos _).ne', ← EReal.coe_mul]

/-- The normalised rows. -/
theorem v56_real (r : Fin 8192) (k : Fin 1024) : val_main_v56 (F := Ideal) x0 x1 x2 x4 x5 (ix2 r k) = (xhat (R r) k : ℝ) := by
  pointwise [val_main_v56, val_main_v55, v48_real h, v51_real h, ← EReal.coe_mul]; rfl

variable (h3 : ∀ r k, x3 (ix2 r k) = (T r k : EReal)) (h6 : ∀ k, x6 (ix2 0 k) = (G k : EReal))
  (h7 : ∀ k, x7 (ix2 0 k) = (H k : EReal))
include h3 h6 h7

/-- The normed output less the target. -/
theorem v63_real (r : Fin 8192) (k : Fin 1024) :
    val_main_v63 (F := Ideal) x0 x1 x2 x3 x4 x5 x6 x7 (ix2 r k) = (diff (R r) (T r) G H k : ℝ) := by
  pointwise [val_main_v63, val_main_v62, val_main_v61, val_main_v60, val_main_v59, val_main_v58, val_main_v57, val_main_v33,
    val_main_v32, v56_real h, h3, h6, h7, ← EReal.coe_mul, ← EReal.coe_add, ← EReal.coe_sub]
  rfl

/-- The loss's gradient at the normed output. -/
theorem v77_real (r : Fin 8192) (k : Fin 1024) :
    val_main_v77 (F := Ideal) x0 x1 x2 x3 x4 x5 x6 x7 (ix2 r k) = (diff (R r) (T r) G H k / 1024 : ℝ) := by
  pointwise [val_main_v77, val_main_v76, val_main_v75, val_main_v74, val_main_v73, val_main_v72, val_main_v66, val_main_v65,
    val_main_cst_12, val_main_cst_17, val_main_cst_18, val_main_cst_19, v63_real h h3 h6 h7, lit_two, lit_half, lit_one,
    lit_1024, ← EReal.coe_mul]
  rw [div_real _ (by norm_num), ← EReal.coe_mul]
  exact congrArg _ (by ring)

/-- The gradient of the second norm's shift: the sum over the tokens. -/
theorem v80_real (k : Fin 1024) :
    val_main_v80 (F := Ideal) x0 x1 x2 x3 x4 x5 x6 x7 (ix1 k) = (∑ r, diff (R r) (T r) G H k / 1024 : ℝ) := by
  pointwise [val_main_v80, val_main_v79, val_main_v78, val_main_cst_20, val_main_cst_21, v77_real h h3 h6 h7, sum_coe,
    Fin.sum_univ_one]

/-- The gradient of the second norm's gain: the sum over the tokens. -/
theorem v86_real (k : Fin 1024) :
    val_main_v86 (F := Ideal) x0 x1 x2 x3 x4 x5 x6 x7 (ix1 k) = (∑ r, xhat (R r) k * (diff (R r) (T r) G H k / 1024) : ℝ) := by
  pointwise [val_main_v86, val_main_v83, val_main_v82, val_main_v81, val_main_cst_22, val_main_cst_23, v77_real h h3 h6 h7,
    v56_real h, ← EReal.coe_mul, sum_coe, Fin.sum_univ_one]

/-- The gradient that reaches the normalised rows. -/
theorem v85_real (r : Fin 8192) (k : Fin 1024) :
    val_main_v85 (F := Ideal) x0 x1 x2 x3 x4 x5 x6 x7 (ix2 r k) = (diff (R r) (T r) G H k / 1024 * G k : ℝ) := by
  pointwise [val_main_v85, val_main_v84, val_main_v57, val_main_v32, v77_real h h3 h6 h7, h6, ← EReal.coe_mul]

/-- Its path through the normalised rows, the deviations taken as they are. -/
theorem v91_real (r : Fin 8192) (k : Fin 1024) :
    val_main_v91 (F := Ideal) x0 x1 x2 x3 x4 x5 x6 x7 (ix2 r k) = (diff (R r) (T r) G H k / 1024 * G k * rstd (R r) : ℝ) := by
  pointwise [val_main_v91, val_main_v90, v85_real h h3 h6 h7, v51_real h, ← EReal.coe_mul]

/-- Its path through the variance. -/
theorem v100_real (r : Fin 8192) (k : Fin 1024) :
    val_main_v100 (F := Ideal) x0 x1 x2 x3 x4 x5 x6 x7 (ix2 r k)
      = ((∑ k, (R r k - mean (R r)) * (diff (R r) (T r) G H k / 1024 * G k)) * (-(1 / 2) * (rstd (R r) / (var (R r) + eps))) / 1024
          * (2 * (R r k - mean (R r))) : ℝ) := by
  pointwise [val_main_v100, val_main_v99, val_main_v98, val_main_v97, val_main_v96, val_main_v92, val_main_v89, val_main_v88,
    val_main_v87, val_main_cst_24, val_main_cst_26, val_main_cst_27, v48_real h, v85_real h h3 h6 h7, v54_real h,
    v42_real h, lit_1024, ← EReal.coe_mul, sum_coe]
  rw [Fin.sum_univ_one, v54_real h, ← EReal.coe_mul, div_real _ (by norm_num), ← EReal.coe_mul]

/-- The first result: the loss's gradient at the feed-forward block's output. -/
theorem v110_real (r : Fin 8192) (k : Fin 1024) :
    val_main_v110 (F := Ideal) x0 x1 x2 x3 x4 x5 x6 x7 (ix2 r k)
      = (lnBwd (R r) (fun k => diff (R r) (T r) G H k / 1024 * G k) k : ℝ) := by
  pointwise [val_main_v110, val_main_v109, val_main_v108, val_main_v107, val_main_v106, val_main_v105, val_main_v104,
    val_main_v103, val_main_v102, val_main_v101, val_main_v95, val_main_v94, val_main_v93, val_main_cst_25, val_main_cst_28,
    val_main_cst_29, val_main_cst_30, v91_real h h3 h6 h7, v100_real h h3 h6 h7, lit_1024, ← EReal.coe_neg, sum_coe,
    ← EReal.coe_add]
  rw [Fin.sum_univ_one, div_real _ (by norm_num), ← EReal.coe_add, ← lnBwd_eq]

/-- The squared differences the reference sums are those of its forward lines. -/
theorem v138_real (r : Fin 8192) (k : Fin 1024) :
    val_main_v138 (F := Ideal) x0 x1 x2 x3 x4 x5 x6 x7 (ix2 r k) = (diff (R r) (T r) G H k * diff (R r) (T r) G H k : ℝ) := by
  have e : val_main_v137 (F := Ideal) x0 x1 x2 x3 x4 x5 x6 x7 = val_main_v63 (F := Ideal) x0 x1 x2 x3 x4 x5 x6 x7 := rfl
  pointwise [val_main_v138, e, v63_real h h3 h6 h7, ← EReal.coe_mul]

/-- The third result: gain, shift, squared error and five rows of zeros. -/
theorem v144_real (s : Fin 8) (k : Fin 1024) :
    val_main_v144 (F := Ideal) x0 x1 x2 x3 x4 x5 x6 x7 (ix2 s k)
      = ((if s.val = 0 then ∑ r, xhat (R r) k * (diff (R r) (T r) G H k / 1024)
          else if s.val = 1 then ∑ r, diff (R r) (T r) G H k / 1024
          else if s.val = 2 then ∑ r, diff (R r) (T r) G H k * diff (R r) (T r) G H k else 0 : ℝ) : EReal) := by
  pointwise [val_main_v144, val_main_v140, val_main_v141, val_main_v142, val_main_v143, val_main_v139, val_main_cst_36,
    val_main_cst_37, v138_real h h3 h6 h7, v80_real h h3 h6 h7, v86_real h h3 h6 h7, sum_coe]
  split_ifs <;> first | rfl | omega

end Second
end Cert.LossRefIdeal.Read
end
-- ==== Proof.LossValue.lean ====
/-
  The last layer's loss and its gradient: the kernel's result arrays are the reference's.
-/
module

public import proofs.«01_k».proof.Proof.Loss
public import proofs.«01_k».proof.Proof.LossRef

@[expose] public section

set_option maxRecDepth 16384

noncomputable section

namespace Cert.LossIdeal.Point

open Cert.LossIdeal Cert.LossIdeal.Gen Cert.Fin Cert.Rows Idealize.ShloMosaic Idealize.ShloMosaic.TcCoe Idealize.SL.Sem

variable (m : (ℓ : Loc nD τ sig) → Buf (Elt Ideal) ℓ) (c : Dev nD) (t : Fin cfg0.N)

/-! ### The blocks as parts of the argument arrays -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![0, 0] := (by decide +kernel : ∀ t : Fin grid0.N, _)

/-- Row `r` of half `s` of tile `t` among the 8192 rows. -/
abbrev row (t : Fin cfg0.N) (s : Fin 2) (r : Fin 256) : Fin 8192 := ⟨512 * t.val + (256 * s.val + r.val), by have : t.val < 16 := t.isLt; omega⟩

theorem blk0 (s : Fin 2) (r : Fin 256) (n : Fin 2816) : iblk m c 0 t (ix2 (at2 s r) n) = m ((c : Thread nD τ).loc main_arg0) (ix2 (row t s r) n) := by
  blk_ext! [iblk, V, idx0 t]

theorem blk2 (s : Fin 2) (r : Fin 256) (n : Fin 1024) : iblk m c 2 t (ix2 (at2 s r) n) = m ((c : Thread nD τ).loc main_arg2) (ix2 (row t s r) n) := by
  blk_ext! [iblk, V, idx2 t]

theorem blk3 (s : Fin 2) (r : Fin 256) (n : Fin 1024) : iblk m c 3 t (ix2 (at2 s r) n) = m ((c : Thread nD τ).loc main_arg3) (ix2 (row t s r) n) := by
  blk_ext! [iblk, V, idx3 t]

theorem blk1 (n : Fin 2816) (k : Fin 1024) : iblk m c 1 t (ix2 n k) = m ((c : Thread nD τ).loc main_arg1) (ix3 0 n k) := by
  blk_ext! [iblk, V, idx1 t]

theorem blk4 (k : Fin 1024) : iblk m c 4 t (ix2 0 k) = m ((c : Thread nD τ).loc main_arg4) (ix2 0 k) := by
  blk_ext! [iblk, V, idx4 t]

theorem blk5 (k : Fin 1024) : iblk m c 5 t (ix2 0 k) = m ((c : Thread nD τ).loc main_arg5) (ix2 0 k) := by
  blk_ext! [iblk, V, idx5 t]

theorem blk6 (k : Fin 1024) : iblk m c 6 t (ix2 0 k) = m ((c : Thread nD τ).loc main_arg6) (ix2 0 k) := by
  blk_ext! [iblk, V, idx6 t]

theorem blk7 (k : Fin 1024) : iblk m c 7 t (ix2 0 k) = m ((c : Thread nD τ).loc main_arg7) (ix2 0 k) := by
  blk_ext! [iblk, V, idx7 t]

/-- Every index of a tile is one of a half's. -/
theorem of_at2 (y : (⟨2, ![512, 1024]⟩ : Shape).Idx) : ∃ s r k, y = ix2 (at2 s r) k := by
  have h : (y 0).val < 512 := (y 0).isLt
  refine ⟨⟨(y 0).val / 256, by omega⟩, ⟨(y 0).val % 256, by omega⟩, y 1, funext fun a => ?_⟩
  fin_cases a
  · exact Fin.ext (Nat.div_add_mod _ _).symm
  · rfl

/-! ### The result arrays -/

section Final

variable {U : Fin 8192 → Fin 2816 → ℝ} {W : Fin 2816 → Fin 1024 → ℝ} {X T : Fin 8192 → Fin 1024 → ℝ} {A B G H : Fin 1024 → ℝ}
  (h0 : ∀ r n, m ((c : Thread nD τ).loc main_arg0) (ix2 r n) = (U r n : EReal))
  (h1 : ∀ n k, m ((c : Thread nD τ).loc main_arg1) (ix3 0 n k) = (W n k : EReal))
  (h2 : ∀ r k, m ((c : Thread nD τ).loc main_arg2) (ix2 r k) = (X r k : EReal))
  (h3 : ∀ r k, m ((c : Thread nD τ).loc main_arg3) (ix2 r k) = (T r k : EReal))
  (h4 : ∀ k, m ((c : Thread nD τ).loc main_arg4) (ix2 0 k) = (A k : EReal))
  (h5 : ∀ k, m ((c : Thread nD τ).loc main_arg5) (ix2 0 k) = (B k : EReal))
  (h6 : ∀ k, m ((c : Thread nD τ).loc main_arg6) (ix2 0 k) = (G k : EReal))
  (h7 : ∀ k, m ((c : Thread nD τ).loc main_arg7) (ix2 0 k) = (H k : EReal))

/-- The reference's first result on the kernel's arguments. -/
abbrev ref110 : FVec Ideal S8192x1024 .f32 :=
  Cert.LossRefIdeal.Read.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The reference's third result on the kernel's arguments. -/
abbrev ref144 : FVec Ideal S8x1024 .f32 :=
  Cert.LossRefIdeal.Read.val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

include h0 h1 h2 h4 h5

theorem tr_real (s : Fin 2) (r : Fin 256) (k : Fin 1024) :
    tr m c t s (ix2 r k) = (ffn (U (row t s r)) W (X (row t s r)) A B k : EReal) :=
  pay4 (U := fun r => U (row t s r)) (X := fun r => X (row t s r))
    (fun r n => (blk2 m c t s r n).trans (h2 _ n)) (fun k => (blk4 m c t k).trans (h4 k)) (fun k => (blk5 m c t k).trans (h5 k))
    (fun r n => (blk0 m c t s r n).trans (h0 _ n)) (fun n k => (blk1 m c t n k).trans (h1 n k)) r k

include h3 h6 h7

theorem tdf_real (s : Fin 2) (r : Fin 256) (k : Fin 1024) : tdf m c t s (ix2 r k)
    = (diff (ffn (U (row t s r)) W (X (row t s r)) A B) (T (row t s r)) G H k : EReal) :=
  pay9 (Y := fun r => ffn (U (row t s r)) W (X (row t s r)) A B) (T := fun r => T (row t s r)) (tr_real m c t h0 h1 h2 h4 h5 s)
    (fun k => (blk6 m c t k).trans (h6 k)) (fun k => (blk7 m c t k).trans (h7 k)) (fun r k => (blk3 m c t s r k).trans (h3 _ k)) r k

theorem tdy_real (s : Fin 2) (r : Fin 256) (k : Fin 1024) : tdy m c t s (ix2 r k)
    = (diff (ffn (U (row t s r)) W (X (row t s r)) A B) (T (row t s r)) G H k / 1024 : ℝ) :=
  pay10 (Y := fun r => ffn (U (row t s r)) W (X (row t s r)) A B) (T := fun r => T (row t s r)) (tr_real m c t h0 h1 h2 h4 h5 s)
    (fun k => (blk6 m c t k).trans (h6 k)) (fun k => (blk7 m c t k).trans (h7 k)) (fun r k => (blk3 m c t s r k).trans (h3 _ k)) r k

theorem tdr_real (s : Fin 2) (r : Fin 256) (k : Fin 1024) : tdr m c t s (ix2 r k) = ref110 m c (ix2 (row t s r) k) := by
  rw [ref110, Cert.LossRefIdeal.Read.v110_real (R := fun r => ffn (U r) W (X r) A B)
    (Cert.LossRefIdeal.Read.v31_real h2 h0 h1 h4 h5) h3 h6 h7]
  exact pay14 (Y := fun r => ffn (U (row t s r)) W (X (row t s r)) A B) (T := fun r => T (row t s r)) (tr_real m c t h0 h1 h2 h4 h5 s)
    (fun k => (blk6 m c t k).trans (h6 k)) (fun k => (blk7 m c t k).trans (h7 k)) (fun r k => (blk3 m c t s r k).trans (h3 _ k)) r k

theorem hsum_real (s : Fin 2) (i : Fin 8) (k : Fin 1024) : hsum m c t s i k
    = ((if i.val = 0 then ∑ r : Fin 256, xhat (ffn (U (row t s r)) W (X (row t s r)) A B) k * (diff (ffn (U (row t s r)) W (X (row t s r)) A B) (T (row t s r)) G H k / 1024)
        else if i.val = 1 then ∑ r : Fin 256, diff (ffn (U (row t s r)) W (X (row t s r)) A B) (T (row t s r)) G H k / 1024
        else if i.val = 2 then ∑ r : Fin 256, diff (ffn (U (row t s r)) W (X (row t s r)) A B) (T (row t s r)) G H k * diff (ffn (U (row t s r)) W (X (row t s r)) A B) (T (row t s r)) G H k
        else 0 : ℝ) : EReal) := by
  have e (r : Fin 256) : k0_pay8 (tr m c t s) (ix2 r k) = (xhat (ffn (U (row t s r)) W (X (row t s r)) A B) k : ℝ) :=
    pay8 (Y := fun r => ffn (U (row t s r)) W (X (row t s r)) A B) (tr_real m c t h0 h1 h2 h4 h5 s) r k
  unfold hsum
  simp only [e, tdy_real m c t h0 h1 h2 h3 h4 h5 h6 h7, tdf_real m c t h0 h1 h2 h3 h4 h5 h6 h7, ← EReal.coe_mul, sum_coe]
  split_ifs
  · exact congrArg _ (Finset.sum_congr rfl fun r _ => mul_comm _ _)
  · rfl
  · rfl
  · rfl

/-- At the last point the third result's block holds the sums over all points. -/
theorem acc10 (ht : t.val + 1 = cfg0.N) (i : Fin 8) (k : Fin 1024) : (outsAt0 m c t.val t.isLt).2.2 (ix2 i k) = ref144 m c (ix2 i k) := by
  have e := Pipeline.eq_sum_fin_of_reset_step_apply_last (N := cfg0.N) (fun n h (i : Fin 8 × Fin 1024) => (outsAt0 m c n h).2.2 (ix2 i.1 i.2))
    16 (fun _ => 0) (fun t i => hsum m c t 0 i.1 i.2 + hsum m c t 1 i.1 i.2) (fun t h i => by rw [zero_add]; exact out10_A m c t h i.1 i.2)
    (fun t h i => out10_B m c t h i.1 i.2) (by decide) t ht (i, k)
  rw [ref144, Cert.LossRefIdeal.Read.v144_real (R := fun r => ffn (U r) W (X r) A B)
    (Cert.LossRefIdeal.Read.v31_real h2 h0 h1 h4 h5) h3 h6 h7]
  refine e.trans ?_
  simp only [hsum_real m c _ h0 h1 h2 h3 h4 h5 h6 h7, ← EReal.coe_add, sum_coe, zero_add]
  congr 1
  have e2 (t : Fin cfg0.N) (f : Fin 8192 → ℝ) : ∑ r : Fin 256, f (row t 0 r) + ∑ r : Fin 256, f (row t 1 r)
      = ∑ r : Fin 512, f ⟨512 * t.val + r.val, by have : t.val < 16 := t.isLt; omega⟩ := by
    rw [← Fin.sum_univ_two (f := fun s => ∑ r : Fin 256, f (row t s r))]
    exact Fin.sum_mul_add_congr (F := fun (s : Fin 2) (r : Fin 256) => f (row t s r)) fun s r hl =>
      congrArg f (Fin.ext (congrArg (512 * t.val + ·) (congrArg (· + r.val) (Nat.mul_comm _ _))))
  have e16 (f : Fin 8192 → ℝ) : ∑ t : Fin cfg0.N, ((∑ r : Fin 256, f (row t 0 r)) + ∑ r : Fin 256, f (row t 1 r)) = ∑ r, f r := by
    simp only [e2]
    exact Fin.sum_mul_add_congr (F := fun (t : Fin 16) (r : Fin 512) => f ⟨512 * t.val + r.val, by omega⟩) fun t r hl =>
      congrArg f (Fin.ext (congrArg (· + r.val) (Nat.mul_comm _ _)))
  split_ifs
  · exact e16 fun r => xhat (ffn (U r) W (X r) A B) k * (diff (ffn (U r) W (X r) A B) (T r) G H k / 1024)
  · exact e16 fun r => diff (ffn (U r) W (X r) A B) (T r) G H k / 1024
  · exact e16 fun r => diff (ffn (U r) W (X r) A B) (T r) G H k * diff (ffn (U r) W (X r) A B) (T r) G H k
  · simp

/-- The third result: the reference's column sums. -/
theorem final10 : (dats m 0 c).arrAt 10 cfg0.N = ref144 m c := by
  refine (dats m 0 c).arrAt_eq_of_covers 10 _ (by decide +kernel) fun t hf y => ?_
  blk_simp
  rw [after0_10]
  obtain ⟨s, k, rfl⟩ : ∃ s k, y = ix2 s k := ⟨y 0, y 1, by funext a; fin_cases a <;> rfl⟩
  have e : (win0_10.blk t).view.emb (ix2 s k) = (ix2 s k : S8x1024.Idx) := by
    blk_ext [idx10 t]
  have ht : t.val + 1 = cfg0.N := by
    have := (flush0_10 t).mp hf
    have : t.val < 16 := t.isLt
    show t.val + 1 = 16
    omega
  rw [e]
  exact acc10 m c t h0 h1 h2 h3 h4 h5 h6 h7 ht s k

/-- The first result: the reference's gradient. -/
theorem final8 : (dats m 0 c).arrAt 8 cfg0.N = ref110 m c := by
  refine (dats m 0 c).arrAt_eq_of_covers 8 _ (by decide +kernel) fun t hf y => ?_
  blk_simp
  rw [after0_8]
  obtain ⟨s, r, k, rfl⟩ := of_at2 y
  have e : (win0_8.blk t).view.emb (ix2 (at2 s r) k) = (ix2 (row t s r) k : S8192x1024.Idx) := by
    blk_ext [idx8 t]
  rw [e, out8]
  exact tdr_real m c t h0 h1 h2 h3 h4 h5 h6 h7 s r k

/-- The second result: the same in the other format. -/
theorem final9 : (dats m 0 c).arrAt 9 cfg0.N = Cert.LossRefIdeal.Read.val_main_v145 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp
  rw [after0_9]
  obtain ⟨s, r, k, rfl⟩ := of_at2 y
  have e : (win0_9.blk t).view.emb (ix2 (at2 s r) k) = (ix2 (row t s r) k : S8192x1024.Idx) := by
    blk_ext [idx9 t]
  rw [e, out9]
  exact tdr_real m c t h0 h1 h2 h3 h4 h5 h6 h7 s r k

end Final

end Cert.LossIdeal.Point
end
-- ==== Proof.LossClaim.lean ====
/-
  The claims about the last layer's loss and its gradient.
-/
module

public import proofs.«01_k».proof.Defs
public import proofs.«01_k».proof.Proof.LossValue
public import proofs.«01_k».proof.Proof.Finite
public import proofs.«01_k».proof.Proof.Gen.Loss.Frame
public import Idealize.ShloMosaic.Lib.Claim
public import Idealize.ShloMosaic.Adequacy
public import Idealize.ShloMosaic.Init

@[expose] public section

set_option maxRecDepth 16384

noncomputable section

namespace Cert.LossClaim

open Idealize.ShloMosaic Idealize.ShloMosaic.TcCoe Idealize.SL.Sem Cert.Fin

/-- The side conditions of the printed precondition. -/
theorem preFacts : Cert.Pre_loss_finite.Facts := by
  constructor <;> decide

/-- The kernel at machine formats runs, leaves its arguments and returns its counters. -/
theorem frame_p : Cert.quiescent_Loss (hLoss := Cert.Loss.Gen.facts) := fun m ρ _ => Cert.Loss.Gen.frame m ρ

/-- So does the kernel over the extended reals. -/
theorem frame_i : Cert.quiescent_LossIdeal (hLossIdeal := Cert.LossIdeal.Gen.facts) := fun m ρ _ => Cert.LossIdeal.Gen.frame m ρ

/-- So does the reference. -/
theorem frame_r : Cert.quiescent_LossRefIdeal (hLossRefIdeal := Cert.LossRefIdeal.Gen.facts) := fun m ρ _ =>
  (θ_run Cert.LossRefIdeal.defs _ _).mono (fun r h => ⟨fun c => (h c).2.2.2, sem_eq_zero_of_no_sems (by decide) r.2⟩)
    (Cert.LossRefIdeal.Value.run m ρ)

/-- The precondition says that the arguments hold real numbers. -/
theorem pre_real [Cert.Pre_loss_finite.Facts] {x0 : FVec Ideal Cert.Pre_loss_finite.S8192x2816 .bf16} {x1 : FVec Ideal Cert.Pre_loss_finite.S1x2816x1024 .f32}
    {x2 x3 : FVec Ideal Cert.Pre_loss_finite.S8192x1024 .f32} {x4 x5 x6 x7 : FVec Ideal Cert.Pre_loss_finite.S1x1024 .f32}
    (h : Cert.Pre_loss_finite.fn (F := Ideal) x0 x1 x2 x3 x4 x5 x6 x7 = fun _ => 1#1) :
    IsReal x0 ∧ IsReal x1 ∧ IsReal x2 ∧ IsReal x3 ∧ IsReal x4 ∧ IsReal x5 ∧ IsReal x6 ∧ IsReal x7 := by
  have e := congrFun h fun a => a.elim0
  simp only [Cert.Pre_loss_finite.fn, Cert.Pre_loss_finite.fn_part1, Cert.Pre_loss_finite.fn_part2, andi, IntOp.andi_eq_one] at e
  obtain ⟨⟨⟨⟨⟨⟨⟨⟨_, e0⟩, e1⟩, e2⟩, e3⟩, e4⟩, e5⟩, e6⟩, e7⟩ := e
  exact ⟨real_of_test _ e0, real_of_test _ e1, real_of_test _ e2, real_of_test _ e3, real_of_test _ e4, real_of_test _ e5, real_of_test _ e6, real_of_test _ e7⟩

/-- The kernel computes the reference's three results. -/
theorem value : Cert.algebraic_LossIdeal_LossRefIdeal_pre_loss_finite (hLossIdeal := Cert.LossIdeal.Gen.facts)
    (hLossRefIdeal := Cert.LossRefIdeal.Gen.facts) (hPre_loss_finite := preFacts) := by
  intro m ρ m' ρ' hpre hag
  refine ⟨fun c => (Cert.LossIdeal.Gen.dats m 0 c).arrAt 8 Cert.LossIdeal.cfg0.N, fun c => (Cert.LossIdeal.Gen.dats m 0 c).arrAt 9 Cert.LossIdeal.cfg0.N,
    fun c => (Cert.LossIdeal.Gen.dats m 0 c).arrAt 10 Cert.LossIdeal.cfg0.N, Cert.LossIdeal.Value.run_blocks m ρ,
    (θ_run Cert.LossRefIdeal.defs _ _).mono (fun r h c => ?_) (Cert.LossRefIdeal.Value.run m' ρ')⟩
  haveI := preFacts
  obtain ⟨⟨U, hU⟩, ⟨W, hW⟩, ⟨X, hX⟩, ⟨T, hT⟩, ⟨A, hA⟩, ⟨B, hB⟩, ⟨G, hG⟩, ⟨H, hH⟩⟩ := pre_real (hpre c)
  obtain ⟨a0, a1, a2, a3, a4, a5, a6, a7⟩ := hag c
  have b0 : StableHlo.launchContents m' c (Proc.devRef .tc Cert.LossRefIdeal.main_arg0) = _ := a0
  have b1 : StableHlo.launchContents m' c (Proc.devRef .tc Cert.LossRefIdeal.main_arg1) = _ := a1
  have b2 : StableHlo.launchContents m' c (Proc.devRef .tc Cert.LossRefIdeal.main_arg2) = _ := a2
  have b3 : StableHlo.launchContents m' c (Proc.devRef .tc Cert.LossRefIdeal.main_arg3) = _ := a3
  have b4 : StableHlo.launchContents m' c (Proc.devRef .tc Cert.LossRefIdeal.main_arg4) = _ := a4
  have b5 : StableHlo.launchContents m' c (Proc.devRef .tc Cert.LossRefIdeal.main_arg5) = _ := a5
  have b6 : StableHlo.launchContents m' c (Proc.devRef .tc Cert.LossRefIdeal.main_arg6) = _ := a6
  have b7 : StableHlo.launchContents m' c (Proc.devRef .tc Cert.LossRefIdeal.main_arg7) = _ := a7
  obtain ⟨r0, r1, r2, rest⟩ := h c
  refine ⟨r0.trans ?_, r1.trans ?_, r2.trans ?_, rest⟩
  · rw [Cert.LossRefIdeal.Read.val_main_v110_eq, b0, b1, b2, b3, b4, b5, b6, b7]
    exact (Cert.LossIdeal.Point.final8 m c (fun _ _ => hU _) (fun _ _ => hW _) (fun _ _ => hX _) (fun _ _ => hT _) (fun _ => hA _) (fun _ => hB _) (fun _ => hG _) (fun _ => hH _)).symm
  · rw [Cert.LossRefIdeal.Read.val_main_v145_eq, b0, b1, b2, b3, b4, b5, b6, b7]
    exact (Cert.LossIdeal.Point.final9 m c (fun _ _ => hU _) (fun _ _ => hW _) (fun _ _ => hX _) (fun _ _ => hT _) (fun _ => hA _) (fun _ => hB _) (fun _ => hG _) (fun _ => hH _)).symm
  · rw [Cert.LossRefIdeal.Read.val_main_v144_eq, b0, b1, b2, b3, b4, b5, b6, b7]
    exact (Cert.LossIdeal.Point.final10 m c (fun _ _ => hU _) (fun _ _ => hW _) (fun _ _ => hX _) (fun _ _ => hT _) (fun _ => hA _) (fun _ => hB _) (fun _ => hG _) (fun _ => hH _)).symm

end Cert.LossClaim
end
-- ==== Proof.InGradMath.lean ====
/-
  The gradient of the causal moving averages, on real numbers: each position's gradient, divided by the number of
  positions its average ran over, is summed over the positions whose averages it entered.
-/
module

public import proofs.«01_k».proof.Proof.Real
public import Idealize.ShloMosaic.Lib.Pointwise
public import Idealize.ShloMosaic.Lib.ValueIdx
public import Idealize.ShloMosaic.Lib.WordArith

@[expose] public section

set_option maxRecDepth 16384

noncomputable section

namespace Cert.Pool

open Idealize.ShloMosaic Idealize.SL.Sem Finset

/-- The row of a token: sequences of 2048 tokens follow each other. -/
abbrev tok (b : Fin 4) (s : Fin 2048) : Fin 8192 := ⟨b.val * 2048 + s.val, by omega⟩

/-- Column `k` of group `g` of the four groups of 128 columns. -/
abbrev col (g : Fin 4) (k : Fin 128) : Fin 512 := ⟨128 * g.val + k.val, by omega⟩

/-- The window of a column: 2, 4, 8 or 16 positions by its group. -/
def width (c : Fin 512) : ℕ := 2 ^ (c.val / 128 + 1)

theorem width_col (g : Fin 4) (k : Fin 128) : width (col g k) = 2 ^ (g.val + 1) := by
  have h : (128 * g.val + k.val) / 128 = g.val := by omega
  show 2 ^ ((128 * g.val + k.val) / 128 + 1) = _
  rw [h]

/-- A statement about every column, from the four groups. -/
theorem col_cases {P : Fin 512 → Prop} (h0 : ∀ k, P (col 0 k)) (h1 : ∀ k, P (col 1 k)) (h2 : ∀ k, P (col 2 k)) (h3 : ∀ k, P (col 3 k))
    (c : Fin 512) : P c := by
  have e (g : Fin 4) (h : c.val / 128 = g.val) : c = col g ⟨c.val % 128, by omega⟩ := Fin.ext (by show c.val = 128 * g.val + c.val % 128; omega)
  rcases (by omega : c.val / 128 = 0 ∨ c.val / 128 = 1 ∨ c.val / 128 = 2 ∨ c.val / 128 = 3) with h | h | h | h
  · rw [e 0 h]; exact h0 _
  · rw [e 1 h]; exact h1 _
  · rw [e 2 h]; exact h2 _
  · rw [e 3 h]; exact h3 _

/-- The gradient of the projection's columns: the averages' first, the activation's after them. -/
def proj (P : Fin 512 → EReal) (Q : Fin 1024 → EReal) (n : Fin 1536) : EReal :=
  if h : n.val < 512 then P ⟨n.val, h⟩ else Q ⟨n.val - 512, by omega⟩

/-- A sequence continued by zeros. -/
def ext (d : Fin 2048 → ℝ) (s : ℕ) : ℝ := if h : s < 2048 then d ⟨s, h⟩ else 0

/-- What one position passes on to each position of its window. -/
def share (d : Fin 2048 → ℝ) (w s : ℕ) : ℝ := ext d s / (min (s + 1) w : ℕ)

/-- The gradient at a position: what the positions from it on pass back, less the position's own. -/
def back (d : Fin 2048 → ℝ) (w : ℕ) (s : Fin 2048) : ℝ := ∑ j ∈ range w, share d w (s.val + j) - d s

theorem ext_of_lt (d : Fin 2048 → ℝ) (s : Fin 2048) : ext d s.val = d s := dif_pos s.isLt

theorem ext_of_le (d : Fin 2048 → ℝ) {s : ℕ} (h : 2048 ≤ s) : ext d s = 0 := dif_neg (by omega)

theorem share_of_le (d : Fin 2048 → ℝ) (w : ℕ) {s : ℕ} (h : 2048 ≤ s) : share d w s = 0 := by
  rw [share, ext_of_le d h, zero_div]

/-- Differences at distance `w` add up to what is left at the two ends. -/
theorem sum_diff (e : ℕ → ℝ) (w s N : ℕ) :
    ∑ n ∈ range N, (e (s + n) - e (s + n + w)) = ∑ j ∈ range w, e (s + j) - ∑ j ∈ range w, e (s + N + j) := by
  induction N with
  | zero => simp
  | succ N ih =>
    have h1 := sum_range_succ (fun j => e (s + N + j)) w
    have h2 := sum_range_succ' (fun j => e (s + N + j)) w
    have h3 : ∑ j ∈ range w, e (s + (N + 1) + j) = ∑ j ∈ range w, e (s + N + (j + 1)) :=
      sum_congr rfl fun j _ => congrArg e (by omega)
    rw [sum_range_succ, ih, h3]
    have h4 : e (s + N + 0) = e (s + N) := rfl
    rw [h4] at h2
    linarith

/-- The differences from a position to the end add up to the window's sum. -/
theorem sum_share (d : Fin 2048 → ℝ) (w s : ℕ) :
    ∑ n ∈ range 2048, (share d w (s + n) - share d w (s + n + w)) = ∑ j ∈ range w, share d w (s + j) := by
  rw [sum_diff, sum_eq_zero (s := range w) fun j _ => share_of_le d w (s := s + 2048 + j) (by omega), sub_zero]

theorem foldl_add_map {ι : Type*} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The positions of a window that runs along the middle axis. -/
def windowEquiv : Fin 2048 ≃ ((⟨3, ![1, 2048, 1]⟩ : Shape).Idx) where
  toFun n := ix3 (0 : Fin 1) n (0 : Fin 1)
  invFun i := i 1
  left_inv _ := rfl
  right_inv i := funext fun a => by
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)

/-- A running sum from each position to the end. -/
theorem suffix_sum {n : ℕ} (x : (⟨3, ![4, 2048, n]⟩ : Shape).Idx → EReal) (f : Fin 4 → ℕ → Fin n → ℝ)
    (hx : ∀ b (s : Fin 2048) k, x (ix3 b s k) = (f b s.val k : EReal)) (hf : ∀ b s k, 2048 ≤ s → f b s k = 0)
    (h : (⟨3, ![4, 2048, n]⟩ : Shape).ReduceWindows ![1, 2048, 1] ![1, 1, 1] ![0, 0, 0] ![0, 2047, 0] ⟨3, ![4, 2048, n]⟩)
    (b : Fin 4) (s : Fin 2048) (k : Fin n) :
    Ideal.hostReduceWindowAdd ![1, 2048, 1] ![1, 1, 1] ![0, 0, 0] ![0, 2047, 0] h x 0 (ix3 b s k)
      = ((∑ m ∈ range 2048, f b (s.val + m) k : ℝ) : EReal) := by
  unfold Ideal.hostReduceWindowAdd Host.reduceWindow
  dsimp only
  rw [foldl_add_map, zero_add, ← Fin.sum_univ_def, ← Fin.sum_univ_eq_sum_range (fun m => f b (s.val + m) k), ← Cert.Fin.sum_coe]
  refine (Equiv.sum_comp (windowEquiv.trans (⟨3, ![1, 2048, 1]⟩ : Shape).rowMajor) _).symm.trans (Finset.sum_congr rfl fun m _ => ?_)
  have hp : (⟨3, ![1, 2048, 1]⟩ : Shape).rowMajor.symm ((windowEquiv.trans (⟨3, ![1, 2048, 1]⟩ : Shape).rowMajor) m) = ix3 (0 : Fin 1) m (0 : Fin 1) :=
    Equiv.symm_apply_apply _ _
  split_ifs with hin
  · have h1 := hin 1
    rw [hp] at h1
    have h2 : s.val * 1 + m.val - 0 < 2048 := h1.2
    refine Eq.trans (congrArg x ?_) (hx b ⟨s.val + m.val, by omega⟩ k)
    funext a
    apply Fin.ext
    match a with
    | ⟨0, _⟩ => show b.val * 1 + ((⟨3, ![1, 2048, 1]⟩ : Shape).rowMajor.symm _ 0).val - 0 = b.val; rw [hp]; show b.val * 1 + 0 - 0 = b.val; omega
    | ⟨1, _⟩ => show s.val * 1 + ((⟨3, ![1, 2048, 1]⟩ : Shape).rowMajor.symm _ 1).val - 0 = s.val + m.val; rw [hp]; show s.val * 1 + m.val - 0 = s.val + m.val; omega
    | ⟨2, _⟩ => show k.val * 1 + ((⟨3, ![1, 2048, 1]⟩ : Shape).rowMajor.symm _ 2).val - 0 = k.val; rw [hp]; show k.val * 1 + 0 - 0 = k.val; omega
  · rw [hf b _ k (by
      by_contra hc
      refine hin fun a => ?_
      match a with
      | ⟨0, _⟩ => rw [hp]; exact ⟨Nat.zero_le _, by show b.val * 1 + 0 - 0 < 4; omega⟩
      | ⟨1, _⟩ => rw [hp]; exact ⟨Nat.zero_le _, by show s.val * 1 + m.val - 0 < 2048; omega⟩
      | ⟨2, _⟩ => rw [hp]; exact ⟨Nat.zero_le _, by show k.val * 1 + 0 - 0 < n; omega⟩)]
    rfl

/-- The number of positions an average runs over, as the programs count it. -/
theorem count_toInt (s w : ℕ) (hs : s < 2048) (hw : w < 2048) :
    (IntOp.minsi (BitVec.ofNat 32 (s + 1)) (BitVec.ofNat 32 w)).toInt = ((min (s + 1) w : ℕ) : ℤ) := by
  have h1 : (BitVec.ofNat 32 (s + 1)).toNat = s + 1 := by rw [BitVec.toNat_ofNat]; omega
  have h2 : (BitVec.ofNat 32 w).toNat = w := by rw [BitVec.toNat_ofNat]; omega
  have h3 : (IntOp.minsi (BitVec.ofNat 32 (s + 1)) (BitVec.ofNat 32 w)).toNat = min (s + 1) w := by
    rw [Idealize.ShloMosaic.WordArith.toNat_minsi_of_lt _ _ (by omega) (by omega), h1, h2]
  rw [BitVec.toInt_eq_toNat_cond, h3]
  split_ifs <;> omega

/-- The count as a number of the arithmetic. -/
theorem count_real (s w : ℕ) (hs : s < 2048) (hw : w < 2048) :
    (FloatOps.sitofp .f32 (IntOp.minsi (BitVec.ofNat 32 (s + 1)) (BitVec.ofNat 32 w)) : Ideal .f32) = (((min (s + 1) w : ℕ) : ℝ) : EReal) := by
  show (((IntOp.minsi (BitVec.ofNat 32 (s + 1)) (BitVec.ofNat 32 w)).toInt : ℝ) : EReal) = _
  rw [count_toInt s w hs hw, Int.cast_natCast]

theorem count_ne (s w : ℕ) (hw : 0 < w) : ((min (s + 1) w : ℕ) : ℝ) ≠ 0 := Nat.cast_ne_zero.mpr (by omega)

/-- A share less the share that leaves the window, the sequence's end being zeros. -/
theorem diff_close (d : Fin 2048 → ℝ) (w s m : ℕ) (hm : m = s + w) :
    ((share d w s : EReal) + if m < 2048 then -(share d w m : EReal) else 0) = ((share d w s - share d w (s + w) : ℝ) : EReal) := by
  subst hm
  split_ifs with h
  · rw [← EReal.coe_neg, ← EReal.coe_add, sub_eq_add_neg]
  · rw [share_of_le d w (s := s + w) (by omega), sub_zero, add_zero]

theorem back_eq (d : Fin 2048 → ℝ) (w : ℕ) (s : Fin 2048) {n : ℕ} (h : n = s.val) :
    ∑ j ∈ range w, share d w (n + j) - ext d n = back d w s := by
  subst h
  rw [ext_of_lt]; rfl

/-- The width of a column by its group. -/
theorem width_of (c : Fin 512) (g w : ℕ) (h : c.val / 128 = g) (hw : 2 ^ (g + 1) = w) : width c = w := by
  rw [width, h, hw]

/-- A share as an entry times the reciprocal of the count. -/
theorem share_mul (D : Fin 512 → Fin 2048 → ℝ) {c c' : Fin 512} (hc : c'.val = c.val) {w : ℕ} (hw : width c = w) (s : ℕ) :
    (ext (D c') s : EReal) * ((1 / ((min (s + 1) w : ℕ) : ℝ) : ℝ) : EReal) = (share (D c) (width c) s : ℝ) := by
  obtain rfl : c' = c := Fin.ext hc
  rw [hw, ← EReal.coe_mul, share, mul_one_div]

/-- Past the first positions the count is the window's. -/
theorem share_late (D : Fin 512 → Fin 2048 → ℝ) {c c' : Fin 512} (hc : c'.val = c.val) {w : ℕ} (hw : width c = w) {q : ℝ} (hq : q = 1 / w) {s s' : ℕ}
    (hs : s' = s) (h : w ≤ s) : ext (D c') s' * q = share (D c) (width c) s := by
  obtain rfl : c' = c := Fin.ext hc
  rw [hs, hw, hq, share, mul_one_div, Nat.min_eq_right (by omega)]

end Cert.Pool
end
-- ==== Proof.InGrad.lean ====
/-
  The gradient of a layer's input: what the kernel leaves in its two result arrays at each grid point.
-/
module

public import proofs.«01_k».proof.Proof.InGradMath
public import proofs.«01_k».proof.Proof.Rows
public import Idealize.ShloMosaic.Lib.VecWindow
public import Idealize.ShloMosaic.Lib.Pipeline.ValueKit.Point
public import proofs.«01_k».proof.Proof.Gen.InGradIdeal.Value

@[expose] public section

set_option maxRecDepth 16384

noncomputable section

namespace Cert.InGradIdeal.Point

open Cert.InGradIdeal Cert.InGradIdeal.Gen Cert.Fin Cert.Rows Cert.Pool Idealize.ShloMosaic Idealize.ShloMosaic.TcCoe Idealize.SL.Sem

/-! ### Where a grid point lies in its sequence -/

theorem coord : ∀ t : Fin cfg0.N, (grid0.coords t 0).val = t.val := (by decide +kernel : ∀ t : Fin grid0.N, (grid0.coords t 0).val = t.val)

/-- The tile's number within its sequence. -/
abbrev place (i : grid0.Coords) : ℕ := (i 0).val % 4

theorem place_word : ∀ n : Fin 16,
    Scalar.select (Scalar.andi (Scalar.xori (Scalar.cmpi .slt (Scalar.remsi (BitVec.ofNat 32 n.val) 4#32) 0#32) (Scalar.cmpi .slt 4#32 0#32)) (Scalar.cmpi .ne (Scalar.remsi (BitVec.ofNat 32 n.val) 4#32) 0#32))
      (Scalar.addi (Scalar.remsi (BitVec.ofNat 32 n.val) 4#32) 4#32) (Scalar.remsi (BitVec.ofNat 32 n.val) 4#32) = BitVec.ofNat 32 (n.val % 4) := by
  decide

/-- The positions of a tile, counted from 1. -/
theorem pay2 (i : grid0.Coords) (r : Fin 512) (k : Fin 128) :
    k0_pay2 i (ix2 r k) = BitVec.ofNat 32 (place i * 512 + r.val + 1) := by
  unfold k0_pay2
  have h4 : Scalar.select (Scalar.cmpi .eq 4#32 0#32) 1#32 4#32 = 4#32 := by decide
  simp only [h4]
  rw [place_word (i 0)]
  have hp : place i < 4 := Nat.mod_lt _ (by norm_num)
  pointwise []
  unfold Scalar.muli IntOp.muli IntOp.addi
  apply BitVec.eq_of_toNat_eq
  simp only [BitVec.toNat_add, BitVec.toNat_mul, BitVec.toNat_ofNat]
  change _ = (place i * 512 + r.val + 1) % 2 ^ 32
  have e : (i 0).val % 4 = place i := rfl
  rw [e]
  omega

theorem count (i : grid0.Coords) (r : Fin 512) (w : ℕ) (hw : w < 2048) :
    (FloatOps.sitofp .f32 (IntOp.minsi (BitVec.ofNat 32 (place i * 512 + r.val + 1)) (BitVec.ofNat 32 w)) : Ideal .f32)
      = (((min (place i * 512 + r.val + 1) w : ℕ) : ℝ) : EReal) :=
  count_real (place i * 512 + r.val) w (by have : place i < 4 := Nat.mod_lt _ (by norm_num); omega) hw

theorem pay3 (i : grid0.Coords) (r : Fin 512) (k : Fin 128) : k0_pay3 (F := Ideal) i (ix2 r k) = (1 / ((min (place i * 512 + r.val + 1) 2 : ℕ) : ℝ) : ℝ) := by
  pointwise [k0_pay3, pay2]
  rw [count i r 2 (by norm_num), ← EReal.coe_one, div_real _ (count_ne _ _ (by norm_num))]

theorem pay4 (i : grid0.Coords) (r : Fin 512) (k : Fin 128) : k0_pay4 (F := Ideal) i (ix2 r k) = (1 / ((min (place i * 512 + r.val + 1) 4 : ℕ) : ℝ) : ℝ) := by
  pointwise [k0_pay4, pay2]
  rw [count i r 4 (by norm_num), ← EReal.coe_one, div_real _ (count_ne _ _ (by norm_num))]

theorem pay5 (i : grid0.Coords) (r : Fin 512) (k : Fin 128) : k0_pay5 (F := Ideal) i (ix2 r k) = (1 / ((min (place i * 512 + r.val + 1) 8 : ℕ) : ℝ) : ℝ) := by
  pointwise [k0_pay5, pay2]
  rw [count i r 8 (by norm_num), ← EReal.coe_one, div_real _ (count_ne _ _ (by norm_num))]

theorem pay6 (i : grid0.Coords) (r : Fin 512) (k : Fin 128) : k0_pay6 (F := Ideal) i (ix2 r k) = (1 / ((min (place i * 512 + r.val + 1) 16 : ℕ) : ℝ) : ℝ) := by
  pointwise [k0_pay6, pay2]
  rw [count i r 16 (by norm_num), ← EReal.coe_one, div_real _ (count_ne _ _ (by norm_num))]

/-! ### The windows' sums -/

/-- A block of rows added to itself rotated up by `k` rows, where the rows do not wrap around. -/
theorem rot_add {n : ℕ} (a : BitVec 32) (k L : ℕ) (ha : a.toNat + k = 528) (hL : L + k ≤ 528) (z : FVec Ideal (⟨2, ![528, n]⟩ : Shape) .f32) (f : ℕ → Fin n → ℝ)
    (hz : ∀ (r : Fin 528) c, r.val < L + k → z (ix2 r c) = (f r.val c : EReal)) (h : (⟨2, ![528, n]⟩ : Shape).Rotates 0 none)
    (r : Fin 528) (c : Fin n) (hr : r.val < L) :
    (addf z (dynamicRotate 0 a none z h) : FVec Ideal (⟨2, ![528, n]⟩ : Shape) .f32) (ix2 r c) = ((f r.val c + f (r.val + k) c : ℝ) : EReal) := by
  have hk : (r.val + 528 - a.toNat % 528) % 528 = r.val + k := by
    rcases Nat.eq_zero_or_pos k with h0 | h0
    · have : a.toNat % 528 = 0 := by omega
      omega
    · have : a.toNat % 528 = a.toNat := Nat.mod_eq_of_lt (by omega)
      omega
  have hz' := hz ⟨r.val + k, by omega⟩ c (by show r.val + k < L + k; omega)
  pointwise [hz r c (by omega)]
  rw [EReal.coe_add, ← hz']
  refine congrArg (_ + ·) (congrArg z (funext fun a => Fin.ext ?_))
  match a with
  | ⟨0, _⟩ => exact hk
  | ⟨1, _⟩ => rfl

theorem sum_double (e : ℕ → ℝ) (w s : ℕ) : ∑ j ∈ Finset.range w, e (s + j) + ∑ j ∈ Finset.range w, e (s + w + j) = ∑ j ∈ Finset.range (w + w), e (s + j) := by
  rw [Finset.sum_range_add]
  exact congrArg _ (Finset.sum_congr rfl fun j _ => congrArg e (by omega))

/-- The four column blocks the kernel stores of a tile. -/
def stored (i : grid0.Coords) (X : Vec Ideal S512x512 .f32) (b : BitVec 1) (H : Vec Ideal S16x512 .f32) (g : Fin 4) : FVec Ideal S512x128 .bf16 :=
  ![k0_pay14 (k0_pay13 (k0_pay3 i) (k0_pay4 i) (k0_pay5 i) (k0_pay6 i) X b H),
    k0_pay15 X (k0_pay11 (k0_pay3 i) (k0_pay4 i) (k0_pay5 i) (k0_pay6 i) X b H),
    k0_pay16 X (k0_pay12 (k0_pay3 i) (k0_pay4 i) (k0_pay5 i) (k0_pay6 i) X b H),
    k0_pay17 X (k0_pay10 (k0_pay3 i) (k0_pay4 i) (k0_pay5 i) (k0_pay6 i) X b H)] g

section Pay
variable {i : grid0.Coords} {X : Vec Ideal S512x512 .f32} {H : Vec Ideal S16x512 .f32} {D : Fin 512 → Fin 2048 → ℝ} {b : BitVec 1}
  (hX : ∀ (r : Fin 512) (c : Fin 512), X (ix2 r c) = (ext (D c) (place i * 512 + r.val) : EReal))
  (hH : ∀ (r : Fin 16) (c : Fin 512), Scalar.select b (0 : EReal) (H (ix2 r c)) = (ext (D c) (place i * 512 + 512 + r.val) : EReal))
include hX hH

/-- The sums over two positions. -/
theorem pay7 (r : Fin 528) (c : Fin 512) (hr : r.val < 527) :
    k0_pay7 (k0_pay3 i) (k0_pay4 i) (k0_pay5 i) (k0_pay6 i) X b H (ix2 r c)
      = ((∑ j ∈ Finset.range 2, share (D c) (width c) (place i * 512 + r.val + j) : ℝ) : EReal) := by
  unfold k0_pay7
  refine (rot_add _ 1 527 (by decide) (by norm_num) _ (fun r c => share (D c) (width c) (place i * 512 + r)) (fun r c hr => ?_) _ r c hr).trans ?_
  · have hs (r : Fin 16) (c : Fin 512) (q : ℝ) : Scalar.select b (0 : EReal) (H (ix2 r c) * (q : EReal)) = ((ext (D c) (place i * 512 + 512 + r.val) * q : ℝ) : EReal) := by
      rw [EReal.coe_mul, ← hH r c]
      unfold Scalar.select
      split_ifs
      · rw [zero_mul]
      · rfl
    pointwise [pay3, pay4, pay5, pay6, hX, lit_half, lit_quarter, lit_eighth, lit_sixteenth, hs]
    split_ifs
    · exact share_mul D rfl (width_of c 0 2 (by omega) rfl) _
    · exact share_mul D (by show 128 + (c.val - 128) = c.val; omega) (width_of c 1 4 (by omega) rfl) _
    · exact share_mul D (by show 128 + (c.val - 128) = c.val; omega) (width_of c 1 4 (by omega) rfl) _
    · exact share_mul D (by show 256 + (c.val - 128 - 128) = c.val; omega) (width_of c 2 8 (by omega) rfl) _
    · exact share_mul D (by show 256 + (c.val - 128 - 128) = c.val; omega) (width_of c 2 8 (by omega) rfl) _
    · exact share_mul D (by show 384 + (c.val - 128 - 128 - 128) = c.val; omega) (width_of c 3 16 (by omega) rfl) _
    · exact share_mul D (by show 384 + (c.val - 128 - 128 - 128) = c.val; omega) (width_of c 3 16 (by omega) rfl) _
    · exact congrArg Real.toEReal (share_late D rfl (width_of c 0 2 (by omega) rfl) (by norm_num) (by omega) (by omega))
    · exact congrArg Real.toEReal (share_late D (by show 128 + (c.val - 128) = c.val; omega) (width_of c 1 4 (by omega) rfl) (by norm_num) (by omega) (by omega))
    · exact congrArg Real.toEReal (share_late D (by show 128 + (c.val - 128) = c.val; omega) (width_of c 1 4 (by omega) rfl) (by norm_num) (by omega) (by omega))
    · exact congrArg Real.toEReal (share_late D (by show 256 + (c.val - 128 - 128) = c.val; omega) (width_of c 2 8 (by omega) rfl) (by norm_num) (by omega) (by omega))
    · exact congrArg Real.toEReal (share_late D (by show 256 + (c.val - 128 - 128) = c.val; omega) (width_of c 2 8 (by omega) rfl) (by norm_num) (by omega) (by omega))
    · exact congrArg Real.toEReal (share_late D (by show 384 + (c.val - 128 - 128 - 128) = c.val; omega) (width_of c 3 16 (by omega) rfl) (by norm_num) (by omega) (by omega))
    · exact congrArg Real.toEReal (share_late D (by show 384 + (c.val - 128 - 128 - 128) = c.val; omega) (width_of c 3 16 (by omega) rfl) (by norm_num) (by omega) (by omega))
  · rw [Finset.sum_range_succ, Finset.sum_range_one]; rfl

/-- The sums over 4 positions, of the columns from 128 on. -/
theorem pay8 (r : Fin 528) (c : Fin 384) (hr : r.val < 525) (k : Fin 512) (hk : k.val = 128 + c.val) :
    k0_pay8 (k0_pay3 i) (k0_pay4 i) (k0_pay5 i) (k0_pay6 i) X b H (ix2 r c)
      = ((∑ j ∈ Finset.range 4, share (D k) (width k) (place i * 512 + r.val + j) : ℝ) : EReal) := by
  rw [show k = ⟨128 + c.val, by clear hk; omega⟩ from Fin.ext hk]
  unfold k0_pay8
  refine (rot_add _ 2 525 (by decide) (by norm_num) _ (fun r c => ∑ j ∈ Finset.range 2, share (D ⟨128 + c.val, by omega⟩) (width ⟨128 + c.val, by omega⟩) (place i * 512 + r + j)) (fun r c hr => ?_) _ r c hr).trans ?_
  · pointwise []
    exact pay7 hX hH _ _ (by omega)
  · exact congrArg _ (sum_double (share (D ⟨128 + c.val, by omega⟩) (width ⟨128 + c.val, by omega⟩)) 2 (place i * 512 + r.val))

/-- The sums over 8 positions, of the columns from 256 on. -/
theorem pay9 (r : Fin 528) (c : Fin 256) (hr : r.val < 521) (k : Fin 512) (hk : k.val = 256 + c.val) :
    k0_pay9 (k0_pay3 i) (k0_pay4 i) (k0_pay5 i) (k0_pay6 i) X b H (ix2 r c)
      = ((∑ j ∈ Finset.range 8, share (D k) (width k) (place i * 512 + r.val + j) : ℝ) : EReal) := by
  rw [show k = ⟨256 + c.val, by clear hk; omega⟩ from Fin.ext hk]
  unfold k0_pay9
  refine (rot_add _ 4 521 (by decide) (by norm_num) _ (fun r c => ∑ j ∈ Finset.range 4, share (D ⟨256 + c.val, by omega⟩) (width ⟨256 + c.val, by omega⟩) (place i * 512 + r + j)) (fun r c hr => ?_) _ r c hr).trans ?_
  · pointwise []
    exact pay8 hX hH _ _ (by omega) ⟨256 + c.val, by omega⟩ (by show 256 + c.val = 128 + (128 + c.val); omega)
  · exact congrArg _ (sum_double (share (D ⟨256 + c.val, by omega⟩) (width ⟨256 + c.val, by omega⟩)) 4 (place i * 512 + r.val))

/-- The sums over 16 positions, of the columns from 384 on. -/
theorem pay10 (r : Fin 528) (c : Fin 128) (hr : r.val < 513) (k : Fin 512) (hk : k.val = 384 + c.val) :
    k0_pay10 (k0_pay3 i) (k0_pay4 i) (k0_pay5 i) (k0_pay6 i) X b H (ix2 r c)
      = ((∑ j ∈ Finset.range 16, share (D k) (width k) (place i * 512 + r.val + j) : ℝ) : EReal) := by
  rw [show k = ⟨384 + c.val, by clear hk; omega⟩ from Fin.ext hk]
  unfold k0_pay10
  refine (rot_add _ 8 513 (by decide) (by norm_num) _ (fun r c => ∑ j ∈ Finset.range 8, share (D ⟨384 + c.val, by omega⟩) (width ⟨384 + c.val, by omega⟩) (place i * 512 + r + j)) (fun r c hr => ?_) _ r c hr).trans ?_
  · pointwise []
    exact pay9 hX hH _ _ (by omega) ⟨384 + c.val, by omega⟩ (by show 384 + c.val = 256 + (128 + c.val); omega)
  · exact congrArg _ (sum_double (share (D ⟨384 + c.val, by omega⟩) (width ⟨384 + c.val, by omega⟩)) 8 (place i * 512 + r.val))

/-- The four stored column blocks hold the gradients of the four groups. -/
theorem blocks (g : Fin 4) (r : Fin 512) (k : Fin 128) : stored i X b H g (ix2 r k)
      = ((∑ j ∈ Finset.range (width (col g k)), share (D (col g k)) (width (col g k)) (place i * 512 + r.val + j)
          - ext (D (col g k)) (place i * 512 + r.val) : ℝ) : EReal) := by
  have hr := r.isLt
  match g with
  | 0 =>
    rw [show width (col 0 k) = 2 from width_col 0 k, EReal.coe_sub]
    unfold stored
    pointwise [k0_pay14, k0_pay13, hX]
    refine congrArg₂ (· - ·) ((pay7 hX hH _ _ (by show r.val < 527; omega)).trans ?_) ?_
    · rw [show (⟨k.val, by omega⟩ : Fin 512) = col 0 k from Fin.ext (by show k.val = 128 * 0 + k.val; omega), show width (col 0 k) = 2 from width_col 0 k]
    · rw [show (⟨k.val, by omega⟩ : Fin 512) = col 0 k from Fin.ext (by show k.val = 128 * 0 + k.val; omega)]
  | 1 =>
    rw [show width (col 1 k) = 4 from width_col 1 k, EReal.coe_sub]
    unfold stored
    pointwise [k0_pay15, k0_pay11, hX]
    refine congrArg₂ (· - ·) ((pay8 hX hH _ _ (by show r.val < 525; omega) (col 1 k) rfl).trans ?_) ?_
    · rw [show width (col 1 k) = 4 from width_col 1 k]
    · rfl
  | 2 =>
    rw [show width (col 2 k) = 8 from width_col 2 k, EReal.coe_sub]
    unfold stored
    pointwise [k0_pay16, k0_pay12, hX]
    refine congrArg₂ (· - ·) ((pay9 hX hH _ _ (by show r.val < 521; omega) (col 2 k) rfl).trans ?_) ?_
    · rw [show width (col 2 k) = 8 from width_col 2 k]
    · rfl
  | 3 =>
    rw [show width (col 3 k) = 16 from width_col 3 k, EReal.coe_sub]
    unfold stored
    pointwise [k0_pay17, hX]
    refine congrArg₂ (· - ·) ((pay10 hX hH _ _ (by show r.val < 513; omega) (col 3 k) rfl).trans ?_) ?_
    · rw [show width (col 3 k) = 16 from width_col 3 k]
    · rfl

end Pay

variable (m : (ℓ : Loc nD τ sig) → Buf (Elt Ideal) ℓ) (c : Dev nD) (t : Fin cfg0.N)

/-- The word that says whether a tile is its sequence's last. -/
abbrev last (i : grid0.Coords) : BitVec 1 := Scalar.cmpi .eq (BitVec.ofNat 32 (place i)) 3#32

theorem last_word (n : Fin 16) :
    Scalar.select (Scalar.andi (Scalar.xori (Scalar.cmpi .slt (Scalar.remsi (BitVec.ofNat 32 n.val) 4#32) 0#32) 0#1) (Scalar.cmpi .ne (Scalar.remsi (BitVec.ofNat 32 n.val) 4#32) 0#32))
      (Scalar.addi (Scalar.remsi (BitVec.ofNat 32 n.val) 4#32) 4#32) (Scalar.remsi (BitVec.ofNat 32 n.val) 4#32) = BitVec.ofNat 32 (n.val % 4) :=
  place_word n

/-- The four column blocks stored at a grid point. -/
abbrev cols (g : Fin 4) : FVec Ideal S512x128 .bf16 := stored (grid0.coords t) (iblk m c 0 t) (last (grid0.coords t)) (iblk m c 1 t) g

/-- After the four column blocks' stores a column reads its group's block. -/
theorem four_cols {sp : Space} (v : View sig .tc sp S512x1536 .bf16) (f : v.ty.Contents (Elt Ideal)) (P : Fin 4 → FVec Ideal S512x128 .bf16)
    (i3 : ∀ a : Fin 2, (![0, 384] : Fin 2 → Nat) a + (![512, 128] : Fin 2 → Nat) a ≤ (![512, 1536] : Fin 2 → Nat) a)
    (i2 : ∀ a : Fin 2, (![0, 256] : Fin 2 → Nat) a + (![512, 128] : Fin 2 → Nat) a ≤ (![512, 1536] : Fin 2 → Nat) a)
    (i1 : ∀ a : Fin 2, (![0, 128] : Fin 2 → Nat) a + (![512, 128] : Fin 2 → Nat) a ≤ (![512, 1536] : Fin 2 → Nat) a)
    (i0 : ∀ a : Fin 2, (![0, 0] : Fin 2 → Nat) a + (![512, 128] : Fin 2 → Nat) a ≤ (![512, 1536] : Fin 2 → Nat) a)
    (g : Fin 4) (r : Fin 512) (k : Fin 128) (n : Fin 1536) (hn : n.val = 128 * g.val + k.val) :
    v.read (Elt Ideal) (v.writes (Elt Ideal) f [(⟨Rect.unit (s := ⟨2, ![512, 1536]⟩) ![0, 384] ![512, 128] i3, P 3⟩ : View.Piece (Elt Ideal) (⟨2, ![512, 1536]⟩ : Shape) .bf16),
      ⟨Rect.unit (s := ⟨2, ![512, 1536]⟩) ![0, 256] ![512, 128] i2, P 2⟩, ⟨Rect.unit (s := ⟨2, ![512, 1536]⟩) ![0, 128] ![512, 128] i1, P 1⟩,
      ⟨Rect.unit (s := ⟨2, ![512, 1536]⟩) ![0, 0] ![512, 128] i0, P 0⟩]) (ix2 r n) = P g (ix2 r k) := by
  match g, hn with
  | 3, h =>
    have h : n.val = 384 + k.val := h
    rw [read_cols_of _ _ _ _ _ _ _ _ k h]
  | 2, h =>
    have h : n.val = 256 + k.val := h
    rw [read_cols_ne _ _ _ _ _ _ _ _ (Or.inl (by omega)), read_cols_of _ _ _ _ _ _ _ _ k h]
  | 1, h =>
    have h : n.val = 128 + k.val := h
    rw [read_cols_ne _ _ _ _ _ _ _ _ (Or.inl (by omega)), read_cols_ne _ _ _ _ _ _ _ _ (Or.inl (by omega)), read_cols_of _ _ _ _ _ _ _ _ k h]
  | 0, h =>
    have h : n.val = 128 * 0 + k.val := h
    rw [read_cols_ne _ _ _ _ _ _ _ _ (Or.inl (by omega)), read_cols_ne _ _ _ _ _ _ _ _ (Or.inl (by omega)), read_cols_ne _ _ _ _ _ _ _ _ (Or.inl (by omega)),
      read_cols_of _ _ _ _ _ _ _ _ k (by omega)]

/-- With the last block stored on top, the whole row reads as the two parts side by side. -/
theorem five_cols {sp : Space} (v : View sig .tc sp S512x1536 .bf16) (f : v.ty.Contents (Elt Ideal)) (P : Fin 4 → FVec Ideal S512x128 .bf16)
    (i3 : ∀ a : Fin 2, (![0, 384] : Fin 2 → Nat) a + (![512, 128] : Fin 2 → Nat) a ≤ (![512, 1536] : Fin 2 → Nat) a)
    (i2 : ∀ a : Fin 2, (![0, 256] : Fin 2 → Nat) a + (![512, 128] : Fin 2 → Nat) a ≤ (![512, 1536] : Fin 2 → Nat) a)
    (i1 : ∀ a : Fin 2, (![0, 128] : Fin 2 → Nat) a + (![512, 128] : Fin 2 → Nat) a ≤ (![512, 1536] : Fin 2 → Nat) a)
    (i0 : ∀ a : Fin 2, (![0, 0] : Fin 2 → Nat) a + (![512, 128] : Fin 2 → Nat) a ≤ (![512, 1536] : Fin 2 → Nat) a)
    (i4 : ∀ a : Fin 2, (![0, 512] : Fin 2 → Nat) a + (![512, 1024] : Fin 2 → Nat) a ≤ (![512, 1536] : Fin 2 → Nat) a)
    (Q : FVec Ideal S512x1024 .bf16) (r : Fin 512) (n : Fin 1536) :
    v.read (Elt Ideal) (v.writes (Elt Ideal) f [(⟨Rect.unit (s := ⟨2, ![512, 1536]⟩) ![0, 512] ![512, 1024] i4, Q⟩ : View.Piece (Elt Ideal) (⟨2, ![512, 1536]⟩ : Shape) .bf16),
      ⟨Rect.unit (s := ⟨2, ![512, 1536]⟩) ![0, 384] ![512, 128] i3, P 3⟩,
      ⟨Rect.unit (s := ⟨2, ![512, 1536]⟩) ![0, 256] ![512, 128] i2, P 2⟩, ⟨Rect.unit (s := ⟨2, ![512, 1536]⟩) ![0, 128] ![512, 128] i1, P 1⟩,
      ⟨Rect.unit (s := ⟨2, ![512, 1536]⟩) ![0, 0] ![512, 128] i0, P 0⟩]) (ix2 r n)
      = proj (fun n => P ⟨n.val / 128, by omega⟩ (ix2 r ⟨n.val % 128, by omega⟩)) (fun n => Q (ix2 r n)) n := by
  unfold proj
  split_ifs with h
  · rw [read_cols_ne _ _ _ _ _ _ _ _ (Or.inl h)]
    exact four_cols v f P i3 i2 i1 i0 ⟨n.val / 128, by omega⟩ r ⟨n.val % 128, by omega⟩ n (by show n.val = 128 * (n.val / 128) + n.val % 128; omega)
  · rw [read_cols_of _ _ _ _ _ _ _ _ ⟨n.val - 512, by omega⟩ (by show n.val = 512 + (n.val - 512); omega)]

/-- What a grid point leaves in the second result's block. -/
theorem out6 (g : Fin 4) (r : Fin 512) (k : Fin 128) : (outsAt0 m c t).2 (ix2 r (col g k)) = cols m c t g (ix2 r k) := by
  unfold outsAt0; dsimp only; unfold out0_A_6 kernelRun0_A; dsimp only; sl_unfold_words
  simp only [View.readCov, View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x512) off_zero, View.ld_unit_zero (S := S16x512) off_zero, last_word (grid0.coords t 0)]
  rw [read_full, ld_cols _ 0 _ r ⟨(col g k).val, by omega⟩ (⟨(col g k).val, by omega⟩) (by simp)]
  exact four_cols _ _ (cols m c t) _ _ _ _ g r k _ rfl

/-- The stored sum: the scaled gradient plus a row times the weight. -/
theorem pay1 {dr : Vec Ideal S512x1024 .f32} {S : Vec Ideal S512x1536 .bf16} {w : Vec Ideal S1024x1536 .bf16} {r : Fin 512} {R : Fin 1536 → EReal}
    (hS : ∀ n, S (ix2 r n) = R n) (k : Fin 1024) :
    k0_pay1 (k0_pay19 dr) S w (ix2 r k) = Ideal.ofBits .f32 0x3F9837F0#32 * dr (ix2 r k) + ∑ n, R n * w (ix2 k n) := by
  pointwise [k0_pay1, k0_pay19, dot_S512x1536_S1024x1536_S512x1024_1_1_0_0_n_n, hS]

/-- What a grid point leaves in the first result's block. -/
theorem out5 (r : Fin 512) (k : Fin 1024) : (outsAt0 m c t).1 (ix2 r k)
    = Ideal.ofBits .f32 0x3F9837F0#32 * iblk m c 3 t (ix2 r k)
      + ∑ n, proj (fun n => cols m c t ⟨n.val / 128, by omega⟩ (ix2 r ⟨n.val % 128, by omega⟩)) (fun n => iblk m c 2 t (ix2 r n)) n * iblk m c 4 t (ix2 k n) := by
  unfold outsAt0; dsimp only; unfold out0_A_5 kernelRun0_A; dsimp only; sl_unfold_words
  simp only [View.readCov, View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x512) off_zero, View.ld_unit_zero (S := S16x512) off_zero, View.ld_unit_zero (S := S512x1024) off_zero, View.ld_unit_zero (S := S1024x1536) off_zero, View.ld_unit_zero (S := S512x1536) off_zero, last_word (grid0.coords t 0)]
  rw [read_full]
  refine (pay1 (R := fun n => proj (fun n => cols m c t ⟨n.val / 128, by omega⟩ (ix2 r ⟨n.val % 128, by omega⟩)) (fun n => iblk m c 2 t (ix2 r n)) n) (fun n => ?_) k).trans ?_
  · exact (five_cols _ _ (cols m c t) _ _ _ _ _ (k0_pay18 (iblk m c 2 t)) r n).trans (by pointwise [k0_pay18])
  · rfl

end Cert.InGradIdeal.Point
end
-- ==== Proof.InGradRef.lean ====
/-
  The reference of the gradient of a layer's input, read at an index: the moving averages' gradient on arrays that hold
  real numbers, and the projection's gradient.
-/
module

public import proofs.«01_k».proof.Proof.InGradMath
public import proofs.«01_k».proof.Proof.Gen.InGradRefIdeal.Read

@[expose] public section

set_option maxRecDepth 16384

noncomputable section

namespace Cert.InGradRefIdeal.Read

open Cert.InGradRefIdeal Cert.InGradRefIdeal.Gen Cert.Fin Cert.Pool Idealize.ShloMosaic Idealize.ShloMosaic.TcCoe Idealize.SL.Sem

variable {x0 : (⟨S8192x512, .f32⟩ : BufTy).Contents (Elt Ideal)} {D : Fin 4 → Fin 512 → Fin 2048 → ℝ}

theorem one_add_word (s : ℕ) : IntOp.addi 1#32 (BitVec.ofNat 32 s) = BitVec.ofNat 32 (s + 1) := by
  rw [Nat.add_comm, BitVec.ofNat_add]; rfl

/-- An entry by its row and column numbers. -/
theorem at_tok (h0 : ∀ b s c, x0 (ix2 (tok b s) c) = (D b c s : EReal)) {b : Fin 4} {s : Fin 2048} {c : Fin 512} (r : Fin 8192) (k : Fin 512)
    (hr : r.val = b.val * 2048 + s.val) (hk : k.val = c.val) : x0 (ix2 r k) = (D b c s : EReal) := by
  obtain rfl : r = tok b s := Fin.ext hr
  obtain rfl : k = c := Fin.ext hk
  exact h0 b s k

theorem count2 (s : Fin 2048) : val_main_v26 (F := Ideal) (ix3 0 s 0) = ((min (s.val + 1) 2 : ℕ) : ℝ) := by
  pointwise [val_main_v26, val_main_v25, val_main_v24, val_main_v23, val_main_v17, val_main_v16, val_main_v15, val_main_c, val_main_c_5]
  rw [one_add_word]
  exact count_real s.val 2 s.isLt (by norm_num)

theorem count4 (s : Fin 2048) : val_main_v41 (F := Ideal) (ix3 0 s 0) = ((min (s.val + 1) 4 : ℕ) : ℝ) := by
  pointwise [val_main_v41, val_main_v40, val_main_v39, val_main_v38, val_main_v17, val_main_v16, val_main_v15, val_main_c, val_main_c_8]
  rw [one_add_word]
  exact count_real s.val 4 s.isLt (by norm_num)

theorem count8 (s : Fin 2048) : val_main_v56 (F := Ideal) (ix3 0 s 0) = ((min (s.val + 1) 8 : ℕ) : ℝ) := by
  pointwise [val_main_v56, val_main_v55, val_main_v54, val_main_v53, val_main_v17, val_main_v16, val_main_v15, val_main_c, val_main_c_11]
  rw [one_add_word]
  exact count_real s.val 8 s.isLt (by norm_num)

theorem count16 (s : Fin 2048) : val_main_v71 (F := Ideal) (ix3 0 s 0) = ((min (s.val + 1) 16 : ℕ) : ℝ) := by
  pointwise [val_main_v71, val_main_v70, val_main_v69, val_main_v68, val_main_v17, val_main_v16, val_main_v15, val_main_c, val_main_c_14]
  rw [one_add_word]
  exact count_real s.val 16 s.isLt (by norm_num)

section
variable (h0 : ∀ b s c, x0 (ix2 (tok b s) c) = (D b c s : EReal))
include h0

theorem group0 (b : Fin 4) (s : Fin 2048) (k : Fin 128) : val_main_v84 (F := Ideal) x0 (ix3 b s k) = (D b (col 0 k) s : ℝ) := by
  pointwise [val_main_v84, val_main_v83, val_main_v2]
  exact at_tok h0 _ _ rfl (by show k.val = 128 * 0 + k.val; omega)

theorem share0 (b : Fin 4) (s : Fin 2048) (k : Fin 128) :
    val_main_v132 (F := Ideal) x0 (ix3 b s k) = (share (D b (col 0 k)) 2 s.val : ℝ) := by
  pointwise [val_main_v132, val_main_v131, group0 h0, count2]
  rw [div_real _ (count_ne _ _ (by norm_num)), share, ext_of_lt]

theorem diff0 (b : Fin 4) (s : Fin 2048) (k : Fin 128) : val_main_v138 (F := Ideal) x0 (ix3 b ⟨1 + s.val, by omega⟩ k)
    = ((share (D b (col 0 k)) 2 s.val - share (D b (col 0 k)) 2 (s.val + 2) : ℝ) : EReal) := by
  pointwise [val_main_v138, val_main_v137, val_main_v135, val_main_v134, val_main_v133, val_main_cst_28, val_main_cst_29, share0 h0]
  exact diff_close _ 2 s.val _ (by omega)

theorem group1 (b : Fin 4) (s : Fin 2048) (k : Fin 128) : val_main_v86 (F := Ideal) x0 (ix3 b s k) = (D b (col 1 k) s : ℝ) := by
  pointwise [val_main_v86, val_main_v85, val_main_v2]
  exact at_tok h0 _ _ rfl (by show 128 + k.val = 128 * 1 + k.val; omega)

theorem share1 (b : Fin 4) (s : Fin 2048) (k : Fin 128) :
    val_main_v119 (F := Ideal) x0 (ix3 b s k) = (share (D b (col 1 k)) 4 s.val : ℝ) := by
  pointwise [val_main_v119, val_main_v118, group1 h0, count4]
  rw [div_real _ (count_ne _ _ (by norm_num)), share, ext_of_lt]

theorem diff1 (b : Fin 4) (s : Fin 2048) (k : Fin 128) : val_main_v125 (F := Ideal) x0 (ix3 b ⟨1 + s.val, by omega⟩ k)
    = ((share (D b (col 1 k)) 4 s.val - share (D b (col 1 k)) 4 (s.val + 4) : ℝ) : EReal) := by
  pointwise [val_main_v125, val_main_v124, val_main_v122, val_main_v121, val_main_v120, val_main_cst_24, val_main_cst_25, share1 h0]
  exact diff_close _ 4 s.val _ (by omega)

theorem group2 (b : Fin 4) (s : Fin 2048) (k : Fin 128) : val_main_v88 (F := Ideal) x0 (ix3 b s k) = (D b (col 2 k) s : ℝ) := by
  pointwise [val_main_v88, val_main_v87, val_main_v2]
  exact at_tok h0 _ _ rfl (by show 256 + k.val = 128 * 2 + k.val; omega)

theorem share2 (b : Fin 4) (s : Fin 2048) (k : Fin 128) :
    val_main_v106 (F := Ideal) x0 (ix3 b s k) = (share (D b (col 2 k)) 8 s.val : ℝ) := by
  pointwise [val_main_v106, val_main_v105, group2 h0, count8]
  rw [div_real _ (count_ne _ _ (by norm_num)), share, ext_of_lt]

theorem diff2 (b : Fin 4) (s : Fin 2048) (k : Fin 128) : val_main_v112 (F := Ideal) x0 (ix3 b ⟨1 + s.val, by omega⟩ k)
    = ((share (D b (col 2 k)) 8 s.val - share (D b (col 2 k)) 8 (s.val + 8) : ℝ) : EReal) := by
  pointwise [val_main_v112, val_main_v111, val_main_v109, val_main_v108, val_main_v107, val_main_cst_20, val_main_cst_21, share2 h0]
  exact diff_close _ 8 s.val _ (by omega)

theorem group3 (b : Fin 4) (s : Fin 2048) (k : Fin 128) : val_main_v90 (F := Ideal) x0 (ix3 b s k) = (D b (col 3 k) s : ℝ) := by
  pointwise [val_main_v90, val_main_v89, val_main_v2]
  exact at_tok h0 _ _ rfl (by show 384 + k.val = 128 * 3 + k.val; omega)

theorem share3 (b : Fin 4) (s : Fin 2048) (k : Fin 128) :
    val_main_v94 (F := Ideal) x0 (ix3 b s k) = (share (D b (col 3 k)) 16 s.val : ℝ) := by
  pointwise [val_main_v94, val_main_v93, group3 h0, count16]
  rw [div_real _ (count_ne _ _ (by norm_num)), share, ext_of_lt]

theorem diff3 (b : Fin 4) (s : Fin 2048) (k : Fin 128) : val_main_v100 (F := Ideal) x0 (ix3 b ⟨1 + s.val, by omega⟩ k)
    = ((share (D b (col 3 k)) 16 s.val - share (D b (col 3 k)) 16 (s.val + 16) : ℝ) : EReal) := by
  pointwise [val_main_v100, val_main_v99, val_main_v97, val_main_v96, val_main_v95, val_main_cst_16, val_main_cst_17, share3 h0]
  exact diff_close _ 16 s.val _ (by omega)

theorem cols0 (b : Fin 4) (s : Fin 2048) (k : Fin 128) : val_main_v142 (F := Ideal) x0 (ix3 b s (col 0 k))
    = ((share (D b (col 0 k)) 2 s.val - share (D b (col 0 k)) 2 (s.val + 2) : ℝ) : EReal) := by
  pointwise [val_main_v142, val_main_v140, val_main_v139, val_main_v127, val_main_v126, val_main_v114, val_main_v113, val_main_v101,
    val_main_cst_30, val_main_cst_26, val_main_cst_22, val_main_cst_18]
  split_ifs <;> first | omega | (exfalso; tauto) | (simp only [zero_add, add_zero]; exact diff0 h0 b s k)

theorem cols1 (b : Fin 4) (s : Fin 2048) (k : Fin 128) : val_main_v142 (F := Ideal) x0 (ix3 b s (col 1 k))
    = ((share (D b (col 1 k)) 4 s.val - share (D b (col 1 k)) 4 (s.val + 4) : ℝ) : EReal) := by
  pointwise [val_main_v142, val_main_v140, val_main_v139, val_main_v127, val_main_v126, val_main_v114, val_main_v113, val_main_v101,
    val_main_cst_30, val_main_cst_26, val_main_cst_22, val_main_cst_18]
  split_ifs <;> first | omega | (exfalso; tauto) | (simp only [zero_add, add_zero]; exact diff1 h0 b s k)

theorem cols2 (b : Fin 4) (s : Fin 2048) (k : Fin 128) : val_main_v142 (F := Ideal) x0 (ix3 b s (col 2 k))
    = ((share (D b (col 2 k)) 8 s.val - share (D b (col 2 k)) 8 (s.val + 8) : ℝ) : EReal) := by
  pointwise [val_main_v142, val_main_v140, val_main_v139, val_main_v127, val_main_v126, val_main_v114, val_main_v113, val_main_v101,
    val_main_cst_30, val_main_cst_26, val_main_cst_22, val_main_cst_18]
  split_ifs <;> first | omega | (exfalso; tauto) | (simp only [zero_add, add_zero]; exact diff2 h0 b s k)

theorem cols3 (b : Fin 4) (s : Fin 2048) (k : Fin 128) : val_main_v142 (F := Ideal) x0 (ix3 b s (col 3 k))
    = ((share (D b (col 3 k)) 16 s.val - share (D b (col 3 k)) 16 (s.val + 16) : ℝ) : EReal) := by
  pointwise [val_main_v142, val_main_v140, val_main_v139, val_main_v127, val_main_v126, val_main_v114, val_main_v113, val_main_v101,
    val_main_cst_30, val_main_cst_26, val_main_cst_22, val_main_cst_18]
  split_ifs <;> first | omega | (exfalso; tauto) | (simp only [zero_add, add_zero]; exact diff3 h0 b s k)

theorem own0 (b : Fin 4) (s : Fin 2048) (k : Fin 128) : val_main_v130 (F := Ideal) x0 (ix3 b s (col 0 k)) = (-D b (col 0 k) s : ℝ) := by
  pointwise [val_main_v130, val_main_v129, val_main_v128, val_main_v117, val_main_v116, val_main_v115, val_main_v104, val_main_v103, val_main_v102,
    val_main_v92, val_main_v91, val_main_cst_15, val_main_cst_19, val_main_cst_23, val_main_cst_27]
  split_ifs <;> first | omega | (exfalso; tauto) | (simp only [zero_add, add_zero]; rw [group0 h0, EReal.coe_neg])

theorem own1 (b : Fin 4) (s : Fin 2048) (k : Fin 128) : val_main_v130 (F := Ideal) x0 (ix3 b s (col 1 k)) = (-D b (col 1 k) s : ℝ) := by
  pointwise [val_main_v130, val_main_v129, val_main_v128, val_main_v117, val_main_v116, val_main_v115, val_main_v104, val_main_v103, val_main_v102,
    val_main_v92, val_main_v91, val_main_cst_15, val_main_cst_19, val_main_cst_23, val_main_cst_27]
  split_ifs <;> first | omega | (exfalso; tauto) | (simp only [zero_add, add_zero]; rw [group1 h0, EReal.coe_neg])

theorem own2 (b : Fin 4) (s : Fin 2048) (k : Fin 128) : val_main_v130 (F := Ideal) x0 (ix3 b s (col 2 k)) = (-D b (col 2 k) s : ℝ) := by
  pointwise [val_main_v130, val_main_v129, val_main_v128, val_main_v117, val_main_v116, val_main_v115, val_main_v104, val_main_v103, val_main_v102,
    val_main_v92, val_main_v91, val_main_cst_15, val_main_cst_19, val_main_cst_23, val_main_cst_27]
  split_ifs <;> first | omega | (exfalso; tauto) | (simp only [zero_add, add_zero]; rw [group2 h0, EReal.coe_neg])

theorem own3 (b : Fin 4) (s : Fin 2048) (k : Fin 128) : val_main_v130 (F := Ideal) x0 (ix3 b s (col 3 k)) = (-D b (col 3 k) s : ℝ) := by
  pointwise [val_main_v130, val_main_v129, val_main_v128, val_main_v117, val_main_v116, val_main_v115, val_main_v104, val_main_v103, val_main_v102,
    val_main_v92, val_main_v91, val_main_cst_15, val_main_cst_19, val_main_cst_23, val_main_cst_27]
  split_ifs <;> first | omega | (exfalso; tauto) | (simp only [zero_add, add_zero]; rw [group3 h0, EReal.coe_neg])

/-- The differences whose running sums from the end are the windows' sums. -/
theorem cols_real (b : Fin 4) (s : Fin 2048) (c : Fin 512) : val_main_v142 (F := Ideal) x0 (ix3 b s c)
    = ((share (D b c) (width c) s.val - share (D b c) (width c) (s.val + width c) : ℝ) : EReal) := by
  refine col_cases (P := fun c => val_main_v142 (F := Ideal) x0 (ix3 b s c)
    = ((share (D b c) (width c) s.val - share (D b c) (width c) (s.val + width c) : ℝ) : EReal)) ?_ ?_ ?_ ?_ c <;>
    (intro k; simp only [width_col])
  · exact cols0 h0 b s k
  · exact cols1 h0 b s k
  · exact cols2 h0 b s k
  · exact cols3 h0 b s k

/-- The gradient of the averages' input. -/
theorem v144_real (b : Fin 4) (s : Fin 2048) (c : Fin 512) : val_main_v144 (F := Ideal) x0 (ix3 b s c) = (back (D b c) (width c) s : ℝ) := by
  have hw : val_main_v143 (F := Ideal) x0 (ix3 b s c) = ((∑ j ∈ Finset.range (width c), share (D b c) (width c) (s.val + j) : ℝ) : EReal) := by
    rw [← sum_share]
    have hi : val_main_call1_call0_v0 (F := Ideal) (Shape.Idx.first (by decide)) = (0 : EReal) := by
      pointwise [val_main_call1_call0_v0, val_main_call1_call0_cst]
    unfold val_main_v143 Host.reduceWindowAdd
    rw [Ideal.hostReduceWindowAdd_def, hi]
    exact suffix_sum _ (fun b s c => share (D b c) (width c) s - share (D b c) (width c) (s + width c)) (cols_real h0)
      (fun b s c h => by
        rw [share_of_le _ _ h, share_of_le _ _ (s := s + width c) (by omega), sub_zero]) _ b s c
  have ho : val_main_v130 (F := Ideal) x0 (ix3 b s c) = (-D b c s : ℝ) :=
    col_cases (P := fun c => val_main_v130 (F := Ideal) x0 (ix3 b s c) = (-D b c s : ℝ)) (own0 h0 b s) (own1 h0 b s) (own2 h0 b s) (own3 h0 b s) c
  pointwise [val_main_v144, hw, ho, ← EReal.coe_add]
  rw [back, add_comm, sub_eq_add_neg]

/-- The second result: that gradient by tokens. -/
theorem v289_real (b : Fin 4) (s : Fin 2048) (c : Fin 512) : val_main_v289 (F := Ideal) x0 (ix2 (tok b s) c) = (back (D b c) (width c) s : ℝ) := by
  have e : val_main_v286 (F := Ideal) x0 = val_main_v144 (F := Ideal) x0 := rfl
  have hq : (b.val * 2048 + s.val) / 2048 = b.val := by omega
  have hm : (b.val * 2048 + s.val) % 2048 = s.val := by omega
  pointwise [val_main_v289, val_main_v288, e, hq, hm, v144_real h0]

variable (x1 : (⟨S8192x1024, .bf16⟩ : BufTy).Contents (Elt Ideal)) (x2 : (⟨S8192x1024, .f32⟩ : BufTy).Contents (Elt Ideal))
  (x3 : (⟨S1x1024x1536, .f32⟩ : BufTy).Contents (Elt Ideal))

theorem v149_eq (b : Fin 4) (s : Fin 2048) (n : Fin 1536) : val_main_v149 (F := Ideal) x0 x1 (ix3 b s n)
    = proj (fun c => (back (D b c) (width c) s : ℝ)) (fun k => x1 (ix2 (tok b s) k)) n := by
  pointwise [val_main_v149, val_main_v148, val_main_v147, val_main_v4, val_main_v3, val_main_cst_32, val_main_cst_33, v144_real h0]
  unfold proj
  split_ifs <;> first | omega | rw [zero_add] | rw [add_zero]

/-- The first result: the input's gradient. -/
theorem v287_eq (b : Fin 4) (s : Fin 2048) (k : Fin 1024) : val_main_v287 (F := Ideal) x0 x1 x2 x3 (ix2 (tok b s) k)
    = Ideal.ofBits .f32 0x3F9837F0#32 * x2 (ix2 (tok b s) k)
      + ∑ n, proj (fun c => (back (D b c) (width c) s : ℝ)) (fun k => x1 (ix2 (tok b s) k)) n * x3 (ix3 0 k n) := by
  have hl : ∀ n, lidx_main_v150 (ix3 b s k) n = ix3 b s n := fun n => funext fun a => by fin_cases a <;> rfl
  have hr : ∀ n, ridx_main_v150 (ix3 b s k) n = ix2 k n := fun n => funext fun a => by fin_cases a <;> rfl
  have hd : val_main_v150 (F := Ideal) x0 x1 x3 (ix3 b s k) = ∑ n, proj (fun c => (back (D b c) (width c) s : ℝ)) (fun k => x1 (ix2 (tok b s) k)) n * x3 (ix3 0 k n) := by
    rw [val_main_v150_apply]
    simp only [hl, hr, v149_eq h0]
    pointwise [val_main_v5]
  have hq : (b.val * 2048 + s.val) / 2048 = b.val := by omega
  have hm : (b.val * 2048 + s.val) % 2048 = s.val := by omega
  pointwise [val_main_v287, val_main_v151, val_main_v146, val_main_v145, val_main_v1, val_main_cst_31, hq, hm, hd]

end

end Cert.InGradRefIdeal.Read
end
-- ==== Proof.InGradValue.lean ====
/-
  The gradient of a layer's input: the kernel's result arrays are the reference's.
-/
module

public import proofs.«01_k».proof.Proof.InGrad
public import proofs.«01_k».proof.Proof.InGradRef

@[expose] public section

set_option maxRecDepth 16384

noncomputable section

namespace Cert.InGradIdeal.Point

open Cert.InGradIdeal Cert.InGradIdeal.Gen Cert.Fin Cert.Rows Cert.Pool Idealize.ShloMosaic Idealize.ShloMosaic.TcCoe Idealize.SL.Sem

variable (m : (ℓ : Loc nD τ sig) → Buf (Elt Ideal) ℓ) (c : Dev nD) (t : Fin cfg0.N)

/-! ### The blocks as parts of the argument arrays -/

theorem idx0 : ∀ t : Fin cfg0.N, win0_0.index t = ![t.val, 0] := (by decide +kernel : ∀ t : Fin grid0.N, _)
theorem idx1 : ∀ t : Fin cfg0.N, win0_1.index t = ![min (32 * t.val + 32) 511, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

/-- Row `r` of tile `t` among the 8192 rows. -/
abbrev row (t : Fin cfg0.N) (r : Fin 512) : Fin 8192 := ⟨512 * t.val + r.val, by have : t.val < 16 := t.isLt; omega⟩

/-- The sequence of tile `t`. -/
abbrev seq (t : Fin cfg0.N) : Fin 4 := ⟨t.val / 4, by have : t.val < 16 := t.isLt; omega⟩

/-- The position of row `r` of tile `t` in its sequence. -/
abbrev pos (t : Fin cfg0.N) (r : Fin 512) : Fin 2048 := ⟨t.val % 4 * 512 + r.val, by omega⟩

theorem row_eq (r : Fin 512) : row t r = tok (seq t) (pos t r) := Fin.ext (by
  show 512 * t.val + r.val = t.val / 4 * 2048 + (t.val % 4 * 512 + r.val)
  omega)

/-- Row `r` of the block that follows tile `t`. -/
abbrev next (t : Fin cfg0.N) (r : Fin 16) : Fin 8192 := ⟨16 * min (32 * t.val + 32) 511 + r.val, by omega⟩

theorem blk0 (r k : Fin 512) : iblk m c 0 t (ix2 r k) = m ((c : Thread nD τ).loc main_arg0) (ix2 (row t r) k) := by
  blk_ext! [iblk, V, idx0 t]

theorem blk1 (r : Fin 16) (k : Fin 512) : iblk m c 1 t (ix2 r k) = m ((c : Thread nD τ).loc main_arg0) (ix2 (next t r) k) := by
  blk_ext! [iblk, V, idx1 t]

theorem blk2 (r : Fin 512) (k : Fin 1024) : iblk m c 2 t (ix2 r k) = m ((c : Thread nD τ).loc main_arg1) (ix2 (row t r) k) := by
  blk_ext! [iblk, V, idx2 t]

theorem blk3 (r : Fin 512) (k : Fin 1024) : iblk m c 3 t (ix2 r k) = m ((c : Thread nD τ).loc main_arg2) (ix2 (row t r) k) := by
  blk_ext! [iblk, V, idx3 t]

theorem blk4 (k : Fin 1024) (n : Fin 1536) : iblk m c 4 t (ix2 k n) = m ((c : Thread nD τ).loc main_arg3) (ix3 0 k n) := by
  blk_ext! [iblk, V, idx4 t]

/-! ### The result arrays -/

theorem col_at (n : Fin 512) : col ⟨n.val / 128, by omega⟩ ⟨n.val % 128, by omega⟩ = n := Fin.ext (Nat.div_add_mod _ _)

section Final

variable {D : Fin 4 → Fin 512 → Fin 2048 → ℝ}
  (h0 : ∀ b s k, m ((c : Thread nD τ).loc main_arg0) (ix2 (tok b s) k) = (D b k s : EReal))
include h0

/-- A tile holds its sequence's entries. -/
theorem tile_real (r k : Fin 512) : iblk m c 0 t (ix2 r k) = (ext (D (seq t) k) (place (grid0.coords t) * 512 + r.val) : EReal) := by
  rw [blk0, row_eq, h0, ← ext_of_lt (D (seq t) k) (pos t r), place, coord t]

/-- The rows that follow hold the sequence's next entries, or count as zero after its end. -/
theorem next_real (r : Fin 16) (k : Fin 512) : Scalar.select (last (grid0.coords t)) (0 : EReal) (iblk m c 1 t (ix2 r k))
    = (ext (D (seq t) k) (place (grid0.coords t) * 512 + 512 + r.val) : EReal) := by
  have hc : place (grid0.coords t) = t.val % 4 := congrArg (· % 4) (coord t)
  have ht : t.val < 16 := t.isLt
  have hp : place (grid0.coords t) < 4 := by omega
  by_cases h : t.val % 4 = 3
  · have e : last (grid0.coords t) = 1#1 := by
      unfold last
      rw [hc, h]
      rfl
    rw [e, ext_of_le _ (by omega)]
    rfl
  · have e : last (grid0.coords t) = 0#1 := by
      unfold last
      rw [hc]
      have : t.val % 4 = 0 ∨ t.val % 4 = 1 ∨ t.val % 4 = 2 := by omega
      rcases this with h | h | h <;> rw [h] <;> rfl
    rw [e, blk1]
    have en : next t r = tok (seq t) ⟨t.val % 4 * 512 + 512 + r.val, by omega⟩ := Fin.ext (by
      show 16 * min (32 * t.val + 32) 511 + r.val = t.val / 4 * 2048 + (t.val % 4 * 512 + 512 + r.val)
      omega)
    rw [en, h0, ← ext_of_lt (D (seq t) k) _, hc]
    rfl

/-- A grid point's four column blocks hold the gradient. -/
theorem cols_real (g : Fin 4) (r : Fin 512) (k : Fin 128) :
    cols m c t g (ix2 r k) = (back (D (seq t) (col g k)) (width (col g k)) (pos t r) : ℝ) := by
  rw [cols, blocks (D := D (seq t)) (tile_real m c t h0) (next_real m c t h0) g r k]
  exact congrArg Real.toEReal (back_eq _ _ _ (by rw [place, coord t]))

/-- The first result: the reference's gradient. -/
theorem final5 : (dats m 0 c).arrAt 5 cfg0.N = Cert.InGradRefIdeal.Read.val_main_v287 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  obtain ⟨r, k, rfl⟩ : ∃ r k, y = ix2 r k := ⟨y 0, y 1, by funext a; fin_cases a <;> rfl⟩
  have e : (win0_5.blk t).view.emb (ix2 r k) = (ix2 (row t r) k : S8192x1024.Idx) := by
    blk_ext [idx5 t]
  rw [e, out5, blk3, row_eq, Cert.InGradRefIdeal.Read.v287_eq h0]
  have p (n : Fin 512) : cols m c t ⟨n.val / 128, by omega⟩ (ix2 r ⟨n.val % 128, by omega⟩) = (back (D (seq t) n) (width n) (pos t r) : ℝ) := by
    rw [cols_real m c t h0, col_at]
  simp only [p, blk2, blk4, row_eq]

/-- The second result: the gradient of the pooled columns. -/
theorem final6 : (dats m 0 c).arrAt 6 cfg0.N = Cert.InGradRefIdeal.Read.val_main_v289 (F := Ideal) (m ((c : Thread nD τ).loc main_arg0)) := by
  refine (dats m 0 c).arrAt_eq_of_covers 6 _ (by decide +kernel) fun t hf y => ?_
  blk_simp
  rw [after0_6]
  obtain ⟨r, n, rfl⟩ : ∃ r n, y = ix2 r n := ⟨y 0, y 1, by funext a; fin_cases a <;> rfl⟩
  have e : (win0_6.blk t).view.emb (ix2 r n) = (ix2 (row t r) n : S8192x512.Idx) := by
    blk_ext [idx6 t]
  rw [e, row_eq, Cert.InGradRefIdeal.Read.v289_real h0, ← col_at n, out6, cols_real m c t h0]

end Final

end Cert.InGradIdeal.Point
end
-- ==== Proof.InGradClaim.lean ====
/-
  The claims about the gradient of a layer's input.
-/
module

public import proofs.«01_k».proof.Defs
public import proofs.«01_k».proof.Proof.InGradValue
public import proofs.«01_k».proof.Proof.Finite
public import proofs.«01_k».proof.Proof.Gen.InGrad.Frame
public import Idealize.ShloMosaic.Lib.Claim
public import Idealize.ShloMosaic.Adequacy
public import Idealize.ShloMosaic.Init

@[expose] public section

set_option maxRecDepth 16384

noncomputable section

namespace Cert.InGradClaim

open Idealize.ShloMosaic Idealize.ShloMosaic.TcCoe Idealize.SL.Sem Cert.Fin

/-- The side conditions of the printed precondition. -/
theorem preFacts : Cert.Pre_in_finite.Facts := by
  constructor <;> decide

/-- The kernel at machine formats runs, leaves its arguments and returns its counters. -/
theorem frame_p : Cert.quiescent_InGrad (hInGrad := Cert.InGrad.Gen.facts) := fun m ρ _ => Cert.InGrad.Gen.frame m ρ

/-- So does the kernel over the extended reals. -/
theorem frame_i : Cert.quiescent_InGradIdeal (hInGradIdeal := Cert.InGradIdeal.Gen.facts) := fun m ρ _ => Cert.InGradIdeal.Gen.frame m ρ

/-- So does the reference. -/
theorem frame_r : Cert.quiescent_InGradRefIdeal (hInGradRefIdeal := Cert.InGradRefIdeal.Gen.facts) := fun m ρ _ =>
  (θ_run Cert.InGradRefIdeal.defs _ _).mono (fun r h => ⟨fun c => (h c).2.2, sem_eq_zero_of_no_sems (by decide) r.2⟩)
    (Cert.InGradRefIdeal.Value.run m ρ)

/-- The precondition says that the first argument holds real numbers. -/
theorem pre_real [Cert.Pre_in_finite.Facts] {x0 : FVec Ideal Cert.Pre_in_finite.S8192x512 .f32} {x1 : FVec Ideal Cert.Pre_in_finite.S8192x1024 .bf16}
    {x2 : FVec Ideal Cert.Pre_in_finite.S8192x1024 .f32} {x3 : FVec Ideal Cert.Pre_in_finite.S1x1024x1536 .f32}
    (h : Cert.Pre_in_finite.fn (F := Ideal) x0 x1 x2 x3 = fun _ => 1#1) : IsReal x0 := by
  have e := congrFun h fun a => a.elim0
  simp only [Cert.Pre_in_finite.fn, andi, IntOp.andi_eq_one] at e
  obtain ⟨_, e0⟩ := e
  exact real_of_test _ e0

/-- The kernel computes the reference's two results. -/
theorem value : Cert.algebraic_InGradIdeal_InGradRefIdeal_pre_in_finite (hInGradIdeal := Cert.InGradIdeal.Gen.facts)
    (hInGradRefIdeal := Cert.InGradRefIdeal.Gen.facts) (hPre_in_finite := preFacts) := by
  intro m ρ m' ρ' hpre hag
  refine ⟨fun c => (Cert.InGradIdeal.Gen.dats m 0 c).arrAt 5 Cert.InGradIdeal.cfg0.N, fun c => (Cert.InGradIdeal.Gen.dats m 0 c).arrAt 6 Cert.InGradIdeal.cfg0.N,
    Cert.InGradIdeal.Value.run_blocks m ρ,
    (θ_run Cert.InGradRefIdeal.defs _ _).mono (fun r h c => ?_) (Cert.InGradRefIdeal.Value.run m' ρ')⟩
  haveI := preFacts
  obtain ⟨D, hD⟩ := pre_real (hpre c)
  obtain ⟨a0, a1, a2, a3⟩ := hag c
  have b0 : StableHlo.launchContents m' c (Proc.devRef .tc Cert.InGradRefIdeal.main_arg0) = _ := a0
  have b1 : StableHlo.launchContents m' c (Proc.devRef .tc Cert.InGradRefIdeal.main_arg1) = _ := a1
  have b2 : StableHlo.launchContents m' c (Proc.devRef .tc Cert.InGradRefIdeal.main_arg2) = _ := a2
  have b3 : StableHlo.launchContents m' c (Proc.devRef .tc Cert.InGradRefIdeal.main_arg3) = _ := a3
  have h0 (b : Fin 4) (s : Fin 2048) (k : Fin 512) : m (c.tc.loc Cert.InGradIdeal.main_arg0) (ix2 (Cert.Pool.tok b s) k) = (D (ix2 (Cert.Pool.tok b s) k) : EReal) := hD _
  obtain ⟨r0, r1, rest⟩ := h c
  refine ⟨r0.trans ?_, r1.trans ?_, rest⟩
  · rw [Cert.InGradRefIdeal.Read.val_main_v287_eq, b0, b1, b2, b3]
    exact (Cert.InGradIdeal.Point.final5 m c (D := fun b k s => D (ix2 (Cert.Pool.tok b s) k)) h0).symm
  · rw [Cert.InGradRefIdeal.Read.val_main_v289_eq, b0]
    exact (Cert.InGradIdeal.Point.final6 m c (D := fun b k s => D (ix2 (Cert.Pool.tok b s) k)) h0).symm

end Cert.InGradClaim
end
-- ==== Proof.GateMath.lean ====
/-
  The gate over the reals: the logistic function, the gated product of a row's two halves and its derivatives.
-/
module

public import proofs.«01_k».proof.Proof.Real

@[expose] public section

noncomputable section

namespace Cert.Gating

open Idealize.ShloMosaic Cert.Fin

/-- Index `n` of the first 256 of the 1024 contracted. -/
abbrev n0 (n : Fin 256) : Fin 1024 := ⟨n.val, by omega⟩
/-- Index `n` of the other 768. -/
abbrev n1 (n : Fin 768) : Fin 1024 := ⟨256 + n.val, by omega⟩
/-- Column `f` of the first half. -/
abbrev lo (f : Fin 2816) : Fin 5632 := ⟨f.val, by omega⟩
/-- Column `f` of the second half. -/
abbrev hi (f : Fin 2816) : Fin 5632 := ⟨2816 + f.val, by omega⟩

/-- The logistic function. -/
def sg (x : ℝ) : ℝ := (1 + Real.exp (-x))⁻¹

/-- The logistic function, as a quotient. -/
theorem sg_div (x : ℝ) : Ideal.div 1 (1 + Ideal.exp (-(x : EReal))) = (sg x : ℝ) := by
  rw [← EReal.coe_neg, Ideal.exp_coe, ← EReal.coe_one, ← EReal.coe_add, div_real _ (by positivity), one_div]
  rfl

/-- A row times a column of the weight. -/
def prod (h : Fin 1024 → ℝ) (W : Fin 1024 → Fin 5632 → ℝ) (f : Fin 5632) : ℝ := ∑ n, h n * W n f

/-- The gate's value, `x` times its logistic. -/
def silu (x : ℝ) : ℝ := x * sg x

/-- The derivative of the gated product in its first factor. -/
def slope (x u : ℝ) : ℝ := u * (sg x + silu x * (1 - sg x))

/-- What the forward call saves of a row: the derivatives of the gated product in its two factors, side by side. -/
def saved (h : Fin 1024 → ℝ) (W : Fin 1024 → Fin 5632 → ℝ) (f : Fin 5632) : ℝ :=
  if hf : f.val < 2816 then slope (prod h W (lo ⟨f.val, hf⟩)) (prod h W (hi ⟨f.val, hf⟩))
  else silu (prod h W (lo ⟨f.val - 2816, by omega⟩))

theorem saved_lo (h : Fin 1024 → ℝ) (W : Fin 1024 → Fin 5632 → ℝ) (f : Fin 2816) :
    saved h W (lo f) = slope (prod h W (lo f)) (prod h W (hi f)) := by
  unfold saved
  rw [dif_pos f.isLt]

theorem saved_hi (h : Fin 1024 → ℝ) (W : Fin 1024 → Fin 5632 → ℝ) (f : Fin 2816) :
    saved h W (hi f) = silu (prod h W (lo f)) := by
  unfold saved
  rw [dif_neg (by show ¬ 2816 + f.val < 2816; omega)]
  exact congrArg (fun a => silu (prod h W (lo a))) (Fin.ext (by show 2816 + f.val - 2816 = f.val; omega))

/-- The gated product of a row. -/
def act (h : Fin 1024 → ℝ) (W : Fin 1024 → Fin 5632 → ℝ) (f : Fin 2816) : ℝ := silu (prod h W (lo f)) * prod h W (hi f)

/-- The gradient that reaches the gated product. -/
def up (d : Fin 1024 → ℝ) (V : Fin 2816 → Fin 1024 → ℝ) (f : Fin 2816) : ℝ := ∑ n, d n * V f n

/-- The column of a product's row a column of both halves stands at. -/
abbrev half (f : Fin 5632) : Fin 2816 := ⟨if f.val < 2816 then f.val else f.val - 2816, by split_ifs <;> omega⟩

/-- A column is one of the first half or one of the second. -/
theorem lo_or_hi (f : Fin 5632) : f = lo (half f) ∨ f = hi (half f) := by
  by_cases h : f.val < 2816
  · exact .inl (Fin.ext (by simp [h]))
  · exact .inr (Fin.ext (by simp [h]; omega))

theorem half_lo (f : Fin 2816) : half (lo f) = f := Fin.ext (by simp)
theorem half_hi (f : Fin 2816) : half (hi f) = f := Fin.ext (by simp)

/-- The gradient of a row's two factors, side by side. -/
def grad (h : Fin 1024 → ℝ) (W : Fin 1024 → Fin 5632 → ℝ) (d : Fin 1024 → ℝ) (V : Fin 2816 → Fin 1024 → ℝ) (f : Fin 5632) : ℝ :=
  up d V (half f) * saved h W f

/-- The path through the gate's value and the path through its logistic, added, are the saved derivative. -/
theorem slope_eq (x u d : ℝ) : d * u * sg x + x * (d * u) * (sg x * (1 - sg x)) = d * slope x u := by
  unfold slope silu
  ring

/-- A row times a column, the first 256 entries apart from the others. -/
theorem prod_split (h : Fin 1024 → ℝ) (W : Fin 1024 → Fin 5632 → ℝ) (f : Fin 5632) :
    (∑ n : Fin 256, h (n0 n) * W (n0 n) f) + ∑ n : Fin 768, h (n1 n) * W (n1 n) f
      = prod h W f := by
  unfold prod
  exact (Fin.sum_univ_add (fun n : Fin (256 + 768) => h n * W n f)).symm

end Cert.Gating

end
-- ==== Proof.Gate.lean ====
/-
  The gate: what the two calls' kernels leave in their result blocks.
-/
module

public import proofs.«01_k».proof.Proof.GateMath
public import proofs.«01_k».proof.Proof.Rows
public import proofs.«01_k».proof.Proof.Gen.GateIdeal.Frame

@[expose] public section

set_option maxRecDepth 16384

noncomputable section

namespace Cert.GateIdeal.Point

open Cert.GateIdeal Cert.GateIdeal.Gen Cert.Fin Cert.Rows Cert.Gating Idealize.ShloMosaic Idealize.ShloMosaic.TcCoe Idealize.SL.Sem

/-! ### The first call, one block of 256 columns -/

section Forward

variable {H : Fin 512 → Fin 1024 → ℝ} {W : Fin 1024 → Fin 5632 → ℝ}

section Payload

variable {v0 : Vec Ideal S512x256 .bf16} {v1 : Vec Ideal S512x768 .bf16} {v2 v9 : Vec Ideal S256x256 .bf16} {v5 v12 : Vec Ideal S768x256 .bf16}
  {c c' : Fin 256 → Fin 5632}
  (h0 : ∀ r (n : Fin 256), v0 (ix2 r n) = (H r (n0 n) : EReal)) (h1 : ∀ r (n : Fin 768), v1 (ix2 r n) = (H r (n1 n) : EReal))
  (h2 : ∀ (n : Fin 256) k, v2 (ix2 n k) = (W (n0 n) (c k) : EReal)) (h5 : ∀ (n : Fin 768) k, v5 (ix2 n k) = (W (n1 n) (c k) : EReal))
  (h9 : ∀ (n : Fin 256) k, v9 (ix2 n k) = (W (n0 n) (c' k) : EReal)) (h12 : ∀ (n : Fin 768) k, v12 (ix2 n k) = (W (n1 n) (c' k) : EReal))

include h0 h1 h2 h5 in
/-- The first half's product. -/
theorem first (r : Fin 512) (k : Fin 256) : k0_pay4 (F := Ideal) v0 v1 v2 v5 (ix2 r k) = (prod (H r) W (c k) : ℝ) := by
  pointwise [k0_pay4, dot_S512x256_S256x256_S512x256_1_0_0_1_n_n, dot_S512x768_S768x256_S512x256_1_0_0_1_n_n, h0, h1, h2, h5, ← EReal.coe_mul, sum_coe,
    ← EReal.coe_add]
  exact congrArg Real.toEReal (prod_split _ _ _)

include h0 h1 h9 h12 in
/-- The second half's product. -/
theorem second (r : Fin 512) (k : Fin 256) : k0_pay5 (F := Ideal) v0 v1 v9 v12 (ix2 r k) = (prod (H r) W (c' k) : ℝ) :=
  first (v2 := v9) (v5 := v12) h0 h1 h9 h12 r k

include h0 h1 h2 h5 in
/-- The logistic of the first half. -/
theorem logit (r : Fin 512) (k : Fin 256) : k0_pay6 (F := Ideal) v0 v1 v2 v5 (ix2 r k) = (sg (prod (H r) W (c k)) : ℝ) := by
  pointwise [k0_pay6, first h0 h1 h2 h5]
  exact Ideal.logistic_coe _

include h0 h1 h2 h5 in
/-- The gate's value. -/
theorem gate (r : Fin 512) (k : Fin 256) : k0_pay7 (F := Ideal) v0 v1 v2 v5 (ix2 r k) = (silu (prod (H r) W (c k)) : ℝ) := by
  pointwise [k0_pay7, first h0 h1 h2 h5, logit h0 h1 h2 h5, ← EReal.coe_mul]
  rfl

include h0 h1 h2 h5 in
/-- The gate's value, as stored. -/
theorem gate_stored (r : Fin 512) (k : Fin 256) : k0_pay9 (F := Ideal) v0 v1 v2 v5 (ix2 r k) = (silu (prod (H r) W (c k)) : ℝ) := by
  pointwise [k0_pay9, gate h0 h1 h2 h5]

include h0 h1 h2 h5 h9 h12

/-- The derivative in the first factor, as stored. -/
theorem slope_stored (r : Fin 512) (k : Fin 256) :
    k0_pay8 (F := Ideal) v0 v1 v2 v5 v9 v12 (ix2 r k) = (Gating.slope (prod (H r) W (c k)) (prod (H r) W (c' k)) : ℝ) := by
  pointwise [k0_pay8, gate h0 h1 h2 h5, logit h0 h1 h2 h5, second h0 h1 h9 h12]
  unfold Gating.slope
  norm_cast

/-- The gated product, as stored. -/
theorem act_stored (r : Fin 512) (k : Fin 256) :
    k0_pay10 (F := Ideal) v0 v1 v2 v5 v9 v12 (ix2 r k) = (silu (prod (H r) W (c k)) * prod (H r) W (c' k) : ℝ) := by
  pointwise [k0_pay10, gate h0 h1 h2 h5, second h0 h1 h9 h12, ← EReal.coe_mul]

end Payload

/-! ### The stores of one grid point -/

variable {x0 : Vec Ideal S512x1024 .bf16} {x1 : Vec Ideal S256x5632 .bf16} {x2 : Vec Ideal S768x5632 .bf16}
  (hx0 : ∀ r k, x0 (ix2 r k) = (H r k : EReal)) (hx1 : ∀ (n : Fin 256) f, x1 (ix2 n f) = (W (n0 n) f : EReal))
  (hx2 : ∀ (n : Fin 768) f, x2 (ix2 n f) = (W (n1 n) f : EReal))

/-- Column `k` of the block that starts at column `o`. -/
abbrev at_ (o : Nat) (h : o + 256 ≤ 5632) (k : Fin 256) : Fin 5632 := ⟨o + k.val, by omega⟩

include hx0 in
theorem head (r : Fin 512) (n : Fin 256) : View.ld x0 r0_0 (ix2 r n) = (H r (n0 n) : EReal) :=
  (ld_cols x0 0 inb_S512x1024_S512x256_0_0 r (n0 n) n (Nat.zero_add _).symm).trans (hx0 _ _)

include hx0 in
theorem tail (r : Fin 512) (n : Fin 768) : View.ld x0 r0_1 (ix2 r n) = (H r (n1 n) : EReal) :=
  (ld_cols x0 256 inb_S512x1024_S512x768_0_256 r (n1 n) n rfl).trans (hx0 _ _)

include hx1 in
theorem top (o : Nat) (h : o + 256 ≤ 5632) (i : ∀ a : Fin 2, (![0, o] : Fin 2 → Nat) a + S256x256.size a ≤ S256x5632.size a) (n k : Fin 256) :
    View.ld x1 (Rect.unit (s := S256x5632) ![0, o] S256x256.size i) (ix2 n k) = (W (n0 n) (at_ o h k) : EReal) :=
  (ld_cols x1 o i n (at_ o h k) k rfl).trans (hx1 _ _)

include hx2 in
theorem bottom (o : Nat) (h : o + 256 ≤ 5632) (i : ∀ a : Fin 2, (![0, o] : Fin 2 → Nat) a + S768x256.size a ≤ S768x5632.size a) (n : Fin 768) (k : Fin 256) :
    View.ld x2 (Rect.unit (s := S768x5632) ![0, o] S768x256.size i) (ix2 n k) = (W (n1 n) (at_ o h k) : EReal) :=
  (ld_cols x2 o i n (at_ o h k) k rfl).trans (hx2 _ _)

/-- Where a column block's entry stands. -/
theorem emb_col {w : Nat} (o : Nat) (i : ∀ a : Fin 2, (![0, o] : Fin 2 → Nat) a + (![512, 256] : Fin 2 → Nat) a ≤ (![512, w] : Fin 2 → Nat) a)
    (r : Fin 512) (k : Fin 256) (f : Fin w) (h : f.val = o + k.val) :
    (Rect.unit (s := ⟨2, ![512, w]⟩) ![0, o] ![512, 256] i).emb (ix2 r k) = ix2 r f := by
  funext a
  refine Fin.ext ?_
  rw [Rect.emb_apply]
  fin_cases a
  · show 0 + 1 * r.val = r.val
    omega
  · show o + 1 * k.val = f.val
    omega

/-- What one grid point leaves of the saved derivatives. -/
abbrev savedAt (H : Fin 512 → Fin 1024 → ℝ) (W : Fin 1024 → Fin 5632 → ℝ) : Vec Ideal S512x5632 .bf16 := fun y => (saved (H (y 0)) W (y 1) : ℝ)

/-- What one grid point leaves of the gated product. -/
abbrev actAt (H : Fin 512 → Fin 1024 → ℝ) (W : Fin 1024 → Fin 5632 → ℝ) : Vec Ideal S512x2816 .bf16 := fun y => (act (H (y 0)) W (y 1) : ℝ)

include hx0 hx1 hx2

theorem slope_piece (o : Nat) (ho : o + 256 ≤ 2816) {o' : Nat} (e : o' = 2816 + o)
    {i1 : ∀ a : Fin 2, (![0, o] : Fin 2 → Nat) a + S256x256.size a ≤ S256x5632.size a} {i2 : ∀ a : Fin 2, (![0, o] : Fin 2 → Nat) a + S768x256.size a ≤ S768x5632.size a}
    {i1' : ∀ a : Fin 2, (![0, o'] : Fin 2 → Nat) a + S256x256.size a ≤ S256x5632.size a} {i2' : ∀ a : Fin 2, (![0, o'] : Fin 2 → Nat) a + S768x256.size a ≤ S768x5632.size a}
    (i : ∀ a : Fin 2, (![0, o] : Fin 2 → Nat) a + S512x256.size a ≤ S512x5632.size a) (x : S512x256.Idx) :
    k0_pay8 (F := Ideal) (View.ld x0 r0_0) (View.ld x0 r0_1) (View.ld x1 (Rect.unit (s := S256x5632) ![0, o] S256x256.size i1))
      (View.ld x2 (Rect.unit (s := S768x5632) ![0, o] S768x256.size i2)) (View.ld x1 (Rect.unit (s := S256x5632) ![0, o'] S256x256.size i1'))
      (View.ld x2 (Rect.unit (s := S768x5632) ![0, o'] S768x256.size i2')) x
      = savedAt H W ((Rect.unit (s := S512x5632) ![0, o] S512x256.size i).emb x) := by
  subst e
  obtain ⟨r, k, rfl⟩ : ∃ r k, x = ix2 r k := ⟨x 0, x 1, by funext a; fin_cases a <;> rfl⟩
  rw [slope_stored (head hx0) (tail hx0) (top hx1 o (by omega) i1) (bottom hx2 o (by omega) i2) (top hx1 (2816 + o) (by omega) i1') (bottom hx2 (2816 + o) (by omega) i2') r k]
  refine Eq.trans ?_ (congrArg (savedAt H W) (emb_col o i r k (lo ⟨o + k.val, by omega⟩) rfl).symm)
  refine congrArg Real.toEReal (Eq.trans ?_ (saved_lo (H r) W ⟨o + k.val, by omega⟩).symm)
  exact congrArg (fun a => Gating.slope _ (prod (H r) W a)) (Fin.ext (Nat.add_assoc _ _ _))

theorem gate_piece (o : Nat) (ho : o + 256 ≤ 2816) {o' : Nat} (e : o' = 2816 + o)
    {i1 : ∀ a : Fin 2, (![0, o] : Fin 2 → Nat) a + S256x256.size a ≤ S256x5632.size a} {i2 : ∀ a : Fin 2, (![0, o] : Fin 2 → Nat) a + S768x256.size a ≤ S768x5632.size a}
    (i : ∀ a : Fin 2, (![0, o'] : Fin 2 → Nat) a + S512x256.size a ≤ S512x5632.size a) (x : S512x256.Idx) :
    k0_pay9 (F := Ideal) (View.ld x0 r0_0) (View.ld x0 r0_1) (View.ld x1 (Rect.unit (s := S256x5632) ![0, o] S256x256.size i1))
      (View.ld x2 (Rect.unit (s := S768x5632) ![0, o] S768x256.size i2)) x
      = savedAt H W ((Rect.unit (s := S512x5632) ![0, o'] S512x256.size i).emb x) := by
  subst e
  obtain ⟨r, k, rfl⟩ : ∃ r k, x = ix2 r k := ⟨x 0, x 1, by funext a; fin_cases a <;> rfl⟩
  rw [gate_stored (head hx0) (tail hx0) (top hx1 o (by omega) i1) (bottom hx2 o (by omega) i2) r k]
  refine Eq.trans ?_ (congrArg (savedAt H W) (emb_col (2816 + o) i r k (hi ⟨o + k.val, by omega⟩) (Nat.add_assoc _ _ _).symm).symm)
  exact congrArg Real.toEReal (saved_hi (H r) W ⟨o + k.val, by omega⟩).symm

theorem act_piece (o : Nat) (ho : o + 256 ≤ 2816) {o' : Nat} (e : o' = 2816 + o)
    {i1 : ∀ a : Fin 2, (![0, o] : Fin 2 → Nat) a + S256x256.size a ≤ S256x5632.size a} {i2 : ∀ a : Fin 2, (![0, o] : Fin 2 → Nat) a + S768x256.size a ≤ S768x5632.size a}
    {i1' : ∀ a : Fin 2, (![0, o'] : Fin 2 → Nat) a + S256x256.size a ≤ S256x5632.size a} {i2' : ∀ a : Fin 2, (![0, o'] : Fin 2 → Nat) a + S768x256.size a ≤ S768x5632.size a}
    (i : ∀ a : Fin 2, (![0, o] : Fin 2 → Nat) a + S512x256.size a ≤ S512x2816.size a) (x : S512x256.Idx) :
    k0_pay10 (F := Ideal) (View.ld x0 r0_0) (View.ld x0 r0_1) (View.ld x1 (Rect.unit (s := S256x5632) ![0, o] S256x256.size i1))
      (View.ld x2 (Rect.unit (s := S768x5632) ![0, o] S768x256.size i2)) (View.ld x1 (Rect.unit (s := S256x5632) ![0, o'] S256x256.size i1'))
      (View.ld x2 (Rect.unit (s := S768x5632) ![0, o'] S768x256.size i2')) x
      = actAt H W ((Rect.unit (s := S512x2816) ![0, o] S512x256.size i).emb x) := by
  subst e
  obtain ⟨r, k, rfl⟩ : ∃ r k, x = ix2 r k := ⟨x 0, x 1, by funext a; fin_cases a <;> rfl⟩
  rw [act_stored (head hx0) (tail hx0) (top hx1 o (by omega) i1) (bottom hx2 o (by omega) i2) (top hx1 (2816 + o) (by omega) i1') (bottom hx2 (2816 + o) (by omega) i2') r k]
  refine Eq.trans ?_ (congrArg (actAt H W) (emb_col o i r k ⟨o + k.val, by omega⟩ rfl).symm)
  exact congrArg (fun a => ((silu (prod (H r) W (lo ⟨o + k.val, by omega⟩)) * prod (H r) W a : ℝ) : EReal)) (Fin.ext (Nat.add_assoc _ _ _))

/-- What one grid point leaves of the saved derivatives, whole. -/
theorem saved_block : out0_3 (F := Ideal) x0 x1 x2 = savedAt H W := by
  unfold out0_3
  refine funext fun y => View.canon_apply_of_pieces (S := S512x5632) (e := .bf16) (Val := Elt Ideal) (savedAt H W) _ ?_ y (cover0_3 _ _ _ _ _ _ _ _ _ _ _ _ _ _ _ _ _ _ _ _ _ _ y)
  exact
  List.forall_mem_cons.mpr ⟨gate_piece hx0 hx1 hx2 2560 (by omega) rfl inb_S512x5632_S512x256_0_5376,
    List.forall_mem_cons.mpr ⟨slope_piece hx0 hx1 hx2 2560 (by omega) rfl inb_S512x5632_S512x256_0_2560,
    List.forall_mem_cons.mpr ⟨gate_piece hx0 hx1 hx2 2304 (by omega) rfl inb_S512x5632_S512x256_0_5120,
    List.forall_mem_cons.mpr ⟨slope_piece hx0 hx1 hx2 2304 (by omega) rfl inb_S512x5632_S512x256_0_2304,
    List.forall_mem_cons.mpr ⟨gate_piece hx0 hx1 hx2 2048 (by omega) rfl inb_S512x5632_S512x256_0_4864,
    List.forall_mem_cons.mpr ⟨slope_piece hx0 hx1 hx2 2048 (by omega) rfl inb_S512x5632_S512x256_0_2048,
    List.forall_mem_cons.mpr ⟨gate_piece hx0 hx1 hx2 1792 (by omega) rfl inb_S512x5632_S512x256_0_4608,
    List.forall_mem_cons.mpr ⟨slope_piece hx0 hx1 hx2 1792 (by omega) rfl inb_S512x5632_S512x256_0_1792,
    List.forall_mem_cons.mpr ⟨gate_piece hx0 hx1 hx2 1536 (by omega) rfl inb_S512x5632_S512x256_0_4352,
    List.forall_mem_cons.mpr ⟨slope_piece hx0 hx1 hx2 1536 (by omega) rfl inb_S512x5632_S512x256_0_1536,
    List.forall_mem_cons.mpr ⟨gate_piece hx0 hx1 hx2 1280 (by omega) rfl inb_S512x5632_S512x256_0_4096,
    List.forall_mem_cons.mpr ⟨slope_piece hx0 hx1 hx2 1280 (by omega) rfl inb_S512x5632_S512x256_0_1280,
    List.forall_mem_cons.mpr ⟨gate_piece hx0 hx1 hx2 1024 (by omega) rfl inb_S512x5632_S512x256_0_3840,
    List.forall_mem_cons.mpr ⟨slope_piece hx0 hx1 hx2 1024 (by omega) rfl inb_S512x5632_S512x256_0_1024,
    List.forall_mem_cons.mpr ⟨gate_piece hx0 hx1 hx2 768 (by omega) rfl inb_S512x5632_S512x256_0_3584,
    List.forall_mem_cons.mpr ⟨slope_piece hx0 hx1 hx2 768 (by omega) rfl inb_S512x5632_S512x256_0_768,
    List.forall_mem_cons.mpr ⟨gate_piece hx0 hx1 hx2 512 (by omega) rfl inb_S512x5632_S512x256_0_3328,
    List.forall_mem_cons.mpr ⟨slope_piece hx0 hx1 hx2 512 (by omega) rfl inb_S512x5632_S512x256_0_512,
    List.forall_mem_cons.mpr ⟨gate_piece hx0 hx1 hx2 256 (by omega) rfl inb_S512x5632_S512x256_0_3072,
    List.forall_mem_cons.mpr ⟨slope_piece hx0 hx1 hx2 256 (by omega) rfl inb_S512x5632_S512x256_0_256,
    List.forall_mem_cons.mpr ⟨gate_piece hx0 hx1 hx2 0 (by omega) rfl inb_S512x5632_S512x256_0_2816,
    List.forall_mem_cons.mpr ⟨slope_piece hx0 hx1 hx2 0 (by omega) rfl inb_S512x5632_S512x256_0_0,
    List.forall_mem_nil _⟩⟩⟩⟩⟩⟩⟩⟩⟩⟩⟩⟩⟩⟩⟩⟩⟩⟩⟩⟩⟩⟩

/-- What one grid point leaves of the gated product, whole. -/
theorem act_block : out0_4 (F := Ideal) x0 x1 x2 = actAt H W := by
  unfold out0_4
  refine funext fun y => View.canon_apply_of_pieces (S := S512x2816) (e := .bf16) (Val := Elt Ideal) (actAt H W) _ ?_ y (cover0_4 _ _ _ _ _ _ _ _ _ _ _ y)
  exact
  List.forall_mem_cons.mpr ⟨act_piece hx0 hx1 hx2 2560 (by omega) rfl inb_S512x2816_S512x256_0_2560,
    List.forall_mem_cons.mpr ⟨act_piece hx0 hx1 hx2 2304 (by omega) rfl inb_S512x2816_S512x256_0_2304,
    List.forall_mem_cons.mpr ⟨act_piece hx0 hx1 hx2 2048 (by omega) rfl inb_S512x2816_S512x256_0_2048,
    List.forall_mem_cons.mpr ⟨act_piece hx0 hx1 hx2 1792 (by omega) rfl inb_S512x2816_S512x256_0_1792,
    List.forall_mem_cons.mpr ⟨act_piece hx0 hx1 hx2 1536 (by omega) rfl inb_S512x2816_S512x256_0_1536,
    List.forall_mem_cons.mpr ⟨act_piece hx0 hx1 hx2 1280 (by omega) rfl inb_S512x2816_S512x256_0_1280,
    List.forall_mem_cons.mpr ⟨act_piece hx0 hx1 hx2 1024 (by omega) rfl inb_S512x2816_S512x256_0_1024,
    List.forall_mem_cons.mpr ⟨act_piece hx0 hx1 hx2 768 (by omega) rfl inb_S512x2816_S512x256_0_768,
    List.forall_mem_cons.mpr ⟨act_piece hx0 hx1 hx2 512 (by omega) rfl inb_S512x2816_S512x256_0_512,
    List.forall_mem_cons.mpr ⟨act_piece hx0 hx1 hx2 256 (by omega) rfl inb_S512x2816_S512x256_0_256,
    List.forall_mem_cons.mpr ⟨act_piece hx0 hx1 hx2 0 (by omega) rfl inb_S512x2816_S512x256_0_0,
    List.forall_mem_nil _⟩⟩⟩⟩⟩⟩⟩⟩⟩⟩⟩

end Forward

/-! ### The second call -/

section Backward

variable {D : Fin 512 → Fin 1024 → ℝ} {V : Fin 2816 → Fin 1024 → ℝ} {x0 : Vec Ideal S512x1024 .bf16} {x1 : Vec Ideal S512x5632 .bf16}
  {x2 : Vec Ideal S2816x1024 .bf16}
  (hd : ∀ r k, x0 (ix2 r k) = (D r k : EReal)) (hv : ∀ f k, x2 (ix2 f k) = (V f k : EReal))

/-- What one grid point leaves: the gradient of the gated product times what the forward call saved. -/
abbrev gradAt (D : Fin 512 → Fin 1024 → ℝ) (V : Fin 2816 → Fin 1024 → ℝ) (x1 : Vec Ideal S512x5632 .bf16) : Vec Ideal S512x5632 .bf16 :=
  fun y => (up (D (y 0)) V (half (y 1)) : ℝ) * x1 y

include hd hv

theorem grad_piece (o p : Nat) (ho : o + 256 ≤ 2816) (hp : p = o ∨ p = 2816 + o)
    (i2 : ∀ a : Fin 2, (![o, 0] : Fin 2 → Nat) a + S256x1024.size a ≤ S2816x1024.size a)
    (i : ∀ a : Fin 2, (![0, p] : Fin 2 → Nat) a + S512x256.size a ≤ S512x5632.size a) (x : S512x256.Idx) :
    k1_pay3 (F := Ideal) (View.ld x0 r1_0) (View.ld x2 (Rect.unit (s := S2816x1024) ![o, 0] S256x1024.size i2))
      (View.ld x1 (Rect.unit (s := S512x5632) ![0, p] S512x256.size i)) x
      = gradAt D V x1 ((Rect.unit (s := S512x5632) ![0, p] S512x256.size i).emb x) := by
  obtain ⟨r, k, rfl⟩ : ∃ r k, x = ix2 r k := ⟨x 0, x 1, by funext a; fin_cases a <;> rfl⟩
  have hf : p + k.val < 5632 := by omega
  have e : half ⟨p + k.val, hf⟩ = ⟨o + k.val, by omega⟩ := Fin.ext (by
    show (if p + k.val < 2816 then p + k.val else p + k.val - 2816) = o + k.val
    split_ifs <;> omega)
  refine Eq.trans ?_ (congrArg (gradAt D V x1) (emb_col p i r k ⟨p + k.val, hf⟩ rfl).symm)
  show _ = (up (D r) V (half ⟨p + k.val, hf⟩) : ℝ) * x1 (ix2 r ⟨p + k.val, hf⟩)
  rw [e]
  pointwise [k1_pay3, k1_pay2, dot_S512x1024_S256x1024_S512x256_1_1_0_0_n_n, hd, hv, ← EReal.coe_mul, sum_coe]
  rfl

/-- What one grid point of the second call leaves, whole. -/
theorem grad_block : out1_3 (F := Ideal) x0 x1 x2 = gradAt D V x1 := by
  unfold out1_3
  refine funext fun y => View.canon_apply_of_pieces (S := S512x5632) (e := .bf16) (Val := Elt Ideal) (gradAt D V x1) _ ?_ y
    (cover1_3 _ _ _ _ _ _ _ _ _ _ _ _ _ _ _ _ _ _ _ _ _ _ y)
  exact
  List.forall_mem_cons.mpr ⟨grad_piece hd hv 2560 5376 (by omega) (.inr rfl) inb_S2816x1024_S256x1024_2560_0 inb_S512x5632_S512x256_0_5376,
    List.forall_mem_cons.mpr ⟨grad_piece hd hv 2560 2560 (by omega) (.inl rfl) inb_S2816x1024_S256x1024_2560_0 inb_S512x5632_S512x256_0_2560,
    List.forall_mem_cons.mpr ⟨grad_piece hd hv 2304 5120 (by omega) (.inr rfl) inb_S2816x1024_S256x1024_2304_0 inb_S512x5632_S512x256_0_5120,
    List.forall_mem_cons.mpr ⟨grad_piece hd hv 2304 2304 (by omega) (.inl rfl) inb_S2816x1024_S256x1024_2304_0 inb_S512x5632_S512x256_0_2304,
    List.forall_mem_cons.mpr ⟨grad_piece hd hv 2048 4864 (by omega) (.inr rfl) inb_S2816x1024_S256x1024_2048_0 inb_S512x5632_S512x256_0_4864,
    List.forall_mem_cons.mpr ⟨grad_piece hd hv 2048 2048 (by omega) (.inl rfl) inb_S2816x1024_S256x1024_2048_0 inb_S512x5632_S512x256_0_2048,
    List.forall_mem_cons.mpr ⟨grad_piece hd hv 1792 4608 (by omega) (.inr rfl) inb_S2816x1024_S256x1024_1792_0 inb_S512x5632_S512x256_0_4608,
    List.forall_mem_cons.mpr ⟨grad_piece hd hv 1792 1792 (by omega) (.inl rfl) inb_S2816x1024_S256x1024_1792_0 inb_S512x5632_S512x256_0_1792,
    List.forall_mem_cons.mpr ⟨grad_piece hd hv 1536 4352 (by omega) (.inr rfl) inb_S2816x1024_S256x1024_1536_0 inb_S512x5632_S512x256_0_4352,
    List.forall_mem_cons.mpr ⟨grad_piece hd hv 1536 1536 (by omega) (.inl rfl) inb_S2816x1024_S256x1024_1536_0 inb_S512x5632_S512x256_0_1536,
    List.forall_mem_cons.mpr ⟨grad_piece hd hv 1280 4096 (by omega) (.inr rfl) inb_S2816x1024_S256x1024_1280_0 inb_S512x5632_S512x256_0_4096,
    List.forall_mem_cons.mpr ⟨grad_piece hd hv 1280 1280 (by omega) (.inl rfl) inb_S2816x1024_S256x1024_1280_0 inb_S512x5632_S512x256_0_1280,
    List.forall_mem_cons.mpr ⟨grad_piece hd hv 1024 3840 (by omega) (.inr rfl) inb_S2816x1024_S256x1024_1024_0 inb_S512x5632_S512x256_0_3840,
    List.forall_mem_cons.mpr ⟨grad_piece hd hv 1024 1024 (by omega) (.inl rfl) inb_S2816x1024_S256x1024_1024_0 inb_S512x5632_S512x256_0_1024,
    List.forall_mem_cons.mpr ⟨grad_piece hd hv 768 3584 (by omega) (.inr rfl) inb_S2816x1024_S256x1024_768_0 inb_S512x5632_S512x256_0_3584,
    List.forall_mem_cons.mpr ⟨grad_piece hd hv 768 768 (by omega) (.inl rfl) inb_S2816x1024_S256x1024_768_0 inb_S512x5632_S512x256_0_768,
    List.forall_mem_cons.mpr ⟨grad_piece hd hv 512 3328 (by omega) (.inr rfl) inb_S2816x1024_S256x1024_512_0 inb_S512x5632_S512x256_0_3328,
    List.forall_mem_cons.mpr ⟨grad_piece hd hv 512 512 (by omega) (.inl rfl) inb_S2816x1024_S256x1024_512_0 inb_S512x5632_S512x256_0_512,
    List.forall_mem_cons.mpr ⟨grad_piece hd hv 256 3072 (by omega) (.inr rfl) inb_S2816x1024_S256x1024_256_0 inb_S512x5632_S512x256_0_3072,
    List.forall_mem_cons.mpr ⟨grad_piece hd hv 256 256 (by omega) (.inl rfl) inb_S2816x1024_S256x1024_256_0 inb_S512x5632_S512x256_0_256,
    List.forall_mem_cons.mpr ⟨grad_piece hd hv 0 2816 (by omega) (.inr rfl) inb_S2816x1024_S256x1024_0_0 inb_S512x5632_S512x256_0_2816,
    List.forall_mem_cons.mpr ⟨grad_piece hd hv 0 0 (by omega) (.inl rfl) inb_S2816x1024_S256x1024_0_0 inb_S512x5632_S512x256_0_0,
    List.forall_mem_nil _⟩⟩⟩⟩⟩⟩⟩⟩⟩⟩⟩⟩⟩⟩⟩⟩⟩⟩⟩⟩⟩⟩

end Backward

end Cert.GateIdeal.Point

end
-- ==== Proof.GateRef.lean ====
/-
  The reference of the gate, read at an index: each operation it writes, on arrays that hold real numbers, down to its two
  results.
-/
module

public import proofs.«01_k».proof.Proof.GateMath
public import proofs.«01_k».proof.Proof.Gen.GateRefIdeal.Read

@[expose] public section

set_option maxRecDepth 16384

noncomputable section

namespace Cert.GateRefIdeal.Read

open Cert.GateRefIdeal Cert.GateRefIdeal.Gen Cert.Fin Cert.Gating Idealize.ShloMosaic Idealize.ShloMosaic.TcCoe Idealize.SL.Sem

variable {x0 : (⟨S8192x1024, .bf16⟩ : BufTy).Contents (Elt Ideal)} {x1 : (⟨S1x1024x5632, .f32⟩ : BufTy).Contents (Elt Ideal)}
  {x2 : (⟨S1x2816x1024, .f32⟩ : BufTy).Contents (Elt Ideal)} {x3 : (⟨S8192x1024, .bf16⟩ : BufTy).Contents (Elt Ideal)}
  {H D : Fin 8192 → Fin 1024 → ℝ} {W : Fin 1024 → Fin 5632 → ℝ} {V : Fin 2816 → Fin 1024 → ℝ}

section Forward
variable (h0 : ∀ r k, x0 (ix2 r k) = (H r k : EReal)) (h1 : ∀ k n, x1 (ix3 0 k n) = (W k n : EReal))
include h0 h1

/-- The row times the weight. -/
theorem v2_real (r : Fin 8192) (f : Fin 5632) : val_main_v2 (F := Ideal) x0 x1 (ix2 r f) = (prod (H r) W f : ℝ) := by
  have hl : ∀ n, lidx_main_v2 (ix2 r f) n = ix2 r n := fun n => funext fun a => by fin_cases a <;> rfl
  have hr : ∀ n, ridx_main_v2 (ix2 r f) n = ix2 n f := fun n => funext fun a => by fin_cases a <;> rfl
  rw [val_main_v2_apply]
  simp only [hl, hr]
  pointwise [val_main_v0, val_main_v1, h0, h1, ← EReal.coe_mul, sum_coe]
  rfl

/-- The first half of the columns. -/
theorem v3_real (r : Fin 8192) (f : Fin 2816) : val_main_v3 (F := Ideal) x0 x1 (ix2 r f) = (prod (H r) W (lo f) : ℝ) := by
  pointwise [val_main_v3, v2_real h0 h1]

/-- The second half of the columns. -/
theorem v4_real (r : Fin 8192) (f : Fin 2816) : val_main_v4 (F := Ideal) x0 x1 (ix2 r f) = (prod (H r) W (hi f) : ℝ) := by
  pointwise [val_main_v4, v2_real h0 h1]

/-- The logistic of the first half. -/
theorem v5_real (r : Fin 8192) (f : Fin 2816) : val_main_v5_2 (F := Ideal) x0 x1 (ix2 r f) = (sg (prod (H r) W (lo f)) : ℝ) := by
  pointwise [val_main_v5_2, val_main_call0_v4, val_main_call0_v3, val_main_call0_v2, val_main_call0_v1, val_main_call0_v0, val_main_call0_cst,
    val_main_call0_cst_0, v3_real h0 h1]
  exact sg_div _

/-- The same logistic, as the reference computes it a second time. -/
theorem call2_real (r : Fin 8192) (f : Fin 2816) : val_main_call2_v5 (F := Ideal) x0 x1 (ix2 r f) = (sg (prod (H r) W (lo f)) : ℝ) := by
  pointwise [val_main_call2_v5, val_main_call2_v4, val_main_call2_v3, val_main_call2_v2, val_main_call2_v1, val_main_call2_v0, val_main_call2_cst,
    val_main_call2_cst_0, val_main_v17, v2_real h0 h1]
  exact sg_div _

/-- The first result: the gated product. -/
theorem v21_real (r : Fin 8192) (f : Fin 2816) : val_main_v21 (F := Ideal) x0 x1 (ix2 r f) = (act (H r) W f : ℝ) := by
  pointwise [val_main_v21, val_main_v20, val_main_v19, val_main_v18, val_main_v17, call2_real h0 h1, v2_real h0 h1, ← EReal.coe_mul]
  rfl

/-- The gate's value. -/
theorem v5_0_real (r : Fin 8192) (f : Fin 2816) : val_main_v5_0 (F := Ideal) x0 x1 (ix2 r f) = (silu (prod (H r) W (lo f)) : ℝ) := by
  pointwise [val_main_v5_0, v3_real h0 h1, v5_real h0 h1, ← EReal.coe_mul]
  rfl

/-- The derivative of the logistic. -/
theorem v5_1_real (r : Fin 8192) (f : Fin 2816) :
    val_main_v5_1 (F := Ideal) x0 x1 (ix2 r f) = (sg (prod (H r) W (lo f)) * (1 - sg (prod (H r) W (lo f))) : ℝ) := by
  pointwise [val_main_v5_1, val_main_call0_v7, val_main_call0_v6, val_main_call0_cst_1, v5_real h0 h1]
  norm_cast

end Forward

section Backward
variable (h0 : ∀ r k, x0 (ix2 r k) = (H r k : EReal)) (h1 : ∀ k n, x1 (ix3 0 k n) = (W k n : EReal))
  (h2 : ∀ n k, x2 (ix3 0 n k) = (V n k : EReal)) (h3 : ∀ r k, x3 (ix2 r k) = (D r k : EReal))

include h2 h3 in
/-- The gradient that reaches the gated product. -/
theorem v10_real (r : Fin 8192) (f : Fin 2816) : val_main_v10 (F := Ideal) x2 x3 (ix2 r f) = (up (D r) V f : ℝ) := by
  have hl : ∀ n, lidx_main_v10 (ix2 r f) n = ix2 r n := fun n => funext fun a => by fin_cases a <;> rfl
  have hr : ∀ n, ridx_main_v10 (ix2 r f) n = ix2 f n := fun n => funext fun a => by fin_cases a <;> rfl
  rw [val_main_v10_apply]
  simp only [hl, hr]
  pointwise [val_main_v9, val_main_v7, h2, h3, ← EReal.coe_mul, sum_coe]
  rfl

include h0 h1 h2 h3

/-- The gradient of the second factor. -/
theorem v11_real (r : Fin 8192) (f : Fin 2816) :
    val_main_v11 (F := Ideal) x0 x1 x2 x3 (ix2 r f) = (silu (prod (H r) W (lo f)) * up (D r) V f : ℝ) := by
  pointwise [val_main_v11, v5_0_real h0 h1, v10_real h2 h3, ← EReal.coe_mul]

/-- The gradient of the first factor. -/
theorem v13_real (r : Fin 8192) (f : Fin 2816) :
    val_main_v13 (F := Ideal) x0 x1 x2 x3 (ix2 r f) = (up (D r) V f * slope (prod (H r) W (lo f)) (prod (H r) W (hi f)) : ℝ) := by
  pointwise [val_main_v13, val_main_call1_v2, val_main_call1_v1, val_main_call1_v0, val_main_v12, v3_real h0 h1, v4_real h0 h1, v5_real h0 h1,
    v5_1_real h0 h1, v10_real h2 h3, ← EReal.coe_mul, ← EReal.coe_add]
  exact congrArg Real.toEReal (slope_eq _ _ _)

/-- The second result: the gradient of the two factors, side by side. -/
theorem v22_real (r : Fin 8192) (f : Fin 5632) :
    val_main_v22 (F := Ideal) x0 x1 x2 x3 (ix2 r f) = (grad (H r) W (D r) V f : ℝ) := by
  unfold grad
  rcases lo_or_hi f with e | e <;> generalize half f = g at e <;> subst e
  · rw [saved_lo]
    pointwise [val_main_v22, val_main_v16, val_main_v15, val_main_v14, val_main_cst, val_main_cst_0, v11_real h0 h1 h2 h3, v13_real h0 h1 h2 h3]
    rw [dif_neg (fun h => h.1), zero_add]
  · rw [saved_hi]
    pointwise [val_main_v22, val_main_v16, val_main_v15, val_main_v14, val_main_cst, val_main_cst_0, v11_real h0 h1 h2 h3, v13_real h0 h1 h2 h3]
    exact congrArg Real.toEReal (mul_comm _ _)

end Backward

end Cert.GateRefIdeal.Read

end
-- ==== Proof.GateValue.lean ====
/-
  The gate: the kernel's result arrays are the reference's.
-/
module

public import proofs.«01_k».proof.Proof.Gate
public import proofs.«01_k».proof.Proof.GateRef
public import Idealize.ShloMosaic.Lib.Pipeline.ValueKit

@[expose] public section

set_option maxRecDepth 16384

noncomputable section

namespace Cert.GateIdeal.Point

open Cert.GateIdeal Cert.GateIdeal.Gen Cert.Fin Cert.Rows Cert.Gating Idealize.ShloMosaic Idealize.ShloMosaic.TcCoe Idealize.ShloMosaic.Tactic
open Idealize.SL Idealize.SL.RA Idealize.SL.BI Idealize.SL.BI.BIBase Idealize.SL.BI.Laws Idealize.SL.ProofMode Idealize.SL.Sem Idealize.ShloMosaic.Rounds
open scoped Idealize.SL.BI

variable (m : (ℓ : Loc nD τ sig) → Buf (Elt Ideal) ℓ) (ρ : Dev nD → PrngReg) (c : Dev nD)

/-! ### The blocks as parts of the arrays -/

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![t.val, 0] := (by decide +kernel : ∀ t : Fin grid0.N, _)
theorem idx0_4 : ∀ t : Fin cfg0.N, win0_4.index t = ![t.val, 0] := (by decide +kernel : ∀ t : Fin grid0.N, _)
theorem idx1_0 : ∀ t : Fin cfg1.N, win1_0.index t = ![t.val, 0] := (by decide +kernel : ∀ t : Fin grid1.N, _)
theorem idx1_1 : ∀ t : Fin cfg1.N, win1_1.index t = ![t.val, 0] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![t.val, 0] := (by decide +kernel : ∀ t : Fin grid1.N, _)

/-- Row `r` of the first call's tile `t` among the 8192 rows. -/
abbrev row0 (t : Fin cfg0.N) (r : Fin 512) : Fin 8192 := ⟨512 * t.val + r.val, by have : t.val < 16 := t.isLt; omega⟩
/-- Row `r` of the second call's tile `t` among the 8192 rows. -/
abbrev row1 (t : Fin cfg1.N) (r : Fin 512) : Fin 8192 := ⟨512 * t.val + r.val, by have : t.val < 16 := t.isLt; omega⟩

theorem blk0_0 (t : Fin cfg0.N) (r : Fin 512) (k : Fin 1024) :
    iblk0 (V1 m ρ) c 0 t (ix2 r k) = m ((c : Thread nD τ).loc main_arg0) (ix2 (row0 t r) k) := by
  blk_ext! [iblk0, V1, W1, W0, idx0_0 t]

theorem blk0_1 (t : Fin cfg0.N) (n : Fin 256) (f : Fin 5632) :
    iblk0 (V1 m ρ) c 1 t (ix2 n f) = m ((c : Thread nD τ).loc main_arg1) (ix3 0 (n0 n) f) := by
  blk_ext! [iblk0, V1, W1, W0, idx0_1 t]

theorem blk0_2 (t : Fin cfg0.N) (n : Fin 768) (f : Fin 5632) :
    iblk0 (V1 m ρ) c 2 t (ix2 n f) = m ((c : Thread nD τ).loc main_arg1) (ix3 0 (n1 n) f) := by
  blk_ext! [iblk0, V1, W1, W0, idx0_2 t]

theorem blk1_0 (t : Fin cfg1.N) (r : Fin 512) (k : Fin 1024) :
    iblk1 (V3 m ρ) c 0 t (ix2 r k) = m ((c : Thread nD τ).loc main_arg3) (ix2 (row1 t r) k) := by
  rw [← W3_args m ρ c main_arg3 (by decide)]
  blk_ext! [iblk1, V3, idx1_0 t]

theorem blk1_1 (t : Fin cfg1.N) (r : Fin 512) (f : Fin 5632) :
    iblk1 (V3 m ρ) c 1 t (ix2 r f) = (dat0 (V1 m ρ) c).arrAt 3 cfg0.N (ix2 (row1 t r) f) := by
  rw [← W2_arr m ρ c 3]
  blk_ext! [iblk1, V3, W3, idx1_1 t]

theorem blk1_2 (t : Fin cfg1.N) (f : Fin 2816) (k : Fin 1024) :
    iblk1 (V3 m ρ) c 2 t (ix2 f k) = m ((c : Thread nD τ).loc main_arg2) (ix3 0 f k) := by
  rw [← W2_args m ρ c main_arg2 (by decide)]
  blk_ext! [iblk1, V3, W3, idx1_2 t]

/-! ### The result arrays -/

section Final

variable {H D : Fin 8192 → Fin 1024 → ℝ} {W : Fin 1024 → Fin 5632 → ℝ} {V : Fin 2816 → Fin 1024 → ℝ}
  (h0 : ∀ r k, m ((c : Thread nD τ).loc main_arg0) (ix2 r k) = (H r k : EReal)) (h1 : ∀ k f, m ((c : Thread nD τ).loc main_arg1) (ix3 0 k f) = (W k f : EReal))

include h0 h1

/-- What the first call saves: the derivatives of the gated product in its two factors. -/
theorem saved_array (r : Fin 8192) (f : Fin 5632) : (dat0 (V1 m ρ) c).arrAt 3 cfg0.N (ix2 r f) = ((saved (H r) W f : ℝ) : EReal) := by
  refine congrFun (g := fun y : S8192x5632.Idx => ((saved (H (y 0)) W (y 1) : ℝ) : EReal)) ?_ (ix2 r f)
  refine (dat0 (V1 m ρ) c).arrAt_eq_of_covers 3 _ (by decide +kernel) fun t hf y => ?_
  blk_simp
  rw [after0_3, saved_block (H := fun r => H (row0 t r)) (W := W) (fun r k => (blk0_0 m ρ c t r k).trans (h0 _ _))
    (fun n f => (blk0_1 m ρ c t n f).trans (h1 _ _)) (fun n f => (blk0_2 m ρ c t n f).trans (h1 _ _))]
  obtain ⟨r, k, rfl⟩ : ∃ r k, y = ix2 r k := ⟨y 0, y 1, by funext a; fin_cases a <;> rfl⟩
  have e : (win0_3.blk t).view.emb (ix2 r k) = (ix2 (row0 t r) k : S8192x5632.Idx) := by
    blk_ext [idx0_3 t]
  rw [e]
  rfl

/-- The first result: the reference's gated product. -/
theorem final_act : (dat0 (V1 m ρ) c).arrAt 4 cfg0.N = Cert.GateRefIdeal.Read.val_main_v21 (F := Ideal) (m ((c : Thread nD τ).loc main_arg0)) (m ((c : Thread nD τ).loc main_arg1)) := by
  refine (dat0 (V1 m ρ) c).arrAt_eq_of_covers 4 _ (by decide +kernel) fun t hf y => ?_
  blk_simp
  rw [after0_4, act_block (H := fun r => H (row0 t r)) (W := W) (fun r k => (blk0_0 m ρ c t r k).trans (h0 _ _))
    (fun n f => (blk0_1 m ρ c t n f).trans (h1 _ _)) (fun n f => (blk0_2 m ρ c t n f).trans (h1 _ _))]
  obtain ⟨r, k, rfl⟩ : ∃ r k, y = ix2 r k := ⟨y 0, y 1, by funext a; fin_cases a <;> rfl⟩
  have e : (win0_4.blk t).view.emb (ix2 r k) = (ix2 (row0 t r) k : S8192x2816.Idx) := by
    blk_ext [idx0_4 t]
  rw [e, Cert.GateRefIdeal.Read.v21_real h0 h1]
  rfl

variable (h2 : ∀ f k, m ((c : Thread nD τ).loc main_arg2) (ix3 0 f k) = (V f k : EReal)) (h3 : ∀ r k, m ((c : Thread nD τ).loc main_arg3) (ix2 r k) = (D r k : EReal))
include h2 h3

/-- The second result: the reference's gradient of the two factors. -/
theorem final_grad : (dat1 (V3 m ρ) c).arrAt 3 cfg1.N = Cert.GateRefIdeal.Read.val_main_v22 (F := Ideal) (m ((c : Thread nD τ).loc main_arg0)) (m ((c : Thread nD τ).loc main_arg1)) (m ((c : Thread nD τ).loc main_arg2)) (m ((c : Thread nD τ).loc main_arg3)) := by
  refine (dat1 (V3 m ρ) c).arrAt_eq_of_covers 3 _ (by decide +kernel) fun t hf y => ?_
  blk_simp
  rw [after1_3, grad_block (D := fun r => D (row1 t r)) (V := V) (fun r k => (blk1_0 m ρ c t r k).trans (h3 _ _))
    (fun f k => (blk1_2 m ρ c t f k).trans (h2 _ _))]
  obtain ⟨r, f, rfl⟩ : ∃ r f, y = ix2 r f := ⟨y 0, y 1, by funext a; fin_cases a <;> rfl⟩
  have e : (win1_3.blk t).view.emb (ix2 r f) = (ix2 (row1 t r) f : S8192x5632.Idx) := by
    blk_ext [idx1_3 t]
  rw [e, Cert.GateRefIdeal.Read.v22_real h0 h1 h2 h3]
  show ((up (D (row1 t r)) V (half f) : ℝ) : EReal) * (iblk1 (V3 m ρ) c 1 t (ix2 r f) : EReal) = _
  rw [blk1_1, saved_array m ρ c h0 h1, ← EReal.coe_mul]
  rfl

end Final

/-! ### The run -/

-- the launch theorem's implicit arguments are found by unfolding plain definitions in a metavariable's type
set_option backward.isDefEq.respectTransparency.types false in
/-- From any memory the two calls run to the end; then every array outside a call holds what the last boundary says. -/
theorem run_last : θ_run defs (onTc (τ := τ) (main (F := Ideal))) ⟨m, fun _ => 0, ρ⟩ fun s => ∀ c : Dev nD, ∀ b ∈ Pipeline.ucRefs τ sig,
    s.2.mem ((c : Thread nD τ).1, b) = W4 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => BI.emp) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = _ from Pipeline.unscopedBufs_held c (W0 m ρ c)]
      iintro ⟨⟨Hb, -, HO, -, Hg, -⟩, -⟩
      imodintro
      isplitl [Hb]
      · iexact Hb
      isplitl [Hg]
      · iexists _
        iexact Hg
      iexists ∅
      iexact HO)
    (QY := fun c s => ∀ b ∈ Pipeline.ucRefs τ sig, s.mem ((c : Thread nD τ).1, b) = W4 m ρ c b)
    (hfin := fun c s => by
      iintro ⟨⟨Hb, -⟩, HS⟩
      unfold StableHlo.held
      imodintro
      iapply (pointsTo_read_all (Pipeline.ucRefs τ sig) (fun b => ((c : Thread nD τ).1, b)) (W4 m ρ c) s)
      isplitl [Hb] <;> iassumption)
    (hQ := fun _ h _ c => h c)

/-- The run's two results and its arguments. -/
theorem run_results : θ_run defs (onTc (τ := τ) (main (F := Ideal))) ⟨m, fun _ => 0, ρ⟩ fun s => ∀ c : Dev nD,
    s.2.mem ((c : Thread nD τ).loc main_v4_1) = (dat0 (V1 m ρ) c).arrAt 4 cfg0.N
      ∧ s.2.mem ((c : Thread nD τ).loc main_v7) = (dat1 (V3 m ρ) c).arrAt 3 cfg1.N
      ∧ s.2.mem ((c : Thread nD τ).loc main_arg0) = m ((c : Thread nD τ).loc main_arg0)
      ∧ s.2.mem ((c : Thread nD τ).loc main_arg1) = m ((c : Thread nD τ).loc main_arg1)
      ∧ s.2.mem ((c : Thread nD τ).loc main_arg2) = m ((c : Thread nD τ).loc main_arg2)
      ∧ s.2.mem ((c : Thread nD τ).loc main_arg3) = m ((c : Thread nD τ).loc main_arg3) :=
  (θ_run defs _ _).mono (fun _ h c =>
    ⟨(h c _ (mem_uc main_v4_1 (by decide))).trans
        (((W4_of_ne m ρ c main_v4_1 (by decide)).trans (W3_of m ρ c main_v4_1 (by decide))).trans (W2_arr m ρ c 4)),
      (h c _ (mem_uc main_v7 (by decide))).trans (W4_arr m ρ c 3),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c)⟩) (run_last m ρ)

end Cert.GateIdeal.Point

end
-- ==== Proof.GateClaim.lean ====
/-
  The claims about the gate: what the forward call leaves, and the gradient of the gate's operand.
-/
module

public import proofs.«01_k».proof.Defs
public import proofs.«01_k».proof.Proof.GateValue
public import proofs.«01_k».proof.Proof.Finite
public import proofs.«01_k».proof.Proof.Gen.Gate.Frame
public import Idealize.ShloMosaic.Lib.Claim
public import Idealize.ShloMosaic.Adequacy
public import Idealize.ShloMosaic.Init

@[expose] public section

set_option maxRecDepth 16384

noncomputable section

namespace Cert.GateClaim

open Idealize.ShloMosaic Idealize.ShloMosaic.TcCoe Idealize.SL.Sem Cert.Fin

/-- The side conditions of the printed precondition. -/
theorem preFacts : Cert.Pre_gate_finite.Facts := by
  constructor <;> decide

/-- The kernel at machine formats runs, leaves its arguments and returns its counters. -/
theorem frame_p : Cert.quiescent_Gate (hGate := Cert.Gate.Gen.facts) := fun m ρ _ => Cert.Gate.Gen.frame m ρ

/-- So does the kernel over the extended reals. -/
theorem frame_i : Cert.quiescent_GateIdeal (hGateIdeal := Cert.GateIdeal.Gen.facts) := fun m ρ _ => Cert.GateIdeal.Gen.frame m ρ

/-- So does the reference. -/
theorem frame_r : Cert.quiescent_GateRefIdeal (hGateRefIdeal := Cert.GateRefIdeal.Gen.facts) := fun m ρ _ =>
  (θ_run Cert.GateRefIdeal.defs _ _).mono (fun r h => ⟨fun c => (h c).2.2, sem_eq_zero_of_no_sems (by decide) r.2⟩)
    (Cert.GateRefIdeal.Value.run m ρ)

/-- The precondition says that the four arguments hold real numbers. -/
theorem pre_real [Cert.Pre_gate_finite.Facts] {x0 x3 : FVec Ideal Cert.Pre_gate_finite.S8192x1024 .bf16}
    {x1 : FVec Ideal Cert.Pre_gate_finite.S1x1024x5632 .f32} {x2 : FVec Ideal Cert.Pre_gate_finite.S1x2816x1024 .f32}
    (h : Cert.Pre_gate_finite.fn (F := Ideal) x0 x1 x2 x3 = fun _ => 1#1) : IsReal x0 ∧ IsReal x1 ∧ IsReal x2 ∧ IsReal x3 := by
  have e := congrFun h fun a => a.elim0
  simp only [Cert.Pre_gate_finite.fn, Cert.Pre_gate_finite.fn_part1, andi, IntOp.andi_eq_one] at e
  obtain ⟨⟨⟨⟨_, e0⟩, e1⟩, e2⟩, e3⟩ := e
  exact ⟨real_of_test _ e0, real_of_test _ e1, real_of_test _ e2, real_of_test _ e3⟩

/-- The kernel computes the reference's two results. -/
theorem value : Cert.algebraic_GateIdeal_GateRefIdeal_pre_gate_finite (hGateIdeal := Cert.GateIdeal.Gen.facts)
    (hGateRefIdeal := Cert.GateRefIdeal.Gen.facts) (hPre_gate_finite := preFacts) := by
  intro m ρ m' ρ' hpre hag
  refine ⟨fun c => (Cert.GateIdeal.Gen.dat0 (Cert.GateIdeal.Gen.V1 m ρ) c).arrAt 4 Cert.GateIdeal.cfg0.N,
    fun c => (Cert.GateIdeal.Gen.dat1 (Cert.GateIdeal.Gen.V3 m ρ) c).arrAt 3 Cert.GateIdeal.cfg1.N, Cert.GateIdeal.Point.run_results m ρ,
    (θ_run Cert.GateRefIdeal.defs _ _).mono (fun r h c => ?_) (Cert.GateRefIdeal.Value.run m' ρ')⟩
  haveI := preFacts
  obtain ⟨⟨H, hH⟩, ⟨W, hW⟩, ⟨V, hV⟩, ⟨D, hD⟩⟩ := pre_real (hpre c)
  obtain ⟨a0, a1, a2, a3⟩ := hag c
  obtain ⟨r0, r1, rest⟩ := h c
  refine ⟨r0.trans ?_, r1.trans ?_, rest⟩
  · rw [Cert.GateRefIdeal.Read.val_main_v21_eq, a0, a1]
    exact (Cert.GateIdeal.Point.final_act m ρ c (fun _ _ => hH _) (fun _ _ => hW _)).symm
  · rw [Cert.GateRefIdeal.Read.val_main_v22_eq, a0, a1, a2, a3]
    exact (Cert.GateIdeal.Point.final_grad m ρ c (fun _ _ => hH _) (fun _ _ => hW _) (fun _ _ => hV _) (fun _ _ => hD _)).symm

end Cert.GateClaim
end
-- ==== Proof.MixMath.lean ====
/-
  The mixers' backward on real numbers: the activation and its slope, the norm of a row of 512, the causal moving
  averages, the masked mixing of the positions of a chunk, and the gradients of all of them, row by row.
-/
module

public import proofs.«01_k».proof.Proof.InGradMath
public import Idealize.ShloMosaic.Lib.Pipeline.ValueKit.Acc

@[expose] public section

set_option maxRecDepth 16384

noncomputable section

namespace Cert.Mixer

open Idealize.ShloMosaic Idealize.SL.Sem Finset
open Cert.Fin (eps eps_pos rsqrt_real)
open Cert.Pool (tok col width ext ext_of_lt)

/-! ### The norm of a row of 512 -/

/-- The mean of a row. -/
def mean (x : Fin 512 → ℝ) : ℝ := (∑ k, x k) / 512
/-- The variance of a row. -/
def var (x : Fin 512 → ℝ) : ℝ := (∑ k, (x k - mean x) * (x k - mean x)) / 512
/-- The reciprocal standard deviation of a row. -/
def rstd (x : Fin 512 → ℝ) : ℝ := (Real.sqrt (var x + eps))⁻¹
/-- The normalised row. -/
def xhat (x : Fin 512 → ℝ) (k : Fin 512) : ℝ := (x k - mean x) * rstd x
/-- The gradient that passes the norm, `d` being the gradient that reaches the normalised row. -/
def lnBwd (x d : Fin 512 → ℝ) (k : Fin 512) : ℝ := rstd x * (d k - mean d - xhat x k * mean fun k => d k * xhat x k)

theorem var_eps_pos (x : Fin 512 → ℝ) : 0 < var x + eps :=
  add_pos_of_nonneg_of_pos (div_nonneg (sum_nonneg fun k _ => mul_self_nonneg _) (by norm_num)) eps_pos

theorem rstd_real (x : Fin 512 → ℝ) : Ideal.rsqrt ((var x + eps : ℝ) : EReal) = (rstd x : ℝ) := rsqrt_real (var_eps_pos x)

theorem rstd_sq (x : Fin 512 → ℝ) : rstd x * rstd x = (var x + eps)⁻¹ := by
  unfold rstd; rw [← mul_inv, Real.mul_self_sqrt (var_eps_pos x).le]

theorem sum_dev (x : Fin 512 → ℝ) : ∑ k, (x k - mean x) = 0 := by
  rw [sum_sub_distrib]; simp [mean]; ring

/-- What differentiation of the norm's lines gives is the closed form. -/
theorem lnBwd_eq (x d : Fin 512 → ℝ) (k : Fin 512) :
    d k * rstd x + (∑ k, (x k - mean x) * d k) * (-(1 / 2) * (rstd x / (var x + eps))) / 512 * (2 * (x k - mean x))
      + ((∑ k, -(d k * rstd x))
          + ∑ l, -((∑ k, (x k - mean x) * d k) * (-(1 / 2) * (rstd x / (var x + eps))) / 512 * (2 * (x l - mean x)))) / 512
      = lnBwd x d k := by
  have h0 : ∑ l, -((∑ k, (x k - mean x) * d k) * (-(1 / 2) * (rstd x / (var x + eps))) / 512 * (2 * (x l - mean x))) = 0 := by
    have : ∀ l, -((∑ k, (x k - mean x) * d k) * (-(1 / 2) * (rstd x / (var x + eps))) / 512 * (2 * (x l - mean x)))
        = (-((∑ k, (x k - mean x) * d k) * (-(1 / 2) * (rstd x / (var x + eps))) / 512 * 2)) * (x l - mean x) := fun l => by ring
    simp only [this, ← mul_sum, sum_dev, mul_zero]
  have h1 : ∑ k, -(d k * rstd x) = -((∑ k, d k) * rstd x) := by rw [sum_neg_distrib, sum_mul]
  have h2 : mean (fun k => d k * xhat x k) = (∑ k, (x k - mean x) * d k) * rstd x / 512 := by
    unfold mean xhat; rw [sum_mul]; congr 1; exact sum_congr rfl fun k _ => by unfold mean; ring
  rw [h0, h1, div_eq_mul_inv (rstd x) (var x + eps), ← rstd_sq]
  unfold lnBwd; rw [h2]; unfold xhat
  generalize ∑ k, (x k - mean x) * d k = s
  simp only [mean]; ring

theorem lit_512 : Ideal.ofBits .f32 0x44000000#32 = ((512 : ℝ) : EReal) := by
  simp [Ideal.ofBits, Ideal.ieee, -EReal.coe_mul]; norm_num

/-! ### The activation -/

/-- The error function. -/
def erf (x : ℝ) : ℝ := 2 / Real.sqrt Real.pi * ∫ t in (0 : ℝ)..x, Real.exp (-(t ^ 2))
/-- The normal distribution's cumulative function. -/
def cdf (z : ℝ) : ℝ := 1 / 2 * (1 + erf (z * (Real.sqrt 2)⁻¹))
/-- The normal distribution's density, its value at zero being half the slope of the error function there over the root
of two, the slope as a float32. -/
def pdf (z : ℝ) : ℝ := Real.exp (-(1 / 2) * z * z) * ((9465531 / 8388608) * (2 * Real.sqrt 2)⁻¹)
/-- The activation. -/
def act (z : ℝ) : ℝ := z * cdf z
/-- The activation's slope. -/
def slope (z : ℝ) : ℝ := cdf z + z * pdf z

theorem erf_real (x : ℝ) : Ideal.erf (x : EReal) = (erf x : ℝ) := Ideal.erf_coe x

theorem sqrt_two_sq : (Real.sqrt 2)⁻¹ * (Real.sqrt 2)⁻¹ = 1 / 2 := by
  rw [← mul_inv, Real.mul_self_sqrt (by norm_num)]; norm_num

/-- The complementary error function of the negated argument. -/
theorem erfc_real (x : ℝ) : Ideal.erfc ((-x : ℝ) : EReal) = ((1 + erf x : ℝ) : EReal) := by
  rw [EReal.coe_neg, Ideal.erfc_neg, erf_real, EReal.coe_add, EReal.coe_one]

theorem sqrt_two_ne : Real.sqrt 2 ≠ 0 := (Real.sqrt_pos.mpr (by norm_num)).ne'

theorem sqrt_two_real : Ideal.sqrt ((2 : ℝ) : EReal) = ((Real.sqrt 2 : ℝ) : EReal) := (Ideal.sqrt_coe 2).trans (if_neg (by norm_num))

theorem lit_slope : Ideal.ofBits .f32 0xBF906EBB#32 = ((-(9465531 / 8388608) : ℝ) : EReal) := by
  simp [Ideal.ofBits, Ideal.ieee, -EReal.coe_mul]; norm_num

/-- What differentiation of the activation's lines gives is the slope times what arrives. -/
theorem slope_eq (z d : ℝ) :
    -(-(9465531 / 8388608) * (1 / 2 * z * d) * Real.exp (-(-z / Real.sqrt 2 * (-z / Real.sqrt 2))) / Real.sqrt 2)
      + 1 / 2 * (d * (1 + erf (z * (Real.sqrt 2)⁻¹))) = d * slope z := by
  have h1 : -(-z / Real.sqrt 2 * (-z / Real.sqrt 2)) = -(1 / 2) * z * z := by
    rw [show -z / Real.sqrt 2 * (-z / Real.sqrt 2) = z * z * ((Real.sqrt 2)⁻¹ * (Real.sqrt 2)⁻¹) by ring, sqrt_two_sq]; ring
  rw [h1]; unfold slope cdf pdf; rw [mul_inv]; ring

/-! ### The moving averages -/

/-- The sum of a sequence's first `n` entries. -/
def pre (x : Fin 2048 → ℝ) (n : ℕ) : ℝ := ∑ m ∈ range n, ext x m

/-- The entry `j` positions back, zero before the sequence's start. -/
def lag (x : Fin 2048 → ℝ) (s j : ℕ) : ℝ := if j ≤ s then ext x (s - j) else 0

/-- The sum over a window of `w` positions that ends at a position. -/
def win (x : Fin 2048 → ℝ) (w s : ℕ) : ℝ := ∑ j ∈ range w, lag x s j

theorem pre_succ_sub (x : Fin 2048 → ℝ) (w s : ℕ) : pre x (s + 1) - pre x (s + 1 - w) = win x w s := by
  induction w with
  | zero => simp [win]
  | succ w ih =>
    rw [win, sum_range_succ, ← win, ← ih]
    unfold lag
    split_ifs with h
    · have e : s + 1 - w = (s + 1 - (w + 1)) + 1 := by omega
      have e2 : s - w = s + 1 - (w + 1) := by omega
      rw [e2]
      conv_rhs => rw [e]
      unfold pre
      rw [sum_range_succ _ (s + 1 - (w + 1))]
      ring
    · have e : s + 1 - w = s + 1 - (w + 1) := by omega
      rw [e, add_zero]

/-! ### Rows, chunks and columns -/

/-- Position `p` of chunk `q`: the chunks are 128 rows each. -/
abbrev at' (q : Fin 64) (p : Fin 128) : Fin 8192 := ⟨128 * q.val + p.val, by omega⟩
/-- A row's chunk. -/
abbrev chunk (r : Fin 8192) : Fin 64 := ⟨r.val / 128, by omega⟩
/-- A row's position in its chunk. -/
abbrev pos (r : Fin 8192) : Fin 128 := ⟨r.val % 128, by omega⟩
/-- A column's group. -/
abbrev grp (c : Fin 512) : Fin 4 := ⟨c.val / 128, by omega⟩
/-- A column's number in its group. -/
abbrev sub (c : Fin 512) : Fin 128 := ⟨c.val % 128, by omega⟩
/-- A row's sequence. -/
abbrev sq (r : Fin 8192) : Fin 4 := ⟨r.val / 2048, by omega⟩
/-- A column of the first half. -/
abbrev lo (c : Fin 512) : Fin 1024 := ⟨c.val, by omega⟩
/-- A column of the second half. -/
abbrev hi (c : Fin 512) : Fin 1024 := ⟨512 + c.val, by omega⟩

theorem chunk_at (q : Fin 64) (p : Fin 128) : chunk (at' q p) = q := Fin.ext (by show (128 * q.val + p.val) / 128 = q.val; omega)
theorem pos_at (q : Fin 64) (p : Fin 128) : pos (at' q p) = p := Fin.ext (by show (128 * q.val + p.val) % 128 = p.val; omega)
theorem grp_col (g : Fin 4) (k : Fin 128) : grp (col g k) = g := Fin.ext (by show (128 * g.val + k.val) / 128 = g.val; omega)
theorem sub_col (g : Fin 4) (k : Fin 128) : sub (col g k) = k := Fin.ext (by show (128 * g.val + k.val) % 128 = k.val; omega)
theorem at_chunk (r : Fin 8192) : at' (chunk r) (pos r) = r := Fin.ext (by show 128 * (r.val / 128) + r.val % 128 = r.val; omega)
theorem col_grp (c : Fin 512) : col (grp c) (sub c) = c := Fin.ext (by show 128 * (c.val / 128) + c.val % 128 = c.val; omega)

/-- A sum over rows, sequence by sequence. -/
theorem sum_tok (f : Fin 8192 → ℝ) : ∑ b, ∑ s, f (tok b s) = ∑ r, f r :=
  Fin.sum_mul_add_congr (F := fun (b : Fin 4) (s : Fin 2048) => f (tok b s)) fun _ _ _ => rfl

/-! ### The gradients -/

/-- The arrays the backward reads, as reals. -/
structure In where
  /-- what arrives from the residual -/
  D : Fin 8192 → Fin 1024 → ℝ
  /-- the averaged half's input -/
  X : Fin 8192 → Fin 512 → ℝ
  /-- the activation's input -/
  Z : Fin 8192 → Fin 1024 → ℝ
  /-- the output weights -/
  O : Fin 1024 → Fin 1024 → ℝ
  /-- the groups' weights -/
  P : Fin 4 → Fin 128 → Fin 128 → ℝ
  /-- the averaged half's scale -/
  S : Fin 512 → ℝ
  /-- the norm's scale -/
  G : Fin 512 → ℝ
  /-- the norm's shift -/
  B : Fin 512 → ℝ
  /-- the mixing weights -/
  W : Fin 4 → Fin 128 → Fin 128 → ℝ
  /-- the mixing bias -/
  U : Fin 4 → Fin 128 → ℝ

namespace In
variable (a : In)

/-- The gradient of the mixers' joined outputs. -/
def dmix (r : Fin 8192) (k : Fin 1024) : ℝ := ∑ n, a.D r n * a.O k n
/-- The averaged half of it. -/
def dpo (r : Fin 8192) (c : Fin 512) : ℝ := a.dmix r (lo c)
/-- The averaged half of it, scaled. -/
def dps (r : Fin 8192) (c : Fin 512) : ℝ := a.dpo r c * a.S c
/-- The averages, less the entries themselves. -/
def pooled (r : Fin 8192) (c : Fin 512) : ℝ :=
  win (fun s => a.X (tok (sq r) s) c) (width c) (r.val % 2048) / ((min (r.val % 2048 + 1) (width c) : ℕ) : ℝ) - a.X r c
/-- The averages through their group's weights. -/
def po (r : Fin 8192) (c : Fin 512) : ℝ := ∑ k, a.pooled r (col (grp c) k) * a.P (grp c) k (sub c)
/-- The gradient of the averages. -/
def dpool (r : Fin 8192) (c : Fin 512) : ℝ := ∑ d, a.dps r (col (grp c) d) * a.P (grp c) (sub c) d
/-- The gradient of the groups' weights. -/
def gpw (g : Fin 4) (k d : Fin 128) : ℝ := ∑ r, a.pooled r (col g k) * a.dps r (col g d)
/-- The gating half. -/
def u (r : Fin 8192) (c : Fin 512) : ℝ := act (a.Z r (lo c))
/-- The gated half. -/
def v (r : Fin 8192) (c : Fin 512) : ℝ := act (a.Z r (hi c))
/-- The gated half's norm. -/
def vln (r : Fin 8192) (c : Fin 512) : ℝ := xhat (a.v r) c * a.G c + a.B c
/-- One up to the diagonal, zero above it. -/
def tri (t s : Fin 128) : ℝ := if s ≤ t then 1 else 0
/-- The mixing weights that stay. -/
def w (h : Fin 4) (t s : Fin 128) : ℝ := a.W h t s * tri t s
/-- The mixed rows of a chunk. -/
def mixed (r : Fin 8192) (c : Fin 512) : ℝ := ∑ j, a.w (grp c) (pos r) j * a.vln (at' (chunk r) j) c + a.U (grp c) (pos r)
/-- The gradient of the gate's product. -/
def dch (r : Fin 8192) (c : Fin 512) : ℝ := a.dmix r (hi c)
/-- The gradient of the mixed rows. -/
def dmx (r : Fin 8192) (c : Fin 512) : ℝ := a.dch r c * a.u r c
/-- The gradient of the gating half. -/
def du (r : Fin 8192) (c : Fin 512) : ℝ := a.dch r c * a.mixed r c
/-- The gradient of the norm's output. -/
def dvln (r : Fin 8192) (c : Fin 512) : ℝ := ∑ t, a.w (grp c) t (pos r) * a.dmx (at' (chunk r) t) c
/-- The gradient of the mixing weights. -/
def gsw (h : Fin 4) (t s : Fin 128) : ℝ := (∑ q, ∑ k, a.dmx (at' q t) (col h k) * a.vln (at' q s) (col h k)) * tri t s
/-- The gradient of the mixing bias. -/
def gsb (h : Fin 4) (t : Fin 128) : ℝ := ∑ q, ∑ k, a.dmx (at' q t) (col h k)
/-- The gradient of the activation's output. -/
def dz (r : Fin 8192) (k : Fin 1024) : ℝ :=
  if h : k.val < 512 then a.du r ⟨k.val, h⟩ else lnBwd (a.v r) (fun c => a.dvln r c * a.G c) ⟨k.val - 512, by omega⟩
/-- The gradient of the activation's input. -/
def dpre (r : Fin 8192) (k : Fin 1024) : ℝ := a.dz r k * slope (a.Z r k)
/-- The gradients of the scales and shifts, a row each. -/
def vec (i : Fin 8) (c : Fin 512) : ℝ :=
  if i.val = 0 then ∑ r, a.dpo r c * a.po r c
  else if i.val = 1 then ∑ r, a.dvln r c * xhat (a.v r) c
  else if i.val = 2 then ∑ r, a.dvln r c else 0

theorem mixed_at (q : Fin 64) (p : Fin 128) (h : Fin 4) (k : Fin 128) :
    a.mixed (at' q p) (col h k) = ∑ j, a.w h p j * a.vln (at' q j) (col h k) + a.U h p := by
  unfold mixed; rw [chunk_at, pos_at, grp_col]

theorem dvln_at (q : Fin 64) (p : Fin 128) (h : Fin 4) (k : Fin 128) :
    a.dvln (at' q p) (col h k) = ∑ t, a.w h t p * a.dmx (at' q t) (col h k) := by
  unfold dvln; rw [chunk_at, pos_at, grp_col]

theorem po_at (r : Fin 8192) (g : Fin 4) (d : Fin 128) : a.po r (col g d) = ∑ k, a.pooled r (col g k) * a.P g k d := by
  unfold po; rw [grp_col, sub_col]

theorem dpool_at (r : Fin 8192) (g : Fin 4) (k : Fin 128) : a.dpool r (col g k) = ∑ d, a.dps r (col g d) * a.P g k d := by
  unfold dpool; rw [grp_col, sub_col]

theorem pooled_at (b : Fin 4) (s : Fin 2048) (g : Fin 4) (k : Fin 128) : a.pooled (tok b s) (col g k)
    = win (fun s => a.X (tok b s) (col g k)) (2 ^ (g.val + 1)) s.val / ((min (s.val + 1) (2 ^ (g.val + 1)) : ℕ) : ℝ) - a.X (tok b s) (col g k) := by
  have h1 : sq (tok b s) = b := Fin.ext (by show (b.val * 2048 + s.val) / 2048 = b.val; omega)
  have h2 : (tok b s).val % 2048 = s.val := by show (b.val * 2048 + s.val) % 2048 = s.val; omega
  unfold pooled; rw [h1, h2, Cert.Pool.width_col]

end In

end Cert.Mixer
end
-- ==== Proof.MixIdealBase.lean ====
/-
  The body of the mixers' backward, what its three cases share: the two conditions it branches on, decided from the grid
  point, the buffers a point's body works on, and the assertion that its inputs are held at their contents.
-/
module

public import proofs.«01_k».proof.Proof.Gen.MixIdeal.Frame
public import proofs.«01_k».proof.Proof.Gen.MixIdeal.Skeleton

@[expose] public section

set_option maxRecDepth 16384

noncomputable section

namespace Cert.MixIdeal.Run

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition under which the body clears its running sums. -/
abbrev First (i : grid0.Coords) : Prop := (Scalar.cmpi .ne (Scalar.extui (Scalar.cmpi .eq (BitVec.ofNat 32 (i 0).val) 0#32)) 0#32) = 1#1
/-- The condition under which the body sums the rows of the bias gradient. -/
abbrev Last (i : grid0.Coords) : Prop := (Scalar.cmpi .ne (Scalar.extui (Scalar.cmpi .eq (BitVec.ofNat 32 (i 0).val) 15#32)) 0#32) = 1#1

theorem first_iff (t : Fin grid0.N) : First (grid0.coords t) ↔ t.val = 0 := by
  have ht : t.val < 16 := Nat.lt_of_lt_of_eq t.isLt N_0
  have e0 : (grid0.coords t 0).val = t.val / 1 % 16 := Pipeline.Grid.coords_val t 0 (by decide) rfl
  simp only [First, e0]
  word_cmp

theorem last_iff (t : Fin grid0.N) : Last (grid0.coords t) ↔ t.val = 15 := by
  have ht : t.val < 16 := Nat.lt_of_lt_of_eq t.isLt N_0
  have e0 : (grid0.coords t 0).val = t.val / 1 % 16 := Pipeline.Grid.coords_val t 0 (by decide) rfl
  simp only [Last, e0]
  word_cmp

/-! ### A point's buffers -/

abbrev b0 (t : Fin cfg0.N) : Memref sig .tc .vmem S512x1024 .bf16 := win0_0.stage (cfg0.slots t 0)
abbrev hb0 (t : Fin cfg0.N) : (b0 t).IsWhole := hstage0_0 ((cfg0.slots t 0).cast nbuf0_0)
abbrev b1 (t : Fin cfg0.N) : Memref sig .tc .vmem S512x512 .f32 := win0_1.stage (cfg0.slots t 1)
abbrev hb1 (t : Fin cfg0.N) : (b1 t).IsWhole := hstage0_1 ((cfg0.slots t 1).cast nbuf0_1)
abbrev b2 (t : Fin cfg0.N) : Memref sig .tc .vmem S16x512 .f32 := win0_2.stage (cfg0.slots t 2)
abbrev hb2 (t : Fin cfg0.N) : (b2 t).IsWhole := hstage0_2 ((cfg0.slots t 2).cast nbuf0_2)
abbrev b3 (t : Fin cfg0.N) : Memref sig .tc .vmem S512x1024 .bf16 := win0_3.stage (cfg0.slots t 3)
abbrev hb3 (t : Fin cfg0.N) : (b3 t).IsWhole := hstage0_3 ((cfg0.slots t 3).cast nbuf0_3)
abbrev b4 (t : Fin cfg0.N) : Memref sig .tc .vmem S1024x1024 .bf16 := win0_4.stage (cfg0.slots t 4)
abbrev hb4 (t : Fin cfg0.N) : (b4 t).IsWhole := hstage0_4 ((cfg0.slots t 4).cast nbuf0_4)
abbrev b5 (t : Fin cfg0.N) : Memref sig .tc .vmem S4x128x128 .f32 := win0_5.stage (cfg0.slots t 5)
abbrev hb5 (t : Fin cfg0.N) : (b5 t).IsWhole := hstage0_5 ((cfg0.slots t 5).cast nbuf0_5)
abbrev b6 (t : Fin cfg0.N) : Memref sig .tc .vmem S1x512 .f32 := win0_6.stage (cfg0.slots t 6)
abbrev hb6 (t : Fin cfg0.N) : (b6 t).IsWhole := hstage0_6 ((cfg0.slots t 6).cast nbuf0_6)
abbrev b7 (t : Fin cfg0.N) : Memref sig .tc .vmem S1x512 .f32 := win0_7.stage (cfg0.slots t 7)
abbrev hb7 (t : Fin cfg0.N) : (b7 t).IsWhole := hstage0_7 ((cfg0.slots t 7).cast nbuf0_7)
abbrev b8 (t : Fin cfg0.N) : Memref sig .tc .vmem S1x512 .f32 := win0_8.stage (cfg0.slots t 8)
abbrev hb8 (t : Fin cfg0.N) : (b8 t).IsWhole := hstage0_8 ((cfg0.slots t 8).cast nbuf0_8)
abbrev b9 (t : Fin cfg0.N) : Memref sig .tc .vmem S4x128x128 .f32 := win0_9.stage (cfg0.slots t 9)
abbrev hb9 (t : Fin cfg0.N) : (b9 t).IsWhole := hstage0_9 ((cfg0.slots t 9).cast nbuf0_9)
abbrev b10 (t : Fin cfg0.N) : Memref sig .tc .vmem S4x128x128 .f32 := win0_10.stage (cfg0.slots t 10)
abbrev hb10 (t : Fin cfg0.N) : (b10 t).IsWhole := hstage0_10 ((cfg0.slots t 10).cast nbuf0_10)
abbrev b11 (t : Fin cfg0.N) : Memref sig .tc .vmem S512x512 .f32 := win0_11.stage (cfg0.slots t 11)
abbrev hb11 (t : Fin cfg0.N) : (b11 t).IsWhole := hstage0_11 ((cfg0.slots t 11).cast nbuf0_11)
abbrev b12 (t : Fin cfg0.N) : Memref sig .tc .vmem S512x1024 .bf16 := win0_12.stage (cfg0.slots t 12)
abbrev hb12 (t : Fin cfg0.N) : (b12 t).IsWhole := hstage0_12 ((cfg0.slots t 12).cast nbuf0_12)
abbrev b13 (t : Fin cfg0.N) : Memref sig .tc .vmem S4x128x128 .f32 := win0_13.stage (cfg0.slots t 13)
abbrev hb13 (t : Fin cfg0.N) : (b13 t).IsWhole := hstage0_13 ((cfg0.slots t 13).cast nbuf0_13)
abbrev b14 (t : Fin cfg0.N) : Memref sig .tc .vmem S4x128x128 .f32 := win0_14.stage (cfg0.slots t 14)
abbrev hb14 (t : Fin cfg0.N) : (b14 t).IsWhole := hstage0_14 ((cfg0.slots t 14).cast nbuf0_14)
abbrev b15 (t : Fin cfg0.N) : Memref sig .tc .vmem S4x128x128 .f32 := win0_15.stage (cfg0.slots t 15)
abbrev hb15 (t : Fin cfg0.N) : (b15 t).IsWhole := hstage0_15 ((cfg0.slots t 15).cast nbuf0_15)
abbrev b16 (t : Fin cfg0.N) : Memref sig .tc .vmem S8x512 .f32 := win0_16.stage (cfg0.slots t 16)
abbrev hb16 (t : Fin cfg0.N) : (b16 t).IsWhole := hstage0_16 ((cfg0.slots t 16).cast nbuf0_16)
/-- The body's own two buffers. -/
abbrev du : Memref sig .tc .vmem S512x512 .f32 := Memref.whole cc0_scratch0
abbrev dvln : Memref sig .tc .vmem S512x512 .f32 := Memref.whole cc0_scratch1

/-- The invariant between points: the body's own buffers at some contents, and the generator's register. -/
theorem invariant_eq (c : Dev nD) :
    (Pipeline.ΦA spec0 c : sProp 𝕄)
      = iprop(iprop((∃ d, owns (c : Thread nD τ) du fullShare d) ∗ (∃ d, owns (c : Thread nD τ) dvln fullShare d)) ∗ (∃ r, prngReg c r)) := by
  unfold Pipeline.ΦA; rw [scopedRest0_eq]; simp only [du, dvln, owns_whole]; try rfl

section
variable (c : Dev nD)
  (arg1 : Memref sig .tc .vmem S512x1024 .bf16) (x0 : Vec F S512x1024 .bf16)
  (arg2 : Memref sig .tc .vmem S512x512 .f32) (x1 : Vec F S512x512 .f32)
  (arg3 : Memref sig .tc .vmem S16x512 .f32) (x2 : Vec F S16x512 .f32)
  (arg4 : Memref sig .tc .vmem S512x1024 .bf16) (x3 : Vec F S512x1024 .bf16)
  (arg5 : Memref sig .tc .vmem S1024x1024 .bf16) (x4 : Vec F S1024x1024 .bf16)
  (arg6 : Memref sig .tc .vmem S4x128x128 .f32) (x5 : Vec F S4x128x128 .f32)
  (arg7 : Memref sig .tc .vmem S1x512 .f32) (x6 : Vec F S1x512 .f32)
  (arg8 : Memref sig .tc .vmem S1x512 .f32) (x7 : Vec F S1x512 .f32)
  (arg9 : Memref sig .tc .vmem S1x512 .f32) (x8 : Vec F S1x512 .f32)
  (arg10 : Memref sig .tc .vmem S4x128x128 .f32) (x9 : Vec F S4x128x128 .f32)
  (arg11 : Memref sig .tc .vmem S4x128x128 .f32) (x10 : Vec F S4x128x128 .f32)

/-- The eleven inputs, each held at its contents. -/
def ins : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10)
end

end Cert.MixIdeal.Run
end
-- ==== Proof.MixPool.lean ====
/-
  The mixers' backward: the causal moving averages that the kernel forms again of a tile's rows and the sixteen before it.
-/
module

public import proofs.«01_k».proof.Proof.MixMath
public import proofs.«01_k».proof.Proof.MixIdealBase
public import proofs.«01_k».proof.Proof.InGrad

@[expose] public section

set_option maxRecDepth 16384

noncomputable section

namespace Cert.MixIdeal.Point

open Cert.MixIdeal Cert.MixIdeal.Gen Cert.Fin Cert.Mixer Idealize.ShloMosaic Idealize.ShloMosaic.TcCoe Idealize.SL.Sem
open Cert.Pool (tok col ext ext_of_lt)

/-- The tile's number within its sequence. -/
abbrev place (i : grid0.Coords) : ℕ := (i 0).val % 4

theorem place_lt (i : grid0.Coords) : place i < 4 := Nat.mod_lt _ (by norm_num)

/-- The positions of a tile, counted from 1. -/
theorem pay12 (i : grid0.Coords) (r : Fin 512) (k : Fin 128) : k0_pay12 i (ix2 r k) = BitVec.ofNat 32 (place i * 512 + r.val + 1) := by
  unfold k0_pay12
  have h4 : Scalar.select (Scalar.cmpi .eq 4#32 0#32) 1#32 4#32 = 4#32 := by decide
  simp only [h4]
  rw [Cert.InGradIdeal.Point.place_word (i 0)]
  have hp := place_lt i
  pointwise []
  unfold Scalar.muli IntOp.muli IntOp.addi
  apply BitVec.eq_of_toNat_eq
  simp only [BitVec.toNat_add, BitVec.toNat_mul, BitVec.toNat_ofNat]
  change _ = (place i * 512 + r.val + 1) % 2 ^ 32
  have e : (i 0).val % 4 = place i := rfl
  rw [e]
  omega

/-- The rows before a tile: zero at a sequence's start. -/
theorem pay11 (i : grid0.Coords) (H : Vec Ideal S16x512 .f32) (r : Fin 16) (k : Fin 512) :
    k0_pay11 (F := Ideal) i H (ix2 r k) = if place i = 0 then 0 else H (ix2 r k) := by
  unfold k0_pay11
  have h4 : Scalar.select (Scalar.cmpi .eq 4#32 0#32) 1#32 4#32 = 4#32 := by decide
  simp only [h4]
  rw [Cert.InGradIdeal.Point.place_word (i 0)]
  have e : (i 0).val % 4 = place i := rfl
  rw [e]
  have hp := place_lt i
  have hc : place i = 0 ∨ place i = 1 ∨ place i = 2 ∨ place i = 3 := by omega
  rcases hc with h | h | h | h <;> rw [h]
  · exact Cert.Fin.lit_zero
  · rfl
  · rfl
  · rfl

/-- The smaller of a position and a window's width. -/
theorem count (i : grid0.Coords) (r : Fin 512) (w : ℕ) (hw : w < 2048) :
    (FloatOps.sitofp .f32 (IntOp.minsi (BitVec.ofNat 32 (place i * 512 + r.val + 1)) (BitVec.ofNat 32 w)) : Ideal .f32)
      = (((min (place i * 512 + r.val + 1) w : ℕ) : ℝ) : EReal) :=
  Cert.Pool.count_real (place i * 512 + r.val) w (by have := place_lt i; omega) hw

theorem pay13 (i : grid0.Coords) (r : Fin 512) (k : Fin 128) : k0_pay13 (F := Ideal) i (ix2 r k) = (1 / ((min (place i * 512 + r.val + 1) 2 : ℕ) : ℝ) : ℝ) := by
  pointwise [k0_pay13, pay12, lit_one]
  rw [count i r 2 (by norm_num), div_real _ (Cert.Pool.count_ne _ _ (by norm_num))]

/-! ### The windows' sums -/

/-- A block of rows added to itself rotated down by `k` rows, where the rows do not wrap around. -/
theorem rot_down {n : ℕ} (a : BitVec 32) (k L : ℕ) (ha : a.toNat = k) (hk : k < 528) (z : FVec Ideal (⟨2, ![528, n]⟩ : Shape) .f32) (f : ℕ → Fin n → ℝ)
    (hz : ∀ (r : Fin 528) c, L ≤ r.val → z (ix2 r c) = (f r.val c : EReal)) (h : (⟨2, ![528, n]⟩ : Shape).Rotates 0 none)
    (r : Fin 528) (c : Fin n) (hr : L + k ≤ r.val) :
    (addf z (dynamicRotate 0 a none z h) : FVec Ideal (⟨2, ![528, n]⟩ : Shape) .f32) (ix2 r c) = ((f r.val c + f (r.val - k) c : ℝ) : EReal) := by
  have hk' : (r.val + 528 - a.toNat % 528) % 528 = r.val - k := by
    rw [ha, Nat.mod_eq_of_lt hk]; omega
  have hz' := hz ⟨r.val - k, by omega⟩ c (by show L ≤ r.val - k; omega)
  pointwise [hz r c (by omega)]
  rw [EReal.coe_add, ← hz']
  refine congrArg (_ + ·) (congrArg z (funext fun a => Fin.ext ?_))
  match a with
  | ⟨0, _⟩ => exact hk'
  | ⟨1, _⟩ => rfl

/-- The sum over the `w` entries that end at `n`. -/
def back (e : ℕ → ℝ) (w n : ℕ) : ℝ := ∑ j ∈ Finset.range w, e (n - j)

theorem back_double (e : ℕ → ℝ) (w n : ℕ) : back e w n + back e w (n - w) = back e (w + w) n := by
  unfold back
  rw [Finset.sum_range_add]
  exact congrArg _ (Finset.sum_congr rfl fun j _ => congrArg e (Nat.sub_sub _ _ _))

/-- A sequence's entries after sixteen zeros. -/
def late (x : Fin 2048 → ℝ) (n : ℕ) : ℝ := if 16 ≤ n then ext x (n - 16) else 0

theorem back_late (x : Fin 2048 → ℝ) (w s : ℕ) (hw : w ≤ 16) : back (late x) w (16 + s) = win x w s := by
  unfold back win
  refine Finset.sum_congr rfl fun j hj => ?_
  have := Finset.mem_range.mp hj
  unfold late lag
  by_cases h : j ≤ s
  · rw [if_pos h, if_pos (by omega)]; exact congrArg _ (by omega)
  · rw [if_neg h, if_neg (by omega)]

section Pay
variable {i : grid0.Coords} {X : Vec Ideal S512x512 .f32} {H : FVec Ideal S16x512 .f32} {x : Fin 512 → Fin 2048 → ℝ}
  (hX : ∀ (r : Fin 512) (c : Fin 512), X (ix2 r c) = (late (x c) (place i * 512 + (16 + r.val)) : EReal))
  (hH : ∀ (r : Fin 16) (c : Fin 512), H (ix2 r c) = (late (x c) (place i * 512 + r.val) : EReal))
include hX hH

theorem pay15 (r : Fin 528) (c : Fin 512) (hr : 1 ≤ r.val) :
    k0_pay15 X H (ix2 r c) = (back (late (x c)) 2 (place i * 512 + r.val) : EReal) := by
  unfold k0_pay15
  refine (rot_down _ 1 0 (by decide) (by norm_num) _ (fun r c => late (x c) (place i * 512 + r)) (fun r c _ => ?_) _ r c (by omega)).trans ?_
  · pointwise [hX, hH]
    split_ifs with h
    · rfl
    · exact congrArg (fun n => ((late (x c) (place i * 512 + n) : ℝ) : EReal)) (by show 16 + (r.val - 16) = r.val; omega)
  · refine congrArg Real.toEReal ?_
    unfold back
    rw [Finset.sum_range_succ, Finset.sum_range_one]
    show _ = late (x c) (place i * 512 + r.val - 0) + _
    rw [Nat.sub_zero, Nat.add_sub_assoc hr]

theorem pay16 (r : Fin 528) (c : Fin 384) (hr : 3 ≤ r.val) (k : Fin 512) (hk : k.val = 128 + c.val) :
    k0_pay16 X H (ix2 r c) = (back (late (x k)) 4 (place i * 512 + r.val) : EReal) := by
  rw [show k = ⟨128 + c.val, by clear hk; omega⟩ from Fin.ext hk]
  unfold k0_pay16
  refine (rot_down _ 2 1 (by decide) (by norm_num) _ (fun r c => back (late (x ⟨128 + c.val, by omega⟩)) 2 (place i * 512 + r)) (fun r c hr => ?_) _ r c (by omega)).trans ?_
  · pointwise []
    exact pay15 hX hH _ _ hr
  · refine congrArg Real.toEReal ?_
    rw [show place i * 512 + (r.val - 2) = place i * 512 + r.val - 2 by omega]
    exact back_double _ 2 _

theorem pay17 (r : Fin 528) (c : Fin 256) (hr : 7 ≤ r.val) (k : Fin 512) (hk : k.val = 256 + c.val) :
    k0_pay17 X H (ix2 r c) = (back (late (x k)) 8 (place i * 512 + r.val) : EReal) := by
  rw [show k = ⟨256 + c.val, by clear hk; omega⟩ from Fin.ext hk]
  unfold k0_pay17
  refine (rot_down _ 4 3 (by decide) (by norm_num) _ (fun r c => back (late (x ⟨256 + c.val, by omega⟩)) 4 (place i * 512 + r)) (fun r c hr => ?_) _ r c (by omega)).trans ?_
  · pointwise []
    exact pay16 hX hH _ _ hr ⟨256 + c.val, by omega⟩ (by show 256 + c.val = 128 + (128 + c.val); omega)
  · refine congrArg Real.toEReal ?_
    rw [show place i * 512 + (r.val - 4) = place i * 512 + r.val - 4 by omega]
    exact back_double _ 4 _

/-- The average over a window, less the entry itself. -/
def less (x : Fin 2048 → ℝ) (w s : ℕ) : ℝ := win x w s / ((min (s + 1) w : ℕ) : ℝ) - ext x s

omit hX hH in
theorem less_eq (c : Fin 512) (w : ℕ) (hw : w ≤ 16) (r : Fin 512) (n : ℕ) (hn : n = 16 + r.val) :
    back (late (x c)) w (place i * 512 + n) * (1 / ((min (place i * 512 + r.val + 1) w : ℕ) : ℝ)) - late (x c) (place i * 512 + (16 + r.val))
      = less (x c) w (place i * 512 + r.val) := by
  subst hn
  unfold less
  rw [show place i * 512 + (16 + r.val) = 16 + (place i * 512 + r.val) by omega, back_late _ _ _ hw, mul_one_div]
  unfold late
  rw [if_pos (by omega), Nat.add_sub_cancel_left]

theorem pay21 {V : FVec Ideal S512x128 .f32} (hV : ∀ (r : Fin 512) (k : Fin 128), V (ix2 r k) = (1 / ((min (place i * 512 + r.val + 1) 2 : ℕ) : ℝ) : ℝ))
    (r : Fin 512) (k : Fin 128) : k0_pay21 X H V (ix2 r k) = (less (x (col 0 k)) 2 (place i * 512 + r.val) : EReal) := by
  have e (h) : (⟨k.val, h⟩ : Fin 512) = col 0 k := Fin.ext (by show k.val = 128 * 0 + k.val; omega)
  have hp (h) := pay15 hX hH ⟨16 + r.val, h⟩ (col 0 k) (by show 1 ≤ 16 + r.val; omega)
  rw [← less_eq (i := i) (col 0 k) 2 (by norm_num) r _ rfl]
  pointwise [k0_pay21, hX, hV, hp, e, ← EReal.coe_mul, ← EReal.coe_sub]

theorem pay18 {V : IVec S512x128 32} (hV : ∀ r k, V (ix2 r k) = BitVec.ofNat 32 (place i * 512 + r.val + 1)) {V' : IVec S512x128 32}
    (hV' : ∀ r k, V' (ix2 r k) = 4#32) (r : Fin 512) (k : Fin 128) :
    k0_pay18 X H V V' (ix2 r k) = (less (x (col 1 k)) 4 (place i * 512 + r.val) : EReal) := by
  have hp (h h') := pay16 hX hH ⟨16 + r.val, h⟩ ⟨k.val, h'⟩ (by show 3 ≤ 16 + r.val; omega) (col 1 k) rfl
  rw [← less_eq (i := i) (col 1 k) 4 (by norm_num) r _ rfl]
  pointwise [k0_pay18, hX, hV, hV', hp, lit_one]
  rw [count i r 4 (by norm_num), div_real _ (Cert.Pool.count_ne _ _ (by norm_num)), ← EReal.coe_mul, ← EReal.coe_sub]
  rfl

theorem pay19 {V : IVec S512x128 32} (hV : ∀ r k, V (ix2 r k) = BitVec.ofNat 32 (place i * 512 + r.val + 1)) (r : Fin 512) (k : Fin 128) :
    k0_pay19 X H V (ix2 r k) = (less (x (col 2 k)) 8 (place i * 512 + r.val) : EReal) := by
  have hp (h h') := pay17 hX hH ⟨16 + r.val, h⟩ ⟨k.val, h'⟩ (by show 7 ≤ 16 + r.val; omega) (col 2 k) rfl
  rw [← less_eq (i := i) (col 2 k) 8 (by norm_num) r _ rfl]
  pointwise [k0_pay19, hX, hV, hp, lit_one]
  rw [count i r 8 (by norm_num), div_real _ (Cert.Pool.count_ne _ _ (by norm_num)), ← EReal.coe_mul, ← EReal.coe_sub]
  rfl

theorem pay20 {V : IVec S512x128 32} (hV : ∀ r k, V (ix2 r k) = BitVec.ofNat 32 (place i * 512 + r.val + 1)) (r : Fin 512) (k : Fin 128) :
    k0_pay20 X H V (ix2 r k) = (less (x (col 3 k)) 16 (place i * 512 + r.val) : EReal) := by
  rw [← less_eq (i := i) (col 3 k) 16 (by norm_num) r _ rfl]
  pointwise [k0_pay20, hX, hV, lit_one]
  have e (h) : (⟨(16 + r.val + 528 - 8) % 528, h⟩ : Fin 528) = ⟨8 + r.val, by omega⟩ := Fin.ext (by
    show (16 + r.val + 528 - 8) % 528 = 8 + r.val
    omega)
  have h1 (h h') := pay17 hX hH ⟨16 + r.val, h⟩ ⟨128 + k.val, h'⟩ (by show 7 ≤ 16 + r.val; omega) (col 3 k) (by show 128 * 3 + k.val = 256 + (128 + k.val); omega)
  have h2 (h h') := pay17 hX hH ⟨8 + r.val, h⟩ ⟨128 + k.val, h'⟩ (by show 7 ≤ 8 + r.val; omega) (col 3 k) (by show 128 * 3 + k.val = 256 + (128 + k.val); omega)
  have e2 : place i * 512 + (8 + r.val) = place i * 512 + (16 + r.val) - 8 := by omega
  rw [count i r 16 (by norm_num), div_real _ (Cert.Pool.count_ne _ _ (by norm_num)), e, h1, h2, ← EReal.coe_add, e2, back_double,
    ← EReal.coe_mul, ← EReal.coe_sub]
  rfl

end Pay

end Cert.MixIdeal.Point
end
-- ==== Proof.MixPoint.lean ====
/-
  The mixers' backward: the values the kernel forms of one tile, operation by operation, on real numbers.
-/
module

public import proofs.«01_k».proof.Proof.MixPool
public import proofs.«01_k».proof.Proof.Rows

@[expose] public section

set_option maxRecDepth 16384

noncomputable section

namespace Cert.MixIdeal.Point

open Cert.MixIdeal Cert.MixIdeal.Gen Cert.Fin Cert.Mixer Idealize.ShloMosaic Idealize.ShloMosaic.TcCoe Idealize.SL.Sem
open Cert.Pool (tok col ext ext_of_lt)

/-- Row `r` of tile `t` among the 8192 rows. -/
abbrev row (t : Fin cfg0.N) (r : Fin 512) : Fin 8192 := ⟨512 * t.val + r.val, by have : t.val < 16 := t.isLt; omega⟩

/-- A matrix holds the real numbers `f`. -/
def Rd {n k : ℕ} (v : (⟨2, ![n, k]⟩ : Shape).Idx → EReal) (f : Fin n → Fin k → ℝ) : Prop := ∀ i j, v (ix2 i j) = (f i j : EReal)

/-- The chunk `c` of tile `t`, among the 64. -/
abbrev chunkAt (t : Fin cfg0.N) (c : Fin 4) : Fin 64 := ⟨4 * t.val + c.val, by have : t.val < 16 := t.isLt; omega⟩

theorem row_col (t : Fin cfg0.N) (c : Fin 4) (i : Fin 128) : row t (col c i) = at' (chunkAt t c) i :=
  Fin.ext (by show 512 * t.val + (128 * c.val + i.val) = 128 * (4 * t.val + c.val) + i.val; omega)

theorem cast_rd {n k : ℕ} {v : FVec Ideal (⟨2, ![n, k]⟩ : Shape) .f32} {f : Fin n → Fin k → ℝ} (h : Rd v f) {hb} :
    Rd (truncf .bf16 v hb : FVec Ideal (⟨2, ![n, k]⟩ : Shape) .bf16) f := fun i j => by
  pointwise [h i j]

/-- A block of a matrix. -/
theorem block_rd {n k n' k' : ℕ} {φ : FTy} {v : FVec Ideal (⟨2, ![n, k]⟩ : Shape) φ} {f : Fin n → Fin k → ℝ} (h : Rd v f) {o p : ℕ} {hs}
    {g : Fin n' → Fin k' → ℝ} (hg : ∀ i j r c, r.val = o + i.val → c.val = p + j.val → f r c = g i j) :
    Rd (extractStridedSlice (⟨2, ![n', k']⟩ : Shape) ![o, p] v hs : FVec Ideal (⟨2, ![n', k']⟩ : Shape) φ) g := fun i j => by
  pointwise []
  rw [Shape.Idx.norm2]
  refine (h _ _).trans (congrArg Real.toEReal (hg i j _ _ ?_ ?_)) <;> rfl

variable {a : In} {t : Fin cfg0.N} {c h : Fin 4} {D : FVec Ideal S512x1024 .f32} {N : FVec Ideal S512x512 .bf16} {U : FVec Ideal S512x512 .f32}
  {W : FVec Ideal S128x128 .bf16} {B : FVec Ideal S128x128 .f32}

/-! ### The spatial mixing, chunk by chunk -/

theorem dch_rd (hd : Rd D fun r k => a.dmix (row t r) k) {o p : ℕ} (ho : o = 128 * c.val) (hp : p = 512 + 128 * h.val) {hs} :
    Rd (extractStridedSlice S128x128 ![o, p] D hs : FVec Ideal S128x128 .f32) fun i k => a.dch (row t (col c i)) (col h k) :=
  block_rd hd fun i j r c' hr hc => by
    rw [show r = col c i from Fin.ext (by rw [hr, ho]), show c' = hi (col h j) from Fin.ext (by rw [hc, hp]; exact Nat.add_assoc _ _ _)]
    rfl

theorem vln_rd (hn : Rd N fun r k => a.vln (row t r) k) {o p : ℕ} (ho : o = 128 * c.val) (hp : p = 128 * h.val) {hs} :
    Rd (extractStridedSlice S128x128 ![o, p] N hs : FVec Ideal S128x128 .bf16) fun i k => a.vln (row t (col c i)) (col h k) :=
  block_rd hn fun i j r c' hr hc => by
    rw [show r = col c i from Fin.ext (by rw [hr, ho]), show c' = col h j from Fin.ext (by rw [hc, hp])]

theorem dmx_rd {X : FVec Ideal S128x128 .f32} (hx : Rd X fun i k => a.dch (row t (col c i)) (col h k)) (hu : Rd U fun r k => a.u (row t r) k)
    {o p : ℕ} (ho : o = 128 * c.val) (hp : p = 128 * h.val) {hs} :
    Rd (mulf X (extractStridedSlice S128x128 ![o, p] U hs) : FVec Ideal S128x128 .f32) fun i k => a.dmx (row t (col c i)) (col h k) := fun i k => by
  have e : Rd (extractStridedSlice S128x128 ![o, p] U hs : FVec Ideal S128x128 .f32) fun i k => a.u (row t (col c i)) (col h k) :=
    block_rd hu fun i j r c' hr hc => by
      rw [show r = col c i from Fin.ext (by rw [hr, ho]), show c' = col h j from Fin.ext (by rw [hc, hp])]
  exact (congrArg₂ (· * ·) (hx i k) (e i k)).trans (EReal.coe_mul _ _).symm

theorem du_rd {X : FVec Ideal S128x128 .f32} (hx : Rd X fun i k => a.dch (row t (col c i)) (col h k)) (hw : Rd W (a.w h)) {Y : FVec Ideal S128x128 .bf16}
    (hy : Rd Y fun i k => a.vln (row t (col c i)) (col h k)) (hb : Rd B fun i _ => a.U h i) {hs} :
    Rd (shapeCast S128x128 (mulf X (addf (matmul dot_S128x128_S128x128_S128x128_1_0_0_1_n_n none W Y (constant S128x128 .f32 0x00000000#32)) B)) hs
      : FVec Ideal S128x128 .f32) fun i k => a.du (row t (col c i)) (col h k) := fun i k => by
  have e : a.du (row t (col c i)) (col h k) = a.dch (row t (col c i)) (col h k) * (∑ j, a.w h i j * a.vln (row t (col c j)) (col h k) + a.U h i) := by
    simp only [row_col]; unfold In.du; rw [a.mixed_at]
  show _ = ((a.du (row t (col c i)) (col h k) : ℝ) : EReal)
  rw [e]
  pointwise [dot_S128x128_S128x128_S128x128_1_0_0_1_n_n, hx _ _, hw _ _, hy _ _, hb _ _, ← EReal.coe_mul, sum_coe, ← EReal.coe_add]

theorem dvln_rd (hw : Rd W (a.w h)) {Y : FVec Ideal S128x128 .bf16} (hy : Rd Y fun i k => a.dmx (row t (col c i)) (col h k)) {hs} :
    Rd (shapeCast S128x128 (matmul dot_S128x128_S128x128_S128x128_0_0_1_1_n_n none W Y (constant S128x128 .f32 0x00000000#32)) hs
      : FVec Ideal S128x128 .f32) fun i k => a.dvln (row t (col c i)) (col h k) := fun i k => by
  have e : a.dvln (row t (col c i)) (col h k) = ∑ j, a.w h j i * a.dmx (row t (col c j)) (col h k) := by
    simp only [row_col]; rw [a.dvln_at]
  show _ = ((a.dvln (row t (col c i)) (col h k) : ℝ) : EReal)
  rw [e]
  pointwise [dot_S128x128_S128x128_S128x128_0_0_1_1_n_n, hw _ _, hy _ _, ← EReal.coe_mul, sum_coe, ← EReal.coe_add]

/-- What a chunk adds to the gradient of the mixing weights. -/
theorem pair_rd {X Y : FVec Ideal S128x128 .bf16} (hx : Rd X fun i k => a.dmx (row t (col c i)) (col h k)) (hy : Rd Y fun i k => a.vln (row t (col c i)) (col h k)) :
    Rd (matmul dot_S128x128_S128x128_S128x128_1_1_0_0_n_n none X Y (constant S128x128 .f32 0x00000000#32) : FVec Ideal S128x128 .f32)
      fun i s => ∑ k, a.dmx (row t (col c i)) (col h k) * a.vln (row t (col c s)) (col h k) := fun i s => by
  pointwise [dot_S128x128_S128x128_S128x128_1_1_0_0_n_n, hx _ _, hy _ _, ← EReal.coe_mul, sum_coe, ← EReal.coe_add]

/-- Four chunks' parts, added one by one to zero. -/
theorem four_rd {X0 X1 X2 X3 : FVec Ideal S128x128 .f32} {f : Fin 4 → Fin 128 → Fin 128 → ℝ} (h0 : Rd X0 (f 0)) (h1 : Rd X1 (f 1)) (h2 : Rd X2 (f 2)) (h3 : Rd X3 (f 3)) :
    Rd (addf (addf (addf (addf (broadcast S128x128 (Scalar.ofBits .f32 0x00000000#32)) X0) X1) X2) X3 : FVec Ideal S128x128 .f32) fun i k => ∑ c, f c i k := fun i k => by
  show _ = ((∑ c, f c i k : ℝ) : EReal)
  rw [Fin.sum_univ_four]
  pointwise [h0 _ _, h1 _ _, h2 _ _, h3 _ _, ← EReal.coe_add, lit_zero]

/-- The mixing weights that stay. -/
theorem mask_rd : Rd (k0_pay63 (F := Ideal)) In.tri := fun i k => by
  pointwise [k0_pay63]
  have e : ∀ i k : Fin 128, (BitVec.setWidth 32 (IntOp.cmpi .sge (BitVec.ofNat 32 i.val) (BitVec.ofNat 32 k.val))).toInt = if k ≤ i then 1 else 0 := by decide +kernel
  show (((BitVec.setWidth 32 (IntOp.cmpi .sge (BitVec.ofNat 32 i.val) (BitVec.ofNat 32 k.val))).toInt : ℝ) : EReal) = _
  rw [e]
  unfold In.tri
  split_ifs <;> norm_num

theorem weight_rd {L : Vec Ideal S1x128x128 .f32} (hl : ∀ i k, L (ix3 0 i k) = (a.W h i k : EReal)) {M : FVec Ideal S128x128 .f32} (hm : Rd M In.tri) {h1 h2} :
    Rd (truncf .bf16 (mulf (shapeCast S128x128 L h1) M) h2 : FVec Ideal S128x128 .bf16) (a.w h) := fun i k => by
  pointwise [hl, hm _ _, ← EReal.coe_mul]
  rfl

theorem bias_rd {L : Vec Ideal S1x128x128 .f32} (hl : ∀ i k, L (ix3 0 i k) = (a.U h i : EReal)) {h1} :
    Rd (shapeCast S128x128 L h1 : FVec Ideal S128x128 .f32) fun i _ => a.U h i := fun i k => by
  pointwise [hl]

/-- The running sum of the mixing weights' gradient. -/
theorem gsw_pay {L : Vec Ideal S1x128x128 .f32} {X M : FVec Ideal S128x128 .f32} {f : Fin 128 → Fin 128 → ℝ} (hx : Rd X f) (hm : Rd M In.tri) {h1 h2} (i k : Fin 128) :
    (shapeCast S1x128x128 (addf (shapeCast S128x128 L h1) (mulf X M)) h2 : FVec Ideal S1x128x128 .f32) (ix3 0 i k)
      = L (ix3 0 i k) + ((f i k * In.tri i k : ℝ) : EReal) := by
  pointwise [hx _ _, hm _ _, ← EReal.coe_mul]

/-- The running sum of the mixing bias's gradient, before its rows are summed. -/
theorem gsb_pay {L : Vec Ideal S1x128x128 .f32} {X : FVec Ideal S128x128 .f32} {f : Fin 128 → Fin 128 → ℝ} (hx : Rd X f) {h1 h2} (i k : Fin 128) :
    (shapeCast S1x128x128 (addf (shapeCast S128x128 L h1) X) h2 : FVec Ideal S1x128x128 .f32) (ix3 0 i k) = L (ix3 0 i k) + (f i k : EReal) := by
  pointwise [hx _ _]

/-- A matrix's rows summed, each sum along its whole row. -/
theorem rows_pay (L : Vec Ideal S1x128x128 .f32) (i k : Fin 128) : k0_pay2 (F := Ideal) L (ix3 0 i k) = ∑ j, L (ix3 0 i j) := by
  pointwise [k0_pay2]

/-! ### The averaged half, group by group -/

theorem dpo_rd {g : Fin 4} (hd : Rd D fun r k => a.dmix (row t r) k) {p : ℕ} (hp : p = 128 * g.val) {hs} :
    Rd (extractStridedSlice S512x128 ![0, p] D hs : FVec Ideal S512x128 .f32) fun r k => a.dpo (row t r) (col g k) :=
  block_rd hd fun i j r c' hr hc => by
    rw [show r = i from Fin.ext (by rw [hr, Nat.zero_add]), show c' = lo (col g j) from Fin.ext (by rw [hc, hp])]
    rfl

theorem dps_rd {g : Fin 4} {X : FVec Ideal S512x128 .f32} (hx : Rd X fun r k => a.dpo (row t r) (col g k)) {L : Vec Ideal S1x128 .f32}
    (hl : ∀ k, L (ix2 0 k) = (a.S (col g k) : EReal)) {h1 h2 h3} :
    Rd (truncf .bf16 (mulf X (broadcastTo S512x128 (shapeCast S1x128 L h1) h2)) h3 : FVec Ideal S512x128 .bf16) fun r k => a.dps (row t r) (col g k) := fun r k => by
  pointwise [hx _ _, hl, ← EReal.coe_mul]
  rfl

theorem gw_rd {g : Fin 4} {L : Vec Ideal S1x128x128 .f32} (hl : ∀ i k, L (ix3 0 i k) = (a.P g i k : EReal)) {h1 h2} :
    Rd (truncf .bf16 (shapeCast S128x128 L h1 : FVec Ideal S128x128 .f32) h2 : FVec Ideal S128x128 .bf16) (a.P g) := fun i k => by
  pointwise [hl]

theorem dpool_rd {g : Fin 4} {X : FVec Ideal S512x128 .bf16} (hx : Rd X fun r k => a.dps (row t r) (col g k)) {P : FVec Ideal S128x128 .bf16} (hp : Rd P (a.P g)) :
    Rd (matmul dot_S512x128_S128x128_S512x128_1_1_0_0_n_n none X P (constant S512x128 .f32 0x00000000#32) : FVec Ideal S512x128 .f32)
      fun r k => a.dpool (row t r) (col g k) := fun r k => by
  show _ = ((a.dpool (row t r) (col g k) : ℝ) : EReal)
  rw [a.dpool_at]
  pointwise [dot_S512x128_S128x128_S512x128_1_1_0_0_n_n, hx _ _, hp _ _, ← EReal.coe_mul, sum_coe, ← EReal.coe_add]

theorem gpw_pay {g : Fin 4} {Q X : FVec Ideal S512x128 .bf16} (hq : Rd Q fun r k => a.pooled (row t r) (col g k)) (hx : Rd X fun r k => a.dps (row t r) (col g k))
    {L : Vec Ideal S1x128x128 .f32} {h1 h2} (k d : Fin 128) :
    (shapeCast S1x128x128 (addf (shapeCast S128x128 L h1) (matmul dot_S512x128_S512x128_S128x128_0_0_1_1_n_n none Q X (constant S128x128 .f32 0x00000000#32))) h2
      : FVec Ideal S1x128x128 .f32) (ix3 0 k d) = L (ix3 0 k d) + ((∑ r, a.pooled (row t r) (col g k) * a.dps (row t r) (col g d) : ℝ) : EReal) := by
  pointwise [dot_S512x128_S512x128_S128x128_0_0_1_1_n_n, hq _ _, hx _ _, ← EReal.coe_mul, sum_coe, ← EReal.coe_add]

theorem scale_pay {g : Fin 4} {X : FVec Ideal S512x128 .f32} (hx : Rd X fun r k => a.dpo (row t r) (col g k)) {Q : FVec Ideal S512x128 .bf16}
    (hq : Rd Q fun r k => a.pooled (row t r) (col g k)) {P : FVec Ideal S128x128 .bf16} (hp : Rd P (a.P g)) {L : Vec Ideal S1x128 .f32} {h1 h2 h3 h4 h5} (k : Fin 128) :
    (addf (shapeCast S1x128 L h1) (shapeCast S1x128 (multiReduction .add [0] S128 (mulf X (matmul dot_S512x128_S128x128_S512x128_1_0_0_1_n_n none Q P
      (constant S512x128 .f32 0x00000000#32))) 0x00000000#32 h2 h3 h4) h5) : FVec Ideal S1x128 .f32) (ix2 0 k)
      = L (ix2 0 k) + ((∑ r, a.dpo (row t r) (col g k) * a.po (row t r) (col g k) : ℝ) : EReal) := by
  simp only [a.po_at]
  pointwise [dot_S512x128_S128x128_S512x128_1_0_0_1_n_n, hx _ _, hq _ _, hp _ _, ← EReal.coe_mul, sum_coe, ← EReal.coe_add]

/-! ### The activation and the norm -/

theorem inv_root : Named.named (F := Ideal) Cert.MixIdeal.κ "inv_sqrt_two" (φ := .f32) 0x3F3504F3#32 = (((Real.sqrt 2)⁻¹ : ℝ) : EReal) :=
  IdealRules.named_const.ideal_named_scalar _ _ _ _ rfl

theorem dens : Named.named (F := Ideal) Cert.MixIdeal.κ "density" (φ := .f32) 0x3ECC422A#32 = (((9465531 / 8388608) * (2 * (Real.sqrt 2))⁻¹ : ℝ) : EReal) :=
  IdealRules.named_const.ideal_named_scalar _ _ _ _ rfl

section Act
variable {Z : Vec Ideal S512x1024 .bf16} (hz : Rd Z fun r k => a.Z (row t r) k)
include hz

theorem z_rd : Rd (k0_pay50 (F := Ideal) Z) fun r k => a.Z (row t r) k := fun r k => by
  pointwise [k0_pay50, hz _ _]

theorem cdf_rd : Rd (k0_pay51 (F := Ideal) Z) fun r k => cdf (a.Z (row t r) k) := fun r k => by
  pointwise [k0_pay51, z_rd hz _ _, inv_root, ← EReal.coe_mul, erf_real, lit_one, lit_half, ← EReal.coe_add]
  rfl

theorem pdf_rd : Rd (k0_pay52 (F := Ideal) Z) fun r k => pdf (a.Z (row t r) k) := fun r k => by
  pointwise [k0_pay52, z_rd hz _ _, dens, ← EReal.coe_mul, lit_neg_half]
  rfl

theorem u_rd : Rd (k0_pay54 (F := Ideal) Z) fun r c => a.u (row t r) c := fun r c => by
  pointwise [k0_pay54, k0_pay53, z_rd hz _ _, cdf_rd hz _ _, ← EReal.coe_mul]
  rfl

theorem v_rd : Rd (k0_pay55 (F := Ideal) Z) fun r c => a.v (row t r) c := fun r c => by
  pointwise [k0_pay55, k0_pay53, z_rd hz _ _, cdf_rd hz _ _, ← EReal.coe_mul]
  rfl

theorem mean_rd : Rd (k0_pay58 (F := Ideal) Z) fun r _ => mean (a.v (row t r)) := fun r c => by
  pointwise [k0_pay58, v_rd hz _ _, sum_coe, lit_512]
  rw [div_real _ (by norm_num)]
  rfl
end Act

theorem slope_rd {X Y V : FVec Ideal S512x1024 .f32} (hx : Rd X fun r k => a.Z (row t r) k) (hy : Rd Y fun r k => cdf (a.Z (row t r) k))
    (hv : Rd V fun r k => pdf (a.Z (row t r) k)) : Rd (k0_pay198 (F := Ideal) X Y V) fun r k => slope (a.Z (row t r) k) := fun r k => by
  pointwise [k0_pay198, hx _ _, hy _ _, hv _ _, ← EReal.coe_mul, ← EReal.coe_add]
  rfl

section Norm
variable {V : FVec Ideal S512x512 .f32} {M : FVec Ideal S512x1 .f32} (hv : Rd V fun r c => a.v (row t r) c) (hm : Rd M fun r _ => mean (a.v (row t r)))
include hv hm

theorem dev_rd : Rd (k0_pay59 (F := Ideal) V M) fun r c => a.v (row t r) c - mean (a.v (row t r)) := fun r c => by
  pointwise [k0_pay59, hv _ _, hm _ _, ← EReal.coe_sub]

theorem rstd_rd : Rd (k0_pay60 (F := Ideal) V M) fun r _ => rstd (a.v (row t r)) := fun r c => by
  pointwise [k0_pay60, dev_rd hv hm _ _, ← EReal.coe_mul, sum_coe, lit_512, lit_eps]
  rw [div_real _ (by norm_num), ← EReal.coe_add]
  exact Cert.Mixer.rstd_real (a.v (row t r))

theorem xhat_rd : Rd (k0_pay61 (F := Ideal) V M) fun r c => xhat (a.v (row t r)) c := fun r c => by
  pointwise [k0_pay61, dev_rd hv hm _ _, rstd_rd hv hm _ _, ← EReal.coe_mul]
  rfl

theorem norm_rd {L L' : Vec Ideal S1x512 .f32} (hg : ∀ k, L (ix2 0 k) = (a.G k : EReal)) (hb : ∀ k, L' (ix2 0 k) = (a.B k : EReal)) {h1 h2} :
    Rd (k0_pay62 (F := Ideal) V (shapeCast S1x512 L h1) (shapeCast S1x512 L' h2) M) fun r c => a.vln (row t r) c := fun r c => by
  pointwise [k0_pay62, xhat_rd hv hm _ _, hg, hb, ← EReal.coe_mul, ← EReal.coe_add]
  rfl
end Norm

/-! ### The gradient of the activation's input, and the rows of sums -/

theorem left_pay {X : FVec Ideal S512x1024 .f32} (hx : Rd X fun r k => slope (a.Z (row t r) k)) {Y : Vec Ideal S512x512 .f32}
    (hy : ∀ r k, Y (ix2 r k) = (a.du (row t r) k : EReal)) (r c : Fin 512) : k0_pay199 (F := Ideal) X Y (ix2 r c) = (a.dpre (row t r) (lo c) : EReal) := by
  have e : a.dpre (row t r) (lo c) = a.du (row t r) c * slope (a.Z (row t r) (lo c)) := by
    unfold In.dpre In.dz
    rw [dif_pos c.isLt]
  rw [e]
  pointwise [k0_pay199, hx _ _, hy _ _, ← EReal.coe_mul]

theorem right_pay {R : FVec Ideal S512x1 .f32} (hr : Rd R fun r _ => rstd (a.v (row t r))) {H : FVec Ideal S512x512 .f32} (hh : Rd H fun r c => xhat (a.v (row t r)) c)
    {Y : Vec Ideal S512x512 .f32} (hy : ∀ r k, Y (ix2 r k) = (a.dvln (row t r) k : EReal)) {X : FVec Ideal S512x1024 .f32} (hx : Rd X fun r k => slope (a.Z (row t r) k))
    {L : Vec Ideal S1x512 .f32} (hg : ∀ k, L (ix2 0 k) = (a.G k : EReal)) (r c : Fin 512) :
    k0_pay200 (F := Ideal) R H Y X L (ix2 r c) = (a.dpre (row t r) (hi c) : EReal) := by
  have e : a.dpre (row t r) (hi c) = lnBwd (a.v (row t r)) (fun c => a.dvln (row t r) c * a.G c) c * slope (a.Z (row t r) (hi c)) := by
    unfold In.dpre In.dz
    rw [dif_neg (by show ¬ 512 + c.val < 512; omega)]
    refine congrArg (fun n => lnBwd (a.v (row t r)) (fun c => a.dvln (row t r) c * a.G c) n * _) (Fin.ext ?_)
    show 512 + c.val - 512 = c.val
    omega
  rw [e]
  pointwise [k0_pay200, hr _ _, hh _ _, hy _ _, hx _ _, hg, ← EReal.coe_mul, sum_coe, lit_512]
  simp only [div_real _ (show (512 : ℝ) ≠ 0 by norm_num), ← EReal.coe_mul, ← EReal.coe_sub]
  rfl

theorem row1_pay {H : FVec Ideal S512x512 .f32} (hh : Rd H fun r c => xhat (a.v (row t r)) c) {Y : Vec Ideal S512x512 .f32}
    (hy : ∀ r k, Y (ix2 r k) = (a.dvln (row t r) k : EReal)) {L : Vec Ideal S1x512 .f32} (c : Fin 512) :
    k0_pay196 (F := Ideal) H Y L (ix2 0 c) = L (ix2 0 c) + ((∑ r, a.dvln (row t r) c * xhat (a.v (row t r)) c : ℝ) : EReal) := by
  pointwise [k0_pay196, hh _ _, hy _ _, ← EReal.coe_mul, sum_coe]

theorem row2_pay {Y : Vec Ideal S512x512 .f32} (hy : ∀ r k, Y (ix2 r k) = (a.dvln (row t r) k : EReal)) {L : Vec Ideal S1x512 .f32} (c : Fin 512) :
    k0_pay197 (F := Ideal) Y L (ix2 0 c) = L (ix2 0 c) + ((∑ r, a.dvln (row t r) c : ℝ) : EReal) := by
  pointwise [k0_pay197, hy _ _, sum_coe]

/-- The gradient of the joined outputs. -/
theorem dmix_rd {X : Vec Ideal S512x1024 .bf16} {O : Vec Ideal S1024x1024 .bf16} (hx : Rd X fun r k => a.D (row t r) k) (ho : Rd O a.O) :
    Rd (k0_pay10 (F := Ideal) X O) fun r k => a.dmix (row t r) k := fun r k => by
  pointwise [k0_pay10, dot_S512x1024_S1024x1024_S512x1024_1_1_0_0_n_n, hx _ _, ho _ _, ← EReal.coe_mul, sum_coe, ← EReal.coe_add]
  rfl

end Cert.MixIdeal.Point
end
-- ==== Proof.MixIdealRunA.lean ====
/-
  The body of the mixers' backward, run at the first point, where it clears its running sums first: what it leaves in each of its result buffers, as the list of
  its writes, over whatever the running sums held before.
-/
module

public import proofs.«01_k».proof.Proof.MixIdealBase

@[expose] public section

set_option maxRecDepth 16384

noncomputable section

namespace Cert.MixIdeal.Run

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (c : Dev nD) (i : grid0.Coords)
  (arg1 : Memref sig .tc .vmem S512x1024 .bf16) (harg1 : arg1.IsWhole)
  (arg2 : Memref sig .tc .vmem S512x512 .f32) (harg2 : arg2.IsWhole)
  (arg3 : Memref sig .tc .vmem S16x512 .f32) (harg3 : arg3.IsWhole)
  (arg4 : Memref sig .tc .vmem S512x1024 .bf16) (harg4 : arg4.IsWhole)
  (arg5 : Memref sig .tc .vmem S1024x1024 .bf16) (harg5 : arg5.IsWhole)
  (arg6 : Memref sig .tc .vmem S4x128x128 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S4x128x128 .f32) (harg10 : arg10.IsWhole)
  (arg11 : Memref sig .tc .vmem S4x128x128 .f32) (harg11 : arg11.IsWhole)
  (arg12 : Memref sig .tc .vmem S512x512 .f32) (harg12 : arg12.IsWhole)
  (arg13 : Memref sig .tc .vmem S512x1024 .bf16) (harg13 : arg13.IsWhole)
  (arg14 : Memref sig .tc .vmem S4x128x128 .f32) (harg14 : arg14.IsWhole)
  (arg15 : Memref sig .tc .vmem S4x128x128 .f32) (harg15 : arg15.IsWhole)
  (arg16 : Memref sig .tc .vmem S4x128x128 .f32) (harg16 : arg16.IsWhole)
  (arg17 : Memref sig .tc .vmem S8x512 .f32) (harg17 : arg17.IsWhole)
  (arg18 : Memref sig .tc .vmem S512x512 .f32) (harg18 : arg18.IsWhole)
  (arg19 : Memref sig .tc .vmem S512x512 .f32) (harg19 : arg19.IsWhole)
  (hf : First i) (hl : ¬Last i)
  (x0 : Vec F S512x1024 .bf16)  (x1 : Vec F S512x512 .f32)  (x2 : Vec F S16x512 .f32)  (x3 : Vec F S512x1024 .bf16)  (x4 : Vec F S1024x1024 .bf16)  (x5 : Vec F S4x128x128 .f32)  (x6 : Vec F S1x512 .f32)  (x7 : Vec F S1x512 .f32)  (x8 : Vec F S1x512 .f32)  (x9 : Vec F S4x128x128 .f32)  (x10 : Vec F S4x128x128 .f32)

set_option maxHeartbeats 4000000 in
/-- The run, with the writes it makes in each buffer it stores to. -/
noncomputable def runA :
    Σ' (L11 : List (View.Piece (Elt F) S512x512 .f32)), Σ' (L12 : List (View.Piece (Elt F) S512x1024 .bf16)), Σ' (L13 : List (View.Piece (Elt F) S4x128x128 .f32)), Σ' (L14 : List (View.Piece (Elt F) S4x128x128 .f32)), Σ' (L15 : List (View.Piece (Elt F) S4x128x128 .f32)), Σ' (L16 : List (View.Piece (Elt F) S8x512 .f32)), Σ' (L17 : List (View.Piece (Elt F) S512x512 .f32)), { L18 : List (View.Piece (Elt F) S512x512 .f32) //
      ∀ (E : Set ℕ) (K : PUnit → sProp 𝕄),
        iprop(ins c arg1 x0 arg2 x1 arg3 x2 arg4 x3 arg5 x4 arg6 x5 arg7 x6 arg8 x7 arg9 x8 arg10 x9 arg11 x10
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (iprop(ins c arg1 x0 arg2 x1 arg3 x2 arg4 x3 arg5 x4 arg6 x5 arg7 x6 arg8 x7 arg9 x8 arg10 x9 arg11 x10
              ∗ (∃ f, arg12.view.loc (c : Thread nD τ) ↦[arg12.view.set]{fullShare} arg12.view.writes (Elt F) f L11)
              ∗ (∃ f, arg13.view.loc (c : Thread nD τ) ↦[arg13.view.set]{fullShare} arg13.view.writes (Elt F) f L12)
              ∗ (∃ f, arg14.view.loc (c : Thread nD τ) ↦[arg14.view.set]{fullShare} arg14.view.writes (Elt F) f L13)
              ∗ (∃ f, arg15.view.loc (c : Thread nD τ) ↦[arg15.view.set]{fullShare} arg15.view.writes (Elt F) f L14)
              ∗ (∃ f, arg16.view.loc (c : Thread nD τ) ↦[arg16.view.set]{fullShare} arg16.view.writes (Elt F) f L15)
              ∗ (∃ f, arg17.view.loc (c : Thread nD τ) ↦[arg17.view.set]{fullShare} arg17.view.writes (Elt F) f L16)
              ∗ (∃ f, arg18.view.loc (c : Thread nD τ) ↦[arg18.view.set]{fullShare} arg18.view.writes (Elt F) f L17)
              ∗ (∃ f, arg19.view.loc (c : Thread nD τ) ↦[arg19.view.set]{fullShare} arg19.view.writes (Elt F) f L18)) -∗ K ⟨⟩))
          ⊢ wp frame (wpE (defs₀ (F := F)) Variants.none c none) E (cc0_bwd_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, fun E K => ?run⟩
  case run =>
    simp only [cc0_bwd_mix_eq_skeleton]; unfold cc0_bwd_mix_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    sl_exec (disch := first | sl_exact hf | sl_exact hl)
    sl_step
    iapply Hk
    isplitl [H0 H1 H2 H3 H4 H5 H6 H7 H8 H9 H10]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

theorem coverA_11 (y : S512x512.Idx) : ∃ pc ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hf hl x0 x1 x2 x3 x4 x5 x6 x7 x8 x9 x10).1, y ∈ pc.1.set :=
  View.cover_of_tiledBy (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hf hl x0 x1 x2 x3 x4 x5 x6 x7 x8 x9 x10).1 ![512, 128] (by sl_kernel_rfl) y

theorem coverA_12 (y : S512x1024.Idx) : ∃ pc ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hf hl x0 x1 x2 x3 x4 x5 x6 x7 x8 x9 x10).2.1, y ∈ pc.1.set :=
  View.cover_of_tiledBy (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hf hl x0 x1 x2 x3 x4 x5 x6 x7 x8 x9 x10).2.1 ![512, 512] (by sl_kernel_rfl) y

theorem coverA_13 (y : S4x128x128.Idx) : ∃ pc ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hf hl x0 x1 x2 x3 x4 x5 x6 x7 x8 x9 x10).2.2.1, y ∈ pc.1.set :=
  View.cover_of_tiledBy (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hf hl x0 x1 x2 x3 x4 x5 x6 x7 x8 x9 x10).2.2.1 ![1, 128, 128] (by sl_kernel_rfl) y

theorem coverA_14 (y : S4x128x128.Idx) : ∃ pc ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hf hl x0 x1 x2 x3 x4 x5 x6 x7 x8 x9 x10).2.2.2.1, y ∈ pc.1.set :=
  View.cover_of_tiledBy (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hf hl x0 x1 x2 x3 x4 x5 x6 x7 x8 x9 x10).2.2.2.1 ![1, 128, 128] (by sl_kernel_rfl) y

theorem coverA_15 (y : S4x128x128.Idx) : ∃ pc ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hf hl x0 x1 x2 x3 x4 x5 x6 x7 x8 x9 x10).2.2.2.2.1, y ∈ pc.1.set :=
  View.cover_of_tiledBy (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hf hl x0 x1 x2 x3 x4 x5 x6 x7 x8 x9 x10).2.2.2.2.1 ![1, 128, 128] (by sl_kernel_rfl) y

theorem coverA_16 (y : S8x512.Idx) : ∃ pc ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hf hl x0 x1 x2 x3 x4 x5 x6 x7 x8 x9 x10).2.2.2.2.2.1, y ∈ pc.1.set :=
  View.cover_of_tiledBy (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hf hl x0 x1 x2 x3 x4 x5 x6 x7 x8 x9 x10).2.2.2.2.2.1 ![1, 128] (by sl_kernel_rfl) y

end
end Cert.MixIdeal.Run
end
-- ==== Proof.MixIdealRunB.lean ====
/-
  The body of the mixers' backward, run at a point between the first and the last: what it leaves in each of its result buffers, as the list of
  its writes, over whatever the running sums held before.
-/
module

public import proofs.«01_k».proof.Proof.MixIdealBase

@[expose] public section

set_option maxRecDepth 16384

noncomputable section

namespace Cert.MixIdeal.Run

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (c : Dev nD) (i : grid0.Coords)
  (arg1 : Memref sig .tc .vmem S512x1024 .bf16) (harg1 : arg1.IsWhole)
  (arg2 : Memref sig .tc .vmem S512x512 .f32) (harg2 : arg2.IsWhole)
  (arg3 : Memref sig .tc .vmem S16x512 .f32) (harg3 : arg3.IsWhole)
  (arg4 : Memref sig .tc .vmem S512x1024 .bf16) (harg4 : arg4.IsWhole)
  (arg5 : Memref sig .tc .vmem S1024x1024 .bf16) (harg5 : arg5.IsWhole)
  (arg6 : Memref sig .tc .vmem S4x128x128 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S4x128x128 .f32) (harg10 : arg10.IsWhole)
  (arg11 : Memref sig .tc .vmem S4x128x128 .f32) (harg11 : arg11.IsWhole)
  (arg12 : Memref sig .tc .vmem S512x512 .f32) (harg12 : arg12.IsWhole)
  (arg13 : Memref sig .tc .vmem S512x1024 .bf16) (harg13 : arg13.IsWhole)
  (arg14 : Memref sig .tc .vmem S4x128x128 .f32) (harg14 : arg14.IsWhole)
  (arg15 : Memref sig .tc .vmem S4x128x128 .f32) (harg15 : arg15.IsWhole)
  (arg16 : Memref sig .tc .vmem S4x128x128 .f32) (harg16 : arg16.IsWhole)
  (arg17 : Memref sig .tc .vmem S8x512 .f32) (harg17 : arg17.IsWhole)
  (arg18 : Memref sig .tc .vmem S512x512 .f32) (harg18 : arg18.IsWhole)
  (arg19 : Memref sig .tc .vmem S512x512 .f32) (harg19 : arg19.IsWhole)
  (hf : ¬First i) (hl : ¬Last i)
  (x0 : Vec F S512x1024 .bf16)  (x1 : Vec F S512x512 .f32)  (x2 : Vec F S16x512 .f32)  (x3 : Vec F S512x1024 .bf16)  (x4 : Vec F S1024x1024 .bf16)  (x5 : Vec F S4x128x128 .f32)  (x6 : Vec F S1x512 .f32)  (x7 : Vec F S1x512 .f32)  (x8 : Vec F S1x512 .f32)  (x9 : Vec F S4x128x128 .f32)  (x10 : Vec F S4x128x128 .f32)
  (p13 p14 p15 : Vec F S4x128x128 .f32) (p16 : Vec F S8x512 .f32)

set_option maxHeartbeats 4000000 in
/-- The run, with the writes it makes in each buffer it stores to. -/
noncomputable def runB :
    Σ' (L11 : List (View.Piece (Elt F) S512x512 .f32)), Σ' (L12 : List (View.Piece (Elt F) S512x1024 .bf16)), Σ' (L13 : List (View.Piece (Elt F) S4x128x128 .f32)), Σ' (L14 : List (View.Piece (Elt F) S4x128x128 .f32)), Σ' (L15 : List (View.Piece (Elt F) S4x128x128 .f32)), Σ' (L16 : List (View.Piece (Elt F) S8x512 .f32)), Σ' (L17 : List (View.Piece (Elt F) S512x512 .f32)), { L18 : List (View.Piece (Elt F) S512x512 .f32) //
      ∀ (E : Set ℕ) (K : PUnit → sProp 𝕄),
        iprop(ins c arg1 x0 arg2 x1 arg3 x2 arg4 x3 arg5 x4 arg6 x5 arg7 x6 arg8 x7 arg9 x8 arg10 x9 arg11 x10
            ∗ (∃ d, owns (c : Thread nD τ) arg12 fullShare d)
            ∗ (∃ d, owns (c : Thread nD τ) arg13 fullShare d)
            ∗ owns (c : Thread nD τ) arg14 fullShare p13
            ∗ owns (c : Thread nD τ) arg15 fullShare p14
            ∗ owns (c : Thread nD τ) arg16 fullShare p15
            ∗ owns (c : Thread nD τ) arg17 fullShare p16
            ∗ (∃ d, owns (c : Thread nD τ) arg18 fullShare d)
            ∗ (∃ d, owns (c : Thread nD τ) arg19 fullShare d)
            ∗ (iprop(ins c arg1 x0 arg2 x1 arg3 x2 arg4 x3 arg5 x4 arg6 x5 arg7 x6 arg8 x7 arg9 x8 arg10 x9 arg11 x10
              ∗ (∃ f, arg12.view.loc (c : Thread nD τ) ↦[arg12.view.set]{fullShare} arg12.view.writes (Elt F) f L11)
              ∗ (∃ f, arg13.view.loc (c : Thread nD τ) ↦[arg13.view.set]{fullShare} arg13.view.writes (Elt F) f L12)
              ∗ (arg14.view.loc (c : Thread nD τ) ↦[arg14.view.set]{fullShare} arg14.view.writes (Elt F) (harg14.unread p13) L13)
              ∗ (arg15.view.loc (c : Thread nD τ) ↦[arg15.view.set]{fullShare} arg15.view.writes (Elt F) (harg15.unread p14) L14)
              ∗ (arg16.view.loc (c : Thread nD τ) ↦[arg16.view.set]{fullShare} arg16.view.writes (Elt F) (harg16.unread p15) L15)
              ∗ (arg17.view.loc (c : Thread nD τ) ↦[arg17.view.set]{fullShare} arg17.view.writes (Elt F) (harg17.unread p16) L16)
              ∗ (∃ f, arg18.view.loc (c : Thread nD τ) ↦[arg18.view.set]{fullShare} arg18.view.writes (Elt F) f L17)
              ∗ (∃ f, arg19.view.loc (c : Thread nD τ) ↦[arg19.view.set]{fullShare} arg19.view.writes (Elt F) f L18)) -∗ K ⟨⟩))
          ⊢ wp frame (wpE (defs₀ (F := F)) Variants.none c none) E (cc0_bwd_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, fun E K => ?run⟩
  case run =>
    simp only [cc0_bwd_mix_eq_skeleton]; unfold cc0_bwd_mix_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, ⟨%d12, %f12, -, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg14.eq_unread hf13
    obtain rfl := harg15.eq_unread hf14
    obtain rfl := harg16.eq_unread hf15
    obtain rfl := harg17.eq_unread hf16
    sl_exec (disch := first | sl_exact hf | sl_exact hl)
    sl_step
    iapply Hk
    isplitl [H0 H1 H2 H3 H4 H5 H6 H7 H8 H9 H10]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      iexists _; isplitr; · ipureintro; exact harg11.read_unread _
      iexact H10
    isplitl [H11]; · iexists _; iexact H11
    isplitl [H12]; · iexists _; iexact H12
    isplitl [H13]; · iexact H13
    isplitl [H14]; · iexact H14
    isplitl [H15]; · iexact H15
    isplitl [H16]; · iexact H16
    isplitl [H17]; · iexists _; iexact H17
    iexists _; iexact H18

theorem coverB_11 (y : S512x512.Idx) : ∃ pc ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hf hl x0 x1 x2 x3 x4 x5 x6 x7 x8 x9 x10 p13 p14 p15 p16).1, y ∈ pc.1.set :=
  View.cover_of_tiledBy (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hf hl x0 x1 x2 x3 x4 x5 x6 x7 x8 x9 x10 p13 p14 p15 p16).1 ![512, 128] (by sl_kernel_rfl) y

theorem coverB_12 (y : S512x1024.Idx) : ∃ pc ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hf hl x0 x1 x2 x3 x4 x5 x6 x7 x8 x9 x10 p13 p14 p15 p16).2.1, y ∈ pc.1.set :=
  View.cover_of_tiledBy (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hf hl x0 x1 x2 x3 x4 x5 x6 x7 x8 x9 x10 p13 p14 p15 p16).2.1 ![512, 512] (by sl_kernel_rfl) y

end
end Cert.MixIdeal.Run
end
-- ==== Proof.MixIdealRunC.lean ====
/-
  The body of the mixers' backward, run at the last point, where it sums the rows of the bias gradient at the end: what it leaves in each of its result buffers, as the list of
  its writes, over whatever the running sums held before.
-/
module

public import proofs.«01_k».proof.Proof.MixIdealBase

@[expose] public section

set_option maxRecDepth 16384

noncomputable section

namespace Cert.MixIdeal.Run

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (c : Dev nD) (i : grid0.Coords)
  (arg1 : Memref sig .tc .vmem S512x1024 .bf16) (harg1 : arg1.IsWhole)
  (arg2 : Memref sig .tc .vmem S512x512 .f32) (harg2 : arg2.IsWhole)
  (arg3 : Memref sig .tc .vmem S16x512 .f32) (harg3 : arg3.IsWhole)
  (arg4 : Memref sig .tc .vmem S512x1024 .bf16) (harg4 : arg4.IsWhole)
  (arg5 : Memref sig .tc .vmem S1024x1024 .bf16) (harg5 : arg5.IsWhole)
  (arg6 : Memref sig .tc .vmem S4x128x128 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S4x128x128 .f32) (harg10 : arg10.IsWhole)
  (arg11 : Memref sig .tc .vmem S4x128x128 .f32) (harg11 : arg11.IsWhole)
  (arg12 : Memref sig .tc .vmem S512x512 .f32) (harg12 : arg12.IsWhole)
  (arg13 : Memref sig .tc .vmem S512x1024 .bf16) (harg13 : arg13.IsWhole)
  (arg14 : Memref sig .tc .vmem S4x128x128 .f32) (harg14 : arg14.IsWhole)
  (arg15 : Memref sig .tc .vmem S4x128x128 .f32) (harg15 : arg15.IsWhole)
  (arg16 : Memref sig .tc .vmem S4x128x128 .f32) (harg16 : arg16.IsWhole)
  (arg17 : Memref sig .tc .vmem S8x512 .f32) (harg17 : arg17.IsWhole)
  (arg18 : Memref sig .tc .vmem S512x512 .f32) (harg18 : arg18.IsWhole)
  (arg19 : Memref sig .tc .vmem S512x512 .f32) (harg19 : arg19.IsWhole)
  (hf : ¬First i) (hl : Last i)
  (x0 : Vec F S512x1024 .bf16)  (x1 : Vec F S512x512 .f32)  (x2 : Vec F S16x512 .f32)  (x3 : Vec F S512x1024 .bf16)  (x4 : Vec F S1024x1024 .bf16)  (x5 : Vec F S4x128x128 .f32)  (x6 : Vec F S1x512 .f32)  (x7 : Vec F S1x512 .f32)  (x8 : Vec F S1x512 .f32)  (x9 : Vec F S4x128x128 .f32)  (x10 : Vec F S4x128x128 .f32)
  (p13 p14 p15 : Vec F S4x128x128 .f32) (p16 : Vec F S8x512 .f32)

set_option maxHeartbeats 4000000 in
/-- The run, with the writes it makes in each buffer it stores to. -/
noncomputable def runC :
    Σ' (L11 : List (View.Piece (Elt F) S512x512 .f32)), Σ' (L12 : List (View.Piece (Elt F) S512x1024 .bf16)), Σ' (L13 : List (View.Piece (Elt F) S4x128x128 .f32)), Σ' (L14 : List (View.Piece (Elt F) S4x128x128 .f32)), Σ' (L15 : List (View.Piece (Elt F) S4x128x128 .f32)), Σ' (L16 : List (View.Piece (Elt F) S8x512 .f32)), Σ' (L17 : List (View.Piece (Elt F) S512x512 .f32)), { L18 : List (View.Piece (Elt F) S512x512 .f32) //
      ∀ (E : Set ℕ) (K : PUnit → sProp 𝕄),
        iprop(ins c arg1 x0 arg2 x1 arg3 x2 arg4 x3 arg5 x4 arg6 x5 arg7 x6 arg8 x7 arg9 x8 arg10 x9 arg11 x10
            ∗ (∃ d, owns (c : Thread nD τ) arg12 fullShare d)
            ∗ (∃ d, owns (c : Thread nD τ) arg13 fullShare d)
            ∗ owns (c : Thread nD τ) arg14 fullShare p13
            ∗ owns (c : Thread nD τ) arg15 fullShare p14
            ∗ owns (c : Thread nD τ) arg16 fullShare p15
            ∗ owns (c : Thread nD τ) arg17 fullShare p16
            ∗ (∃ d, owns (c : Thread nD τ) arg18 fullShare d)
            ∗ (∃ d, owns (c : Thread nD τ) arg19 fullShare d)
            ∗ (iprop(ins c arg1 x0 arg2 x1 arg3 x2 arg4 x3 arg5 x4 arg6 x5 arg7 x6 arg8 x7 arg9 x8 arg10 x9 arg11 x10
              ∗ (∃ f, arg12.view.loc (c : Thread nD τ) ↦[arg12.view.set]{fullShare} arg12.view.writes (Elt F) f L11)
              ∗ (∃ f, arg13.view.loc (c : Thread nD τ) ↦[arg13.view.set]{fullShare} arg13.view.writes (Elt F) f L12)
              ∗ (arg14.view.loc (c : Thread nD τ) ↦[arg14.view.set]{fullShare} arg14.view.writes (Elt F) (harg14.unread p13) L13)
              ∗ (arg15.view.loc (c : Thread nD τ) ↦[arg15.view.set]{fullShare} arg15.view.writes (Elt F) (harg15.unread p14) L14)
              ∗ (arg16.view.loc (c : Thread nD τ) ↦[arg16.view.set]{fullShare} arg16.view.writes (Elt F) (harg16.unread p15) L15)
              ∗ (arg17.view.loc (c : Thread nD τ) ↦[arg17.view.set]{fullShare} arg17.view.writes (Elt F) (harg17.unread p16) L16)
              ∗ (∃ f, arg18.view.loc (c : Thread nD τ) ↦[arg18.view.set]{fullShare} arg18.view.writes (Elt F) f L17)
              ∗ (∃ f, arg19.view.loc (c : Thread nD τ) ↦[arg19.view.set]{fullShare} arg19.view.writes (Elt F) f L18)) -∗ K ⟨⟩))
          ⊢ wp frame (wpE (defs₀ (F := F)) Variants.none c none) E (cc0_bwd_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, fun E K => ?run⟩
  case run =>
    simp only [cc0_bwd_mix_eq_skeleton]; unfold cc0_bwd_mix_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, ⟨%d12, %f12, -, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg14.eq_unread hf13
    obtain rfl := harg15.eq_unread hf14
    obtain rfl := harg16.eq_unread hf15
    obtain rfl := harg17.eq_unread hf16
    sl_exec (disch := first | sl_exact hf | sl_exact hl)
    sl_step
    iapply Hk
    isplitl [H0 H1 H2 H3 H4 H5 H6 H7 H8 H9 H10]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      iexists _; isplitr; · ipureintro; exact harg11.read_unread _
      iexact H10
    isplitl [H11]; · iexists _; iexact H11
    isplitl [H12]; · iexists _; iexact H12
    isplitl [H13]; · iexact H13
    isplitl [H14]; · iexact H14
    isplitl [H15]; · iexact H15
    isplitl [H16]; · iexact H16
    isplitl [H17]; · iexists _; iexact H17
    iexists _; iexact H18

theorem coverC_11 (y : S512x512.Idx) : ∃ pc ∈ (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hf hl x0 x1 x2 x3 x4 x5 x6 x7 x8 x9 x10 p13 p14 p15 p16).1, y ∈ pc.1.set :=
  View.cover_of_tiledBy (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hf hl x0 x1 x2 x3 x4 x5 x6 x7 x8 x9 x10 p13 p14 p15 p16).1 ![512, 128] (by sl_kernel_rfl) y

theorem coverC_12 (y : S512x1024.Idx) : ∃ pc ∈ (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hf hl x0 x1 x2 x3 x4 x5 x6 x7 x8 x9 x10 p13 p14 p15 p16).2.1, y ∈ pc.1.set :=
  View.cover_of_tiledBy (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hf hl x0 x1 x2 x3 x4 x5 x6 x7 x8 x9 x10 p13 p14 p15 p16).2.1 ![512, 512] (by sl_kernel_rfl) y

end
end Cert.MixIdeal.Run
end
-- ==== Proof.MixIdealFrame.lean ====
/-
  The mixers' backward: what its result buffers hold after each grid point, the body run at a generic point, and the whole
  program's run. The running sums start at the first point and are kept from point to point.
-/
module

public import proofs.«01_k».proof.Proof.MixIdealRunA
public import proofs.«01_k».proof.Proof.MixIdealRunB
public import proofs.«01_k».proof.Proof.MixIdealRunC
public import Idealize.ShloMosaic.Lib.Claim

@[expose] public section

set_option maxRecDepth 16384

noncomputable section

namespace Cert.MixIdeal.Run

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-- What the six result buffers hold. -/
abbrev Outs (F : FTy → Type) := Vec F S512x512 .f32 × Vec F S512x1024 .bf16 × Vec F S4x128x128 .f32 × Vec F S4x128x128 .f32 × Vec F S4x128x128 .f32 × Vec F S8x512 .f32

/-- The run of a point of case A on the point's buffers and blocks. -/
abbrev runAAt (t : Fin cfg0.N) (hf : First (grid0.coords t)) (hl : ¬Last (grid0.coords t)) :=
  runA (F := F) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) (b12 t) (hb12 t) (b13 t) (hb13 t) (b14 t) (hb14 t) (b15 t) (hb15 t) (b16 t) (hb16 t) du (Memref.isWhole_whole _) dvln (Memref.isWhole_whole _) hf hl (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- What such a point leaves in the result buffers. -/
def outA (t : Fin cfg0.N) (hf : First (grid0.coords t)) (hl : ¬Last (grid0.coords t)) : Outs F :=
  ((b11 t).view.read (Elt F) ((b11 t).view.writes (Elt F) (b11 t).view.junk (runAAt m c t hf hl).1),
   (b12 t).view.read (Elt F) ((b12 t).view.writes (Elt F) (b12 t).view.junk (runAAt m c t hf hl).2.1),
   (b13 t).view.read (Elt F) ((b13 t).view.writes (Elt F) (b13 t).view.junk (runAAt m c t hf hl).2.2.1),
   (b14 t).view.read (Elt F) ((b14 t).view.writes (Elt F) (b14 t).view.junk (runAAt m c t hf hl).2.2.2.1),
   (b15 t).view.read (Elt F) ((b15 t).view.writes (Elt F) (b15 t).view.junk (runAAt m c t hf hl).2.2.2.2.1),
   (b16 t).view.read (Elt F) ((b16 t).view.writes (Elt F) (b16 t).view.junk (runAAt m c t hf hl).2.2.2.2.2.1))

/-- The run of a point of case B on the point's buffers and blocks. -/
abbrev runBAt (t : Fin cfg0.N) (hf : ¬First (grid0.coords t)) (hl : ¬Last (grid0.coords t)) (p : Outs F) :=
  runB (F := F) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) (b12 t) (hb12 t) (b13 t) (hb13 t) (b14 t) (hb14 t) (b15 t) (hb15 t) (b16 t) (hb16 t) du (Memref.isWhole_whole _) dvln (Memref.isWhole_whole _) hf hl (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.1 p.2.2.2.1 p.2.2.2.2.1 p.2.2.2.2.2

/-- What such a point leaves in the result buffers. -/
def outB (t : Fin cfg0.N) (hf : ¬First (grid0.coords t)) (hl : ¬Last (grid0.coords t)) (p : Outs F) : Outs F :=
  ((b11 t).view.read (Elt F) ((b11 t).view.writes (Elt F) (b11 t).view.junk (runBAt m c t hf hl p).1),
   (b12 t).view.read (Elt F) ((b12 t).view.writes (Elt F) (b12 t).view.junk (runBAt m c t hf hl p).2.1),
   (b13 t).view.read (Elt F) ((b13 t).view.writes (Elt F) ((hb13 t).unread p.2.2.1) (runBAt m c t hf hl p).2.2.1),
   (b14 t).view.read (Elt F) ((b14 t).view.writes (Elt F) ((hb14 t).unread p.2.2.2.1) (runBAt m c t hf hl p).2.2.2.1),
   (b15 t).view.read (Elt F) ((b15 t).view.writes (Elt F) ((hb15 t).unread p.2.2.2.2.1) (runBAt m c t hf hl p).2.2.2.2.1),
   (b16 t).view.read (Elt F) ((b16 t).view.writes (Elt F) ((hb16 t).unread p.2.2.2.2.2) (runBAt m c t hf hl p).2.2.2.2.2.1))

/-- The run of a point of case C on the point's buffers and blocks. -/
abbrev runCAt (t : Fin cfg0.N) (hf : ¬First (grid0.coords t)) (hl : Last (grid0.coords t)) (p : Outs F) :=
  runC (F := F) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) (b12 t) (hb12 t) (b13 t) (hb13 t) (b14 t) (hb14 t) (b15 t) (hb15 t) (b16 t) (hb16 t) du (Memref.isWhole_whole _) dvln (Memref.isWhole_whole _) hf hl (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.1 p.2.2.2.1 p.2.2.2.2.1 p.2.2.2.2.2

/-- What such a point leaves in the result buffers. -/
def outC (t : Fin cfg0.N) (hf : ¬First (grid0.coords t)) (hl : Last (grid0.coords t)) (p : Outs F) : Outs F :=
  ((b11 t).view.read (Elt F) ((b11 t).view.writes (Elt F) (b11 t).view.junk (runCAt m c t hf hl p).1),
   (b12 t).view.read (Elt F) ((b12 t).view.writes (Elt F) (b12 t).view.junk (runCAt m c t hf hl p).2.1),
   (b13 t).view.read (Elt F) ((b13 t).view.writes (Elt F) ((hb13 t).unread p.2.2.1) (runCAt m c t hf hl p).2.2.1),
   (b14 t).view.read (Elt F) ((b14 t).view.writes (Elt F) ((hb14 t).unread p.2.2.2.1) (runCAt m c t hf hl p).2.2.2.1),
   (b15 t).view.read (Elt F) ((b15 t).view.writes (Elt F) ((hb15 t).unread p.2.2.2.2.1) (runCAt m c t hf hl p).2.2.2.2.1),
   (b16 t).view.read (Elt F) ((b16 t).view.writes (Elt F) ((hb16 t).unread p.2.2.2.2.2) (runCAt m c t hf hl p).2.2.2.2.2.1))

/-- What the result buffers hold after each point. -/
def outsAt : (n : ℕ) → n < cfg0.N → Outs F
  | 0, h => outA m c ⟨0, h⟩ ((first_iff ⟨0, h⟩).mpr rfl) (fun e => absurd ((last_iff ⟨0, h⟩).mp e) (by show ¬0 = 15; omega))
  | n + 1, h =>
    if hl : n + 1 = 15 then
      outC m c ⟨n + 1, h⟩ (fun e => Nat.succ_ne_zero n ((first_iff ⟨n + 1, h⟩).mp e)) ((last_iff ⟨n + 1, h⟩).mpr hl) (outsAt n (Nat.lt_of_succ_lt h))
    else
      outB m c ⟨n + 1, h⟩ (fun e => Nat.succ_ne_zero n ((first_iff ⟨n + 1, h⟩).mp e)) (fun e => hl ((last_iff ⟨n + 1, h⟩).mp e)) (outsAt n (Nat.lt_of_succ_lt h))

theorem outsAt_A (t : Fin cfg0.N) (h : t.val = 0) (hf) (hl) : outsAt m c t.val t.isLt = outA m c t hf hl := by
  obtain ⟨n, hn⟩ := t
  obtain rfl : n = 0 := h
  rfl

/-- The point before. -/
theorem pred_lt (t : Fin cfg0.N) : t.val - 1 < cfg0.N := Nat.lt_of_le_of_lt (Nat.sub_le _ _) t.isLt

theorem outsAt_B (t : Fin cfg0.N) (h0 : ¬t.val = 0) (h1 : ¬t.val = 15) (hf) (hl) :
    outsAt m c t.val t.isLt = outB m c t hf hl (outsAt m c (t.val - 1) (pred_lt t)) := by
  obtain ⟨n, hn⟩ := t
  cases n with
  | zero => exact absurd rfl h0
  | succ n => exact (dif_neg h1).trans rfl

theorem outsAt_C (t : Fin cfg0.N) (h0 : ¬t.val = 0) (h1 : t.val = 15) (hf) (hl) :
    outsAt m c t.val t.isLt = outC m c t hf hl (outsAt m c (t.val - 1) (pred_lt t)) := by
  obtain ⟨n, hn⟩ := t
  cases n with
  | zero => exact absurd rfl h0
  | succ n => exact (dif_pos h1).trans rfl

/-- The proof data: each window's array, and what the body leaves in its buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt m c t.val t.isLt).1
    | ⟨12, _⟩ => (outsAt m c t.val t.isLt).2.1
    | ⟨13, _⟩ => (outsAt m c t.val t.isLt).2.2.1
    | ⟨14, _⟩ => (outsAt m c t.val t.isLt).2.2.2.1
    | ⟨15, _⟩ => (outsAt m c t.val t.isLt).2.2.2.2.1
    | ⟨16, _⟩ => (outsAt m c t.val t.isLt).2.2.2.2.2
    | ⟨n + 17, h⟩ => absurd h (by show ¬ n + 17 < 17; omega)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = iblk m c 6 t := by dsimp only [dats]
theorem after0_7 (t : Fin cfg0.N) : (dats m 0 c).after 7 t = iblk m c 7 t := by dsimp only [dats]
theorem after0_8 (t : Fin cfg0.N) : (dats m 0 c).after 8 t = iblk m c 8 t := by dsimp only [dats]
theorem after0_9 (t : Fin cfg0.N) : (dats m 0 c).after 9 t = iblk m c 9 t := by dsimp only [dats]
theorem after0_10 (t : Fin cfg0.N) : (dats m 0 c).after 10 t = iblk m c 10 t := by dsimp only [dats]
theorem after0_11 (t : Fin cfg0.N) : (dats m 0 c).after 11 t = (outsAt m c t.val t.isLt).1 := by dsimp only [dats]
theorem after0_12 (t : Fin cfg0.N) : (dats m 0 c).after 12 t = (outsAt m c t.val t.isLt).2.1 := by dsimp only [dats]
theorem after0_13 (t : Fin cfg0.N) : (dats m 0 c).after 13 t = (outsAt m c t.val t.isLt).2.2.1 := by dsimp only [dats]
theorem after0_14 (t : Fin cfg0.N) : (dats m 0 c).after 14 t = (outsAt m c t.val t.isLt).2.2.2.1 := by dsimp only [dats]
theorem after0_15 (t : Fin cfg0.N) : (dats m 0 c).after 15 t = (outsAt m c t.val t.isLt).2.2.2.2.1 := by dsimp only [dats]
theorem after0_16 (t : Fin cfg0.N) : (dats m 0 c).after 16 t = (outsAt m c t.val t.isLt).2.2.2.2.2 := by dsimp only [dats]
theorem before0_0 (t : Fin cfg0.N) (d) : (dats m 0 c).before 0 t d = iblk m c 0 t :=
  before0_0_of m (dats m 0 c) (A_eq m c 0) (after0_0 m c) t d
theorem before0_1 (t : Fin cfg0.N) (d) : (dats m 0 c).before 1 t d = iblk m c 1 t :=
  before0_1_of m (dats m 0 c) (A_eq m c 1) (after0_1 m c) t d
theorem before0_2 (t : Fin cfg0.N) (d) : (dats m 0 c).before 2 t d = iblk m c 2 t :=
  before0_2_of m (dats m 0 c) (A_eq m c 2) (after0_2 m c) t d
theorem before0_3 (t : Fin cfg0.N) (d) : (dats m 0 c).before 3 t d = iblk m c 3 t :=
  before0_3_of m (dats m 0 c) (A_eq m c 3) (after0_3 m c) t d
theorem before0_4 (t : Fin cfg0.N) (d) : (dats m 0 c).before 4 t d = iblk m c 4 t :=
  before0_4_of m (dats m 0 c) (A_eq m c 4) (after0_4 m c) t d
theorem before0_5 (t : Fin cfg0.N) (d) : (dats m 0 c).before 5 t d = iblk m c 5 t :=
  before0_5_of m (dats m 0 c) (A_eq m c 5) (after0_5 m c) t d
theorem before0_6 (t : Fin cfg0.N) (d) : (dats m 0 c).before 6 t d = iblk m c 6 t :=
  before0_6_of m (dats m 0 c) (A_eq m c 6) (after0_6 m c) t d
theorem before0_7 (t : Fin cfg0.N) (d) : (dats m 0 c).before 7 t d = iblk m c 7 t :=
  before0_7_of m (dats m 0 c) (A_eq m c 7) (after0_7 m c) t d
theorem before0_8 (t : Fin cfg0.N) (d) : (dats m 0 c).before 8 t d = iblk m c 8 t :=
  before0_8_of m (dats m 0 c) (A_eq m c 8) (after0_8 m c) t d
theorem before0_9 (t : Fin cfg0.N) (d) : (dats m 0 c).before 9 t d = iblk m c 9 t :=
  before0_9_of m (dats m 0 c) (A_eq m c 9) (after0_9 m c) t d
theorem before0_10 (t : Fin cfg0.N) (d) : (dats m 0 c).before 10 t d = iblk m c 10 t :=
  before0_10_of m (dats m 0 c) (A_eq m c 10) (after0_10 m c) t d
theorem before0_13 (t : Fin cfg0.N) (h0 : ¬t.val = 0) (d) :
    (dats m 0 c).before 13 t d = (outsAt m c (t.val - 1) (pred_lt t)).2.2.1 := by
  have hN : t.val < 16 := lt_of_lt_of_eq t.isLt N_0
  rw [Dat.before_out_kept _ 13 rfl t (by omega) (Bool.eq_false_iff.mpr fun h => by have := (flush0_13 _).mp h; dsimp only at this; omega)
    (fun _ => rfl) (fun _ _ => rfl)]
  dsimp only [dats]
theorem before0_14 (t : Fin cfg0.N) (h0 : ¬t.val = 0) (d) :
    (dats m 0 c).before 14 t d = (outsAt m c (t.val - 1) (pred_lt t)).2.2.2.1 := by
  have hN : t.val < 16 := lt_of_lt_of_eq t.isLt N_0
  rw [Dat.before_out_kept _ 14 rfl t (by omega) (Bool.eq_false_iff.mpr fun h => by have := (flush0_14 _).mp h; dsimp only at this; omega)
    (fun _ => rfl) (fun _ _ => rfl)]
  dsimp only [dats]
theorem before0_15 (t : Fin cfg0.N) (h0 : ¬t.val = 0) (d) :
    (dats m 0 c).before 15 t d = (outsAt m c (t.val - 1) (pred_lt t)).2.2.2.2.1 := by
  have hN : t.val < 16 := lt_of_lt_of_eq t.isLt N_0
  rw [Dat.before_out_kept _ 15 rfl t (by omega) (Bool.eq_false_iff.mpr fun h => by have := (flush0_15 _).mp h; dsimp only at this; omega)
    (fun _ => rfl) (fun _ _ => rfl)]
  dsimp only [dats]
theorem before0_16 (t : Fin cfg0.N) (h0 : ¬t.val = 0) (d) :
    (dats m 0 c).before 16 t d = (outsAt m c (t.val - 1) (pred_lt t)).2.2.2.2.2 := by
  have hN : t.val < 16 := lt_of_lt_of_eq t.isLt N_0
  rw [Dat.before_out_kept _ 16 rfl t (by omega) (Bool.eq_false_iff.mpr fun h => by have := (flush0_16 _).mp h; dsimp only at this; omega)
    (fun _ => rfl) (fun _ _ => rfl)]
  dsimp only [dats]

/-- What the body is called with at a point, -/
def bodyPre (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d))
    ∗ (∃ d, owns (c : Thread nD τ) (b5 t) fullShare ((dats m 0 c).before 5 t d))
    ∗ (∃ d, owns (c : Thread nD τ) (b6 t) fullShare ((dats m 0 c).before 6 t d))
    ∗ (∃ d, owns (c : Thread nD τ) (b7 t) fullShare ((dats m 0 c).before 7 t d))
    ∗ (∃ d, owns (c : Thread nD τ) (b8 t) fullShare ((dats m 0 c).before 8 t d))
    ∗ (∃ d, owns (c : Thread nD τ) (b9 t) fullShare ((dats m 0 c).before 9 t d))
    ∗ (∃ d, owns (c : Thread nD τ) (b10 t) fullShare ((dats m 0 c).before 10 t d))
    ∗ (∃ d, owns (c : Thread nD τ) (b11 t) fullShare ((dats m 0 c).before 11 t d))
    ∗ (∃ d, owns (c : Thread nD τ) (b12 t) fullShare ((dats m 0 c).before 12 t d))
    ∗ (∃ d, owns (c : Thread nD τ) (b13 t) fullShare ((dats m 0 c).before 13 t d))
    ∗ (∃ d, owns (c : Thread nD τ) (b14 t) fullShare ((dats m 0 c).before 14 t d))
    ∗ (∃ d, owns (c : Thread nD τ) (b15 t) fullShare ((dats m 0 c).before 15 t d))
    ∗ (∃ d, owns (c : Thread nD τ) (b16 t) fullShare ((dats m 0 c).before 16 t d)))

/-- and what it returns. -/
def bodyPost (t : Fin cfg0.N) : sProp 𝕄 :=
  iprop((dats m 0 c).Φ t.succ ∗ (dats m 0 c).owesAt () t.succ
    ∗ owns (c : Thread nD τ) (b0 t) fullShare ((dats m 0 c).after 0 t)
    ∗ owns (c : Thread nD τ) (b1 t) fullShare ((dats m 0 c).after 1 t)
    ∗ owns (c : Thread nD τ) (b2 t) fullShare ((dats m 0 c).after 2 t)
    ∗ owns (c : Thread nD τ) (b3 t) fullShare ((dats m 0 c).after 3 t)
    ∗ owns (c : Thread nD τ) (b4 t) fullShare ((dats m 0 c).after 4 t)
    ∗ owns (c : Thread nD τ) (b5 t) fullShare ((dats m 0 c).after 5 t)
    ∗ owns (c : Thread nD τ) (b6 t) fullShare ((dats m 0 c).after 6 t)
    ∗ owns (c : Thread nD τ) (b7 t) fullShare ((dats m 0 c).after 7 t)
    ∗ owns (c : Thread nD τ) (b8 t) fullShare ((dats m 0 c).after 8 t)
    ∗ owns (c : Thread nD τ) (b9 t) fullShare ((dats m 0 c).after 9 t)
    ∗ owns (c : Thread nD τ) (b10 t) fullShare ((dats m 0 c).after 10 t)
    ∗ owns (c : Thread nD τ) (b11 t) fullShare ((dats m 0 c).after 11 t)
    ∗ owns (c : Thread nD τ) (b12 t) fullShare ((dats m 0 c).after 12 t)
    ∗ owns (c : Thread nD τ) (b13 t) fullShare ((dats m 0 c).after 13 t)
    ∗ owns (c : Thread nD τ) (b14 t) fullShare ((dats m 0 c).after 14 t)
    ∗ owns (c : Thread nD τ) (b15 t) fullShare ((dats m 0 c).after 15 t)
    ∗ owns (c : Thread nD τ) (b16 t) fullShare ((dats m 0 c).after 16 t))

set_option maxHeartbeats 4000000 in
/-- The body at any point. -/
theorem sound_body (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.castSucc = Pipeline.ΦA spec0 c from rfl, invariant_eq]
  by_cases h0 : t.val = 0
  · have hf : First (grid0.coords t) := (first_iff t).mpr h0
    have hl : ¬Last (grid0.coords t) := fun e => by have := (last_iff t).mp e; omega
    rw [outsAt_A m c t h0 hf hl]
    unfold outA; dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((runAAt m c t hf hl).2.2.2.2.2.2.2.2 Set.univ _)
    unfold ins
    isplitl [H0 H1 H2 H3 H4 H5 H6 H7 H8 H9 H10]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexact HS0
    isplitl [HS1]; · iexact HS1
    iintro ⟨⟨H0, H1, H2, H3, H4, H5, H6, H7, H8, H9, H10⟩, ⟨%e11, H11⟩, ⟨%e12, H12⟩, ⟨%e13, H13⟩, ⟨%e14, H14⟩, ⟨%e15, H15⟩, ⟨%e16, H16⟩, ⟨%g0, HS0⟩, ⟨%g1, HS1⟩⟩
    isplitl [HS0 HS1 Hg]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (coverA_11 (F := F) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) (b12 t) (hb12 t) (b13 t) (hb13 t) (b14 t) (hb14 t) (b15 t) (hb15 t) (b16 t) (hb16 t) du (Memref.isWhole_whole _) dvln (Memref.isWhole_whole _) hf hl (iblk m c 0 t) (iblk m c 1 t) (iblk m c 2 t) (iblk m c 3 t) (iblk m c 4 t) (iblk m c 5 t) (iblk m c 6 t) (iblk m c 7 t) (iblk m c 8 t) (iblk m c 9 t) (iblk m c 10 t))
    isplitl [H12]
    · unfold owns; iexists _; isplitr
      swap; · iexact H12
      ipureintro; exact View.read_writes_of_cover _ _ _ _ _ (coverA_12 (F := F) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) (b12 t) (hb12 t) (b13 t) (hb13 t) (b14 t) (hb14 t) (b15 t) (hb15 t) (b16 t) (hb16 t) du (Memref.isWhole_whole _) dvln (Memref.isWhole_whole _) hf hl (iblk m c 0 t) (iblk m c 1 t) (iblk m c 2 t) (iblk m c 3 t) (iblk m c 4 t) (iblk m c 5 t) (iblk m c 6 t) (iblk m c 7 t) (iblk m c 8 t) (iblk m c 9 t) (iblk m c 10 t))
    isplitl [H13]
    · unfold owns; iexists _; isplitr
      swap; · iexact H13
      ipureintro; exact View.read_writes_of_cover _ _ _ _ _ (coverA_13 (F := F) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) (b12 t) (hb12 t) (b13 t) (hb13 t) (b14 t) (hb14 t) (b15 t) (hb15 t) (b16 t) (hb16 t) du (Memref.isWhole_whole _) dvln (Memref.isWhole_whole _) hf hl (iblk m c 0 t) (iblk m c 1 t) (iblk m c 2 t) (iblk m c 3 t) (iblk m c 4 t) (iblk m c 5 t) (iblk m c 6 t) (iblk m c 7 t) (iblk m c 8 t) (iblk m c 9 t) (iblk m c 10 t))
    isplitl [H14]
    · unfold owns; iexists _; isplitr
      swap; · iexact H14
      ipureintro; exact View.read_writes_of_cover _ _ _ _ _ (coverA_14 (F := F) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) (b12 t) (hb12 t) (b13 t) (hb13 t) (b14 t) (hb14 t) (b15 t) (hb15 t) (b16 t) (hb16 t) du (Memref.isWhole_whole _) dvln (Memref.isWhole_whole _) hf hl (iblk m c 0 t) (iblk m c 1 t) (iblk m c 2 t) (iblk m c 3 t) (iblk m c 4 t) (iblk m c 5 t) (iblk m c 6 t) (iblk m c 7 t) (iblk m c 8 t) (iblk m c 9 t) (iblk m c 10 t))
    isplitl [H15]
    · unfold owns; iexists _; isplitr
      swap; · iexact H15
      ipureintro; exact View.read_writes_of_cover _ _ _ _ _ (coverA_15 (F := F) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) (b12 t) (hb12 t) (b13 t) (hb13 t) (b14 t) (hb14 t) (b15 t) (hb15 t) (b16 t) (hb16 t) du (Memref.isWhole_whole _) dvln (Memref.isWhole_whole _) hf hl (iblk m c 0 t) (iblk m c 1 t) (iblk m c 2 t) (iblk m c 3 t) (iblk m c 4 t) (iblk m c 5 t) (iblk m c 6 t) (iblk m c 7 t) (iblk m c 8 t) (iblk m c 9 t) (iblk m c 10 t))
    unfold owns; iexists _; isplitr
    swap; · iexact H16
    ipureintro; exact View.read_writes_of_cover _ _ _ _ _ (coverA_16 (F := F) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) (b12 t) (hb12 t) (b13 t) (hb13 t) (b14 t) (hb14 t) (b15 t) (hb15 t) (b16 t) (hb16 t) du (Memref.isWhole_whole _) dvln (Memref.isWhole_whole _) hf hl (iblk m c 0 t) (iblk m c 1 t) (iblk m c 2 t) (iblk m c 3 t) (iblk m c 4 t) (iblk m c 5 t) (iblk m c 6 t) (iblk m c 7 t) (iblk m c 8 t) (iblk m c 9 t) (iblk m c 10 t))
  · have hf : ¬First (grid0.coords t) := fun e => h0 ((first_iff t).mp e)
    by_cases h1 : t.val = 15
    · have hl : Last (grid0.coords t) := (last_iff t).mpr h1
      rw [outsAt_C m c t h0 h1 hf hl]
      simp only [before0_13 m c t h0, before0_14 m c t h0, before0_15 m c t h0, before0_16 m c t h0]
      unfold outC; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((runCAt m c t hf hl (outsAt m c (t.val - 1) (pred_lt t))).2.2.2.2.2.2.2.2 Set.univ _)
      unfold ins
      isplitl [H0 H1 H2 H3 H4 H5 H6 H7 H8 H9 H10]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      isplitl [H11]; · iexists _; iexact H11
      isplitl [H12]; · iexists _; iexact H12
      isplitl [H13]; · iexact H13
      isplitl [H14]; · iexact H14
      isplitl [H15]; · iexact H15
      isplitl [H16]; · iexact H16
      isplitl [HS0]; · iexact HS0
      isplitl [HS1]; · iexact HS1
      iintro ⟨⟨H0, H1, H2, H3, H4, H5, H6, H7, H8, H9, H10⟩, ⟨%e11, H11⟩, ⟨%e12, H12⟩, H13, H14, H15, H16, ⟨%g0, HS0⟩, ⟨%g1, HS1⟩⟩
      isplitl [HS0 HS1 Hg]
      · isplitl [HS0 HS1]
        · isplitl [HS0]
          · iexists _; unfold owns; iexists _; isplitr
            swap; · iexact HS0
            ipureintro; rfl
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (coverC_11 (F := F) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) (b12 t) (hb12 t) (b13 t) (hb13 t) (b14 t) (hb14 t) (b15 t) (hb15 t) (b16 t) (hb16 t) du (Memref.isWhole_whole _) dvln (Memref.isWhole_whole _) hf hl (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _)
      isplitl [H12]
      · unfold owns; iexists _; isplitr
        swap; · iexact H12
        ipureintro; exact View.read_writes_of_cover _ _ _ _ _ (coverC_12 (F := F) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) (b12 t) (hb12 t) (b13 t) (hb13 t) (b14 t) (hb14 t) (b15 t) (hb15 t) (b16 t) (hb16 t) du (Memref.isWhole_whole _) dvln (Memref.isWhole_whole _) hf hl (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _)
      isplitl [H13]
      · unfold owns; iexists _; isplitr
        swap; · iexact H13
        ipureintro; rfl
      isplitl [H14]
      · unfold owns; iexists _; isplitr
        swap; · iexact H14
        ipureintro; rfl
      isplitl [H15]
      · unfold owns; iexists _; isplitr
        swap; · iexact H15
        ipureintro; rfl
      unfold owns; iexists _; isplitr
      swap; · iexact H16
      ipureintro; rfl
    · have hl : ¬Last (grid0.coords t) := fun e => h1 ((last_iff t).mp e)
      rw [outsAt_B m c t h0 h1 hf hl]
      simp only [before0_13 m c t h0, before0_14 m c t h0, before0_15 m c t h0, before0_16 m c t h0]
      unfold outB; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((runBAt m c t hf hl (outsAt m c (t.val - 1) (pred_lt t))).2.2.2.2.2.2.2.2 Set.univ _)
      unfold ins
      isplitl [H0 H1 H2 H3 H4 H5 H6 H7 H8 H9 H10]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      isplitl [H11]; · iexists _; iexact H11
      isplitl [H12]; · iexists _; iexact H12
      isplitl [H13]; · iexact H13
      isplitl [H14]; · iexact H14
      isplitl [H15]; · iexact H15
      isplitl [H16]; · iexact H16
      isplitl [HS0]; · iexact HS0
      isplitl [HS1]; · iexact HS1
      iintro ⟨⟨H0, H1, H2, H3, H4, H5, H6, H7, H8, H9, H10⟩, ⟨%e11, H11⟩, ⟨%e12, H12⟩, H13, H14, H15, H16, ⟨%g0, HS0⟩, ⟨%g1, HS1⟩⟩
      isplitl [HS0 HS1 Hg]
      · isplitl [HS0 HS1]
        · isplitl [HS0]
          · iexists _; unfold owns; iexists _; isplitr
            swap; · iexact HS0
            ipureintro; rfl
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (coverB_11 (F := F) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) (b12 t) (hb12 t) (b13 t) (hb13 t) (b14 t) (hb14 t) (b15 t) (hb15 t) (b16 t) (hb16 t) du (Memref.isWhole_whole _) dvln (Memref.isWhole_whole _) hf hl (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _)
      isplitl [H12]
      · unfold owns; iexists _; isplitr
        swap; · iexact H12
        ipureintro; exact View.read_writes_of_cover _ _ _ _ _ (coverB_12 (F := F) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) (b12 t) (hb12 t) (b13 t) (hb13 t) (b14 t) (hb14 t) (b15 t) (hb15 t) (b16 t) (hb16 t) du (Memref.isWhole_whole _) dvln (Memref.isWhole_whole _) hf hl (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _)
      isplitl [H13]
      · unfold owns; iexists _; isplitr
        swap; · iexact H13
        ipureintro; rfl
      isplitl [H14]
      · unfold owns; iexists _; isplitr
        swap; · iexact H14
        ipureintro; rfl
      isplitl [H15]
      · unfold owns; iexists _; isplitr
        swap; · iexact H15
        ipureintro; rfl
      unfold owns; iexists _; isplitr
      swap; · iexact H16
      ipureintro; rfl

theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program's run: every array ends at what the proof data say, every semaphore at zero. -/
theorem run_all : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end unchanged, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_all m ρ))) ((θ_run defs _ _).mono (fun _ h => h.2) (run_all m ρ))

end Cert.MixIdeal.Run
end
-- ==== Proof.MixLoad.lean ====
/-
  The mixers' backward: loads and stores of boxes of a buffer, and what the blocks of one tile hold.
-/
module

public import proofs.«01_k».proof.Proof.MixPoint
public import proofs.«01_k».proof.Proof.MixIdealFrame

@[expose] public section

set_option maxRecDepth 16384

noncomputable section

namespace Cert.Rows

open Idealize.ShloMosaic Idealize.SL.Sem

section
variable {sig : RefSig} {κ : Kind} {sp : Space} {e : EltTy} {Val : EltTy → Type} {d n d' n' o p : Nat}
  (v : View sig κ sp (⟨2, ![d, n]⟩ : Shape) e) (f : v.ty.Contents Val)
  (inb : ∀ a : Fin 2, (![o, p] : Fin 2 → Nat) a + (![d', n'] : Fin 2 → Nat) a ≤ (![d, n] : Fin 2 → Nat) a)
  (w : (Rect.unit (s := ⟨2, ![d, n]⟩) ![o, p] ![d', n'] inb).shape.Idx → Val e) (L : List (View.Piece Val (⟨2, ![d, n]⟩ : Shape) e))

/-- After a store of a box, its elements read the payload. -/
theorem box_of {s : Fin d} {k : Fin n} {i : Fin d'} {j : Fin n'} (hs : s.val = o + i.val) (hk : k.val = p + j.val) :
    v.read Val (v.writes Val f ((⟨Rect.unit (s := ⟨2, ![d, n]⟩) ![o, p] ![d', n'] inb, w⟩ : View.Piece Val (⟨2, ![d, n]⟩ : Shape) e) :: L)) (ix2 s k)
      = w (ix2 i j) :=
  View.read_writes_cons_unit_of_mem v f inb w L (ix2 s k) (ix2 i j) rfl fun a => by
    fin_cases a
    · exact hs
    · exact hk

/-- After a store of a box, every other element reads what the earlier stores left. -/
theorem box_ne {s : Fin d} {k : Fin n} (h : (s.val < o ∨ o + d' ≤ s.val) ∨ (k.val < p ∨ p + n' ≤ k.val)) :
    v.read Val (v.writes Val f ((⟨Rect.unit (s := ⟨2, ![d, n]⟩) ![o, p] ![d', n'] inb, w⟩ : View.Piece Val (⟨2, ![d, n]⟩ : Shape) e) :: L)) (ix2 s k)
      = v.read Val (v.writes Val f L) (ix2 s k) := by
  rcases h with h | h
  · exact View.read_writes_cons_unit_of_not_mem v f inb w L (ix2 s k) rfl (0 : Fin 2) h
  · exact View.read_writes_cons_unit_of_not_mem v f inb w L (ix2 s k) rfl (1 : Fin 2) h

/-- A load of a box after a list of stores. -/
theorem cov_box [∀ e, Nonempty (Val e)] {s : Fin d} {k : Fin n} {i : Fin d'} {j : Fin n'} (hs : s.val = o + i.val) (hk : k.val = p + j.val) :
    v.readCov L (Rect.unit (s := ⟨2, ![d, n]⟩) ![o, p] ![d', n'] inb).toLoadRect (ix2 i j) = v.read Val (v.writes Val v.junk L) (ix2 s k) := by
  unfold View.readCov
  rw [View.readAt_eq_ld]
  exact View.ld_unit_apply_of _ _ _ inb _ (ix2 s k) fun a => by
    fin_cases a
    · exact hs
    · exact hk

end

section
variable {sig : RefSig} {κ : Kind} {sp : Space} {e : EltTy} {Val : EltTy → Type} {q d n o : Nat}
  (v : View sig κ sp (⟨3, ![q, d, n]⟩ : Shape) e) (f : v.ty.Contents Val)
  (inb : ∀ a : Fin 3, (![o, 0, 0] : Fin 3 → Nat) a + (![1, d, n] : Fin 3 → Nat) a ≤ (![q, d, n] : Fin 3 → Nat) a)
  (w : (Rect.unit (s := ⟨3, ![q, d, n]⟩) ![o, 0, 0] ![1, d, n] inb).shape.Idx → Val e) (L : List (View.Piece Val (⟨3, ![q, d, n]⟩ : Shape) e))

/-- After a store of one of a stack's matrices, it reads the payload. -/
theorem slab_of {g : Fin q} (i : Fin d) (k : Fin n) (hg : g.val = o) :
    v.read Val (v.writes Val f ((⟨Rect.unit (s := ⟨3, ![q, d, n]⟩) ![o, 0, 0] ![1, d, n] inb, w⟩ : View.Piece Val (⟨3, ![q, d, n]⟩ : Shape) e) :: L)) (ix3 g i k)
      = w (ix3 (0 : Fin 1) i k) :=
  View.read_writes_cons_unit_of_mem v f inb w L (ix3 g i k) (ix3 (0 : Fin 1) i k) rfl fun a => by
    fin_cases a
    · exact hg
    · exact (Nat.zero_add _).symm
    · exact (Nat.zero_add _).symm

/-- After a store of one of a stack's matrices, the others read what the earlier stores left. -/
theorem slab_ne {g : Fin q} (i : Fin d) (k : Fin n) (hg : g.val ≠ o) :
    v.read Val (v.writes Val f ((⟨Rect.unit (s := ⟨3, ![q, d, n]⟩) ![o, 0, 0] ![1, d, n] inb, w⟩ : View.Piece Val (⟨3, ![q, d, n]⟩ : Shape) e) :: L)) (ix3 g i k)
      = v.read Val (v.writes Val f L) (ix3 g i k) :=
  View.read_writes_cons_unit_of_not_mem v f inb w L (ix3 g i k) rfl (0 : Fin 3) (by show g.val < o ∨ o + 1 ≤ g.val; omega)

/-- A load of one of a stack's matrices after a list of stores. -/
theorem cov_slab [∀ e, Nonempty (Val e)] {g : Fin q} (i : Fin d) (k : Fin n) (hg : g.val = o) :
    v.readCov L (Rect.unit (s := ⟨3, ![q, d, n]⟩) ![o, 0, 0] ![1, d, n] inb).toLoadRect (ix3 (0 : Fin 1) i k) = v.read Val (v.writes Val v.junk L) (ix3 g i k) := by
  unfold View.readCov
  rw [View.readAt_eq_ld]
  exact View.ld_unit_apply_of _ _ _ inb _ (ix3 g i k) fun a => by
    fin_cases a
    · exact hg
    · exact (Nat.zero_add _).symm
    · exact (Nat.zero_add _).symm

end

section
variable {sig : RefSig} {κ : Kind} {sp : Space} {e : EltTy} {F : FTy → Type} [FloatOps F]

/-- A load of a box of a buffer that holds `x`. -/
theorem load_box {d n d' n' o p : Nat} {M : Memref sig κ sp (⟨2, ![d, n]⟩ : Shape) e} (hM : M.IsWhole) (x : Vec F (⟨2, ![d, n]⟩ : Shape) e)
    (inb : ∀ a : Fin 2, (![o, p] : Fin 2 → Nat) a + (![d', n'] : Fin 2 → Nat) a ≤ (![d, n] : Fin 2 → Nat) a)
    {s : Fin d} {k : Fin n} {i : Fin d'} {j : Fin n'} (hs : s.val = o + i.val) (hk : k.val = p + j.val) :
    View.readAt (Elt F) M.view (Rect.unit (s := ⟨2, ![d, n]⟩) ![o, p] ![d', n'] inb).toLoadRect (hM.unread x) (ix2 i j) = x (ix2 s k) := by
  rw [View.readAt_eq_ld, hM.read_unread]
  exact View.ld_unit_apply_of _ _ _ inb _ (ix2 s k) fun a => by
    fin_cases a
    · exact hs
    · exact hk

/-- A load of one of the matrices of a buffer that holds `x`. -/
theorem load_slab {q d n o : Nat} {M : Memref sig κ sp (⟨3, ![q, d, n]⟩ : Shape) e} (hM : M.IsWhole) (x : Vec F (⟨3, ![q, d, n]⟩ : Shape) e)
    (inb : ∀ a : Fin 3, (![o, 0, 0] : Fin 3 → Nat) a + (![1, d, n] : Fin 3 → Nat) a ≤ (![q, d, n] : Fin 3 → Nat) a)
    {g : Fin q} (i : Fin d) (k : Fin n) (hg : g.val = o) :
    View.readAt (Elt F) M.view (Rect.unit (s := ⟨3, ![q, d, n]⟩) ![o, 0, 0] ![1, d, n] inb).toLoadRect (hM.unread x) (ix3 (0 : Fin 1) i k) = x (ix3 g i k) := by
  rw [View.readAt_eq_ld, hM.read_unread]
  exact View.ld_unit_apply_of _ _ _ inb _ (ix3 g i k) fun a => by
    fin_cases a
    · exact hg
    · exact (Nat.zero_add _).symm
    · exact (Nat.zero_add _).symm

end

end Cert.Rows

namespace Cert.MixIdeal.Point

open Cert.MixIdeal Cert.MixIdeal.Gen Cert.MixIdeal.Run Cert.Fin Cert.Mixer Cert.Rows Idealize.ShloMosaic Idealize.ShloMosaic.TcCoe Idealize.SL.Sem
open Cert.Pool (tok col ext ext_of_lt)

/-! ### Blocks stored side by side -/

section
variable {sig : RefSig} {κ : Kind} {sp : Space} {Val : EltTy → Type} {e : EltTy}

/-- Four stores of 128 columns. -/
theorem four_wide {v : View sig κ sp S512x512 e} {f : v.ty.Contents Val} {i3 i2 i1 i0} {w3 w2 w1 w0 : S512x128.Idx → Val e} {G : Fin 4 → Fin 512 → Fin 128 → Val e}
    (h3 : ∀ r k, w3 (ix2 r k) = G 3 r k) (h2 : ∀ r k, w2 (ix2 r k) = G 2 r k) (h1 : ∀ r k, w1 (ix2 r k) = G 1 r k) (h0 : ∀ r k, w0 (ix2 r k) = G 0 r k)
    (g : Fin 4) (r : Fin 512) (k : Fin 128) :
    v.read Val (v.writes Val f [⟨Rect.unit ![0, 384] ![512, 128] i3, w3⟩, ⟨Rect.unit ![0, 256] ![512, 128] i2, w2⟩, ⟨Rect.unit ![0, 128] ![512, 128] i1, w1⟩, ⟨Rect.unit ![0, 0] ![512, 128] i0, w0⟩])
      (ix2 r (col g k)) = G g r k := by
  fin_cases g
  · refine (box_ne _ _ _ _ _ (.inr (.inl ?_))).trans ((box_ne _ _ _ _ _ (.inr (.inl ?_))).trans ((box_ne _ _ _ _ _ (.inr (.inl ?_))).trans ((box_of _ _ _ _ _ (i := r) (j := k) ?_ ?_).trans (h0 r k)))) <;> show _ <;> simp [col] <;> omega
  · refine (box_ne _ _ _ _ _ (.inr (.inl ?_))).trans ((box_ne _ _ _ _ _ (.inr (.inl ?_))).trans ((box_of _ _ _ _ _ (i := r) (j := k) ?_ ?_).trans (h1 r k))) <;> show _ <;> simp [col] <;> omega
  · refine (box_ne _ _ _ _ _ (.inr (.inl ?_))).trans ((box_of _ _ _ _ _ (i := r) (j := k) ?_ ?_).trans (h2 r k)) <;> show _ <;> simp [col] <;> omega
  · refine (box_of _ _ _ _ _ (i := r) (j := k) ?_ ?_).trans (h3 r k) <;> show _ <;> simp [col]

/-- Two stores of 512 columns. -/
theorem two_wide {v : View sig κ sp S512x1024 e} {f : v.ty.Contents Val} {i1 i0} {w1 w0 : S512x512.Idx → Val e} {G : Fin 512 → Fin 1024 → Val e}
    (h1 : ∀ r k, w1 (ix2 r k) = G r (hi k)) (h0 : ∀ r k, w0 (ix2 r k) = G r (lo k)) (r : Fin 512) (k : Fin 1024) :
    v.read Val (v.writes Val f [⟨Rect.unit ![0, 512] ![512, 512] i1, w1⟩, ⟨Rect.unit ![0, 0] ![512, 512] i0, w0⟩]) (ix2 r k) = G r k := by
  by_cases h : k.val < 512
  · refine (box_ne _ _ _ _ _ (.inr (.inl h))).trans ((box_of _ _ _ _ _ (i := r) (j := ⟨k.val, h⟩) ?_ ?_).trans ((h0 r _).trans rfl))
    · show r.val = 0 + r.val
      omega
    · show k.val = 0 + k.val
      omega
  · refine (box_of _ _ _ _ _ (i := r) (j := ⟨k.val - 512, by omega⟩) ?_ ?_).trans ((h1 r _).trans ?_)
    · show r.val = 0 + r.val
      omega
    · show k.val = 512 + (k.val - 512)
      omega
    exact congrArg (G r) (Fin.ext (by show 512 + (k.val - 512) = k.val; omega))

/-- Four stores of one matrix each. -/
theorem four_slabs {v : View sig κ sp S4x128x128 e} {f : v.ty.Contents Val} {i3 i2 i1 i0} {w3 w2 w1 w0 : S1x128x128.Idx → Val e} {L : List (View.Piece Val S4x128x128 e)}
    {G : Fin 4 → Fin 128 → Fin 128 → Val e} (h3 : ∀ i k, w3 (ix3 0 i k) = G 3 i k) (h2 : ∀ i k, w2 (ix3 0 i k) = G 2 i k) (h1 : ∀ i k, w1 (ix3 0 i k) = G 1 i k)
    (h0 : ∀ i k, w0 (ix3 0 i k) = G 0 i k) (g : Fin 4) (i k : Fin 128) :
    v.read Val (v.writes Val f (⟨Rect.unit ![3, 0, 0] ![1, 128, 128] i3, w3⟩ :: ⟨Rect.unit ![2, 0, 0] ![1, 128, 128] i2, w2⟩ :: ⟨Rect.unit ![1, 0, 0] ![1, 128, 128] i1, w1⟩
      :: ⟨Rect.unit ![0, 0, 0] ![1, 128, 128] i0, w0⟩ :: L)) (ix3 g i k) = G g i k := by
  fin_cases g
  · refine (slab_ne _ _ _ _ _ i k ?_).trans ((slab_ne _ _ _ _ _ i k ?_).trans ((slab_ne _ _ _ _ _ i k ?_).trans ((slab_of _ _ _ _ _ i k ?_).trans (h0 i k)))) <;> decide
  · refine (slab_ne _ _ _ _ _ i k ?_).trans ((slab_ne _ _ _ _ _ i k ?_).trans ((slab_of _ _ _ _ _ i k ?_).trans (h1 i k))) <;> decide
  · refine (slab_ne _ _ _ _ _ i k ?_).trans ((slab_of _ _ _ _ _ i k ?_).trans (h2 i k)) <;> decide
  · refine (slab_of _ _ _ _ _ i k ?_).trans (h3 i k) <;> decide

/-- A stack cleared at first. -/
theorem clear_slab {v : View sig κ sp S4x128x128 e} {f : v.ty.Contents Val} {i0} {w : S4x128x128.Idx → Val e} {L : List (View.Piece Val S4x128x128 e)} (g : Fin 4) (i k : Fin 128) :
    v.read Val (v.writes Val f (⟨Rect.unit ![0, 0, 0] ![4, 128, 128] i0, w⟩ :: L)) (ix3 g i k) = w (ix3 g i k) :=
  View.read_writes_cons_unit_of_mem v f i0 w L (ix3 g i k) (ix3 g i k) rfl fun a => by
    fin_cases a <;> exact (Nat.zero_add _).symm

/-- The eight rows of sums: a store of row 2, a store of row 1, and four of row 0. -/
theorem eight_rows {v : View sig κ sp S8x512 e} {f : v.ty.Contents Val} {j2 j1 i3 i2 i1 i0} {r2 r1 : S1x512.Idx → Val e} {w3 w2 w1 w0 : S1x128.Idx → Val e}
    {L : List (View.Piece Val S8x512 e)} {G : Fin 8 → Fin 512 → Val e} (e2 : ∀ k, r2 (ix2 0 k) = G 2 k) (e1 : ∀ k, r1 (ix2 0 k) = G 1 k)
    (h3 : ∀ k, w3 (ix2 0 k) = G 0 (col 3 k)) (h2 : ∀ k, w2 (ix2 0 k) = G 0 (col 2 k)) (h1 : ∀ k, w1 (ix2 0 k) = G 0 (col 1 k)) (h0 : ∀ k, w0 (ix2 0 k) = G 0 (col 0 k))
    (hz : ∀ (s : Fin 8) k, 3 ≤ s.val → v.read Val (v.writes Val f L) (ix2 s k) = G s k) (s : Fin 8) (k : Fin 512) :
    v.read Val (v.writes Val f (⟨Rect.unit ![2, 0] ![1, 512] j2, r2⟩ :: ⟨Rect.unit ![1, 0] ![1, 512] j1, r1⟩
      :: ⟨Rect.unit ![0, 384] ![1, 128] i3, w3⟩ :: ⟨Rect.unit ![0, 256] ![1, 128] i2, w2⟩ :: ⟨Rect.unit ![0, 128] ![1, 128] i1, w1⟩ :: ⟨Rect.unit ![0, 0] ![1, 128] i0, w0⟩ :: L))
      (ix2 s k) = G s k := by
  by_cases h3' : 3 ≤ s.val
  · refine (box_ne _ _ _ _ _ (.inl (.inr (by omega)))).trans ((box_ne _ _ _ _ _ (.inl (.inr (by omega)))).trans ((box_ne _ _ _ _ _ (.inl (.inr (by omega)))).trans
      ((box_ne _ _ _ _ _ (.inl (.inr (by omega)))).trans ((box_ne _ _ _ _ _ (.inl (.inr (by omega)))).trans ((box_ne _ _ _ _ _ (.inl (.inr (by omega)))).trans (hz s k h3'))))))
  · have hs : s = 0 ∨ s = 1 ∨ s = 2 := by omega
    rcases hs with rfl | rfl | rfl
    · refine (box_ne _ _ _ _ _ (.inl (.inl (by decide)))).trans ((box_ne _ _ _ _ _ (.inl (.inl (by decide)))).trans ?_)
      obtain ⟨g, j, rfl⟩ : ∃ g j, k = col g j := ⟨⟨k.val / 128, by omega⟩, ⟨k.val % 128, by omega⟩, Fin.ext (by show k.val = 128 * (k.val / 128) + k.val % 128; omega)⟩
      fin_cases g
      · refine (box_ne _ _ _ _ _ (.inr (.inl ?_))).trans ((box_ne _ _ _ _ _ (.inr (.inl ?_))).trans ((box_ne _ _ _ _ _ (.inr (.inl ?_))).trans ((box_of _ _ _ _ _ (i := 0) (j := j) ?_ ?_).trans (h0 j)))) <;> show _ <;> simp [col] <;> omega
      · refine (box_ne _ _ _ _ _ (.inr (.inl ?_))).trans ((box_ne _ _ _ _ _ (.inr (.inl ?_))).trans ((box_of _ _ _ _ _ (i := 0) (j := j) ?_ ?_).trans (h1 j))) <;> show _ <;> simp [col] <;> omega
      · refine (box_ne _ _ _ _ _ (.inr (.inl ?_))).trans ((box_of _ _ _ _ _ (i := 0) (j := j) ?_ ?_).trans (h2 j)) <;> show _ <;> simp [col] <;> omega
      · refine (box_of _ _ _ _ _ (i := 0) (j := j) ?_ ?_).trans (h3 j) <;> show _ <;> simp [col]
    · exact (box_ne _ _ _ _ _ (.inl (.inl (by decide)))).trans ((box_of _ _ _ _ _ (i := 0) (j := k) rfl (Nat.zero_add _).symm).trans (e1 k))
    · exact (box_of _ _ _ _ _ (i := 0) (j := k) rfl (Nat.zero_add _).symm).trans (e2 k)

/-- One of sixteen square blocks. -/
theorem square_ok {o p : ℕ} {inb} {w : S128x128.Idx → EReal} {g : Fin 512 → Fin 512 → ℝ} (c h : Fin 4) (hw : Rd w fun i k => g (col c i) (col h k)) (ho : o = 128 * c.val) (hp : p = 128 * h.val)
    (x : (Rect.unit (s := S512x512) ![o, p] ![128, 128] inb).shape.Idx) : w x = (fun y : S512x512.Idx => ((g (y 0) (y 1) : ℝ) : EReal)) ((Rect.unit (s := S512x512) ![o, p] ![128, 128] inb).emb x) := by
  obtain ⟨i, k, rfl⟩ : ∃ (i k : Fin 128), x = ix2 i k := ⟨x 0, x 1, by funext a; fin_cases a <;> rfl⟩
  refine (hw i k).trans (congrArg Real.toEReal (congrArg₂ g (Fin.ext ?_) (Fin.ext ?_)))
  · show 128 * c.val + i.val = o + 1 * i.val
    omega
  · show 128 * h.val + k.val = p + 1 * k.val
    omega

end

end Cert.MixIdeal.Point
end
-- ==== Proof.MixTile.lean ====
/-
  The mixers' backward: what one tile's blocks hold, and the values its results share.
-/
module

public import proofs.«01_k».proof.Proof.MixLoad

@[expose] public section

set_option maxRecDepth 16384

noncomputable section

namespace Cert.MixIdeal.Point

open Cert.MixIdeal Cert.MixIdeal.Gen Cert.MixIdeal.Run Cert.Fin Cert.Mixer Cert.Rows Idealize.ShloMosaic Idealize.ShloMosaic.TcCoe Idealize.SL.Sem
open Cert.Pool (tok col ext ext_of_lt)

/-- The batch row of a tile. -/
abbrev batch (t : Fin cfg0.N) : Fin 4 := ⟨t.val / 4, by have : t.val < 16 := t.isLt; omega⟩

/-- The position of a row of a tile within its sequence. -/
abbrev at_ (t : Fin cfg0.N) (r : Fin 512) : Fin 2048 := ⟨place (grid0.coords t) * 512 + r.val, by have := place_lt (grid0.coords t); omega⟩

theorem place_eq (t : Fin cfg0.N) : place (grid0.coords t) = t.val % 4 := by
  have ht : t.val < 16 := t.isLt
  have e0 : (grid0.coords t 0).val = t.val / 1 % 16 := Pipeline.Grid.coords_val t 0 (by decide) rfl
  unfold place
  omega

theorem row_tok (t : Fin cfg0.N) (r : Fin 512) : row t r = tok (batch t) (at_ t r) :=
  Fin.ext (by
    have e := place_eq t
    show 512 * t.val + r.val = t.val / 4 * 2048 + (place (grid0.coords t) * 512 + r.val)
    omega)

/-- The inputs of the averaging, along one column of a tile's batch row. -/
abbrev along (a : In) (t : Fin cfg0.N) (k : Fin 512) : Fin 2048 → ℝ := fun s => a.X (tok (batch t) s) k

theorem from_eq {x y z y' : EReal} (h : x = y + z) (hy : y = y') : x = y' + z := h.trans (congrArg (· + z) hy)

/-- What a tile adds to the rows of sums. -/
def part (a : In) (t : Fin cfg0.N) : Fin 8 → Fin 512 → ℝ
  | 0, k => ∑ r, a.dpo (row t r) k * a.po (row t r) k
  | 1, k => ∑ r, a.dvln (row t r) k * xhat (a.v (row t r)) k
  | 2, k => ∑ r, a.dvln (row t r) k
  | _, _ => 0

theorem part_late {a : In} {t : Fin cfg0.N} {s : Fin 8} {k : Fin 512} (h : 3 ≤ s.val) (x : EReal) : x + (part a t s k : EReal) = x := by
  have e : part a t s k = 0 := by
    fin_cases s <;> first | rfl | (exact absurd h (by decide))
  rw [e, EReal.coe_zero, add_zero]

theorem with_dvln {a : In} {t : Fin cfg0.N} {Y : Vec Ideal S512x512 .f32} {Q : Prop} (hv : ∀ r k, Y (ix2 r k) = (a.dvln (row t r) k : EReal))
    (f : (∀ r k, Y (ix2 r k) = (a.dvln (row t r) k : EReal)) → Q) : Q := f hv

theorem col_after (g : Fin 4) (k : Fin 128) {o : ℕ} (h : o + 128 ≤ 128 * g.val) : o + 128 ≤ (col g k).val := by
  show o + 128 ≤ 128 * g.val + k.val
  omega

/-- A block of rows cleared at first. -/
theorem clear_row {sig : RefSig} {κ : Kind} {sp : Space} {Val : EltTy → Type} {e : EltTy} {v : View sig κ sp S8x512 e} {f : v.ty.Contents Val} {i0} {w : S8x512.Idx → Val e}
    {L : List (View.Piece Val S8x512 e)} (s : Fin 8) (k : Fin 512) : v.read Val (v.writes Val f (⟨Rect.unit ![0, 0] ![8, 512] i0, w⟩ :: L)) (ix2 s k) = w (ix2 s k) :=
  box_of _ _ _ _ _ (Nat.zero_add _).symm (Nat.zero_add _).symm

variable {a : In} {m : (ℓ : Loc nD τ sig) → Buf (Elt Ideal) ℓ} {c : Dev nD} {t : Fin cfg0.N}

/-- The blocks of a tile hold the inputs `a`. -/
structure Tile (a : In) (m : (ℓ : Loc nD τ sig) → Buf (Elt Ideal) ℓ) (c : Dev nD) (t : Fin cfg0.N) : Prop where
  d : ∀ (r : Fin 512) (k : Fin 1024), iblk m c 0 t (ix2 r k) = (a.D (row t r) k : EReal)
  x : ∀ (r : Fin 512) (k : Fin 512), iblk m c 1 t (ix2 r k) = (a.X (row t r) k : EReal)
  halo : ¬place (grid0.coords t) = 0 → ∀ (r : Fin 16) (k : Fin 512), iblk m c 2 t (ix2 r k) = (late (along a t k) (place (grid0.coords t) * 512 + r.val) : EReal)
  z : ∀ (r : Fin 512) (k : Fin 1024), iblk m c 3 t (ix2 r k) = (a.Z (row t r) k : EReal)
  o : ∀ (r : Fin 1024) (k : Fin 1024), iblk m c 4 t (ix2 r k) = (a.O r k : EReal)
  p : ∀ (g : Fin 4) (i k : Fin 128), iblk m c 5 t (ix3 g i k) = (a.P g i k : EReal)
  s : ∀ (k : Fin 512), iblk m c 6 t (ix2 (0 : Fin 1) k) = (a.S k : EReal)
  g : ∀ (k : Fin 512), iblk m c 7 t (ix2 (0 : Fin 1) k) = (a.G k : EReal)
  b : ∀ (k : Fin 512), iblk m c 8 t (ix2 (0 : Fin 1) k) = (a.B k : EReal)
  w : ∀ (h : Fin 4) (i k : Fin 128), iblk m c 9 t (ix3 h i k) = (a.W h i k : EReal)
  u : ∀ (h : Fin 4) (i k : Fin 128), iblk m c 10 t (ix3 h i k) = (a.U h i : EReal)

variable (T : Tile a m c t)
include T

theorem Tile.ld0 {i0} (r : Fin 512) (k : Fin 1024) : (View.readAt (Elt Ideal) (b0 t).view (Rect.unit (s := S512x1024) ![0, 0] ![512, 1024] i0).toLoadRect ((hb0 t).unread (iblk m c 0 t))) (ix2 r k) = (a.D (row t r) k : EReal) :=
  (load_box (hb0 t) (iblk m c 0 t) i0 (s := r) (k := k) (Nat.zero_add _).symm (Nat.zero_add _).symm).trans (T.d r k)

theorem Tile.ld3 {i3} (r : Fin 512) (k : Fin 1024) : (View.readAt (Elt Ideal) (b3 t).view (Rect.unit (s := S512x1024) ![0, 0] ![512, 1024] i3).toLoadRect ((hb3 t).unread (iblk m c 3 t))) (ix2 r k) = (a.Z (row t r) k : EReal) :=
  (load_box (hb3 t) (iblk m c 3 t) i3 (s := r) (k := k) (Nat.zero_add _).symm (Nat.zero_add _).symm).trans (T.z r k)

theorem Tile.ld4 {i4} (r : Fin 1024) (k : Fin 1024) : (View.readAt (Elt Ideal) (b4 t).view (Rect.unit (s := S1024x1024) ![0, 0] ![1024, 1024] i4).toLoadRect ((hb4 t).unread (iblk m c 4 t))) (ix2 r k) = (a.O r k : EReal) :=
  (load_box (hb4 t) (iblk m c 4 t) i4 (s := r) (k := k) (Nat.zero_add _).symm (Nat.zero_add _).symm).trans (T.o r k)

theorem Tile.ld7 {i7} (k : Fin 512) : (View.readAt (Elt Ideal) (b7 t).view (Rect.unit (s := S1x512) ![0, 0] ![1, 512] i7).toLoadRect ((hb7 t).unread (iblk m c 7 t))) (ix2 0 k) = (a.G k : EReal) :=
  (load_box (hb7 t) (iblk m c 7 t) i7 (s := (0 : Fin 1)) (k := k) (Nat.zero_add _).symm (Nat.zero_add _).symm).trans (T.g k)

theorem Tile.ld8 {i8} (k : Fin 512) : (View.readAt (Elt Ideal) (b8 t).view (Rect.unit (s := S1x512) ![0, 0] ![1, 512] i8).toLoadRect ((hb8 t).unread (iblk m c 8 t))) (ix2 0 k) = (a.B k : EReal) :=
  (load_box (hb8 t) (iblk m c 8 t) i8 (s := (0 : Fin 1)) (k := k) (Nat.zero_add _).symm (Nat.zero_add _).symm).trans (T.b k)

theorem Tile.ld6 (g : Fin 4) {o : ℕ} {i6} (ho : o = 128 * g.val) (k : Fin 128) : (View.readAt (Elt Ideal) (b6 t).view (Rect.unit (s := S1x512) ![0, o] ![1, 128] i6).toLoadRect ((hb6 t).unread (iblk m c 6 t))) (ix2 0 k) = (a.S (col g k) : EReal) :=
  (load_box (hb6 t) (iblk m c 6 t) i6 (s := (0 : Fin 1)) (k := col g k) (Nat.zero_add _).symm (by rw [ho])).trans (T.s _)

theorem Tile.ld5 (g : Fin 4) {o : ℕ} {i5} (ho : g.val = o) (i k : Fin 128) : (View.readAt (Elt Ideal) (b5 t).view (Rect.unit (s := S4x128x128) ![o, 0, 0] ![1, 128, 128] i5).toLoadRect ((hb5 t).unread (iblk m c 5 t))) (ix3 0 i k) = (a.P g i k : EReal) :=
  (load_slab (hb5 t) (iblk m c 5 t) i5 i k ho).trans (T.p g i k)

theorem Tile.ld9 (g : Fin 4) {o : ℕ} {i9} (ho : g.val = o) (i k : Fin 128) : (View.readAt (Elt Ideal) (b9 t).view (Rect.unit (s := S4x128x128) ![o, 0, 0] ![1, 128, 128] i9).toLoadRect ((hb9 t).unread (iblk m c 9 t))) (ix3 0 i k) = (a.W g i k : EReal) :=
  (load_slab (hb9 t) (iblk m c 9 t) i9 i k ho).trans (T.w g i k)

theorem Tile.ld10 (g : Fin 4) {o : ℕ} {i10} (ho : g.val = o) (i k : Fin 128) : (View.readAt (Elt Ideal) (b10 t).view (Rect.unit (s := S4x128x128) ![o, 0, 0] ![1, 128, 128] i10).toLoadRect ((hb10 t).unread (iblk m c 10 t))) (ix3 0 i k) = (a.U g i : EReal) :=
  (load_slab (hb10 t) (iblk m c 10 t) i10 i k ho).trans (T.u g i k)

/-! ### The values every result uses -/

theorem Tile.dmix {i0 i4} : Rd (k0_pay10 (F := Ideal) (View.readAt (Elt Ideal) (b0 t).view (Rect.unit (s := S512x1024) ![0, 0] ![512, 1024] i0).toLoadRect ((hb0 t).unread (iblk m c 0 t))) (View.readAt (Elt Ideal) (b4 t).view (Rect.unit (s := S1024x1024) ![0, 0] ![1024, 1024] i4).toLoadRect ((hb4 t).unread (iblk m c 4 t)))) fun r k => a.dmix (row t r) k := dmix_rd T.ld0 T.ld4

theorem Tile.vln {i3 i7 i8 h1 h2} : Rd (k0_pay62 (F := Ideal) (k0_pay55 (View.readAt (Elt Ideal) (b3 t).view (Rect.unit (s := S512x1024) ![0, 0] ![512, 1024] i3).toLoadRect ((hb3 t).unread (iblk m c 3 t)))) (shapeCast S1x512 (View.readAt (Elt Ideal) (b7 t).view (Rect.unit (s := S1x512) ![0, 0] ![1, 512] i7).toLoadRect ((hb7 t).unread (iblk m c 7 t))) h1) (shapeCast S1x512 (View.readAt (Elt Ideal) (b8 t).view (Rect.unit (s := S1x512) ![0, 0] ![1, 512] i8).toLoadRect ((hb8 t).unread (iblk m c 8 t))) h2) (k0_pay58 (View.readAt (Elt Ideal) (b3 t).view (Rect.unit (s := S512x1024) ![0, 0] ![512, 1024] i3).toLoadRect ((hb3 t).unread (iblk m c 3 t)))))
    fun r k => a.vln (row t r) k := norm_rd (v_rd T.ld3) (mean_rd T.ld3) T.ld7 T.ld8

theorem Tile.u_ {i3} : Rd (k0_pay54 (F := Ideal) (View.readAt (Elt Ideal) (b3 t).view (Rect.unit (s := S512x1024) ![0, 0] ![512, 1024] i3).toLoadRect ((hb3 t).unread (iblk m c 3 t)))) fun r k => a.u (row t r) k := u_rd T.ld3

theorem Tile.xhat {i3} : Rd (k0_pay61 (F := Ideal) (k0_pay55 (View.readAt (Elt Ideal) (b3 t).view (Rect.unit (s := S512x1024) ![0, 0] ![512, 1024] i3).toLoadRect ((hb3 t).unread (iblk m c 3 t)))) (k0_pay58 (View.readAt (Elt Ideal) (b3 t).view (Rect.unit (s := S512x1024) ![0, 0] ![512, 1024] i3).toLoadRect ((hb3 t).unread (iblk m c 3 t))))) fun r k => Cert.Mixer.xhat (a.v (row t r)) k := xhat_rd (v_rd T.ld3) (mean_rd T.ld3)

theorem Tile.rstd {i3} : Rd (k0_pay60 (F := Ideal) (k0_pay55 (View.readAt (Elt Ideal) (b3 t).view (Rect.unit (s := S512x1024) ![0, 0] ![512, 1024] i3).toLoadRect ((hb3 t).unread (iblk m c 3 t)))) (k0_pay58 (View.readAt (Elt Ideal) (b3 t).view (Rect.unit (s := S512x1024) ![0, 0] ![512, 1024] i3).toLoadRect ((hb3 t).unread (iblk m c 3 t))))) fun r _ => Cert.Mixer.rstd (a.v (row t r)) := rstd_rd (v_rd T.ld3) (mean_rd T.ld3)

theorem Tile.slope {i3} : Rd (k0_pay198 (F := Ideal) (k0_pay50 (View.readAt (Elt Ideal) (b3 t).view (Rect.unit (s := S512x1024) ![0, 0] ![512, 1024] i3).toLoadRect ((hb3 t).unread (iblk m c 3 t)))) (k0_pay51 (View.readAt (Elt Ideal) (b3 t).view (Rect.unit (s := S512x1024) ![0, 0] ![512, 1024] i3).toLoadRect ((hb3 t).unread (iblk m c 3 t)))) (k0_pay52 (View.readAt (Elt Ideal) (b3 t).view (Rect.unit (s := S512x1024) ![0, 0] ![512, 1024] i3).toLoadRect ((hb3 t).unread (iblk m c 3 t))))) fun r k => Cert.Mixer.slope (a.Z (row t r) k) :=
  slope_rd (z_rd T.ld3) (cdf_rd T.ld3) (pdf_rd T.ld3)

theorem Tile.weight (h : Fin 4) {o : ℕ} {i9 h1 h2} (ho : h.val = o) :
    Rd (truncf .bf16 (mulf (shapeCast S128x128 (View.readAt (Elt Ideal) (b9 t).view (Rect.unit (s := S4x128x128) ![o, 0, 0] ![1, 128, 128] i9).toLoadRect ((hb9 t).unread (iblk m c 9 t))) h1) (k0_pay63 (F := Ideal))) h2 : FVec Ideal S128x128 .bf16) (a.w h) :=
  weight_rd (T.ld9 h ho) mask_rd

theorem Tile.bias (h : Fin 4) {o : ℕ} {i10 h1} (ho : h.val = o) : Rd (shapeCast S128x128 (View.readAt (Elt Ideal) (b10 t).view (Rect.unit (s := S4x128x128) ![o, 0, 0] ![1, 128, 128] i10).toLoadRect ((hb10 t).unread (iblk m c 10 t))) h1 : FVec Ideal S128x128 .f32) fun i _ => a.U h i :=
  bias_rd (T.ld10 h ho)

theorem Tile.gw (g : Fin 4) {o : ℕ} {i5 h1 h2} (ho : g.val = o) :
    Rd (truncf .bf16 (shapeCast S128x128 (View.readAt (Elt Ideal) (b5 t).view (Rect.unit (s := S4x128x128) ![o, 0, 0] ![1, 128, 128] i5).toLoadRect ((hb5 t).unread (iblk m c 5 t))) h1 : FVec Ideal S128x128 .f32) h2 : FVec Ideal S128x128 .bf16) (a.P g) :=
  gw_rd (T.ld5 g ho)

theorem Tile.dpo (g : Fin 4) {o : ℕ} {i0 i4 h1} (ho : o = 128 * g.val) :
    Rd (extractStridedSlice S512x128 ![0, o] (k0_pay10 (F := Ideal) (View.readAt (Elt Ideal) (b0 t).view (Rect.unit (s := S512x1024) ![0, 0] ![512, 1024] i0).toLoadRect ((hb0 t).unread (iblk m c 0 t))) (View.readAt (Elt Ideal) (b4 t).view (Rect.unit (s := S1024x1024) ![0, 0] ![1024, 1024] i4).toLoadRect ((hb4 t).unread (iblk m c 4 t)))) h1 : FVec Ideal S512x128 .f32) fun r k => a.dpo (row t r) (col g k) :=
  dpo_rd T.dmix ho

theorem Tile.dps (g : Fin 4) {o o' : ℕ} {i0 i4 i6 h1 h2 h3 h4} (ho : o = 128 * g.val) (ho' : o' = 128 * g.val) :
    Rd (truncf .bf16 (mulf (extractStridedSlice S512x128 ![0, o] (k0_pay10 (F := Ideal) (View.readAt (Elt Ideal) (b0 t).view (Rect.unit (s := S512x1024) ![0, 0] ![512, 1024] i0).toLoadRect ((hb0 t).unread (iblk m c 0 t))) (View.readAt (Elt Ideal) (b4 t).view (Rect.unit (s := S1024x1024) ![0, 0] ![1024, 1024] i4).toLoadRect ((hb4 t).unread (iblk m c 4 t)))) h1 : FVec Ideal S512x128 .f32)
      (broadcastTo S512x128 (shapeCast S1x128 (View.readAt (Elt Ideal) (b6 t).view (Rect.unit (s := S1x512) ![0, o'] ![1, 128] i6).toLoadRect ((hb6 t).unread (iblk m c 6 t))) h2) h3)) h4 : FVec Ideal S512x128 .bf16) fun r k => a.dps (row t r) (col g k) :=
  dps_rd (T.dpo g ho) (T.ld6 g ho')

theorem Tile.rows {i1} (r : Fin 512) (k : Fin 512) : (View.readAt (Elt Ideal) (b1 t).view (Rect.unit (s := S512x512) ![0, 0] ![512, 512] i1).toLoadRect ((hb1 t).unread (iblk m c 1 t))) (ix2 r k) = (late (along a t k) (place (grid0.coords t) * 512 + (16 + r.val)) : EReal) := by
  refine (load_box (hb1 t) (iblk m c 1 t) i1 (s := r) (k := k) (Nat.zero_add _).symm (Nat.zero_add _).symm).trans ((T.x r k).trans ?_)
  have e : place (grid0.coords t) * 512 + (16 + r.val) - 16 = (at_ t r).val := by show _ = place (grid0.coords t) * 512 + r.val; omega
  unfold late
  rw [if_pos (by omega), e, ext_of_lt, row_tok]

theorem Tile.before {i2} (r : Fin 16) (k : Fin 512) : k0_pay11 (F := Ideal) (grid0.coords t) (View.readAt (Elt Ideal) (b2 t).view (Rect.unit (s := S16x512) ![0, 0] ![16, 512] i2).toLoadRect ((hb2 t).unread (iblk m c 2 t))) (ix2 r k) = (late (along a t k) (place (grid0.coords t) * 512 + r.val) : EReal) := by
  rw [pay11]
  by_cases h : place (grid0.coords t) = 0
  · rw [if_pos h]
    unfold late
    rw [if_neg (by rw [h]; omega)]
    rfl
  · rw [if_neg h]
    exact (load_box (hb2 t) (iblk m c 2 t) i2 (s := r) (k := k) (Nat.zero_add _).symm (Nat.zero_add _).symm).trans (T.halo h r k)

omit T in
theorem pooled_less (a : In) (t : Fin cfg0.N) (g : Fin 4) (r : Fin 512) (k : Fin 128) :
    a.pooled (row t r) (col g k) = less (along a t (col g k)) (2 ^ (g.val + 1)) (place (grid0.coords t) * 512 + r.val) := by
  rw [row_tok, a.pooled_at]
  unfold less
  rw [show place (grid0.coords t) * 512 + r.val = (at_ t r).val from rfl, ext_of_lt]

theorem Tile.pool0 {i1 i2} : Rd (k0_pay21 (F := Ideal) (View.readAt (Elt Ideal) (b1 t).view (Rect.unit (s := S512x512) ![0, 0] ![512, 512] i1).toLoadRect ((hb1 t).unread (iblk m c 1 t))) (k0_pay11 (grid0.coords t) (View.readAt (Elt Ideal) (b2 t).view (Rect.unit (s := S16x512) ![0, 0] ![16, 512] i2).toLoadRect ((hb2 t).unread (iblk m c 2 t)))) (k0_pay13 (grid0.coords t))) fun r k => a.pooled (row t r) (col 0 k) :=
  fun r k => (pay21 T.rows T.before (pay13 _) r k).trans (congrArg Real.toEReal (pooled_less a t 0 r k).symm)

theorem Tile.pool1 {i1 i2 h1} : Rd (truncf .bf16 (k0_pay18 (F := Ideal) (View.readAt (Elt Ideal) (b1 t).view (Rect.unit (s := S512x512) ![0, 0] ![512, 512] i1).toLoadRect ((hb1 t).unread (iblk m c 1 t))) (k0_pay11 (grid0.coords t) (View.readAt (Elt Ideal) (b2 t).view (Rect.unit (s := S16x512) ![0, 0] ![16, 512] i2).toLoadRect ((hb2 t).unread (iblk m c 2 t)))) (k0_pay12 (grid0.coords t)) k0_pay14) h1 : FVec Ideal S512x128 .bf16)
    fun r k => a.pooled (row t r) (col 1 k) :=
  cast_rd fun r k => (pay18 T.rows T.before (pay12 _) (fun _ _ => rfl) r k).trans (congrArg Real.toEReal (pooled_less a t 1 r k).symm)

theorem Tile.pool2 {i1 i2 h1} : Rd (truncf .bf16 (k0_pay19 (F := Ideal) (View.readAt (Elt Ideal) (b1 t).view (Rect.unit (s := S512x512) ![0, 0] ![512, 512] i1).toLoadRect ((hb1 t).unread (iblk m c 1 t))) (k0_pay11 (grid0.coords t) (View.readAt (Elt Ideal) (b2 t).view (Rect.unit (s := S16x512) ![0, 0] ![16, 512] i2).toLoadRect ((hb2 t).unread (iblk m c 2 t)))) (k0_pay12 (grid0.coords t))) h1 : FVec Ideal S512x128 .bf16)
    fun r k => a.pooled (row t r) (col 2 k) :=
  cast_rd fun r k => (pay19 T.rows T.before (pay12 _) r k).trans (congrArg Real.toEReal (pooled_less a t 2 r k).symm)

theorem Tile.pool3 {i1 i2 h1} : Rd (truncf .bf16 (k0_pay20 (F := Ideal) (View.readAt (Elt Ideal) (b1 t).view (Rect.unit (s := S512x512) ![0, 0] ![512, 512] i1).toLoadRect ((hb1 t).unread (iblk m c 1 t))) (k0_pay11 (grid0.coords t) (View.readAt (Elt Ideal) (b2 t).view (Rect.unit (s := S16x512) ![0, 0] ![16, 512] i2).toLoadRect ((hb2 t).unread (iblk m c 2 t)))) (k0_pay12 (grid0.coords t))) h1 : FVec Ideal S512x128 .bf16)
    fun r k => a.pooled (row t r) (col 3 k) :=
  cast_rd fun r k => (pay20 T.rows T.before (pay12 _) r k).trans (congrArg Real.toEReal (pooled_less a t 3 r k).symm)

end Cert.MixIdeal.Point
end
-- ==== Proof.MixRef.lean ====
/-
  The reference of the mixers' backward, read at an index on arrays that hold real numbers: the moving averages, the
  activation, the norm and what arrives from the output weights.
-/
module

public import proofs.«01_k».proof.Proof.MixMath
public import proofs.«01_k».proof.Proof.Gen.MixRefIdeal.Read

@[expose] public section

set_option maxRecDepth 16384

noncomputable section

namespace Cert.MixRefIdeal.Read

open Cert.MixRefIdeal Cert.MixRefIdeal.Gen Cert.Fin Cert.Pool Cert.Mixer Idealize.ShloMosaic Idealize.ShloMosaic.TcCoe Idealize.SL.Sem
open Cert.Mixer (mean var rstd xhat lnBwd var_eps_pos rstd_real lnBwd_eq)

/-- The arrays the reference reads hold these reals. -/
structure Holds (a : In) (x0 : (⟨S8192x1024, .bf16⟩ : BufTy).Contents (Elt Ideal)) (x1 : (⟨S8192x512, .f32⟩ : BufTy).Contents (Elt Ideal))
    (x2 : (⟨S8192x1024, .bf16⟩ : BufTy).Contents (Elt Ideal)) (x3 : (⟨S1x1024x1024, .f32⟩ : BufTy).Contents (Elt Ideal))
    (x4 : (⟨S1x4x128x128, .f32⟩ : BufTy).Contents (Elt Ideal)) (x5 x6 x7 : (⟨S1x512, .f32⟩ : BufTy).Contents (Elt Ideal))
    (x8 : (⟨S1x4x128x128, .f32⟩ : BufTy).Contents (Elt Ideal)) (x9 : (⟨S1x4x128, .f32⟩ : BufTy).Contents (Elt Ideal)) : Prop where
  d : ∀ r k, x0 (ix2 r k) = (a.D r k : EReal)
  x : ∀ r c, x1 (ix2 r c) = (a.X r c : EReal)
  z : ∀ r k, x2 (ix2 r k) = (a.Z r k : EReal)
  o : ∀ k n, x3 (ix3 0 k n) = (a.O k n : EReal)
  p : ∀ g k d, x4 (ix4 0 g k d) = (a.P g k d : EReal)
  s : ∀ c, x5 (ix2 0 c) = (a.S c : EReal)
  g : ∀ c, x6 (ix2 0 c) = (a.G c : EReal)
  b : ∀ c, x7 (ix2 0 c) = (a.B c : EReal)
  w : ∀ h t s, x8 (ix4 0 h t s) = (a.W h t s : EReal)
  u : ∀ h t, x9 (ix3 0 h t) = (a.U h t : EReal)

/-! ### Sums along several axes -/

/-- A sum along the first two of three axes. -/
theorem reduce01 {m n k : ℕ} (h : (⟨3, ![m, n, k]⟩ : Shape).ReducesTo [0, 1] ⟨1, ![k]⟩) (v : (⟨3, ![m, n, k]⟩ : Shape).Idx → EReal) (e : EReal) (c : Fin k) :
    Ideal.hostReduceAdd h v e (ix1 c) = e + ∑ b, ∑ s, v (ix3 b s c) := by
  refine congrArg (e + ·) ((Finset.sum_filter_eq_sum_of_fiber _ (fun i : Fin m × Fin n => ix3 i.1 i.2 c)
    (fun _ _ e => Prod.ext (congrFun e 0) (congrFun e 1)) (fun i => ⟨fun e => ⟨(i 0, i 1), ?_⟩, ?_⟩) v).trans (by simp only [Fintype.sum_prod_type]))
  · funext a; apply Fin.ext
    match a with
    | ⟨0, _⟩ => rfl
    | ⟨1, _⟩ => rfl
    | ⟨2, _⟩ => exact (congrArg Fin.val (congrFun e ⟨0, Nat.one_pos⟩)).symm
  · rintro ⟨i, rfl⟩
    funext a; apply Fin.ext
    match a with
    | ⟨0, _⟩ => rfl

/-- A sum along the first two and the last of five axes. -/
theorem reduce014 {m n p h k : ℕ} (H : (⟨5, ![m, n, p, h, k]⟩ : Shape).ReducesTo [0, 1, 4] ⟨2, ![p, h]⟩) (v : (⟨5, ![m, n, p, h, k]⟩ : Shape).Idx → EReal) (e : EReal)
    (c : Fin p) (d : Fin h) : Ideal.hostReduceAdd H v e (ix2 c d) = e + ∑ b, ∑ s, ∑ l, v (ix5 b s c d l) := by
  refine congrArg (e + ·) ((Finset.sum_filter_eq_sum_of_fiber _ (fun i : Fin m × Fin n × Fin k => ix5 i.1 i.2.1 c d i.2.2)
    (fun _ _ e => Prod.ext (congrFun e 0) (Prod.ext (congrFun e 1) (congrFun e 4))) (fun i => ⟨fun e => ⟨(i 0, i 1, i 4), ?_⟩, ?_⟩) v).trans (by simp only [Fintype.sum_prod_type]))
  · funext a; apply Fin.ext
    match a with
    | ⟨0, _⟩ => rfl
    | ⟨1, _⟩ => rfl
    | ⟨2, _⟩ => exact (congrArg Fin.val (congrFun e ⟨0, Nat.two_pos⟩)).symm
    | ⟨3, _⟩ => exact (congrArg Fin.val (congrFun e ⟨1, Nat.one_lt_two⟩)).symm
    | ⟨4, _⟩ => rfl
  · rintro ⟨i, rfl⟩
    funext a; apply Fin.ext
    match a with
    | ⟨0, _⟩ => rfl
    | ⟨1, _⟩ => rfl

/-- A running sum from the start to each position. -/
theorem prefix_sum {n : ℕ} (x : (⟨3, ![4, 2048, n]⟩ : Shape).Idx → EReal) (f : Fin 4 → Fin n → Fin 2048 → ℝ)
    (hx : ∀ b (s : Fin 2048) k, x (ix3 b s k) = (f b k s : EReal))
    (h : (⟨3, ![4, 2048, n]⟩ : Shape).ReduceWindows ![1, 2048, 1] ![1, 1, 1] ![0, 2047, 0] ![0, 0, 0] ⟨3, ![4, 2048, n]⟩)
    (b : Fin 4) (s : Fin 2048) (k : Fin n) :
    Ideal.hostReduceWindowAdd ![1, 2048, 1] ![1, 1, 1] ![0, 2047, 0] ![0, 0, 0] h x 0 (ix3 b s k) = (pre (f b k) (s.val + 1) : ℝ) := by
  have e : pre (f b k) (s.val + 1) = ∑ m : Fin 2048, if 2047 ≤ s.val + m.val then ext (f b k) (s.val + m.val - 2047) else 0 := by
    unfold pre
    rw [Fin.sum_univ_eq_sum_range (fun m => if 2047 ≤ s.val + m then ext (f b k) (s.val + m - 2047) else 0), ← Finset.sum_filter]
    have e1 : (Finset.range 2048).filter (fun m => 2047 ≤ s.val + m) = Finset.Ico (2047 - s.val) 2048 := by
      ext m; simp only [Finset.mem_filter, Finset.mem_range, Finset.mem_Ico]; omega
    rw [e1, Finset.sum_Ico_eq_sum_range, show 2048 - (2047 - s.val) = s.val + 1 by omega]
    exact Finset.sum_congr rfl fun m _ => congrArg _ (by omega)
  rw [e, ← sum_coe]
  unfold Ideal.hostReduceWindowAdd Host.reduceWindow
  dsimp only
  rw [foldl_add_map, zero_add, ← Fin.sum_univ_def]
  refine (Equiv.sum_comp (windowEquiv.trans (⟨3, ![1, 2048, 1]⟩ : Shape).rowMajor) _).symm.trans (Finset.sum_congr rfl fun m _ => ?_)
  have hp : (⟨3, ![1, 2048, 1]⟩ : Shape).rowMajor.symm ((windowEquiv.trans (⟨3, ![1, 2048, 1]⟩ : Shape).rowMajor) m) = ix3 (0 : Fin 1) m (0 : Fin 1) :=
    Equiv.symm_apply_apply _ _
  split_ifs with hin h2 h2
  · have h1 := hin 1
    rw [hp] at h1
    have h3 : s.val * 1 + m.val - 2047 < 2048 := h1.2
    have e2 : ext (f b k) (s.val + m.val - 2047) = f b k ⟨s.val + m.val - 2047, by omega⟩ := ext_of_lt _ ⟨s.val + m.val - 2047, by omega⟩
    rw [e2, ← hx]
    refine congrArg x ?_
    funext a
    apply Fin.ext
    match a with
    | ⟨0, _⟩ => show b.val * 1 + ((⟨3, ![1, 2048, 1]⟩ : Shape).rowMajor.symm _ 0).val - 0 = b.val; rw [hp]; show b.val * 1 + 0 - 0 = b.val; omega
    | ⟨1, _⟩ => show s.val * 1 + ((⟨3, ![1, 2048, 1]⟩ : Shape).rowMajor.symm _ 1).val - 2047 = s.val + m.val - 2047; rw [hp]; show s.val * 1 + m.val - 2047 = s.val + m.val - 2047; omega
    | ⟨2, _⟩ => show k.val * 1 + ((⟨3, ![1, 2048, 1]⟩ : Shape).rowMajor.symm _ 2).val - 0 = k.val; rw [hp]; show k.val * 1 + 0 - 0 = k.val; omega
  · have h1 := hin 1
    rw [hp] at h1
    have h3 : 2047 ≤ s.val * 1 + m.val := h1.1
    omega
  · exfalso
    refine hin fun a => ?_
    match a with
    | ⟨0, _⟩ => rw [hp]; exact ⟨Nat.zero_le _, by show b.val * 1 + 0 - 0 < 4; omega⟩
    | ⟨1, _⟩ => rw [hp]; exact ⟨by show 2047 ≤ s.val * 1 + m.val; omega, by show s.val * 1 + m.val - 2047 < 2048; omega⟩
    | ⟨2, _⟩ => rw [hp]; exact ⟨Nat.zero_le _, by show k.val * 1 + 0 - 0 < n; omega⟩
  · rfl

/-! ### The moving averages -/

theorem one_add_word (s : ℕ) : IntOp.addi 1#32 (BitVec.ofNat 32 s) = BitVec.ofNat 32 (s + 1) := by
  rw [Nat.add_comm, BitVec.ofNat_add]; rfl

theorem count2 (s : Fin 2048) : val_main_v14 (F := Ideal) (ix3 0 s 0) = ((min (s.val + 1) 2 : ℕ) : ℝ) := by
  pointwise [val_main_v14, val_main_v13, val_main_v12, val_main_v11, val_main_v6, val_main_v5, val_main_v4, val_main_c, val_main_c_1]
  rw [one_add_word]
  exact count_real s.val 2 s.isLt (by norm_num)

theorem count4 (s : Fin 2048) : val_main_v28 (F := Ideal) (ix3 0 s 0) = ((min (s.val + 1) 4 : ℕ) : ℝ) := by
  pointwise [val_main_v28, val_main_v27, val_main_v26, val_main_v25, val_main_v6, val_main_v5, val_main_v4, val_main_c, val_main_c_3]
  rw [one_add_word]
  exact count_real s.val 4 s.isLt (by norm_num)

theorem count8 (s : Fin 2048) : val_main_v42 (F := Ideal) (ix3 0 s 0) = ((min (s.val + 1) 8 : ℕ) : ℝ) := by
  pointwise [val_main_v42, val_main_v41, val_main_v40, val_main_v39, val_main_v6, val_main_v5, val_main_v4, val_main_c, val_main_c_5]
  rw [one_add_word]
  exact count_real s.val 8 s.isLt (by norm_num)

theorem count16 (s : Fin 2048) : val_main_v56 (F := Ideal) (ix3 0 s 0) = ((min (s.val + 1) 16 : ℕ) : ℝ) := by
  pointwise [val_main_v56, val_main_v55, val_main_v54, val_main_v53, val_main_v6, val_main_v5, val_main_v4, val_main_c, val_main_c_7]
  rw [one_add_word]
  exact count_real s.val 16 s.isLt (by norm_num)

variable {a : In} {x0 : (⟨S8192x1024, .bf16⟩ : BufTy).Contents (Elt Ideal)} {x1 : (⟨S8192x512, .f32⟩ : BufTy).Contents (Elt Ideal)}
    {x2 : (⟨S8192x1024, .bf16⟩ : BufTy).Contents (Elt Ideal)} {x3 : (⟨S1x1024x1024, .f32⟩ : BufTy).Contents (Elt Ideal)}
    {x4 : (⟨S1x4x128x128, .f32⟩ : BufTy).Contents (Elt Ideal)} {x5 x6 x7 : (⟨S1x512, .f32⟩ : BufTy).Contents (Elt Ideal)}
    {x8 : (⟨S1x4x128x128, .f32⟩ : BufTy).Contents (Elt Ideal)} {x9 : (⟨S1x4x128, .f32⟩ : BufTy).Contents (Elt Ideal)}
  (H : Holds a x0 x1 x2 x3 x4 x5 x6 x7 x8 x9)
include H

/-- A column of a sequence. -/
abbrev seq (a : In) (b : Fin 4) (c : Fin 512) (s : Fin 2048) : ℝ := a.X (tok b s) c

theorem v0_real (b : Fin 4) (s : Fin 2048) (c : Fin 512) : val_main_v0 (F := Ideal) x1 (ix3 b s c) = (seq a b c s : ℝ) := by
  pointwise [val_main_v0, H.x]

/-- The running sums, with the empty sum in front. -/
theorem v3_real (b : Fin 4) (n : Fin 2049) (c : Fin 512) : val_main_v3 (F := Ideal) x1 (ix3 b n c) = (pre (seq a b c) n.val : ℝ) := by
  have h2 (s : Fin 2048) : val_main_v2 (F := Ideal) x1 (ix3 b s c) = (pre (seq a b c) (s.val + 1) : ℝ) := by
    have hi : val_main_call0_call0_v0 (F := Ideal) (Shape.Idx.first (by decide)) = (0 : EReal) := by
      pointwise [val_main_call0_call0_v0, val_main_call0_call0_cst]
    unfold val_main_v2 Host.reduceWindowAdd
    rw [Ideal.hostReduceWindowAdd_def, hi]
    exact prefix_sum _ (fun b c => seq a b c) (fun b s c => v0_real H b s c) _ b s c
  pointwise [val_main_v3, val_main_v1, val_main_cst, h2]
  split_ifs with h
  · rw [show n.val = 0 by omega]; simp [pre]
  · rw [show n.val - 1 + 1 = n.val by omega]

omit H in
theorem pre_close (a : In) (b g : Fin 4) (k : Fin 128) (c : Fin 512) (hc : c.val = 128 * g.val + k.val) {n m : ℕ} (h : n = m) :
    ((pre (seq a b c) n : ℝ) : EReal) = (pre (seq a b (col g k)) m : ℝ) := by
  subst h; rw [show c = col g k from Fin.ext hc]

/-- The averages over 2 positions, less the entries themselves. -/
theorem pooled2 (b : Fin 4) (s : Fin 2048) (k : Fin 128) : val_main_v20 (F := Ideal) x1 (ix3 b s k) = (a.pooled (tok b s) (col 0 k) : ℝ) := by
  have h10 : val_main_v10 (F := Ideal) x1 (ix3 b s k) = (pre (seq a b (col 0 k)) (s.val + 1 - 2) : ℝ) := by
    pointwise [val_main_v10, val_main_v9, val_main_v8, val_main_cst_0, val_main_v7, v3_real H]
    by_cases h : s.val < 1
    · rw [dif_pos h, show s.val + 1 - 2 = 0 by omega]; simp [pre]
    · rw [dif_neg h]; exact pre_close a b 0 k _ (show k.val = 128 * 0 + k.val by omega) (show s.val - 1 = s.val + 1 - 2 by omega)
  have h15 : val_main_v15 (F := Ideal) x1 (ix3 b s k) = (pre (seq a b (col 0 k)) (s.val + 1) : ℝ) := by
    pointwise [val_main_v15, val_main_v7, v3_real H]
    exact pre_close a b 0 k _ (show k.val = 128 * 0 + k.val by omega) (Nat.add_comm 1 s.val)
  have h19 : val_main_v19 (F := Ideal) x1 (ix3 b s k) = (seq a b (col 0 k) s : ℝ) := by
    pointwise [val_main_v19, v0_real H]; exact congrArg (fun c => ((seq a b c s : ℝ) : EReal)) (Fin.ext (by show k.val = 128 * 0 + k.val; omega))
  have h17 : val_main_v17 (F := Ideal) (ix3 b s k) = ((min (s.val + 1) 2 : ℕ) : ℝ) := by
    pointwise [val_main_v17]; exact count2 s
  pointwise [val_main_v20, h19, val_main_v18, h17, val_main_v16, h10, h15, ← EReal.coe_sub]
  rw [div_real _ (count_ne s.val 2 (by norm_num)), ← EReal.coe_sub, pre_succ_sub, In.pooled_at]; rfl

/-- The averages over 4 positions, less the entries themselves. -/
theorem pooled4 (b : Fin 4) (s : Fin 2048) (k : Fin 128) : val_main_v34 (F := Ideal) x1 (ix3 b s k) = (a.pooled (tok b s) (col 1 k) : ℝ) := by
  have h10 : val_main_v24 (F := Ideal) x1 (ix3 b s k) = (pre (seq a b (col 1 k)) (s.val + 1 - 4) : ℝ) := by
    pointwise [val_main_v24, val_main_v23, val_main_v22, val_main_cst_2, val_main_v21, v3_real H]
    by_cases h : s.val < 3
    · rw [dif_pos h, show s.val + 1 - 4 = 0 by omega]; simp [pre]
    · rw [dif_neg h]; exact pre_close a b 1 k _ (show 128 + k.val = 128 * 1 + k.val by omega) (show s.val - 3 = s.val + 1 - 4 by omega)
  have h15 : val_main_v29 (F := Ideal) x1 (ix3 b s k) = (pre (seq a b (col 1 k)) (s.val + 1) : ℝ) := by
    pointwise [val_main_v29, val_main_v21, v3_real H]
    exact pre_close a b 1 k _ (show 128 + k.val = 128 * 1 + k.val by omega) (Nat.add_comm 1 s.val)
  have h19 : val_main_v33 (F := Ideal) x1 (ix3 b s k) = (seq a b (col 1 k) s : ℝ) := by
    pointwise [val_main_v33]; exact v0_real H b s (col 1 k)
  have h17 : val_main_v31 (F := Ideal) (ix3 b s k) = ((min (s.val + 1) 4 : ℕ) : ℝ) := by
    pointwise [val_main_v31]; exact count4 s
  pointwise [val_main_v34, h19, val_main_v32, h17, val_main_v30, h10, h15, ← EReal.coe_sub]
  rw [div_real _ (count_ne s.val 4 (by norm_num)), ← EReal.coe_sub, pre_succ_sub, In.pooled_at]; rfl

/-- The averages over 8 positions, less the entries themselves. -/
theorem pooled8 (b : Fin 4) (s : Fin 2048) (k : Fin 128) : val_main_v48 (F := Ideal) x1 (ix3 b s k) = (a.pooled (tok b s) (col 2 k) : ℝ) := by
  have h10 : val_main_v38 (F := Ideal) x1 (ix3 b s k) = (pre (seq a b (col 2 k)) (s.val + 1 - 8) : ℝ) := by
    pointwise [val_main_v38, val_main_v37, val_main_v36, val_main_cst_4, val_main_v35, v3_real H]
    by_cases h : s.val < 7
    · rw [dif_pos h, show s.val + 1 - 8 = 0 by omega]; simp [pre]
    · rw [dif_neg h]; exact pre_close a b 2 k _ (show 256 + k.val = 128 * 2 + k.val by omega) (show s.val - 7 = s.val + 1 - 8 by omega)
  have h15 : val_main_v43 (F := Ideal) x1 (ix3 b s k) = (pre (seq a b (col 2 k)) (s.val + 1) : ℝ) := by
    pointwise [val_main_v43, val_main_v35, v3_real H]
    exact pre_close a b 2 k _ (show 256 + k.val = 128 * 2 + k.val by omega) (Nat.add_comm 1 s.val)
  have h19 : val_main_v47 (F := Ideal) x1 (ix3 b s k) = (seq a b (col 2 k) s : ℝ) := by
    pointwise [val_main_v47]; exact v0_real H b s (col 2 k)
  have h17 : val_main_v45 (F := Ideal) (ix3 b s k) = ((min (s.val + 1) 8 : ℕ) : ℝ) := by
    pointwise [val_main_v45]; exact count8 s
  pointwise [val_main_v48, h19, val_main_v46, h17, val_main_v44, h10, h15, ← EReal.coe_sub]
  rw [div_real _ (count_ne s.val 8 (by norm_num)), ← EReal.coe_sub, pre_succ_sub, In.pooled_at]; rfl

/-- The averages over 16 positions, less the entries themselves. -/
theorem pooled16 (b : Fin 4) (s : Fin 2048) (k : Fin 128) : val_main_v62 (F := Ideal) x1 (ix3 b s k) = (a.pooled (tok b s) (col 3 k) : ℝ) := by
  have h10 : val_main_v52 (F := Ideal) x1 (ix3 b s k) = (pre (seq a b (col 3 k)) (s.val + 1 - 16) : ℝ) := by
    pointwise [val_main_v52, val_main_v51, val_main_v50, val_main_cst_6, val_main_v49, v3_real H]
    by_cases h : s.val < 15
    · rw [dif_pos h, show s.val + 1 - 16 = 0 by omega]; simp [pre]
    · rw [dif_neg h]; exact pre_close a b 3 k _ (show 384 + k.val = 128 * 3 + k.val by omega) (show s.val - 15 = s.val + 1 - 16 by omega)
  have h15 : val_main_v57 (F := Ideal) x1 (ix3 b s k) = (pre (seq a b (col 3 k)) (s.val + 1) : ℝ) := by
    pointwise [val_main_v57, val_main_v49, v3_real H]
    exact pre_close a b 3 k _ (show 384 + k.val = 128 * 3 + k.val by omega) (Nat.add_comm 1 s.val)
  have h19 : val_main_v61 (F := Ideal) x1 (ix3 b s k) = (seq a b (col 3 k) s : ℝ) := by
    pointwise [val_main_v61]; exact v0_real H b s (col 3 k)
  have h17 : val_main_v59 (F := Ideal) (ix3 b s k) = ((min (s.val + 1) 16 : ℕ) : ℝ) := by
    pointwise [val_main_v59]; exact count16 s
  pointwise [val_main_v62, h19, val_main_v60, h17, val_main_v58, h10, h15, ← EReal.coe_sub]
  rw [div_real _ (count_ne s.val 16 (by norm_num)), ← EReal.coe_sub, pre_succ_sub, In.pooled_at]; rfl

/-- The averages, group by group. -/
theorem pooled_real (b : Fin 4) (s : Fin 2048) (g : Fin 4) (k : Fin 128) : val_main_v67 (F := Ideal) x1 (ix4 b s g k) = (a.pooled (tok b s) (col g k) : ℝ) := by
  fin_cases g
  · pointwise [val_main_v67, val_main_v63, pooled2 H]
  · pointwise [val_main_v67, val_main_v64, pooled4 H]
  · pointwise [val_main_v67, val_main_v65, pooled8 H]
  · pointwise [val_main_v67, val_main_v66, pooled16 H]

/-! ### The activation -/

theorem z_real (b : Fin 4) (s : Fin 2048) (k : Fin 1024) : val_main_v69 (F := Ideal) x2 (ix3 b s k) = (a.Z (tok b s) k : ℝ) := by
  pointwise [val_main_v69, val_main_v68, H.z]

theorem half_z (b : Fin 4) (s : Fin 2048) (k : Fin 1024) : val_main_v71 (F := Ideal) x2 (ix3 b s k) = ((1 / 2 * a.Z (tok b s) k : ℝ) : EReal) := by
  pointwise [val_main_v71, val_main_v70, val_main_cst_8, z_real H, lit_half, ← EReal.coe_mul]

omit H in
theorem root_two (i : S_.Idx) : val_main_v73 (F := Ideal) i = ((Real.sqrt 2 : ℝ) : EReal) := by
  pointwise [val_main_v73, val_main_cst_9, lit_two, sqrt_two_real]

theorem arg_real (b : Fin 4) (s : Fin 2048) (k : Fin 1024) : val_main_v75 (F := Ideal) x2 (ix3 b s k) = ((-a.Z (tok b s) k / Real.sqrt 2 : ℝ) : EReal) := by
  pointwise [val_main_v75, val_main_v74, val_main_v72, root_two, z_real H, ← EReal.coe_neg]
  rw [div_real _ sqrt_two_ne]

theorem erfc_z (b : Fin 4) (s : Fin 2048) (k : Fin 1024) : val_main_v76 (F := Ideal) x2 (ix3 b s k) = ((1 + Mixer.erf (a.Z (tok b s) k * (Real.sqrt 2)⁻¹) : ℝ) : EReal) := by
  pointwise [val_main_v76, arg_real H]
  rw [show -a.Z (tok b s) k / Real.sqrt 2 = -(a.Z (tok b s) k * (Real.sqrt 2)⁻¹) by ring]
  exact erfc_real _

theorem exp_z (b : Fin 4) (s : Fin 2048) (k : Fin 1024) : val_main_v79 (F := Ideal) x2 (ix3 b s k)
    = ((Real.exp (-(-a.Z (tok b s) k / Real.sqrt 2 * (-a.Z (tok b s) k / Real.sqrt 2))) : ℝ) : EReal) := by
  pointwise [val_main_v79, val_main_v78, val_main_v77, arg_real H, ← EReal.coe_mul, ← EReal.coe_neg, Ideal.exp_coe]

theorem act_real (b : Fin 4) (s : Fin 2048) (k : Fin 1024) : val_main_v80 (F := Ideal) x2 (ix3 b s k) = (act (a.Z (tok b s) k) : ℝ) := by
  pointwise [val_main_v80, half_z H, erfc_z H, ← EReal.coe_mul]
  exact congrArg _ (by unfold act cdf; ring)

theorem u_real (b : Fin 4) (s : Fin 2048) (c : Fin 512) : val_main_v93 (F := Ideal) x2 (ix3 b s c) = (a.u (tok b s) c : ℝ) := by
  pointwise [val_main_v93, act_real H]; rfl

theorem v_real (b : Fin 4) (s : Fin 2048) (c : Fin 512) : val_main_v94 (F := Ideal) x2 (ix3 b s c) = (a.v (tok b s) c : ℝ) := by
  pointwise [val_main_v94, act_real H]; rfl

/-! ### The norm of the gated half -/

theorem mean_real (b : Fin 4) (s : Fin 2048) : val_main_v98 (F := Ideal) x2 (ix3 b s 0) = (mean (a.v (tok b s)) : ℝ) := by
  pointwise [val_main_v98, val_main_v97, val_main_v96, val_main_v95, val_main_cst_10, val_main_cst_11, v_real H, lit_zero, lit_512, sum_coe]
  rw [← EReal.coe_add, zero_add, div_real _ (by norm_num)]; rfl

theorem dev_real (b : Fin 4) (s : Fin 2048) (c : Fin 512) : val_main_v100 (F := Ideal) x2 (ix3 b s c) = ((a.v (tok b s) c - mean (a.v (tok b s)) : ℝ) : EReal) := by
  pointwise [val_main_v100, val_main_v99, v_real H, mean_real H, ← EReal.coe_sub]

theorem dev2_real (b : Fin 4) (s : Fin 2048) (c : Fin 512) : val_main_v109 (F := Ideal) x2 (ix3 b s c) = ((a.v (tok b s) c - mean (a.v (tok b s)) : ℝ) : EReal) := by
  pointwise [val_main_v109, val_main_v108, v_real H, mean_real H, ← EReal.coe_sub]

theorem var_real (b : Fin 4) (s : Fin 2048) : val_main_v111 (F := Ideal) x2 (ix3 b s 0) = ((var (a.v (tok b s)) + eps : ℝ) : EReal) := by
  pointwise [val_main_v111, val_main_v110, val_main_cst_15, val_main_v107, val_main_v106, val_main_v105, val_main_v104, val_main_cst_13, val_main_cst_14, val_main_v101,
    dev_real H, lit_zero, lit_512, lit_eps, ← EReal.coe_mul, sum_coe]
  rw [← EReal.coe_add, zero_add, div_real _ (by norm_num), ← EReal.coe_add]; rfl

theorem rstd_row (b : Fin 4) (s : Fin 2048) : val_main_v112 (F := Ideal) x2 (ix3 b s 0) = (rstd (a.v (tok b s)) : ℝ) := by
  pointwise [val_main_v112, var_real H, Mixer.rstd_real]

theorem xhat_real (b : Fin 4) (s : Fin 2048) (c : Fin 512) : val_main_v117 (F := Ideal) x2 (ix3 b s c) = (xhat (a.v (tok b s)) c : ℝ) := by
  pointwise [val_main_v117, val_main_v116, dev2_real H, rstd_row H, ← EReal.coe_mul]; rfl

theorem scale_real (c : Fin 512) : val_main_v118 (F := Ideal) x6 (ix3 0 0 c) = (a.G c : ℝ) := by
  pointwise [val_main_v118, val_main_v89, H.g]

theorem vln_real (b : Fin 4) (s : Fin 2048) (c : Fin 512) : val_main_v123 (F := Ideal) x2 x6 x7 (ix3 b s c) = (a.vln (tok b s) c : ℝ) := by
  pointwise [val_main_v123, val_main_v122, val_main_v121, val_main_v120, val_main_v119, val_main_v90, xhat_real H, scale_real H, H.b, ← EReal.coe_mul, ← EReal.coe_add]; rfl

end Cert.MixRefIdeal.Read
end
-- ==== Proof.MixBlocks.lean ====
/-
  The mixers' backward: the blocks of a tile as parts of the argument arrays.
-/
module

public import proofs.«01_k».proof.Proof.MixTile
public import proofs.«01_k».proof.Proof.MixRef
public import Idealize.ShloMosaic.Lib.Pipeline.ValueKit.Point

@[expose] public section

set_option maxRecDepth 16384

noncomputable section

namespace Cert.MixIdeal.Point

open Cert.MixIdeal Cert.MixIdeal.Gen Cert.MixIdeal.Run Cert.Fin Cert.Mixer Cert.Rows Idealize.ShloMosaic Idealize.ShloMosaic.TcCoe Idealize.SL.Sem
open Cert.Pool (tok col ext ext_of_lt)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![32 * t.val - 1, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0, 0] := (by decide +kernel : ∀ t : Fin grid0.N, _)
theorem idx10 : ∀ t : Fin cfg0.N, win0_10.index t = ![0, 0, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![0, 0, 0] := (by decide +kernel : ∀ t : Fin grid0.N, _)
theorem idx14 : ∀ t : Fin cfg0.N, win0_14.index t = ![0, 0, 0] := (by decide +kernel : ∀ t : Fin grid0.N, _)
theorem idx15 : ∀ t : Fin cfg0.N, win0_15.index t = ![0, 0, 0] := (by decide +kernel : ∀ t : Fin grid0.N, _)
theorem idx16 : ∀ t : Fin cfg0.N, win0_16.index t = ![0, 0] := (by decide +kernel : ∀ t : Fin grid0.N, _)

variable (m : (ℓ : Loc nD τ sig) → Buf (Elt Ideal) ℓ) (c : Dev nD) (t : Fin cfg0.N)

/-- Row `r` of the sixteen rows before a tile. -/
abbrev before (t : Fin cfg0.N) (r : Fin 16) : Fin 8192 := ⟨16 * (32 * t.val - 1) + r.val, by have : t.val < 16 := t.isLt; omega⟩

theorem blk0 (r : Fin 512) (k : Fin 1024) : iblk m c 0 t (ix2 r k) = m ((c : Thread nD τ).loc main_arg0) (ix2 (row t r) k) := by
  blk_ext! [iblk, V, idx0 t]

theorem blk1 (r : Fin 512) (k : Fin 512) : iblk m c 1 t (ix2 r k) = m ((c : Thread nD τ).loc main_arg1) (ix2 (row t r) k) := by
  blk_ext! [iblk, V, idx1 t]

theorem blk2 (r : Fin 16) (k : Fin 512) : iblk m c 2 t (ix2 r k) = m ((c : Thread nD τ).loc main_arg1) (ix2 (before t r) k) := by
  blk_ext! [iblk, V, idx2 t]

theorem blk3 (r : Fin 512) (k : Fin 1024) : iblk m c 3 t (ix2 r k) = m ((c : Thread nD τ).loc main_arg2) (ix2 (row t r) k) := by
  blk_ext! [iblk, V, idx3 t]

theorem blk4 (i k : Fin 1024) : iblk m c 4 t (ix2 i k) = m ((c : Thread nD τ).loc main_arg3) (ix3 0 i k) := by
  blk_ext! [iblk, V, idx4 t]

theorem blk5 (g : Fin 4) (i k : Fin 128) : iblk m c 5 t (ix3 g i k) = m ((c : Thread nD τ).loc main_arg4) (ix4 0 g i k) := by
  blk_ext! [iblk, V, idx5 t]

theorem blk6 (k : Fin 512) : iblk m c 6 t (ix2 (0 : Fin 1) k) = m ((c : Thread nD τ).loc main_arg5) (ix2 0 k) := by
  blk_ext! [iblk, V, idx6 t]

theorem blk7 (k : Fin 512) : iblk m c 7 t (ix2 (0 : Fin 1) k) = m ((c : Thread nD τ).loc main_arg6) (ix2 0 k) := by
  blk_ext! [iblk, V, idx7 t]

theorem blk8 (k : Fin 512) : iblk m c 8 t (ix2 (0 : Fin 1) k) = m ((c : Thread nD τ).loc main_arg7) (ix2 0 k) := by
  blk_ext! [iblk, V, idx8 t]

theorem blk9 (g : Fin 4) (i k : Fin 128) : iblk m c 9 t (ix3 g i k) = m ((c : Thread nD τ).loc main_arg8) (ix4 0 g i k) := by
  blk_ext! [iblk, V, idx9 t]

theorem blk10 (g : Fin 4) (i k : Fin 128) : iblk m c 10 t (ix3 g i k) = m ((c : Thread nD τ).loc main_arg9) (ix3 0 g i) := by
  blk_ext! [iblk, V, idx10 t]

/-- Arguments holding real numbers give every tile real blocks. -/
theorem tile_of {a : In} (H : Cert.MixRefIdeal.Read.Holds a (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) : Tile a m c t where
  d r k := (blk0 m c t r k).trans (H.d _ _)
  x r k := (blk1 m c t r k).trans (H.x _ _)
  halo h r k := by
    rw [blk2 m c t r k, H.x]
    rw [place_eq] at h ⊢
    have hp : 16 ≤ t.val % 4 * 512 + r.val := by omega
    have hn : t.val % 4 * 512 + r.val - 16 < 2048 := by omega
    have e : before t r = tok (batch t) ⟨t.val % 4 * 512 + r.val - 16, hn⟩ := Fin.ext (by
      show 16 * (32 * t.val - 1) + r.val = t.val / 4 * 2048 + (t.val % 4 * 512 + r.val - 16)
      omega)
    unfold late
    rw [if_pos hp, e]
    exact congrArg _ (ext_of_lt (along a t k) ⟨t.val % 4 * 512 + r.val - 16, hn⟩).symm
  z r k := (blk3 m c t r k).trans (H.z _ _)
  o r k := (blk4 m c t r k).trans (H.o _ _)
  p g i k := (blk5 m c t g i k).trans (H.p _ _ _)
  s k := (blk6 m c t k).trans (H.s _)
  g k := (blk7 m c t k).trans (H.g _)
  b k := (blk8 m c t k).trans (H.b _)
  w g i k := (blk9 m c t g i k).trans (H.w _ _ _)
  u g i k := (blk10 m c t g i k).trans (H.u _ _)

end Cert.MixIdeal.Point
end
-- ==== Proof.MixGrid.lean ====
/-
  The mixers' backward: a buffer filled by sixteen square blocks, read back whole.
-/
module

public import proofs.«01_k».proof.Proof.MixTile

@[expose] public section

set_option maxRecDepth 16384

noncomputable section

namespace Cert.MixIdeal.Point

open Cert.MixIdeal Cert.MixIdeal.Gen Cert.MixIdeal.Run Cert.Fin Cert.Mixer Cert.Rows Idealize.ShloMosaic Idealize.ShloMosaic.TcCoe Idealize.SL.Sem
open Cert.Pool (tok col ext ext_of_lt)

/-- Sixteen square blocks that hold the matrix `g`, read back whole. -/
theorem sixteen {sg : RefSig} {κ : Kind} {sp : Space} {v : View sg κ sp S512x512 .f32} (g : Fin 512 → Fin 512 → ℝ)
    {w33 w23 w13 w03 w32 w22 w12 w02 w31 w21 w11 w01 w30 w20 w10 w00 : S128x128.Idx → EReal}
    {i33 i23 i13 i03 i32 i22 i12 i02 i31 i21 i11 i01 i30 i20 i10 i00 i}
    (h33 : Rd w33 fun i k => g (col 3 i) (col 3 k))
    (h23 : Rd w23 fun i k => g (col 2 i) (col 3 k))
    (h13 : Rd w13 fun i k => g (col 1 i) (col 3 k))
    (h03 : Rd w03 fun i k => g (col 0 i) (col 3 k))
    (h32 : Rd w32 fun i k => g (col 3 i) (col 2 k))
    (h22 : Rd w22 fun i k => g (col 2 i) (col 2 k))
    (h12 : Rd w12 fun i k => g (col 1 i) (col 2 k))
    (h02 : Rd w02 fun i k => g (col 0 i) (col 2 k))
    (h31 : Rd w31 fun i k => g (col 3 i) (col 1 k))
    (h21 : Rd w21 fun i k => g (col 2 i) (col 1 k))
    (h11 : Rd w11 fun i k => g (col 1 i) (col 1 k))
    (h01 : Rd w01 fun i k => g (col 0 i) (col 1 k))
    (h30 : Rd w30 fun i k => g (col 3 i) (col 0 k))
    (h20 : Rd w20 fun i k => g (col 2 i) (col 0 k))
    (h10 : Rd w10 fun i k => g (col 1 i) (col 0 k))
    (h00 : Rd w00 fun i k => g (col 0 i) (col 0 k)) :
    Rd (v.readCov (Val := Elt Ideal) [⟨Rect.unit (s := S512x512) ![384, 384] ![128, 128] i33, w33⟩,
      ⟨Rect.unit (s := S512x512) ![256, 384] ![128, 128] i23, w23⟩,
      ⟨Rect.unit (s := S512x512) ![128, 384] ![128, 128] i13, w13⟩,
      ⟨Rect.unit (s := S512x512) ![0, 384] ![128, 128] i03, w03⟩,
      ⟨Rect.unit (s := S512x512) ![384, 256] ![128, 128] i32, w32⟩,
      ⟨Rect.unit (s := S512x512) ![256, 256] ![128, 128] i22, w22⟩,
      ⟨Rect.unit (s := S512x512) ![128, 256] ![128, 128] i12, w12⟩,
      ⟨Rect.unit (s := S512x512) ![0, 256] ![128, 128] i02, w02⟩,
      ⟨Rect.unit (s := S512x512) ![384, 128] ![128, 128] i31, w31⟩,
      ⟨Rect.unit (s := S512x512) ![256, 128] ![128, 128] i21, w21⟩,
      ⟨Rect.unit (s := S512x512) ![128, 128] ![128, 128] i11, w11⟩,
      ⟨Rect.unit (s := S512x512) ![0, 128] ![128, 128] i01, w01⟩,
      ⟨Rect.unit (s := S512x512) ![384, 0] ![128, 128] i30, w30⟩,
      ⟨Rect.unit (s := S512x512) ![256, 0] ![128, 128] i20, w20⟩,
      ⟨Rect.unit (s := S512x512) ![128, 0] ![128, 128] i10, w10⟩,
      ⟨Rect.unit (s := S512x512) ![0, 0] ![128, 128] i00, w00⟩]
      (Rect.unit (s := S512x512) ![0, 0] ![512, 512] i).toLoadRect) g := fun r k => by
  refine (cov_box _ _ _ (s := r) (k := k) (Nat.zero_add _).symm (Nat.zero_add _).symm).trans
    (View.read_writes_apply_of_pieces (Val := Elt Ideal) (e := .f32) _ _ (fun y : S512x512.Idx => ((g (y 0) (y 1) : ℝ) : EReal)) _ ?_ (ix2 r k) (View.cover_of_tiledBy _ ![128, 128] ?_ (ix2 r k)))
  · exact List.forall_mem_cons.mpr ⟨square_ok (g := g) (inb := i33) 3 3 h33 rfl rfl, List.forall_mem_cons.mpr ⟨square_ok (g := g) (inb := i23) 2 3 h23 rfl rfl, List.forall_mem_cons.mpr ⟨square_ok (g := g) (inb := i13) 1 3 h13 rfl rfl, List.forall_mem_cons.mpr ⟨square_ok (g := g) (inb := i03) 0 3 h03 rfl rfl, List.forall_mem_cons.mpr ⟨square_ok (g := g) (inb := i32) 3 2 h32 rfl rfl, List.forall_mem_cons.mpr ⟨square_ok (g := g) (inb := i22) 2 2 h22 rfl rfl, List.forall_mem_cons.mpr ⟨square_ok (g := g) (inb := i12) 1 2 h12 rfl rfl, List.forall_mem_cons.mpr ⟨square_ok (g := g) (inb := i02) 0 2 h02 rfl rfl, List.forall_mem_cons.mpr ⟨square_ok (g := g) (inb := i31) 3 1 h31 rfl rfl, List.forall_mem_cons.mpr ⟨square_ok (g := g) (inb := i21) 2 1 h21 rfl rfl, List.forall_mem_cons.mpr ⟨square_ok (g := g) (inb := i11) 1 1 h11 rfl rfl, List.forall_mem_cons.mpr ⟨square_ok (g := g) (inb := i01) 0 1 h01 rfl rfl, List.forall_mem_cons.mpr ⟨square_ok (g := g) (inb := i30) 3 0 h30 rfl rfl, List.forall_mem_cons.mpr ⟨square_ok (g := g) (inb := i20) 2 0 h20 rfl rfl, List.forall_mem_cons.mpr ⟨square_ok (g := g) (inb := i10) 1 0 h10 rfl rfl, List.forall_mem_cons.mpr ⟨square_ok (g := g) (inb := i00) 0 0 h00 rfl rfl, fun _ hn => absurd hn List.not_mem_nil⟩⟩⟩⟩⟩⟩⟩⟩⟩⟩⟩⟩⟩⟩⟩⟩
  · sl_kernel_rfl

section
variable {a : In} {t : Fin cfg0.N} (c h : Fin 4) {D : FVec Ideal S512x1024 .f32} {U : FVec Ideal S512x512 .f32} {N : FVec Ideal S512x512 .bf16} {W : FVec Ideal S128x128 .bf16} {B : FVec Ideal S128x128 .f32}
  (hw : Rd W (a.w h)) (hd : Rd D fun r k => a.dmix (row t r) k) {o q p : ℕ} (ho : o = 128 * c.val) (hq : q = 512 + 128 * h.val) (hp : p = 128 * h.val)
include hw hd ho hq hp

/-- One block of the gradient of the normalised half, from the whole matrices. -/
theorem dv (hu : Rd U fun r k => a.u (row t r) k) {h1 h2 h3 h4} :
    Rd (shapeCast S128x128 (matmul dot_S128x128_S128x128_S128x128_0_0_1_1_n_n none W
      (truncf .bf16 (mulf (extractStridedSlice S128x128 ![o, q] D h1) (extractStridedSlice S128x128 ![o, p] U h2)) h3) (constant S128x128 .f32 0x00000000#32)) h4 : FVec Ideal S128x128 .f32)
      fun i k => a.dvln (row t (col c i)) (col h k) :=
  dvln_rd hw (cast_rd (dmx_rd (dch_rd hd ho hq) hu ho hp))

/-- One block of the gradient of the gating half, from the whole matrices. -/
theorem du (hn : Rd N fun r k => a.vln (row t r) k) (hb : Rd B fun i _ => a.U h i) {h1 h2 h3} :
    Rd (shapeCast S128x128 (mulf (extractStridedSlice S128x128 ![o, q] D h1) (addf (matmul dot_S128x128_S128x128_S128x128_1_0_0_1_n_n none W
      (extractStridedSlice S128x128 ![o, p] N h2) (constant S128x128 .f32 0x00000000#32)) B)) h3 : FVec Ideal S128x128 .f32)
      fun i k => a.du (row t (col c i)) (col h k) :=
  du_rd (dch_rd hd ho hq) hw (vln_rd hn ho hp) hb

end

end Cert.MixIdeal.Point
end
-- ==== Proof.MixOutA.lean ====
/-
  The mixers' backward: what one grid point leaves.
-/
module

public import proofs.«01_k».proof.Proof.MixGrid

@[expose] public section

set_option maxRecDepth 16384

noncomputable section

namespace Cert.MixIdeal.Point

open Cert.MixIdeal Cert.MixIdeal.Gen Cert.MixIdeal.Run Cert.Fin Cert.Mixer Cert.Rows Idealize.ShloMosaic Idealize.ShloMosaic.TcCoe Idealize.SL.Sem
open Cert.Pool (tok col ext ext_of_lt)

variable {a : In} {m : (ℓ : Loc nD τ sig) → Buf (Elt Ideal) ℓ} {c : Dev nD} {t : Fin cfg0.N}

variable (T : Tile a m c t)
include T

theorem out11A (hf : First (grid0.coords t)) (hl : ¬Last (grid0.coords t)) (g : Fin 4) (r : Fin 512) (k : Fin 128) : (outA m c t hf hl).1 (ix2 r (col g k)) = (a.dpool (row t r) (col g k) : EReal) := by
  unfold outA; dsimp only; unfold runAAt runA; dsimp only
  exact four_wide (Val := Elt Ideal) (e := .f32) (G := fun g r k => (a.dpool (row t r) (col g k) : EReal))
    (dpool_rd (T.dps 3 rfl rfl) (T.gw 3 rfl))
    (dpool_rd (T.dps 2 rfl rfl) (T.gw 2 rfl))
    (dpool_rd (T.dps 1 rfl rfl) (T.gw 1 rfl))
    (dpool_rd (T.dps 0 rfl rfl) (T.gw 0 rfl)) g r k

theorem out12A (hf : First (grid0.coords t)) (hl : ¬Last (grid0.coords t)) (r : Fin 512) (k : Fin 1024) : (outA m c t hf hl).2.1 (ix2 r k) = (a.dpre (row t r) k : EReal) := by
  unfold outA; dsimp only; unfold runAAt runA; dsimp only
  refine two_wide (Val := Elt Ideal) (e := .bf16) (G := fun r k => (a.dpre (row t r) k : EReal)) (right_pay T.rstd T.xhat ?_ T.slope T.ld7) (left_pay T.slope ?_) r k
  · exact fun r k => sixteen (fun r k => a.dvln (row t r) k) (dv 3 3 (T.weight 3 rfl) T.dmix rfl rfl rfl T.u_) (dv 2 3 (T.weight 3 rfl) T.dmix rfl rfl rfl T.u_) (dv 1 3 (T.weight 3 rfl) T.dmix rfl rfl rfl T.u_) (dv 0 3 (T.weight 3 rfl) T.dmix rfl rfl rfl T.u_) (dv 3 2 (T.weight 2 rfl) T.dmix rfl rfl rfl T.u_) (dv 2 2 (T.weight 2 rfl) T.dmix rfl rfl rfl T.u_) (dv 1 2 (T.weight 2 rfl) T.dmix rfl rfl rfl T.u_) (dv 0 2 (T.weight 2 rfl) T.dmix rfl rfl rfl T.u_) (dv 3 1 (T.weight 1 rfl) T.dmix rfl rfl rfl T.u_) (dv 2 1 (T.weight 1 rfl) T.dmix rfl rfl rfl T.u_) (dv 1 1 (T.weight 1 rfl) T.dmix rfl rfl rfl T.u_) (dv 0 1 (T.weight 1 rfl) T.dmix rfl rfl rfl T.u_) (dv 3 0 (T.weight 0 rfl) T.dmix rfl rfl rfl T.u_) (dv 2 0 (T.weight 0 rfl) T.dmix rfl rfl rfl T.u_) (dv 1 0 (T.weight 0 rfl) T.dmix rfl rfl rfl T.u_) (dv 0 0 (T.weight 0 rfl) T.dmix rfl rfl rfl T.u_) r k
  · exact fun r k => sixteen (fun r k => a.du (row t r) k) (du 3 3 (T.weight 3 rfl) T.dmix rfl rfl rfl T.vln (T.bias 3 rfl)) (du 2 3 (T.weight 3 rfl) T.dmix rfl rfl rfl T.vln (T.bias 3 rfl)) (du 1 3 (T.weight 3 rfl) T.dmix rfl rfl rfl T.vln (T.bias 3 rfl)) (du 0 3 (T.weight 3 rfl) T.dmix rfl rfl rfl T.vln (T.bias 3 rfl)) (du 3 2 (T.weight 2 rfl) T.dmix rfl rfl rfl T.vln (T.bias 2 rfl)) (du 2 2 (T.weight 2 rfl) T.dmix rfl rfl rfl T.vln (T.bias 2 rfl)) (du 1 2 (T.weight 2 rfl) T.dmix rfl rfl rfl T.vln (T.bias 2 rfl)) (du 0 2 (T.weight 2 rfl) T.dmix rfl rfl rfl T.vln (T.bias 2 rfl)) (du 3 1 (T.weight 1 rfl) T.dmix rfl rfl rfl T.vln (T.bias 1 rfl)) (du 2 1 (T.weight 1 rfl) T.dmix rfl rfl rfl T.vln (T.bias 1 rfl)) (du 1 1 (T.weight 1 rfl) T.dmix rfl rfl rfl T.vln (T.bias 1 rfl)) (du 0 1 (T.weight 1 rfl) T.dmix rfl rfl rfl T.vln (T.bias 1 rfl)) (du 3 0 (T.weight 0 rfl) T.dmix rfl rfl rfl T.vln (T.bias 0 rfl)) (du 2 0 (T.weight 0 rfl) T.dmix rfl rfl rfl T.vln (T.bias 0 rfl)) (du 1 0 (T.weight 0 rfl) T.dmix rfl rfl rfl T.vln (T.bias 0 rfl)) (du 0 0 (T.weight 0 rfl) T.dmix rfl rfl rfl T.vln (T.bias 0 rfl)) r k

theorem out13A (hf : First (grid0.coords t)) (hl : ¬Last (grid0.coords t)) (g : Fin 4) (i k : Fin 128) : (outA m c t hf hl).2.2.1 (ix3 g i k) = 0 + ((∑ r, a.pooled (row t r) (col g i) * a.dps (row t r) (col g k) : ℝ) : EReal) := by
  unfold outA; dsimp only; unfold runAAt runA; dsimp only
  exact four_slabs (Val := Elt Ideal) (e := .f32) (G := fun g i k => 0 + ((∑ r, a.pooled (row t r) (col g i) * a.dps (row t r) (col g k) : ℝ) : EReal))
    (fun i k => from_eq (gpw_pay T.pool3 (T.dps 3 rfl rfl) i k) ((cov_slab _ _ _ (g := 3) i k rfl).trans ((slab_ne _ _ _ _ _ i k (by decide)).trans ((slab_ne _ _ _ _ _ i k (by decide)).trans ((slab_ne _ _ _ _ _ i k (by decide)).trans ((clear_slab _ i k).trans lit_zero))))))
    (fun i k => from_eq (gpw_pay T.pool2 (T.dps 2 rfl rfl) i k) ((cov_slab _ _ _ (g := 2) i k rfl).trans ((slab_ne _ _ _ _ _ i k (by decide)).trans ((slab_ne _ _ _ _ _ i k (by decide)).trans ((clear_slab _ i k).trans lit_zero)))))
    (fun i k => from_eq (gpw_pay T.pool1 (T.dps 1 rfl rfl) i k) ((cov_slab _ _ _ (g := 1) i k rfl).trans ((slab_ne _ _ _ _ _ i k (by decide)).trans ((clear_slab _ i k).trans lit_zero))))
    (fun i k => from_eq (gpw_pay T.pool0 (T.dps 0 rfl rfl) i k) ((cov_slab _ _ _ (g := 0) i k rfl).trans ((clear_slab _ i k).trans lit_zero))) g i k

theorem out14A (hf : First (grid0.coords t)) (hl : ¬Last (grid0.coords t)) (g : Fin 4) (i k : Fin 128) : (outA m c t hf hl).2.2.2.1 (ix3 g i k) = 0 + (((∑ c, ∑ j, a.dmx (row t (col c i)) (col g j) * a.vln (row t (col c k)) (col g j)) * In.tri i k : ℝ) : EReal) := by
  unfold outA; dsimp only; unfold runAAt runA; dsimp only
  exact four_slabs (Val := Elt Ideal) (e := .f32) (G := fun g i k => 0 + (((∑ c, ∑ j, a.dmx (row t (col c i)) (col g j) * a.vln (row t (col c k)) (col g j)) * In.tri i k : ℝ) : EReal))
    (fun i k => from_eq (gsw_pay (four_rd (f := fun c i k => ∑ j, a.dmx (row t (col c i)) (col 3 j) * a.vln (row t (col c k)) (col 3 j))
      (pair_rd (c := 0) (h := 3) (cast_rd (dmx_rd (dch_rd T.dmix rfl rfl) T.u_ rfl rfl)) (vln_rd T.vln rfl rfl))
      (pair_rd (c := 1) (h := 3) (cast_rd (dmx_rd (dch_rd T.dmix rfl rfl) T.u_ rfl rfl)) (vln_rd T.vln rfl rfl))
      (pair_rd (c := 2) (h := 3) (cast_rd (dmx_rd (dch_rd T.dmix rfl rfl) T.u_ rfl rfl)) (vln_rd T.vln rfl rfl))
      (pair_rd (c := 3) (h := 3) (cast_rd (dmx_rd (dch_rd T.dmix rfl rfl) T.u_ rfl rfl)) (vln_rd T.vln rfl rfl))) mask_rd i k) ((cov_slab _ _ _ (g := 3) i k rfl).trans ((slab_ne _ _ _ _ _ i k (by decide)).trans ((slab_ne _ _ _ _ _ i k (by decide)).trans ((slab_ne _ _ _ _ _ i k (by decide)).trans ((clear_slab _ i k).trans lit_zero))))))
    (fun i k => from_eq (gsw_pay (four_rd (f := fun c i k => ∑ j, a.dmx (row t (col c i)) (col 2 j) * a.vln (row t (col c k)) (col 2 j))
      (pair_rd (c := 0) (h := 2) (cast_rd (dmx_rd (dch_rd T.dmix rfl rfl) T.u_ rfl rfl)) (vln_rd T.vln rfl rfl))
      (pair_rd (c := 1) (h := 2) (cast_rd (dmx_rd (dch_rd T.dmix rfl rfl) T.u_ rfl rfl)) (vln_rd T.vln rfl rfl))
      (pair_rd (c := 2) (h := 2) (cast_rd (dmx_rd (dch_rd T.dmix rfl rfl) T.u_ rfl rfl)) (vln_rd T.vln rfl rfl))
      (pair_rd (c := 3) (h := 2) (cast_rd (dmx_rd (dch_rd T.dmix rfl rfl) T.u_ rfl rfl)) (vln_rd T.vln rfl rfl))) mask_rd i k) ((cov_slab _ _ _ (g := 2) i k rfl).trans ((slab_ne _ _ _ _ _ i k (by decide)).trans ((slab_ne _ _ _ _ _ i k (by decide)).trans ((clear_slab _ i k).trans lit_zero)))))
    (fun i k => from_eq (gsw_pay (four_rd (f := fun c i k => ∑ j, a.dmx (row t (col c i)) (col 1 j) * a.vln (row t (col c k)) (col 1 j))
      (pair_rd (c := 0) (h := 1) (cast_rd (dmx_rd (dch_rd T.dmix rfl rfl) T.u_ rfl rfl)) (vln_rd T.vln rfl rfl))
      (pair_rd (c := 1) (h := 1) (cast_rd (dmx_rd (dch_rd T.dmix rfl rfl) T.u_ rfl rfl)) (vln_rd T.vln rfl rfl))
      (pair_rd (c := 2) (h := 1) (cast_rd (dmx_rd (dch_rd T.dmix rfl rfl) T.u_ rfl rfl)) (vln_rd T.vln rfl rfl))
      (pair_rd (c := 3) (h := 1) (cast_rd (dmx_rd (dch_rd T.dmix rfl rfl) T.u_ rfl rfl)) (vln_rd T.vln rfl rfl))) mask_rd i k) ((cov_slab _ _ _ (g := 1) i k rfl).trans ((slab_ne _ _ _ _ _ i k (by decide)).trans ((clear_slab _ i k).trans lit_zero))))
    (fun i k => from_eq (gsw_pay (four_rd (f := fun c i k => ∑ j, a.dmx (row t (col c i)) (col 0 j) * a.vln (row t (col c k)) (col 0 j))
      (pair_rd (c := 0) (h := 0) (cast_rd (dmx_rd (dch_rd T.dmix rfl rfl) T.u_ rfl rfl)) (vln_rd T.vln rfl rfl))
      (pair_rd (c := 1) (h := 0) (cast_rd (dmx_rd (dch_rd T.dmix rfl rfl) T.u_ rfl rfl)) (vln_rd T.vln rfl rfl))
      (pair_rd (c := 2) (h := 0) (cast_rd (dmx_rd (dch_rd T.dmix rfl rfl) T.u_ rfl rfl)) (vln_rd T.vln rfl rfl))
      (pair_rd (c := 3) (h := 0) (cast_rd (dmx_rd (dch_rd T.dmix rfl rfl) T.u_ rfl rfl)) (vln_rd T.vln rfl rfl))) mask_rd i k) ((cov_slab _ _ _ (g := 0) i k rfl).trans ((clear_slab _ i k).trans lit_zero))) g i k

theorem out15A (hf : First (grid0.coords t)) (hl : ¬Last (grid0.coords t)) (g : Fin 4) (i k : Fin 128) : (outA m c t hf hl).2.2.2.2.1 (ix3 g i k) = 0 + ((∑ c, a.dmx (row t (col c i)) (col g k) : ℝ) : EReal) := by
  unfold outA; dsimp only; unfold runAAt runA; dsimp only
  exact four_slabs (Val := Elt Ideal) (e := .f32) (G := fun g i k => 0 + ((∑ c, a.dmx (row t (col c i)) (col g k) : ℝ) : EReal))
    (fun i k => from_eq (gsb_pay (four_rd (f := fun c i k => a.dmx (row t (col c i)) (col 3 k))
      (dmx_rd (c := 0) (h := 3) (dch_rd T.dmix rfl rfl) T.u_ rfl rfl)
      (dmx_rd (c := 1) (h := 3) (dch_rd T.dmix rfl rfl) T.u_ rfl rfl)
      (dmx_rd (c := 2) (h := 3) (dch_rd T.dmix rfl rfl) T.u_ rfl rfl)
      (dmx_rd (c := 3) (h := 3) (dch_rd T.dmix rfl rfl) T.u_ rfl rfl)) i k) ((cov_slab _ _ _ (g := 3) i k rfl).trans ((slab_ne _ _ _ _ _ i k (by decide)).trans ((slab_ne _ _ _ _ _ i k (by decide)).trans ((slab_ne _ _ _ _ _ i k (by decide)).trans ((clear_slab _ i k).trans lit_zero))))))
    (fun i k => from_eq (gsb_pay (four_rd (f := fun c i k => a.dmx (row t (col c i)) (col 2 k))
      (dmx_rd (c := 0) (h := 2) (dch_rd T.dmix rfl rfl) T.u_ rfl rfl)
      (dmx_rd (c := 1) (h := 2) (dch_rd T.dmix rfl rfl) T.u_ rfl rfl)
      (dmx_rd (c := 2) (h := 2) (dch_rd T.dmix rfl rfl) T.u_ rfl rfl)
      (dmx_rd (c := 3) (h := 2) (dch_rd T.dmix rfl rfl) T.u_ rfl rfl)) i k) ((cov_slab _ _ _ (g := 2) i k rfl).trans ((slab_ne _ _ _ _ _ i k (by decide)).trans ((slab_ne _ _ _ _ _ i k (by decide)).trans ((clear_slab _ i k).trans lit_zero)))))
    (fun i k => from_eq (gsb_pay (four_rd (f := fun c i k => a.dmx (row t (col c i)) (col 1 k))
      (dmx_rd (c := 0) (h := 1) (dch_rd T.dmix rfl rfl) T.u_ rfl rfl)
      (dmx_rd (c := 1) (h := 1) (dch_rd T.dmix rfl rfl) T.u_ rfl rfl)
      (dmx_rd (c := 2) (h := 1) (dch_rd T.dmix rfl rfl) T.u_ rfl rfl)
      (dmx_rd (c := 3) (h := 1) (dch_rd T.dmix rfl rfl) T.u_ rfl rfl)) i k) ((cov_slab _ _ _ (g := 1) i k rfl).trans ((slab_ne _ _ _ _ _ i k (by decide)).trans ((clear_slab _ i k).trans lit_zero))))
    (fun i k => from_eq (gsb_pay (four_rd (f := fun c i k => a.dmx (row t (col c i)) (col 0 k))
      (dmx_rd (c := 0) (h := 0) (dch_rd T.dmix rfl rfl) T.u_ rfl rfl)
      (dmx_rd (c := 1) (h := 0) (dch_rd T.dmix rfl rfl) T.u_ rfl rfl)
      (dmx_rd (c := 2) (h := 0) (dch_rd T.dmix rfl rfl) T.u_ rfl rfl)
      (dmx_rd (c := 3) (h := 0) (dch_rd T.dmix rfl rfl) T.u_ rfl rfl)) i k) ((cov_slab _ _ _ (g := 0) i k rfl).trans ((clear_slab _ i k).trans lit_zero))) g i k

theorem out16A (hf : First (grid0.coords t)) (hl : ¬Last (grid0.coords t)) (s : Fin 8) (k : Fin 512) : (outA m c t hf hl).2.2.2.2.2 (ix2 s k) = 0 + (part a t s k : EReal) := by
  unfold outA; dsimp only; unfold runAAt runA; dsimp only
  refine with_dvln (a := a) (t := t) ?hv fun hv => eight_rows (Val := Elt Ideal) (e := .f32) (G := fun s k => 0 + (part a t s k : EReal))
    (fun k => from_eq (row2_pay hv k) ((cov_box _ _ _ (s := 2) (k := k) rfl (Nat.zero_add _).symm).trans ((box_ne _ _ _ _ _ (.inl (by decide))).trans ((box_ne _ _ _ _ _ (.inl (by decide))).trans ((box_ne _ _ _ _ _ (.inl (by decide))).trans ((box_ne _ _ _ _ _ (.inl (by decide))).trans ((box_ne _ _ _ _ _ (.inl (by decide))).trans ((clear_row _ _).trans lit_zero))))))))
    (fun k => from_eq (row1_pay T.xhat hv k) ((cov_box _ _ _ (s := 1) (k := k) rfl (Nat.zero_add _).symm).trans ((box_ne _ _ _ _ _ (.inl (by decide))).trans ((box_ne _ _ _ _ _ (.inl (by decide))).trans ((box_ne _ _ _ _ _ (.inl (by decide))).trans ((box_ne _ _ _ _ _ (.inl (by decide))).trans ((clear_row _ _).trans lit_zero)))))))
    (fun k => from_eq (scale_pay (T.dpo 3 rfl) T.pool3 (T.gw 3 rfl) k) ((cov_box _ _ _ (s := 0) (k := col 3 k) rfl rfl).trans ((box_ne _ _ _ _ _ (.inr (.inr (col_after _ _ (by decide))))).trans ((box_ne _ _ _ _ _ (.inr (.inr (col_after _ _ (by decide))))).trans ((box_ne _ _ _ _ _ (.inr (.inr (col_after _ _ (by decide))))).trans ((clear_row _ _).trans lit_zero))))))
    (fun k => from_eq (scale_pay (T.dpo 2 rfl) T.pool2 (T.gw 2 rfl) k) ((cov_box _ _ _ (s := 0) (k := col 2 k) rfl rfl).trans ((box_ne _ _ _ _ _ (.inr (.inr (col_after _ _ (by decide))))).trans ((box_ne _ _ _ _ _ (.inr (.inr (col_after _ _ (by decide))))).trans ((clear_row _ _).trans lit_zero)))))
    (fun k => from_eq (scale_pay (T.dpo 1 rfl) T.pool1 (T.gw 1 rfl) k) ((cov_box _ _ _ (s := 0) (k := col 1 k) rfl rfl).trans ((box_ne _ _ _ _ _ (.inr (.inr (col_after _ _ (by decide))))).trans ((clear_row _ _).trans lit_zero))))
    (fun k => from_eq (scale_pay (T.dpo 0 rfl) T.pool0 (T.gw 0 rfl) k) ((cov_box _ _ _ (s := 0) (k := col 0 k) rfl rfl).trans ((clear_row _ _).trans lit_zero)))
    (fun s k h => (clear_row s k).trans (lit_zero.trans (part_late h 0).symm)) s k
  case hv =>
    exact fun r k => sixteen (fun r k => a.dvln (row t r) k) (dv 3 3 (T.weight 3 rfl) T.dmix rfl rfl rfl T.u_) (dv 2 3 (T.weight 3 rfl) T.dmix rfl rfl rfl T.u_) (dv 1 3 (T.weight 3 rfl) T.dmix rfl rfl rfl T.u_) (dv 0 3 (T.weight 3 rfl) T.dmix rfl rfl rfl T.u_) (dv 3 2 (T.weight 2 rfl) T.dmix rfl rfl rfl T.u_) (dv 2 2 (T.weight 2 rfl) T.dmix rfl rfl rfl T.u_) (dv 1 2 (T.weight 2 rfl) T.dmix rfl rfl rfl T.u_) (dv 0 2 (T.weight 2 rfl) T.dmix rfl rfl rfl T.u_) (dv 3 1 (T.weight 1 rfl) T.dmix rfl rfl rfl T.u_) (dv 2 1 (T.weight 1 rfl) T.dmix rfl rfl rfl T.u_) (dv 1 1 (T.weight 1 rfl) T.dmix rfl rfl rfl T.u_) (dv 0 1 (T.weight 1 rfl) T.dmix rfl rfl rfl T.u_) (dv 3 0 (T.weight 0 rfl) T.dmix rfl rfl rfl T.u_) (dv 2 0 (T.weight 0 rfl) T.dmix rfl rfl rfl T.u_) (dv 1 0 (T.weight 0 rfl) T.dmix rfl rfl rfl T.u_) (dv 0 0 (T.weight 0 rfl) T.dmix rfl rfl rfl T.u_) r k

end Cert.MixIdeal.Point
end
-- ==== Proof.MixOutB.lean ====
/-
  The mixers' backward: what one grid point leaves.
-/
module

public import proofs.«01_k».proof.Proof.MixGrid

@[expose] public section

set_option maxRecDepth 16384

noncomputable section

namespace Cert.MixIdeal.Point

open Cert.MixIdeal Cert.MixIdeal.Gen Cert.MixIdeal.Run Cert.Fin Cert.Mixer Cert.Rows Idealize.ShloMosaic Idealize.ShloMosaic.TcCoe Idealize.SL.Sem
open Cert.Pool (tok col ext ext_of_lt)

variable {a : In} {m : (ℓ : Loc nD τ sig) → Buf (Elt Ideal) ℓ} {c : Dev nD} {t : Fin cfg0.N}

variable (T : Tile a m c t)
include T

theorem out11B (hf : ¬First (grid0.coords t)) (hl : ¬Last (grid0.coords t)) (p : Outs Ideal) (g : Fin 4) (r : Fin 512) (k : Fin 128) : (outB m c t hf hl p).1 (ix2 r (col g k)) = (a.dpool (row t r) (col g k) : EReal) := by
  unfold outB; dsimp only; unfold runBAt runB; dsimp only
  exact four_wide (Val := Elt Ideal) (e := .f32) (G := fun g r k => (a.dpool (row t r) (col g k) : EReal))
    (dpool_rd (T.dps 3 rfl rfl) (T.gw 3 rfl))
    (dpool_rd (T.dps 2 rfl rfl) (T.gw 2 rfl))
    (dpool_rd (T.dps 1 rfl rfl) (T.gw 1 rfl))
    (dpool_rd (T.dps 0 rfl rfl) (T.gw 0 rfl)) g r k

theorem out12B (hf : ¬First (grid0.coords t)) (hl : ¬Last (grid0.coords t)) (p : Outs Ideal) (r : Fin 512) (k : Fin 1024) : (outB m c t hf hl p).2.1 (ix2 r k) = (a.dpre (row t r) k : EReal) := by
  unfold outB; dsimp only; unfold runBAt runB; dsimp only
  refine two_wide (Val := Elt Ideal) (e := .bf16) (G := fun r k => (a.dpre (row t r) k : EReal)) (right_pay T.rstd T.xhat ?_ T.slope T.ld7) (left_pay T.slope ?_) r k
  · exact fun r k => sixteen (fun r k => a.dvln (row t r) k) (dv 3 3 (T.weight 3 rfl) T.dmix rfl rfl rfl T.u_) (dv 2 3 (T.weight 3 rfl) T.dmix rfl rfl rfl T.u_) (dv 1 3 (T.weight 3 rfl) T.dmix rfl rfl rfl T.u_) (dv 0 3 (T.weight 3 rfl) T.dmix rfl rfl rfl T.u_) (dv 3 2 (T.weight 2 rfl) T.dmix rfl rfl rfl T.u_) (dv 2 2 (T.weight 2 rfl) T.dmix rfl rfl rfl T.u_) (dv 1 2 (T.weight 2 rfl) T.dmix rfl rfl rfl T.u_) (dv 0 2 (T.weight 2 rfl) T.dmix rfl rfl rfl T.u_) (dv 3 1 (T.weight 1 rfl) T.dmix rfl rfl rfl T.u_) (dv 2 1 (T.weight 1 rfl) T.dmix rfl rfl rfl T.u_) (dv 1 1 (T.weight 1 rfl) T.dmix rfl rfl rfl T.u_) (dv 0 1 (T.weight 1 rfl) T.dmix rfl rfl rfl T.u_) (dv 3 0 (T.weight 0 rfl) T.dmix rfl rfl rfl T.u_) (dv 2 0 (T.weight 0 rfl) T.dmix rfl rfl rfl T.u_) (dv 1 0 (T.weight 0 rfl) T.dmix rfl rfl rfl T.u_) (dv 0 0 (T.weight 0 rfl) T.dmix rfl rfl rfl T.u_) r k
  · exact fun r k => sixteen (fun r k => a.du (row t r) k) (du 3 3 (T.weight 3 rfl) T.dmix rfl rfl rfl T.vln (T.bias 3 rfl)) (du 2 3 (T.weight 3 rfl) T.dmix rfl rfl rfl T.vln (T.bias 3 rfl)) (du 1 3 (T.weight 3 rfl) T.dmix rfl rfl rfl T.vln (T.bias 3 rfl)) (du 0 3 (T.weight 3 rfl) T.dmix rfl rfl rfl T.vln (T.bias 3 rfl)) (du 3 2 (T.weight 2 rfl) T.dmix rfl rfl rfl T.vln (T.bias 2 rfl)) (du 2 2 (T.weight 2 rfl) T.dmix rfl rfl rfl T.vln (T.bias 2 rfl)) (du 1 2 (T.weight 2 rfl) T.dmix rfl rfl rfl T.vln (T.bias 2 rfl)) (du 0 2 (T.weight 2 rfl) T.dmix rfl rfl rfl T.vln (T.bias 2 rfl)) (du 3 1 (T.weight 1 rfl) T.dmix rfl rfl rfl T.vln (T.bias 1 rfl)) (du 2 1 (T.weight 1 rfl) T.dmix rfl rfl rfl T.vln (T.bias 1 rfl)) (du 1 1 (T.weight 1 rfl) T.dmix rfl rfl rfl T.vln (T.bias 1 rfl)) (du 0 1 (T.weight 1 rfl) T.dmix rfl rfl rfl T.vln (T.bias 1 rfl)) (du 3 0 (T.weight 0 rfl) T.dmix rfl rfl rfl T.vln (T.bias 0 rfl)) (du 2 0 (T.weight 0 rfl) T.dmix rfl rfl rfl T.vln (T.bias 0 rfl)) (du 1 0 (T.weight 0 rfl) T.dmix rfl rfl rfl T.vln (T.bias 0 rfl)) (du 0 0 (T.weight 0 rfl) T.dmix rfl rfl rfl T.vln (T.bias 0 rfl)) r k

theorem out13B (hf : ¬First (grid0.coords t)) (hl : ¬Last (grid0.coords t)) (p : Outs Ideal) (g : Fin 4) (i k : Fin 128) : (outB m c t hf hl p).2.2.1 (ix3 g i k) = p.2.2.1 (ix3 g i k) + ((∑ r, a.pooled (row t r) (col g i) * a.dps (row t r) (col g k) : ℝ) : EReal) := by
  unfold outB; dsimp only; unfold runBAt runB; dsimp only
  exact four_slabs (Val := Elt Ideal) (e := .f32) (G := fun g i k => p.2.2.1 (ix3 g i k) + ((∑ r, a.pooled (row t r) (col g i) * a.dps (row t r) (col g k) : ℝ) : EReal))
    (fun i k => from_eq (gpw_pay T.pool3 (T.dps 3 rfl rfl) i k) ((load_slab (hb13 t) p.2.2.1 _ i k rfl)))
    (fun i k => from_eq (gpw_pay T.pool2 (T.dps 2 rfl rfl) i k) ((load_slab (hb13 t) p.2.2.1 _ i k rfl)))
    (fun i k => from_eq (gpw_pay T.pool1 (T.dps 1 rfl rfl) i k) ((load_slab (hb13 t) p.2.2.1 _ i k rfl)))
    (fun i k => from_eq (gpw_pay T.pool0 (T.dps 0 rfl rfl) i k) ((load_slab (hb13 t) p.2.2.1 _ i k rfl))) g i k

theorem out14B (hf : ¬First (grid0.coords t)) (hl : ¬Last (grid0.coords t)) (p : Outs Ideal) (g : Fin 4) (i k : Fin 128) : (outB m c t hf hl p).2.2.2.1 (ix3 g i k) = p.2.2.2.1 (ix3 g i k) + (((∑ c, ∑ j, a.dmx (row t (col c i)) (col g j) * a.vln (row t (col c k)) (col g j)) * In.tri i k : ℝ) : EReal) := by
  unfold outB; dsimp only; unfold runBAt runB; dsimp only
  exact four_slabs (Val := Elt Ideal) (e := .f32) (G := fun g i k => p.2.2.2.1 (ix3 g i k) + (((∑ c, ∑ j, a.dmx (row t (col c i)) (col g j) * a.vln (row t (col c k)) (col g j)) * In.tri i k : ℝ) : EReal))
    (fun i k => from_eq (gsw_pay (four_rd (f := fun c i k => ∑ j, a.dmx (row t (col c i)) (col 3 j) * a.vln (row t (col c k)) (col 3 j))
      (pair_rd (c := 0) (h := 3) (cast_rd (dmx_rd (dch_rd T.dmix rfl rfl) T.u_ rfl rfl)) (vln_rd T.vln rfl rfl))
      (pair_rd (c := 1) (h := 3) (cast_rd (dmx_rd (dch_rd T.dmix rfl rfl) T.u_ rfl rfl)) (vln_rd T.vln rfl rfl))
      (pair_rd (c := 2) (h := 3) (cast_rd (dmx_rd (dch_rd T.dmix rfl rfl) T.u_ rfl rfl)) (vln_rd T.vln rfl rfl))
      (pair_rd (c := 3) (h := 3) (cast_rd (dmx_rd (dch_rd T.dmix rfl rfl) T.u_ rfl rfl)) (vln_rd T.vln rfl rfl))) mask_rd i k) ((load_slab (hb14 t) p.2.2.2.1 _ i k rfl)))
    (fun i k => from_eq (gsw_pay (four_rd (f := fun c i k => ∑ j, a.dmx (row t (col c i)) (col 2 j) * a.vln (row t (col c k)) (col 2 j))
      (pair_rd (c := 0) (h := 2) (cast_rd (dmx_rd (dch_rd T.dmix rfl rfl) T.u_ rfl rfl)) (vln_rd T.vln rfl rfl))
      (pair_rd (c := 1) (h := 2) (cast_rd (dmx_rd (dch_rd T.dmix rfl rfl) T.u_ rfl rfl)) (vln_rd T.vln rfl rfl))
      (pair_rd (c := 2) (h := 2) (cast_rd (dmx_rd (dch_rd T.dmix rfl rfl) T.u_ rfl rfl)) (vln_rd T.vln rfl rfl))
      (pair_rd (c := 3) (h := 2) (cast_rd (dmx_rd (dch_rd T.dmix rfl rfl) T.u_ rfl rfl)) (vln_rd T.vln rfl rfl))) mask_rd i k) ((load_slab (hb14 t) p.2.2.2.1 _ i k rfl)))
    (fun i k => from_eq (gsw_pay (four_rd (f := fun c i k => ∑ j, a.dmx (row t (col c i)) (col 1 j) * a.vln (row t (col c k)) (col 1 j))
      (pair_rd (c := 0) (h := 1) (cast_rd (dmx_rd (dch_rd T.dmix rfl rfl) T.u_ rfl rfl)) (vln_rd T.vln rfl rfl))
      (pair_rd (c := 1) (h := 1) (cast_rd (dmx_rd (dch_rd T.dmix rfl rfl) T.u_ rfl rfl)) (vln_rd T.vln rfl rfl))
      (pair_rd (c := 2) (h := 1) (cast_rd (dmx_rd (dch_rd T.dmix rfl rfl) T.u_ rfl rfl)) (vln_rd T.vln rfl rfl))
      (pair_rd (c := 3) (h := 1) (cast_rd (dmx_rd (dch_rd T.dmix rfl rfl) T.u_ rfl rfl)) (vln_rd T.vln rfl rfl))) mask_rd i k) ((load_slab (hb14 t) p.2.2.2.1 _ i k rfl)))
    (fun i k => from_eq (gsw_pay (four_rd (f := fun c i k => ∑ j, a.dmx (row t (col c i)) (col 0 j) * a.vln (row t (col c k)) (col 0 j))
      (pair_rd (c := 0) (h := 0) (cast_rd (dmx_rd (dch_rd T.dmix rfl rfl) T.u_ rfl rfl)) (vln_rd T.vln rfl rfl))
      (pair_rd (c := 1) (h := 0) (cast_rd (dmx_rd (dch_rd T.dmix rfl rfl) T.u_ rfl rfl)) (vln_rd T.vln rfl rfl))
      (pair_rd (c := 2) (h := 0) (cast_rd (dmx_rd (dch_rd T.dmix rfl rfl) T.u_ rfl rfl)) (vln_rd T.vln rfl rfl))
      (pair_rd (c := 3) (h := 0) (cast_rd (dmx_rd (dch_rd T.dmix rfl rfl) T.u_ rfl rfl)) (vln_rd T.vln rfl rfl))) mask_rd i k) ((load_slab (hb14 t) p.2.2.2.1 _ i k rfl))) g i k

theorem out15B (hf : ¬First (grid0.coords t)) (hl : ¬Last (grid0.coords t)) (p : Outs Ideal) (g : Fin 4) (i k : Fin 128) : (outB m c t hf hl p).2.2.2.2.1 (ix3 g i k) = p.2.2.2.2.1 (ix3 g i k) + ((∑ c, a.dmx (row t (col c i)) (col g k) : ℝ) : EReal) := by
  unfold outB; dsimp only; unfold runBAt runB; dsimp only
  exact four_slabs (Val := Elt Ideal) (e := .f32) (G := fun g i k => p.2.2.2.2.1 (ix3 g i k) + ((∑ c, a.dmx (row t (col c i)) (col g k) : ℝ) : EReal))
    (fun i k => from_eq (gsb_pay (four_rd (f := fun c i k => a.dmx (row t (col c i)) (col 3 k))
      (dmx_rd (c := 0) (h := 3) (dch_rd T.dmix rfl rfl) T.u_ rfl rfl)
      (dmx_rd (c := 1) (h := 3) (dch_rd T.dmix rfl rfl) T.u_ rfl rfl)
      (dmx_rd (c := 2) (h := 3) (dch_rd T.dmix rfl rfl) T.u_ rfl rfl)
      (dmx_rd (c := 3) (h := 3) (dch_rd T.dmix rfl rfl) T.u_ rfl rfl)) i k) ((load_slab (hb15 t) p.2.2.2.2.1 _ i k rfl)))
    (fun i k => from_eq (gsb_pay (four_rd (f := fun c i k => a.dmx (row t (col c i)) (col 2 k))
      (dmx_rd (c := 0) (h := 2) (dch_rd T.dmix rfl rfl) T.u_ rfl rfl)
      (dmx_rd (c := 1) (h := 2) (dch_rd T.dmix rfl rfl) T.u_ rfl rfl)
      (dmx_rd (c := 2) (h := 2) (dch_rd T.dmix rfl rfl) T.u_ rfl rfl)
      (dmx_rd (c := 3) (h := 2) (dch_rd T.dmix rfl rfl) T.u_ rfl rfl)) i k) ((load_slab (hb15 t) p.2.2.2.2.1 _ i k rfl)))
    (fun i k => from_eq (gsb_pay (four_rd (f := fun c i k => a.dmx (row t (col c i)) (col 1 k))
      (dmx_rd (c := 0) (h := 1) (dch_rd T.dmix rfl rfl) T.u_ rfl rfl)
      (dmx_rd (c := 1) (h := 1) (dch_rd T.dmix rfl rfl) T.u_ rfl rfl)
      (dmx_rd (c := 2) (h := 1) (dch_rd T.dmix rfl rfl) T.u_ rfl rfl)
      (dmx_rd (c := 3) (h := 1) (dch_rd T.dmix rfl rfl) T.u_ rfl rfl)) i k) ((load_slab (hb15 t) p.2.2.2.2.1 _ i k rfl)))
    (fun i k => from_eq (gsb_pay (four_rd (f := fun c i k => a.dmx (row t (col c i)) (col 0 k))
      (dmx_rd (c := 0) (h := 0) (dch_rd T.dmix rfl rfl) T.u_ rfl rfl)
      (dmx_rd (c := 1) (h := 0) (dch_rd T.dmix rfl rfl) T.u_ rfl rfl)
      (dmx_rd (c := 2) (h := 0) (dch_rd T.dmix rfl rfl) T.u_ rfl rfl)
      (dmx_rd (c := 3) (h := 0) (dch_rd T.dmix rfl rfl) T.u_ rfl rfl)) i k) ((load_slab (hb15 t) p.2.2.2.2.1 _ i k rfl))) g i k

theorem out16B (hf : ¬First (grid0.coords t)) (hl : ¬Last (grid0.coords t)) (p : Outs Ideal) (s : Fin 8) (k : Fin 512) : (outB m c t hf hl p).2.2.2.2.2 (ix2 s k) = p.2.2.2.2.2 (ix2 s k) + (part a t s k : EReal) := by
  unfold outB; dsimp only; unfold runBAt runB; dsimp only
  refine with_dvln (a := a) (t := t) ?hv fun hv => eight_rows (Val := Elt Ideal) (e := .f32) (G := fun s k => p.2.2.2.2.2 (ix2 s k) + (part a t s k : EReal))
    (fun k => from_eq (row2_pay hv k) (load_box (hb16 t) p.2.2.2.2.2 _ (s := 2) (k := k) rfl (Nat.zero_add _).symm))
    (fun k => from_eq (row1_pay T.xhat hv k) (load_box (hb16 t) p.2.2.2.2.2 _ (s := 1) (k := k) rfl (Nat.zero_add _).symm))
    (fun k => from_eq (scale_pay (T.dpo 3 rfl) T.pool3 (T.gw 3 rfl) k) (load_box (hb16 t) p.2.2.2.2.2 _ (s := 0) (k := col 3 k) rfl rfl))
    (fun k => from_eq (scale_pay (T.dpo 2 rfl) T.pool2 (T.gw 2 rfl) k) (load_box (hb16 t) p.2.2.2.2.2 _ (s := 0) (k := col 2 k) rfl rfl))
    (fun k => from_eq (scale_pay (T.dpo 1 rfl) T.pool1 (T.gw 1 rfl) k) (load_box (hb16 t) p.2.2.2.2.2 _ (s := 0) (k := col 1 k) rfl rfl))
    (fun k => from_eq (scale_pay (T.dpo 0 rfl) T.pool0 (T.gw 0 rfl) k) (load_box (hb16 t) p.2.2.2.2.2 _ (s := 0) (k := col 0 k) rfl rfl))
    (fun s k h => (congrFun ((hb16 t).read_unread p.2.2.2.2.2) _).trans (part_late h _).symm) s k
  case hv =>
    exact fun r k => sixteen (fun r k => a.dvln (row t r) k) (dv 3 3 (T.weight 3 rfl) T.dmix rfl rfl rfl T.u_) (dv 2 3 (T.weight 3 rfl) T.dmix rfl rfl rfl T.u_) (dv 1 3 (T.weight 3 rfl) T.dmix rfl rfl rfl T.u_) (dv 0 3 (T.weight 3 rfl) T.dmix rfl rfl rfl T.u_) (dv 3 2 (T.weight 2 rfl) T.dmix rfl rfl rfl T.u_) (dv 2 2 (T.weight 2 rfl) T.dmix rfl rfl rfl T.u_) (dv 1 2 (T.weight 2 rfl) T.dmix rfl rfl rfl T.u_) (dv 0 2 (T.weight 2 rfl) T.dmix rfl rfl rfl T.u_) (dv 3 1 (T.weight 1 rfl) T.dmix rfl rfl rfl T.u_) (dv 2 1 (T.weight 1 rfl) T.dmix rfl rfl rfl T.u_) (dv 1 1 (T.weight 1 rfl) T.dmix rfl rfl rfl T.u_) (dv 0 1 (T.weight 1 rfl) T.dmix rfl rfl rfl T.u_) (dv 3 0 (T.weight 0 rfl) T.dmix rfl rfl rfl T.u_) (dv 2 0 (T.weight 0 rfl) T.dmix rfl rfl rfl T.u_) (dv 1 0 (T.weight 0 rfl) T.dmix rfl rfl rfl T.u_) (dv 0 0 (T.weight 0 rfl) T.dmix rfl rfl rfl T.u_) r k

end Cert.MixIdeal.Point
end
-- ==== Proof.MixOutC.lean ====
/-
  The mixers' backward: what one grid point leaves.
-/
module

public import proofs.«01_k».proof.Proof.MixGrid

@[expose] public section

set_option maxRecDepth 16384

noncomputable section

namespace Cert.MixIdeal.Point

open Cert.MixIdeal Cert.MixIdeal.Gen Cert.MixIdeal.Run Cert.Fin Cert.Mixer Cert.Rows Idealize.ShloMosaic Idealize.ShloMosaic.TcCoe Idealize.SL.Sem
open Cert.Pool (tok col ext ext_of_lt)

variable {a : In} {m : (ℓ : Loc nD τ sig) → Buf (Elt Ideal) ℓ} {c : Dev nD} {t : Fin cfg0.N}

variable (T : Tile a m c t)
include T

theorem out11C (hf : ¬First (grid0.coords t)) (hl : Last (grid0.coords t)) (p : Outs Ideal) (g : Fin 4) (r : Fin 512) (k : Fin 128) : (outC m c t hf hl p).1 (ix2 r (col g k)) = (a.dpool (row t r) (col g k) : EReal) := by
  unfold outC; dsimp only; unfold runCAt runC; dsimp only
  exact four_wide (Val := Elt Ideal) (e := .f32) (G := fun g r k => (a.dpool (row t r) (col g k) : EReal))
    (dpool_rd (T.dps 3 rfl rfl) (T.gw 3 rfl))
    (dpool_rd (T.dps 2 rfl rfl) (T.gw 2 rfl))
    (dpool_rd (T.dps 1 rfl rfl) (T.gw 1 rfl))
    (dpool_rd (T.dps 0 rfl rfl) (T.gw 0 rfl)) g r k

theorem out12C (hf : ¬First (grid0.coords t)) (hl : Last (grid0.coords t)) (p : Outs Ideal) (r : Fin 512) (k : Fin 1024) : (outC m c t hf hl p).2.1 (ix2 r k) = (a.dpre (row t r) k : EReal) := by
  unfold outC; dsimp only; unfold runCAt runC; dsimp only
  refine two_wide (Val := Elt Ideal) (e := .bf16) (G := fun r k => (a.dpre (row t r) k : EReal)) (right_pay T.rstd T.xhat ?_ T.slope T.ld7) (left_pay T.slope ?_) r k
  · exact fun r k => sixteen (fun r k => a.dvln (row t r) k) (dv 3 3 (T.weight 3 rfl) T.dmix rfl rfl rfl T.u_) (dv 2 3 (T.weight 3 rfl) T.dmix rfl rfl rfl T.u_) (dv 1 3 (T.weight 3 rfl) T.dmix rfl rfl rfl T.u_) (dv 0 3 (T.weight 3 rfl) T.dmix rfl rfl rfl T.u_) (dv 3 2 (T.weight 2 rfl) T.dmix rfl rfl rfl T.u_) (dv 2 2 (T.weight 2 rfl) T.dmix rfl rfl rfl T.u_) (dv 1 2 (T.weight 2 rfl) T.dmix rfl rfl rfl T.u_) (dv 0 2 (T.weight 2 rfl) T.dmix rfl rfl rfl T.u_) (dv 3 1 (T.weight 1 rfl) T.dmix rfl rfl rfl T.u_) (dv 2 1 (T.weight 1 rfl) T.dmix rfl rfl rfl T.u_) (dv 1 1 (T.weight 1 rfl) T.dmix rfl rfl rfl T.u_) (dv 0 1 (T.weight 1 rfl) T.dmix rfl rfl rfl T.u_) (dv 3 0 (T.weight 0 rfl) T.dmix rfl rfl rfl T.u_) (dv 2 0 (T.weight 0 rfl) T.dmix rfl rfl rfl T.u_) (dv 1 0 (T.weight 0 rfl) T.dmix rfl rfl rfl T.u_) (dv 0 0 (T.weight 0 rfl) T.dmix rfl rfl rfl T.u_) r k
  · exact fun r k => sixteen (fun r k => a.du (row t r) k) (du 3 3 (T.weight 3 rfl) T.dmix rfl rfl rfl T.vln (T.bias 3 rfl)) (du 2 3 (T.weight 3 rfl) T.dmix rfl rfl rfl T.vln (T.bias 3 rfl)) (du 1 3 (T.weight 3 rfl) T.dmix rfl rfl rfl T.vln (T.bias 3 rfl)) (du 0 3 (T.weight 3 rfl) T.dmix rfl rfl rfl T.vln (T.bias 3 rfl)) (du 3 2 (T.weight 2 rfl) T.dmix rfl rfl rfl T.vln (T.bias 2 rfl)) (du 2 2 (T.weight 2 rfl) T.dmix rfl rfl rfl T.vln (T.bias 2 rfl)) (du 1 2 (T.weight 2 rfl) T.dmix rfl rfl rfl T.vln (T.bias 2 rfl)) (du 0 2 (T.weight 2 rfl) T.dmix rfl rfl rfl T.vln (T.bias 2 rfl)) (du 3 1 (T.weight 1 rfl) T.dmix rfl rfl rfl T.vln (T.bias 1 rfl)) (du 2 1 (T.weight 1 rfl) T.dmix rfl rfl rfl T.vln (T.bias 1 rfl)) (du 1 1 (T.weight 1 rfl) T.dmix rfl rfl rfl T.vln (T.bias 1 rfl)) (du 0 1 (T.weight 1 rfl) T.dmix rfl rfl rfl T.vln (T.bias 1 rfl)) (du 3 0 (T.weight 0 rfl) T.dmix rfl rfl rfl T.vln (T.bias 0 rfl)) (du 2 0 (T.weight 0 rfl) T.dmix rfl rfl rfl T.vln (T.bias 0 rfl)) (du 1 0 (T.weight 0 rfl) T.dmix rfl rfl rfl T.vln (T.bias 0 rfl)) (du 0 0 (T.weight 0 rfl) T.dmix rfl rfl rfl T.vln (T.bias 0 rfl)) r k

theorem out13C (hf : ¬First (grid0.coords t)) (hl : Last (grid0.coords t)) (p : Outs Ideal) (g : Fin 4) (i k : Fin 128) : (outC m c t hf hl p).2.2.1 (ix3 g i k) = p.2.2.1 (ix3 g i k) + ((∑ r, a.pooled (row t r) (col g i) * a.dps (row t r) (col g k) : ℝ) : EReal) := by
  unfold outC; dsimp only; unfold runCAt runC; dsimp only
  exact four_slabs (Val := Elt Ideal) (e := .f32) (G := fun g i k => p.2.2.1 (ix3 g i k) + ((∑ r, a.pooled (row t r) (col g i) * a.dps (row t r) (col g k) : ℝ) : EReal))
    (fun i k => from_eq (gpw_pay T.pool3 (T.dps 3 rfl rfl) i k) ((load_slab (hb13 t) p.2.2.1 _ i k rfl)))
    (fun i k => from_eq (gpw_pay T.pool2 (T.dps 2 rfl rfl) i k) ((load_slab (hb13 t) p.2.2.1 _ i k rfl)))
    (fun i k => from_eq (gpw_pay T.pool1 (T.dps 1 rfl rfl) i k) ((load_slab (hb13 t) p.2.2.1 _ i k rfl)))
    (fun i k => from_eq (gpw_pay T.pool0 (T.dps 0 rfl rfl) i k) ((load_slab (hb13 t) p.2.2.1 _ i k rfl))) g i k

theorem out14C (hf : ¬First (grid0.coords t)) (hl : Last (grid0.coords t)) (p : Outs Ideal) (g : Fin 4) (i k : Fin 128) : (outC m c t hf hl p).2.2.2.1 (ix3 g i k) = p.2.2.2.1 (ix3 g i k) + (((∑ c, ∑ j, a.dmx (row t (col c i)) (col g j) * a.vln (row t (col c k)) (col g j)) * In.tri i k : ℝ) : EReal) := by
  unfold outC; dsimp only; unfold runCAt runC; dsimp only
  exact four_slabs (Val := Elt Ideal) (e := .f32) (G := fun g i k => p.2.2.2.1 (ix3 g i k) + (((∑ c, ∑ j, a.dmx (row t (col c i)) (col g j) * a.vln (row t (col c k)) (col g j)) * In.tri i k : ℝ) : EReal))
    (fun i k => from_eq (gsw_pay (four_rd (f := fun c i k => ∑ j, a.dmx (row t (col c i)) (col 3 j) * a.vln (row t (col c k)) (col 3 j))
      (pair_rd (c := 0) (h := 3) (cast_rd (dmx_rd (dch_rd T.dmix rfl rfl) T.u_ rfl rfl)) (vln_rd T.vln rfl rfl))
      (pair_rd (c := 1) (h := 3) (cast_rd (dmx_rd (dch_rd T.dmix rfl rfl) T.u_ rfl rfl)) (vln_rd T.vln rfl rfl))
      (pair_rd (c := 2) (h := 3) (cast_rd (dmx_rd (dch_rd T.dmix rfl rfl) T.u_ rfl rfl)) (vln_rd T.vln rfl rfl))
      (pair_rd (c := 3) (h := 3) (cast_rd (dmx_rd (dch_rd T.dmix rfl rfl) T.u_ rfl rfl)) (vln_rd T.vln rfl rfl))) mask_rd i k) ((load_slab (hb14 t) p.2.2.2.1 _ i k rfl)))
    (fun i k => from_eq (gsw_pay (four_rd (f := fun c i k => ∑ j, a.dmx (row t (col c i)) (col 2 j) * a.vln (row t (col c k)) (col 2 j))
      (pair_rd (c := 0) (h := 2) (cast_rd (dmx_rd (dch_rd T.dmix rfl rfl) T.u_ rfl rfl)) (vln_rd T.vln rfl rfl))
      (pair_rd (c := 1) (h := 2) (cast_rd (dmx_rd (dch_rd T.dmix rfl rfl) T.u_ rfl rfl)) (vln_rd T.vln rfl rfl))
      (pair_rd (c := 2) (h := 2) (cast_rd (dmx_rd (dch_rd T.dmix rfl rfl) T.u_ rfl rfl)) (vln_rd T.vln rfl rfl))
      (pair_rd (c := 3) (h := 2) (cast_rd (dmx_rd (dch_rd T.dmix rfl rfl) T.u_ rfl rfl)) (vln_rd T.vln rfl rfl))) mask_rd i k) ((load_slab (hb14 t) p.2.2.2.1 _ i k rfl)))
    (fun i k => from_eq (gsw_pay (four_rd (f := fun c i k => ∑ j, a.dmx (row t (col c i)) (col 1 j) * a.vln (row t (col c k)) (col 1 j))
      (pair_rd (c := 0) (h := 1) (cast_rd (dmx_rd (dch_rd T.dmix rfl rfl) T.u_ rfl rfl)) (vln_rd T.vln rfl rfl))
      (pair_rd (c := 1) (h := 1) (cast_rd (dmx_rd (dch_rd T.dmix rfl rfl) T.u_ rfl rfl)) (vln_rd T.vln rfl rfl))
      (pair_rd (c := 2) (h := 1) (cast_rd (dmx_rd (dch_rd T.dmix rfl rfl) T.u_ rfl rfl)) (vln_rd T.vln rfl rfl))
      (pair_rd (c := 3) (h := 1) (cast_rd (dmx_rd (dch_rd T.dmix rfl rfl) T.u_ rfl rfl)) (vln_rd T.vln rfl rfl))) mask_rd i k) ((load_slab (hb14 t) p.2.2.2.1 _ i k rfl)))
    (fun i k => from_eq (gsw_pay (four_rd (f := fun c i k => ∑ j, a.dmx (row t (col c i)) (col 0 j) * a.vln (row t (col c k)) (col 0 j))
      (pair_rd (c := 0) (h := 0) (cast_rd (dmx_rd (dch_rd T.dmix rfl rfl) T.u_ rfl rfl)) (vln_rd T.vln rfl rfl))
      (pair_rd (c := 1) (h := 0) (cast_rd (dmx_rd (dch_rd T.dmix rfl rfl) T.u_ rfl rfl)) (vln_rd T.vln rfl rfl))
      (pair_rd (c := 2) (h := 0) (cast_rd (dmx_rd (dch_rd T.dmix rfl rfl) T.u_ rfl rfl)) (vln_rd T.vln rfl rfl))
      (pair_rd (c := 3) (h := 0) (cast_rd (dmx_rd (dch_rd T.dmix rfl rfl) T.u_ rfl rfl)) (vln_rd T.vln rfl rfl))) mask_rd i k) ((load_slab (hb14 t) p.2.2.2.1 _ i k rfl))) g i k

theorem out15C (hf : ¬First (grid0.coords t)) (hl : Last (grid0.coords t)) (p : Outs Ideal) (g : Fin 4) (i k : Fin 128) : (outC m c t hf hl p).2.2.2.2.1 (ix3 g i k) = ∑ j, (p.2.2.2.2.1 (ix3 g i j) + ((∑ c, a.dmx (row t (col c i)) (col g j) : ℝ) : EReal)) := by
  unfold outC; dsimp only; unfold runCAt runC; dsimp only
  exact four_slabs (Val := Elt Ideal) (e := .f32) (G := fun g i _ => ∑ j, (p.2.2.2.2.1 (ix3 g i j) + ((∑ c, a.dmx (row t (col c i)) (col g j) : ℝ) : EReal)))
    (fun i k => (rows_pay _ i k).trans (Finset.sum_congr rfl fun j _ => (cov_slab _ _ _ (g := 3) i j rfl).trans ((slab_ne _ _ _ _ _ i j (by decide)).trans ((slab_ne _ _ _ _ _ i j (by decide)).trans ((slab_ne _ _ _ _ _ i j (by decide)).trans ((slab_of _ _ _ _ _ i j rfl).trans ((fun i k => from_eq (gsb_pay (four_rd (f := fun c i k => a.dmx (row t (col c i)) (col 3 k))
      (dmx_rd (c := 0) (h := 3) (dch_rd T.dmix rfl rfl) T.u_ rfl rfl)
      (dmx_rd (c := 1) (h := 3) (dch_rd T.dmix rfl rfl) T.u_ rfl rfl)
      (dmx_rd (c := 2) (h := 3) (dch_rd T.dmix rfl rfl) T.u_ rfl rfl)
      (dmx_rd (c := 3) (h := 3) (dch_rd T.dmix rfl rfl) T.u_ rfl rfl)) i k) ((load_slab (hb15 t) p.2.2.2.2.1 _ i k rfl))) i j)))))))
    (fun i k => (rows_pay _ i k).trans (Finset.sum_congr rfl fun j _ => (cov_slab _ _ _ (g := 2) i j rfl).trans ((slab_ne _ _ _ _ _ i j (by decide)).trans ((slab_ne _ _ _ _ _ i j (by decide)).trans ((slab_ne _ _ _ _ _ i j (by decide)).trans ((slab_of _ _ _ _ _ i j rfl).trans ((fun i k => from_eq (gsb_pay (four_rd (f := fun c i k => a.dmx (row t (col c i)) (col 2 k))
      (dmx_rd (c := 0) (h := 2) (dch_rd T.dmix rfl rfl) T.u_ rfl rfl)
      (dmx_rd (c := 1) (h := 2) (dch_rd T.dmix rfl rfl) T.u_ rfl rfl)
      (dmx_rd (c := 2) (h := 2) (dch_rd T.dmix rfl rfl) T.u_ rfl rfl)
      (dmx_rd (c := 3) (h := 2) (dch_rd T.dmix rfl rfl) T.u_ rfl rfl)) i k) ((load_slab (hb15 t) p.2.2.2.2.1 _ i k rfl))) i j)))))))
    (fun i k => (rows_pay _ i k).trans (Finset.sum_congr rfl fun j _ => (cov_slab _ _ _ (g := 1) i j rfl).trans ((slab_ne _ _ _ _ _ i j (by decide)).trans ((slab_ne _ _ _ _ _ i j (by decide)).trans ((slab_ne _ _ _ _ _ i j (by decide)).trans ((slab_of _ _ _ _ _ i j rfl).trans ((fun i k => from_eq (gsb_pay (four_rd (f := fun c i k => a.dmx (row t (col c i)) (col 1 k))
      (dmx_rd (c := 0) (h := 1) (dch_rd T.dmix rfl rfl) T.u_ rfl rfl)
      (dmx_rd (c := 1) (h := 1) (dch_rd T.dmix rfl rfl) T.u_ rfl rfl)
      (dmx_rd (c := 2) (h := 1) (dch_rd T.dmix rfl rfl) T.u_ rfl rfl)
      (dmx_rd (c := 3) (h := 1) (dch_rd T.dmix rfl rfl) T.u_ rfl rfl)) i k) ((load_slab (hb15 t) p.2.2.2.2.1 _ i k rfl))) i j)))))))
    (fun i k => (rows_pay _ i k).trans (Finset.sum_congr rfl fun j _ => (cov_slab _ _ _ (g := 0) i j rfl).trans ((slab_ne _ _ _ _ _ i j (by decide)).trans ((slab_ne _ _ _ _ _ i j (by decide)).trans ((slab_ne _ _ _ _ _ i j (by decide)).trans ((slab_of _ _ _ _ _ i j rfl).trans ((fun i k => from_eq (gsb_pay (four_rd (f := fun c i k => a.dmx (row t (col c i)) (col 0 k))
      (dmx_rd (c := 0) (h := 0) (dch_rd T.dmix rfl rfl) T.u_ rfl rfl)
      (dmx_rd (c := 1) (h := 0) (dch_rd T.dmix rfl rfl) T.u_ rfl rfl)
      (dmx_rd (c := 2) (h := 0) (dch_rd T.dmix rfl rfl) T.u_ rfl rfl)
      (dmx_rd (c := 3) (h := 0) (dch_rd T.dmix rfl rfl) T.u_ rfl rfl)) i k) ((load_slab (hb15 t) p.2.2.2.2.1 _ i k rfl))) i j))))))) g i k

theorem out16C (hf : ¬First (grid0.coords t)) (hl : Last (grid0.coords t)) (p : Outs Ideal) (s : Fin 8) (k : Fin 512) : (outC m c t hf hl p).2.2.2.2.2 (ix2 s k) = p.2.2.2.2.2 (ix2 s k) + (part a t s k : EReal) := by
  unfold outC; dsimp only; unfold runCAt runC; dsimp only
  refine with_dvln (a := a) (t := t) ?hv fun hv => eight_rows (Val := Elt Ideal) (e := .f32) (G := fun s k => p.2.2.2.2.2 (ix2 s k) + (part a t s k : EReal))
    (fun k => from_eq (row2_pay hv k) (load_box (hb16 t) p.2.2.2.2.2 _ (s := 2) (k := k) rfl (Nat.zero_add _).symm))
    (fun k => from_eq (row1_pay T.xhat hv k) (load_box (hb16 t) p.2.2.2.2.2 _ (s := 1) (k := k) rfl (Nat.zero_add _).symm))
    (fun k => from_eq (scale_pay (T.dpo 3 rfl) T.pool3 (T.gw 3 rfl) k) (load_box (hb16 t) p.2.2.2.2.2 _ (s := 0) (k := col 3 k) rfl rfl))
    (fun k => from_eq (scale_pay (T.dpo 2 rfl) T.pool2 (T.gw 2 rfl) k) (load_box (hb16 t) p.2.2.2.2.2 _ (s := 0) (k := col 2 k) rfl rfl))
    (fun k => from_eq (scale_pay (T.dpo 1 rfl) T.pool1 (T.gw 1 rfl) k) (load_box (hb16 t) p.2.2.2.2.2 _ (s := 0) (k := col 1 k) rfl rfl))
    (fun k => from_eq (scale_pay (T.dpo 0 rfl) T.pool0 (T.gw 0 rfl) k) (load_box (hb16 t) p.2.2.2.2.2 _ (s := 0) (k := col 0 k) rfl rfl))
    (fun s k h => (congrFun ((hb16 t).read_unread p.2.2.2.2.2) _).trans (part_late h _).symm) s k
  case hv =>
    exact fun r k => sixteen (fun r k => a.dvln (row t r) k) (dv 3 3 (T.weight 3 rfl) T.dmix rfl rfl rfl T.u_) (dv 2 3 (T.weight 3 rfl) T.dmix rfl rfl rfl T.u_) (dv 1 3 (T.weight 3 rfl) T.dmix rfl rfl rfl T.u_) (dv 0 3 (T.weight 3 rfl) T.dmix rfl rfl rfl T.u_) (dv 3 2 (T.weight 2 rfl) T.dmix rfl rfl rfl T.u_) (dv 2 2 (T.weight 2 rfl) T.dmix rfl rfl rfl T.u_) (dv 1 2 (T.weight 2 rfl) T.dmix rfl rfl rfl T.u_) (dv 0 2 (T.weight 2 rfl) T.dmix rfl rfl rfl T.u_) (dv 3 1 (T.weight 1 rfl) T.dmix rfl rfl rfl T.u_) (dv 2 1 (T.weight 1 rfl) T.dmix rfl rfl rfl T.u_) (dv 1 1 (T.weight 1 rfl) T.dmix rfl rfl rfl T.u_) (dv 0 1 (T.weight 1 rfl) T.dmix rfl rfl rfl T.u_) (dv 3 0 (T.weight 0 rfl) T.dmix rfl rfl rfl T.u_) (dv 2 0 (T.weight 0 rfl) T.dmix rfl rfl rfl T.u_) (dv 1 0 (T.weight 0 rfl) T.dmix rfl rfl rfl T.u_) (dv 0 0 (T.weight 0 rfl) T.dmix rfl rfl rfl T.u_) r k

end Cert.MixIdeal.Point
end
-- ==== Proof.MixRefGrad.lean ====
/-
  The reference of the mixers' backward, read at an index on arrays that hold real numbers: the mixing of a chunk's
  positions and the gradients.
-/
module

public import proofs.«01_k».proof.Proof.MixRef
public import Idealize.ShloMosaic.Lib.TwoAxisContraction

@[expose] public section

set_option maxRecDepth 16384

noncomputable section

namespace Cert.MixRefIdeal.Read

open Cert.MixRefIdeal Cert.MixRefIdeal.Gen Cert.Fin Cert.Pool Cert.Mixer Idealize.ShloMosaic Idealize.ShloMosaic.TcCoe Idealize.SL.Sem
open Cert.Mixer (mean var rstd xhat lnBwd var_eps_pos rstd_real lnBwd_eq)

/-- Chunk `n` of sequence `b`. -/
abbrev q5 (b : Fin 4) (n : Fin 16) : Fin 64 := ⟨b.val * 16 + n.val, by omega⟩
/-- Position `p` of a sequence's chunk `n`. -/
abbrev sp (n : Fin 16) (p : Fin 128) : Fin 2048 := ⟨128 * n.val + p.val, by omega⟩

theorem tok_sp (b : Fin 4) (n : Fin 16) (p : Fin 128) : tok b (sp n p) = at' (q5 b n) p :=
  Fin.ext (by show b.val * 2048 + (128 * n.val + p.val) = 128 * (b.val * 16 + n.val) + p.val; omega)

theorem sp_div (s : Fin 2048) : sp ⟨s.val / 128, by omega⟩ ⟨s.val % 128, by omega⟩ = s :=
  Fin.ext (by show 128 * (s.val / 128) + s.val % 128 = s.val; omega)

/-- A statement about every position holds when it holds of every chunk's. -/
theorem sp_cases {P : Fin 2048 → Prop} (h : ∀ n p, P (sp n p)) (s : Fin 2048) : P s := sp_div s ▸ h _ _

theorem grp_cases {P : Fin 512 → Prop} (h : ∀ g k, P (col g k)) (c : Fin 512) : P c := col_grp c ▸ h _ _

variable {a : In} {x0 : (⟨S8192x1024, .bf16⟩ : BufTy).Contents (Elt Ideal)} {x1 : (⟨S8192x512, .f32⟩ : BufTy).Contents (Elt Ideal)}
    {x2 : (⟨S8192x1024, .bf16⟩ : BufTy).Contents (Elt Ideal)} {x3 : (⟨S1x1024x1024, .f32⟩ : BufTy).Contents (Elt Ideal)}
    {x4 : (⟨S1x4x128x128, .f32⟩ : BufTy).Contents (Elt Ideal)} {x5 x6 x7 : (⟨S1x512, .f32⟩ : BufTy).Contents (Elt Ideal)}
    {x8 : (⟨S1x4x128x128, .f32⟩ : BufTy).Contents (Elt Ideal)} {x9 : (⟨S1x4x128, .f32⟩ : BufTy).Contents (Elt Ideal)}
  (H : Holds a x0 x1 x2 x3 x4 x5 x6 x7 x8 x9)
include H

/-! ### What arrives from the output weights -/

theorem dmix_real (b : Fin 4) (s : Fin 2048) (k : Fin 1024) : val_main_v143 (F := Ideal) x0 x3 (ix3 b s k) = (a.dmix (tok b s) k : ℝ) := by
  have hl : ∀ n, lidx_main_v143 (ix3 b s k) n = ix3 b s n := fun n => funext fun a => by fin_cases a <;> rfl
  have hr : ∀ n, ridx_main_v143 (ix3 b s k) n = ix2 k n := fun n => funext fun a => by fin_cases a <;> rfl
  rw [val_main_v143_apply]
  simp only [hl, hr]
  pointwise [val_main_v142, val_main_v141, val_main_v139, H.d, H.o, ← EReal.coe_mul, sum_coe]
  rfl

theorem dpo_real (b : Fin 4) (s : Fin 2048) (c : Fin 512) : val_main_v144 (F := Ideal) x0 x3 (ix3 b s c) = (a.dpo (tok b s) c : ℝ) := by
  pointwise [val_main_v144, dmix_real H]; rfl

theorem dch_real (b : Fin 4) (s : Fin 2048) (c : Fin 512) : val_main_v145 (F := Ideal) x0 x3 (ix3 b s c) = (a.dch (tok b s) c : ℝ) := by
  pointwise [val_main_v145, dmix_real H]; rfl

theorem dmx_real (b : Fin 4) (s : Fin 2048) (c : Fin 512) : val_main_v146 (F := Ideal) x0 x2 x3 (ix3 b s c) = (a.dmx (tok b s) c : ℝ) := by
  pointwise [val_main_v146, u_real H, dch_real H, ← EReal.coe_mul]
  exact congrArg _ (mul_comm _ _)

/-! ### The mixing -/

omit H in
theorem sel_tri (t s : Fin 128) (x y : EReal) :
    Scalar.select (IntOp.cmpi CmpIPredicate.sge (IntOp.addi (BitVec.ofNat 32 t.val) 0#32) (BitVec.ofNat 32 s.val)) x y = if s ≤ t then x else y := by
  have h : IntOp.cmpi CmpIPredicate.sge (IntOp.addi (BitVec.ofNat 32 t.val) 0#32) (BitVec.ofNat 32 s.val) = if s ≤ t then 1#1 else 0#1 := by
    revert t s; decide +kernel
  rw [h]; split_ifs <;> rfl

omit H in
theorem tri_real (t s : Fin 128) : val_main_v126 (F := Ideal) (ix2 t s) = (In.tri t s : ℝ) := by
  pointwise [val_main_v126, val_main_v125, val_main_cst_17, val_main_call1_v4, val_main_call1_v5, val_main_call1_cst, val_main_call1_v3, val_main_call1_v2, val_main_call1_v1,
    val_main_call1_v0, val_main_call1_c, lit_one, lit_zero]
  rw [sel_tri, In.tri]; split_ifs <;> rfl

theorem w_real (h : Fin 4) (t s : Fin 128) : val_main_v129 (F := Ideal) x8 (ix3 h t s) = (a.w h t s : ℝ) := by
  pointwise [val_main_v129, val_main_v91, val_main_v128, val_main_v127, tri_real, H.w, ← EReal.coe_mul]; rfl

theorem vln5 (b : Fin 4) (n : Fin 16) (p : Fin 128) (h : Fin 4) (k : Fin 128) :
    val_main_v124 (F := Ideal) x2 x6 x7 (ix5 b n p h k) = (a.vln (at' (q5 b n) p) (col h k) : ℝ) := by
  rw [← tok_sp, ← vln_real H]
  pointwise [val_main_v124]
  exact congrArg _ (congrArg₂ (ix3 b) (Fin.ext (show n.val * 128 + p.val = 128 * n.val + p.val by omega)) (Fin.ext (show h.val * 128 + k.val = 128 * h.val + k.val by omega)))

theorem dmx5 (b : Fin 4) (n : Fin 16) (p : Fin 128) (h : Fin 4) (k : Fin 128) :
    val_main_v148 (F := Ideal) x0 x2 x3 (ix5 b n p h k) = (a.dmx (at' (q5 b n) p) (col h k) : ℝ) := by
  rw [← tok_sp, ← dmx_real H]
  pointwise [val_main_v148]
  exact congrArg _ (congrArg₂ (ix3 b) (Fin.ext (show n.val * 128 + p.val = 128 * n.val + p.val by omega)) (Fin.ext (show h.val * 128 + k.val = 128 * h.val + k.val by omega)))

theorem mixed5 (b : Fin 4) (n : Fin 16) (p : Fin 128) (h : Fin 4) (k : Fin 128) :
    val_main_v135 (F := Ideal) x2 x6 x7 x8 x9 (ix5 b n p h k) = (a.mixed (at' (q5 b n) p) (col h k) : ℝ) := by
  have hl : ∀ j, lidx_main_v130 (ix5 h b n k p) j = ix5 b n j h k := fun n => funext fun a => by fin_cases a <;> rfl
  have hr : ∀ j, ridx_main_v130 (ix5 h b n k p) j = ix3 h p j := fun n => funext fun a => by fin_cases a <;> rfl
  have hd : val_main_v130 (F := Ideal) x2 x6 x7 x8 (ix5 h b n k p) = ((∑ j, a.w h p j * a.vln (at' (q5 b n) j) (col h k) : ℝ) : EReal) := by
    rw [val_main_v130_apply]
    simp only [hl, hr, vln5 H, w_real H, ← EReal.coe_mul, sum_coe]
    exact congrArg _ (Finset.sum_congr rfl fun j _ => mul_comm _ _)
  pointwise [val_main_v135, val_main_v131, val_main_v134, val_main_v133, val_main_v132, val_main_v92, hd, H.u, ← EReal.coe_add]
  rw [In.mixed_at]

theorem dvln5 (b : Fin 4) (n : Fin 16) (p : Fin 128) (h : Fin 4) (k : Fin 128) :
    val_main_v156 (F := Ideal) x0 x2 x3 x8 (ix5 b n p h k) = (a.dvln (at' (q5 b n) p) (col h k) : ℝ) := by
  have hl : ∀ j, lidx_main_v155 (ix5 h b n k p) j = ix5 h b n k j := fun n => funext fun a => by fin_cases a <;> rfl
  have hr : ∀ j, ridx_main_v155 (ix5 h b n k p) j = ix3 h j p := fun n => funext fun a => by fin_cases a <;> rfl
  have ht : ∀ j, val_main_v153 (F := Ideal) x0 x2 x3 (ix5 h b n k j) = (a.dmx (at' (q5 b n) j) (col h k) : ℝ) := fun j => by
    pointwise [val_main_v153, dmx5 H]
  have hd : val_main_v155 (F := Ideal) x0 x2 x3 x8 (ix5 h b n k p) = (a.dvln (at' (q5 b n) p) (col h k) : ℝ) := by
    rw [val_main_v155_apply]
    simp only [hl, hr, ht, w_real H, ← EReal.coe_mul, sum_coe, In.dvln_at]
    exact congrArg _ (Finset.sum_congr rfl fun j _ => mul_comm _ _)
  pointwise [val_main_v156, hd]

theorem mixed_real (b : Fin 4) (s : Fin 2048) (c : Fin 512) : val_main_v136 (F := Ideal) x2 x6 x7 x8 x9 (ix3 b s c) = (a.mixed (tok b s) c : ℝ) := by
  revert s; refine sp_cases fun n p => ?_
  revert c; refine grp_cases fun h k => ?_
  rw [tok_sp, ← mixed5 H]
  have e1 : (128 * n.val + p.val) / 128 = n.val := by omega
  have e2 : (128 * n.val + p.val) % 128 = p.val := by omega
  have e3 : (128 * h.val + k.val) / 128 = h.val := by omega
  have e4 : (128 * h.val + k.val) % 128 = k.val := by omega
  pointwise [val_main_v136, e1, e2, e3, e4]

theorem dvln_real (b : Fin 4) (s : Fin 2048) (c : Fin 512) : val_main_v159 (F := Ideal) x0 x2 x3 x8 (ix3 b s c) = (a.dvln (tok b s) c : ℝ) := by
  revert s; refine sp_cases fun n p => ?_
  revert c; refine grp_cases fun h k => ?_
  rw [tok_sp, ← dvln5 H]
  have e1 : (128 * n.val + p.val) / 128 = n.val := by omega
  have e2 : (128 * n.val + p.val) % 128 = p.val := by omega
  have e3 : (128 * h.val + k.val) / 128 = h.val := by omega
  have e4 : (128 * h.val + k.val) % 128 = k.val := by omega
  pointwise [val_main_v159, e1, e2, e3, e4]

theorem du_real (b : Fin 4) (s : Fin 2048) (c : Fin 512) : val_main_v147 (F := Ideal) x0 x2 x3 x6 x7 x8 x9 (ix3 b s c) = (a.du (tok b s) c : ℝ) := by
  pointwise [val_main_v147, mixed_real H, dch_real H, ← EReal.coe_mul]; rfl

/-! ### The gradients of the mixing's weights and bias -/

omit H in
/-- A sum over the indices of the axes that a product contracts, three of them. -/
theorem sum3 {m n k : ℕ} {C : Shape} (e : C = Shape.ofList [m, n, k]) (f : C.Idx → EReal) :
    ∑ q, f q = ∑ x : Fin m, ∑ y : Fin n, ∑ z : Fin k, f (e ▸ fun a => match a with | ⟨0, _⟩ => x | ⟨1, _⟩ => y | ⟨2, _⟩ => z) := by
  subst e
  rw [← (Fintype.sum_bijective (fun i : Fin m × Fin n × Fin k => ((fun a => match a with | ⟨0, _⟩ => i.1 | ⟨1, _⟩ => i.2.1 | ⟨2, _⟩ => i.2.2) : (Shape.ofList [m, n, k]).Idx))
    ⟨fun _ _ e => Prod.ext (congrFun e (0 : Fin 3)) (Prod.ext (congrFun e (1 : Fin 3)) (congrFun e (2 : Fin 3))),
    fun i => ⟨(i (0 : Fin 3), i (1 : Fin 3), i (2 : Fin 3)), funext fun a => match a with | ⟨0, _⟩ => rfl | ⟨1, _⟩ => rfl | ⟨2, _⟩ => rfl⟩⟩ _ f fun _ => rfl)]
  simp only [Fintype.sum_prod_type]

omit H in
/-- The same for two of them. -/
theorem sum2 {m n : ℕ} {C : Shape} (e : C = Shape.ofList [m, n]) (f : C.Idx → EReal) :
    ∑ q, f q = ∑ x : Fin m, ∑ y : Fin n, f (e ▸ fun a => match a with | ⟨0, _⟩ => x | ⟨1, _⟩ => y) := by
  subst e
  rw [← (Fintype.sum_bijective (fun i : Fin m × Fin n => ((fun a => match a with | ⟨0, _⟩ => i.1 | ⟨1, _⟩ => i.2) : (Shape.ofList [m, n]).Idx))
    ⟨fun _ _ e => Prod.ext (congrFun e (0 : Fin 2)) (congrFun e (1 : Fin 2)),
    fun i => ⟨(i (0 : Fin 2), i (1 : Fin 2)), funext fun a => match a with | ⟨0, _⟩ => rfl | ⟨1, _⟩ => rfl⟩⟩ _ f fun _ => rfl)]
  simp only [Fintype.sum_prod_type]

omit H in
/-- A sum over all chunks, sequence by sequence. -/
theorem sum_chunk (f : Fin 64 → ℝ) : ∑ b, ∑ n, f (q5 b n) = ∑ q, f q :=
  Fin.sum_mul_add_congr (F := fun (b : Fin 4) (n : Fin 16) => f (q5 b n)) fun _ _ _ => rfl

theorem gsb_real (h : Fin 4) (t : Fin 128) : val_main_v152 (F := Ideal) x0 x2 x3 (ix2 h t) = (a.gsb h t : ℝ) := by
  have h9 : val_main_v149 (F := Ideal) x0 x2 x3 (ix2 t h) = (a.gsb h t : ℝ) := by
    unfold val_main_v149 Host.reduceAdd
    rw [Ideal.hostReduceAdd_def]
    refine (reduce014 _ _ _ t h).trans ?_
    simp only [dmx5 H, sum_coe]
    pointwise [val_main_cst_18, lit_zero]
    rw [← EReal.coe_add, zero_add, sum_chunk (fun q => ∑ k, a.dmx (at' q t) (col h k))]; rfl
  have h1 : val_main_v151 (F := Ideal) x0 x2 x3 (ix2 t h) = (a.gsb h t : ℝ) := by
    unfold val_main_v151 Host.reduceAdd
    rw [Ideal.hostReduceAdd_def]
    refine (reduce014 _ _ _ t h).trans ?_
    simp only [Fin.sum_univ_one]
    pointwise [val_main_cst_19, val_main_v150, h9, lit_zero]
    rw [← EReal.coe_add, zero_add]
  pointwise [val_main_v152, h1]

theorem gsw_real (h : Fin 4) (t s : Fin 128) : val_main_v158 (F := Ideal) x0 x2 x3 x6 x7 (ix3 h t s) = (a.gsw h t s : ℝ) := by
  have ht (b : Fin 4) (n : Fin 16) (k : Fin 128) : val_main_v153 (F := Ideal) x0 x2 x3 (ix5 h b n k t) = (a.dmx (at' (q5 b n) t) (col h k) : ℝ) := by
    pointwise [val_main_v153, dmx5 H]
  have hd : val_main_v154 (F := Ideal) x0 x2 x3 x6 x7 (ix3 h t s) = ((∑ q, ∑ k, a.dmx (at' q t) (col h k) * a.vln (at' q s) (col h k) : ℝ) : EReal) := by
    unfold val_main_v154
    simp only [Host.dotGeneral]
    rw [Ideal.dotGeneral_apply]
    refine (sum3 (C := dot_S4x4x16x128x128_S4x16x128x4x128_S4x128x128_123_014_4_2_0_3.contr) (m := 4) (n := 16) (k := 128) rfl _).trans ?_
    rw [← sum_chunk]
    simp only [← sum_coe]
    refine Finset.sum_congr rfl fun b _ => Finset.sum_congr rfl fun n _ => Finset.sum_congr rfl fun k _ => ?_
    rw [EReal.coe_mul, ← ht, ← vln5 H]
    refine congrArg₂ (· * ·) (congrArg _ ?_) (congrArg _ ?_) <;> (funext a; fin_cases a <;> rfl)
  pointwise [val_main_v158, val_main_v157, val_main_v127, tri_real, hd, ← EReal.coe_mul]; rfl

/-! ### The gradients of the norm -/

theorem shift_grad (c : Fin 512) : val_main_v162 (F := Ideal) x0 x2 x3 x8 (ix1 c) = ((∑ r, a.dvln r c : ℝ) : EReal) := by
  have h1 : val_main_v160 (F := Ideal) x0 x2 x3 x8 (ix1 c) = ((∑ r, a.dvln r c : ℝ) : EReal) := by
    unfold val_main_v160 Host.reduceAdd
    rw [Ideal.hostReduceAdd_def]
    refine (reduce01 _ _ _ c).trans ?_
    simp only [dvln_real H, sum_coe]
    pointwise [val_main_cst_20, lit_zero]
    rw [← EReal.coe_add, zero_add, sum_tok fun r => a.dvln r c]
  unfold val_main_v162 Host.reduceAdd
  rw [Ideal.hostReduceAdd_def]
  refine (reduce01 _ _ _ c).trans ?_
  simp only [Fin.sum_univ_one]
  pointwise [val_main_cst_21, val_main_v161, h1, lit_zero]
  rw [← EReal.coe_add, zero_add]

theorem scale_grad (c : Fin 512) : val_main_v168 (F := Ideal) x0 x2 x3 x8 (ix1 c) = ((∑ r, a.dvln r c * xhat (a.v r) c : ℝ) : EReal) := by
  have h1 : val_main_v164 (F := Ideal) x0 x2 x3 x8 (ix1 c) = ((∑ r, a.dvln r c * xhat (a.v r) c : ℝ) : EReal) := by
    unfold val_main_v164 Host.reduceAdd
    rw [Ideal.hostReduceAdd_def]
    refine (reduce01 _ _ _ c).trans ?_
    pointwise [val_main_v163, xhat_real H, dvln_real H, ← EReal.coe_mul, val_main_cst_22, lit_zero, sum_coe]
    rw [← EReal.coe_add, zero_add, sum_tok fun r => xhat (a.v r) c * a.dvln r c]
    simp only [mul_comm]
  unfold val_main_v168 Host.reduceAdd
  rw [Ideal.hostReduceAdd_def]
  refine (reduce01 _ _ _ c).trans ?_
  simp only [Fin.sum_univ_one]
  pointwise [val_main_cst_23, val_main_v165, h1, lit_zero]
  rw [← EReal.coe_add, zero_add]

theorem dhat_real (b : Fin 4) (s : Fin 2048) (c : Fin 512) : val_main_v167 (F := Ideal) x0 x2 x3 x6 x8 (ix3 b s c) = ((a.dvln (tok b s) c * a.G c : ℝ) : EReal) := by
  pointwise [val_main_v167, val_main_v166, scale_real H, dvln_real H, ← EReal.coe_mul]

theorem dv_real (b : Fin 4) (s : Fin 2048) (c : Fin 512) : val_main_v192 (F := Ideal) x0 x2 x3 x6 x8 (ix3 b s c)
    = (lnBwd (a.v (tok b s)) (fun c => a.dvln (tok b s) c * a.G c) c : ℝ) := by
  have h173 (c : Fin 512) : val_main_v173 (F := Ideal) x0 x2 x3 x6 x8 (ix3 b s c) = ((a.dvln (tok b s) c * a.G c * rstd (a.v (tok b s)) : ℝ) : EReal) := by
    pointwise [val_main_v173, val_main_v172, dhat_real H, rstd_row H, ← EReal.coe_mul]
  have h115 : val_main_v115 (F := Ideal) x2 (ix3 b s 0) = ((-(1 / 2) * (rstd (a.v (tok b s)) / (var (a.v (tok b s)) + eps)) : ℝ) : EReal) := by
    pointwise [val_main_v115, val_main_v114, val_main_cst_16, val_main_v113, rstd_row H, var_real H, lit_neg_half]
    rw [div_real _ (Mixer.var_eps_pos _).ne', ← EReal.coe_mul]
  have h180 : val_main_v180 (F := Ideal) x0 x2 x3 x6 x8 (ix2 b s) = (((∑ k, (a.v (tok b s) k - mean (a.v (tok b s))) * (a.dvln (tok b s) k * a.G k))
      * (-(1 / 2) * (rstd (a.v (tok b s)) / (var (a.v (tok b s)) + eps))) / 512 : ℝ) : EReal) := by
    pointwise [val_main_v180, val_main_cst_27, val_main_v179, val_main_v178, val_main_cst_26, val_main_v174, h115, val_main_v171, val_main_v170, val_main_cst_24,
      val_main_v169, dev2_real H, dhat_real H, lit_zero, lit_512, ← EReal.coe_mul, sum_coe]
    rw [Fin.sum_univ_one, h115, ← EReal.coe_add, zero_add, ← EReal.coe_mul, div_real _ (by norm_num), ← EReal.coe_add, zero_add]
  have h182 (c : Fin 512) : val_main_v182 (F := Ideal) x0 x2 x3 x6 x8 (ix3 b s c) = (((∑ k, (a.v (tok b s) k - mean (a.v (tok b s))) * (a.dvln (tok b s) k * a.G k))
      * (-(1 / 2) * (rstd (a.v (tok b s)) / (var (a.v (tok b s)) + eps))) / 512 * (2 * (a.v (tok b s) c - mean (a.v (tok b s)))) : ℝ) : EReal) := by
    pointwise [val_main_v182, val_main_v181, h180, val_main_v103, val_main_v102, val_main_cst_12, lit_two, dev_real H, ← EReal.coe_mul]
  rw [← Mixer.lnBwd_eq]
  pointwise [val_main_v192, val_main_v191, val_main_v190, val_main_cst_30, val_main_v189, val_main_v188, val_main_cst_29, val_main_v187, val_main_v186, val_main_v185, val_main_v184,
    val_main_cst_28, val_main_v183, val_main_v177, val_main_v176, val_main_cst_25, val_main_v175, h173, h182, lit_zero, lit_512, ← EReal.coe_neg, sum_coe]
  rw [Fin.sum_univ_one]
  simp only [← EReal.coe_add, zero_add]
  rw [div_real _ (by norm_num)]
  simp only [← EReal.coe_add, zero_add]

/-! ### The gradient of the activation's input -/

theorem dz_real (b : Fin 4) (s : Fin 2048) (k : Fin 1024) : val_main_v195 (F := Ideal) x0 x2 x3 x6 x7 x8 x9 (ix3 b s k) = (a.dz (tok b s) k : ℝ) := by
  unfold In.dz
  pointwise [val_main_v195, val_main_v194, val_main_v193, val_main_cst_31, val_main_cst_32, dv_real H, du_real H]
  by_cases h : k.val < 512
  · rw [dif_neg (by omega), dif_pos h, dif_pos h, zero_add]
  · rw [dif_pos (by omega), dif_neg h, dif_neg h, add_zero]

theorem dpre_real (b : Fin 4) (s : Fin 2048) (k : Fin 1024) : val_main_v229 (F := Ideal) x0 x2 x3 x6 x7 x8 x9 (ix2 (tok b s) k) = (a.dpre (tok b s) k : ℝ) := by
  have hq : (b.val * 2048 + s.val) / 2048 = b.val := by omega
  have hm : (b.val * 2048 + s.val) % 2048 = s.val := by omega
  unfold In.dpre
  rw [← slope_eq]
  pointwise [val_main_v229, val_main_v225, hq, hm, val_main_v224, val_main_v223, val_main_v222, val_main_cst_36, val_main_v221, val_main_v220, val_main_v219, root_two, val_main_v218,
    val_main_v217, val_main_v216, val_main_cst_35, val_main_v215, val_main_v214, dz_real H, half_z H, erfc_z H, exp_z H, lit_half, lit_slope, ← EReal.coe_mul]
  rw [div_real _ sqrt_two_ne, ← EReal.coe_neg, ← EReal.coe_add]

/-! ### The averaged half -/

theorem po_real (b : Fin 4) (s : Fin 2048) (c : Fin 512) : val_main_v84 (F := Ideal) x1 x4 (ix3 b s c) = (a.po (tok b s) c : ℝ) := by
  revert c; refine grp_cases fun g d => ?_
  have hl : ∀ j, lidx_main_v82 (ix4 g d b s) j = ix3 g j d := fun n => funext fun a => by fin_cases a <;> rfl
  have hr : ∀ j, ridx_main_v82 (ix4 g d b s) j = ix4 b s g j := fun n => funext fun a => by fin_cases a <;> rfl
  have hd : val_main_v82 (F := Ideal) x1 x4 (ix4 g d b s) = (a.po (tok b s) (col g d) : ℝ) := by
    rw [val_main_v82_apply, In.po_at]
    simp only [hl, hr, pooled_real H]
    pointwise [val_main_v81, H.p, ← EReal.coe_mul, sum_coe]
    exact congrArg _ (Finset.sum_congr rfl fun j _ => mul_comm _ _)
  have e3 : (128 * g.val + d.val) / 128 = g.val := by omega
  have e4 : (128 * g.val + d.val) % 128 = d.val := by omega
  pointwise [val_main_v84, e3, e4, val_main_v83, hd]

theorem dps_real (b : Fin 4) (s : Fin 2048) (g : Fin 4) (d : Fin 128) : val_main_v208 (F := Ideal) x0 x3 x5 (ix4 g d b s) = (a.dps (tok b s) (col g d) : ℝ) := by
  have h4 (c : Fin 512) : val_main_v204 (F := Ideal) x0 x3 x5 (ix3 b s c) = (a.dps (tok b s) c : ℝ) := by
    pointwise [val_main_v204, val_main_v203, val_main_v86, val_main_v85, H.s, dpo_real H, ← EReal.coe_mul]; rfl
  rw [← h4]
  pointwise [val_main_v208, val_main_v207]
  exact congrArg _ (congrArg (ix3 b s) (Fin.ext (show g.val * 128 + d.val = 128 * g.val + d.val by omega)))

theorem dpool_real (b : Fin 4) (s : Fin 2048) (c : Fin 512) : val_main_v228 (F := Ideal) x0 x3 x4 x5 (ix2 (tok b s) c) = (a.dpool (tok b s) c : ℝ) := by
  revert c; refine grp_cases fun g k => ?_
  have hl : ∀ j, lidx_main_v209 (ix4 g b s k) j = ix4 g j b s := fun n => funext fun a => by fin_cases a <;> rfl
  have hr : ∀ j, ridx_main_v209 (ix4 g b s k) j = ix3 g k j := fun n => funext fun a => by fin_cases a <;> rfl
  have hd : val_main_v209 (F := Ideal) x0 x3 x4 x5 (ix4 g b s k) = (a.dpool (tok b s) (col g k) : ℝ) := by
    rw [val_main_v209_apply, In.dpool_at]
    simp only [hl, hr, dps_real H]
    pointwise [val_main_v81, H.p, ← EReal.coe_mul, sum_coe]
  have hq : (b.val * 2048 + s.val) / 2048 = b.val := by omega
  have hm : (b.val * 2048 + s.val) % 2048 = s.val := by omega
  have e3 : (128 * g.val + k.val) / 128 = g.val := by omega
  have e4 : (128 * g.val + k.val) % 128 = k.val := by omega
  pointwise [val_main_v228, hq, hm, e3, e4, val_main_v210, hd]

theorem gpw_real (g : Fin 4) (k d : Fin 128) : val_main_v230 (F := Ideal) x0 x1 x3 x5 (ix3 g k d) = (a.gpw g k d : ℝ) := by
  have hd : val_main_v211 (F := Ideal) x0 x1 x3 x5 (ix3 g d k) = (a.gpw g k d : ℝ) := by
    unfold val_main_v211
    simp only [Host.dotGeneral]
    rw [Ideal.dotGeneral_apply]
    refine (sum2 (C := dot_S4x128x4x2048_S4x2048x4x128_S4x128x128_23_01_1_3_0_2.contr) (m := 4) (n := 2048) rfl _).trans ?_
    unfold In.gpw
    rw [← sum_tok]
    simp only [← sum_coe]
    refine Finset.sum_congr rfl fun b _ => Finset.sum_congr rfl fun s _ => ?_
    rw [mul_comm (a.pooled _ _), EReal.coe_mul, ← dps_real H, ← pooled_real H]
    refine congrArg₂ (· * ·) (congrArg _ ?_) (congrArg _ ?_) <;> (funext a; fin_cases a <;> rfl)
  pointwise [val_main_v230, val_main_v213, val_main_v212, hd]

theorem pool_scale_grad (c : Fin 512) : val_main_v205 (F := Ideal) x0 x1 x3 x4 (ix1 c) = ((∑ r, a.dpo r c * a.po r c : ℝ) : EReal) := by
  have h1 : val_main_v201 (F := Ideal) x0 x1 x3 x4 (ix1 c) = ((∑ r, a.dpo r c * a.po r c : ℝ) : EReal) := by
    unfold val_main_v201 Host.reduceAdd
    rw [Ideal.hostReduceAdd_def]
    refine (reduce01 _ _ _ c).trans ?_
    pointwise [val_main_v200, po_real H, dpo_real H, ← EReal.coe_mul, val_main_cst_33, lit_zero, sum_coe]
    rw [← EReal.coe_add, zero_add, sum_tok fun r => a.po r c * a.dpo r c]
    simp only [mul_comm]
  unfold val_main_v205 Host.reduceAdd
  rw [Ideal.hostReduceAdd_def]
  refine (reduce01 _ _ _ c).trans ?_
  simp only [Fin.sum_univ_one]
  pointwise [val_main_cst_34, val_main_v202, h1, lit_zero]
  rw [← EReal.coe_add, zero_add]

/-! ### The other results -/

theorem vec_real (i : Fin 8) (c : Fin 512) : val_main_v227 (F := Ideal) x0 x1 x2 x3 x4 x8 (ix2 i c) = (a.vec i c : ℝ) := by
  unfold In.vec
  fin_cases i <;> pointwise [val_main_v227, val_main_v226, val_main_cst_37, val_main_v206, val_main_v199, val_main_v198, pool_scale_grad H, scale_grad H, shift_grad H, lit_zero] <;> rfl

theorem gsw_out (h : Fin 4) (t s : Fin 128) : val_main_v231 (F := Ideal) x0 x2 x3 x6 x7 (ix3 h t s) = (a.gsw h t s : ℝ) := by
  pointwise [val_main_v231, val_main_v197, gsw_real H]

theorem gsb_out (h : Fin 4) (t k : Fin 128) : val_main_v234 (F := Ideal) x0 x2 x3 (ix3 h t k) = (a.gsb h t : ℝ) := by
  pointwise [val_main_v234, val_main_v233, val_main_v232, val_main_v196, gsb_real H]

end Cert.MixRefIdeal.Read
end
-- ==== Proof.MixValue.lean ====
/-
  The mixers' backward: the kernel's result arrays are the reference's.
-/
module

public import proofs.«01_k».proof.Proof.MixBlocks
public import proofs.«01_k».proof.Proof.MixOutA
public import proofs.«01_k».proof.Proof.MixOutB
public import proofs.«01_k».proof.Proof.MixOutC
public import proofs.«01_k».proof.Proof.MixRefGrad
public import Idealize.ShloMosaic.Lib.Pipeline.ValueKit.Acc
public import Idealize.ShloMosaic.Lib.Pipeline.Value

@[expose] public section

set_option maxRecDepth 16384

noncomputable section

namespace Cert.MixIdeal.Point

open Cert.MixIdeal Cert.MixIdeal.Gen Cert.MixIdeal.Run Cert.Fin Cert.Mixer Cert.Rows Idealize.ShloMosaic Idealize.ShloMosaic.TcCoe Idealize.SL.Sem
open Cert.Pool (tok col ext ext_of_lt)
open Cert.MixRefIdeal.Read

/-! ### Sums over the tiles -/

/-- What starts at its first part and takes a part at each step is the sum of the parts. -/
theorem sum_of_steps {n : ℕ} (X : ∀ i, i < n → EReal) (S : ℕ → ℝ) (h0 : ∀ h, X 0 h = 0 + (S 0 : EReal))
    (hs : ∀ i (h : i + 1 < n), X (i + 1) h = X i (Nat.lt_of_succ_lt h) + (S (i + 1) : EReal)) (i : ℕ) (h : i < n) :
    X i h = ((∑ j ∈ Finset.range (i + 1), S j : ℝ) : EReal) := by
  induction i with
  | zero => rw [h0, zero_add, Finset.sum_range_one]
  | succ i ih => rw [hs, ih, Finset.sum_range_succ _ (i + 1), ← EReal.coe_add]

/-- The parts of all points, by number. -/
def byNum (S : Fin cfg0.N → ℝ) (n : ℕ) : ℝ := if h : n < cfg0.N then S ⟨n, h⟩ else 0

theorem byNum_val (S : Fin cfg0.N → ℝ) (t : Fin cfg0.N) : byNum S t.val = S t := dif_pos t.isLt

theorem sum_byNum (S : Fin cfg0.N → ℝ) : ∑ j ∈ Finset.range 16, byNum S j = ∑ t, S t :=
  (Finset.sum_range (n := 16) (byNum S)).trans (Finset.sum_congr rfl fun t _ => byNum_val S t)

/-- The last point. -/
abbrev lastPt : Fin cfg0.N := ⟨15, by decide⟩

theorem sum_last (S : Fin cfg0.N → ℝ) : ∑ j ∈ Finset.range (14 + 1), byNum S j + S lastPt = ∑ t, S t := by
  rw [← sum_byNum, ← byNum_val S lastPt]
  exact (Finset.sum_range_succ (byNum S) 15).symm

theorem sum_rows (f : Fin 8192 → ℝ) : ∑ t : Fin cfg0.N, ∑ r : Fin 512, f (row t r) = ∑ r, f r :=
  Fin.sum_mul_add_congr (F := fun (t : Fin 16) (r : Fin 512) => f (row t r)) fun t r hl =>
    congrArg f (Fin.ext (congrArg (· + r.val) (Nat.mul_comm _ _)))

theorem sum_chunks (f : Fin 64 → ℝ) : ∑ t : Fin cfg0.N, ∑ q : Fin 4, f (chunkAt t q) = ∑ q, f q :=
  Fin.sum_mul_add_congr (F := fun (t : Fin 16) (q : Fin 4) => f (chunkAt t q)) fun t q hl =>
    congrArg f (Fin.ext (congrArg (· + q.val) (Nat.mul_comm _ _)))

section Acc

variable {a : In} {m : (ℓ : Loc nD τ sig) → Buf (Elt Ideal) ℓ} {c : Dev nD} (T : ∀ t, Tile a m c t)

theorem first_of {t : Fin cfg0.N} (h : t.val = 0) : First (grid0.coords t) := (first_iff t).mpr h
theorem last_of {t : Fin cfg0.N} (h : t.val = 15) : Last (grid0.coords t) := (last_iff t).mpr h
theorem not_first {t : Fin cfg0.N} (h : ¬t.val = 0) : ¬First (grid0.coords t) := fun e => h ((first_iff t).mp e)
theorem not_last {t : Fin cfg0.N} (h : ¬t.val = 15) : ¬Last (grid0.coords t) := fun e => h ((last_iff t).mp e)

include T

theorem at11 (t : Fin cfg0.N) (g : Fin 4) (r : Fin 512) (k : Fin 128) : (outsAt m c t.val t.isLt).1 (ix2 r (col g k)) = (a.dpool (row t r) (col g k) : EReal) := by
  by_cases h0 : t.val = 0
  · rw [outsAt_A m c t h0 (first_of h0) (not_last (by omega))]
    exact out11A (T t) _ _ g r k
  · by_cases h1 : t.val = 15
    · rw [outsAt_C m c t h0 h1 (not_first h0) (last_of h1)]
      exact out11C (T t) _ _ _ g r k
    · rw [outsAt_B m c t h0 h1 (not_first h0) (not_last h1)]
      exact out11B (T t) _ _ _ g r k

theorem at12 (t : Fin cfg0.N) (r : Fin 512) (k : Fin 1024) : (outsAt m c t.val t.isLt).2.1 (ix2 r k) = (a.dpre (row t r) k : EReal) := by
  by_cases h0 : t.val = 0
  · rw [outsAt_A m c t h0 (first_of h0) (not_last (by omega))]
    exact out12A (T t) _ _ r k
  · by_cases h1 : t.val = 15
    · rw [outsAt_C m c t h0 h1 (not_first h0) (last_of h1)]
      exact out12C (T t) _ _ _ r k
    · rw [outsAt_B m c t h0 h1 (not_first h0) (not_last h1)]
      exact out12B (T t) _ _ _ r k

theorem sum13 (g : Fin 4) (i k : Fin 128) (n : ℕ) (h : n < 16) : (outsAt m c n (show n < 16 by omega)).2.2.1 (ix3 g i k)
    = ((∑ j ∈ Finset.range (n + 1), byNum (fun t : Fin cfg0.N => ∑ r, a.pooled (row t r) (col g i) * a.dps (row t r) (col g k)) j : ℝ) : EReal) := by
  refine sum_of_steps (n := 16) (fun n h => (outsAt m c n (show n < 16 by omega)).2.2.1 (ix3 g i k)) _ (fun h => ?_) (fun j h => ?_) n h
  · have hi : 0 < cfg0.N := by decide
    refine Eq.trans ?_ (congrArg (fun x : ℝ => 0 + (x : EReal)) (byNum_val (fun t : Fin cfg0.N => ∑ r, a.pooled (row t r) (col g i) * a.dps (row t r) (col g k)) ⟨0, hi⟩).symm)
    have e := outsAt_A m c ⟨0, hi⟩ rfl (first_of rfl) (not_last (show ¬(0 : ℕ) = 15 by decide))
    refine (congrArg (fun o : Outs Ideal => o.2.2.1 (ix3 g i k)) e).trans ?_
    exact out13A (T ⟨0, hi⟩) _ _ g i k
  · have hi : j + 1 < cfg0.N := by show j + 1 < 16; omega
    refine Eq.trans ?_ (congrArg (fun x : ℝ => (outsAt m c j (show j < 16 by omega)).2.2.1 (ix3 g i k) + (x : EReal)) (byNum_val (fun t : Fin cfg0.N => ∑ r, a.pooled (row t r) (col g i) * a.dps (row t r) (col g k)) ⟨j + 1, hi⟩).symm)
    have h0 : ¬(⟨j + 1, hi⟩ : Fin cfg0.N).val = 0 := Nat.succ_ne_zero j
    by_cases h1 : (⟨j + 1, hi⟩ : Fin cfg0.N).val = 15
    · refine (congrArg (fun o : Outs Ideal => o.2.2.1 (ix3 g i k)) (outsAt_C m c ⟨j + 1, hi⟩ h0 h1 (not_first h0) (last_of h1))).trans ?_
      exact out13C (T ⟨j + 1, hi⟩) _ _ _ g i k
    · refine (congrArg (fun o : Outs Ideal => o.2.2.1 (ix3 g i k)) (outsAt_B m c ⟨j + 1, hi⟩ h0 h1 (not_first h0) (not_last h1))).trans ?_
      exact out13B (T ⟨j + 1, hi⟩) _ _ _ g i k

theorem sum14 (g : Fin 4) (i k : Fin 128) (n : ℕ) (h : n < 16) : (outsAt m c n (show n < 16 by omega)).2.2.2.1 (ix3 g i k)
    = ((∑ j ∈ Finset.range (n + 1), byNum (fun t : Fin cfg0.N => (∑ q, ∑ j, a.dmx (row t (col q i)) (col g j) * a.vln (row t (col q k)) (col g j)) * In.tri i k) j : ℝ) : EReal) := by
  refine sum_of_steps (n := 16) (fun n h => (outsAt m c n (show n < 16 by omega)).2.2.2.1 (ix3 g i k)) _ (fun h => ?_) (fun j h => ?_) n h
  · have hi : 0 < cfg0.N := by decide
    refine Eq.trans ?_ (congrArg (fun x : ℝ => 0 + (x : EReal)) (byNum_val (fun t : Fin cfg0.N => (∑ q, ∑ j, a.dmx (row t (col q i)) (col g j) * a.vln (row t (col q k)) (col g j)) * In.tri i k) ⟨0, hi⟩).symm)
    have e := outsAt_A m c ⟨0, hi⟩ rfl (first_of rfl) (not_last (show ¬(0 : ℕ) = 15 by decide))
    refine (congrArg (fun o : Outs Ideal => o.2.2.2.1 (ix3 g i k)) e).trans ?_
    exact out14A (T ⟨0, hi⟩) _ _ g i k
  · have hi : j + 1 < cfg0.N := by show j + 1 < 16; omega
    refine Eq.trans ?_ (congrArg (fun x : ℝ => (outsAt m c j (show j < 16 by omega)).2.2.2.1 (ix3 g i k) + (x : EReal)) (byNum_val (fun t : Fin cfg0.N => (∑ q, ∑ j, a.dmx (row t (col q i)) (col g j) * a.vln (row t (col q k)) (col g j)) * In.tri i k) ⟨j + 1, hi⟩).symm)
    have h0 : ¬(⟨j + 1, hi⟩ : Fin cfg0.N).val = 0 := Nat.succ_ne_zero j
    by_cases h1 : (⟨j + 1, hi⟩ : Fin cfg0.N).val = 15
    · refine (congrArg (fun o : Outs Ideal => o.2.2.2.1 (ix3 g i k)) (outsAt_C m c ⟨j + 1, hi⟩ h0 h1 (not_first h0) (last_of h1))).trans ?_
      exact out14C (T ⟨j + 1, hi⟩) _ _ _ g i k
    · refine (congrArg (fun o : Outs Ideal => o.2.2.2.1 (ix3 g i k)) (outsAt_B m c ⟨j + 1, hi⟩ h0 h1 (not_first h0) (not_last h1))).trans ?_
      exact out14B (T ⟨j + 1, hi⟩) _ _ _ g i k

theorem sum15 (g : Fin 4) (i k : Fin 128) (n : ℕ) (h : n < 15) : (outsAt m c n (show n < 16 by omega)).2.2.2.2.1 (ix3 g i k)
    = ((∑ j ∈ Finset.range (n + 1), byNum (fun t : Fin cfg0.N => ∑ q, a.dmx (row t (col q i)) (col g k)) j : ℝ) : EReal) := by
  refine sum_of_steps (n := 15) (fun n h => (outsAt m c n (show n < 16 by omega)).2.2.2.2.1 (ix3 g i k)) _ (fun h => ?_) (fun j h => ?_) n h
  · have hi : 0 < cfg0.N := by decide
    refine Eq.trans ?_ (congrArg (fun x : ℝ => 0 + (x : EReal)) (byNum_val (fun t : Fin cfg0.N => ∑ q, a.dmx (row t (col q i)) (col g k)) ⟨0, hi⟩).symm)
    have e := outsAt_A m c ⟨0, hi⟩ rfl (first_of rfl) (not_last (show ¬(0 : ℕ) = 15 by decide))
    refine (congrArg (fun o : Outs Ideal => o.2.2.2.2.1 (ix3 g i k)) e).trans ?_
    exact out15A (T ⟨0, hi⟩) _ _ g i k
  · have hi : j + 1 < cfg0.N := by show j + 1 < 16; omega
    refine Eq.trans ?_ (congrArg (fun x : ℝ => (outsAt m c j (show j < 16 by omega)).2.2.2.2.1 (ix3 g i k) + (x : EReal)) (byNum_val (fun t : Fin cfg0.N => ∑ q, a.dmx (row t (col q i)) (col g k)) ⟨j + 1, hi⟩).symm)
    have h0 : ¬(⟨j + 1, hi⟩ : Fin cfg0.N).val = 0 := Nat.succ_ne_zero j
    by_cases h1 : (⟨j + 1, hi⟩ : Fin cfg0.N).val = 15
    · exact absurd h1 (by show ¬j + 1 = 15; omega)
    · refine (congrArg (fun o : Outs Ideal => o.2.2.2.2.1 (ix3 g i k)) (outsAt_B m c ⟨j + 1, hi⟩ h0 h1 (not_first h0) (not_last h1))).trans ?_
      exact out15B (T ⟨j + 1, hi⟩) _ _ _ g i k

theorem sum16 (s : Fin 8) (k : Fin 512) (n : ℕ) (h : n < 16) : (outsAt m c n (show n < 16 by omega)).2.2.2.2.2 (ix2 s k)
    = ((∑ j ∈ Finset.range (n + 1), byNum (fun t : Fin cfg0.N => part a t s k) j : ℝ) : EReal) := by
  refine sum_of_steps (n := 16) (fun n h => (outsAt m c n (show n < 16 by omega)).2.2.2.2.2 (ix2 s k)) _ (fun h => ?_) (fun j h => ?_) n h
  · have hi : 0 < cfg0.N := by decide
    refine Eq.trans ?_ (congrArg (fun x : ℝ => 0 + (x : EReal)) (byNum_val (fun t : Fin cfg0.N => part a t s k) ⟨0, hi⟩).symm)
    have e := outsAt_A m c ⟨0, hi⟩ rfl (first_of rfl) (not_last (show ¬(0 : ℕ) = 15 by decide))
    refine (congrArg (fun o : Outs Ideal => o.2.2.2.2.2 (ix2 s k)) e).trans ?_
    exact out16A (T ⟨0, hi⟩) _ _ s k
  · have hi : j + 1 < cfg0.N := by show j + 1 < 16; omega
    refine Eq.trans ?_ (congrArg (fun x : ℝ => (outsAt m c j (show j < 16 by omega)).2.2.2.2.2 (ix2 s k) + (x : EReal)) (byNum_val (fun t : Fin cfg0.N => part a t s k) ⟨j + 1, hi⟩).symm)
    have h0 : ¬(⟨j + 1, hi⟩ : Fin cfg0.N).val = 0 := Nat.succ_ne_zero j
    by_cases h1 : (⟨j + 1, hi⟩ : Fin cfg0.N).val = 15
    · refine (congrArg (fun o : Outs Ideal => o.2.2.2.2.2 (ix2 s k)) (outsAt_C m c ⟨j + 1, hi⟩ h0 h1 (not_first h0) (last_of h1))).trans ?_
      exact out16C (T ⟨j + 1, hi⟩) _ _ _ s k
    · refine (congrArg (fun o : Outs Ideal => o.2.2.2.2.2 (ix2 s k)) (outsAt_B m c ⟨j + 1, hi⟩ h0 h1 (not_first h0) (not_last h1))).trans ?_
      exact out16B (T ⟨j + 1, hi⟩) _ _ _ s k

/-! ### The last point's totals -/

theorem step15 (g : Fin 4) (i j : Fin 128) : (outsAt m c 14 (by decide)).2.2.2.2.1 (ix3 g i j) + ((∑ q, a.dmx (row lastPt (col q i)) (col g j) : ℝ) : EReal)
    = ((∑ q, a.dmx (at' q i) (col g j) : ℝ) : EReal) := by
  rw [sum15 T g i j 14 (by decide), ← EReal.coe_add]
  refine congrArg _ ((sum_last fun t : Fin cfg0.N => ∑ q, a.dmx (row t (col q i)) (col g j)).trans ?_)
  simp only [row_col]
  exact sum_chunks fun q => a.dmx (at' q i) (col g j)

theorem total13 (g : Fin 4) (i k : Fin 128) : (outsAt m c 15 (by decide)).2.2.1 (ix3 g i k) = (a.gpw g i k : EReal) := by
  refine (sum13 T g i k 15 (by decide)).trans (congrArg _ ((sum_byNum _).trans ?_))
  exact sum_rows fun r => a.pooled r (col g i) * a.dps r (col g k)

theorem total14 (g : Fin 4) (i k : Fin 128) : (outsAt m c 15 (by decide)).2.2.2.1 (ix3 g i k) = (a.gsw g i k : EReal) := by
  refine (sum14 T g i k 15 (by decide)).trans (congrArg _ ((sum_byNum _).trans ?_))
  simp only [row_col]
  rw [← Finset.sum_mul]
  exact congrArg (· * In.tri i k) (sum_chunks fun q => ∑ j, a.dmx (at' q i) (col g j) * a.vln (at' q k) (col g j))

theorem total15 (g : Fin 4) (i k : Fin 128) : (outsAt m c 15 (by decide)).2.2.2.2.1 (ix3 g i k) = (a.gsb g i : EReal) := by
  have e := outsAt_C m c lastPt (show ¬(15 : ℕ) = 0 by decide) rfl (not_first (show ¬(15 : ℕ) = 0 by decide)) (last_of rfl)
  refine (congrArg (fun o : Outs Ideal => o.2.2.2.2.1 (ix3 g i k)) e).trans ((out15C (T lastPt) _ _ _ g i k).trans ?_)
  refine (Finset.sum_congr rfl fun j _ => step15 T g i j).trans ?_
  rw [sum_coe]
  exact congrArg _ Finset.sum_comm

theorem total16 (s : Fin 8) (k : Fin 512) : (outsAt m c 15 (by decide)).2.2.2.2.2 (ix2 s k) = (a.vec s k : EReal) := by
  refine (sum16 T s k 15 (by decide)).trans (congrArg _ ((sum_byNum _).trans ?_))
  have h0 := sum_rows fun r => a.dpo r k * a.po r k
  have h1 := sum_rows fun r => a.dvln r k * xhat (a.v r) k
  have h2 := sum_rows fun r => a.dvln r k
  fin_cases s
  · exact h0
  · exact h1
  · exact h2
  all_goals exact Finset.sum_const_zero

end Acc

/-! ### The result arrays -/

section Final

variable {a : In} (m : (ℓ : Loc nD τ sig) → Buf (Elt Ideal) ℓ) (c : Dev nD)
  (H : Cert.MixRefIdeal.Read.Holds a (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
include H

theorem final11 : (dats m 0 c).arrAt 11 cfg0.N
    = val_main_v228 (F := Ideal) (m ((c : Thread nD τ).loc main_arg0)) (m ((c : Thread nD τ).loc main_arg3)) (m ((c : Thread nD τ).loc main_arg4)) (m ((c : Thread nD τ).loc main_arg5)) := by
  refine (dats m 0 c).arrAt_eq_of_covers 11 _ (by decide +kernel) fun t hf y => ?_
  blk_simp
  rw [after0_11]
  obtain ⟨r, k, rfl⟩ : ∃ r k, y = ix2 r k := ⟨y 0, y 1, by funext a; fin_cases a <;> rfl⟩
  have e : (win0_11.blk t).view.emb (ix2 r k) = (ix2 (row t r) k : S8192x512.Idx) := by
    blk_ext [idx11 t]
  rw [e]
  refine Eq.trans ?_ ((congrArg (fun z => val_main_v228 (F := Ideal) (m ((c : Thread nD τ).loc main_arg0)) (m ((c : Thread nD τ).loc main_arg3)) (m ((c : Thread nD τ).loc main_arg4)) (m ((c : Thread nD τ).loc main_arg5)) (ix2 z k)) (row_tok t r)).trans (dpool_real H (batch t) (at_ t r) k)).symm
  rw [← row_tok]
  revert k; refine grp_cases fun g k => ?_
  intro _
  exact at11 (fun t => tile_of m c t H) t g r k

theorem final12 : (dats m 0 c).arrAt 12 cfg0.N
    = val_main_v229 (F := Ideal) (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) := by
  refine (dats m 0 c).arrAt_eq_of_covers 12 _ (by decide +kernel) fun t hf y => ?_
  blk_simp
  rw [after0_12]
  obtain ⟨r, k, rfl⟩ : ∃ r k, y = ix2 r k := ⟨y 0, y 1, by funext a; fin_cases a <;> rfl⟩
  have e : (win0_12.blk t).view.emb (ix2 r k) = (ix2 (row t r) k : S8192x1024.Idx) := by
    blk_ext [idx12 t]
  rw [e]
  refine Eq.trans ?_ ((congrArg (fun z => val_main_v229 (F := Ideal) (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (ix2 z k)) (row_tok t r)).trans (dpre_real H (batch t) (at_ t r) k)).symm
  rw [← row_tok]
  exact at12 (fun t => tile_of m c t H) t r k

theorem final13 : (dats m 0 c).arrAt 13 cfg0.N
    = val_main_v230 (F := Ideal) (m ((c : Thread nD τ).loc main_arg0)) (m ((c : Thread nD τ).loc main_arg1)) (m ((c : Thread nD τ).loc main_arg3)) (m ((c : Thread nD τ).loc main_arg5)) := by
  refine (dats m 0 c).arrAt_eq_of_covers 13 _ (by decide +kernel) fun t hf y => ?_
  blk_simp
  rw [after0_13]
  obtain ⟨g, i, k, rfl⟩ : ∃ g i k, y = ix3 g i k := ⟨y 0, y 1, y 2, by funext a; fin_cases a <;> rfl⟩
  have e : (win0_13.blk t).view.emb (ix3 g i k) = (ix3 g i k : S4x128x128.Idx) := by
    blk_ext [idx13 t]
  rw [e, gpw_real H g i k]
  have ht : t = ⟨15, by decide⟩ := Fin.ext (by
    have := (flush0_13 t).mp hf
    have : t.val < 16 := t.isLt
    show t.val = 15
    omega)
  subst ht
  exact total13 (fun t => tile_of m c t H) g i k

theorem final14 : (dats m 0 c).arrAt 14 cfg0.N
    = val_main_v231 (F := Ideal) (m ((c : Thread nD τ).loc main_arg0)) (m ((c : Thread nD τ).loc main_arg2)) (m ((c : Thread nD τ).loc main_arg3)) (m ((c : Thread nD τ).loc main_arg6)) (m ((c : Thread nD τ).loc main_arg7)) := by
  refine (dats m 0 c).arrAt_eq_of_covers 14 _ (by decide +kernel) fun t hf y => ?_
  blk_simp
  rw [after0_14]
  obtain ⟨g, i, k, rfl⟩ : ∃ g i k, y = ix3 g i k := ⟨y 0, y 1, y 2, by funext a; fin_cases a <;> rfl⟩
  have e : (win0_14.blk t).view.emb (ix3 g i k) = (ix3 g i k : S4x128x128.Idx) := by
    blk_ext [idx14 t]
  rw [e, gsw_out H g i k]
  have ht : t = ⟨15, by decide⟩ := Fin.ext (by
    have := (flush0_14 t).mp hf
    have : t.val < 16 := t.isLt
    show t.val = 15
    omega)
  subst ht
  exact total14 (fun t => tile_of m c t H) g i k

theorem final15 : (dats m 0 c).arrAt 15 cfg0.N
    = val_main_v234 (F := Ideal) (m ((c : Thread nD τ).loc main_arg0)) (m ((c : Thread nD τ).loc main_arg2)) (m ((c : Thread nD τ).loc main_arg3)) := by
  refine (dats m 0 c).arrAt_eq_of_covers 15 _ (by decide +kernel) fun t hf y => ?_
  blk_simp
  rw [after0_15]
  obtain ⟨g, i, k, rfl⟩ : ∃ g i k, y = ix3 g i k := ⟨y 0, y 1, y 2, by funext a; fin_cases a <;> rfl⟩
  have e : (win0_15.blk t).view.emb (ix3 g i k) = (ix3 g i k : S4x128x128.Idx) := by
    blk_ext [idx15 t]
  rw [e, gsb_out H g i k]
  have ht : t = ⟨15, by decide⟩ := Fin.ext (by
    have := (flush0_15 t).mp hf
    have : t.val < 16 := t.isLt
    show t.val = 15
    omega)
  subst ht
  exact total15 (fun t => tile_of m c t H) g i k

theorem final16 : (dats m 0 c).arrAt 16 cfg0.N
    = val_main_v227 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) := by
  refine (dats m 0 c).arrAt_eq_of_covers 16 _ (by decide +kernel) fun t hf y => ?_
  blk_simp
  rw [after0_16]
  obtain ⟨s, k, rfl⟩ : ∃ s k, y = ix2 s k := ⟨y 0, y 1, by funext a; fin_cases a <;> rfl⟩
  have e : (win0_16.blk t).view.emb (ix2 s k) = (ix2 s k : S8x512.Idx) := by
    blk_ext [idx16 t]
  rw [e, vec_real H s k]
  have ht : t = ⟨15, by decide⟩ := Fin.ext (by
    have := (flush0_16 t).mp hf
    have : t.val < 16 := t.isLt
    show t.val = 15
    omega)
  subst ht
  exact total16 (fun t => tile_of m c t H) s k

end Final

end Cert.MixIdeal.Point
end
-- ==== Proof.MixClaim.lean ====
/-
  The claims about the mixers' backward.
-/
module

public import proofs.«01_k».proof.Defs
public import proofs.«01_k».proof.Proof.MixValue
public import proofs.«01_k».proof.Proof.MixFrame
public import proofs.«01_k».proof.Proof.Finite
public import Idealize.ShloMosaic.Lib.Claim
public import Idealize.ShloMosaic.Adequacy
public import Idealize.ShloMosaic.Init

@[expose] public section

set_option maxRecDepth 16384

noncomputable section

namespace Cert.MixClaim

open Idealize.ShloMosaic Idealize.ShloMosaic.TcCoe Idealize.SL.Sem Cert.Fin

/-- The side conditions of the printed precondition. -/
theorem preFacts : Cert.Pre_mix_finite.Facts := by
  constructor <;> decide

/-- The kernel at machine formats runs, leaves its arguments and returns its counters. -/
theorem frame_p : Cert.quiescent_Mix (hMix := Cert.Mix.Gen.facts) := fun m ρ _ => Cert.Mix.Run.frame m ρ

/-- So does the kernel over the extended reals. -/
theorem frame_i : Cert.quiescent_MixIdeal (hMixIdeal := Cert.MixIdeal.Gen.facts) := fun m ρ _ => Cert.MixIdeal.Run.frame m ρ

/-- So does the reference. -/
theorem frame_r : Cert.quiescent_MixRefIdeal (hMixRefIdeal := Cert.MixRefIdeal.Gen.facts) := fun m ρ _ =>
  (θ_run Cert.MixRefIdeal.defs _ _).mono (fun r h => ⟨fun c => (h c).2.2.2.2.2.2, sem_eq_zero_of_no_sems (by decide) r.2⟩)
    (Cert.MixRefIdeal.Value.run m ρ)

/-- The two named constants stand for the numbers the words approximate. -/
theorem kept : Cert.preserves_Mix_MixIdeal :=
  ⟨IdealRules.named_const.statement Cert.MixIdeal.κ "inv_sqrt_two" .f32 0x3F3504F3#32 (((Real.sqrt 2)⁻¹ : ℝ) : EReal) rfl,
    IdealRules.named_const.statement Cert.MixIdeal.κ "density" .f32 0x3ECC422A#32 (((9465531 / 8388608) * (2 * (Real.sqrt 2))⁻¹ : ℝ) : EReal) rfl⟩

/-- The precondition says that the arguments hold real numbers. -/
theorem pre_real [Cert.Pre_mix_finite.Facts] {x0 x2 : FVec Ideal Cert.Pre_mix_finite.S8192x1024 .bf16} {x1 : FVec Ideal Cert.Pre_mix_finite.S8192x512 .f32} {x3 : FVec Ideal Cert.Pre_mix_finite.S1x1024x1024 .f32} {x4 x8 : FVec Ideal Cert.Pre_mix_finite.S1x4x128x128 .f32} {x5 x6 x7 : FVec Ideal Cert.Pre_mix_finite.S1x512 .f32} {x9 : FVec Ideal Cert.Pre_mix_finite.S1x4x128 .f32}
    (h : Cert.Pre_mix_finite.fn (F := Ideal) x0 x1 x2 x3 x4 x5 x6 x7 x8 x9 = fun _ => 1#1) :
    IsReal x0 ∧ IsReal x1 ∧ IsReal x2 ∧ IsReal x3 ∧ IsReal x4 ∧ IsReal x5 ∧ IsReal x6 ∧ IsReal x7 ∧ IsReal x8 ∧ IsReal x9 := by
  have e := congrFun h fun a => a.elim0
  simp only [Cert.Pre_mix_finite.fn, Cert.Pre_mix_finite.fn_part1, Cert.Pre_mix_finite.fn_part2, andi, IntOp.andi_eq_one] at e
  obtain ⟨⟨⟨⟨⟨⟨⟨⟨⟨⟨_, e0⟩, e1⟩, e2⟩, e3⟩, e4⟩, e5⟩, e6⟩, e7⟩, e8⟩, e9⟩ := e
  exact ⟨real_of_test _ e0, real_of_test _ e1, real_of_test _ e2, real_of_test _ e3, real_of_test _ e4, real_of_test _ e5, real_of_test _ e6, real_of_test _ e7, real_of_test _ e8, real_of_test _ e9⟩

/-- The kernel computes the reference's six results. -/
theorem value : Cert.algebraic_MixIdeal_MixRefIdeal_pre_mix_finite (hMixIdeal := Cert.MixIdeal.Gen.facts)
    (hMixRefIdeal := Cert.MixRefIdeal.Gen.facts) (hPre_mix_finite := preFacts) := by
  intro m ρ m' ρ' hpre hag
  refine ⟨fun c => (Cert.MixIdeal.Run.dats m 0 c).arrAt 11 Cert.MixIdeal.cfg0.N,
    fun c => (Cert.MixIdeal.Run.dats m 0 c).arrAt 12 Cert.MixIdeal.cfg0.N,
    fun c => (Cert.MixIdeal.Run.dats m 0 c).arrAt 13 Cert.MixIdeal.cfg0.N,
    fun c => (Cert.MixIdeal.Run.dats m 0 c).arrAt 14 Cert.MixIdeal.cfg0.N,
    fun c => (Cert.MixIdeal.Run.dats m 0 c).arrAt 15 Cert.MixIdeal.cfg0.N,
    fun c => (Cert.MixIdeal.Run.dats m 0 c).arrAt 16 Cert.MixIdeal.cfg0.N,
    (θ_run Cert.MixIdeal.defs _ _).mono (fun r h c => ⟨(h.1.1 c).1 11, (h.1.1 c).1 12, (h.1.1 c).1 13, (h.1.1 c).1 14, (h.1.1 c).1 15, (h.1.1 c).1 16, h.2.1 c⟩)
      (θ_run_and (Cert.MixIdeal.Run.run_all m ρ) (Cert.MixIdeal.Run.frame m ρ)),
    (θ_run Cert.MixRefIdeal.defs _ _).mono (fun r h c => ?_) (Cert.MixRefIdeal.Value.run m' ρ')⟩
  haveI := preFacts
  obtain ⟨⟨D, hD⟩, ⟨X, hX⟩, ⟨Z, hZ⟩, ⟨O, hO⟩, ⟨P, hP⟩, ⟨S, hS⟩, ⟨G, hG⟩, ⟨B, hB⟩, ⟨W, hW⟩, ⟨U, hU⟩⟩ := pre_real (hpre c)
  obtain ⟨a0, a1, a2, a3, a4, a5, a6, a7, a8, a9⟩ := hag c
  have b0 : StableHlo.launchContents m' c (Proc.devRef .tc Cert.MixRefIdeal.main_arg0) = _ := a0
  have b1 : StableHlo.launchContents m' c (Proc.devRef .tc Cert.MixRefIdeal.main_arg1) = _ := a1
  have b2 : StableHlo.launchContents m' c (Proc.devRef .tc Cert.MixRefIdeal.main_arg2) = _ := a2
  have b3 : StableHlo.launchContents m' c (Proc.devRef .tc Cert.MixRefIdeal.main_arg3) = _ := a3
  have b4 : StableHlo.launchContents m' c (Proc.devRef .tc Cert.MixRefIdeal.main_arg4) = _ := a4
  have b5 : StableHlo.launchContents m' c (Proc.devRef .tc Cert.MixRefIdeal.main_arg5) = _ := a5
  have b6 : StableHlo.launchContents m' c (Proc.devRef .tc Cert.MixRefIdeal.main_arg6) = _ := a6
  have b7 : StableHlo.launchContents m' c (Proc.devRef .tc Cert.MixRefIdeal.main_arg7) = _ := a7
  have b8 : StableHlo.launchContents m' c (Proc.devRef .tc Cert.MixRefIdeal.main_arg8) = _ := a8
  have b9 : StableHlo.launchContents m' c (Proc.devRef .tc Cert.MixRefIdeal.main_arg9) = _ := a9
  let a : Cert.Mixer.In :=
    { D := fun r k => D (ix2 r k), X := fun r k => X (ix2 r k), Z := fun r k => Z (ix2 r k), O := fun k n => O (ix3 0 k n), P := fun g k d => P (ix4 0 g k d)
      S := fun k => S (ix2 0 k), G := fun k => G (ix2 0 k), B := fun k => B (ix2 0 k), W := fun h t s => W (ix4 0 h t s), U := fun h t => U (ix3 0 h t) }
  have H : Cert.MixRefIdeal.Read.Holds a (m (c.tc.loc Cert.MixIdeal.main_arg0)) (m (c.tc.loc Cert.MixIdeal.main_arg1)) (m (c.tc.loc Cert.MixIdeal.main_arg2)) (m (c.tc.loc Cert.MixIdeal.main_arg3)) (m (c.tc.loc Cert.MixIdeal.main_arg4)) (m (c.tc.loc Cert.MixIdeal.main_arg5)) (m (c.tc.loc Cert.MixIdeal.main_arg6)) (m (c.tc.loc Cert.MixIdeal.main_arg7)) (m (c.tc.loc Cert.MixIdeal.main_arg8)) (m (c.tc.loc Cert.MixIdeal.main_arg9)) :=
    ⟨fun _ _ => hD _, fun _ _ => hX _, fun _ _ => hZ _, fun _ _ => hO _, fun _ _ _ => hP _, fun _ => hS _, fun _ => hG _, fun _ => hB _, fun _ _ _ => hW _, fun _ _ => hU _⟩
  obtain ⟨r0, r1, r2, r3, r4, r5, rest⟩ := h c
  refine ⟨r0.trans ?_, r1.trans ?_, r2.trans ?_, r3.trans ?_, r4.trans ?_, r5.trans ?_, rest⟩
  · rw [Cert.MixRefIdeal.Read.val_main_v228_eq, b0, b3, b4, b5]
    exact (Cert.MixIdeal.Point.final11 m c H).symm
  · rw [Cert.MixRefIdeal.Read.val_main_v229_eq, b0, b2, b3, b6, b7, b8, b9]
    exact (Cert.MixIdeal.Point.final12 m c H).symm
  · rw [Cert.MixRefIdeal.Read.val_main_v230_eq, b0, b1, b3, b5]
    exact (Cert.MixIdeal.Point.final13 m c H).symm
  · rw [Cert.MixRefIdeal.Read.val_main_v231_eq, b0, b2, b3, b6, b7]
    exact (Cert.MixIdeal.Point.final14 m c H).symm
  · rw [Cert.MixRefIdeal.Read.val_main_v234_eq, b0, b2, b3]
    exact (Cert.MixIdeal.Point.final15 m c H).symm
  · rw [Cert.MixRefIdeal.Read.val_main_v227_eq, b0, b1, b2, b3, b4, b8]
    exact (Cert.MixIdeal.Point.final16 m c H).symm

end Cert.MixClaim
end
-- ==== Proof.FwdMixRef.lean ====
/-
  The mixers' forward: its three results as real numbers, and the reference read at an index on arrays that hold real
  numbers.
-/
module

public import proofs.«01_k».proof.Proof.MixRefGrad
public import proofs.«01_k».proof.Proof.Gen.FwdMixRefIdeal.Read

@[expose] public section

set_option maxRecDepth 16384

noncomputable section

namespace Cert.Fwd

open Cert.Fin Cert.Mixer Idealize.ShloMosaic Idealize.SL.Sem

/-- The two mixers' outputs, side by side. -/
def joined (a : In) (r : Fin 8192) (k : Fin 1024) : ℝ :=
  if h : k.val < 512 then a.po r ⟨k.val, h⟩ * a.S ⟨k.val, h⟩ else a.u r ⟨k.val - 512, by omega⟩ * a.mixed r ⟨k.val - 512, by omega⟩

/-- The residual stream after the mixers, `Y` being the stream before them. -/
def res (a : In) (Y : Fin 8192 → Fin 1024 → ℝ) (r : Fin 8192) (n : Fin 1024) : ℝ := alpha * Y r n + ∑ k, joined a r k * a.O k n

/-- The norm of the residual stream. -/
def normed (a : In) (Y : Fin 8192 → Fin 1024 → ℝ) (A C : Fin 1024 → ℝ) (r : Fin 8192) (n : Fin 1024) : ℝ :=
  Cert.Fin.xhat (res a Y r) n * A n + C n

theorem joined_lo (a : In) (r : Fin 8192) (c : Fin 512) : joined a r (lo c) = a.po r c * a.S c := dif_pos c.isLt

theorem joined_hi (a : In) (r : Fin 8192) (c : Fin 512) : joined a r (hi c) = a.u r c * a.mixed r c := by
  have e (h) : (⟨512 + c.val - 512, h⟩ : Fin 512) = c := Fin.ext (by show 512 + c.val - 512 = c.val; omega)
  unfold joined
  rw [dif_neg (by show ¬ 512 + c.val < 512; omega)]
  exact congrArg₂ (fun x y => a.u r x * a.mixed r y) (e _) (e _)

end Cert.Fwd

namespace Cert.FwdMixRefIdeal.Read

open Cert.FwdMixRefIdeal Cert.FwdMixRefIdeal.Gen Cert.Fin Cert.Pool Cert.Mixer Cert.Fwd Idealize.ShloMosaic Idealize.ShloMosaic.TcCoe Idealize.SL.Sem
open Cert.Fin (mean xhat)

variable {a : In} {x0 : (⟨S8192x512, .f32⟩ : BufTy).Contents (Elt Ideal)} {x1 : (⟨S8192x1024, .bf16⟩ : BufTy).Contents (Elt Ideal)}
    {x2 : (⟨S8192x1024, .f32⟩ : BufTy).Contents (Elt Ideal)} {x3 : (⟨S1x1024x1024, .f32⟩ : BufTy).Contents (Elt Ideal)}
    {x4 : (⟨S1x4x128x128, .f32⟩ : BufTy).Contents (Elt Ideal)} {x5 x6 x7 : (⟨S1x512, .f32⟩ : BufTy).Contents (Elt Ideal)}
    {x8 : (⟨S1x4x128x128, .f32⟩ : BufTy).Contents (Elt Ideal)} {x9 : (⟨S1x4x128, .f32⟩ : BufTy).Contents (Elt Ideal)}
    {x10 x11 : (⟨S1x1024, .f32⟩ : BufTy).Contents (Elt Ideal)} {d : (⟨S8192x1024, .bf16⟩ : BufTy).Contents (Elt Ideal)}
    {Y : Fin 8192 → Fin 1024 → ℝ} {A C : Fin 1024 → ℝ}
  (H : Cert.MixRefIdeal.Read.Holds a d x0 x1 x3 x4 x5 x6 x7 x8 x9)

/-! ### The parts that the backward forms again -/

theorem pooled_same : val_main_v77 (F := Ideal) x0 = Cert.MixRefIdeal.Read.val_main_v67 x0 := rfl
theorem u_same : val_main_v90 (F := Ideal) x1 = Cert.MixRefIdeal.Read.val_main_v93 x1 := rfl
theorem mixed_same : val_main_v128 (F := Ideal) x1 x6 x7 x8 x9 = Cert.MixRefIdeal.Read.val_main_v136 x1 x6 x7 x8 x9 := rfl

include H

/-- The averages through their groups' weights, scaled. -/
theorem po_real (b : Fin 4) (s : Fin 2048) (c : Fin 512) : val_main_v85 (F := Ideal) x0 x4 x5 (ix3 b s c) = (a.po (tok b s) c * a.S c : ℝ) := by
  revert c; refine Cert.MixRefIdeal.Read.grp_cases fun g k => ?_
  have hl : ∀ j, lidx_main_v79 (ix4 g k b s) j = ix3 g j k := fun n => funext fun a => by fin_cases a <;> rfl
  have hr : ∀ j, ridx_main_v79 (ix4 g k b s) j = ix4 b s g j := fun n => funext fun a => by fin_cases a <;> rfl
  have hp : ∀ j, val_main_v77 (F := Ideal) x0 (ix4 b s g j) = (a.pooled (tok b s) (col g j) : ℝ) := fun j =>
    (congrFun pooled_same _).trans (Cert.MixRefIdeal.Read.pooled_real H b s g j)
  have hw : ∀ j, val_main_v78 (F := Ideal) x4 (ix3 g j k) = (a.P g j k : ℝ) := fun j => by pointwise [val_main_v78, H.p]
  have hd : val_main_v79 (F := Ideal) x0 x4 (ix4 g k b s) = (a.po (tok b s) (col g k) : ℝ) := by
    rw [val_main_v79_apply]
    simp only [hl, hr, hp, hw, ← EReal.coe_mul, sum_coe, In.po_at]
    exact congrArg _ (Finset.sum_congr rfl fun j _ => mul_comm _ _)
  have e3 : (128 * g.val + k.val) / 128 = g.val := by omega
  have e4 : (128 * g.val + k.val) % 128 = k.val := by omega
  pointwise [val_main_v85, val_main_v84, val_main_v83, val_main_v82, val_main_v81, val_main_v80, e3, e4, hd, H.s, ← EReal.coe_mul]

theorem gate_real (b : Fin 4) (s : Fin 2048) (c : Fin 512) :
    val_main_v129 (F := Ideal) x1 x6 x7 x8 x9 (ix3 b s c) = (a.u (tok b s) c * a.mixed (tok b s) c : ℝ) := by
  unfold val_main_v129
  rw [u_same, mixed_same]
  exact (congrArg₂ (· * ·) (Cert.MixRefIdeal.Read.u_real H b s c) (Cert.MixRefIdeal.Read.mixed_real H b s c)).trans (EReal.coe_mul _ _).symm

/-- The two halves side by side. -/
theorem joined_real (b : Fin 4) (s : Fin 2048) (k : Fin 1024) :
    val_main_v130 (F := Ideal) x0 x1 x4 x5 x6 x7 x8 x9 (ix3 b s k) = (joined a (tok b s) k : ℝ) := by
  pointwise [val_main_v130, po_real H, gate_real H]
  unfold joined
  split_ifs <;> rfl

variable (h2 : ∀ r k, x2 (ix2 r k) = (Y r k : EReal))
include h2

/-- The residual stream after the mixers. -/
theorem res_real (b : Fin 4) (s : Fin 2048) (k : Fin 1024) :
    val_main_v136 (F := Ideal) x0 x1 x2 x3 x4 x5 x6 x7 x8 x9 (ix3 b s k) = (res a Y (tok b s) k : ℝ) := by
  have hl : ∀ n, lidx_main_v135 (ix3 b s k) n = ix3 b s n := fun n => funext fun a => by fin_cases a <;> rfl
  have hr : ∀ n, ridx_main_v135 (ix3 b s k) n = ix2 n k := fun n => funext fun a => by fin_cases a <;> rfl
  have ho : ∀ n, val_main_v134 (F := Ideal) x3 (ix2 n k) = (a.O n k : ℝ) := fun n => by pointwise [val_main_v134, H.o]
  rw [val_main_v136_apply, val_main_v135_apply]
  simp only [hl, hr, joined_real H, ho]
  pointwise [val_main_v133, val_main_v132, val_main_v131, val_main_cst_16, h2, lit_alpha, ← EReal.coe_mul, sum_coe, ← EReal.coe_add]
  rfl

theorem mean_real (b : Fin 4) (s : Fin 2048) : val_main_v142 (F := Ideal) x0 x1 x2 x3 x4 x5 x6 x7 x8 x9 (ix3 b s 0) = (mean (res a Y (tok b s)) : ℝ) := by
  pointwise [val_main_v142, val_main_v141, val_main_v140, val_main_v139, val_main_cst_17, val_main_cst_18, res_real H h2, lit_zero, lit_1024, sum_coe]
  rw [← EReal.coe_add, zero_add, div_real _ (by norm_num)]; rfl

theorem xhat_real (b : Fin 4) (s : Fin 2048) (k : Fin 1024) :
    val_main_v156 (F := Ideal) x0 x1 x2 x3 x4 x5 x6 x7 x8 x9 (ix3 b s k) = (xhat (res a Y (tok b s)) k : ℝ) := by
  pointwise [val_main_v156, val_main_v155, val_main_v154, val_main_v153, val_main_v152, val_main_v151, val_main_v150, val_main_v149,
    val_main_v148, val_main_v147, val_main_v146, val_main_v145, val_main_v144, val_main_v143, val_main_cst_19, val_main_cst_20, val_main_cst_21,
    mean_real H h2, res_real H h2, lit_zero, lit_1024, lit_eps, ← EReal.coe_sub, ← EReal.coe_mul, sum_coe]
  rw [← EReal.coe_add, zero_add, div_real _ (by norm_num), ← EReal.coe_add]
  exact (congrArg _ (Cert.Fin.rstd_real _)).trans (EReal.coe_mul _ _).symm

omit h2 in
theorem joined_out (b : Fin 4) (s : Fin 2048) (k : Fin 1024) :
    val_main_v164 (F := Ideal) x0 x1 x4 x5 x6 x7 x8 x9 (ix2 (tok b s) k) = (joined a (tok b s) k : ℝ) := by
  have hq : (b.val * 2048 + s.val) / 2048 = b.val := by omega
  have hm : (b.val * 2048 + s.val) % 2048 = s.val := by omega
  pointwise [val_main_v164, hq, hm, val_main_v163, joined_real H]

theorem res_out (b : Fin 4) (s : Fin 2048) (k : Fin 1024) :
    val_main_v165 (F := Ideal) x0 x1 x2 x3 x4 x5 x6 x7 x8 x9 (ix2 (tok b s) k) = (res a Y (tok b s) k : ℝ) := by
  have hq : (b.val * 2048 + s.val) / 2048 = b.val := by omega
  have hm : (b.val * 2048 + s.val) % 2048 = s.val := by omega
  pointwise [val_main_v165, hq, hm, res_real H h2]

variable (h10 : ∀ k, x10 (ix2 0 k) = (A k : EReal)) (h11 : ∀ k, x11 (ix2 0 k) = (C k : EReal))
include h10 h11

theorem norm_out (b : Fin 4) (s : Fin 2048) (k : Fin 1024) :
    val_main_v167 (F := Ideal) x0 x1 x2 x3 x4 x5 x6 x7 x8 x9 x10 x11 (ix2 (tok b s) k) = (normed a Y A C (tok b s) k : ℝ) := by
  have hq : (b.val * 2048 + s.val) / 2048 = b.val := by omega
  have hm : (b.val * 2048 + s.val) % 2048 = s.val := by omega
  pointwise [val_main_v167, hq, hm, val_main_v166, val_main_v162, val_main_v161, val_main_v160, val_main_v159, val_main_v158, val_main_v157, val_main_v138, val_main_v137,
    xhat_real H h2, h10, h11, ← EReal.coe_mul, ← EReal.coe_add]
  rfl

end Cert.FwdMixRefIdeal.Read
end
-- ==== Proof.FwdMixPoint.lean ====
/-
  The mixers' forward: the values the kernel forms of one tile, operation by operation, on real numbers.
-/
module

public import proofs.«01_k».proof.Proof.MixTile
public import proofs.«01_k».proof.Proof.FwdMixRef
public import proofs.«01_k».proof.Proof.Gen.FwdMixIdeal.Skeleton

@[expose] public section

set_option maxRecDepth 16384

noncomputable section

namespace Cert.FwdMixIdeal.Point

open Cert.FwdMixIdeal Cert.FwdMixIdeal.Gen Cert.Fin Cert.Mixer Cert.Fwd Idealize.ShloMosaic Idealize.ShloMosaic.TcCoe Idealize.SL.Sem
open Cert.Pool (tok col ext ext_of_lt)
open Cert.MixIdeal.Point (row Rd late less along at_ batch place row_tok row_col cast_rd block_rd)

variable {a : In} {t : Fin Cert.MixIdeal.cfg0.N}

/-- The coordinates of a tile. -/
abbrev at0 (t : Fin Cert.MixIdeal.cfg0.N) : grid0.Coords := Cert.MixIdeal.grid0.coords t

/-! ### The averaged half -/

/-- A group of averages through its weights, scaled. -/
theorem group_rd {g : Fin 4} {Q : FVec Ideal S512x128 .bf16} (hq : Rd Q fun r k => a.pooled (row t r) (col g k)) {P : FVec Ideal S128x128 .bf16} (hp : Rd P (a.P g))
    {L : Vec Ideal S1x128 .f32} (hl : ∀ k, L (ix2 0 k) = (a.S (col g k) : EReal)) {h1 h2 h3} :
    Rd (truncf .bf16 (mulf (matmul dot_S512x128_S128x128_S512x128_1_0_0_1_n_n none Q P (constant S512x128 .f32 0x00000000#32))
      (broadcastTo S512x128 (shapeCast S1x128 L h1) h2)) h3 : FVec Ideal S512x128 .bf16) fun r k => joined a (row t r) (lo (col g k)) := fun r k => by
  show _ = ((joined a (row t r) (lo (col g k)) : ℝ) : EReal)
  rw [joined_lo, a.po_at]
  pointwise [dot_S512x128_S128x128_S512x128_1_0_0_1_n_n, hq _ _, hp _ _, hl, ← EReal.coe_mul, sum_coe, ← EReal.coe_add]

section Pool
variable {X : Vec Ideal S512x512 .f32} {B : Vec Ideal S16x512 .f32} (hX : ∀ (r k : Fin 512), X (ix2 r k) = (a.X (row t r) k : EReal))
  (hB : ¬place (at0 t) = 0 → ∀ (r : Fin 16) (k : Fin 512), B (ix2 r k) = (late (along a t k) (place (at0 t) * 512 + r.val) : EReal))
  {P : Vec Ideal S1x128x128 .f32} {S : Vec Ideal S1x128 .f32}

include hX in
theorem rows (r k : Fin 512) : X (ix2 r k) = (late (along a t k) (place (at0 t) * 512 + (16 + r.val)) : EReal) := by
  have e : place (at0 t) * 512 + (16 + r.val) - 16 = (at_ t r).val := by show _ = place (at0 t) * 512 + r.val; omega
  rw [hX]
  unfold late
  rw [if_pos (by omega), e, ext_of_lt, row_tok]

include hB in
theorem before (r : Fin 16) (k : Fin 512) : k0_pay2 (F := Ideal) (at0 t) B (ix2 r k) = (late (along a t k) (place (at0 t) * 512 + r.val) : EReal) := by
  refine (Cert.MixIdeal.Point.pay11 (at0 t) B r k).trans ?_
  by_cases h : place (at0 t) = 0
  · rw [if_pos h]
    unfold late
    rw [if_neg (by rw [h]; omega)]
    rfl
  · rw [if_neg h]
    exact hB h r k

include hX hB

theorem group0 (hp : ∀ i k, P (ix3 0 i k) = (a.P 0 i k : EReal)) (hs : ∀ k, S (ix2 0 k) = (a.S (col 0 k) : EReal)) :
    Rd (k0_pay14 (F := Ideal) X (k0_pay2 (at0 t) B) (k0_pay4 (at0 t)) P S) fun r k => joined a (row t r) (lo (col 0 k)) :=
  group_rd (fun r k => (Cert.MixIdeal.Point.pay21 (rows hX) (before hB) (Cert.MixIdeal.Point.pay13 _) r k).trans
    (congrArg Real.toEReal (Cert.MixIdeal.Point.pooled_less a t 0 r k).symm)) (Cert.MixIdeal.Point.gw_rd hp) hs

theorem group1 (hp : ∀ i k, P (ix3 0 i k) = (a.P 1 i k : EReal)) (hs : ∀ k, S (ix2 0 k) = (a.S (col 1 k) : EReal)) :
    Rd (k0_pay15 (F := Ideal) (k0_pay11 X (k0_pay2 (at0 t) B) (k0_pay5 (at0 t))) P S) fun r k => joined a (row t r) (lo (col 1 k)) :=
  group_rd (cast_rd fun r k => (Cert.MixIdeal.Point.pay18 (V' := broadcast _ 4#32) (rows hX) (before hB) (Cert.MixIdeal.Point.pay12 _) (fun _ _ => rfl) r k).trans
    (congrArg Real.toEReal (Cert.MixIdeal.Point.pooled_less a t 1 r k).symm)) (Cert.MixIdeal.Point.gw_rd hp) hs

theorem group2 (hp : ∀ i k, P (ix3 0 i k) = (a.P 2 i k : EReal)) (hs : ∀ k, S (ix2 0 k) = (a.S (col 2 k) : EReal)) :
    Rd (k0_pay16 (F := Ideal) (k0_pay12 X (k0_pay2 (at0 t) B) (k0_pay6 (at0 t))) P S) fun r k => joined a (row t r) (lo (col 2 k)) :=
  group_rd (cast_rd fun r k => (Cert.MixIdeal.Point.pay19 (rows hX) (before hB) (Cert.MixIdeal.Point.pay12 _) r k).trans
    (congrArg Real.toEReal (Cert.MixIdeal.Point.pooled_less a t 2 r k).symm)) (Cert.MixIdeal.Point.gw_rd hp) hs

theorem group3 (hp : ∀ i k, P (ix3 0 i k) = (a.P 3 i k : EReal)) (hs : ∀ k, S (ix2 0 k) = (a.S (col 3 k) : EReal)) :
    Rd (k0_pay17 (F := Ideal) (k0_pay13 X (k0_pay2 (at0 t) B) (k0_pay7 (at0 t))) P S) fun r k => joined a (row t r) (lo (col 3 k)) :=
  group_rd (cast_rd fun r k => (Cert.MixIdeal.Point.pay20 (rows hX) (before hB) (Cert.MixIdeal.Point.pay12 _) r k).trans
    (congrArg Real.toEReal (Cert.MixIdeal.Point.pooled_less a t 3 r k).symm)) (Cert.MixIdeal.Point.gw_rd hp) hs

end Pool

/-! ### The gated half -/

theorem inv_root : Named.named (F := Ideal) Cert.FwdMixIdeal.κ "inv_sqrt_two" (φ := .f32) 0x3F3504F3#32 = (((Real.sqrt 2)⁻¹ : ℝ) : EReal) :=
  IdealRules.named_const.ideal_named_scalar _ _ _ _ rfl

section Act
variable {Z : Vec Ideal S512x1024 .bf16} (hz : Rd Z fun r k => a.Z (row t r) k)
include hz

theorem act_rd : Rd (k0_pay18 (F := Ideal) Z) fun r k => act (a.Z (row t r) k) := fun r k => by
  pointwise [k0_pay18, hz _ _, inv_root, ← EReal.coe_mul, erf_real, lit_one, lit_half, ← EReal.coe_add]
  rfl

theorem u_rd : Rd (k0_pay19 (F := Ideal) Z) fun r c => a.u (row t r) c := fun r c => by
  pointwise [k0_pay19, act_rd hz _ _]
  rfl

theorem v_rd {hs} : Rd (extractStridedSlice S512x512 ![0, 512] (k0_pay18 (F := Ideal) Z) hs : FVec Ideal S512x512 .f32) fun r c => a.v (row t r) c := fun r c => by
  pointwise [act_rd hz _ _]
  rfl

theorem mean_rd {hs h1 h2 h3 h4} : Rd (divf (shapeCast S512x1 (multiReduction .add [1] S512 (extractStridedSlice S512x512 ![0, 512] (k0_pay18 (F := Ideal) Z) hs)
    0x00000000#32 h1 h2 h3) h4) (broadcast S512x1 (Scalar.ofBits .f32 0x44000000#32)) : FVec Ideal S512x1 .f32) fun r _ => Cert.Mixer.mean (a.v (row t r)) := fun r c => by
  pointwise [v_rd hz _ _, act_rd hz _ _, sum_coe, lit_512]
  rw [div_real _ (by norm_num)]
  rfl

theorem norm_rd {L L' : Vec Ideal S1x512 .f32} (hg : ∀ k, L (ix2 0 k) = (a.G k : EReal)) (hb : ∀ k, L' (ix2 0 k) = (a.B k : EReal)) :
    Rd (k0_pay20 (F := Ideal) Z L L') fun r c => a.vln (row t r) c :=
  Cert.MixIdeal.Point.norm_rd (v_rd hz) (mean_rd hz) hg hb

end Act

/-- A chunk of a head: the gating half times the mixed rows. -/
theorem gate_rd (c h : Fin 4) {U : FVec Ideal S512x512 .f32} {N : FVec Ideal S512x512 .bf16} {W : FVec Ideal S128x128 .bf16} {B : FVec Ideal S128x128 .f32}
    (hu : Rd U fun r k => a.u (row t r) k) (hn : Rd N fun r k => a.vln (row t r) k) (hw : Rd W (a.w h)) (hb : Rd B fun i _ => a.U h i)
    {o p : ℕ} (ho : o = 128 * c.val) (hp : p = 128 * h.val) {h1 h2 h3} :
    Rd (truncf .bf16 (mulf (extractStridedSlice S128x128 ![o, p] U h1) (addf (matmul dot_S128x128_S128x128_S128x128_1_0_0_1_n_n none W
      (extractStridedSlice S128x128 ![o, p] N h2) (constant S128x128 .f32 0x00000000#32)) B)) h3 : FVec Ideal S128x128 .bf16)
      fun i k => joined a (row t (col c i)) (hi (col h k)) := fun i k => by
  have eu : Rd (extractStridedSlice S128x128 ![o, p] U h1 : FVec Ideal S128x128 .f32) fun i k => a.u (row t (col c i)) (col h k) :=
    block_rd hu fun i j r c' hr hc => by
      rw [show r = col c i from Fin.ext (by rw [hr, ho]), show c' = col h j from Fin.ext (by rw [hc, hp])]
  have en := Cert.MixIdeal.Point.vln_rd (c := c) (h := h) hn ho hp (hs := h2)
  have e : joined a (row t (col c i)) (hi (col h k))
      = a.u (row t (col c i)) (col h k) * (∑ j, a.w h i j * a.vln (row t (col c j)) (col h k) + a.U h i) := by
    rw [joined_hi]; simp only [row_col]; rw [a.mixed_at]
  show _ = ((joined a (row t (col c i)) (hi (col h k)) : ℝ) : EReal)
  rw [e]
  revert eu en
  generalize (extractStridedSlice S128x128 ![o, p] U h1 : FVec Ideal S128x128 .f32) = U'
  generalize (extractStridedSlice S128x128 ![o, p] N h2 : FVec Ideal S128x128 .bf16) = N'
  intro eu en
  pointwise [dot_S128x128_S128x128_S128x128_1_0_0_1_n_n, eu _ _, hw _ _, en _ _, hb _ _, ← EReal.coe_mul, sum_coe, ← EReal.coe_add]

/-! ### The residual stream and its norm -/

section Res
variable {Y : Fin 8192 → Fin 1024 → ℝ} {A C : Fin 1024 → ℝ}

theorem res_rd {X : Vec Ideal S512x1024 .f32} (hx : Rd X fun r k => Y (row t r) k) {M : Vec Ideal S512x1024 .bf16} (hm : Rd M fun r k => joined a (row t r) k)
    {O : Vec Ideal S1024x1024 .bf16} (ho : Rd O a.O) : Rd (k0_pay48 (F := Ideal) X M O) fun r k => res a Y (row t r) k := fun r k => by
  pointwise [k0_pay48, dot_S512x1024_S1024x1024_S512x1024_1_0_0_1_n_n, hx _ _, hm _ _, ho _ _, lit_alpha, ← EReal.coe_mul, sum_coe, ← EReal.coe_add]
  rfl

theorem normed_rd {R : FVec Ideal S512x1024 .f32} (hr : Rd R fun r k => res a Y (row t r) k) {L L' : Vec Ideal S1x1024 .f32}
    (hg : ∀ k, L (ix2 0 k) = (A k : EReal)) (hb : ∀ k, L' (ix2 0 k) = (C k : EReal)) :
    Rd (k0_pay1 (F := Ideal) R L L') fun r k => normed a Y A C (row t r) k := fun r k => by
  have d (x : ℝ) := div_real x (show (1024 : ℝ) ≠ 0 by norm_num)
  pointwise [k0_pay1, hr _ _, hg, hb, lit_1024, lit_eps, d, sum_coe, ← EReal.coe_sub, ← EReal.coe_mul, ← EReal.coe_add]
  have e := Cert.Fin.rstd_real (res a Y (row t r))
  unfold Cert.Fin.var Cert.Fin.mean at e
  rw [e, ← EReal.coe_mul, ← EReal.coe_mul, ← EReal.coe_add]
  rfl

end Res

end Cert.FwdMixIdeal.Point
end
-- ==== Proof.FwdMix.lean ====
/-
  The mixers' forward: what a grid point leaves, the blocks of a tile, and the three results.
-/
module

public import proofs.«01_k».proof.Proof.Gen.FwdMix.Frame
public import proofs.«01_k».proof.Proof.Gen.FwdMixIdeal.Value
public import proofs.«01_k».proof.Proof.Gen.FwdMixRefIdeal.Read
public import proofs.«01_k».proof.Proof.FwdMixPoint
public import Idealize.ShloMosaic.Lib.Pipeline.ValueKit.Point

@[expose] public section

set_option maxRecDepth 16384

noncomputable section

namespace Cert.FwdMixIdeal.Point

open Cert.FwdMixIdeal Cert.FwdMixIdeal.Gen Cert.Fin Cert.Mixer Cert.Fwd Cert.Rows Idealize.ShloMosaic Idealize.ShloMosaic.TcCoe Idealize.SL.Sem
open Cert.Pool (tok col ext ext_of_lt)
open Cert.MixIdeal.Point (row Rd late less along at_ batch place place_eq row_tok)

/-- A grid point, as a tile. -/
abbrev tl (t : Fin cfg0.N) : Fin Cert.MixIdeal.cfg0.N := ⟨t.val, t.isLt⟩

variable {a : In} {Y : Fin 8192 → Fin 1024 → ℝ} {A C : Fin 1024 → ℝ} {m : (ℓ : Loc nD τ sig) → Buf (Elt Ideal) ℓ} {c : Dev nD} {t : Fin cfg0.N}

/-- Row `r` of the sixteen rows before a grid point's rows. -/
abbrev ahead (t : Fin cfg0.N) (r : Fin 16) : Fin 8192 := ⟨16 * (32 * t.val - 1) + r.val, by have : t.val < 16 := t.isLt; omega⟩

/-- The blocks of a grid point hold the inputs `a`, the residual stream `Y` and the norm's scale and shift `A` and `C`. -/
structure Tile (a : In) (Y : Fin 8192 → Fin 1024 → ℝ) (A C : Fin 1024 → ℝ) (m : (ℓ : Loc nD τ sig) → Buf (Elt Ideal) ℓ) (c : Dev nD) (t : Fin cfg0.N) : Prop where
  x : ∀ (r k : Fin 512), iblk m c 0 t (ix2 r k) = (a.X (row (tl t) r) k : EReal)
  halo : ¬place (at0 (tl t)) = 0 → ∀ (r : Fin 16) (k : Fin 512), iblk m c 1 t (ix2 r k) = (late (along a (tl t) k) (place (at0 (tl t)) * 512 + r.val) : EReal)
  z : ∀ (r : Fin 512) (k : Fin 1024), iblk m c 2 t (ix2 r k) = (a.Z (row (tl t) r) k : EReal)
  y : ∀ (r : Fin 512) (k : Fin 1024), iblk m c 3 t (ix2 r k) = (Y (row (tl t) r) k : EReal)
  p : ∀ (g : Fin 4) (i k : Fin 128), iblk m c 4 t (ix3 g i k) = (a.P g i k : EReal)
  s : ∀ k : Fin 512, iblk m c 5 t (ix2 (0 : Fin 1) k) = (a.S k : EReal)
  g : ∀ k : Fin 512, iblk m c 6 t (ix2 (0 : Fin 1) k) = (a.G k : EReal)
  b : ∀ k : Fin 512, iblk m c 7 t (ix2 (0 : Fin 1) k) = (a.B k : EReal)
  w : ∀ (h : Fin 4) (i k : Fin 128), iblk m c 8 t (ix3 h i k) = (a.W h i k : EReal)
  u : ∀ (h : Fin 4) (i k : Fin 128), iblk m c 9 t (ix3 h i k) = (a.U h i : EReal)
  o : ∀ i k : Fin 1024, iblk m c 10 t (ix2 i k) = (a.O i k : EReal)
  ga : ∀ k : Fin 1024, iblk m c 11 t (ix2 (0 : Fin 1) k) = (A k : EReal)
  be : ∀ k : Fin 1024, iblk m c 12 t (ix2 (0 : Fin 1) k) = (C k : EReal)

/-! ### One store -/

/-- The joined halves at a place of a tile's block. -/
abbrev spot (a : In) (t : Fin cfg0.N) (y : S512x1024.Idx) : EReal := ((joined a (row (tl t) (y 0)) (y 1) : ℝ) : EReal)

/-- A stored group of averages. -/
theorem group_ok (g : Fin 4) {p : ℕ} {inb} {w : S512x128.Idx → EReal} (hw : Rd w fun r k => joined a (row (tl t) r) (lo (col g k))) (hp : p = 128 * g.val)
    (x : (Rect.unit (s := S512x1024) ![0, p] ![512, 128] inb).shape.Idx) : w x = spot a t ((Rect.unit (s := S512x1024) ![0, p] ![512, 128] inb).emb x) := by
  obtain ⟨i, k, rfl⟩ : ∃ (i : Fin 512) (k : Fin 128), x = ix2 i k := ⟨x 0, x 1, by funext a; fin_cases a <;> rfl⟩
  refine (hw i k).trans (congrArg Real.toEReal (congrArg₂ (fun r k => joined a (row (tl t) r) k) (Fin.ext ?_) (Fin.ext ?_)))
  · show i.val = 0 + 1 * i.val
    omega
  · show 128 * g.val + k.val = p + 1 * k.val
    omega

/-- A stored chunk of a head. -/
theorem chunk_ok (c h : Fin 4) {o p : ℕ} {inb} {w : S128x128.Idx → EReal} (hw : Rd w fun i k => joined a (row (tl t) (col c i)) (hi (col h k))) (ho : o = 128 * c.val)
    (hp : p = 512 + 128 * h.val) (x : (Rect.unit (s := S512x1024) ![o, p] ![128, 128] inb).shape.Idx) : w x = spot a t ((Rect.unit (s := S512x1024) ![o, p] ![128, 128] inb).emb x) := by
  obtain ⟨i, k, rfl⟩ : ∃ (i k : Fin 128), x = ix2 i k := ⟨x 0, x 1, by funext a; fin_cases a <;> rfl⟩
  refine (hw i k).trans (congrArg Real.toEReal (congrArg₂ (fun r k => joined a (row (tl t) r) k) (Fin.ext ?_) (Fin.ext ?_)))
  · show 128 * c.val + i.val = o + 1 * i.val
    omega
  · show 512 + (128 * h.val + k.val) = p + 1 * k.val
    omega

section Run
variable (T : Tile a Y A C m c t)
include T

/-! ### What the loads read -/

theorem Tile.ld0 {i} (r : Fin 512) (k : Fin 512) : (View.readAt (Elt Ideal) (ms0_0 t).view (Rect.unit (s := S512x512) ![0, 0] ![512, 512] i).toLoadRect ((hs0_0 t).unread (iblk m c 0 t))) (ix2 r k) = (a.X (row (tl t) r) k : EReal) :=
  (load_box (hs0_0 t) (iblk m c 0 t) i (s := r) (k := k) (Nat.zero_add _).symm (Nat.zero_add _).symm).trans (T.x r k)

theorem Tile.ld1 {i} (h : ¬place (at0 (tl t)) = 0) (r : Fin 16) (k : Fin 512) : (View.readAt (Elt Ideal) (ms0_1 t).view (Rect.unit (s := S16x512) ![0, 0] ![16, 512] i).toLoadRect ((hs0_1 t).unread (iblk m c 1 t))) (ix2 r k) = (late (along a (tl t) k) (place (at0 (tl t)) * 512 + r.val) : EReal) :=
  (load_box (hs0_1 t) (iblk m c 1 t) i (s := r) (k := k) (Nat.zero_add _).symm (Nat.zero_add _).symm).trans (T.halo h r k)

theorem Tile.ld2 {i} (r : Fin 512) (k : Fin 1024) : (View.readAt (Elt Ideal) (ms0_2 t).view (Rect.unit (s := S512x1024) ![0, 0] ![512, 1024] i).toLoadRect ((hs0_2 t).unread (iblk m c 2 t))) (ix2 r k) = (a.Z (row (tl t) r) k : EReal) :=
  (load_box (hs0_2 t) (iblk m c 2 t) i (s := r) (k := k) (Nat.zero_add _).symm (Nat.zero_add _).symm).trans (T.z r k)

theorem Tile.ld3 {i} (r : Fin 512) (k : Fin 1024) : (View.readAt (Elt Ideal) (ms0_3 t).view (Rect.unit (s := S512x1024) ![0, 0] ![512, 1024] i).toLoadRect ((hs0_3 t).unread (iblk m c 3 t))) (ix2 r k) = (Y (row (tl t) r) k : EReal) :=
  (load_box (hs0_3 t) (iblk m c 3 t) i (s := r) (k := k) (Nat.zero_add _).symm (Nat.zero_add _).symm).trans (T.y r k)

theorem Tile.ld4 (g : Fin 4) {o : ℕ} {j} (ho : g.val = o) (i k : Fin 128) : (View.readAt (Elt Ideal) (ms0_4 t).view (Rect.unit (s := S4x128x128) ![o, 0, 0] ![1, 128, 128] j).toLoadRect ((hs0_4 t).unread (iblk m c 4 t))) (ix3 0 i k) = (a.P g i k : EReal) :=
  (load_slab (hs0_4 t) (iblk m c 4 t) j i k ho).trans (T.p g i k)

theorem Tile.ld5 (g : Fin 4) {o : ℕ} {i} (ho : o = 128 * g.val) (k : Fin 128) : (View.readAt (Elt Ideal) (ms0_5 t).view (Rect.unit (s := S1x512) ![0, o] ![1, 128] i).toLoadRect ((hs0_5 t).unread (iblk m c 5 t))) (ix2 0 k) = (a.S (col g k) : EReal) :=
  (load_box (hs0_5 t) (iblk m c 5 t) i (s := (0 : Fin 1)) (k := col g k) (Nat.zero_add _).symm (by rw [ho])).trans (T.s _)

theorem Tile.ld6 {i} (k : Fin 512) : (View.readAt (Elt Ideal) (ms0_6 t).view (Rect.unit (s := S1x512) ![0, 0] ![1, 512] i).toLoadRect ((hs0_6 t).unread (iblk m c 6 t))) (ix2 0 k) = (a.G k : EReal) :=
  (load_box (hs0_6 t) (iblk m c 6 t) i (s := (0 : Fin 1)) (k := k) (Nat.zero_add _).symm (Nat.zero_add _).symm).trans (T.g k)

theorem Tile.ld7 {i} (k : Fin 512) : (View.readAt (Elt Ideal) (ms0_7 t).view (Rect.unit (s := S1x512) ![0, 0] ![1, 512] i).toLoadRect ((hs0_7 t).unread (iblk m c 7 t))) (ix2 0 k) = (a.B k : EReal) :=
  (load_box (hs0_7 t) (iblk m c 7 t) i (s := (0 : Fin 1)) (k := k) (Nat.zero_add _).symm (Nat.zero_add _).symm).trans (T.b k)

theorem Tile.ld8 (g : Fin 4) {o : ℕ} {j} (ho : g.val = o) (i k : Fin 128) : (View.readAt (Elt Ideal) (ms0_8 t).view (Rect.unit (s := S4x128x128) ![o, 0, 0] ![1, 128, 128] j).toLoadRect ((hs0_8 t).unread (iblk m c 8 t))) (ix3 0 i k) = (a.W g i k : EReal) :=
  (load_slab (hs0_8 t) (iblk m c 8 t) j i k ho).trans (T.w g i k)

theorem Tile.ld9 (g : Fin 4) {o : ℕ} {j} (ho : g.val = o) (i k : Fin 128) : (View.readAt (Elt Ideal) (ms0_9 t).view (Rect.unit (s := S4x128x128) ![o, 0, 0] ![1, 128, 128] j).toLoadRect ((hs0_9 t).unread (iblk m c 9 t))) (ix3 0 i k) = (a.U g i : EReal) :=
  (load_slab (hs0_9 t) (iblk m c 9 t) j i k ho).trans (T.u g i k)

theorem Tile.ld10 {i} (r : Fin 1024) (k : Fin 1024) : (View.readAt (Elt Ideal) (ms0_10 t).view (Rect.unit (s := S1024x1024) ![0, 0] ![1024, 1024] i).toLoadRect ((hs0_10 t).unread (iblk m c 10 t))) (ix2 r k) = (a.O r k : EReal) :=
  (load_box (hs0_10 t) (iblk m c 10 t) i (s := r) (k := k) (Nat.zero_add _).symm (Nat.zero_add _).symm).trans (T.o r k)

theorem Tile.ld11 {i} (k : Fin 1024) : (View.readAt (Elt Ideal) (ms0_11 t).view (Rect.unit (s := S1x1024) ![0, 0] ![1, 1024] i).toLoadRect ((hs0_11 t).unread (iblk m c 11 t))) (ix2 0 k) = (A k : EReal) :=
  (load_box (hs0_11 t) (iblk m c 11 t) i (s := (0 : Fin 1)) (k := k) (Nat.zero_add _).symm (Nat.zero_add _).symm).trans (T.ga k)

theorem Tile.ld12 {i} (k : Fin 1024) : (View.readAt (Elt Ideal) (ms0_12 t).view (Rect.unit (s := S1x1024) ![0, 0] ![1, 1024] i).toLoadRect ((hs0_12 t).unread (iblk m c 12 t))) (ix2 0 k) = (C k : EReal) :=
  (load_box (hs0_12 t) (iblk m c 12 t) i (s := (0 : Fin 1)) (k := k) (Nat.zero_add _).symm (Nat.zero_add _).symm).trans (T.be k)

theorem Tile.weight (h : Fin 4) {o : ℕ} {j h1 h2} (ho : h.val = o) :
    Rd (truncf .bf16 (mulf (shapeCast S128x128 (View.readAt (Elt Ideal) (ms0_8 t).view (Rect.unit (s := S4x128x128) ![o, 0, 0] ![1, 128, 128] j).toLoadRect ((hs0_8 t).unread (iblk m c 8 t))) h1) (k0_pay21 (F := Ideal))) h2 : FVec Ideal S128x128 .bf16) (a.w h) :=
  Cert.MixIdeal.Point.weight_rd (T.ld8 h ho) Cert.MixIdeal.Point.mask_rd

theorem Tile.bias (h : Fin 4) {o : ℕ} {j h1} (ho : h.val = o) : Rd (shapeCast S128x128 (View.readAt (Elt Ideal) (ms0_9 t).view (Rect.unit (s := S4x128x128) ![o, 0, 0] ![1, 128, 128] j).toLoadRect ((hs0_9 t).unread (iblk m c 9 t))) h1 : FVec Ideal S128x128 .f32) fun i _ => a.U h i :=
  Cert.MixIdeal.Point.bias_rd (T.ld9 h ho)

theorem Tile.half {i} : Rd (k0_pay19 (F := Ideal) (View.readAt (Elt Ideal) (ms0_2 t).view (Rect.unit (s := S512x1024) ![0, 0] ![512, 1024] i).toLoadRect ((hs0_2 t).unread (iblk m c 2 t)))) fun r k => a.u (row (tl t) r) k := u_rd T.ld2

theorem Tile.normal {i j l} : Rd (k0_pay20 (F := Ideal) (View.readAt (Elt Ideal) (ms0_2 t).view (Rect.unit (s := S512x1024) ![0, 0] ![512, 1024] i).toLoadRect ((hs0_2 t).unread (iblk m c 2 t))) (View.readAt (Elt Ideal) (ms0_6 t).view (Rect.unit (s := S1x512) ![0, 0] ![1, 512] j).toLoadRect ((hs0_6 t).unread (iblk m c 6 t))) (View.readAt (Elt Ideal) (ms0_7 t).view (Rect.unit (s := S1x512) ![0, 0] ![1, 512] l).toLoadRect ((hs0_7 t).unread (iblk m c 7 t)))) fun r k => a.vln (row (tl t) r) k := norm_rd T.ld2 T.ld6 T.ld7

/-! ### The three results of a grid point -/

omit T in
/-- The body at a grid point. -/
abbrev runAt (m : (ℓ : Loc nD τ sig) → Buf (Elt Ideal) ℓ) (c : Dev nD) (t : Fin cfg0.N) :=
  kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- Every store into the first result holds the joined halves. -/
theorem pieces : ∀ q ∈ (runAt m c t).1, ∀ x : q.1.shape.Idx, q.2 x = spot a t (q.1.emb x) := by
  unfold runAt kernelRun0_A; dsimp only; sl_unfold_words
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ hn => absurd hn List.not_mem_nil⟩⟩⟩⟩⟩⟩⟩⟩⟩⟩⟩⟩⟩⟩⟩⟩⟩⟩⟩⟩
  · exact chunk_ok (inb := by decide) 3 3 (gate_rd 3 3 T.half T.normal (T.weight 3 rfl) (T.bias 3 rfl) rfl rfl) rfl rfl
  · exact chunk_ok (inb := by decide) 2 3 (gate_rd 2 3 T.half T.normal (T.weight 3 rfl) (T.bias 3 rfl) rfl rfl) rfl rfl
  · exact chunk_ok (inb := by decide) 1 3 (gate_rd 1 3 T.half T.normal (T.weight 3 rfl) (T.bias 3 rfl) rfl rfl) rfl rfl
  · exact chunk_ok (inb := by decide) 0 3 (gate_rd (h2 := by decide) 0 3 T.half T.normal (T.weight 3 rfl) (T.bias 3 rfl) rfl rfl) rfl rfl
  · exact chunk_ok (inb := by decide) 3 2 (gate_rd 3 2 T.half T.normal (T.weight 2 rfl) (T.bias 2 rfl) rfl rfl) rfl rfl
  · exact chunk_ok (inb := by decide) 2 2 (gate_rd 2 2 T.half T.normal (T.weight 2 rfl) (T.bias 2 rfl) rfl rfl) rfl rfl
  · exact chunk_ok (inb := by decide) 1 2 (gate_rd 1 2 T.half T.normal (T.weight 2 rfl) (T.bias 2 rfl) rfl rfl) rfl rfl
  · exact chunk_ok (inb := by decide) 0 2 (gate_rd 0 2 T.half T.normal (T.weight 2 rfl) (T.bias 2 rfl) rfl rfl) rfl rfl
  · exact chunk_ok (inb := by decide) 3 1 (gate_rd 3 1 T.half T.normal (T.weight 1 rfl) (T.bias 1 rfl) rfl rfl) rfl rfl
  · exact chunk_ok (inb := by decide) 2 1 (gate_rd 2 1 T.half T.normal (T.weight 1 rfl) (T.bias 1 rfl) rfl rfl) rfl rfl
  · exact chunk_ok (inb := by decide) 1 1 (gate_rd 1 1 T.half T.normal (T.weight 1 rfl) (T.bias 1 rfl) rfl rfl) rfl rfl
  · exact chunk_ok (inb := by decide) 0 1 (gate_rd 0 1 T.half T.normal (T.weight 1 rfl) (T.bias 1 rfl) rfl rfl) rfl rfl
  · exact chunk_ok (inb := by decide) 3 0 (gate_rd 3 0 T.half T.normal (T.weight 0 rfl) (T.bias 0 rfl) rfl rfl) rfl rfl
  · exact chunk_ok (inb := by decide) 2 0 (gate_rd 2 0 T.half T.normal (T.weight 0 rfl) (T.bias 0 rfl) rfl rfl) rfl rfl
  · exact chunk_ok (inb := by decide) 1 0 (gate_rd 1 0 T.half T.normal (T.weight 0 rfl) (T.bias 0 rfl) rfl rfl) rfl rfl
  · exact chunk_ok (inb := by decide) 0 0 (gate_rd 0 0 T.half T.normal (T.weight 0 rfl) (T.bias 0 rfl) rfl rfl) rfl rfl
  · exact group_ok (inb := by decide) 3 (group3 T.ld0 T.ld1 (T.ld4 3 rfl) (T.ld5 3 rfl)) rfl
  · exact group_ok (inb := by decide) 2 (group2 T.ld0 T.ld1 (T.ld4 2 rfl) (T.ld5 2 rfl)) rfl
  · exact group_ok (inb := by decide) 1 (group1 T.ld0 T.ld1 (T.ld4 1 rfl) (T.ld5 1 rfl)) rfl
  · exact group_ok (inb := by decide) 0 (group0 T.ld0 T.ld1 (T.ld4 0 rfl) (T.ld5 0 rfl)) rfl

theorem out13 (r : Fin 512) (k : Fin 1024) : (outsAt0 m c t).1 (ix2 r k) = (joined a (row (tl t) r) k : EReal) :=
  View.read_writes_apply_of_pieces (Val := Elt Ideal) (e := .bf16) VO0_13 _ (spot a t) (runAt m c t).1 (pieces T) (ix2 r k) (cover0_A_13 _ _ _ _ _ _ _ _ _ _ _ _ _ _ _ _ _ _ _ _ _ _ _ _ _ _ _ _ _ _ _ _ _ _ _ _ _ _ _ _ _ _ _ _ _ _ _ (ix2 r k))

/-- The first result, read back whole. -/
theorem reload {sg : RefSig} {κ : Kind} {sp : Space} {v : View sg κ sp S512x1024 .bf16} {i} : Rd (v.readCov (Val := Elt Ideal) (runAt m c t).1 (Rect.unit (s := S512x1024) ![0, 0] ![512, 1024] i).toLoadRect)
    fun r k => joined a (row (tl t) r) k := fun r k =>
  (cov_box _ _ _ (s := r) (k := k) (Nat.zero_add _).symm (Nat.zero_add _).symm).trans
    (View.read_writes_apply_of_pieces (Val := Elt Ideal) (e := .bf16) v _ (spot a t) (runAt m c t).1 (pieces T) (ix2 r k) (cover0_A_13 _ _ _ _ _ _ _ _ _ _ _ _ _ _ _ _ _ _ _ _ _ _ _ _ _ _ _ _ _ _ _ _ _ _ _ _ _ _ _ _ _ _ _ _ _ _ _ (ix2 r k)))

theorem out14 (r : Fin 512) (k : Fin 1024) : (outsAt0 m c t).2.1 (ix2 r k) = (res a Y (row (tl t) r) k : EReal) := by
  unfold outsAt0; dsimp only; unfold out0_A_14 kernelRun0_A; dsimp only; sl_unfold_words
  exact (read_full _ _ _ _ _ r k).trans (res_rd T.ld3 (reload T) T.ld10 r k)

theorem out15 (r : Fin 512) (k : Fin 1024) : (outsAt0 m c t).2.2 (ix2 r k) = (normed a Y A C (row (tl t) r) k : EReal) := by
  unfold outsAt0; dsimp only; unfold out0_A_15 kernelRun0_A; dsimp only; sl_unfold_words
  exact (read_full _ _ _ _ _ r k).trans (normed_rd (res_rd T.ld3 (reload T) T.ld10) T.ld11 T.ld12 r k)

end Run

/-! ### The blocks of a tile -/

theorem idx0 : ∀ t : Fin cfg0.N, win0_0.index t = ![t.val, 0] := (by decide +kernel : ∀ t : Fin grid0.N, _)
theorem idx1 : ∀ t : Fin cfg0.N, win0_1.index t = ![32 * t.val - 1, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)

variable (m c t)

theorem blk0 (r k : Fin 512) : iblk m c 0 t (ix2 r k) = m ((c : Thread nD τ).loc main_arg0) (ix2 (row (tl t) r) k) := by
  blk_ext! [iblk, V, idx0 t]

theorem blk1 (r : Fin 16) (k : Fin 512) : iblk m c 1 t (ix2 r k) = m ((c : Thread nD τ).loc main_arg0) (ix2 (ahead t r) k) := by
  blk_ext! [iblk, V, idx1 t]

theorem blk2 (r : Fin 512) (k : Fin 1024) : iblk m c 2 t (ix2 r k) = m ((c : Thread nD τ).loc main_arg1) (ix2 (row (tl t) r) k) := by
  blk_ext! [iblk, V, idx2 t]

theorem blk3 (r : Fin 512) (k : Fin 1024) : iblk m c 3 t (ix2 r k) = m ((c : Thread nD τ).loc main_arg2) (ix2 (row (tl t) r) k) := by
  blk_ext! [iblk, V, idx3 t]

theorem blk4 (g : Fin 4) (i k : Fin 128) : iblk m c 4 t (ix3 g i k) = m ((c : Thread nD τ).loc main_arg4) (ix4 0 g i k) := by
  blk_ext! [iblk, V, idx4 t]

theorem blk5 (k : Fin 512) : iblk m c 5 t (ix2 (0 : Fin 1) k) = m ((c : Thread nD τ).loc main_arg5) (ix2 0 k) := by
  blk_ext! [iblk, V, idx5 t]

theorem blk6 (k : Fin 512) : iblk m c 6 t (ix2 (0 : Fin 1) k) = m ((c : Thread nD τ).loc main_arg6) (ix2 0 k) := by
  blk_ext! [iblk, V, idx6 t]

theorem blk7 (k : Fin 512) : iblk m c 7 t (ix2 (0 : Fin 1) k) = m ((c : Thread nD τ).loc main_arg7) (ix2 0 k) := by
  blk_ext! [iblk, V, idx7 t]

theorem blk8 (g : Fin 4) (i k : Fin 128) : iblk m c 8 t (ix3 g i k) = m ((c : Thread nD τ).loc main_arg8) (ix4 0 g i k) := by
  blk_ext! [iblk, V, idx8 t]

theorem blk9 (g : Fin 4) (i k : Fin 128) : iblk m c 9 t (ix3 g i k) = m ((c : Thread nD τ).loc main_arg9) (ix3 0 g i) := by
  blk_ext! [iblk, V, idx9 t]

theorem blk10 (i k : Fin 1024) : iblk m c 10 t (ix2 i k) = m ((c : Thread nD τ).loc main_arg3) (ix3 0 i k) := by
  blk_ext! [iblk, V, idx10 t]

theorem blk11 (k : Fin 1024) : iblk m c 11 t (ix2 (0 : Fin 1) k) = m ((c : Thread nD τ).loc main_arg10) (ix2 0 k) := by
  blk_ext! [iblk, V, idx11 t]

theorem blk12 (k : Fin 1024) : iblk m c 12 t (ix2 (0 : Fin 1) k) = m ((c : Thread nD τ).loc main_arg11) (ix2 0 k) := by
  blk_ext! [iblk, V, idx12 t]

variable {d : (⟨Cert.MixRefIdeal.S8192x1024, .bf16⟩ : BufTy).Contents (Elt Ideal)}
  (H : Cert.MixRefIdeal.Read.Holds a d (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
  (h2 : ∀ (r : Fin 8192) (k : Fin 1024), m ((c : Thread nD τ).loc main_arg2) (ix2 r k) = (Y r k : EReal)) (h10 : ∀ k : Fin 1024, m ((c : Thread nD τ).loc main_arg10) (ix2 (0 : Fin 1) k) = (A k : EReal))
  (h11 : ∀ k : Fin 1024, m ((c : Thread nD τ).loc main_arg11) (ix2 (0 : Fin 1) k) = (C k : EReal))
include H h2 h10 h11

/-- Arguments holding real numbers give every grid point real blocks. -/
theorem tile_of : Tile a Y A C m c t where
  x r k := (blk0 m c t r k).trans (H.x _ _)
  halo h r k := by
    rw [blk1 m c t r k, H.x]
    rw [place_eq] at h ⊢
    replace h : ¬t.val % 4 = 0 := h
    have hp : 16 ≤ t.val % 4 * 512 + r.val := by omega
    have hn : t.val % 4 * 512 + r.val - 16 < 2048 := by omega
    have e : ahead t r = tok (batch (tl t)) ⟨t.val % 4 * 512 + r.val - 16, hn⟩ := Fin.ext (by
      show 16 * (32 * t.val - 1) + r.val = t.val / 4 * 2048 + (t.val % 4 * 512 + r.val - 16)
      omega)
    unfold late
    rw [if_pos hp, e]
    exact congrArg _ (ext_of_lt (along a (tl t) k) ⟨t.val % 4 * 512 + r.val - 16, hn⟩).symm
  z r k := (blk2 m c t r k).trans (H.z _ _)
  y r k := (blk3 m c t r k).trans (h2 _ _)
  p g i k := (blk4 m c t g i k).trans (H.p _ _ _)
  s k := (blk5 m c t k).trans (H.s _)
  g k := (blk6 m c t k).trans (H.g _)
  b k := (blk7 m c t k).trans (H.b _)
  w g i k := (blk8 m c t g i k).trans (H.w _ _ _)
  u g i k := (blk9 m c t g i k).trans (H.u _ _)
  o r k := (blk10 m c t r k).trans (H.o _ _)
  ga k := (blk11 m c t k).trans (h10 _)
  be k := (blk12 m c t k).trans (h11 _)

/-! ### The result arrays -/

theorem final13 : (dats m 0 c).arrAt 13 cfg0.N = Cert.FwdMixRefIdeal.Read.val_main_v164 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 13 _ (by decide +kernel) fun t hf y => ?_
  blk_simp
  rw [after0_13]
  obtain ⟨r, k, rfl⟩ : ∃ r k, y = ix2 r k := ⟨y 0, y 1, by funext a; fin_cases a <;> rfl⟩
  have e : (win0_13.blk t).view.emb (ix2 r k) = (ix2 (row (tl t) r) k : S8192x1024.Idx) := by
    blk_ext [idx13 t]
  rw [e]
  refine (out13 (tile_of m c t H h2 h10 h11) r k).trans ?_
  rw [row_tok]
  exact (Cert.FwdMixRefIdeal.Read.joined_out H (batch (tl t)) (at_ (tl t) r) k).symm

theorem final14 : (dats m 0 c).arrAt 14 cfg0.N = Cert.FwdMixRefIdeal.Read.val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 14 _ (by decide +kernel) fun t hf y => ?_
  blk_simp
  rw [after0_14]
  obtain ⟨r, k, rfl⟩ : ∃ r k, y = ix2 r k := ⟨y 0, y 1, by funext a; fin_cases a <;> rfl⟩
  have e : (win0_14.blk t).view.emb (ix2 r k) = (ix2 (row (tl t) r) k : S8192x1024.Idx) := by
    blk_ext [idx14 t]
  rw [e]
  refine (out14 (tile_of m c t H h2 h10 h11) r k).trans ?_
  rw [row_tok]
  exact (Cert.FwdMixRefIdeal.Read.res_out H h2 (batch (tl t)) (at_ (tl t) r) k).symm

theorem final15 : (dats m 0 c).arrAt 15 cfg0.N = Cert.FwdMixRefIdeal.Read.val_main_v167 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 15 _ (by decide +kernel) fun t hf y => ?_
  blk_simp
  rw [after0_15]
  obtain ⟨r, k, rfl⟩ : ∃ r k, y = ix2 r k := ⟨y 0, y 1, by funext a; fin_cases a <;> rfl⟩
  have e : (win0_15.blk t).view.emb (ix2 r k) = (ix2 (row (tl t) r) k : S8192x1024.Idx) := by
    blk_ext [idx15 t]
  rw [e]
  refine (out15 (tile_of m c t H h2 h10 h11) r k).trans ?_
  rw [row_tok]
  exact (Cert.FwdMixRefIdeal.Read.norm_out H h2 h10 h11 (batch (tl t)) (at_ (tl t) r) k).symm

end Cert.FwdMixIdeal.Point
end
-- ==== Proof.FwdMixClaim.lean ====
/-
  The claims about the mixers' forward.
-/
module

public import proofs.«01_k».proof.Defs
public import proofs.«01_k».proof.Proof.FwdMix
public import proofs.«01_k».proof.Proof.Finite
public import Idealize.ShloMosaic.Lib.Claim
public import Idealize.ShloMosaic.Adequacy
public import Idealize.ShloMosaic.Init

@[expose] public section

set_option maxRecDepth 16384

noncomputable section

namespace Cert.FwdMixClaim

open Idealize.ShloMosaic Idealize.ShloMosaic.TcCoe Idealize.SL.Sem Cert.Fin

/-- The side conditions of the printed precondition. -/
theorem preFacts : Cert.Pre_mix_forward_finite.Facts := by
  constructor <;> decide

/-- The kernel at machine formats runs, leaves its arguments and returns its counters. -/
theorem frame_p : Cert.quiescent_FwdMix (hFwdMix := Cert.FwdMix.Gen.facts) := fun m ρ _ => Cert.FwdMix.Gen.frame m ρ

/-- So does the kernel over the extended reals. -/
theorem frame_i : Cert.quiescent_FwdMixIdeal (hFwdMixIdeal := Cert.FwdMixIdeal.Gen.facts) := fun m ρ _ => Cert.FwdMixIdeal.Gen.frame m ρ

/-- So does the reference. -/
theorem frame_r : Cert.quiescent_FwdMixRefIdeal (hFwdMixRefIdeal := Cert.FwdMixRefIdeal.Gen.facts) := fun m ρ _ =>
  (θ_run Cert.FwdMixRefIdeal.defs _ _).mono (fun r h => ⟨fun c => (h c).2.2.2, sem_eq_zero_of_no_sems (by decide) r.2⟩)
    (Cert.FwdMixRefIdeal.Value.run m ρ)

/-- The named constant stands for the number the word approximates. -/
theorem kept : Cert.preserves_FwdMix_FwdMixIdeal :=
  IdealRules.named_const.statement Cert.FwdMixIdeal.κ "inv_sqrt_two" .f32 0x3F3504F3#32 (((Real.sqrt 2)⁻¹ : ℝ) : EReal) rfl

/-- The precondition says that the arguments hold real numbers. -/
theorem pre_real [Cert.Pre_mix_forward_finite.Facts] {x0 : FVec Ideal Cert.Pre_mix_forward_finite.S8192x512 .f32} {x1 : FVec Ideal Cert.Pre_mix_forward_finite.S8192x1024 .bf16} {x2 : FVec Ideal Cert.Pre_mix_forward_finite.S8192x1024 .f32} {x3 : FVec Ideal Cert.Pre_mix_forward_finite.S1x1024x1024 .f32} {x4 x8 : FVec Ideal Cert.Pre_mix_forward_finite.S1x4x128x128 .f32} {x5 x6 x7 : FVec Ideal Cert.Pre_mix_forward_finite.S1x512 .f32} {x9 : FVec Ideal Cert.Pre_mix_forward_finite.S1x4x128 .f32} {x10 x11 : FVec Ideal Cert.Pre_mix_forward_finite.S1x1024 .f32}
    (h : Cert.Pre_mix_forward_finite.fn (F := Ideal) x0 x1 x2 x3 x4 x5 x6 x7 x8 x9 x10 x11 = fun _ => 1#1) :
    IsReal x0 ∧ IsReal x1 ∧ IsReal x2 ∧ IsReal x3 ∧ IsReal x4 ∧ IsReal x5 ∧ IsReal x6 ∧ IsReal x7 ∧ IsReal x8 ∧ IsReal x9 ∧ IsReal x10 ∧ IsReal x11 := by
  have e := congrFun h fun a => a.elim0
  simp only [Cert.Pre_mix_forward_finite.fn, Cert.Pre_mix_forward_finite.fn_part1, Cert.Pre_mix_forward_finite.fn_part2, Cert.Pre_mix_forward_finite.fn_part3, andi, IntOp.andi_eq_one] at e
  obtain ⟨⟨⟨⟨⟨⟨⟨⟨⟨⟨⟨⟨_, e0⟩, e1⟩, e2⟩, e3⟩, e4⟩, e5⟩, e6⟩, e7⟩, e8⟩, e9⟩, e10⟩, e11⟩ := e
  exact ⟨real_of_test _ e0, real_of_test _ e1, real_of_test _ e2, real_of_test _ e3, real_of_test _ e4, real_of_test _ e5, real_of_test _ e6, real_of_test _ e7, real_of_test _ e8, real_of_test _ e9, real_of_test _ e10, real_of_test _ e11⟩

/-- The kernel computes the reference's three results. -/
theorem value : Cert.algebraic_FwdMixIdeal_FwdMixRefIdeal_pre_mix_forward_finite (hFwdMixIdeal := Cert.FwdMixIdeal.Gen.facts)
    (hFwdMixRefIdeal := Cert.FwdMixRefIdeal.Gen.facts) (hPre_mix_forward_finite := preFacts) := by
  intro m ρ m' ρ' hpre hag
  refine ⟨fun c => (Cert.FwdMixIdeal.Gen.dats m 0 c).arrAt 13 Cert.FwdMixIdeal.cfg0.N, fun c => (Cert.FwdMixIdeal.Gen.dats m 0 c).arrAt 14 Cert.FwdMixIdeal.cfg0.N, fun c => (Cert.FwdMixIdeal.Gen.dats m 0 c).arrAt 15 Cert.FwdMixIdeal.cfg0.N,
    Cert.FwdMixIdeal.Value.run_blocks m ρ,
    (θ_run Cert.FwdMixRefIdeal.defs _ _).mono (fun r h c => ?_) (Cert.FwdMixRefIdeal.Value.run m' ρ')⟩
  haveI := preFacts
  obtain ⟨⟨X, hX⟩, ⟨Z, hZ⟩, ⟨Y, hY⟩, ⟨O, hO⟩, ⟨P, hP⟩, ⟨S, hS⟩, ⟨G, hG⟩, ⟨B, hB⟩, ⟨W, hW⟩, ⟨U, hU⟩, ⟨A, hA⟩, ⟨C, hC⟩⟩ := pre_real (hpre c)
  obtain ⟨a0, a1, a2, a3, a4, a5, a6, a7, a8, a9, a10, a11⟩ := hag c
  have b0 : StableHlo.launchContents m' c (Proc.devRef .tc Cert.FwdMixRefIdeal.main_arg0) = _ := a0
  have b1 : StableHlo.launchContents m' c (Proc.devRef .tc Cert.FwdMixRefIdeal.main_arg1) = _ := a1
  have b2 : StableHlo.launchContents m' c (Proc.devRef .tc Cert.FwdMixRefIdeal.main_arg2) = _ := a2
  have b3 : StableHlo.launchContents m' c (Proc.devRef .tc Cert.FwdMixRefIdeal.main_arg3) = _ := a3
  have b4 : StableHlo.launchContents m' c (Proc.devRef .tc Cert.FwdMixRefIdeal.main_arg4) = _ := a4
  have b5 : StableHlo.launchContents m' c (Proc.devRef .tc Cert.FwdMixRefIdeal.main_arg5) = _ := a5
  have b6 : StableHlo.launchContents m' c (Proc.devRef .tc Cert.FwdMixRefIdeal.main_arg6) = _ := a6
  have b7 : StableHlo.launchContents m' c (Proc.devRef .tc Cert.FwdMixRefIdeal.main_arg7) = _ := a7
  have b8 : StableHlo.launchContents m' c (Proc.devRef .tc Cert.FwdMixRefIdeal.main_arg8) = _ := a8
  have b9 : StableHlo.launchContents m' c (Proc.devRef .tc Cert.FwdMixRefIdeal.main_arg9) = _ := a9
  have b10 : StableHlo.launchContents m' c (Proc.devRef .tc Cert.FwdMixRefIdeal.main_arg10) = _ := a10
  have b11 : StableHlo.launchContents m' c (Proc.devRef .tc Cert.FwdMixRefIdeal.main_arg11) = _ := a11
  let a : Cert.Mixer.In :=
    { D := fun _ _ => 0, X := fun r k => X (ix2 r k), Z := fun r k => Z (ix2 r k), O := fun k n => O (ix3 0 k n), P := fun g k d => P (ix4 0 g k d)
      S := fun k => S (ix2 0 k), G := fun k => G (ix2 0 k), B := fun k => B (ix2 0 k), W := fun h t s => W (ix4 0 h t s), U := fun h t => U (ix3 0 h t) }
  have H : Cert.MixRefIdeal.Read.Holds a (fun _ => ((0 : ℝ) : EReal)) (m (c.tc.loc Cert.FwdMixIdeal.main_arg0)) (m (c.tc.loc Cert.FwdMixIdeal.main_arg1)) (m (c.tc.loc Cert.FwdMixIdeal.main_arg3)) (m (c.tc.loc Cert.FwdMixIdeal.main_arg4)) (m (c.tc.loc Cert.FwdMixIdeal.main_arg5)) (m (c.tc.loc Cert.FwdMixIdeal.main_arg6)) (m (c.tc.loc Cert.FwdMixIdeal.main_arg7)) (m (c.tc.loc Cert.FwdMixIdeal.main_arg8)) (m (c.tc.loc Cert.FwdMixIdeal.main_arg9)) :=
    ⟨fun _ _ => rfl, fun _ _ => hX _, fun _ _ => hZ _, fun _ _ => hO _, fun _ _ _ => hP _, fun _ => hS _, fun _ => hG _, fun _ => hB _, fun _ _ _ => hW _, fun _ _ => hU _⟩
  have h2 (r : Fin 8192) (k : Fin 1024) : m (c.tc.loc Cert.FwdMixIdeal.main_arg2) (ix2 r k) = (Y (ix2 r k) : EReal) := hY _
  have h10 (k : Fin 1024) : m (c.tc.loc Cert.FwdMixIdeal.main_arg10) (ix2 (0 : Fin 1) k) = (A (ix2 (0 : Fin 1) k) : EReal) := hA _
  have h11 (k : Fin 1024) : m (c.tc.loc Cert.FwdMixIdeal.main_arg11) (ix2 (0 : Fin 1) k) = (C (ix2 (0 : Fin 1) k) : EReal) := hC _
  obtain ⟨r0, r1, r2, rest⟩ := h c
  refine ⟨r0.trans ?_, r1.trans ?_, r2.trans ?_, rest⟩
  · rw [Cert.FwdMixRefIdeal.Read.val_main_v164_eq, b0, b1, b4, b5, b6, b7, b8, b9]
    exact (Cert.FwdMixIdeal.Point.final13 m c (Y := fun r k => Y (ix2 r k)) (A := fun k => A (ix2 0 k)) (C := fun k => C (ix2 0 k)) H h2 h10 h11).symm
  · rw [Cert.FwdMixRefIdeal.Read.val_main_v165_eq, b0, b1, b2, b3, b4, b5, b6, b7, b8, b9]
    exact (Cert.FwdMixIdeal.Point.final14 m c (Y := fun r k => Y (ix2 r k)) (A := fun k => A (ix2 0 k)) (C := fun k => C (ix2 0 k)) H h2 h10 h11).symm
  · rw [Cert.FwdMixRefIdeal.Read.val_main_v167_eq, b0, b1, b2, b3, b4, b5, b6, b7, b8, b9, b10, b11]
    exact (Cert.FwdMixIdeal.Point.final15 m c (Y := fun r k => Y (ix2 r k)) (A := fun k => A (ix2 0 k)) (C := fun k => C (ix2 0 k)) H h2 h10 h11).symm

end Cert.FwdMixClaim
end
-- ==== Proof.Proj.lean ====
/-
  The layer's first product: the kernel's two result arrays are the reference's, whatever the arguments hold.
-/
module

public import proofs.«01_k».proof.Proof.Rows
public import proofs.«01_k».proof.Proof.Gen.ProjIdeal.Value
public import proofs.«01_k».proof.Proof.Gen.ProjRefIdeal.Read
public import Idealize.ShloMosaic.Lib.Pipeline.ValueKit.Point

@[expose] public section

set_option maxRecDepth 16384

noncomputable section

namespace Cert.ProjRefIdeal.Read

open Cert.ProjRefIdeal Cert.ProjRefIdeal.Gen Idealize.ShloMosaic Idealize.ShloMosaic.TcCoe Idealize.SL.Sem

/-- Column `k` of the first result among the product's 1536. -/
abbrev lo (k : Fin 512) : Fin 1536 := ⟨k.val, Nat.lt_trans k.isLt (by decide)⟩
/-- Column `k` of the second result among them. -/
abbrev hi (k : Fin 1024) : Fin 1536 := ⟨512 + k.val, Nat.add_lt_add_left k.isLt 512⟩

/-! ### The reference, read at an index -/

variable (x0 : FVec Ideal S8192x1024 .bf16) (x1 : FVec Ideal S1x1024x1536 .f32)

/-- One entry of the product. -/
def entry (r : Fin 8192) (n : Fin 1536) : EReal := ∑ k : Fin 1024, x0 (ix2 r k) * x1 (ix3 0 k n)

/-- The reference's product at row `r`, the rows taken in 4 sequences of 2048. -/
theorem prod_entry (i : S4x2048x1536.Idx) (r : Fin 8192) (n : Fin 1536) (h : (i 0).val * 2048 + (i 1).val = r.val) (h' : (i 2).val = n.val) :
    val_main_v3 (F := Ideal) x0 x1 i = entry x0 x1 r n := by
  rw [val_main_v3_apply]
  refine Finset.sum_congr rfl fun k _ => ?_
  rw [val_main_v1_apply, val_main_v0_apply, val_main_v2_apply]
  have hk : k.val < 1024 := k.isLt
  have hn : n.val < 1536 := n.isLt
  refine congrArg₂ (· * ·) (congrArg x0 (funext fun a => Fin.ext ?_)) (congrArg x1 (funext fun a => Fin.ext ?_))
  · fin_cases a
    · show (((i 0).val * 2048 + (i 1).val) * 1024 + k.val) / 1024 = r.val
      omega
    · show (((i 0).val * 2048 + (i 1).val) * 1024 + k.val) % 1024 = k.val
      omega
  · fin_cases a
    · rfl
    · show (k.val * 1536 + (i 2).val) / 1536 % 1024 = k.val
      omega
    · show (k.val * 1536 + (i 2).val) % 1536 = n.val
      omega

theorem ref6 (r : Fin 8192) (k : Fin 512) : val_main_v6 (F := Ideal) x0 x1 (ix2 r k) = entry x0 x1 r (lo k) := by
  have hr : r.val < 8192 := r.isLt
  have hk : k.val < 512 := k.isLt
  rw [val_main_v6_apply, val_main_v4_apply]
  refine prod_entry x0 x1 _ r (lo k) ?_ ?_
  · show (r.val * 512 + k.val) / 1048576 * 2048 + (r.val * 512 + k.val) / 512 % 2048 = r.val
    omega
  · show (r.val * 512 + k.val) % 512 = k.val
    omega

theorem ref8 (r : Fin 8192) (k : Fin 1024) : val_main_v8 (F := Ideal) x0 x1 (ix2 r k) = entry x0 x1 r (hi k) := by
  have hr : r.val < 8192 := r.isLt
  have hk : k.val < 1024 := k.isLt
  rw [val_main_v8_apply, val_main_v7_apply, val_main_v5_apply]
  refine prod_entry x0 x1 _ r (hi k) ?_ ?_
  · show (r.val * 1024 + k.val) / 2097152 * 2048 + (r.val * 1024 + k.val) / 1024 % 2048 = r.val
    omega
  · show 512 + (r.val * 1024 + k.val) % 1024 = 512 + k.val
    omega

end Cert.ProjRefIdeal.Read

namespace Cert.ProjIdeal.Point

open Cert.ProjIdeal Cert.ProjIdeal.Gen Cert.Rows Idealize.ShloMosaic Idealize.ShloMosaic.TcCoe Idealize.SL.Sem
open Cert.ProjRefIdeal.Read (entry lo hi ref6 ref8)

/-! ### The kernel, one grid point -/

variable (m : (ℓ : Loc nD τ sig) → Buf (Elt Ideal) ℓ) (c : Dev nD) (t : Fin cfg0.N)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

/-- Row `r` of tile `t` among the 8192 rows. -/
abbrev row (t : Fin cfg0.N) (r : Fin 512) : Fin 8192 := ⟨512 * t.val + r.val, by have : t.val < 16 := t.isLt; omega⟩

theorem blk0 (r : Fin 512) (k : Fin 1024) : iblk m c 0 t (ix2 r k) = m ((c : Thread nD τ).loc main_arg0) (ix2 (row t r) k) := by
  blk_ext! [iblk, V, idx0 t]

theorem blk1 (k : Fin 1024) (n : Fin 1536) : iblk m c 1 t (ix2 k n) = m ((c : Thread nD τ).loc main_arg1) (ix3 0 k n) := by
  blk_ext! [iblk, V, idx1 t]

/-- A grid point's product is the reference's on its rows. -/
theorem point_entry (r : Fin 512) (n : Fin 1536) : k0_pay1 (iblk m c 0 t) (iblk m c 1 t) (ix2 r n)
    = entry (m ((c : Thread nD τ).loc main_arg0)) (m ((c : Thread nD τ).loc main_arg1)) (row t r) n := by
  pointwise [k0_pay1, dot_S512x1024_S1024x1536_S512x1536_1_0_0_1_n_n]
  exact Finset.sum_congr rfl fun k _ => congrArg₂ (· * ·) (blk0 m c t r k) (blk1 m c t k n)

/-- The first block as stored. -/
theorem stored2 (x : Vec Ideal S512x1024 .bf16) (w : Vec Ideal S1024x1536 .bf16) : out0_2 (F := Ideal) x w = k0_pay2 x w := by
  unfold out0_2
  rw [View.canon_unit_zero (S := S512x512) off_zero, View.ld_unit_zero (S := S512x1024) off_zero, View.ld_unit_zero (S := S1024x1536) off_zero]

/-- The second block as stored. -/
theorem stored3 (x : Vec Ideal S512x1024 .bf16) (w : Vec Ideal S1024x1536 .bf16) : out0_3 (F := Ideal) x w = k0_pay3 x w := by
  unfold out0_3
  rw [View.canon_unit_zero (S := S512x1024) off_zero, View.ld_unit_zero (S := S512x1024) off_zero, View.ld_unit_zero (S := S1024x1536) off_zero]

theorem out2 (r k : Fin 512) : out0_2 (F := Ideal) (iblk m c 0 t) (iblk m c 1 t) (ix2 r k)
    = entry (m ((c : Thread nD τ).loc main_arg0)) (m ((c : Thread nD τ).loc main_arg1)) (row t r) (lo k) := by
  rw [stored2]
  pointwise [k0_pay2]
  exact point_entry m c t r (lo k)

theorem out3 (r : Fin 512) (k : Fin 1024) : out0_3 (F := Ideal) (iblk m c 0 t) (iblk m c 1 t) (ix2 r k)
    = entry (m ((c : Thread nD τ).loc main_arg0)) (m ((c : Thread nD τ).loc main_arg1)) (row t r) (hi k) := by
  rw [stored3]
  pointwise [k0_pay3]
  exact point_entry m c t r (hi k)

/-! ### The result arrays -/

/-- The first result: the columns that are pooled. -/
theorem final2 : (dats m 0 c).arrAt 2 cfg0.N = Cert.ProjRefIdeal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, k, rfl⟩ : ∃ r k, y = ix2 r k := ⟨y 0, y 1, by funext a; fin_cases a <;> rfl⟩
  have e : (win0_2.blk t).view.emb (ix2 r k) = (ix2 (row t r) k : S8192x512.Idx) := by
    blk_ext [idx2 t]
  rw [e, ref6]
  exact out2 m c t r k

/-- The second result: the gelu's input. -/
theorem final3 : (dats m 0 c).arrAt 3 cfg0.N = Cert.ProjRefIdeal.Read.val_main_v8 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  obtain ⟨r, k, rfl⟩ : ∃ r k, y = ix2 r k := ⟨y 0, y 1, by funext a; fin_cases a <;> rfl⟩
  have e : (win0_3.blk t).view.emb (ix2 r k) = (ix2 (row t r) k : S8192x1024.Idx) := by
    blk_ext [idx3 t]
  rw [e, ref8]
  exact out3 m c t r k

end Cert.ProjIdeal.Point
end
-- ==== Proof.ProjClaim.lean ====
/-
  The claims about the layer's first product.
-/
module

public import proofs.«01_k».proof.Defs
public import proofs.«01_k».proof.Proof.Proj
public import proofs.«01_k».proof.Proof.Gen.Proj.Frame
public import Idealize.ShloMosaic.Lib.Claim
public import Idealize.ShloMosaic.Adequacy
public import Idealize.ShloMosaic.Init

@[expose] public section

set_option maxRecDepth 16384

noncomputable section

namespace Cert.ProjClaim

open Idealize.ShloMosaic Idealize.ShloMosaic.TcCoe Idealize.SL.Sem

/-- The kernel at machine formats runs, leaves its arguments and returns its counters. -/
theorem frame_p : Cert.quiescent_Proj (hProj := Cert.Proj.Gen.facts) := fun m ρ _ => Cert.Proj.Gen.frame m ρ

/-- So does the kernel over the extended reals. -/
theorem frame_i : Cert.quiescent_ProjIdeal (hProjIdeal := Cert.ProjIdeal.Gen.facts) := fun m ρ _ => Cert.ProjIdeal.Gen.frame m ρ

/-- So does the reference. -/
theorem frame_r : Cert.quiescent_ProjRefIdeal (hProjRefIdeal := Cert.ProjRefIdeal.Gen.facts) := fun m ρ _ =>
  (θ_run Cert.ProjRefIdeal.defs _ _).mono (fun r h => ⟨fun c => (h c).2.2, sem_eq_zero_of_no_sems (by decide) r.2⟩)
    (Cert.ProjRefIdeal.Value.run m ρ)

/-- The kernel computes the reference's two results. -/
theorem value : Cert.algebraic_ProjIdeal_ProjRefIdeal (hProjIdeal := Cert.ProjIdeal.Gen.facts)
    (hProjRefIdeal := Cert.ProjRefIdeal.Gen.facts) := by
  intro m ρ m' ρ' _ hag
  refine ⟨fun c => (Cert.ProjIdeal.Gen.dats m 0 c).arrAt 2 Cert.ProjIdeal.cfg0.N, fun c => (Cert.ProjIdeal.Gen.dats m 0 c).arrAt 3 Cert.ProjIdeal.cfg0.N,
    Cert.ProjIdeal.Value.run_blocks m ρ, (θ_run Cert.ProjRefIdeal.defs _ _).mono (fun r h c => ?_) (Cert.ProjRefIdeal.Value.run m' ρ')⟩
  obtain ⟨a0, a1⟩ := hag c
  obtain ⟨r0, r1, rest⟩ := h c
  refine ⟨r0.trans ?_, r1.trans ?_, rest⟩
  · rw [Cert.ProjRefIdeal.Read.val_main_v6_eq, a0, a1]
    exact (Cert.ProjIdeal.Point.final2 m c).symm
  · rw [Cert.ProjRefIdeal.Read.val_main_v8_eq, a0, a1]
    exact (Cert.ProjIdeal.Point.final3 m c).symm

end Cert.ProjClaim
end
-- ==== Proof.lean ====
/-
  The claims of this certificate, each proved in a module of its own.
-/
module

public import proofs.«01_k».proof.Defs
public import proofs.«01_k».proof.Proof.FfnInClaim
public import proofs.«01_k».proof.Proof.LossClaim
public import proofs.«01_k».proof.Proof.InGradClaim
public import proofs.«01_k».proof.Proof.GateClaim
public import proofs.«01_k».proof.Proof.MixClaim
public import proofs.«01_k».proof.Proof.FwdMixClaim
public import proofs.«01_k».proof.Proof.ProjClaim

@[expose] public section

noncomputable section

namespace Cert.Proof

/-- Every claim of the certificate. -/
theorem claim : Cert.Claim :=
  ⟨Cert.FfnIn.Gen.facts, Cert.FfnInIdeal.Gen.facts, Cert.FfnInRefIdeal.Gen.facts,
    Cert.Loss.Gen.facts, Cert.LossIdeal.Gen.facts, Cert.LossRefIdeal.Gen.facts,
    Cert.InGrad.Gen.facts, Cert.InGradIdeal.Gen.facts, Cert.InGradRefIdeal.Gen.facts,
    Cert.Gate.Gen.facts, Cert.GateIdeal.Gen.facts, Cert.GateRefIdeal.Gen.facts,
    Cert.Mix.Gen.facts, Cert.MixIdeal.Gen.facts, Cert.MixRefIdeal.Gen.facts,
    Cert.FwdMix.Gen.facts, Cert.FwdMixIdeal.Gen.facts, Cert.FwdMixRefIdeal.Gen.facts,
    Cert.Proj.Gen.facts, Cert.ProjIdeal.Gen.facts, Cert.ProjRefIdeal.Gen.facts,
    Cert.FfnInClaim.preFacts, Cert.LossClaim.preFacts, Cert.InGradClaim.preFacts, Cert.GateClaim.preFacts, Cert.MixClaim.preFacts, Cert.FwdMixClaim.preFacts,
    Cert.FfnInClaim.frame_p, Cert.FfnInClaim.frame_i, fun m ρ _ => Cert.FfnInClaim.frame_i m ρ trivial, Cert.FfnInClaim.frame_r, fun m ρ _ => Cert.FfnInClaim.frame_r m ρ trivial,
    Cert.LossClaim.frame_p, Cert.LossClaim.frame_i, fun m ρ _ => Cert.LossClaim.frame_i m ρ trivial, Cert.LossClaim.frame_r, fun m ρ _ => Cert.LossClaim.frame_r m ρ trivial,
    Cert.InGradClaim.frame_p, Cert.InGradClaim.frame_i, fun m ρ _ => Cert.InGradClaim.frame_i m ρ trivial, Cert.InGradClaim.frame_r, fun m ρ _ => Cert.InGradClaim.frame_r m ρ trivial,
    Cert.GateClaim.frame_p, Cert.GateClaim.frame_i, fun m ρ _ => Cert.GateClaim.frame_i m ρ trivial, Cert.GateClaim.frame_r, fun m ρ _ => Cert.GateClaim.frame_r m ρ trivial,
    Cert.MixClaim.frame_p, Cert.MixClaim.frame_i, fun m ρ _ => Cert.MixClaim.frame_i m ρ trivial, Cert.MixClaim.frame_r, fun m ρ _ => Cert.MixClaim.frame_r m ρ trivial,
    Cert.FwdMixClaim.frame_p, Cert.FwdMixClaim.frame_i, fun m ρ _ => Cert.FwdMixClaim.frame_i m ρ trivial, Cert.FwdMixClaim.frame_r, fun m ρ _ => Cert.FwdMixClaim.frame_r m ρ trivial,
    Cert.ProjClaim.frame_p, Cert.ProjClaim.frame_i, Cert.ProjClaim.frame_r,
    trivial, Cert.FfnInClaim.value,
    trivial, Cert.LossClaim.value,
    trivial, Cert.InGradClaim.value,
    trivial, Cert.GateClaim.value,
    Cert.MixClaim.kept, Cert.MixClaim.value,
    Cert.FwdMixClaim.kept, Cert.FwdMixClaim.value,
    trivial, Cert.ProjClaim.value⟩

end Cert.Proof

end
